-- ==== Defs.lean ====
def Pre_KernelMemNorm (m : (ℓ : Loc Cert.KernelMemNorm.nD Cert.KernelMemNorm.τ Cert.KernelMemNorm.sig) → Buf (Elt Bits) ℓ) : Prop :=
  True

def Pre_KernelMemNormIdeal (m : (ℓ : Loc Cert.KernelMemNormIdeal.nD Cert.KernelMemNormIdeal.τ Cert.KernelMemNormIdeal.sig) → Buf (Elt Ideal) ℓ) : Prop :=
  True

def Pre_ReferenceMemNormIdeal (m : (ℓ : Loc Cert.ReferenceMemNormIdeal.nD Cert.ReferenceMemNormIdeal.τ Cert.ReferenceMemNormIdeal.sig) → Buf (Elt Ideal) ℓ) : Prop :=
  True

def Pre_KernelMixNorm (m : (ℓ : Loc Cert.KernelMixNorm.nD Cert.KernelMixNorm.τ Cert.KernelMixNorm.sig) → Buf (Elt Bits) ℓ) : Prop :=
  True

def Pre_KernelMixNormIdeal (m : (ℓ : Loc Cert.KernelMixNormIdeal.nD Cert.KernelMixNormIdeal.τ Cert.KernelMixNormIdeal.sig) → Buf (Elt Ideal) ℓ) : Prop :=
  True

def Pre_KernelMixNormIdeal_finite_mixnorm [hPre_finite_mixnorm : Cert.Pre_finite_mixnorm.Facts] (m : (ℓ : Loc Cert.KernelMixNormIdeal.nD Cert.KernelMixNormIdeal.τ Cert.KernelMixNormIdeal.sig) → Buf (Elt Ideal) ℓ) : Prop :=
  ∀ c : Dev Cert.KernelMixNormIdeal.nD,
    (Cert.Pre_finite_mixnorm.fn (F := Ideal) (m ((c.tc : Thread Cert.KernelMixNormIdeal.nD Cert.KernelMixNormIdeal.τ).loc Cert.KernelMixNormIdeal.main_arg0)) (m ((c.tc : Thread Cert.KernelMixNormIdeal.nD Cert.KernelMixNormIdeal.τ).loc Cert.KernelMixNormIdeal.main_arg1)) (m ((c.tc : Thread Cert.KernelMixNormIdeal.nD Cert.KernelMixNormIdeal.τ).loc Cert.KernelMixNormIdeal.main_arg2)) (m ((c.tc : Thread Cert.KernelMixNormIdeal.nD Cert.KernelMixNormIdeal.τ).loc Cert.KernelMixNormIdeal.main_arg3)) (m ((c.tc : Thread Cert.KernelMixNormIdeal.nD Cert.KernelMixNormIdeal.τ).loc Cert.KernelMixNormIdeal.main_arg4))).1 = (fun _ => 1#1)
    ∧ (Cert.Pre_finite_mixnorm.fn (F := Ideal) (m ((c.tc : Thread Cert.KernelMixNormIdeal.nD Cert.KernelMixNormIdeal.τ).loc Cert.KernelMixNormIdeal.main_arg0)) (m ((c.tc : Thread Cert.KernelMixNormIdeal.nD Cert.KernelMixNormIdeal.τ).loc Cert.KernelMixNormIdeal.main_arg1)) (m ((c.tc : Thread Cert.KernelMixNormIdeal.nD Cert.KernelMixNormIdeal.τ).loc Cert.KernelMixNormIdeal.main_arg2)) (m ((c.tc : Thread Cert.KernelMixNormIdeal.nD Cert.KernelMixNormIdeal.τ).loc Cert.KernelMixNormIdeal.main_arg3)) (m ((c.tc : Thread Cert.KernelMixNormIdeal.nD Cert.KernelMixNormIdeal.τ).loc Cert.KernelMixNormIdeal.main_arg4))).2.1 = (fun _ => 1#1)
    ∧ (Cert.Pre_finite_mixnorm.fn (F := Ideal) (m ((c.tc : Thread Cert.KernelMixNormIdeal.nD Cert.KernelMixNormIdeal.τ).loc Cert.KernelMixNormIdeal.main_arg0)) (m ((c.tc : Thread Cert.KernelMixNormIdeal.nD Cert.KernelMixNormIdeal.τ).loc Cert.KernelMixNormIdeal.main_arg1)) (m ((c.tc : Thread Cert.KernelMixNormIdeal.nD Cert.KernelMixNormIdeal.τ).loc Cert.KernelMixNormIdeal.main_arg2)) (m ((c.tc : Thread Cert.KernelMixNormIdeal.nD Cert.KernelMixNormIdeal.τ).loc Cert.KernelMixNormIdeal.main_arg3)) (m ((c.tc : Thread Cert.KernelMixNormIdeal.nD Cert.KernelMixNormIdeal.τ).loc Cert.KernelMixNormIdeal.main_arg4))).2.2.1 = (fun _ => 1#1)
    ∧ (Cert.Pre_finite_mixnorm.fn (F := Ideal) (m ((c.tc : Thread Cert.KernelMixNormIdeal.nD Cert.KernelMixNormIdeal.τ).loc Cert.KernelMixNormIdeal.main_arg0)) (m ((c.tc : Thread Cert.KernelMixNormIdeal.nD Cert.KernelMixNormIdeal.τ).loc Cert.KernelMixNormIdeal.main_arg1)) (m ((c.tc : Thread Cert.KernelMixNormIdeal.nD Cert.KernelMixNormIdeal.τ).loc Cert.KernelMixNormIdeal.main_arg2)) (m ((c.tc : Thread Cert.KernelMixNormIdeal.nD Cert.KernelMixNormIdeal.τ).loc Cert.KernelMixNormIdeal.main_arg3)) (m ((c.tc : Thread Cert.KernelMixNormIdeal.nD Cert.KernelMixNormIdeal.τ).loc Cert.KernelMixNormIdeal.main_arg4))).2.2.2.1 = (fun _ => 1#1)
    ∧ (Cert.Pre_finite_mixnorm.fn (F := Ideal) (m ((c.tc : Thread Cert.KernelMixNormIdeal.nD Cert.KernelMixNormIdeal.τ).loc Cert.KernelMixNormIdeal.main_arg0)) (m ((c.tc : Thread Cert.KernelMixNormIdeal.nD Cert.KernelMixNormIdeal.τ).loc Cert.KernelMixNormIdeal.main_arg1)) (m ((c.tc : Thread Cert.KernelMixNormIdeal.nD Cert.KernelMixNormIdeal.τ).loc Cert.KernelMixNormIdeal.main_arg2)) (m ((c.tc : Thread Cert.KernelMixNormIdeal.nD Cert.KernelMixNormIdeal.τ).loc Cert.KernelMixNormIdeal.main_arg3)) (m ((c.tc : Thread Cert.KernelMixNormIdeal.nD Cert.KernelMixNormIdeal.τ).loc Cert.KernelMixNormIdeal.main_arg4))).2.2.2.2 = (fun _ => 1#1)

def Pre_ReferenceMixNormIdeal (m : (ℓ : Loc Cert.ReferenceMixNormIdeal.nD Cert.ReferenceMixNormIdeal.τ Cert.ReferenceMixNormIdeal.sig) → Buf (Elt Ideal) ℓ) : Prop :=
  True

def Pre_ReferenceMixNormIdeal_finite_mixnorm [hPre_finite_mixnorm : Cert.Pre_finite_mixnorm.Facts] (m : (ℓ : Loc Cert.ReferenceMixNormIdeal.nD Cert.ReferenceMixNormIdeal.τ Cert.ReferenceMixNormIdeal.sig) → Buf (Elt Ideal) ℓ) : Prop :=
  ∀ c : Dev Cert.ReferenceMixNormIdeal.nD,
    (Cert.Pre_finite_mixnorm.fn (F := Ideal) (m ((c.tc : Thread Cert.ReferenceMixNormIdeal.nD Cert.ReferenceMixNormIdeal.τ).loc Cert.ReferenceMixNormIdeal.main_arg0)) (m ((c.tc : Thread Cert.ReferenceMixNormIdeal.nD Cert.ReferenceMixNormIdeal.τ).loc Cert.ReferenceMixNormIdeal.main_arg1)) (m ((c.tc : Thread Cert.ReferenceMixNormIdeal.nD Cert.ReferenceMixNormIdeal.τ).loc Cert.ReferenceMixNormIdeal.main_arg2)) (m ((c.tc : Thread Cert.ReferenceMixNormIdeal.nD Cert.ReferenceMixNormIdeal.τ).loc Cert.ReferenceMixNormIdeal.main_arg3)) (m ((c.tc : Thread Cert.ReferenceMixNormIdeal.nD Cert.ReferenceMixNormIdeal.τ).loc Cert.ReferenceMixNormIdeal.main_arg4))).1 = (fun _ => 1#1)
    ∧ (Cert.Pre_finite_mixnorm.fn (F := Ideal) (m ((c.tc : Thread Cert.ReferenceMixNormIdeal.nD Cert.ReferenceMixNormIdeal.τ).loc Cert.ReferenceMixNormIdeal.main_arg0)) (m ((c.tc : Thread Cert.ReferenceMixNormIdeal.nD Cert.ReferenceMixNormIdeal.τ).loc Cert.ReferenceMixNormIdeal.main_arg1)) (m ((c.tc : Thread Cert.ReferenceMixNormIdeal.nD Cert.ReferenceMixNormIdeal.τ).loc Cert.ReferenceMixNormIdeal.main_arg2)) (m ((c.tc : Thread Cert.ReferenceMixNormIdeal.nD Cert.ReferenceMixNormIdeal.τ).loc Cert.ReferenceMixNormIdeal.main_arg3)) (m ((c.tc : Thread Cert.ReferenceMixNormIdeal.nD Cert.ReferenceMixNormIdeal.τ).loc Cert.ReferenceMixNormIdeal.main_arg4))).2.1 = (fun _ => 1#1)
    ∧ (Cert.Pre_finite_mixnorm.fn (F := Ideal) (m ((c.tc : Thread Cert.ReferenceMixNormIdeal.nD Cert.ReferenceMixNormIdeal.τ).loc Cert.ReferenceMixNormIdeal.main_arg0)) (m ((c.tc : Thread Cert.ReferenceMixNormIdeal.nD Cert.ReferenceMixNormIdeal.τ).loc Cert.ReferenceMixNormIdeal.main_arg1)) (m ((c.tc : Thread Cert.ReferenceMixNormIdeal.nD Cert.ReferenceMixNormIdeal.τ).loc Cert.ReferenceMixNormIdeal.main_arg2)) (m ((c.tc : Thread Cert.ReferenceMixNormIdeal.nD Cert.ReferenceMixNormIdeal.τ).loc Cert.ReferenceMixNormIdeal.main_arg3)) (m ((c.tc : Thread Cert.ReferenceMixNormIdeal.nD Cert.ReferenceMixNormIdeal.τ).loc Cert.ReferenceMixNormIdeal.main_arg4))).2.2.1 = (fun _ => 1#1)
    ∧ (Cert.Pre_finite_mixnorm.fn (F := Ideal) (m ((c.tc : Thread Cert.ReferenceMixNormIdeal.nD Cert.ReferenceMixNormIdeal.τ).loc Cert.ReferenceMixNormIdeal.main_arg0)) (m ((c.tc : Thread Cert.ReferenceMixNormIdeal.nD Cert.ReferenceMixNormIdeal.τ).loc Cert.ReferenceMixNormIdeal.main_arg1)) (m ((c.tc : Thread Cert.ReferenceMixNormIdeal.nD Cert.ReferenceMixNormIdeal.τ).loc Cert.ReferenceMixNormIdeal.main_arg2)) (m ((c.tc : Thread Cert.ReferenceMixNormIdeal.nD Cert.ReferenceMixNormIdeal.τ).loc Cert.ReferenceMixNormIdeal.main_arg3)) (m ((c.tc : Thread Cert.ReferenceMixNormIdeal.nD Cert.ReferenceMixNormIdeal.τ).loc Cert.ReferenceMixNormIdeal.main_arg4))).2.2.2.1 = (fun _ => 1#1)
    ∧ (Cert.Pre_finite_mixnorm.fn (F := Ideal) (m ((c.tc : Thread Cert.ReferenceMixNormIdeal.nD Cert.ReferenceMixNormIdeal.τ).loc Cert.ReferenceMixNormIdeal.main_arg0)) (m ((c.tc : Thread Cert.ReferenceMixNormIdeal.nD Cert.ReferenceMixNormIdeal.τ).loc Cert.ReferenceMixNormIdeal.main_arg1)) (m ((c.tc : Thread Cert.ReferenceMixNormIdeal.nD Cert.ReferenceMixNormIdeal.τ).loc Cert.ReferenceMixNormIdeal.main_arg2)) (m ((c.tc : Thread Cert.ReferenceMixNormIdeal.nD Cert.ReferenceMixNormIdeal.τ).loc Cert.ReferenceMixNormIdeal.main_arg3)) (m ((c.tc : Thread Cert.ReferenceMixNormIdeal.nD Cert.ReferenceMixNormIdeal.τ).loc Cert.ReferenceMixNormIdeal.main_arg4))).2.2.2.2 = (fun _ => 1#1)

def Pre_KernelDH3 (m : (ℓ : Loc Cert.KernelDH3.nD Cert.KernelDH3.τ Cert.KernelDH3.sig) → Buf (Elt Bits) ℓ) : Prop :=
  True

def Pre_KernelDH3Ideal (m : (ℓ : Loc Cert.KernelDH3Ideal.nD Cert.KernelDH3Ideal.τ Cert.KernelDH3Ideal.sig) → Buf (Elt Ideal) ℓ) : Prop :=
  True

def Pre_KernelDH3Ideal_finite_dh3 [hPre_finite_dh3 : Cert.Pre_finite_dh3.Facts] (m : (ℓ : Loc Cert.KernelDH3Ideal.nD Cert.KernelDH3Ideal.τ Cert.KernelDH3Ideal.sig) → Buf (Elt Ideal) ℓ) : Prop :=
  ∀ c : Dev Cert.KernelDH3Ideal.nD,
    (Cert.Pre_finite_dh3.fn (F := Ideal) (m ((c.tc : Thread Cert.KernelDH3Ideal.nD Cert.KernelDH3Ideal.τ).loc Cert.KernelDH3Ideal.main_arg0)) (m ((c.tc : Thread Cert.KernelDH3Ideal.nD Cert.KernelDH3Ideal.τ).loc Cert.KernelDH3Ideal.main_arg1)) (m ((c.tc : Thread Cert.KernelDH3Ideal.nD Cert.KernelDH3Ideal.τ).loc Cert.KernelDH3Ideal.main_arg2)) (m ((c.tc : Thread Cert.KernelDH3Ideal.nD Cert.KernelDH3Ideal.τ).loc Cert.KernelDH3Ideal.main_arg3)) (m ((c.tc : Thread Cert.KernelDH3Ideal.nD Cert.KernelDH3Ideal.τ).loc Cert.KernelDH3Ideal.main_arg4))).1 = (fun _ => 1#1)
    ∧ (Cert.Pre_finite_dh3.fn (F := Ideal) (m ((c.tc : Thread Cert.KernelDH3Ideal.nD Cert.KernelDH3Ideal.τ).loc Cert.KernelDH3Ideal.main_arg0)) (m ((c.tc : Thread Cert.KernelDH3Ideal.nD Cert.KernelDH3Ideal.τ).loc Cert.KernelDH3Ideal.main_arg1)) (m ((c.tc : Thread Cert.KernelDH3Ideal.nD Cert.KernelDH3Ideal.τ).loc Cert.KernelDH3Ideal.main_arg2)) (m ((c.tc : Thread Cert.KernelDH3Ideal.nD Cert.KernelDH3Ideal.τ).loc Cert.KernelDH3Ideal.main_arg3)) (m ((c.tc : Thread Cert.KernelDH3Ideal.nD Cert.KernelDH3Ideal.τ).loc Cert.KernelDH3Ideal.main_arg4))).2.1 = (fun _ => 1#1)
    ∧ (Cert.Pre_finite_dh3.fn (F := Ideal) (m ((c.tc : Thread Cert.KernelDH3Ideal.nD Cert.KernelDH3Ideal.τ).loc Cert.KernelDH3Ideal.main_arg0)) (m ((c.tc : Thread Cert.KernelDH3Ideal.nD Cert.KernelDH3Ideal.τ).loc Cert.KernelDH3Ideal.main_arg1)) (m ((c.tc : Thread Cert.KernelDH3Ideal.nD Cert.KernelDH3Ideal.τ).loc Cert.KernelDH3Ideal.main_arg2)) (m ((c.tc : Thread Cert.KernelDH3Ideal.nD Cert.KernelDH3Ideal.τ).loc Cert.KernelDH3Ideal.main_arg3)) (m ((c.tc : Thread Cert.KernelDH3Ideal.nD Cert.KernelDH3Ideal.τ).loc Cert.KernelDH3Ideal.main_arg4))).2.2.1 = (fun _ => 1#1)
    ∧ (Cert.Pre_finite_dh3.fn (F := Ideal) (m ((c.tc : Thread Cert.KernelDH3Ideal.nD Cert.KernelDH3Ideal.τ).loc Cert.KernelDH3Ideal.main_arg0)) (m ((c.tc : Thread Cert.KernelDH3Ideal.nD Cert.KernelDH3Ideal.τ).loc Cert.KernelDH3Ideal.main_arg1)) (m ((c.tc : Thread Cert.KernelDH3Ideal.nD Cert.KernelDH3Ideal.τ).loc Cert.KernelDH3Ideal.main_arg2)) (m ((c.tc : Thread Cert.KernelDH3Ideal.nD Cert.KernelDH3Ideal.τ).loc Cert.KernelDH3Ideal.main_arg3)) (m ((c.tc : Thread Cert.KernelDH3Ideal.nD Cert.KernelDH3Ideal.τ).loc Cert.KernelDH3Ideal.main_arg4))).2.2.2 = (fun _ => 1#1)

def Pre_ReferenceDH3Ideal (m : (ℓ : Loc Cert.ReferenceDH3Ideal.nD Cert.ReferenceDH3Ideal.τ Cert.ReferenceDH3Ideal.sig) → Buf (Elt Ideal) ℓ) : Prop :=
  True

def Pre_ReferenceDH3Ideal_finite_dh3 [hPre_finite_dh3 : Cert.Pre_finite_dh3.Facts] (m : (ℓ : Loc Cert.ReferenceDH3Ideal.nD Cert.ReferenceDH3Ideal.τ Cert.ReferenceDH3Ideal.sig) → Buf (Elt Ideal) ℓ) : Prop :=
  ∀ c : Dev Cert.ReferenceDH3Ideal.nD,
    (Cert.Pre_finite_dh3.fn (F := Ideal) (m ((c.tc : Thread Cert.ReferenceDH3Ideal.nD Cert.ReferenceDH3Ideal.τ).loc Cert.ReferenceDH3Ideal.main_arg0)) (m ((c.tc : Thread Cert.ReferenceDH3Ideal.nD Cert.ReferenceDH3Ideal.τ).loc Cert.ReferenceDH3Ideal.main_arg1)) (m ((c.tc : Thread Cert.ReferenceDH3Ideal.nD Cert.ReferenceDH3Ideal.τ).loc Cert.ReferenceDH3Ideal.main_arg2)) (m ((c.tc : Thread Cert.ReferenceDH3Ideal.nD Cert.ReferenceDH3Ideal.τ).loc Cert.ReferenceDH3Ideal.main_arg3)) (m ((c.tc : Thread Cert.ReferenceDH3Ideal.nD Cert.ReferenceDH3Ideal.τ).loc Cert.ReferenceDH3Ideal.main_arg4))).1 = (fun _ => 1#1)
    ∧ (Cert.Pre_finite_dh3.fn (F := Ideal) (m ((c.tc : Thread Cert.ReferenceDH3Ideal.nD Cert.ReferenceDH3Ideal.τ).loc Cert.ReferenceDH3Ideal.main_arg0)) (m ((c.tc : Thread Cert.ReferenceDH3Ideal.nD Cert.ReferenceDH3Ideal.τ).loc Cert.ReferenceDH3Ideal.main_arg1)) (m ((c.tc : Thread Cert.ReferenceDH3Ideal.nD Cert.ReferenceDH3Ideal.τ).loc Cert.ReferenceDH3Ideal.main_arg2)) (m ((c.tc : Thread Cert.ReferenceDH3Ideal.nD Cert.ReferenceDH3Ideal.τ).loc Cert.ReferenceDH3Ideal.main_arg3)) (m ((c.tc : Thread Cert.ReferenceDH3Ideal.nD Cert.ReferenceDH3Ideal.τ).loc Cert.ReferenceDH3Ideal.main_arg4))).2.1 = (fun _ => 1#1)
    ∧ (Cert.Pre_finite_dh3.fn (F := Ideal) (m ((c.tc : Thread Cert.ReferenceDH3Ideal.nD Cert.ReferenceDH3Ideal.τ).loc Cert.ReferenceDH3Ideal.main_arg0)) (m ((c.tc : Thread Cert.ReferenceDH3Ideal.nD Cert.ReferenceDH3Ideal.τ).loc Cert.ReferenceDH3Ideal.main_arg1)) (m ((c.tc : Thread Cert.ReferenceDH3Ideal.nD Cert.ReferenceDH3Ideal.τ).loc Cert.ReferenceDH3Ideal.main_arg2)) (m ((c.tc : Thread Cert.ReferenceDH3Ideal.nD Cert.ReferenceDH3Ideal.τ).loc Cert.ReferenceDH3Ideal.main_arg3)) (m ((c.tc : Thread Cert.ReferenceDH3Ideal.nD Cert.ReferenceDH3Ideal.τ).loc Cert.ReferenceDH3Ideal.main_arg4))).2.2.1 = (fun _ => 1#1)
    ∧ (Cert.Pre_finite_dh3.fn (F := Ideal) (m ((c.tc : Thread Cert.ReferenceDH3Ideal.nD Cert.ReferenceDH3Ideal.τ).loc Cert.ReferenceDH3Ideal.main_arg0)) (m ((c.tc : Thread Cert.ReferenceDH3Ideal.nD Cert.ReferenceDH3Ideal.τ).loc Cert.ReferenceDH3Ideal.main_arg1)) (m ((c.tc : Thread Cert.ReferenceDH3Ideal.nD Cert.ReferenceDH3Ideal.τ).loc Cert.ReferenceDH3Ideal.main_arg2)) (m ((c.tc : Thread Cert.ReferenceDH3Ideal.nD Cert.ReferenceDH3Ideal.τ).loc Cert.ReferenceDH3Ideal.main_arg3)) (m ((c.tc : Thread Cert.ReferenceDH3Ideal.nD Cert.ReferenceDH3Ideal.τ).loc Cert.ReferenceDH3Ideal.main_arg4))).2.2.2 = (fun _ => 1#1)

def Pre_KernelDH2 (m : (ℓ : Loc Cert.KernelDH2.nD Cert.KernelDH2.τ Cert.KernelDH2.sig) → Buf (Elt Bits) ℓ) : Prop :=
  True

def Pre_KernelDH2Ideal (m : (ℓ : Loc Cert.KernelDH2Ideal.nD Cert.KernelDH2Ideal.τ Cert.KernelDH2Ideal.sig) → Buf (Elt Ideal) ℓ) : Prop :=
  True

def Pre_KernelDH2Ideal_finite_dh2 [hPre_finite_dh2 : Cert.Pre_finite_dh2.Facts] (m : (ℓ : Loc Cert.KernelDH2Ideal.nD Cert.KernelDH2Ideal.τ Cert.KernelDH2Ideal.sig) → Buf (Elt Ideal) ℓ) : Prop :=
  ∀ c : Dev Cert.KernelDH2Ideal.nD,
    (Cert.Pre_finite_dh2.fn (F := Ideal) (m ((c.tc : Thread Cert.KernelDH2Ideal.nD Cert.KernelDH2Ideal.τ).loc Cert.KernelDH2Ideal.main_arg0)) (m ((c.tc : Thread Cert.KernelDH2Ideal.nD Cert.KernelDH2Ideal.τ).loc Cert.KernelDH2Ideal.main_arg1)) (m ((c.tc : Thread Cert.KernelDH2Ideal.nD Cert.KernelDH2Ideal.τ).loc Cert.KernelDH2Ideal.main_arg2)) (m ((c.tc : Thread Cert.KernelDH2Ideal.nD Cert.KernelDH2Ideal.τ).loc Cert.KernelDH2Ideal.main_arg3)) (m ((c.tc : Thread Cert.KernelDH2Ideal.nD Cert.KernelDH2Ideal.τ).loc Cert.KernelDH2Ideal.main_arg4))).1 = (fun _ => 1#1)
    ∧ (Cert.Pre_finite_dh2.fn (F := Ideal) (m ((c.tc : Thread Cert.KernelDH2Ideal.nD Cert.KernelDH2Ideal.τ).loc Cert.KernelDH2Ideal.main_arg0)) (m ((c.tc : Thread Cert.KernelDH2Ideal.nD Cert.KernelDH2Ideal.τ).loc Cert.KernelDH2Ideal.main_arg1)) (m ((c.tc : Thread Cert.KernelDH2Ideal.nD Cert.KernelDH2Ideal.τ).loc Cert.KernelDH2Ideal.main_arg2)) (m ((c.tc : Thread Cert.KernelDH2Ideal.nD Cert.KernelDH2Ideal.τ).loc Cert.KernelDH2Ideal.main_arg3)) (m ((c.tc : Thread Cert.KernelDH2Ideal.nD Cert.KernelDH2Ideal.τ).loc Cert.KernelDH2Ideal.main_arg4))).2.1 = (fun _ => 1#1)
    ∧ (Cert.Pre_finite_dh2.fn (F := Ideal) (m ((c.tc : Thread Cert.KernelDH2Ideal.nD Cert.KernelDH2Ideal.τ).loc Cert.KernelDH2Ideal.main_arg0)) (m ((c.tc : Thread Cert.KernelDH2Ideal.nD Cert.KernelDH2Ideal.τ).loc Cert.KernelDH2Ideal.main_arg1)) (m ((c.tc : Thread Cert.KernelDH2Ideal.nD Cert.KernelDH2Ideal.τ).loc Cert.KernelDH2Ideal.main_arg2)) (m ((c.tc : Thread Cert.KernelDH2Ideal.nD Cert.KernelDH2Ideal.τ).loc Cert.KernelDH2Ideal.main_arg3)) (m ((c.tc : Thread Cert.KernelDH2Ideal.nD Cert.KernelDH2Ideal.τ).loc Cert.KernelDH2Ideal.main_arg4))).2.2.1 = (fun _ => 1#1)
    ∧ (Cert.Pre_finite_dh2.fn (F := Ideal) (m ((c.tc : Thread Cert.KernelDH2Ideal.nD Cert.KernelDH2Ideal.τ).loc Cert.KernelDH2Ideal.main_arg0)) (m ((c.tc : Thread Cert.KernelDH2Ideal.nD Cert.KernelDH2Ideal.τ).loc Cert.KernelDH2Ideal.main_arg1)) (m ((c.tc : Thread Cert.KernelDH2Ideal.nD Cert.KernelDH2Ideal.τ).loc Cert.KernelDH2Ideal.main_arg2)) (m ((c.tc : Thread Cert.KernelDH2Ideal.nD Cert.KernelDH2Ideal.τ).loc Cert.KernelDH2Ideal.main_arg3)) (m ((c.tc : Thread Cert.KernelDH2Ideal.nD Cert.KernelDH2Ideal.τ).loc Cert.KernelDH2Ideal.main_arg4))).2.2.2 = (fun _ => 1#1)

def Pre_ReferenceDH2Ideal (m : (ℓ : Loc Cert.ReferenceDH2Ideal.nD Cert.ReferenceDH2Ideal.τ Cert.ReferenceDH2Ideal.sig) → Buf (Elt Ideal) ℓ) : Prop :=
  True

def Pre_ReferenceDH2Ideal_finite_dh2 [hPre_finite_dh2 : Cert.Pre_finite_dh2.Facts] (m : (ℓ : Loc Cert.ReferenceDH2Ideal.nD Cert.ReferenceDH2Ideal.τ Cert.ReferenceDH2Ideal.sig) → Buf (Elt Ideal) ℓ) : Prop :=
  ∀ c : Dev Cert.ReferenceDH2Ideal.nD,
    (Cert.Pre_finite_dh2.fn (F := Ideal) (m ((c.tc : Thread Cert.ReferenceDH2Ideal.nD Cert.ReferenceDH2Ideal.τ).loc Cert.ReferenceDH2Ideal.main_arg0)) (m ((c.tc : Thread Cert.ReferenceDH2Ideal.nD Cert.ReferenceDH2Ideal.τ).loc Cert.ReferenceDH2Ideal.main_arg1)) (m ((c.tc : Thread Cert.ReferenceDH2Ideal.nD Cert.ReferenceDH2Ideal.τ).loc Cert.ReferenceDH2Ideal.main_arg2)) (m ((c.tc : Thread Cert.ReferenceDH2Ideal.nD Cert.ReferenceDH2Ideal.τ).loc Cert.ReferenceDH2Ideal.main_arg3)) (m ((c.tc : Thread Cert.ReferenceDH2Ideal.nD Cert.ReferenceDH2Ideal.τ).loc Cert.ReferenceDH2Ideal.main_arg4))).1 = (fun _ => 1#1)
    ∧ (Cert.Pre_finite_dh2.fn (F := Ideal) (m ((c.tc : Thread Cert.ReferenceDH2Ideal.nD Cert.ReferenceDH2Ideal.τ).loc Cert.ReferenceDH2Ideal.main_arg0)) (m ((c.tc : Thread Cert.ReferenceDH2Ideal.nD Cert.ReferenceDH2Ideal.τ).loc Cert.ReferenceDH2Ideal.main_arg1)) (m ((c.tc : Thread Cert.ReferenceDH2Ideal.nD Cert.ReferenceDH2Ideal.τ).loc Cert.ReferenceDH2Ideal.main_arg2)) (m ((c.tc : Thread Cert.ReferenceDH2Ideal.nD Cert.ReferenceDH2Ideal.τ).loc Cert.ReferenceDH2Ideal.main_arg3)) (m ((c.tc : Thread Cert.ReferenceDH2Ideal.nD Cert.ReferenceDH2Ideal.τ).loc Cert.ReferenceDH2Ideal.main_arg4))).2.1 = (fun _ => 1#1)
    ∧ (Cert.Pre_finite_dh2.fn (F := Ideal) (m ((c.tc : Thread Cert.ReferenceDH2Ideal.nD Cert.ReferenceDH2Ideal.τ).loc Cert.ReferenceDH2Ideal.main_arg0)) (m ((c.tc : Thread Cert.ReferenceDH2Ideal.nD Cert.ReferenceDH2Ideal.τ).loc Cert.ReferenceDH2Ideal.main_arg1)) (m ((c.tc : Thread Cert.ReferenceDH2Ideal.nD Cert.ReferenceDH2Ideal.τ).loc Cert.ReferenceDH2Ideal.main_arg2)) (m ((c.tc : Thread Cert.ReferenceDH2Ideal.nD Cert.ReferenceDH2Ideal.τ).loc Cert.ReferenceDH2Ideal.main_arg3)) (m ((c.tc : Thread Cert.ReferenceDH2Ideal.nD Cert.ReferenceDH2Ideal.τ).loc Cert.ReferenceDH2Ideal.main_arg4))).2.2.1 = (fun _ => 1#1)
    ∧ (Cert.Pre_finite_dh2.fn (F := Ideal) (m ((c.tc : Thread Cert.ReferenceDH2Ideal.nD Cert.ReferenceDH2Ideal.τ).loc Cert.ReferenceDH2Ideal.main_arg0)) (m ((c.tc : Thread Cert.ReferenceDH2Ideal.nD Cert.ReferenceDH2Ideal.τ).loc Cert.ReferenceDH2Ideal.main_arg1)) (m ((c.tc : Thread Cert.ReferenceDH2Ideal.nD Cert.ReferenceDH2Ideal.τ).loc Cert.ReferenceDH2Ideal.main_arg2)) (m ((c.tc : Thread Cert.ReferenceDH2Ideal.nD Cert.ReferenceDH2Ideal.τ).loc Cert.ReferenceDH2Ideal.main_arg3)) (m ((c.tc : Thread Cert.ReferenceDH2Ideal.nD Cert.ReferenceDH2Ideal.τ).loc Cert.ReferenceDH2Ideal.main_arg4))).2.2.2 = (fun _ => 1#1)

def Pre_KernelDH1 (m : (ℓ : Loc Cert.KernelDH1.nD Cert.KernelDH1.τ Cert.KernelDH1.sig) → Buf (Elt Bits) ℓ) : Prop :=
  True

def Pre_KernelDH1Ideal (m : (ℓ : Loc Cert.KernelDH1Ideal.nD Cert.KernelDH1Ideal.τ Cert.KernelDH1Ideal.sig) → Buf (Elt Ideal) ℓ) : Prop :=
  True

def Pre_KernelDH1Ideal_finite_dh1 [hPre_finite_dh1 : Cert.Pre_finite_dh1.Facts] (m : (ℓ : Loc Cert.KernelDH1Ideal.nD Cert.KernelDH1Ideal.τ Cert.KernelDH1Ideal.sig) → Buf (Elt Ideal) ℓ) : Prop :=
  ∀ c : Dev Cert.KernelDH1Ideal.nD,
    (Cert.Pre_finite_dh1.fn (F := Ideal) (m ((c.tc : Thread Cert.KernelDH1Ideal.nD Cert.KernelDH1Ideal.τ).loc Cert.KernelDH1Ideal.main_arg0)) (m ((c.tc : Thread Cert.KernelDH1Ideal.nD Cert.KernelDH1Ideal.τ).loc Cert.KernelDH1Ideal.main_arg1)) (m ((c.tc : Thread Cert.KernelDH1Ideal.nD Cert.KernelDH1Ideal.τ).loc Cert.KernelDH1Ideal.main_arg2)) (m ((c.tc : Thread Cert.KernelDH1Ideal.nD Cert.KernelDH1Ideal.τ).loc Cert.KernelDH1Ideal.main_arg3)) (m ((c.tc : Thread Cert.KernelDH1Ideal.nD Cert.KernelDH1Ideal.τ).loc Cert.KernelDH1Ideal.main_arg4))).1 = (fun _ => 1#1)
    ∧ (Cert.Pre_finite_dh1.fn (F := Ideal) (m ((c.tc : Thread Cert.KernelDH1Ideal.nD Cert.KernelDH1Ideal.τ).loc Cert.KernelDH1Ideal.main_arg0)) (m ((c.tc : Thread Cert.KernelDH1Ideal.nD Cert.KernelDH1Ideal.τ).loc Cert.KernelDH1Ideal.main_arg1)) (m ((c.tc : Thread Cert.KernelDH1Ideal.nD Cert.KernelDH1Ideal.τ).loc Cert.KernelDH1Ideal.main_arg2)) (m ((c.tc : Thread Cert.KernelDH1Ideal.nD Cert.KernelDH1Ideal.τ).loc Cert.KernelDH1Ideal.main_arg3)) (m ((c.tc : Thread Cert.KernelDH1Ideal.nD Cert.KernelDH1Ideal.τ).loc Cert.KernelDH1Ideal.main_arg4))).2.1 = (fun _ => 1#1)
    ∧ (Cert.Pre_finite_dh1.fn (F := Ideal) (m ((c.tc : Thread Cert.KernelDH1Ideal.nD Cert.KernelDH1Ideal.τ).loc Cert.KernelDH1Ideal.main_arg0)) (m ((c.tc : Thread Cert.KernelDH1Ideal.nD Cert.KernelDH1Ideal.τ).loc Cert.KernelDH1Ideal.main_arg1)) (m ((c.tc : Thread Cert.KernelDH1Ideal.nD Cert.KernelDH1Ideal.τ).loc Cert.KernelDH1Ideal.main_arg2)) (m ((c.tc : Thread Cert.KernelDH1Ideal.nD Cert.KernelDH1Ideal.τ).loc Cert.KernelDH1Ideal.main_arg3)) (m ((c.tc : Thread Cert.KernelDH1Ideal.nD Cert.KernelDH1Ideal.τ).loc Cert.KernelDH1Ideal.main_arg4))).2.2.1 = (fun _ => 1#1)
    ∧ (Cert.Pre_finite_dh1.fn (F := Ideal) (m ((c.tc : Thread Cert.KernelDH1Ideal.nD Cert.KernelDH1Ideal.τ).loc Cert.KernelDH1Ideal.main_arg0)) (m ((c.tc : Thread Cert.KernelDH1Ideal.nD Cert.KernelDH1Ideal.τ).loc Cert.KernelDH1Ideal.main_arg1)) (m ((c.tc : Thread Cert.KernelDH1Ideal.nD Cert.KernelDH1Ideal.τ).loc Cert.KernelDH1Ideal.main_arg2)) (m ((c.tc : Thread Cert.KernelDH1Ideal.nD Cert.KernelDH1Ideal.τ).loc Cert.KernelDH1Ideal.main_arg3)) (m ((c.tc : Thread Cert.KernelDH1Ideal.nD Cert.KernelDH1Ideal.τ).loc Cert.KernelDH1Ideal.main_arg4))).2.2.2 = (fun _ => 1#1)

def Pre_ReferenceDH1Ideal (m : (ℓ : Loc Cert.ReferenceDH1Ideal.nD Cert.ReferenceDH1Ideal.τ Cert.ReferenceDH1Ideal.sig) → Buf (Elt Ideal) ℓ) : Prop :=
  True

def Pre_ReferenceDH1Ideal_finite_dh1 [hPre_finite_dh1 : Cert.Pre_finite_dh1.Facts] (m : (ℓ : Loc Cert.ReferenceDH1Ideal.nD Cert.ReferenceDH1Ideal.τ Cert.ReferenceDH1Ideal.sig) → Buf (Elt Ideal) ℓ) : Prop :=
  ∀ c : Dev Cert.ReferenceDH1Ideal.nD,
    (Cert.Pre_finite_dh1.fn (F := Ideal) (m ((c.tc : Thread Cert.ReferenceDH1Ideal.nD Cert.ReferenceDH1Ideal.τ).loc Cert.ReferenceDH1Ideal.main_arg0)) (m ((c.tc : Thread Cert.ReferenceDH1Ideal.nD Cert.ReferenceDH1Ideal.τ).loc Cert.ReferenceDH1Ideal.main_arg1)) (m ((c.tc : Thread Cert.ReferenceDH1Ideal.nD Cert.ReferenceDH1Ideal.τ).loc Cert.ReferenceDH1Ideal.main_arg2)) (m ((c.tc : Thread Cert.ReferenceDH1Ideal.nD Cert.ReferenceDH1Ideal.τ).loc Cert.ReferenceDH1Ideal.main_arg3)) (m ((c.tc : Thread Cert.ReferenceDH1Ideal.nD Cert.ReferenceDH1Ideal.τ).loc Cert.ReferenceDH1Ideal.main_arg4))).1 = (fun _ => 1#1)
    ∧ (Cert.Pre_finite_dh1.fn (F := Ideal) (m ((c.tc : Thread Cert.ReferenceDH1Ideal.nD Cert.ReferenceDH1Ideal.τ).loc Cert.ReferenceDH1Ideal.main_arg0)) (m ((c.tc : Thread Cert.ReferenceDH1Ideal.nD Cert.ReferenceDH1Ideal.τ).loc Cert.ReferenceDH1Ideal.main_arg1)) (m ((c.tc : Thread Cert.ReferenceDH1Ideal.nD Cert.ReferenceDH1Ideal.τ).loc Cert.ReferenceDH1Ideal.main_arg2)) (m ((c.tc : Thread Cert.ReferenceDH1Ideal.nD Cert.ReferenceDH1Ideal.τ).loc Cert.ReferenceDH1Ideal.main_arg3)) (m ((c.tc : Thread Cert.ReferenceDH1Ideal.nD Cert.ReferenceDH1Ideal.τ).loc Cert.ReferenceDH1Ideal.main_arg4))).2.1 = (fun _ => 1#1)
    ∧ (Cert.Pre_finite_dh1.fn (F := Ideal) (m ((c.tc : Thread Cert.ReferenceDH1Ideal.nD Cert.ReferenceDH1Ideal.τ).loc Cert.ReferenceDH1Ideal.main_arg0)) (m ((c.tc : Thread Cert.ReferenceDH1Ideal.nD Cert.ReferenceDH1Ideal.τ).loc Cert.ReferenceDH1Ideal.main_arg1)) (m ((c.tc : Thread Cert.ReferenceDH1Ideal.nD Cert.ReferenceDH1Ideal.τ).loc Cert.ReferenceDH1Ideal.main_arg2)) (m ((c.tc : Thread Cert.ReferenceDH1Ideal.nD Cert.ReferenceDH1Ideal.τ).loc Cert.ReferenceDH1Ideal.main_arg3)) (m ((c.tc : Thread Cert.ReferenceDH1Ideal.nD Cert.ReferenceDH1Ideal.τ).loc Cert.ReferenceDH1Ideal.main_arg4))).2.2.1 = (fun _ => 1#1)
    ∧ (Cert.Pre_finite_dh1.fn (F := Ideal) (m ((c.tc : Thread Cert.ReferenceDH1Ideal.nD Cert.ReferenceDH1Ideal.τ).loc Cert.ReferenceDH1Ideal.main_arg0)) (m ((c.tc : Thread Cert.ReferenceDH1Ideal.nD Cert.ReferenceDH1Ideal.τ).loc Cert.ReferenceDH1Ideal.main_arg1)) (m ((c.tc : Thread Cert.ReferenceDH1Ideal.nD Cert.ReferenceDH1Ideal.τ).loc Cert.ReferenceDH1Ideal.main_arg2)) (m ((c.tc : Thread Cert.ReferenceDH1Ideal.nD Cert.ReferenceDH1Ideal.τ).loc Cert.ReferenceDH1Ideal.main_arg3)) (m ((c.tc : Thread Cert.ReferenceDH1Ideal.nD Cert.ReferenceDH1Ideal.τ).loc Cert.ReferenceDH1Ideal.main_arg4))).2.2.2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))).2.2.2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))).2.2.2.2 = (fun _ => 1#1)

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))).1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))).2.1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))).2.2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))).1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))).2.1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))).2.2 = (fun _ => 1#1)

def Pre_KernelAttnF (m : (ℓ : Loc Cert.KernelAttnF.nD Cert.KernelAttnF.τ Cert.KernelAttnF.sig) → Buf (Elt Bits) ℓ) : Prop :=
  True

def Pre_KernelAttnFIdeal (m : (ℓ : Loc Cert.KernelAttnFIdeal.nD Cert.KernelAttnFIdeal.τ Cert.KernelAttnFIdeal.sig) → Buf (Elt Ideal) ℓ) : Prop :=
  True

def Pre_ReferenceAttnFIdeal (m : (ℓ : Loc Cert.ReferenceAttnFIdeal.nD Cert.ReferenceAttnFIdeal.τ Cert.ReferenceAttnFIdeal.sig) → Buf (Elt Ideal) ℓ) : Prop :=
  True

def Pre_KernelRmsF (m : (ℓ : Loc Cert.KernelRmsF.nD Cert.KernelRmsF.τ Cert.KernelRmsF.sig) → Buf (Elt Bits) ℓ) : Prop :=
  True

def Pre_KernelRmsFIdeal (m : (ℓ : Loc Cert.KernelRmsFIdeal.nD Cert.KernelRmsFIdeal.τ Cert.KernelRmsFIdeal.sig) → Buf (Elt Ideal) ℓ) : Prop :=
  True

def Pre_ReferenceRmsFIdeal (m : (ℓ : Loc Cert.ReferenceRmsFIdeal.nD Cert.ReferenceRmsFIdeal.τ Cert.ReferenceRmsFIdeal.sig) → Buf (Elt Ideal) ℓ) : Prop :=
  True

def Pre_KernelProjNorm (m : (ℓ : Loc Cert.KernelProjNorm.nD Cert.KernelProjNorm.τ Cert.KernelProjNorm.sig) → Buf (Elt Bits) ℓ) : Prop :=
  True

def Pre_KernelProjNormIdeal (m : (ℓ : Loc Cert.KernelProjNormIdeal.nD Cert.KernelProjNormIdeal.τ Cert.KernelProjNormIdeal.sig) → Buf (Elt Ideal) ℓ) : Prop :=
  True

def Pre_ReferenceProjNormIdeal (m : (ℓ : Loc Cert.ReferenceProjNormIdeal.nD Cert.ReferenceProjNormIdeal.τ Cert.ReferenceProjNormIdeal.sig) → Buf (Elt Ideal) ℓ) : Prop :=
  True

def Pre_KernelGateF (m : (ℓ : Loc Cert.KernelGateF.nD Cert.KernelGateF.τ Cert.KernelGateF.sig) → Buf (Elt Bits) ℓ) : Prop :=
  True

def Pre_KernelGateFIdeal (m : (ℓ : Loc Cert.KernelGateFIdeal.nD Cert.KernelGateFIdeal.τ Cert.KernelGateFIdeal.sig) → Buf (Elt Ideal) ℓ) : Prop :=
  True

def Pre_ReferenceGateFIdeal (m : (ℓ : Loc Cert.ReferenceGateFIdeal.nD Cert.ReferenceGateFIdeal.τ Cert.ReferenceGateFIdeal.sig) → Buf (Elt Ideal) ℓ) : Prop :=
  True

def Pre_KernelMixF (m : (ℓ : Loc Cert.KernelMixF.nD Cert.KernelMixF.τ Cert.KernelMixF.sig) → Buf (Elt Bits) ℓ) : Prop :=
  True

def Pre_KernelMixFIdeal (m : (ℓ : Loc Cert.KernelMixFIdeal.nD Cert.KernelMixFIdeal.τ Cert.KernelMixFIdeal.sig) → Buf (Elt Ideal) ℓ) : Prop :=
  True

def Pre_KernelMixFIdeal_finite_mixf [hPre_finite_mixf : Cert.Pre_finite_mixf.Facts] (m : (ℓ : Loc Cert.KernelMixFIdeal.nD Cert.KernelMixFIdeal.τ Cert.KernelMixFIdeal.sig) → Buf (Elt Ideal) ℓ) : Prop :=
  ∀ c : Dev Cert.KernelMixFIdeal.nD,
    (Cert.Pre_finite_mixf.fn (F := Ideal) (m ((c.tc : Thread Cert.KernelMixFIdeal.nD Cert.KernelMixFIdeal.τ).loc Cert.KernelMixFIdeal.main_arg0)) (m ((c.tc : Thread Cert.KernelMixFIdeal.nD Cert.KernelMixFIdeal.τ).loc Cert.KernelMixFIdeal.main_arg1)) (m ((c.tc : Thread Cert.KernelMixFIdeal.nD Cert.KernelMixFIdeal.τ).loc Cert.KernelMixFIdeal.main_arg2)) (m ((c.tc : Thread Cert.KernelMixFIdeal.nD Cert.KernelMixFIdeal.τ).loc Cert.KernelMixFIdeal.main_arg3)) (m ((c.tc : Thread Cert.KernelMixFIdeal.nD Cert.KernelMixFIdeal.τ).loc Cert.KernelMixFIdeal.main_arg4)) (m ((c.tc : Thread Cert.KernelMixFIdeal.nD Cert.KernelMixFIdeal.τ).loc Cert.KernelMixFIdeal.main_arg5)) (m ((c.tc : Thread Cert.KernelMixFIdeal.nD Cert.KernelMixFIdeal.τ).loc Cert.KernelMixFIdeal.main_arg6))) = (fun _ => 1#1)

def Pre_ReferenceMixFIdeal (m : (ℓ : Loc Cert.ReferenceMixFIdeal.nD Cert.ReferenceMixFIdeal.τ Cert.ReferenceMixFIdeal.sig) → Buf (Elt Ideal) ℓ) : Prop :=
  True

def Pre_ReferenceMixFIdeal_finite_mixf [hPre_finite_mixf : Cert.Pre_finite_mixf.Facts] (m : (ℓ : Loc Cert.ReferenceMixFIdeal.nD Cert.ReferenceMixFIdeal.τ Cert.ReferenceMixFIdeal.sig) → Buf (Elt Ideal) ℓ) : Prop :=
  ∀ c : Dev Cert.ReferenceMixFIdeal.nD,
    (Cert.Pre_finite_mixf.fn (F := Ideal) (m ((c.tc : Thread Cert.ReferenceMixFIdeal.nD Cert.ReferenceMixFIdeal.τ).loc Cert.ReferenceMixFIdeal.main_arg0)) (m ((c.tc : Thread Cert.ReferenceMixFIdeal.nD Cert.ReferenceMixFIdeal.τ).loc Cert.ReferenceMixFIdeal.main_arg1)) (m ((c.tc : Thread Cert.ReferenceMixFIdeal.nD Cert.ReferenceMixFIdeal.τ).loc Cert.ReferenceMixFIdeal.main_arg2)) (m ((c.tc : Thread Cert.ReferenceMixFIdeal.nD Cert.ReferenceMixFIdeal.τ).loc Cert.ReferenceMixFIdeal.main_arg3)) (m ((c.tc : Thread Cert.ReferenceMixFIdeal.nD Cert.ReferenceMixFIdeal.τ).loc Cert.ReferenceMixFIdeal.main_arg4)) (m ((c.tc : Thread Cert.ReferenceMixFIdeal.nD Cert.ReferenceMixFIdeal.τ).loc Cert.ReferenceMixFIdeal.main_arg5)) (m ((c.tc : Thread Cert.ReferenceMixFIdeal.nD Cert.ReferenceMixFIdeal.τ).loc Cert.ReferenceMixFIdeal.main_arg6))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDAct (m : (ℓ : Loc Cert.KernelDAct.nD Cert.KernelDAct.τ Cert.KernelDAct.sig) → Buf (Elt Bits) ℓ) : Prop :=
  True

def Pre_KernelDActIdeal (m : (ℓ : Loc Cert.KernelDActIdeal.nD Cert.KernelDActIdeal.τ Cert.KernelDActIdeal.sig) → Buf (Elt Ideal) ℓ) : Prop :=
  True

def Pre_ReferenceDActIdeal (m : (ℓ : Loc Cert.ReferenceDActIdeal.nD Cert.ReferenceDActIdeal.τ Cert.ReferenceDActIdeal.sig) → Buf (Elt Ideal) ℓ) : Prop :=
  True

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelDwUp (m : (ℓ : Loc Cert.KernelDwUp.nD Cert.KernelDwUp.τ Cert.KernelDwUp.sig) → Buf (Elt Bits) ℓ) : Prop :=
  True

def Pre_KernelDwUpIdeal (m : (ℓ : Loc Cert.KernelDwUpIdeal.nD Cert.KernelDwUpIdeal.τ Cert.KernelDwUpIdeal.sig) → Buf (Elt Ideal) ℓ) : Prop :=
  True

def Pre_ReferenceDwUpIdeal (m : (ℓ : Loc Cert.ReferenceDwUpIdeal.nD Cert.ReferenceDwUpIdeal.τ Cert.ReferenceDwUpIdeal.sig) → Buf (Elt Ideal) ℓ) : Prop :=
  True

def Pre_KernelAdamW (m : (ℓ : Loc Cert.KernelAdamW.nD Cert.KernelAdamW.τ Cert.KernelAdamW.sig) → Buf (Elt Bits) ℓ) : Prop :=
  True

def Pre_KernelAdamWIdeal (m : (ℓ : Loc Cert.KernelAdamWIdeal.nD Cert.KernelAdamWIdeal.τ Cert.KernelAdamWIdeal.sig) → Buf (Elt Ideal) ℓ) : Prop :=
  True

def Pre_ReferenceAdamWIdeal (m : (ℓ : Loc Cert.ReferenceAdamWIdeal.nD Cert.ReferenceAdamWIdeal.τ Cert.ReferenceAdamWIdeal.sig) → Buf (Elt Ideal) ℓ) : Prop :=
  True

def Pre_KernelMixW (m : (ℓ : Loc Cert.KernelMixW.nD Cert.KernelMixW.τ Cert.KernelMixW.sig) → Buf (Elt Bits) ℓ) : Prop :=
  True

def Pre_KernelMixWIdeal (m : (ℓ : Loc Cert.KernelMixWIdeal.nD Cert.KernelMixWIdeal.τ Cert.KernelMixWIdeal.sig) → Buf (Elt Ideal) ℓ) : Prop :=
  True

def Pre_KernelMixWIdeal_finite_mixw [hPre_finite_mixw : Cert.Pre_finite_mixw.Facts] (m : (ℓ : Loc Cert.KernelMixWIdeal.nD Cert.KernelMixWIdeal.τ Cert.KernelMixWIdeal.sig) → Buf (Elt Ideal) ℓ) : Prop :=
  ∀ c : Dev Cert.KernelMixWIdeal.nD,
    (Cert.Pre_finite_mixw.fn (F := Ideal) (m ((c.tc : Thread Cert.KernelMixWIdeal.nD Cert.KernelMixWIdeal.τ).loc Cert.KernelMixWIdeal.main_arg0)) (m ((c.tc : Thread Cert.KernelMixWIdeal.nD Cert.KernelMixWIdeal.τ).loc Cert.KernelMixWIdeal.main_arg1)) (m ((c.tc : Thread Cert.KernelMixWIdeal.nD Cert.KernelMixWIdeal.τ).loc Cert.KernelMixWIdeal.main_arg2)) (m ((c.tc : Thread Cert.KernelMixWIdeal.nD Cert.KernelMixWIdeal.τ).loc Cert.KernelMixWIdeal.main_arg3)) (m ((c.tc : Thread Cert.KernelMixWIdeal.nD Cert.KernelMixWIdeal.τ).loc Cert.KernelMixWIdeal.main_arg4)) (m ((c.tc : Thread Cert.KernelMixWIdeal.nD Cert.KernelMixWIdeal.τ).loc Cert.KernelMixWIdeal.main_arg5))) = (fun _ => 1#1)

def Pre_ReferenceMixWIdeal (m : (ℓ : Loc Cert.ReferenceMixWIdeal.nD Cert.ReferenceMixWIdeal.τ Cert.ReferenceMixWIdeal.sig) → Buf (Elt Ideal) ℓ) : Prop :=
  True

def Pre_ReferenceMixWIdeal_finite_mixw [hPre_finite_mixw : Cert.Pre_finite_mixw.Facts] (m : (ℓ : Loc Cert.ReferenceMixWIdeal.nD Cert.ReferenceMixWIdeal.τ Cert.ReferenceMixWIdeal.sig) → Buf (Elt Ideal) ℓ) : Prop :=
  ∀ c : Dev Cert.ReferenceMixWIdeal.nD,
    (Cert.Pre_finite_mixw.fn (F := Ideal) (m ((c.tc : Thread Cert.ReferenceMixWIdeal.nD Cert.ReferenceMixWIdeal.τ).loc Cert.ReferenceMixWIdeal.main_arg0)) (m ((c.tc : Thread Cert.ReferenceMixWIdeal.nD Cert.ReferenceMixWIdeal.τ).loc Cert.ReferenceMixWIdeal.main_arg1)) (m ((c.tc : Thread Cert.ReferenceMixWIdeal.nD Cert.ReferenceMixWIdeal.τ).loc Cert.ReferenceMixWIdeal.main_arg2)) (m ((c.tc : Thread Cert.ReferenceMixWIdeal.nD Cert.ReferenceMixWIdeal.τ).loc Cert.ReferenceMixWIdeal.main_arg3)) (m ((c.tc : Thread Cert.ReferenceMixWIdeal.nD Cert.ReferenceMixWIdeal.τ).loc Cert.ReferenceMixWIdeal.main_arg4)) (m ((c.tc : Thread Cert.ReferenceMixWIdeal.nD Cert.ReferenceMixWIdeal.τ).loc Cert.ReferenceMixWIdeal.main_arg5))) = (fun _ => 1#1)

def Pre_KernelTaps (m : (ℓ : Loc Cert.KernelTaps.nD Cert.KernelTaps.τ Cert.KernelTaps.sig) → Buf (Elt Bits) ℓ) : Prop :=
  True

def Pre_KernelTapsIdeal (m : (ℓ : Loc Cert.KernelTapsIdeal.nD Cert.KernelTapsIdeal.τ Cert.KernelTapsIdeal.sig) → Buf (Elt Ideal) ℓ) : Prop :=
  True

def Pre_ReferenceTapsIdeal (m : (ℓ : Loc Cert.ReferenceTapsIdeal.nD Cert.ReferenceTapsIdeal.τ Cert.ReferenceTapsIdeal.sig) → Buf (Elt Ideal) ℓ) : Prop :=
  True

def quiescent_KernelMemNorm [hKernelMemNorm : Cert.KernelMemNorm.Facts] : Prop :=
  ∀ (m : (ℓ : Loc Cert.KernelMemNorm.nD Cert.KernelMemNorm.τ Cert.KernelMemNorm.sig) → Buf (Elt Bits) ℓ) (g : Dev Cert.KernelMemNorm.nD → PrngReg), Pre_KernelMemNorm m →
    θ_run (Cert.KernelMemNorm.defs (F := Bits)) (onTc (τ := Cert.KernelMemNorm.τ) (Cert.KernelMemNorm.main (F := Bits))) ⟨m, fun _ => 0, g⟩ (fun r => (∀ c : Dev Cert.KernelMemNorm.nD,
      r.2.mem ((c.tc : Thread Cert.KernelMemNorm.nD Cert.KernelMemNorm.τ).loc Cert.KernelMemNorm.main_arg0) = m ((c.tc : Thread Cert.KernelMemNorm.nD Cert.KernelMemNorm.τ).loc Cert.KernelMemNorm.main_arg0)
      ∧ r.2.mem ((c.tc : Thread Cert.KernelMemNorm.nD Cert.KernelMemNorm.τ).loc Cert.KernelMemNorm.main_arg1) = m ((c.tc : Thread Cert.KernelMemNorm.nD Cert.KernelMemNorm.τ).loc Cert.KernelMemNorm.main_arg1)
      ∧ r.2.mem ((c.tc : Thread Cert.KernelMemNorm.nD Cert.KernelMemNorm.τ).loc Cert.KernelMemNorm.main_arg2) = m ((c.tc : Thread Cert.KernelMemNorm.nD Cert.KernelMemNorm.τ).loc Cert.KernelMemNorm.main_arg2))
      ∧ r.2.sem = fun _ => 0)

def quiescent_KernelMemNormIdeal [hKernelMemNormIdeal : Cert.KernelMemNormIdeal.Facts] : Prop :=
  ∀ (m : (ℓ : Loc Cert.KernelMemNormIdeal.nD Cert.KernelMemNormIdeal.τ Cert.KernelMemNormIdeal.sig) → Buf (Elt Ideal) ℓ) (g : Dev Cert.KernelMemNormIdeal.nD → PrngReg), Pre_KernelMemNormIdeal m →
    θ_run (Cert.KernelMemNormIdeal.defs (F := Ideal)) (onTc (τ := Cert.KernelMemNormIdeal.τ) (Cert.KernelMemNormIdeal.main (F := Ideal))) ⟨m, fun _ => 0, g⟩ (fun r => (∀ c : Dev Cert.KernelMemNormIdeal.nD,
      r.2.mem ((c.tc : Thread Cert.KernelMemNormIdeal.nD Cert.KernelMemNormIdeal.τ).loc Cert.KernelMemNormIdeal.main_arg0) = m ((c.tc : Thread Cert.KernelMemNormIdeal.nD Cert.KernelMemNormIdeal.τ).loc Cert.KernelMemNormIdeal.main_arg0)
      ∧ r.2.mem ((c.tc : Thread Cert.KernelMemNormIdeal.nD Cert.KernelMemNormIdeal.τ).loc Cert.KernelMemNormIdeal.main_arg1) = m ((c.tc : Thread Cert.KernelMemNormIdeal.nD Cert.KernelMemNormIdeal.τ).loc Cert.KernelMemNormIdeal.main_arg1)
      ∧ r.2.mem ((c.tc : Thread Cert.KernelMemNormIdeal.nD Cert.KernelMemNormIdeal.τ).loc Cert.KernelMemNormIdeal.main_arg2) = m ((c.tc : Thread Cert.KernelMemNormIdeal.nD Cert.KernelMemNormIdeal.τ).loc Cert.KernelMemNormIdeal.main_arg2))
      ∧ r.2.sem = fun _ => 0)

def quiescent_ReferenceMemNormIdeal [hReferenceMemNormIdeal : Cert.ReferenceMemNormIdeal.Facts] : Prop :=
  ∀ (m : (ℓ : Loc Cert.ReferenceMemNormIdeal.nD Cert.ReferenceMemNormIdeal.τ Cert.ReferenceMemNormIdeal.sig) → Buf (Elt Ideal) ℓ) (g : Dev Cert.ReferenceMemNormIdeal.nD → PrngReg), Pre_ReferenceMemNormIdeal m →
    θ_run (Cert.ReferenceMemNormIdeal.defs (F := Ideal)) (onTc (τ := Cert.ReferenceMemNormIdeal.τ) (Cert.ReferenceMemNormIdeal.main (F := Ideal))) ⟨m, fun _ => 0, g⟩ (fun r => (∀ c : Dev Cert.ReferenceMemNormIdeal.nD,
      r.2.mem ((c.tc : Thread Cert.ReferenceMemNormIdeal.nD Cert.ReferenceMemNormIdeal.τ).loc Cert.ReferenceMemNormIdeal.main_arg0) = m ((c.tc : Thread Cert.ReferenceMemNormIdeal.nD Cert.ReferenceMemNormIdeal.τ).loc Cert.ReferenceMemNormIdeal.main_arg0)
      ∧ r.2.mem ((c.tc : Thread Cert.ReferenceMemNormIdeal.nD Cert.ReferenceMemNormIdeal.τ).loc Cert.ReferenceMemNormIdeal.main_arg1) = m ((c.tc : Thread Cert.ReferenceMemNormIdeal.nD Cert.ReferenceMemNormIdeal.τ).loc Cert.ReferenceMemNormIdeal.main_arg1)
      ∧ r.2.mem ((c.tc : Thread Cert.ReferenceMemNormIdeal.nD Cert.ReferenceMemNormIdeal.τ).loc Cert.ReferenceMemNormIdeal.main_arg2) = m ((c.tc : Thread Cert.ReferenceMemNormIdeal.nD Cert.ReferenceMemNormIdeal.τ).loc Cert.ReferenceMemNormIdeal.main_arg2))
      ∧ r.2.sem = fun _ => 0)

def quiescent_KernelMixNorm [hKernelMixNorm : Cert.KernelMixNorm.Facts] : Prop :=
  ∀ (m : (ℓ : Loc Cert.KernelMixNorm.nD Cert.KernelMixNorm.τ Cert.KernelMixNorm.sig) → Buf (Elt Bits) ℓ) (g : Dev Cert.KernelMixNorm.nD → PrngReg), Pre_KernelMixNorm m →
    θ_run (Cert.KernelMixNorm.defs (F := Bits)) (onTc (τ := Cert.KernelMixNorm.τ) (Cert.KernelMixNorm.main (F := Bits))) ⟨m, fun _ => 0, g⟩ (fun r => (∀ c : Dev Cert.KernelMixNorm.nD,
      r.2.mem ((c.tc : Thread Cert.KernelMixNorm.nD Cert.KernelMixNorm.τ).loc Cert.KernelMixNorm.main_arg0) = m ((c.tc : Thread Cert.KernelMixNorm.nD Cert.KernelMixNorm.τ).loc Cert.KernelMixNorm.main_arg0)
      ∧ r.2.mem ((c.tc : Thread Cert.KernelMixNorm.nD Cert.KernelMixNorm.τ).loc Cert.KernelMixNorm.main_arg1) = m ((c.tc : Thread Cert.KernelMixNorm.nD Cert.KernelMixNorm.τ).loc Cert.KernelMixNorm.main_arg1)
      ∧ r.2.mem ((c.tc : Thread Cert.KernelMixNorm.nD Cert.KernelMixNorm.τ).loc Cert.KernelMixNorm.main_arg2) = m ((c.tc : Thread Cert.KernelMixNorm.nD Cert.KernelMixNorm.τ).loc Cert.KernelMixNorm.main_arg2)
      ∧ r.2.mem ((c.tc : Thread Cert.KernelMixNorm.nD Cert.KernelMixNorm.τ).loc Cert.KernelMixNorm.main_arg3) = m ((c.tc : Thread Cert.KernelMixNorm.nD Cert.KernelMixNorm.τ).loc Cert.KernelMixNorm.main_arg3)
      ∧ r.2.mem ((c.tc : Thread Cert.KernelMixNorm.nD Cert.KernelMixNorm.τ).loc Cert.KernelMixNorm.main_arg4) = m ((c.tc : Thread Cert.KernelMixNorm.nD Cert.KernelMixNorm.τ).loc Cert.KernelMixNorm.main_arg4))
      ∧ r.2.sem = fun _ => 0)

def quiescent_KernelMixNormIdeal [hKernelMixNormIdeal : Cert.KernelMixNormIdeal.Facts] : Prop :=
  ∀ (m : (ℓ : Loc Cert.KernelMixNormIdeal.nD Cert.KernelMixNormIdeal.τ Cert.KernelMixNormIdeal.sig) → Buf (Elt Ideal) ℓ) (g : Dev Cert.KernelMixNormIdeal.nD → PrngReg), Pre_KernelMixNormIdeal m →
    θ_run (Cert.KernelMixNormIdeal.defs (F := Ideal)) (onTc (τ := Cert.KernelMixNormIdeal.τ) (Cert.KernelMixNormIdeal.main (F := Ideal))) ⟨m, fun _ => 0, g⟩ (fun r => (∀ c : Dev Cert.KernelMixNormIdeal.nD,
      r.2.mem ((c.tc : Thread Cert.KernelMixNormIdeal.nD Cert.KernelMixNormIdeal.τ).loc Cert.KernelMixNormIdeal.main_arg0) = m ((c.tc : Thread Cert.KernelMixNormIdeal.nD Cert.KernelMixNormIdeal.τ).loc Cert.KernelMixNormIdeal.main_arg0)
      ∧ r.2.mem ((c.tc : Thread Cert.KernelMixNormIdeal.nD Cert.KernelMixNormIdeal.τ).loc Cert.KernelMixNormIdeal.main_arg1) = m ((c.tc : Thread Cert.KernelMixNormIdeal.nD Cert.KernelMixNormIdeal.τ).loc Cert.KernelMixNormIdeal.main_arg1)
      ∧ r.2.mem ((c.tc : Thread Cert.KernelMixNormIdeal.nD Cert.KernelMixNormIdeal.τ).loc Cert.KernelMixNormIdeal.main_arg2) = m ((c.tc : Thread Cert.KernelMixNormIdeal.nD Cert.KernelMixNormIdeal.τ).loc Cert.KernelMixNormIdeal.main_arg2)
      ∧ r.2.mem ((c.tc : Thread Cert.KernelMixNormIdeal.nD Cert.KernelMixNormIdeal.τ).loc Cert.KernelMixNormIdeal.main_arg3) = m ((c.tc : Thread Cert.KernelMixNormIdeal.nD Cert.KernelMixNormIdeal.τ).loc Cert.KernelMixNormIdeal.main_arg3)
      ∧ r.2.mem ((c.tc : Thread Cert.KernelMixNormIdeal.nD Cert.KernelMixNormIdeal.τ).loc Cert.KernelMixNormIdeal.main_arg4) = m ((c.tc : Thread Cert.KernelMixNormIdeal.nD Cert.KernelMixNormIdeal.τ).loc Cert.KernelMixNormIdeal.main_arg4))
      ∧ r.2.sem = fun _ => 0)

def quiescent_KernelMixNormIdeal_pre_finite_mixnorm [hKernelMixNormIdeal : Cert.KernelMixNormIdeal.Facts] [hPre_finite_mixnorm : Cert.Pre_finite_mixnorm.Facts] : Prop :=
  ∀ (m : (ℓ : Loc Cert.KernelMixNormIdeal.nD Cert.KernelMixNormIdeal.τ Cert.KernelMixNormIdeal.sig) → Buf (Elt Ideal) ℓ) (g : Dev Cert.KernelMixNormIdeal.nD → PrngReg), Pre_KernelMixNormIdeal_finite_mixnorm m →
    θ_run (Cert.KernelMixNormIdeal.defs (F := Ideal)) (onTc (τ := Cert.KernelMixNormIdeal.τ) (Cert.KernelMixNormIdeal.main (F := Ideal))) ⟨m, fun _ => 0, g⟩ (fun r => (∀ c : Dev Cert.KernelMixNormIdeal.nD,
      r.2.mem ((c.tc : Thread Cert.KernelMixNormIdeal.nD Cert.KernelMixNormIdeal.τ).loc Cert.KernelMixNormIdeal.main_arg0) = m ((c.tc : Thread Cert.KernelMixNormIdeal.nD Cert.KernelMixNormIdeal.τ).loc Cert.KernelMixNormIdeal.main_arg0)
      ∧ r.2.mem ((c.tc : Thread Cert.KernelMixNormIdeal.nD Cert.KernelMixNormIdeal.τ).loc Cert.KernelMixNormIdeal.main_arg1) = m ((c.tc : Thread Cert.KernelMixNormIdeal.nD Cert.KernelMixNormIdeal.τ).loc Cert.KernelMixNormIdeal.main_arg1)
      ∧ r.2.mem ((c.tc : Thread Cert.KernelMixNormIdeal.nD Cert.KernelMixNormIdeal.τ).loc Cert.KernelMixNormIdeal.main_arg2) = m ((c.tc : Thread Cert.KernelMixNormIdeal.nD Cert.KernelMixNormIdeal.τ).loc Cert.KernelMixNormIdeal.main_arg2)
      ∧ r.2.mem ((c.tc : Thread Cert.KernelMixNormIdeal.nD Cert.KernelMixNormIdeal.τ).loc Cert.KernelMixNormIdeal.main_arg3) = m ((c.tc : Thread Cert.KernelMixNormIdeal.nD Cert.KernelMixNormIdeal.τ).loc Cert.KernelMixNormIdeal.main_arg3)
      ∧ r.2.mem ((c.tc : Thread Cert.KernelMixNormIdeal.nD Cert.KernelMixNormIdeal.τ).loc Cert.KernelMixNormIdeal.main_arg4) = m ((c.tc : Thread Cert.KernelMixNormIdeal.nD Cert.KernelMixNormIdeal.τ).loc Cert.KernelMixNormIdeal.main_arg4))
      ∧ r.2.sem = fun _ => 0)

def quiescent_ReferenceMixNormIdeal [hReferenceMixNormIdeal : Cert.ReferenceMixNormIdeal.Facts] : Prop :=
  ∀ (m : (ℓ : Loc Cert.ReferenceMixNormIdeal.nD Cert.ReferenceMixNormIdeal.τ Cert.ReferenceMixNormIdeal.sig) → Buf (Elt Ideal) ℓ) (g : Dev Cert.ReferenceMixNormIdeal.nD → PrngReg), Pre_ReferenceMixNormIdeal m →
    θ_run (Cert.ReferenceMixNormIdeal.defs (F := Ideal)) (onTc (τ := Cert.ReferenceMixNormIdeal.τ) (Cert.ReferenceMixNormIdeal.main (F := Ideal))) ⟨m, fun _ => 0, g⟩ (fun r => (∀ c : Dev Cert.ReferenceMixNormIdeal.nD,
      r.2.mem ((c.tc : Thread Cert.ReferenceMixNormIdeal.nD Cert.ReferenceMixNormIdeal.τ).loc Cert.ReferenceMixNormIdeal.main_arg0) = m ((c.tc : Thread Cert.ReferenceMixNormIdeal.nD Cert.ReferenceMixNormIdeal.τ).loc Cert.ReferenceMixNormIdeal.main_arg0)
      ∧ r.2.mem ((c.tc : Thread Cert.ReferenceMixNormIdeal.nD Cert.ReferenceMixNormIdeal.τ).loc Cert.ReferenceMixNormIdeal.main_arg1) = m ((c.tc : Thread Cert.ReferenceMixNormIdeal.nD Cert.ReferenceMixNormIdeal.τ).loc Cert.ReferenceMixNormIdeal.main_arg1)
      ∧ r.2.mem ((c.tc : Thread Cert.ReferenceMixNormIdeal.nD Cert.ReferenceMixNormIdeal.τ).loc Cert.ReferenceMixNormIdeal.main_arg2) = m ((c.tc : Thread Cert.ReferenceMixNormIdeal.nD Cert.ReferenceMixNormIdeal.τ).loc Cert.ReferenceMixNormIdeal.main_arg2)
      ∧ r.2.mem ((c.tc : Thread Cert.ReferenceMixNormIdeal.nD Cert.ReferenceMixNormIdeal.τ).loc Cert.ReferenceMixNormIdeal.main_arg3) = m ((c.tc : Thread Cert.ReferenceMixNormIdeal.nD Cert.ReferenceMixNormIdeal.τ).loc Cert.ReferenceMixNormIdeal.main_arg3)
      ∧ r.2.mem ((c.tc : Thread Cert.ReferenceMixNormIdeal.nD Cert.ReferenceMixNormIdeal.τ).loc Cert.ReferenceMixNormIdeal.main_arg4) = m ((c.tc : Thread Cert.ReferenceMixNormIdeal.nD Cert.ReferenceMixNormIdeal.τ).loc Cert.ReferenceMixNormIdeal.main_arg4))
      ∧ r.2.sem = fun _ => 0)

def quiescent_ReferenceMixNormIdeal_pre_finite_mixnorm [hReferenceMixNormIdeal : Cert.ReferenceMixNormIdeal.Facts] [hPre_finite_mixnorm : Cert.Pre_finite_mixnorm.Facts] : Prop :=
  ∀ (m : (ℓ : Loc Cert.ReferenceMixNormIdeal.nD Cert.ReferenceMixNormIdeal.τ Cert.ReferenceMixNormIdeal.sig) → Buf (Elt Ideal) ℓ) (g : Dev Cert.ReferenceMixNormIdeal.nD → PrngReg), Pre_ReferenceMixNormIdeal_finite_mixnorm m →
    θ_run (Cert.ReferenceMixNormIdeal.defs (F := Ideal)) (onTc (τ := Cert.ReferenceMixNormIdeal.τ) (Cert.ReferenceMixNormIdeal.main (F := Ideal))) ⟨m, fun _ => 0, g⟩ (fun r => (∀ c : Dev Cert.ReferenceMixNormIdeal.nD,
      r.2.mem ((c.tc : Thread Cert.ReferenceMixNormIdeal.nD Cert.ReferenceMixNormIdeal.τ).loc Cert.ReferenceMixNormIdeal.main_arg0) = m ((c.tc : Thread Cert.ReferenceMixNormIdeal.nD Cert.ReferenceMixNormIdeal.τ).loc Cert.ReferenceMixNormIdeal.main_arg0)
      ∧ r.2.mem ((c.tc : Thread Cert.ReferenceMixNormIdeal.nD Cert.ReferenceMixNormIdeal.τ).loc Cert.ReferenceMixNormIdeal.main_arg1) = m ((c.tc : Thread Cert.ReferenceMixNormIdeal.nD Cert.ReferenceMixNormIdeal.τ).loc Cert.ReferenceMixNormIdeal.main_arg1)
      ∧ r.2.mem ((c.tc : Thread Cert.ReferenceMixNormIdeal.nD Cert.ReferenceMixNormIdeal.τ).loc Cert.ReferenceMixNormIdeal.main_arg2) = m ((c.tc : Thread Cert.ReferenceMixNormIdeal.nD Cert.ReferenceMixNormIdeal.τ).loc Cert.ReferenceMixNormIdeal.main_arg2)
      ∧ r.2.mem ((c.tc : Thread Cert.ReferenceMixNormIdeal.nD Cert.ReferenceMixNormIdeal.τ).loc Cert.ReferenceMixNormIdeal.main_arg3) = m ((c.tc : Thread Cert.ReferenceMixNormIdeal.nD Cert.ReferenceMixNormIdeal.τ).loc Cert.ReferenceMixNormIdeal.main_arg3)
      ∧ r.2.mem ((c.tc : Thread Cert.ReferenceMixNormIdeal.nD Cert.ReferenceMixNormIdeal.τ).loc Cert.ReferenceMixNormIdeal.main_arg4) = m ((c.tc : Thread Cert.ReferenceMixNormIdeal.nD Cert.ReferenceMixNormIdeal.τ).loc Cert.ReferenceMixNormIdeal.main_arg4))
      ∧ r.2.sem = fun _ => 0)

def quiescent_KernelDH3 [hKernelDH3 : Cert.KernelDH3.Facts] : Prop :=
  ∀ (m : (ℓ : Loc Cert.KernelDH3.nD Cert.KernelDH3.τ Cert.KernelDH3.sig) → Buf (Elt Bits) ℓ) (g : Dev Cert.KernelDH3.nD → PrngReg), Pre_KernelDH3 m →
    θ_run (Cert.KernelDH3.defs (F := Bits)) (onTc (τ := Cert.KernelDH3.τ) (Cert.KernelDH3.main (F := Bits))) ⟨m, fun _ => 0, g⟩ (fun r => (∀ c : Dev Cert.KernelDH3.nD,
      r.2.mem ((c.tc : Thread Cert.KernelDH3.nD Cert.KernelDH3.τ).loc Cert.KernelDH3.main_arg0) = m ((c.tc : Thread Cert.KernelDH3.nD Cert.KernelDH3.τ).loc Cert.KernelDH3.main_arg0)
      ∧ r.2.mem ((c.tc : Thread Cert.KernelDH3.nD Cert.KernelDH3.τ).loc Cert.KernelDH3.main_arg1) = m ((c.tc : Thread Cert.KernelDH3.nD Cert.KernelDH3.τ).loc Cert.KernelDH3.main_arg1)
      ∧ r.2.mem ((c.tc : Thread Cert.KernelDH3.nD Cert.KernelDH3.τ).loc Cert.KernelDH3.main_arg2) = m ((c.tc : Thread Cert.KernelDH3.nD Cert.KernelDH3.τ).loc Cert.KernelDH3.main_arg2)
      ∧ r.2.mem ((c.tc : Thread Cert.KernelDH3.nD Cert.KernelDH3.τ).loc Cert.KernelDH3.main_arg3) = m ((c.tc : Thread Cert.KernelDH3.nD Cert.KernelDH3.τ).loc Cert.KernelDH3.main_arg3)
      ∧ r.2.mem ((c.tc : Thread Cert.KernelDH3.nD Cert.KernelDH3.τ).loc Cert.KernelDH3.main_arg4) = m ((c.tc : Thread Cert.KernelDH3.nD Cert.KernelDH3.τ).loc Cert.KernelDH3.main_arg4))
      ∧ r.2.sem = fun _ => 0)

def quiescent_KernelDH3Ideal [hKernelDH3Ideal : Cert.KernelDH3Ideal.Facts] : Prop :=
  ∀ (m : (ℓ : Loc Cert.KernelDH3Ideal.nD Cert.KernelDH3Ideal.τ Cert.KernelDH3Ideal.sig) → Buf (Elt Ideal) ℓ) (g : Dev Cert.KernelDH3Ideal.nD → PrngReg), Pre_KernelDH3Ideal m →
    θ_run (Cert.KernelDH3Ideal.defs (F := Ideal)) (onTc (τ := Cert.KernelDH3Ideal.τ) (Cert.KernelDH3Ideal.main (F := Ideal))) ⟨m, fun _ => 0, g⟩ (fun r => (∀ c : Dev Cert.KernelDH3Ideal.nD,
      r.2.mem ((c.tc : Thread Cert.KernelDH3Ideal.nD Cert.KernelDH3Ideal.τ).loc Cert.KernelDH3Ideal.main_arg0) = m ((c.tc : Thread Cert.KernelDH3Ideal.nD Cert.KernelDH3Ideal.τ).loc Cert.KernelDH3Ideal.main_arg0)
      ∧ r.2.mem ((c.tc : Thread Cert.KernelDH3Ideal.nD Cert.KernelDH3Ideal.τ).loc Cert.KernelDH3Ideal.main_arg1) = m ((c.tc : Thread Cert.KernelDH3Ideal.nD Cert.KernelDH3Ideal.τ).loc Cert.KernelDH3Ideal.main_arg1)
      ∧ r.2.mem ((c.tc : Thread Cert.KernelDH3Ideal.nD Cert.KernelDH3Ideal.τ).loc Cert.KernelDH3Ideal.main_arg2) = m ((c.tc : Thread Cert.KernelDH3Ideal.nD Cert.KernelDH3Ideal.τ).loc Cert.KernelDH3Ideal.main_arg2)
      ∧ r.2.mem ((c.tc : Thread Cert.KernelDH3Ideal.nD Cert.KernelDH3Ideal.τ).loc Cert.KernelDH3Ideal.main_arg3) = m ((c.tc : Thread Cert.KernelDH3Ideal.nD Cert.KernelDH3Ideal.τ).loc Cert.KernelDH3Ideal.main_arg3)
      ∧ r.2.mem ((c.tc : Thread Cert.KernelDH3Ideal.nD Cert.KernelDH3Ideal.τ).loc Cert.KernelDH3Ideal.main_arg4) = m ((c.tc : Thread Cert.KernelDH3Ideal.nD Cert.KernelDH3Ideal.τ).loc Cert.KernelDH3Ideal.main_arg4))
      ∧ r.2.sem = fun _ => 0)

def quiescent_KernelDH3Ideal_pre_finite_dh3 [hKernelDH3Ideal : Cert.KernelDH3Ideal.Facts] [hPre_finite_dh3 : Cert.Pre_finite_dh3.Facts] : Prop :=
  ∀ (m : (ℓ : Loc Cert.KernelDH3Ideal.nD Cert.KernelDH3Ideal.τ Cert.KernelDH3Ideal.sig) → Buf (Elt Ideal) ℓ) (g : Dev Cert.KernelDH3Ideal.nD → PrngReg), Pre_KernelDH3Ideal_finite_dh3 m →
    θ_run (Cert.KernelDH3Ideal.defs (F := Ideal)) (onTc (τ := Cert.KernelDH3Ideal.τ) (Cert.KernelDH3Ideal.main (F := Ideal))) ⟨m, fun _ => 0, g⟩ (fun r => (∀ c : Dev Cert.KernelDH3Ideal.nD,
      r.2.mem ((c.tc : Thread Cert.KernelDH3Ideal.nD Cert.KernelDH3Ideal.τ).loc Cert.KernelDH3Ideal.main_arg0) = m ((c.tc : Thread Cert.KernelDH3Ideal.nD Cert.KernelDH3Ideal.τ).loc Cert.KernelDH3Ideal.main_arg0)
      ∧ r.2.mem ((c.tc : Thread Cert.KernelDH3Ideal.nD Cert.KernelDH3Ideal.τ).loc Cert.KernelDH3Ideal.main_arg1) = m ((c.tc : Thread Cert.KernelDH3Ideal.nD Cert.KernelDH3Ideal.τ).loc Cert.KernelDH3Ideal.main_arg1)
      ∧ r.2.mem ((c.tc : Thread Cert.KernelDH3Ideal.nD Cert.KernelDH3Ideal.τ).loc Cert.KernelDH3Ideal.main_arg2) = m ((c.tc : Thread Cert.KernelDH3Ideal.nD Cert.KernelDH3Ideal.τ).loc Cert.KernelDH3Ideal.main_arg2)
      ∧ r.2.mem ((c.tc : Thread Cert.KernelDH3Ideal.nD Cert.KernelDH3Ideal.τ).loc Cert.KernelDH3Ideal.main_arg3) = m ((c.tc : Thread Cert.KernelDH3Ideal.nD Cert.KernelDH3Ideal.τ).loc Cert.KernelDH3Ideal.main_arg3)
      ∧ r.2.mem ((c.tc : Thread Cert.KernelDH3Ideal.nD Cert.KernelDH3Ideal.τ).loc Cert.KernelDH3Ideal.main_arg4) = m ((c.tc : Thread Cert.KernelDH3Ideal.nD Cert.KernelDH3Ideal.τ).loc Cert.KernelDH3Ideal.main_arg4))
      ∧ r.2.sem = fun _ => 0)

def quiescent_ReferenceDH3Ideal [hReferenceDH3Ideal : Cert.ReferenceDH3Ideal.Facts] : Prop :=
  ∀ (m : (ℓ : Loc Cert.ReferenceDH3Ideal.nD Cert.ReferenceDH3Ideal.τ Cert.ReferenceDH3Ideal.sig) → Buf (Elt Ideal) ℓ) (g : Dev Cert.ReferenceDH3Ideal.nD → PrngReg), Pre_ReferenceDH3Ideal m →
    θ_run (Cert.ReferenceDH3Ideal.defs (F := Ideal)) (onTc (τ := Cert.ReferenceDH3Ideal.τ) (Cert.ReferenceDH3Ideal.main (F := Ideal))) ⟨m, fun _ => 0, g⟩ (fun r => (∀ c : Dev Cert.ReferenceDH3Ideal.nD,
      r.2.mem ((c.tc : Thread Cert.ReferenceDH3Ideal.nD Cert.ReferenceDH3Ideal.τ).loc Cert.ReferenceDH3Ideal.main_arg0) = m ((c.tc : Thread Cert.ReferenceDH3Ideal.nD Cert.ReferenceDH3Ideal.τ).loc Cert.ReferenceDH3Ideal.main_arg0)
      ∧ r.2.mem ((c.tc : Thread Cert.ReferenceDH3Ideal.nD Cert.ReferenceDH3Ideal.τ).loc Cert.ReferenceDH3Ideal.main_arg1) = m ((c.tc : Thread Cert.ReferenceDH3Ideal.nD Cert.ReferenceDH3Ideal.τ).loc Cert.ReferenceDH3Ideal.main_arg1)
      ∧ r.2.mem ((c.tc : Thread Cert.ReferenceDH3Ideal.nD Cert.ReferenceDH3Ideal.τ).loc Cert.ReferenceDH3Ideal.main_arg2) = m ((c.tc : Thread Cert.ReferenceDH3Ideal.nD Cert.ReferenceDH3Ideal.τ).loc Cert.ReferenceDH3Ideal.main_arg2)
      ∧ r.2.mem ((c.tc : Thread Cert.ReferenceDH3Ideal.nD Cert.ReferenceDH3Ideal.τ).loc Cert.ReferenceDH3Ideal.main_arg3) = m ((c.tc : Thread Cert.ReferenceDH3Ideal.nD Cert.ReferenceDH3Ideal.τ).loc Cert.ReferenceDH3Ideal.main_arg3)
      ∧ r.2.mem ((c.tc : Thread Cert.ReferenceDH3Ideal.nD Cert.ReferenceDH3Ideal.τ).loc Cert.ReferenceDH3Ideal.main_arg4) = m ((c.tc : Thread Cert.ReferenceDH3Ideal.nD Cert.ReferenceDH3Ideal.τ).loc Cert.ReferenceDH3Ideal.main_arg4))
      ∧ r.2.sem = fun _ => 0)

def quiescent_ReferenceDH3Ideal_pre_finite_dh3 [hReferenceDH3Ideal : Cert.ReferenceDH3Ideal.Facts] [hPre_finite_dh3 : Cert.Pre_finite_dh3.Facts] : Prop :=
  ∀ (m : (ℓ : Loc Cert.ReferenceDH3Ideal.nD Cert.ReferenceDH3Ideal.τ Cert.ReferenceDH3Ideal.sig) → Buf (Elt Ideal) ℓ) (g : Dev Cert.ReferenceDH3Ideal.nD → PrngReg), Pre_ReferenceDH3Ideal_finite_dh3 m →
    θ_run (Cert.ReferenceDH3Ideal.defs (F := Ideal)) (onTc (τ := Cert.ReferenceDH3Ideal.τ) (Cert.ReferenceDH3Ideal.main (F := Ideal))) ⟨m, fun _ => 0, g⟩ (fun r => (∀ c : Dev Cert.ReferenceDH3Ideal.nD,
      r.2.mem ((c.tc : Thread Cert.ReferenceDH3Ideal.nD Cert.ReferenceDH3Ideal.τ).loc Cert.ReferenceDH3Ideal.main_arg0) = m ((c.tc : Thread Cert.ReferenceDH3Ideal.nD Cert.ReferenceDH3Ideal.τ).loc Cert.ReferenceDH3Ideal.main_arg0)
      ∧ r.2.mem ((c.tc : Thread Cert.ReferenceDH3Ideal.nD Cert.ReferenceDH3Ideal.τ).loc Cert.ReferenceDH3Ideal.main_arg1) = m ((c.tc : Thread Cert.ReferenceDH3Ideal.nD Cert.ReferenceDH3Ideal.τ).loc Cert.ReferenceDH3Ideal.main_arg1)
      ∧ r.2.mem ((c.tc : Thread Cert.ReferenceDH3Ideal.nD Cert.ReferenceDH3Ideal.τ).loc Cert.ReferenceDH3Ideal.main_arg2) = m ((c.tc : Thread Cert.ReferenceDH3Ideal.nD Cert.ReferenceDH3Ideal.τ).loc Cert.ReferenceDH3Ideal.main_arg2)
      ∧ r.2.mem ((c.tc : Thread Cert.ReferenceDH3Ideal.nD Cert.ReferenceDH3Ideal.τ).loc Cert.ReferenceDH3Ideal.main_arg3) = m ((c.tc : Thread Cert.ReferenceDH3Ideal.nD Cert.ReferenceDH3Ideal.τ).loc Cert.ReferenceDH3Ideal.main_arg3)
      ∧ r.2.mem ((c.tc : Thread Cert.ReferenceDH3Ideal.nD Cert.ReferenceDH3Ideal.τ).loc Cert.ReferenceDH3Ideal.main_arg4) = m ((c.tc : Thread Cert.ReferenceDH3Ideal.nD Cert.ReferenceDH3Ideal.τ).loc Cert.ReferenceDH3Ideal.main_arg4))
      ∧ r.2.sem = fun _ => 0)

def quiescent_KernelDH2 [hKernelDH2 : Cert.KernelDH2.Facts] : Prop :=
  ∀ (m : (ℓ : Loc Cert.KernelDH2.nD Cert.KernelDH2.τ Cert.KernelDH2.sig) → Buf (Elt Bits) ℓ) (g : Dev Cert.KernelDH2.nD → PrngReg), Pre_KernelDH2 m →
    θ_run (Cert.KernelDH2.defs (F := Bits)) (onTc (τ := Cert.KernelDH2.τ) (Cert.KernelDH2.main (F := Bits))) ⟨m, fun _ => 0, g⟩ (fun r => (∀ c : Dev Cert.KernelDH2.nD,
      r.2.mem ((c.tc : Thread Cert.KernelDH2.nD Cert.KernelDH2.τ).loc Cert.KernelDH2.main_arg0) = m ((c.tc : Thread Cert.KernelDH2.nD Cert.KernelDH2.τ).loc Cert.KernelDH2.main_arg0)
      ∧ r.2.mem ((c.tc : Thread Cert.KernelDH2.nD Cert.KernelDH2.τ).loc Cert.KernelDH2.main_arg1) = m ((c.tc : Thread Cert.KernelDH2.nD Cert.KernelDH2.τ).loc Cert.KernelDH2.main_arg1)
      ∧ r.2.mem ((c.tc : Thread Cert.KernelDH2.nD Cert.KernelDH2.τ).loc Cert.KernelDH2.main_arg2) = m ((c.tc : Thread Cert.KernelDH2.nD Cert.KernelDH2.τ).loc Cert.KernelDH2.main_arg2)
      ∧ r.2.mem ((c.tc : Thread Cert.KernelDH2.nD Cert.KernelDH2.τ).loc Cert.KernelDH2.main_arg3) = m ((c.tc : Thread Cert.KernelDH2.nD Cert.KernelDH2.τ).loc Cert.KernelDH2.main_arg3)
      ∧ r.2.mem ((c.tc : Thread Cert.KernelDH2.nD Cert.KernelDH2.τ).loc Cert.KernelDH2.main_arg4) = m ((c.tc : Thread Cert.KernelDH2.nD Cert.KernelDH2.τ).loc Cert.KernelDH2.main_arg4))
      ∧ r.2.sem = fun _ => 0)

def quiescent_KernelDH2Ideal [hKernelDH2Ideal : Cert.KernelDH2Ideal.Facts] : Prop :=
  ∀ (m : (ℓ : Loc Cert.KernelDH2Ideal.nD Cert.KernelDH2Ideal.τ Cert.KernelDH2Ideal.sig) → Buf (Elt Ideal) ℓ) (g : Dev Cert.KernelDH2Ideal.nD → PrngReg), Pre_KernelDH2Ideal m →
    θ_run (Cert.KernelDH2Ideal.defs (F := Ideal)) (onTc (τ := Cert.KernelDH2Ideal.τ) (Cert.KernelDH2Ideal.main (F := Ideal))) ⟨m, fun _ => 0, g⟩ (fun r => (∀ c : Dev Cert.KernelDH2Ideal.nD,
      r.2.mem ((c.tc : Thread Cert.KernelDH2Ideal.nD Cert.KernelDH2Ideal.τ).loc Cert.KernelDH2Ideal.main_arg0) = m ((c.tc : Thread Cert.KernelDH2Ideal.nD Cert.KernelDH2Ideal.τ).loc Cert.KernelDH2Ideal.main_arg0)
      ∧ r.2.mem ((c.tc : Thread Cert.KernelDH2Ideal.nD Cert.KernelDH2Ideal.τ).loc Cert.KernelDH2Ideal.main_arg1) = m ((c.tc : Thread Cert.KernelDH2Ideal.nD Cert.KernelDH2Ideal.τ).loc Cert.KernelDH2Ideal.main_arg1)
      ∧ r.2.mem ((c.tc : Thread Cert.KernelDH2Ideal.nD Cert.KernelDH2Ideal.τ).loc Cert.KernelDH2Ideal.main_arg2) = m ((c.tc : Thread Cert.KernelDH2Ideal.nD Cert.KernelDH2Ideal.τ).loc Cert.KernelDH2Ideal.main_arg2)
      ∧ r.2.mem ((c.tc : Thread Cert.KernelDH2Ideal.nD Cert.KernelDH2Ideal.τ).loc Cert.KernelDH2Ideal.main_arg3) = m ((c.tc : Thread Cert.KernelDH2Ideal.nD Cert.KernelDH2Ideal.τ).loc Cert.KernelDH2Ideal.main_arg3)
      ∧ r.2.mem ((c.tc : Thread Cert.KernelDH2Ideal.nD Cert.KernelDH2Ideal.τ).loc Cert.KernelDH2Ideal.main_arg4) = m ((c.tc : Thread Cert.KernelDH2Ideal.nD Cert.KernelDH2Ideal.τ).loc Cert.KernelDH2Ideal.main_arg4))
      ∧ r.2.sem = fun _ => 0)

def quiescent_KernelDH2Ideal_pre_finite_dh2 [hKernelDH2Ideal : Cert.KernelDH2Ideal.Facts] [hPre_finite_dh2 : Cert.Pre_finite_dh2.Facts] : Prop :=
  ∀ (m : (ℓ : Loc Cert.KernelDH2Ideal.nD Cert.KernelDH2Ideal.τ Cert.KernelDH2Ideal.sig) → Buf (Elt Ideal) ℓ) (g : Dev Cert.KernelDH2Ideal.nD → PrngReg), Pre_KernelDH2Ideal_finite_dh2 m →
    θ_run (Cert.KernelDH2Ideal.defs (F := Ideal)) (onTc (τ := Cert.KernelDH2Ideal.τ) (Cert.KernelDH2Ideal.main (F := Ideal))) ⟨m, fun _ => 0, g⟩ (fun r => (∀ c : Dev Cert.KernelDH2Ideal.nD,
      r.2.mem ((c.tc : Thread Cert.KernelDH2Ideal.nD Cert.KernelDH2Ideal.τ).loc Cert.KernelDH2Ideal.main_arg0) = m ((c.tc : Thread Cert.KernelDH2Ideal.nD Cert.KernelDH2Ideal.τ).loc Cert.KernelDH2Ideal.main_arg0)
      ∧ r.2.mem ((c.tc : Thread Cert.KernelDH2Ideal.nD Cert.KernelDH2Ideal.τ).loc Cert.KernelDH2Ideal.main_arg1) = m ((c.tc : Thread Cert.KernelDH2Ideal.nD Cert.KernelDH2Ideal.τ).loc Cert.KernelDH2Ideal.main_arg1)
      ∧ r.2.mem ((c.tc : Thread Cert.KernelDH2Ideal.nD Cert.KernelDH2Ideal.τ).loc Cert.KernelDH2Ideal.main_arg2) = m ((c.tc : Thread Cert.KernelDH2Ideal.nD Cert.KernelDH2Ideal.τ).loc Cert.KernelDH2Ideal.main_arg2)
      ∧ r.2.mem ((c.tc : Thread Cert.KernelDH2Ideal.nD Cert.KernelDH2Ideal.τ).loc Cert.KernelDH2Ideal.main_arg3) = m ((c.tc : Thread Cert.KernelDH2Ideal.nD Cert.KernelDH2Ideal.τ).loc Cert.KernelDH2Ideal.main_arg3)
      ∧ r.2.mem ((c.tc : Thread Cert.KernelDH2Ideal.nD Cert.KernelDH2Ideal.τ).loc Cert.KernelDH2Ideal.main_arg4) = m ((c.tc : Thread Cert.KernelDH2Ideal.nD Cert.KernelDH2Ideal.τ).loc Cert.KernelDH2Ideal.main_arg4))
      ∧ r.2.sem = fun _ => 0)

def quiescent_ReferenceDH2Ideal [hReferenceDH2Ideal : Cert.ReferenceDH2Ideal.Facts] : Prop :=
  ∀ (m : (ℓ : Loc Cert.ReferenceDH2Ideal.nD Cert.ReferenceDH2Ideal.τ Cert.ReferenceDH2Ideal.sig) → Buf (Elt Ideal) ℓ) (g : Dev Cert.ReferenceDH2Ideal.nD → PrngReg), Pre_ReferenceDH2Ideal m →
    θ_run (Cert.ReferenceDH2Ideal.defs (F := Ideal)) (onTc (τ := Cert.ReferenceDH2Ideal.τ) (Cert.ReferenceDH2Ideal.main (F := Ideal))) ⟨m, fun _ => 0, g⟩ (fun r => (∀ c : Dev Cert.ReferenceDH2Ideal.nD,
      r.2.mem ((c.tc : Thread Cert.ReferenceDH2Ideal.nD Cert.ReferenceDH2Ideal.τ).loc Cert.ReferenceDH2Ideal.main_arg0) = m ((c.tc : Thread Cert.ReferenceDH2Ideal.nD Cert.ReferenceDH2Ideal.τ).loc Cert.ReferenceDH2Ideal.main_arg0)
      ∧ r.2.mem ((c.tc : Thread Cert.ReferenceDH2Ideal.nD Cert.ReferenceDH2Ideal.τ).loc Cert.ReferenceDH2Ideal.main_arg1) = m ((c.tc : Thread Cert.ReferenceDH2Ideal.nD Cert.ReferenceDH2Ideal.τ).loc Cert.ReferenceDH2Ideal.main_arg1)
      ∧ r.2.mem ((c.tc : Thread Cert.ReferenceDH2Ideal.nD Cert.ReferenceDH2Ideal.τ).loc Cert.ReferenceDH2Ideal.main_arg2) = m ((c.tc : Thread Cert.ReferenceDH2Ideal.nD Cert.ReferenceDH2Ideal.τ).loc Cert.ReferenceDH2Ideal.main_arg2)
      ∧ r.2.mem ((c.tc : Thread Cert.ReferenceDH2Ideal.nD Cert.ReferenceDH2Ideal.τ).loc Cert.ReferenceDH2Ideal.main_arg3) = m ((c.tc : Thread Cert.ReferenceDH2Ideal.nD Cert.ReferenceDH2Ideal.τ).loc Cert.ReferenceDH2Ideal.main_arg3)
      ∧ r.2.mem ((c.tc : Thread Cert.ReferenceDH2Ideal.nD Cert.ReferenceDH2Ideal.τ).loc Cert.ReferenceDH2Ideal.main_arg4) = m ((c.tc : Thread Cert.ReferenceDH2Ideal.nD Cert.ReferenceDH2Ideal.τ).loc Cert.ReferenceDH2Ideal.main_arg4))
      ∧ r.2.sem = fun _ => 0)

def quiescent_ReferenceDH2Ideal_pre_finite_dh2 [hReferenceDH2Ideal : Cert.ReferenceDH2Ideal.Facts] [hPre_finite_dh2 : Cert.Pre_finite_dh2.Facts] : Prop :=
  ∀ (m : (ℓ : Loc Cert.ReferenceDH2Ideal.nD Cert.ReferenceDH2Ideal.τ Cert.ReferenceDH2Ideal.sig) → Buf (Elt Ideal) ℓ) (g : Dev Cert.ReferenceDH2Ideal.nD → PrngReg), Pre_ReferenceDH2Ideal_finite_dh2 m →
    θ_run (Cert.ReferenceDH2Ideal.defs (F := Ideal)) (onTc (τ := Cert.ReferenceDH2Ideal.τ) (Cert.ReferenceDH2Ideal.main (F := Ideal))) ⟨m, fun _ => 0, g⟩ (fun r => (∀ c : Dev Cert.ReferenceDH2Ideal.nD,
      r.2.mem ((c.tc : Thread Cert.ReferenceDH2Ideal.nD Cert.ReferenceDH2Ideal.τ).loc Cert.ReferenceDH2Ideal.main_arg0) = m ((c.tc : Thread Cert.ReferenceDH2Ideal.nD Cert.ReferenceDH2Ideal.τ).loc Cert.ReferenceDH2Ideal.main_arg0)
      ∧ r.2.mem ((c.tc : Thread Cert.ReferenceDH2Ideal.nD Cert.ReferenceDH2Ideal.τ).loc Cert.ReferenceDH2Ideal.main_arg1) = m ((c.tc : Thread Cert.ReferenceDH2Ideal.nD Cert.ReferenceDH2Ideal.τ).loc Cert.ReferenceDH2Ideal.main_arg1)
      ∧ r.2.mem ((c.tc : Thread Cert.ReferenceDH2Ideal.nD Cert.ReferenceDH2Ideal.τ).loc Cert.ReferenceDH2Ideal.main_arg2) = m ((c.tc : Thread Cert.ReferenceDH2Ideal.nD Cert.ReferenceDH2Ideal.τ).loc Cert.ReferenceDH2Ideal.main_arg2)
      ∧ r.2.mem ((c.tc : Thread Cert.ReferenceDH2Ideal.nD Cert.ReferenceDH2Ideal.τ).loc Cert.ReferenceDH2Ideal.main_arg3) = m ((c.tc : Thread Cert.ReferenceDH2Ideal.nD Cert.ReferenceDH2Ideal.τ).loc Cert.ReferenceDH2Ideal.main_arg3)
      ∧ r.2.mem ((c.tc : Thread Cert.ReferenceDH2Ideal.nD Cert.ReferenceDH2Ideal.τ).loc Cert.ReferenceDH2Ideal.main_arg4) = m ((c.tc : Thread Cert.ReferenceDH2Ideal.nD Cert.ReferenceDH2Ideal.τ).loc Cert.ReferenceDH2Ideal.main_arg4))
      ∧ r.2.sem = fun _ => 0)

def quiescent_KernelDH1 [hKernelDH1 : Cert.KernelDH1.Facts] : Prop :=
  ∀ (m : (ℓ : Loc Cert.KernelDH1.nD Cert.KernelDH1.τ Cert.KernelDH1.sig) → Buf (Elt Bits) ℓ) (g : Dev Cert.KernelDH1.nD → PrngReg), Pre_KernelDH1 m →
    θ_run (Cert.KernelDH1.defs (F := Bits)) (onTc (τ := Cert.KernelDH1.τ) (Cert.KernelDH1.main (F := Bits))) ⟨m, fun _ => 0, g⟩ (fun r => (∀ c : Dev Cert.KernelDH1.nD,
      r.2.mem ((c.tc : Thread Cert.KernelDH1.nD Cert.KernelDH1.τ).loc Cert.KernelDH1.main_arg0) = m ((c.tc : Thread Cert.KernelDH1.nD Cert.KernelDH1.τ).loc Cert.KernelDH1.main_arg0)
      ∧ r.2.mem ((c.tc : Thread Cert.KernelDH1.nD Cert.KernelDH1.τ).loc Cert.KernelDH1.main_arg1) = m ((c.tc : Thread Cert.KernelDH1.nD Cert.KernelDH1.τ).loc Cert.KernelDH1.main_arg1)
      ∧ r.2.mem ((c.tc : Thread Cert.KernelDH1.nD Cert.KernelDH1.τ).loc Cert.KernelDH1.main_arg2) = m ((c.tc : Thread Cert.KernelDH1.nD Cert.KernelDH1.τ).loc Cert.KernelDH1.main_arg2)
      ∧ r.2.mem ((c.tc : Thread Cert.KernelDH1.nD Cert.KernelDH1.τ).loc Cert.KernelDH1.main_arg3) = m ((c.tc : Thread Cert.KernelDH1.nD Cert.KernelDH1.τ).loc Cert.KernelDH1.main_arg3)
      ∧ r.2.mem ((c.tc : Thread Cert.KernelDH1.nD Cert.KernelDH1.τ).loc Cert.KernelDH1.main_arg4) = m ((c.tc : Thread Cert.KernelDH1.nD Cert.KernelDH1.τ).loc Cert.KernelDH1.main_arg4))
      ∧ r.2.sem = fun _ => 0)

def quiescent_KernelDH1Ideal [hKernelDH1Ideal : Cert.KernelDH1Ideal.Facts] : Prop :=
  ∀ (m : (ℓ : Loc Cert.KernelDH1Ideal.nD Cert.KernelDH1Ideal.τ Cert.KernelDH1Ideal.sig) → Buf (Elt Ideal) ℓ) (g : Dev Cert.KernelDH1Ideal.nD → PrngReg), Pre_KernelDH1Ideal m →
    θ_run (Cert.KernelDH1Ideal.defs (F := Ideal)) (onTc (τ := Cert.KernelDH1Ideal.τ) (Cert.KernelDH1Ideal.main (F := Ideal))) ⟨m, fun _ => 0, g⟩ (fun r => (∀ c : Dev Cert.KernelDH1Ideal.nD,
      r.2.mem ((c.tc : Thread Cert.KernelDH1Ideal.nD Cert.KernelDH1Ideal.τ).loc Cert.KernelDH1Ideal.main_arg0) = m ((c.tc : Thread Cert.KernelDH1Ideal.nD Cert.KernelDH1Ideal.τ).loc Cert.KernelDH1Ideal.main_arg0)
      ∧ r.2.mem ((c.tc : Thread Cert.KernelDH1Ideal.nD Cert.KernelDH1Ideal.τ).loc Cert.KernelDH1Ideal.main_arg1) = m ((c.tc : Thread Cert.KernelDH1Ideal.nD Cert.KernelDH1Ideal.τ).loc Cert.KernelDH1Ideal.main_arg1)
      ∧ r.2.mem ((c.tc : Thread Cert.KernelDH1Ideal.nD Cert.KernelDH1Ideal.τ).loc Cert.KernelDH1Ideal.main_arg2) = m ((c.tc : Thread Cert.KernelDH1Ideal.nD Cert.KernelDH1Ideal.τ).loc Cert.KernelDH1Ideal.main_arg2)
      ∧ r.2.mem ((c.tc : Thread Cert.KernelDH1Ideal.nD Cert.KernelDH1Ideal.τ).loc Cert.KernelDH1Ideal.main_arg3) = m ((c.tc : Thread Cert.KernelDH1Ideal.nD Cert.KernelDH1Ideal.τ).loc Cert.KernelDH1Ideal.main_arg3)
      ∧ r.2.mem ((c.tc : Thread Cert.KernelDH1Ideal.nD Cert.KernelDH1Ideal.τ).loc Cert.KernelDH1Ideal.main_arg4) = m ((c.tc : Thread Cert.KernelDH1Ideal.nD Cert.KernelDH1Ideal.τ).loc Cert.KernelDH1Ideal.main_arg4))
      ∧ r.2.sem = fun _ => 0)

def quiescent_KernelDH1Ideal_pre_finite_dh1 [hKernelDH1Ideal : Cert.KernelDH1Ideal.Facts] [hPre_finite_dh1 : Cert.Pre_finite_dh1.Facts] : Prop :=
  ∀ (m : (ℓ : Loc Cert.KernelDH1Ideal.nD Cert.KernelDH1Ideal.τ Cert.KernelDH1Ideal.sig) → Buf (Elt Ideal) ℓ) (g : Dev Cert.KernelDH1Ideal.nD → PrngReg), Pre_KernelDH1Ideal_finite_dh1 m →
    θ_run (Cert.KernelDH1Ideal.defs (F := Ideal)) (onTc (τ := Cert.KernelDH1Ideal.τ) (Cert.KernelDH1Ideal.main (F := Ideal))) ⟨m, fun _ => 0, g⟩ (fun r => (∀ c : Dev Cert.KernelDH1Ideal.nD,
      r.2.mem ((c.tc : Thread Cert.KernelDH1Ideal.nD Cert.KernelDH1Ideal.τ).loc Cert.KernelDH1Ideal.main_arg0) = m ((c.tc : Thread Cert.KernelDH1Ideal.nD Cert.KernelDH1Ideal.τ).loc Cert.KernelDH1Ideal.main_arg0)
      ∧ r.2.mem ((c.tc : Thread Cert.KernelDH1Ideal.nD Cert.KernelDH1Ideal.τ).loc Cert.KernelDH1Ideal.main_arg1) = m ((c.tc : Thread Cert.KernelDH1Ideal.nD Cert.KernelDH1Ideal.τ).loc Cert.KernelDH1Ideal.main_arg1)
      ∧ r.2.mem ((c.tc : Thread Cert.KernelDH1Ideal.nD Cert.KernelDH1Ideal.τ).loc Cert.KernelDH1Ideal.main_arg2) = m ((c.tc : Thread Cert.KernelDH1Ideal.nD Cert.KernelDH1Ideal.τ).loc Cert.KernelDH1Ideal.main_arg2)
      ∧ r.2.mem ((c.tc : Thread Cert.KernelDH1Ideal.nD Cert.KernelDH1Ideal.τ).loc Cert.KernelDH1Ideal.main_arg3) = m ((c.tc : Thread Cert.KernelDH1Ideal.nD Cert.KernelDH1Ideal.τ).loc Cert.KernelDH1Ideal.main_arg3)
      ∧ r.2.mem ((c.tc : Thread Cert.KernelDH1Ideal.nD Cert.KernelDH1Ideal.τ).loc Cert.KernelDH1Ideal.main_arg4) = m ((c.tc : Thread Cert.KernelDH1Ideal.nD Cert.KernelDH1Ideal.τ).loc Cert.KernelDH1Ideal.main_arg4))
      ∧ r.2.sem = fun _ => 0)

def quiescent_ReferenceDH1Ideal [hReferenceDH1Ideal : Cert.ReferenceDH1Ideal.Facts] : Prop :=
  ∀ (m : (ℓ : Loc Cert.ReferenceDH1Ideal.nD Cert.ReferenceDH1Ideal.τ Cert.ReferenceDH1Ideal.sig) → Buf (Elt Ideal) ℓ) (g : Dev Cert.ReferenceDH1Ideal.nD → PrngReg), Pre_ReferenceDH1Ideal m →
    θ_run (Cert.ReferenceDH1Ideal.defs (F := Ideal)) (onTc (τ := Cert.ReferenceDH1Ideal.τ) (Cert.ReferenceDH1Ideal.main (F := Ideal))) ⟨m, fun _ => 0, g⟩ (fun r => (∀ c : Dev Cert.ReferenceDH1Ideal.nD,
      r.2.mem ((c.tc : Thread Cert.ReferenceDH1Ideal.nD Cert.ReferenceDH1Ideal.τ).loc Cert.ReferenceDH1Ideal.main_arg0) = m ((c.tc : Thread Cert.ReferenceDH1Ideal.nD Cert.ReferenceDH1Ideal.τ).loc Cert.ReferenceDH1Ideal.main_arg0)
      ∧ r.2.mem ((c.tc : Thread Cert.ReferenceDH1Ideal.nD Cert.ReferenceDH1Ideal.τ).loc Cert.ReferenceDH1Ideal.main_arg1) = m ((c.tc : Thread Cert.ReferenceDH1Ideal.nD Cert.ReferenceDH1Ideal.τ).loc Cert.ReferenceDH1Ideal.main_arg1)
      ∧ r.2.mem ((c.tc : Thread Cert.ReferenceDH1Ideal.nD Cert.ReferenceDH1Ideal.τ).loc Cert.ReferenceDH1Ideal.main_arg2) = m ((c.tc : Thread Cert.ReferenceDH1Ideal.nD Cert.ReferenceDH1Ideal.τ).loc Cert.ReferenceDH1Ideal.main_arg2)
      ∧ r.2.mem ((c.tc : Thread Cert.ReferenceDH1Ideal.nD Cert.ReferenceDH1Ideal.τ).loc Cert.ReferenceDH1Ideal.main_arg3) = m ((c.tc : Thread Cert.ReferenceDH1Ideal.nD Cert.ReferenceDH1Ideal.τ).loc Cert.ReferenceDH1Ideal.main_arg3)
      ∧ r.2.mem ((c.tc : Thread Cert.ReferenceDH1Ideal.nD Cert.ReferenceDH1Ideal.τ).loc Cert.ReferenceDH1Ideal.main_arg4) = m ((c.tc : Thread Cert.ReferenceDH1Ideal.nD Cert.ReferenceDH1Ideal.τ).loc Cert.ReferenceDH1Ideal.main_arg4))
      ∧ r.2.sem = fun _ => 0)

def quiescent_ReferenceDH1Ideal_pre_finite_dh1 [hReferenceDH1Ideal : Cert.ReferenceDH1Ideal.Facts] [hPre_finite_dh1 : Cert.Pre_finite_dh1.Facts] : Prop :=
  ∀ (m : (ℓ : Loc Cert.ReferenceDH1Ideal.nD Cert.ReferenceDH1Ideal.τ Cert.ReferenceDH1Ideal.sig) → Buf (Elt Ideal) ℓ) (g : Dev Cert.ReferenceDH1Ideal.nD → PrngReg), Pre_ReferenceDH1Ideal_finite_dh1 m →
    θ_run (Cert.ReferenceDH1Ideal.defs (F := Ideal)) (onTc (τ := Cert.ReferenceDH1Ideal.τ) (Cert.ReferenceDH1Ideal.main (F := Ideal))) ⟨m, fun _ => 0, g⟩ (fun r => (∀ c : Dev Cert.ReferenceDH1Ideal.nD,
      r.2.mem ((c.tc : Thread Cert.ReferenceDH1Ideal.nD Cert.ReferenceDH1Ideal.τ).loc Cert.ReferenceDH1Ideal.main_arg0) = m ((c.tc : Thread Cert.ReferenceDH1Ideal.nD Cert.ReferenceDH1Ideal.τ).loc Cert.ReferenceDH1Ideal.main_arg0)
      ∧ r.2.mem ((c.tc : Thread Cert.ReferenceDH1Ideal.nD Cert.ReferenceDH1Ideal.τ).loc Cert.ReferenceDH1Ideal.main_arg1) = m ((c.tc : Thread Cert.ReferenceDH1Ideal.nD Cert.ReferenceDH1Ideal.τ).loc Cert.ReferenceDH1Ideal.main_arg1)
      ∧ r.2.mem ((c.tc : Thread Cert.ReferenceDH1Ideal.nD Cert.ReferenceDH1Ideal.τ).loc Cert.ReferenceDH1Ideal.main_arg2) = m ((c.tc : Thread Cert.ReferenceDH1Ideal.nD Cert.ReferenceDH1Ideal.τ).loc Cert.ReferenceDH1Ideal.main_arg2)
      ∧ r.2.mem ((c.tc : Thread Cert.ReferenceDH1Ideal.nD Cert.ReferenceDH1Ideal.τ).loc Cert.ReferenceDH1Ideal.main_arg3) = m ((c.tc : Thread Cert.ReferenceDH1Ideal.nD Cert.ReferenceDH1Ideal.τ).loc Cert.ReferenceDH1Ideal.main_arg3)
      ∧ r.2.mem ((c.tc : Thread Cert.ReferenceDH1Ideal.nD Cert.ReferenceDH1Ideal.τ).loc Cert.ReferenceDH1Ideal.main_arg4) = m ((c.tc : Thread Cert.ReferenceDH1Ideal.nD Cert.ReferenceDH1Ideal.τ).loc Cert.ReferenceDH1Ideal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_KernelAttnF [hKernelAttnF : Cert.KernelAttnF.Facts] : Prop :=
  ∀ (m : (ℓ : Loc Cert.KernelAttnF.nD Cert.KernelAttnF.τ Cert.KernelAttnF.sig) → Buf (Elt Bits) ℓ) (g : Dev Cert.KernelAttnF.nD → PrngReg), Pre_KernelAttnF m →
    θ_run (Cert.KernelAttnF.defs (F := Bits)) (onTc (τ := Cert.KernelAttnF.τ) (Cert.KernelAttnF.main (F := Bits))) ⟨m, fun _ => 0, g⟩ (fun r => (∀ c : Dev Cert.KernelAttnF.nD,
      r.2.mem ((c.tc : Thread Cert.KernelAttnF.nD Cert.KernelAttnF.τ).loc Cert.KernelAttnF.main_arg0) = m ((c.tc : Thread Cert.KernelAttnF.nD Cert.KernelAttnF.τ).loc Cert.KernelAttnF.main_arg0)
      ∧ r.2.mem ((c.tc : Thread Cert.KernelAttnF.nD Cert.KernelAttnF.τ).loc Cert.KernelAttnF.main_arg1) = m ((c.tc : Thread Cert.KernelAttnF.nD Cert.KernelAttnF.τ).loc Cert.KernelAttnF.main_arg1))
      ∧ r.2.sem = fun _ => 0)

def quiescent_KernelAttnFIdeal [hKernelAttnFIdeal : Cert.KernelAttnFIdeal.Facts] : Prop :=
  ∀ (m : (ℓ : Loc Cert.KernelAttnFIdeal.nD Cert.KernelAttnFIdeal.τ Cert.KernelAttnFIdeal.sig) → Buf (Elt Ideal) ℓ) (g : Dev Cert.KernelAttnFIdeal.nD → PrngReg), Pre_KernelAttnFIdeal m →
    θ_run (Cert.KernelAttnFIdeal.defs (F := Ideal)) (onTc (τ := Cert.KernelAttnFIdeal.τ) (Cert.KernelAttnFIdeal.main (F := Ideal))) ⟨m, fun _ => 0, g⟩ (fun r => (∀ c : Dev Cert.KernelAttnFIdeal.nD,
      r.2.mem ((c.tc : Thread Cert.KernelAttnFIdeal.nD Cert.KernelAttnFIdeal.τ).loc Cert.KernelAttnFIdeal.main_arg0) = m ((c.tc : Thread Cert.KernelAttnFIdeal.nD Cert.KernelAttnFIdeal.τ).loc Cert.KernelAttnFIdeal.main_arg0)
      ∧ r.2.mem ((c.tc : Thread Cert.KernelAttnFIdeal.nD Cert.KernelAttnFIdeal.τ).loc Cert.KernelAttnFIdeal.main_arg1) = m ((c.tc : Thread Cert.KernelAttnFIdeal.nD Cert.KernelAttnFIdeal.τ).loc Cert.KernelAttnFIdeal.main_arg1))
      ∧ r.2.sem = fun _ => 0)

def quiescent_ReferenceAttnFIdeal [hReferenceAttnFIdeal : Cert.ReferenceAttnFIdeal.Facts] : Prop :=
  ∀ (m : (ℓ : Loc Cert.ReferenceAttnFIdeal.nD Cert.ReferenceAttnFIdeal.τ Cert.ReferenceAttnFIdeal.sig) → Buf (Elt Ideal) ℓ) (g : Dev Cert.ReferenceAttnFIdeal.nD → PrngReg), Pre_ReferenceAttnFIdeal m →
    θ_run (Cert.ReferenceAttnFIdeal.defs (F := Ideal)) (onTc (τ := Cert.ReferenceAttnFIdeal.τ) (Cert.ReferenceAttnFIdeal.main (F := Ideal))) ⟨m, fun _ => 0, g⟩ (fun r => (∀ c : Dev Cert.ReferenceAttnFIdeal.nD,
      r.2.mem ((c.tc : Thread Cert.ReferenceAttnFIdeal.nD Cert.ReferenceAttnFIdeal.τ).loc Cert.ReferenceAttnFIdeal.main_arg0) = m ((c.tc : Thread Cert.ReferenceAttnFIdeal.nD Cert.ReferenceAttnFIdeal.τ).loc Cert.ReferenceAttnFIdeal.main_arg0)
      ∧ r.2.mem ((c.tc : Thread Cert.ReferenceAttnFIdeal.nD Cert.ReferenceAttnFIdeal.τ).loc Cert.ReferenceAttnFIdeal.main_arg1) = m ((c.tc : Thread Cert.ReferenceAttnFIdeal.nD Cert.ReferenceAttnFIdeal.τ).loc Cert.ReferenceAttnFIdeal.main_arg1))
      ∧ r.2.sem = fun _ => 0)

def quiescent_KernelRmsF [hKernelRmsF : Cert.KernelRmsF.Facts] : Prop :=
  ∀ (m : (ℓ : Loc Cert.KernelRmsF.nD Cert.KernelRmsF.τ Cert.KernelRmsF.sig) → Buf (Elt Bits) ℓ) (g : Dev Cert.KernelRmsF.nD → PrngReg), Pre_KernelRmsF m →
    θ_run (Cert.KernelRmsF.defs (F := Bits)) (onTc (τ := Cert.KernelRmsF.τ) (Cert.KernelRmsF.main (F := Bits))) ⟨m, fun _ => 0, g⟩ (fun r => (∀ c : Dev Cert.KernelRmsF.nD,
      r.2.mem ((c.tc : Thread Cert.KernelRmsF.nD Cert.KernelRmsF.τ).loc Cert.KernelRmsF.main_arg0) = m ((c.tc : Thread Cert.KernelRmsF.nD Cert.KernelRmsF.τ).loc Cert.KernelRmsF.main_arg0)
      ∧ r.2.mem ((c.tc : Thread Cert.KernelRmsF.nD Cert.KernelRmsF.τ).loc Cert.KernelRmsF.main_arg1) = m ((c.tc : Thread Cert.KernelRmsF.nD Cert.KernelRmsF.τ).loc Cert.KernelRmsF.main_arg1))
      ∧ r.2.sem = fun _ => 0)

def quiescent_KernelRmsFIdeal [hKernelRmsFIdeal : Cert.KernelRmsFIdeal.Facts] : Prop :=
  ∀ (m : (ℓ : Loc Cert.KernelRmsFIdeal.nD Cert.KernelRmsFIdeal.τ Cert.KernelRmsFIdeal.sig) → Buf (Elt Ideal) ℓ) (g : Dev Cert.KernelRmsFIdeal.nD → PrngReg), Pre_KernelRmsFIdeal m →
    θ_run (Cert.KernelRmsFIdeal.defs (F := Ideal)) (onTc (τ := Cert.KernelRmsFIdeal.τ) (Cert.KernelRmsFIdeal.main (F := Ideal))) ⟨m, fun _ => 0, g⟩ (fun r => (∀ c : Dev Cert.KernelRmsFIdeal.nD,
      r.2.mem ((c.tc : Thread Cert.KernelRmsFIdeal.nD Cert.KernelRmsFIdeal.τ).loc Cert.KernelRmsFIdeal.main_arg0) = m ((c.tc : Thread Cert.KernelRmsFIdeal.nD Cert.KernelRmsFIdeal.τ).loc Cert.KernelRmsFIdeal.main_arg0)
      ∧ r.2.mem ((c.tc : Thread Cert.KernelRmsFIdeal.nD Cert.KernelRmsFIdeal.τ).loc Cert.KernelRmsFIdeal.main_arg1) = m ((c.tc : Thread Cert.KernelRmsFIdeal.nD Cert.KernelRmsFIdeal.τ).loc Cert.KernelRmsFIdeal.main_arg1))
      ∧ r.2.sem = fun _ => 0)

def quiescent_ReferenceRmsFIdeal [hReferenceRmsFIdeal : Cert.ReferenceRmsFIdeal.Facts] : Prop :=
  ∀ (m : (ℓ : Loc Cert.ReferenceRmsFIdeal.nD Cert.ReferenceRmsFIdeal.τ Cert.ReferenceRmsFIdeal.sig) → Buf (Elt Ideal) ℓ) (g : Dev Cert.ReferenceRmsFIdeal.nD → PrngReg), Pre_ReferenceRmsFIdeal m →
    θ_run (Cert.ReferenceRmsFIdeal.defs (F := Ideal)) (onTc (τ := Cert.ReferenceRmsFIdeal.τ) (Cert.ReferenceRmsFIdeal.main (F := Ideal))) ⟨m, fun _ => 0, g⟩ (fun r => (∀ c : Dev Cert.ReferenceRmsFIdeal.nD,
      r.2.mem ((c.tc : Thread Cert.ReferenceRmsFIdeal.nD Cert.ReferenceRmsFIdeal.τ).loc Cert.ReferenceRmsFIdeal.main_arg0) = m ((c.tc : Thread Cert.ReferenceRmsFIdeal.nD Cert.ReferenceRmsFIdeal.τ).loc Cert.ReferenceRmsFIdeal.main_arg0)
      ∧ r.2.mem ((c.tc : Thread Cert.ReferenceRmsFIdeal.nD Cert.ReferenceRmsFIdeal.τ).loc Cert.ReferenceRmsFIdeal.main_arg1) = m ((c.tc : Thread Cert.ReferenceRmsFIdeal.nD Cert.ReferenceRmsFIdeal.τ).loc Cert.ReferenceRmsFIdeal.main_arg1))
      ∧ r.2.sem = fun _ => 0)

def quiescent_KernelProjNorm [hKernelProjNorm : Cert.KernelProjNorm.Facts] : Prop :=
  ∀ (m : (ℓ : Loc Cert.KernelProjNorm.nD Cert.KernelProjNorm.τ Cert.KernelProjNorm.sig) → Buf (Elt Bits) ℓ) (g : Dev Cert.KernelProjNorm.nD → PrngReg), Pre_KernelProjNorm m →
    θ_run (Cert.KernelProjNorm.defs (F := Bits)) (onTc (τ := Cert.KernelProjNorm.τ) (Cert.KernelProjNorm.main (F := Bits))) ⟨m, fun _ => 0, g⟩ (fun r => (∀ c : Dev Cert.KernelProjNorm.nD,
      r.2.mem ((c.tc : Thread Cert.KernelProjNorm.nD Cert.KernelProjNorm.τ).loc Cert.KernelProjNorm.main_arg0) = m ((c.tc : Thread Cert.KernelProjNorm.nD Cert.KernelProjNorm.τ).loc Cert.KernelProjNorm.main_arg0)
      ∧ r.2.mem ((c.tc : Thread Cert.KernelProjNorm.nD Cert.KernelProjNorm.τ).loc Cert.KernelProjNorm.main_arg1) = m ((c.tc : Thread Cert.KernelProjNorm.nD Cert.KernelProjNorm.τ).loc Cert.KernelProjNorm.main_arg1)
      ∧ r.2.mem ((c.tc : Thread Cert.KernelProjNorm.nD Cert.KernelProjNorm.τ).loc Cert.KernelProjNorm.main_arg2) = m ((c.tc : Thread Cert.KernelProjNorm.nD Cert.KernelProjNorm.τ).loc Cert.KernelProjNorm.main_arg2)
      ∧ r.2.mem ((c.tc : Thread Cert.KernelProjNorm.nD Cert.KernelProjNorm.τ).loc Cert.KernelProjNorm.main_arg3) = m ((c.tc : Thread Cert.KernelProjNorm.nD Cert.KernelProjNorm.τ).loc Cert.KernelProjNorm.main_arg3))
      ∧ r.2.sem = fun _ => 0)

def quiescent_KernelProjNormIdeal [hKernelProjNormIdeal : Cert.KernelProjNormIdeal.Facts] : Prop :=
  ∀ (m : (ℓ : Loc Cert.KernelProjNormIdeal.nD Cert.KernelProjNormIdeal.τ Cert.KernelProjNormIdeal.sig) → Buf (Elt Ideal) ℓ) (g : Dev Cert.KernelProjNormIdeal.nD → PrngReg), Pre_KernelProjNormIdeal m →
    θ_run (Cert.KernelProjNormIdeal.defs (F := Ideal)) (onTc (τ := Cert.KernelProjNormIdeal.τ) (Cert.KernelProjNormIdeal.main (F := Ideal))) ⟨m, fun _ => 0, g⟩ (fun r => (∀ c : Dev Cert.KernelProjNormIdeal.nD,
      r.2.mem ((c.tc : Thread Cert.KernelProjNormIdeal.nD Cert.KernelProjNormIdeal.τ).loc Cert.KernelProjNormIdeal.main_arg0) = m ((c.tc : Thread Cert.KernelProjNormIdeal.nD Cert.KernelProjNormIdeal.τ).loc Cert.KernelProjNormIdeal.main_arg0)
      ∧ r.2.mem ((c.tc : Thread Cert.KernelProjNormIdeal.nD Cert.KernelProjNormIdeal.τ).loc Cert.KernelProjNormIdeal.main_arg1) = m ((c.tc : Thread Cert.KernelProjNormIdeal.nD Cert.KernelProjNormIdeal.τ).loc Cert.KernelProjNormIdeal.main_arg1)
      ∧ r.2.mem ((c.tc : Thread Cert.KernelProjNormIdeal.nD Cert.KernelProjNormIdeal.τ).loc Cert.KernelProjNormIdeal.main_arg2) = m ((c.tc : Thread Cert.KernelProjNormIdeal.nD Cert.KernelProjNormIdeal.τ).loc Cert.KernelProjNormIdeal.main_arg2)
      ∧ r.2.mem ((c.tc : Thread Cert.KernelProjNormIdeal.nD Cert.KernelProjNormIdeal.τ).loc Cert.KernelProjNormIdeal.main_arg3) = m ((c.tc : Thread Cert.KernelProjNormIdeal.nD Cert.KernelProjNormIdeal.τ).loc Cert.KernelProjNormIdeal.main_arg3))
      ∧ r.2.sem = fun _ => 0)

def quiescent_ReferenceProjNormIdeal [hReferenceProjNormIdeal : Cert.ReferenceProjNormIdeal.Facts] : Prop :=
  ∀ (m : (ℓ : Loc Cert.ReferenceProjNormIdeal.nD Cert.ReferenceProjNormIdeal.τ Cert.ReferenceProjNormIdeal.sig) → Buf (Elt Ideal) ℓ) (g : Dev Cert.ReferenceProjNormIdeal.nD → PrngReg), Pre_ReferenceProjNormIdeal m →
    θ_run (Cert.ReferenceProjNormIdeal.defs (F := Ideal)) (onTc (τ := Cert.ReferenceProjNormIdeal.τ) (Cert.ReferenceProjNormIdeal.main (F := Ideal))) ⟨m, fun _ => 0, g⟩ (fun r => (∀ c : Dev Cert.ReferenceProjNormIdeal.nD,
      r.2.mem ((c.tc : Thread Cert.ReferenceProjNormIdeal.nD Cert.ReferenceProjNormIdeal.τ).loc Cert.ReferenceProjNormIdeal.main_arg0) = m ((c.tc : Thread Cert.ReferenceProjNormIdeal.nD Cert.ReferenceProjNormIdeal.τ).loc Cert.ReferenceProjNormIdeal.main_arg0)
      ∧ r.2.mem ((c.tc : Thread Cert.ReferenceProjNormIdeal.nD Cert.ReferenceProjNormIdeal.τ).loc Cert.ReferenceProjNormIdeal.main_arg1) = m ((c.tc : Thread Cert.ReferenceProjNormIdeal.nD Cert.ReferenceProjNormIdeal.τ).loc Cert.ReferenceProjNormIdeal.main_arg1)
      ∧ r.2.mem ((c.tc : Thread Cert.ReferenceProjNormIdeal.nD Cert.ReferenceProjNormIdeal.τ).loc Cert.ReferenceProjNormIdeal.main_arg2) = m ((c.tc : Thread Cert.ReferenceProjNormIdeal.nD Cert.ReferenceProjNormIdeal.τ).loc Cert.ReferenceProjNormIdeal.main_arg2)
      ∧ r.2.mem ((c.tc : Thread Cert.ReferenceProjNormIdeal.nD Cert.ReferenceProjNormIdeal.τ).loc Cert.ReferenceProjNormIdeal.main_arg3) = m ((c.tc : Thread Cert.ReferenceProjNormIdeal.nD Cert.ReferenceProjNormIdeal.τ).loc Cert.ReferenceProjNormIdeal.main_arg3))
      ∧ r.2.sem = fun _ => 0)

def quiescent_KernelGateF [hKernelGateF : Cert.KernelGateF.Facts] : Prop :=
  ∀ (m : (ℓ : Loc Cert.KernelGateF.nD Cert.KernelGateF.τ Cert.KernelGateF.sig) → Buf (Elt Bits) ℓ) (g : Dev Cert.KernelGateF.nD → PrngReg), Pre_KernelGateF m →
    θ_run (Cert.KernelGateF.defs (F := Bits)) (onTc (τ := Cert.KernelGateF.τ) (Cert.KernelGateF.main (F := Bits))) ⟨m, fun _ => 0, g⟩ (fun r => (∀ c : Dev Cert.KernelGateF.nD,
      r.2.mem ((c.tc : Thread Cert.KernelGateF.nD Cert.KernelGateF.τ).loc Cert.KernelGateF.main_arg0) = m ((c.tc : Thread Cert.KernelGateF.nD Cert.KernelGateF.τ).loc Cert.KernelGateF.main_arg0)
      ∧ r.2.mem ((c.tc : Thread Cert.KernelGateF.nD Cert.KernelGateF.τ).loc Cert.KernelGateF.main_arg1) = m ((c.tc : Thread Cert.KernelGateF.nD Cert.KernelGateF.τ).loc Cert.KernelGateF.main_arg1)
      ∧ r.2.mem ((c.tc : Thread Cert.KernelGateF.nD Cert.KernelGateF.τ).loc Cert.KernelGateF.main_arg2) = m ((c.tc : Thread Cert.KernelGateF.nD Cert.KernelGateF.τ).loc Cert.KernelGateF.main_arg2))
      ∧ r.2.sem = fun _ => 0)

def quiescent_KernelGateFIdeal [hKernelGateFIdeal : Cert.KernelGateFIdeal.Facts] : Prop :=
  ∀ (m : (ℓ : Loc Cert.KernelGateFIdeal.nD Cert.KernelGateFIdeal.τ Cert.KernelGateFIdeal.sig) → Buf (Elt Ideal) ℓ) (g : Dev Cert.KernelGateFIdeal.nD → PrngReg), Pre_KernelGateFIdeal m →
    θ_run (Cert.KernelGateFIdeal.defs (F := Ideal)) (onTc (τ := Cert.KernelGateFIdeal.τ) (Cert.KernelGateFIdeal.main (F := Ideal))) ⟨m, fun _ => 0, g⟩ (fun r => (∀ c : Dev Cert.KernelGateFIdeal.nD,
      r.2.mem ((c.tc : Thread Cert.KernelGateFIdeal.nD Cert.KernelGateFIdeal.τ).loc Cert.KernelGateFIdeal.main_arg0) = m ((c.tc : Thread Cert.KernelGateFIdeal.nD Cert.KernelGateFIdeal.τ).loc Cert.KernelGateFIdeal.main_arg0)
      ∧ r.2.mem ((c.tc : Thread Cert.KernelGateFIdeal.nD Cert.KernelGateFIdeal.τ).loc Cert.KernelGateFIdeal.main_arg1) = m ((c.tc : Thread Cert.KernelGateFIdeal.nD Cert.KernelGateFIdeal.τ).loc Cert.KernelGateFIdeal.main_arg1)
      ∧ r.2.mem ((c.tc : Thread Cert.KernelGateFIdeal.nD Cert.KernelGateFIdeal.τ).loc Cert.KernelGateFIdeal.main_arg2) = m ((c.tc : Thread Cert.KernelGateFIdeal.nD Cert.KernelGateFIdeal.τ).loc Cert.KernelGateFIdeal.main_arg2))
      ∧ r.2.sem = fun _ => 0)

def quiescent_ReferenceGateFIdeal [hReferenceGateFIdeal : Cert.ReferenceGateFIdeal.Facts] : Prop :=
  ∀ (m : (ℓ : Loc Cert.ReferenceGateFIdeal.nD Cert.ReferenceGateFIdeal.τ Cert.ReferenceGateFIdeal.sig) → Buf (Elt Ideal) ℓ) (g : Dev Cert.ReferenceGateFIdeal.nD → PrngReg), Pre_ReferenceGateFIdeal m →
    θ_run (Cert.ReferenceGateFIdeal.defs (F := Ideal)) (onTc (τ := Cert.ReferenceGateFIdeal.τ) (Cert.ReferenceGateFIdeal.main (F := Ideal))) ⟨m, fun _ => 0, g⟩ (fun r => (∀ c : Dev Cert.ReferenceGateFIdeal.nD,
      r.2.mem ((c.tc : Thread Cert.ReferenceGateFIdeal.nD Cert.ReferenceGateFIdeal.τ).loc Cert.ReferenceGateFIdeal.main_arg0) = m ((c.tc : Thread Cert.ReferenceGateFIdeal.nD Cert.ReferenceGateFIdeal.τ).loc Cert.ReferenceGateFIdeal.main_arg0)
      ∧ r.2.mem ((c.tc : Thread Cert.ReferenceGateFIdeal.nD Cert.ReferenceGateFIdeal.τ).loc Cert.ReferenceGateFIdeal.main_arg1) = m ((c.tc : Thread Cert.ReferenceGateFIdeal.nD Cert.ReferenceGateFIdeal.τ).loc Cert.ReferenceGateFIdeal.main_arg1)
      ∧ r.2.mem ((c.tc : Thread Cert.ReferenceGateFIdeal.nD Cert.ReferenceGateFIdeal.τ).loc Cert.ReferenceGateFIdeal.main_arg2) = m ((c.tc : Thread Cert.ReferenceGateFIdeal.nD Cert.ReferenceGateFIdeal.τ).loc Cert.ReferenceGateFIdeal.main_arg2))
      ∧ r.2.sem = fun _ => 0)

def quiescent_KernelMixF [hKernelMixF : Cert.KernelMixF.Facts] : Prop :=
  ∀ (m : (ℓ : Loc Cert.KernelMixF.nD Cert.KernelMixF.τ Cert.KernelMixF.sig) → Buf (Elt Bits) ℓ) (g : Dev Cert.KernelMixF.nD → PrngReg), Pre_KernelMixF m →
    θ_run (Cert.KernelMixF.defs (F := Bits)) (onTc (τ := Cert.KernelMixF.τ) (Cert.KernelMixF.main (F := Bits))) ⟨m, fun _ => 0, g⟩ (fun r => (∀ c : Dev Cert.KernelMixF.nD,
      r.2.mem ((c.tc : Thread Cert.KernelMixF.nD Cert.KernelMixF.τ).loc Cert.KernelMixF.main_arg0) = m ((c.tc : Thread Cert.KernelMixF.nD Cert.KernelMixF.τ).loc Cert.KernelMixF.main_arg0)
      ∧ r.2.mem ((c.tc : Thread Cert.KernelMixF.nD Cert.KernelMixF.τ).loc Cert.KernelMixF.main_arg1) = m ((c.tc : Thread Cert.KernelMixF.nD Cert.KernelMixF.τ).loc Cert.KernelMixF.main_arg1)
      ∧ r.2.mem ((c.tc : Thread Cert.KernelMixF.nD Cert.KernelMixF.τ).loc Cert.KernelMixF.main_arg2) = m ((c.tc : Thread Cert.KernelMixF.nD Cert.KernelMixF.τ).loc Cert.KernelMixF.main_arg2)
      ∧ r.2.mem ((c.tc : Thread Cert.KernelMixF.nD Cert.KernelMixF.τ).loc Cert.KernelMixF.main_arg3) = m ((c.tc : Thread Cert.KernelMixF.nD Cert.KernelMixF.τ).loc Cert.KernelMixF.main_arg3)
      ∧ r.2.mem ((c.tc : Thread Cert.KernelMixF.nD Cert.KernelMixF.τ).loc Cert.KernelMixF.main_arg4) = m ((c.tc : Thread Cert.KernelMixF.nD Cert.KernelMixF.τ).loc Cert.KernelMixF.main_arg4)
      ∧ r.2.mem ((c.tc : Thread Cert.KernelMixF.nD Cert.KernelMixF.τ).loc Cert.KernelMixF.main_arg5) = m ((c.tc : Thread Cert.KernelMixF.nD Cert.KernelMixF.τ).loc Cert.KernelMixF.main_arg5)
      ∧ r.2.mem ((c.tc : Thread Cert.KernelMixF.nD Cert.KernelMixF.τ).loc Cert.KernelMixF.main_arg6) = m ((c.tc : Thread Cert.KernelMixF.nD Cert.KernelMixF.τ).loc Cert.KernelMixF.main_arg6))
      ∧ r.2.sem = fun _ => 0)

def quiescent_KernelMixFIdeal [hKernelMixFIdeal : Cert.KernelMixFIdeal.Facts] : Prop :=
  ∀ (m : (ℓ : Loc Cert.KernelMixFIdeal.nD Cert.KernelMixFIdeal.τ Cert.KernelMixFIdeal.sig) → Buf (Elt Ideal) ℓ) (g : Dev Cert.KernelMixFIdeal.nD → PrngReg), Pre_KernelMixFIdeal m →
    θ_run (Cert.KernelMixFIdeal.defs (F := Ideal)) (onTc (τ := Cert.KernelMixFIdeal.τ) (Cert.KernelMixFIdeal.main (F := Ideal))) ⟨m, fun _ => 0, g⟩ (fun r => (∀ c : Dev Cert.KernelMixFIdeal.nD,
      r.2.mem ((c.tc : Thread Cert.KernelMixFIdeal.nD Cert.KernelMixFIdeal.τ).loc Cert.KernelMixFIdeal.main_arg0) = m ((c.tc : Thread Cert.KernelMixFIdeal.nD Cert.KernelMixFIdeal.τ).loc Cert.KernelMixFIdeal.main_arg0)
      ∧ r.2.mem ((c.tc : Thread Cert.KernelMixFIdeal.nD Cert.KernelMixFIdeal.τ).loc Cert.KernelMixFIdeal.main_arg1) = m ((c.tc : Thread Cert.KernelMixFIdeal.nD Cert.KernelMixFIdeal.τ).loc Cert.KernelMixFIdeal.main_arg1)
      ∧ r.2.mem ((c.tc : Thread Cert.KernelMixFIdeal.nD Cert.KernelMixFIdeal.τ).loc Cert.KernelMixFIdeal.main_arg2) = m ((c.tc : Thread Cert.KernelMixFIdeal.nD Cert.KernelMixFIdeal.τ).loc Cert.KernelMixFIdeal.main_arg2)
      ∧ r.2.mem ((c.tc : Thread Cert.KernelMixFIdeal.nD Cert.KernelMixFIdeal.τ).loc Cert.KernelMixFIdeal.main_arg3) = m ((c.tc : Thread Cert.KernelMixFIdeal.nD Cert.KernelMixFIdeal.τ).loc Cert.KernelMixFIdeal.main_arg3)
      ∧ r.2.mem ((c.tc : Thread Cert.KernelMixFIdeal.nD Cert.KernelMixFIdeal.τ).loc Cert.KernelMixFIdeal.main_arg4) = m ((c.tc : Thread Cert.KernelMixFIdeal.nD Cert.KernelMixFIdeal.τ).loc Cert.KernelMixFIdeal.main_arg4)
      ∧ r.2.mem ((c.tc : Thread Cert.KernelMixFIdeal.nD Cert.KernelMixFIdeal.τ).loc Cert.KernelMixFIdeal.main_arg5) = m ((c.tc : Thread Cert.KernelMixFIdeal.nD Cert.KernelMixFIdeal.τ).loc Cert.KernelMixFIdeal.main_arg5)
      ∧ r.2.mem ((c.tc : Thread Cert.KernelMixFIdeal.nD Cert.KernelMixFIdeal.τ).loc Cert.KernelMixFIdeal.main_arg6) = m ((c.tc : Thread Cert.KernelMixFIdeal.nD Cert.KernelMixFIdeal.τ).loc Cert.KernelMixFIdeal.main_arg6))
      ∧ r.2.sem = fun _ => 0)

def quiescent_KernelMixFIdeal_pre_finite_mixf [hKernelMixFIdeal : Cert.KernelMixFIdeal.Facts] [hPre_finite_mixf : Cert.Pre_finite_mixf.Facts] : Prop :=
  ∀ (m : (ℓ : Loc Cert.KernelMixFIdeal.nD Cert.KernelMixFIdeal.τ Cert.KernelMixFIdeal.sig) → Buf (Elt Ideal) ℓ) (g : Dev Cert.KernelMixFIdeal.nD → PrngReg), Pre_KernelMixFIdeal_finite_mixf m →
    θ_run (Cert.KernelMixFIdeal.defs (F := Ideal)) (onTc (τ := Cert.KernelMixFIdeal.τ) (Cert.KernelMixFIdeal.main (F := Ideal))) ⟨m, fun _ => 0, g⟩ (fun r => (∀ c : Dev Cert.KernelMixFIdeal.nD,
      r.2.mem ((c.tc : Thread Cert.KernelMixFIdeal.nD Cert.KernelMixFIdeal.τ).loc Cert.KernelMixFIdeal.main_arg0) = m ((c.tc : Thread Cert.KernelMixFIdeal.nD Cert.KernelMixFIdeal.τ).loc Cert.KernelMixFIdeal.main_arg0)
      ∧ r.2.mem ((c.tc : Thread Cert.KernelMixFIdeal.nD Cert.KernelMixFIdeal.τ).loc Cert.KernelMixFIdeal.main_arg1) = m ((c.tc : Thread Cert.KernelMixFIdeal.nD Cert.KernelMixFIdeal.τ).loc Cert.KernelMixFIdeal.main_arg1)
      ∧ r.2.mem ((c.tc : Thread Cert.KernelMixFIdeal.nD Cert.KernelMixFIdeal.τ).loc Cert.KernelMixFIdeal.main_arg2) = m ((c.tc : Thread Cert.KernelMixFIdeal.nD Cert.KernelMixFIdeal.τ).loc Cert.KernelMixFIdeal.main_arg2)
      ∧ r.2.mem ((c.tc : Thread Cert.KernelMixFIdeal.nD Cert.KernelMixFIdeal.τ).loc Cert.KernelMixFIdeal.main_arg3) = m ((c.tc : Thread Cert.KernelMixFIdeal.nD Cert.KernelMixFIdeal.τ).loc Cert.KernelMixFIdeal.main_arg3)
      ∧ r.2.mem ((c.tc : Thread Cert.KernelMixFIdeal.nD Cert.KernelMixFIdeal.τ).loc Cert.KernelMixFIdeal.main_arg4) = m ((c.tc : Thread Cert.KernelMixFIdeal.nD Cert.KernelMixFIdeal.τ).loc Cert.KernelMixFIdeal.main_arg4)
      ∧ r.2.mem ((c.tc : Thread Cert.KernelMixFIdeal.nD Cert.KernelMixFIdeal.τ).loc Cert.KernelMixFIdeal.main_arg5) = m ((c.tc : Thread Cert.KernelMixFIdeal.nD Cert.KernelMixFIdeal.τ).loc Cert.KernelMixFIdeal.main_arg5)
      ∧ r.2.mem ((c.tc : Thread Cert.KernelMixFIdeal.nD Cert.KernelMixFIdeal.τ).loc Cert.KernelMixFIdeal.main_arg6) = m ((c.tc : Thread Cert.KernelMixFIdeal.nD Cert.KernelMixFIdeal.τ).loc Cert.KernelMixFIdeal.main_arg6))
      ∧ r.2.sem = fun _ => 0)

def quiescent_ReferenceMixFIdeal [hReferenceMixFIdeal : Cert.ReferenceMixFIdeal.Facts] : Prop :=
  ∀ (m : (ℓ : Loc Cert.ReferenceMixFIdeal.nD Cert.ReferenceMixFIdeal.τ Cert.ReferenceMixFIdeal.sig) → Buf (Elt Ideal) ℓ) (g : Dev Cert.ReferenceMixFIdeal.nD → PrngReg), Pre_ReferenceMixFIdeal m →
    θ_run (Cert.ReferenceMixFIdeal.defs (F := Ideal)) (onTc (τ := Cert.ReferenceMixFIdeal.τ) (Cert.ReferenceMixFIdeal.main (F := Ideal))) ⟨m, fun _ => 0, g⟩ (fun r => (∀ c : Dev Cert.ReferenceMixFIdeal.nD,
      r.2.mem ((c.tc : Thread Cert.ReferenceMixFIdeal.nD Cert.ReferenceMixFIdeal.τ).loc Cert.ReferenceMixFIdeal.main_arg0) = m ((c.tc : Thread Cert.ReferenceMixFIdeal.nD Cert.ReferenceMixFIdeal.τ).loc Cert.ReferenceMixFIdeal.main_arg0)
      ∧ r.2.mem ((c.tc : Thread Cert.ReferenceMixFIdeal.nD Cert.ReferenceMixFIdeal.τ).loc Cert.ReferenceMixFIdeal.main_arg1) = m ((c.tc : Thread Cert.ReferenceMixFIdeal.nD Cert.ReferenceMixFIdeal.τ).loc Cert.ReferenceMixFIdeal.main_arg1)
      ∧ r.2.mem ((c.tc : Thread Cert.ReferenceMixFIdeal.nD Cert.ReferenceMixFIdeal.τ).loc Cert.ReferenceMixFIdeal.main_arg2) = m ((c.tc : Thread Cert.ReferenceMixFIdeal.nD Cert.ReferenceMixFIdeal.τ).loc Cert.ReferenceMixFIdeal.main_arg2)
      ∧ r.2.mem ((c.tc : Thread Cert.ReferenceMixFIdeal.nD Cert.ReferenceMixFIdeal.τ).loc Cert.ReferenceMixFIdeal.main_arg3) = m ((c.tc : Thread Cert.ReferenceMixFIdeal.nD Cert.ReferenceMixFIdeal.τ).loc Cert.ReferenceMixFIdeal.main_arg3)
      ∧ r.2.mem ((c.tc : Thread Cert.ReferenceMixFIdeal.nD Cert.ReferenceMixFIdeal.τ).loc Cert.ReferenceMixFIdeal.main_arg4) = m ((c.tc : Thread Cert.ReferenceMixFIdeal.nD Cert.ReferenceMixFIdeal.τ).loc Cert.ReferenceMixFIdeal.main_arg4)
      ∧ r.2.mem ((c.tc : Thread Cert.ReferenceMixFIdeal.nD Cert.ReferenceMixFIdeal.τ).loc Cert.ReferenceMixFIdeal.main_arg5) = m ((c.tc : Thread Cert.ReferenceMixFIdeal.nD Cert.ReferenceMixFIdeal.τ).loc Cert.ReferenceMixFIdeal.main_arg5)
      ∧ r.2.mem ((c.tc : Thread Cert.ReferenceMixFIdeal.nD Cert.ReferenceMixFIdeal.τ).loc Cert.ReferenceMixFIdeal.main_arg6) = m ((c.tc : Thread Cert.ReferenceMixFIdeal.nD Cert.ReferenceMixFIdeal.τ).loc Cert.ReferenceMixFIdeal.main_arg6))
      ∧ r.2.sem = fun _ => 0)

def quiescent_ReferenceMixFIdeal_pre_finite_mixf [hReferenceMixFIdeal : Cert.ReferenceMixFIdeal.Facts] [hPre_finite_mixf : Cert.Pre_finite_mixf.Facts] : Prop :=
  ∀ (m : (ℓ : Loc Cert.ReferenceMixFIdeal.nD Cert.ReferenceMixFIdeal.τ Cert.ReferenceMixFIdeal.sig) → Buf (Elt Ideal) ℓ) (g : Dev Cert.ReferenceMixFIdeal.nD → PrngReg), Pre_ReferenceMixFIdeal_finite_mixf m →
    θ_run (Cert.ReferenceMixFIdeal.defs (F := Ideal)) (onTc (τ := Cert.ReferenceMixFIdeal.τ) (Cert.ReferenceMixFIdeal.main (F := Ideal))) ⟨m, fun _ => 0, g⟩ (fun r => (∀ c : Dev Cert.ReferenceMixFIdeal.nD,
      r.2.mem ((c.tc : Thread Cert.ReferenceMixFIdeal.nD Cert.ReferenceMixFIdeal.τ).loc Cert.ReferenceMixFIdeal.main_arg0) = m ((c.tc : Thread Cert.ReferenceMixFIdeal.nD Cert.ReferenceMixFIdeal.τ).loc Cert.ReferenceMixFIdeal.main_arg0)
      ∧ r.2.mem ((c.tc : Thread Cert.ReferenceMixFIdeal.nD Cert.ReferenceMixFIdeal.τ).loc Cert.ReferenceMixFIdeal.main_arg1) = m ((c.tc : Thread Cert.ReferenceMixFIdeal.nD Cert.ReferenceMixFIdeal.τ).loc Cert.ReferenceMixFIdeal.main_arg1)
      ∧ r.2.mem ((c.tc : Thread Cert.ReferenceMixFIdeal.nD Cert.ReferenceMixFIdeal.τ).loc Cert.ReferenceMixFIdeal.main_arg2) = m ((c.tc : Thread Cert.ReferenceMixFIdeal.nD Cert.ReferenceMixFIdeal.τ).loc Cert.ReferenceMixFIdeal.main_arg2)
      ∧ r.2.mem ((c.tc : Thread Cert.ReferenceMixFIdeal.nD Cert.ReferenceMixFIdeal.τ).loc Cert.ReferenceMixFIdeal.main_arg3) = m ((c.tc : Thread Cert.ReferenceMixFIdeal.nD Cert.ReferenceMixFIdeal.τ).loc Cert.ReferenceMixFIdeal.main_arg3)
      ∧ r.2.mem ((c.tc : Thread Cert.ReferenceMixFIdeal.nD Cert.ReferenceMixFIdeal.τ).loc Cert.ReferenceMixFIdeal.main_arg4) = m ((c.tc : Thread Cert.ReferenceMixFIdeal.nD Cert.ReferenceMixFIdeal.τ).loc Cert.ReferenceMixFIdeal.main_arg4)
      ∧ r.2.mem ((c.tc : Thread Cert.ReferenceMixFIdeal.nD Cert.ReferenceMixFIdeal.τ).loc Cert.ReferenceMixFIdeal.main_arg5) = m ((c.tc : Thread Cert.ReferenceMixFIdeal.nD Cert.ReferenceMixFIdeal.τ).loc Cert.ReferenceMixFIdeal.main_arg5)
      ∧ r.2.mem ((c.tc : Thread Cert.ReferenceMixFIdeal.nD Cert.ReferenceMixFIdeal.τ).loc Cert.ReferenceMixFIdeal.main_arg6) = m ((c.tc : Thread Cert.ReferenceMixFIdeal.nD Cert.ReferenceMixFIdeal.τ).loc Cert.ReferenceMixFIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDAct [hKernelDAct : Cert.KernelDAct.Facts] : Prop :=
  ∀ (m : (ℓ : Loc Cert.KernelDAct.nD Cert.KernelDAct.τ Cert.KernelDAct.sig) → Buf (Elt Bits) ℓ) (g : Dev Cert.KernelDAct.nD → PrngReg), Pre_KernelDAct m →
    θ_run (Cert.KernelDAct.defs (F := Bits)) (onTc (τ := Cert.KernelDAct.τ) (Cert.KernelDAct.main (F := Bits))) ⟨m, fun _ => 0, g⟩ (fun r => (∀ c : Dev Cert.KernelDAct.nD,
      r.2.mem ((c.tc : Thread Cert.KernelDAct.nD Cert.KernelDAct.τ).loc Cert.KernelDAct.main_arg0) = m ((c.tc : Thread Cert.KernelDAct.nD Cert.KernelDAct.τ).loc Cert.KernelDAct.main_arg0)
      ∧ r.2.mem ((c.tc : Thread Cert.KernelDAct.nD Cert.KernelDAct.τ).loc Cert.KernelDAct.main_arg1) = m ((c.tc : Thread Cert.KernelDAct.nD Cert.KernelDAct.τ).loc Cert.KernelDAct.main_arg1))
      ∧ r.2.sem = fun _ => 0)

def quiescent_KernelDActIdeal [hKernelDActIdeal : Cert.KernelDActIdeal.Facts] : Prop :=
  ∀ (m : (ℓ : Loc Cert.KernelDActIdeal.nD Cert.KernelDActIdeal.τ Cert.KernelDActIdeal.sig) → Buf (Elt Ideal) ℓ) (g : Dev Cert.KernelDActIdeal.nD → PrngReg), Pre_KernelDActIdeal m →
    θ_run (Cert.KernelDActIdeal.defs (F := Ideal)) (onTc (τ := Cert.KernelDActIdeal.τ) (Cert.KernelDActIdeal.main (F := Ideal))) ⟨m, fun _ => 0, g⟩ (fun r => (∀ c : Dev Cert.KernelDActIdeal.nD,
      r.2.mem ((c.tc : Thread Cert.KernelDActIdeal.nD Cert.KernelDActIdeal.τ).loc Cert.KernelDActIdeal.main_arg0) = m ((c.tc : Thread Cert.KernelDActIdeal.nD Cert.KernelDActIdeal.τ).loc Cert.KernelDActIdeal.main_arg0)
      ∧ r.2.mem ((c.tc : Thread Cert.KernelDActIdeal.nD Cert.KernelDActIdeal.τ).loc Cert.KernelDActIdeal.main_arg1) = m ((c.tc : Thread Cert.KernelDActIdeal.nD Cert.KernelDActIdeal.τ).loc Cert.KernelDActIdeal.main_arg1))
      ∧ r.2.sem = fun _ => 0)

def quiescent_ReferenceDActIdeal [hReferenceDActIdeal : Cert.ReferenceDActIdeal.Facts] : Prop :=
  ∀ (m : (ℓ : Loc Cert.ReferenceDActIdeal.nD Cert.ReferenceDActIdeal.τ Cert.ReferenceDActIdeal.sig) → Buf (Elt Ideal) ℓ) (g : Dev Cert.ReferenceDActIdeal.nD → PrngReg), Pre_ReferenceDActIdeal m →
    θ_run (Cert.ReferenceDActIdeal.defs (F := Ideal)) (onTc (τ := Cert.ReferenceDActIdeal.τ) (Cert.ReferenceDActIdeal.main (F := Ideal))) ⟨m, fun _ => 0, g⟩ (fun r => (∀ c : Dev Cert.ReferenceDActIdeal.nD,
      r.2.mem ((c.tc : Thread Cert.ReferenceDActIdeal.nD Cert.ReferenceDActIdeal.τ).loc Cert.ReferenceDActIdeal.main_arg0) = m ((c.tc : Thread Cert.ReferenceDActIdeal.nD Cert.ReferenceDActIdeal.τ).loc Cert.ReferenceDActIdeal.main_arg0)
      ∧ r.2.mem ((c.tc : Thread Cert.ReferenceDActIdeal.nD Cert.ReferenceDActIdeal.τ).loc Cert.ReferenceDActIdeal.main_arg1) = m ((c.tc : Thread Cert.ReferenceDActIdeal.nD Cert.ReferenceDActIdeal.τ).loc Cert.ReferenceDActIdeal.main_arg1))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1))
      ∧ r.2.sem = fun _ => 0)

def quiescent_KernelDwUp [hKernelDwUp : Cert.KernelDwUp.Facts] : Prop :=
  ∀ (m : (ℓ : Loc Cert.KernelDwUp.nD Cert.KernelDwUp.τ Cert.KernelDwUp.sig) → Buf (Elt Bits) ℓ) (g : Dev Cert.KernelDwUp.nD → PrngReg), Pre_KernelDwUp m →
    θ_run (Cert.KernelDwUp.defs (F := Bits)) (onTc (τ := Cert.KernelDwUp.τ) (Cert.KernelDwUp.main (F := Bits))) ⟨m, fun _ => 0, g⟩ (fun r => (∀ c : Dev Cert.KernelDwUp.nD,
      r.2.mem ((c.tc : Thread Cert.KernelDwUp.nD Cert.KernelDwUp.τ).loc Cert.KernelDwUp.main_arg0) = m ((c.tc : Thread Cert.KernelDwUp.nD Cert.KernelDwUp.τ).loc Cert.KernelDwUp.main_arg0)
      ∧ r.2.mem ((c.tc : Thread Cert.KernelDwUp.nD Cert.KernelDwUp.τ).loc Cert.KernelDwUp.main_arg1) = m ((c.tc : Thread Cert.KernelDwUp.nD Cert.KernelDwUp.τ).loc Cert.KernelDwUp.main_arg1))
      ∧ r.2.sem = fun _ => 0)

def quiescent_KernelDwUpIdeal [hKernelDwUpIdeal : Cert.KernelDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg), Pre_KernelDwUpIdeal m →
    θ_run (Cert.KernelDwUpIdeal.defs (F := Ideal)) (onTc (τ := Cert.KernelDwUpIdeal.τ) (Cert.KernelDwUpIdeal.main (F := Ideal))) ⟨m, fun _ => 0, g⟩ (fun r => (∀ c : Dev Cert.KernelDwUpIdeal.nD,
      r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
      ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ r.2.sem = fun _ => 0)

def quiescent_ReferenceDwUpIdeal [hReferenceDwUpIdeal : Cert.ReferenceDwUpIdeal.Facts] : Prop :=
  ∀ (m : (ℓ : Loc Cert.ReferenceDwUpIdeal.nD Cert.ReferenceDwUpIdeal.τ Cert.ReferenceDwUpIdeal.sig) → Buf (Elt Ideal) ℓ) (g : Dev Cert.ReferenceDwUpIdeal.nD → PrngReg), Pre_ReferenceDwUpIdeal m →
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1))
      ∧ r.2.sem = fun _ => 0)

def quiescent_KernelAdamW [hKernelAdamW : Cert.KernelAdamW.Facts] : Prop :=
  ∀ (m : (ℓ : Loc Cert.KernelAdamW.nD Cert.KernelAdamW.τ Cert.KernelAdamW.sig) → Buf (Elt Bits) ℓ) (g : Dev Cert.KernelAdamW.nD → PrngReg), Pre_KernelAdamW m →
    θ_run (Cert.KernelAdamW.defs (F := Bits)) (onTc (τ := Cert.KernelAdamW.τ) (Cert.KernelAdamW.main (F := Bits))) ⟨m, fun _ => 0, g⟩ (fun r => (∀ c : Dev Cert.KernelAdamW.nD,
      r.2.mem ((c.tc : Thread Cert.KernelAdamW.nD Cert.KernelAdamW.τ).loc Cert.KernelAdamW.main_arg0) = m ((c.tc : Thread Cert.KernelAdamW.nD Cert.KernelAdamW.τ).loc Cert.KernelAdamW.main_arg0)
      ∧ r.2.mem ((c.tc : Thread Cert.KernelAdamW.nD Cert.KernelAdamW.τ).loc Cert.KernelAdamW.main_arg1) = m ((c.tc : Thread Cert.KernelAdamW.nD Cert.KernelAdamW.τ).loc Cert.KernelAdamW.main_arg1)
      ∧ r.2.mem ((c.tc : Thread Cert.KernelAdamW.nD Cert.KernelAdamW.τ).loc Cert.KernelAdamW.main_arg2) = m ((c.tc : Thread Cert.KernelAdamW.nD Cert.KernelAdamW.τ).loc Cert.KernelAdamW.main_arg2)
      ∧ r.2.mem ((c.tc : Thread Cert.KernelAdamW.nD Cert.KernelAdamW.τ).loc Cert.KernelAdamW.main_arg3) = m ((c.tc : Thread Cert.KernelAdamW.nD Cert.KernelAdamW.τ).loc Cert.KernelAdamW.main_arg3))
      ∧ r.2.sem = fun _ => 0)

def quiescent_KernelAdamWIdeal [hKernelAdamWIdeal : Cert.KernelAdamWIdeal.Facts] : Prop :=
  ∀ (m : (ℓ : Loc Cert.KernelAdamWIdeal.nD Cert.KernelAdamWIdeal.τ Cert.KernelAdamWIdeal.sig) → Buf (Elt Ideal) ℓ) (g : Dev Cert.KernelAdamWIdeal.nD → PrngReg), Pre_KernelAdamWIdeal m →
    θ_run (Cert.KernelAdamWIdeal.defs (F := Ideal)) (onTc (τ := Cert.KernelAdamWIdeal.τ) (Cert.KernelAdamWIdeal.main (F := Ideal))) ⟨m, fun _ => 0, g⟩ (fun r => (∀ c : Dev Cert.KernelAdamWIdeal.nD,
      r.2.mem ((c.tc : Thread Cert.KernelAdamWIdeal.nD Cert.KernelAdamWIdeal.τ).loc Cert.KernelAdamWIdeal.main_arg0) = m ((c.tc : Thread Cert.KernelAdamWIdeal.nD Cert.KernelAdamWIdeal.τ).loc Cert.KernelAdamWIdeal.main_arg0)
      ∧ r.2.mem ((c.tc : Thread Cert.KernelAdamWIdeal.nD Cert.KernelAdamWIdeal.τ).loc Cert.KernelAdamWIdeal.main_arg1) = m ((c.tc : Thread Cert.KernelAdamWIdeal.nD Cert.KernelAdamWIdeal.τ).loc Cert.KernelAdamWIdeal.main_arg1)
      ∧ r.2.mem ((c.tc : Thread Cert.KernelAdamWIdeal.nD Cert.KernelAdamWIdeal.τ).loc Cert.KernelAdamWIdeal.main_arg2) = m ((c.tc : Thread Cert.KernelAdamWIdeal.nD Cert.KernelAdamWIdeal.τ).loc Cert.KernelAdamWIdeal.main_arg2)
      ∧ r.2.mem ((c.tc : Thread Cert.KernelAdamWIdeal.nD Cert.KernelAdamWIdeal.τ).loc Cert.KernelAdamWIdeal.main_arg3) = m ((c.tc : Thread Cert.KernelAdamWIdeal.nD Cert.KernelAdamWIdeal.τ).loc Cert.KernelAdamWIdeal.main_arg3))
      ∧ r.2.sem = fun _ => 0)

def quiescent_ReferenceAdamWIdeal [hReferenceAdamWIdeal : Cert.ReferenceAdamWIdeal.Facts] : Prop :=
  ∀ (m : (ℓ : Loc Cert.ReferenceAdamWIdeal.nD Cert.ReferenceAdamWIdeal.τ Cert.ReferenceAdamWIdeal.sig) → Buf (Elt Ideal) ℓ) (g : Dev Cert.ReferenceAdamWIdeal.nD → PrngReg), Pre_ReferenceAdamWIdeal m →
    θ_run (Cert.ReferenceAdamWIdeal.defs (F := Ideal)) (onTc (τ := Cert.ReferenceAdamWIdeal.τ) (Cert.ReferenceAdamWIdeal.main (F := Ideal))) ⟨m, fun _ => 0, g⟩ (fun r => (∀ c : Dev Cert.ReferenceAdamWIdeal.nD,
      r.2.mem ((c.tc : Thread Cert.ReferenceAdamWIdeal.nD Cert.ReferenceAdamWIdeal.τ).loc Cert.ReferenceAdamWIdeal.main_arg0) = m ((c.tc : Thread Cert.ReferenceAdamWIdeal.nD Cert.ReferenceAdamWIdeal.τ).loc Cert.ReferenceAdamWIdeal.main_arg0)
      ∧ r.2.mem ((c.tc : Thread Cert.ReferenceAdamWIdeal.nD Cert.ReferenceAdamWIdeal.τ).loc Cert.ReferenceAdamWIdeal.main_arg1) = m ((c.tc : Thread Cert.ReferenceAdamWIdeal.nD Cert.ReferenceAdamWIdeal.τ).loc Cert.ReferenceAdamWIdeal.main_arg1)
      ∧ r.2.mem ((c.tc : Thread Cert.ReferenceAdamWIdeal.nD Cert.ReferenceAdamWIdeal.τ).loc Cert.ReferenceAdamWIdeal.main_arg2) = m ((c.tc : Thread Cert.ReferenceAdamWIdeal.nD Cert.ReferenceAdamWIdeal.τ).loc Cert.ReferenceAdamWIdeal.main_arg2)
      ∧ r.2.mem ((c.tc : Thread Cert.ReferenceAdamWIdeal.nD Cert.ReferenceAdamWIdeal.τ).loc Cert.ReferenceAdamWIdeal.main_arg3) = m ((c.tc : Thread Cert.ReferenceAdamWIdeal.nD Cert.ReferenceAdamWIdeal.τ).loc Cert.ReferenceAdamWIdeal.main_arg3))
      ∧ r.2.sem = fun _ => 0)

def quiescent_KernelMixW [hKernelMixW : Cert.KernelMixW.Facts] : Prop :=
  ∀ (m : (ℓ : Loc Cert.KernelMixW.nD Cert.KernelMixW.τ Cert.KernelMixW.sig) → Buf (Elt Bits) ℓ) (g : Dev Cert.KernelMixW.nD → PrngReg), Pre_KernelMixW m →
    θ_run (Cert.KernelMixW.defs (F := Bits)) (onTc (τ := Cert.KernelMixW.τ) (Cert.KernelMixW.main (F := Bits))) ⟨m, fun _ => 0, g⟩ (fun r => (∀ c : Dev Cert.KernelMixW.nD,
      r.2.mem ((c.tc : Thread Cert.KernelMixW.nD Cert.KernelMixW.τ).loc Cert.KernelMixW.main_arg0) = m ((c.tc : Thread Cert.KernelMixW.nD Cert.KernelMixW.τ).loc Cert.KernelMixW.main_arg0)
      ∧ r.2.mem ((c.tc : Thread Cert.KernelMixW.nD Cert.KernelMixW.τ).loc Cert.KernelMixW.main_arg1) = m ((c.tc : Thread Cert.KernelMixW.nD Cert.KernelMixW.τ).loc Cert.KernelMixW.main_arg1)
      ∧ r.2.mem ((c.tc : Thread Cert.KernelMixW.nD Cert.KernelMixW.τ).loc Cert.KernelMixW.main_arg2) = m ((c.tc : Thread Cert.KernelMixW.nD Cert.KernelMixW.τ).loc Cert.KernelMixW.main_arg2)
      ∧ r.2.mem ((c.tc : Thread Cert.KernelMixW.nD Cert.KernelMixW.τ).loc Cert.KernelMixW.main_arg3) = m ((c.tc : Thread Cert.KernelMixW.nD Cert.KernelMixW.τ).loc Cert.KernelMixW.main_arg3)
      ∧ r.2.mem ((c.tc : Thread Cert.KernelMixW.nD Cert.KernelMixW.τ).loc Cert.KernelMixW.main_arg4) = m ((c.tc : Thread Cert.KernelMixW.nD Cert.KernelMixW.τ).loc Cert.KernelMixW.main_arg4)
      ∧ r.2.mem ((c.tc : Thread Cert.KernelMixW.nD Cert.KernelMixW.τ).loc Cert.KernelMixW.main_arg5) = m ((c.tc : Thread Cert.KernelMixW.nD Cert.KernelMixW.τ).loc Cert.KernelMixW.main_arg5))
      ∧ r.2.sem = fun _ => 0)

def quiescent_KernelMixWIdeal [hKernelMixWIdeal : Cert.KernelMixWIdeal.Facts] : Prop :=
  ∀ (m : (ℓ : Loc Cert.KernelMixWIdeal.nD Cert.KernelMixWIdeal.τ Cert.KernelMixWIdeal.sig) → Buf (Elt Ideal) ℓ) (g : Dev Cert.KernelMixWIdeal.nD → PrngReg), Pre_KernelMixWIdeal m →
    θ_run (Cert.KernelMixWIdeal.defs (F := Ideal)) (onTc (τ := Cert.KernelMixWIdeal.τ) (Cert.KernelMixWIdeal.main (F := Ideal))) ⟨m, fun _ => 0, g⟩ (fun r => (∀ c : Dev Cert.KernelMixWIdeal.nD,
      r.2.mem ((c.tc : Thread Cert.KernelMixWIdeal.nD Cert.KernelMixWIdeal.τ).loc Cert.KernelMixWIdeal.main_arg0) = m ((c.tc : Thread Cert.KernelMixWIdeal.nD Cert.KernelMixWIdeal.τ).loc Cert.KernelMixWIdeal.main_arg0)
      ∧ r.2.mem ((c.tc : Thread Cert.KernelMixWIdeal.nD Cert.KernelMixWIdeal.τ).loc Cert.KernelMixWIdeal.main_arg1) = m ((c.tc : Thread Cert.KernelMixWIdeal.nD Cert.KernelMixWIdeal.τ).loc Cert.KernelMixWIdeal.main_arg1)
      ∧ r.2.mem ((c.tc : Thread Cert.KernelMixWIdeal.nD Cert.KernelMixWIdeal.τ).loc Cert.KernelMixWIdeal.main_arg2) = m ((c.tc : Thread Cert.KernelMixWIdeal.nD Cert.KernelMixWIdeal.τ).loc Cert.KernelMixWIdeal.main_arg2)
      ∧ r.2.mem ((c.tc : Thread Cert.KernelMixWIdeal.nD Cert.KernelMixWIdeal.τ).loc Cert.KernelMixWIdeal.main_arg3) = m ((c.tc : Thread Cert.KernelMixWIdeal.nD Cert.KernelMixWIdeal.τ).loc Cert.KernelMixWIdeal.main_arg3)
      ∧ r.2.mem ((c.tc : Thread Cert.KernelMixWIdeal.nD Cert.KernelMixWIdeal.τ).loc Cert.KernelMixWIdeal.main_arg4) = m ((c.tc : Thread Cert.KernelMixWIdeal.nD Cert.KernelMixWIdeal.τ).loc Cert.KernelMixWIdeal.main_arg4)
      ∧ r.2.mem ((c.tc : Thread Cert.KernelMixWIdeal.nD Cert.KernelMixWIdeal.τ).loc Cert.KernelMixWIdeal.main_arg5) = m ((c.tc : Thread Cert.KernelMixWIdeal.nD Cert.KernelMixWIdeal.τ).loc Cert.KernelMixWIdeal.main_arg5))
      ∧ r.2.sem = fun _ => 0)

def quiescent_KernelMixWIdeal_pre_finite_mixw [hKernelMixWIdeal : Cert.KernelMixWIdeal.Facts] [hPre_finite_mixw : Cert.Pre_finite_mixw.Facts] : Prop :=
  ∀ (m : (ℓ : Loc Cert.KernelMixWIdeal.nD Cert.KernelMixWIdeal.τ Cert.KernelMixWIdeal.sig) → Buf (Elt Ideal) ℓ) (g : Dev Cert.KernelMixWIdeal.nD → PrngReg), Pre_KernelMixWIdeal_finite_mixw m →
    θ_run (Cert.KernelMixWIdeal.defs (F := Ideal)) (onTc (τ := Cert.KernelMixWIdeal.τ) (Cert.KernelMixWIdeal.main (F := Ideal))) ⟨m, fun _ => 0, g⟩ (fun r => (∀ c : Dev Cert.KernelMixWIdeal.nD,
      r.2.mem ((c.tc : Thread Cert.KernelMixWIdeal.nD Cert.KernelMixWIdeal.τ).loc Cert.KernelMixWIdeal.main_arg0) = m ((c.tc : Thread Cert.KernelMixWIdeal.nD Cert.KernelMixWIdeal.τ).loc Cert.KernelMixWIdeal.main_arg0)
      ∧ r.2.mem ((c.tc : Thread Cert.KernelMixWIdeal.nD Cert.KernelMixWIdeal.τ).loc Cert.KernelMixWIdeal.main_arg1) = m ((c.tc : Thread Cert.KernelMixWIdeal.nD Cert.KernelMixWIdeal.τ).loc Cert.KernelMixWIdeal.main_arg1)
      ∧ r.2.mem ((c.tc : Thread Cert.KernelMixWIdeal.nD Cert.KernelMixWIdeal.τ).loc Cert.KernelMixWIdeal.main_arg2) = m ((c.tc : Thread Cert.KernelMixWIdeal.nD Cert.KernelMixWIdeal.τ).loc Cert.KernelMixWIdeal.main_arg2)
      ∧ r.2.mem ((c.tc : Thread Cert.KernelMixWIdeal.nD Cert.KernelMixWIdeal.τ).loc Cert.KernelMixWIdeal.main_arg3) = m ((c.tc : Thread Cert.KernelMixWIdeal.nD Cert.KernelMixWIdeal.τ).loc Cert.KernelMixWIdeal.main_arg3)
      ∧ r.2.mem ((c.tc : Thread Cert.KernelMixWIdeal.nD Cert.KernelMixWIdeal.τ).loc Cert.KernelMixWIdeal.main_arg4) = m ((c.tc : Thread Cert.KernelMixWIdeal.nD Cert.KernelMixWIdeal.τ).loc Cert.KernelMixWIdeal.main_arg4)
      ∧ r.2.mem ((c.tc : Thread Cert.KernelMixWIdeal.nD Cert.KernelMixWIdeal.τ).loc Cert.KernelMixWIdeal.main_arg5) = m ((c.tc : Thread Cert.KernelMixWIdeal.nD Cert.KernelMixWIdeal.τ).loc Cert.KernelMixWIdeal.main_arg5))
      ∧ r.2.sem = fun _ => 0)

def quiescent_ReferenceMixWIdeal [hReferenceMixWIdeal : Cert.ReferenceMixWIdeal.Facts] : Prop :=
  ∀ (m : (ℓ : Loc Cert.ReferenceMixWIdeal.nD Cert.ReferenceMixWIdeal.τ Cert.ReferenceMixWIdeal.sig) → Buf (Elt Ideal) ℓ) (g : Dev Cert.ReferenceMixWIdeal.nD → PrngReg), Pre_ReferenceMixWIdeal m →
    θ_run (Cert.ReferenceMixWIdeal.defs (F := Ideal)) (onTc (τ := Cert.ReferenceMixWIdeal.τ) (Cert.ReferenceMixWIdeal.main (F := Ideal))) ⟨m, fun _ => 0, g⟩ (fun r => (∀ c : Dev Cert.ReferenceMixWIdeal.nD,
      r.2.mem ((c.tc : Thread Cert.ReferenceMixWIdeal.nD Cert.ReferenceMixWIdeal.τ).loc Cert.ReferenceMixWIdeal.main_arg0) = m ((c.tc : Thread Cert.ReferenceMixWIdeal.nD Cert.ReferenceMixWIdeal.τ).loc Cert.ReferenceMixWIdeal.main_arg0)
      ∧ r.2.mem ((c.tc : Thread Cert.ReferenceMixWIdeal.nD Cert.ReferenceMixWIdeal.τ).loc Cert.ReferenceMixWIdeal.main_arg1) = m ((c.tc : Thread Cert.ReferenceMixWIdeal.nD Cert.ReferenceMixWIdeal.τ).loc Cert.ReferenceMixWIdeal.main_arg1)
      ∧ r.2.mem ((c.tc : Thread Cert.ReferenceMixWIdeal.nD Cert.ReferenceMixWIdeal.τ).loc Cert.ReferenceMixWIdeal.main_arg2) = m ((c.tc : Thread Cert.ReferenceMixWIdeal.nD Cert.ReferenceMixWIdeal.τ).loc Cert.ReferenceMixWIdeal.main_arg2)
      ∧ r.2.mem ((c.tc : Thread Cert.ReferenceMixWIdeal.nD Cert.ReferenceMixWIdeal.τ).loc Cert.ReferenceMixWIdeal.main_arg3) = m ((c.tc : Thread Cert.ReferenceMixWIdeal.nD Cert.ReferenceMixWIdeal.τ).loc Cert.ReferenceMixWIdeal.main_arg3)
      ∧ r.2.mem ((c.tc : Thread Cert.ReferenceMixWIdeal.nD Cert.ReferenceMixWIdeal.τ).loc Cert.ReferenceMixWIdeal.main_arg4) = m ((c.tc : Thread Cert.ReferenceMixWIdeal.nD Cert.ReferenceMixWIdeal.τ).loc Cert.ReferenceMixWIdeal.main_arg4)
      ∧ r.2.mem ((c.tc : Thread Cert.ReferenceMixWIdeal.nD Cert.ReferenceMixWIdeal.τ).loc Cert.ReferenceMixWIdeal.main_arg5) = m ((c.tc : Thread Cert.ReferenceMixWIdeal.nD Cert.ReferenceMixWIdeal.τ).loc Cert.ReferenceMixWIdeal.main_arg5))
      ∧ r.2.sem = fun _ => 0)

def quiescent_ReferenceMixWIdeal_pre_finite_mixw [hReferenceMixWIdeal : Cert.ReferenceMixWIdeal.Facts] [hPre_finite_mixw : Cert.Pre_finite_mixw.Facts] : Prop :=
  ∀ (m : (ℓ : Loc Cert.ReferenceMixWIdeal.nD Cert.ReferenceMixWIdeal.τ Cert.ReferenceMixWIdeal.sig) → Buf (Elt Ideal) ℓ) (g : Dev Cert.ReferenceMixWIdeal.nD → PrngReg), Pre_ReferenceMixWIdeal_finite_mixw m →
    θ_run (Cert.ReferenceMixWIdeal.defs (F := Ideal)) (onTc (τ := Cert.ReferenceMixWIdeal.τ) (Cert.ReferenceMixWIdeal.main (F := Ideal))) ⟨m, fun _ => 0, g⟩ (fun r => (∀ c : Dev Cert.ReferenceMixWIdeal.nD,
      r.2.mem ((c.tc : Thread Cert.ReferenceMixWIdeal.nD Cert.ReferenceMixWIdeal.τ).loc Cert.ReferenceMixWIdeal.main_arg0) = m ((c.tc : Thread Cert.ReferenceMixWIdeal.nD Cert.ReferenceMixWIdeal.τ).loc Cert.ReferenceMixWIdeal.main_arg0)
      ∧ r.2.mem ((c.tc : Thread Cert.ReferenceMixWIdeal.nD Cert.ReferenceMixWIdeal.τ).loc Cert.ReferenceMixWIdeal.main_arg1) = m ((c.tc : Thread Cert.ReferenceMixWIdeal.nD Cert.ReferenceMixWIdeal.τ).loc Cert.ReferenceMixWIdeal.main_arg1)
      ∧ r.2.mem ((c.tc : Thread Cert.ReferenceMixWIdeal.nD Cert.ReferenceMixWIdeal.τ).loc Cert.ReferenceMixWIdeal.main_arg2) = m ((c.tc : Thread Cert.ReferenceMixWIdeal.nD Cert.ReferenceMixWIdeal.τ).loc Cert.ReferenceMixWIdeal.main_arg2)
      ∧ r.2.mem ((c.tc : Thread Cert.ReferenceMixWIdeal.nD Cert.ReferenceMixWIdeal.τ).loc Cert.ReferenceMixWIdeal.main_arg3) = m ((c.tc : Thread Cert.ReferenceMixWIdeal.nD Cert.ReferenceMixWIdeal.τ).loc Cert.ReferenceMixWIdeal.main_arg3)
      ∧ r.2.mem ((c.tc : Thread Cert.ReferenceMixWIdeal.nD Cert.ReferenceMixWIdeal.τ).loc Cert.ReferenceMixWIdeal.main_arg4) = m ((c.tc : Thread Cert.ReferenceMixWIdeal.nD Cert.ReferenceMixWIdeal.τ).loc Cert.ReferenceMixWIdeal.main_arg4)
      ∧ r.2.mem ((c.tc : Thread Cert.ReferenceMixWIdeal.nD Cert.ReferenceMixWIdeal.τ).loc Cert.ReferenceMixWIdeal.main_arg5) = m ((c.tc : Thread Cert.ReferenceMixWIdeal.nD Cert.ReferenceMixWIdeal.τ).loc Cert.ReferenceMixWIdeal.main_arg5))
      ∧ r.2.sem = fun _ => 0)

def quiescent_KernelTaps [hKernelTaps : Cert.KernelTaps.Facts] : Prop :=
  ∀ (m : (ℓ : Loc Cert.KernelTaps.nD Cert.KernelTaps.τ Cert.KernelTaps.sig) → Buf (Elt Bits) ℓ) (g : Dev Cert.KernelTaps.nD → PrngReg), Pre_KernelTaps m →
    θ_run (Cert.KernelTaps.defs (F := Bits)) (onTc (τ := Cert.KernelTaps.τ) (Cert.KernelTaps.main (F := Bits))) ⟨m, fun _ => 0, g⟩ (fun r => (∀ c : Dev Cert.KernelTaps.nD,
      r.2.mem ((c.tc : Thread Cert.KernelTaps.nD Cert.KernelTaps.τ).loc Cert.KernelTaps.main_arg0) = m ((c.tc : Thread Cert.KernelTaps.nD Cert.KernelTaps.τ).loc Cert.KernelTaps.main_arg0)
      ∧ r.2.mem ((c.tc : Thread Cert.KernelTaps.nD Cert.KernelTaps.τ).loc Cert.KernelTaps.main_arg1) = m ((c.tc : Thread Cert.KernelTaps.nD Cert.KernelTaps.τ).loc Cert.KernelTaps.main_arg1)
      ∧ r.2.mem ((c.tc : Thread Cert.KernelTaps.nD Cert.KernelTaps.τ).loc Cert.KernelTaps.main_arg2) = m ((c.tc : Thread Cert.KernelTaps.nD Cert.KernelTaps.τ).loc Cert.KernelTaps.main_arg2)
      ∧ r.2.mem ((c.tc : Thread Cert.KernelTaps.nD Cert.KernelTaps.τ).loc Cert.KernelTaps.main_arg3) = m ((c.tc : Thread Cert.KernelTaps.nD Cert.KernelTaps.τ).loc Cert.KernelTaps.main_arg3)
      ∧ r.2.mem ((c.tc : Thread Cert.KernelTaps.nD Cert.KernelTaps.τ).loc Cert.KernelTaps.main_arg4) = m ((c.tc : Thread Cert.KernelTaps.nD Cert.KernelTaps.τ).loc Cert.KernelTaps.main_arg4)
      ∧ r.2.mem ((c.tc : Thread Cert.KernelTaps.nD Cert.KernelTaps.τ).loc Cert.KernelTaps.main_arg5) = m ((c.tc : Thread Cert.KernelTaps.nD Cert.KernelTaps.τ).loc Cert.KernelTaps.main_arg5))
      ∧ r.2.sem = fun _ => 0)

def quiescent_KernelTapsIdeal [hKernelTapsIdeal : Cert.KernelTapsIdeal.Facts] : Prop :=
  ∀ (m : (ℓ : Loc Cert.KernelTapsIdeal.nD Cert.KernelTapsIdeal.τ Cert.KernelTapsIdeal.sig) → Buf (Elt Ideal) ℓ) (g : Dev Cert.KernelTapsIdeal.nD → PrngReg), Pre_KernelTapsIdeal m →
    θ_run (Cert.KernelTapsIdeal.defs (F := Ideal)) (onTc (τ := Cert.KernelTapsIdeal.τ) (Cert.KernelTapsIdeal.main (F := Ideal))) ⟨m, fun _ => 0, g⟩ (fun r => (∀ c : Dev Cert.KernelTapsIdeal.nD,
      r.2.mem ((c.tc : Thread Cert.KernelTapsIdeal.nD Cert.KernelTapsIdeal.τ).loc Cert.KernelTapsIdeal.main_arg0) = m ((c.tc : Thread Cert.KernelTapsIdeal.nD Cert.KernelTapsIdeal.τ).loc Cert.KernelTapsIdeal.main_arg0)
      ∧ r.2.mem ((c.tc : Thread Cert.KernelTapsIdeal.nD Cert.KernelTapsIdeal.τ).loc Cert.KernelTapsIdeal.main_arg1) = m ((c.tc : Thread Cert.KernelTapsIdeal.nD Cert.KernelTapsIdeal.τ).loc Cert.KernelTapsIdeal.main_arg1)
      ∧ r.2.mem ((c.tc : Thread Cert.KernelTapsIdeal.nD Cert.KernelTapsIdeal.τ).loc Cert.KernelTapsIdeal.main_arg2) = m ((c.tc : Thread Cert.KernelTapsIdeal.nD Cert.KernelTapsIdeal.τ).loc Cert.KernelTapsIdeal.main_arg2)
      ∧ r.2.mem ((c.tc : Thread Cert.KernelTapsIdeal.nD Cert.KernelTapsIdeal.τ).loc Cert.KernelTapsIdeal.main_arg3) = m ((c.tc : Thread Cert.KernelTapsIdeal.nD Cert.KernelTapsIdeal.τ).loc Cert.KernelTapsIdeal.main_arg3)
      ∧ r.2.mem ((c.tc : Thread Cert.KernelTapsIdeal.nD Cert.KernelTapsIdeal.τ).loc Cert.KernelTapsIdeal.main_arg4) = m ((c.tc : Thread Cert.KernelTapsIdeal.nD Cert.KernelTapsIdeal.τ).loc Cert.KernelTapsIdeal.main_arg4)
      ∧ r.2.mem ((c.tc : Thread Cert.KernelTapsIdeal.nD Cert.KernelTapsIdeal.τ).loc Cert.KernelTapsIdeal.main_arg5) = m ((c.tc : Thread Cert.KernelTapsIdeal.nD Cert.KernelTapsIdeal.τ).loc Cert.KernelTapsIdeal.main_arg5))
      ∧ r.2.sem = fun _ => 0)

def quiescent_ReferenceTapsIdeal [hReferenceTapsIdeal : Cert.ReferenceTapsIdeal.Facts] : Prop :=
  ∀ (m : (ℓ : Loc Cert.ReferenceTapsIdeal.nD Cert.ReferenceTapsIdeal.τ Cert.ReferenceTapsIdeal.sig) → Buf (Elt Ideal) ℓ) (g : Dev Cert.ReferenceTapsIdeal.nD → PrngReg), Pre_ReferenceTapsIdeal m →
    θ_run (Cert.ReferenceTapsIdeal.defs (F := Ideal)) (onTc (τ := Cert.ReferenceTapsIdeal.τ) (Cert.ReferenceTapsIdeal.main (F := Ideal))) ⟨m, fun _ => 0, g⟩ (fun r => (∀ c : Dev Cert.ReferenceTapsIdeal.nD,
      r.2.mem ((c.tc : Thread Cert.ReferenceTapsIdeal.nD Cert.ReferenceTapsIdeal.τ).loc Cert.ReferenceTapsIdeal.main_arg0) = m ((c.tc : Thread Cert.ReferenceTapsIdeal.nD Cert.ReferenceTapsIdeal.τ).loc Cert.ReferenceTapsIdeal.main_arg0)
      ∧ r.2.mem ((c.tc : Thread Cert.ReferenceTapsIdeal.nD Cert.ReferenceTapsIdeal.τ).loc Cert.ReferenceTapsIdeal.main_arg1) = m ((c.tc : Thread Cert.ReferenceTapsIdeal.nD Cert.ReferenceTapsIdeal.τ).loc Cert.ReferenceTapsIdeal.main_arg1)
      ∧ r.2.mem ((c.tc : Thread Cert.ReferenceTapsIdeal.nD Cert.ReferenceTapsIdeal.τ).loc Cert.ReferenceTapsIdeal.main_arg2) = m ((c.tc : Thread Cert.ReferenceTapsIdeal.nD Cert.ReferenceTapsIdeal.τ).loc Cert.ReferenceTapsIdeal.main_arg2)
      ∧ r.2.mem ((c.tc : Thread Cert.ReferenceTapsIdeal.nD Cert.ReferenceTapsIdeal.τ).loc Cert.ReferenceTapsIdeal.main_arg3) = m ((c.tc : Thread Cert.ReferenceTapsIdeal.nD Cert.ReferenceTapsIdeal.τ).loc Cert.ReferenceTapsIdeal.main_arg3)
      ∧ r.2.mem ((c.tc : Thread Cert.ReferenceTapsIdeal.nD Cert.ReferenceTapsIdeal.τ).loc Cert.ReferenceTapsIdeal.main_arg4) = m ((c.tc : Thread Cert.ReferenceTapsIdeal.nD Cert.ReferenceTapsIdeal.τ).loc Cert.ReferenceTapsIdeal.main_arg4)
      ∧ r.2.mem ((c.tc : Thread Cert.ReferenceTapsIdeal.nD Cert.ReferenceTapsIdeal.τ).loc Cert.ReferenceTapsIdeal.main_arg5) = m ((c.tc : Thread Cert.ReferenceTapsIdeal.nD Cert.ReferenceTapsIdeal.τ).loc Cert.ReferenceTapsIdeal.main_arg5))
      ∧ r.2.sem = fun _ => 0)

def preserves_KernelMemNorm_KernelMemNormIdeal : Prop :=
  True

def algebraic_KernelMemNormIdeal_ReferenceMemNormIdeal [hKernelMemNormIdeal : Cert.KernelMemNormIdeal.Facts] [hReferenceMemNormIdeal : Cert.ReferenceMemNormIdeal.Facts] : Prop :=
  ∀ (m : (ℓ : Loc Cert.KernelMemNormIdeal.nD Cert.KernelMemNormIdeal.τ Cert.KernelMemNormIdeal.sig) → Buf (Elt Ideal) ℓ) (g : Dev Cert.KernelMemNormIdeal.nD → PrngReg)
    (m' : (ℓ : Loc Cert.ReferenceMemNormIdeal.nD Cert.ReferenceMemNormIdeal.τ Cert.ReferenceMemNormIdeal.sig) → Buf (Elt Ideal) ℓ) (g' : Dev Cert.ReferenceMemNormIdeal.nD → PrngReg), Pre_KernelMemNormIdeal m →
    (∀ c : Dev Cert.KernelMemNormIdeal.nD,
      m' ((c.tc : Thread Cert.ReferenceMemNormIdeal.nD Cert.ReferenceMemNormIdeal.τ).loc Cert.ReferenceMemNormIdeal.main_arg0) = m ((c.tc : Thread Cert.KernelMemNormIdeal.nD Cert.KernelMemNormIdeal.τ).loc Cert.KernelMemNormIdeal.main_arg0)
      ∧ m' ((c.tc : Thread Cert.ReferenceMemNormIdeal.nD Cert.ReferenceMemNormIdeal.τ).loc Cert.ReferenceMemNormIdeal.main_arg1) = m ((c.tc : Thread Cert.KernelMemNormIdeal.nD Cert.KernelMemNormIdeal.τ).loc Cert.KernelMemNormIdeal.main_arg1)
      ∧ m' ((c.tc : Thread Cert.ReferenceMemNormIdeal.nD Cert.ReferenceMemNormIdeal.τ).loc Cert.ReferenceMemNormIdeal.main_arg2) = m ((c.tc : Thread Cert.KernelMemNormIdeal.nD Cert.KernelMemNormIdeal.τ).loc Cert.KernelMemNormIdeal.main_arg2)) →
    ∃ (v0 : (c : Dev Cert.KernelMemNormIdeal.nD) → Buf (Elt Ideal) ((c.tc : Thread Cert.KernelMemNormIdeal.nD Cert.KernelMemNormIdeal.τ).loc Cert.KernelMemNormIdeal.main_v2)),
      θ_run (Cert.KernelMemNormIdeal.defs (F := Ideal)) (onTc (τ := Cert.KernelMemNormIdeal.τ) (Cert.KernelMemNormIdeal.main (F := Ideal))) ⟨m, fun _ => 0, g⟩ (fun r => ∀ c : Dev Cert.KernelMemNormIdeal.nD,
          r.2.mem ((c.tc : Thread Cert.KernelMemNormIdeal.nD Cert.KernelMemNormIdeal.τ).loc Cert.KernelMemNormIdeal.main_v2) = v0 c
          ∧ r.2.mem ((c.tc : Thread Cert.KernelMemNormIdeal.nD Cert.KernelMemNormIdeal.τ).loc Cert.KernelMemNormIdeal.main_arg0) = m ((c.tc : Thread Cert.KernelMemNormIdeal.nD Cert.KernelMemNormIdeal.τ).loc Cert.KernelMemNormIdeal.main_arg0)
          ∧ r.2.mem ((c.tc : Thread Cert.KernelMemNormIdeal.nD Cert.KernelMemNormIdeal.τ).loc Cert.KernelMemNormIdeal.main_arg1) = m ((c.tc : Thread Cert.KernelMemNormIdeal.nD Cert.KernelMemNormIdeal.τ).loc Cert.KernelMemNormIdeal.main_arg1)
          ∧ r.2.mem ((c.tc : Thread Cert.KernelMemNormIdeal.nD Cert.KernelMemNormIdeal.τ).loc Cert.KernelMemNormIdeal.main_arg2) = m ((c.tc : Thread Cert.KernelMemNormIdeal.nD Cert.KernelMemNormIdeal.τ).loc Cert.KernelMemNormIdeal.main_arg2))
      ∧ θ_run (Cert.ReferenceMemNormIdeal.defs (F := Ideal)) (onTc (τ := Cert.ReferenceMemNormIdeal.τ) (Cert.ReferenceMemNormIdeal.main (F := Ideal))) ⟨m', fun _ => 0, g'⟩ (fun r => ∀ c : Dev Cert.ReferenceMemNormIdeal.nD,
          r.2.mem ((c.tc : Thread Cert.ReferenceMemNormIdeal.nD Cert.ReferenceMemNormIdeal.τ).loc Cert.ReferenceMemNormIdeal.main_v18) = v0 c
          ∧ r.2.mem ((c.tc : Thread Cert.ReferenceMemNormIdeal.nD Cert.ReferenceMemNormIdeal.τ).loc Cert.ReferenceMemNormIdeal.main_arg0) = m' ((c.tc : Thread Cert.ReferenceMemNormIdeal.nD Cert.ReferenceMemNormIdeal.τ).loc Cert.ReferenceMemNormIdeal.main_arg0)
          ∧ r.2.mem ((c.tc : Thread Cert.ReferenceMemNormIdeal.nD Cert.ReferenceMemNormIdeal.τ).loc Cert.ReferenceMemNormIdeal.main_arg1) = m' ((c.tc : Thread Cert.ReferenceMemNormIdeal.nD Cert.ReferenceMemNormIdeal.τ).loc Cert.ReferenceMemNormIdeal.main_arg1)
          ∧ r.2.mem ((c.tc : Thread Cert.ReferenceMemNormIdeal.nD Cert.ReferenceMemNormIdeal.τ).loc Cert.ReferenceMemNormIdeal.main_arg2) = m' ((c.tc : Thread Cert.ReferenceMemNormIdeal.nD Cert.ReferenceMemNormIdeal.τ).loc Cert.ReferenceMemNormIdeal.main_arg2))

def preserves_KernelMixNorm_KernelMixNormIdeal : Prop :=
  True

def algebraic_KernelMixNormIdeal_ReferenceMixNormIdeal_pre_finite_mixnorm [hKernelMixNormIdeal : Cert.KernelMixNormIdeal.Facts] [hReferenceMixNormIdeal : Cert.ReferenceMixNormIdeal.Facts] [hPre_finite_mixnorm : Cert.Pre_finite_mixnorm.Facts] : Prop :=
  ∀ (m : (ℓ : Loc Cert.KernelMixNormIdeal.nD Cert.KernelMixNormIdeal.τ Cert.KernelMixNormIdeal.sig) → Buf (Elt Ideal) ℓ) (g : Dev Cert.KernelMixNormIdeal.nD → PrngReg)
    (m' : (ℓ : Loc Cert.ReferenceMixNormIdeal.nD Cert.ReferenceMixNormIdeal.τ Cert.ReferenceMixNormIdeal.sig) → Buf (Elt Ideal) ℓ) (g' : Dev Cert.ReferenceMixNormIdeal.nD → PrngReg), Pre_KernelMixNormIdeal_finite_mixnorm m →
    (∀ c : Dev Cert.KernelMixNormIdeal.nD,
      m' ((c.tc : Thread Cert.ReferenceMixNormIdeal.nD Cert.ReferenceMixNormIdeal.τ).loc Cert.ReferenceMixNormIdeal.main_arg0) = m ((c.tc : Thread Cert.KernelMixNormIdeal.nD Cert.KernelMixNormIdeal.τ).loc Cert.KernelMixNormIdeal.main_arg0)
      ∧ m' ((c.tc : Thread Cert.ReferenceMixNormIdeal.nD Cert.ReferenceMixNormIdeal.τ).loc Cert.ReferenceMixNormIdeal.main_arg1) = m ((c.tc : Thread Cert.KernelMixNormIdeal.nD Cert.KernelMixNormIdeal.τ).loc Cert.KernelMixNormIdeal.main_arg1)
      ∧ m' ((c.tc : Thread Cert.ReferenceMixNormIdeal.nD Cert.ReferenceMixNormIdeal.τ).loc Cert.ReferenceMixNormIdeal.main_arg2) = m ((c.tc : Thread Cert.KernelMixNormIdeal.nD Cert.KernelMixNormIdeal.τ).loc Cert.KernelMixNormIdeal.main_arg2)
      ∧ m' ((c.tc : Thread Cert.ReferenceMixNormIdeal.nD Cert.ReferenceMixNormIdeal.τ).loc Cert.ReferenceMixNormIdeal.main_arg3) = m ((c.tc : Thread Cert.KernelMixNormIdeal.nD Cert.KernelMixNormIdeal.τ).loc Cert.KernelMixNormIdeal.main_arg3)
      ∧ m' ((c.tc : Thread Cert.ReferenceMixNormIdeal.nD Cert.ReferenceMixNormIdeal.τ).loc Cert.ReferenceMixNormIdeal.main_arg4) = m ((c.tc : Thread Cert.KernelMixNormIdeal.nD Cert.KernelMixNormIdeal.τ).loc Cert.KernelMixNormIdeal.main_arg4)) →
    ∃ (v0 : (c : Dev Cert.KernelMixNormIdeal.nD) → Buf (Elt Ideal) ((c.tc : Thread Cert.KernelMixNormIdeal.nD Cert.KernelMixNormIdeal.τ).loc Cert.KernelMixNormIdeal.main_v8_0)) (v1 : (c : Dev Cert.KernelMixNormIdeal.nD) → Buf (Elt Ideal) ((c.tc : Thread Cert.KernelMixNormIdeal.nD Cert.KernelMixNormIdeal.τ).loc Cert.KernelMixNormIdeal.main_v8_1)),
      θ_run (Cert.KernelMixNormIdeal.defs (F := Ideal)) (onTc (τ := Cert.KernelMixNormIdeal.τ) (Cert.KernelMixNormIdeal.main (F := Ideal))) ⟨m, fun _ => 0, g⟩ (fun r => ∀ c : Dev Cert.KernelMixNormIdeal.nD,
          r.2.mem ((c.tc : Thread Cert.KernelMixNormIdeal.nD Cert.KernelMixNormIdeal.τ).loc Cert.KernelMixNormIdeal.main_v8_0) = v0 c
          ∧ r.2.mem ((c.tc : Thread Cert.KernelMixNormIdeal.nD Cert.KernelMixNormIdeal.τ).loc Cert.KernelMixNormIdeal.main_v8_1) = v1 c
          ∧ r.2.mem ((c.tc : Thread Cert.KernelMixNormIdeal.nD Cert.KernelMixNormIdeal.τ).loc Cert.KernelMixNormIdeal.main_arg0) = m ((c.tc : Thread Cert.KernelMixNormIdeal.nD Cert.KernelMixNormIdeal.τ).loc Cert.KernelMixNormIdeal.main_arg0)
          ∧ r.2.mem ((c.tc : Thread Cert.KernelMixNormIdeal.nD Cert.KernelMixNormIdeal.τ).loc Cert.KernelMixNormIdeal.main_arg1) = m ((c.tc : Thread Cert.KernelMixNormIdeal.nD Cert.KernelMixNormIdeal.τ).loc Cert.KernelMixNormIdeal.main_arg1)
          ∧ r.2.mem ((c.tc : Thread Cert.KernelMixNormIdeal.nD Cert.KernelMixNormIdeal.τ).loc Cert.KernelMixNormIdeal.main_arg2) = m ((c.tc : Thread Cert.KernelMixNormIdeal.nD Cert.KernelMixNormIdeal.τ).loc Cert.KernelMixNormIdeal.main_arg2)
          ∧ r.2.mem ((c.tc : Thread Cert.KernelMixNormIdeal.nD Cert.KernelMixNormIdeal.τ).loc Cert.KernelMixNormIdeal.main_arg3) = m ((c.tc : Thread Cert.KernelMixNormIdeal.nD Cert.KernelMixNormIdeal.τ).loc Cert.KernelMixNormIdeal.main_arg3)
          ∧ r.2.mem ((c.tc : Thread Cert.KernelMixNormIdeal.nD Cert.KernelMixNormIdeal.τ).loc Cert.KernelMixNormIdeal.main_arg4) = m ((c.tc : Thread Cert.KernelMixNormIdeal.nD Cert.KernelMixNormIdeal.τ).loc Cert.KernelMixNormIdeal.main_arg4))
      ∧ θ_run (Cert.ReferenceMixNormIdeal.defs (F := Ideal)) (onTc (τ := Cert.ReferenceMixNormIdeal.τ) (Cert.ReferenceMixNormIdeal.main (F := Ideal))) ⟨m', fun _ => 0, g'⟩ (fun r => ∀ c : Dev Cert.ReferenceMixNormIdeal.nD,
          r.2.mem ((c.tc : Thread Cert.ReferenceMixNormIdeal.nD Cert.ReferenceMixNormIdeal.τ).loc Cert.ReferenceMixNormIdeal.main_v77) = v0 c
          ∧ r.2.mem ((c.tc : Thread Cert.ReferenceMixNormIdeal.nD Cert.ReferenceMixNormIdeal.τ).loc Cert.ReferenceMixNormIdeal.main_v79) = v1 c
          ∧ r.2.mem ((c.tc : Thread Cert.ReferenceMixNormIdeal.nD Cert.ReferenceMixNormIdeal.τ).loc Cert.ReferenceMixNormIdeal.main_arg0) = m' ((c.tc : Thread Cert.ReferenceMixNormIdeal.nD Cert.ReferenceMixNormIdeal.τ).loc Cert.ReferenceMixNormIdeal.main_arg0)
          ∧ r.2.mem ((c.tc : Thread Cert.ReferenceMixNormIdeal.nD Cert.ReferenceMixNormIdeal.τ).loc Cert.ReferenceMixNormIdeal.main_arg1) = m' ((c.tc : Thread Cert.ReferenceMixNormIdeal.nD Cert.ReferenceMixNormIdeal.τ).loc Cert.ReferenceMixNormIdeal.main_arg1)
          ∧ r.2.mem ((c.tc : Thread Cert.ReferenceMixNormIdeal.nD Cert.ReferenceMixNormIdeal.τ).loc Cert.ReferenceMixNormIdeal.main_arg2) = m' ((c.tc : Thread Cert.ReferenceMixNormIdeal.nD Cert.ReferenceMixNormIdeal.τ).loc Cert.ReferenceMixNormIdeal.main_arg2)
          ∧ r.2.mem ((c.tc : Thread Cert.ReferenceMixNormIdeal.nD Cert.ReferenceMixNormIdeal.τ).loc Cert.ReferenceMixNormIdeal.main_arg3) = m' ((c.tc : Thread Cert.ReferenceMixNormIdeal.nD Cert.ReferenceMixNormIdeal.τ).loc Cert.ReferenceMixNormIdeal.main_arg3)
          ∧ r.2.mem ((c.tc : Thread Cert.ReferenceMixNormIdeal.nD Cert.ReferenceMixNormIdeal.τ).loc Cert.ReferenceMixNormIdeal.main_arg4) = m' ((c.tc : Thread Cert.ReferenceMixNormIdeal.nD Cert.ReferenceMixNormIdeal.τ).loc Cert.ReferenceMixNormIdeal.main_arg4))

def preserves_KernelDH3_KernelDH3Ideal : Prop :=
  True

def algebraic_KernelDH3Ideal_ReferenceDH3Ideal_pre_finite_dh3 [hKernelDH3Ideal : Cert.KernelDH3Ideal.Facts] [hReferenceDH3Ideal : Cert.ReferenceDH3Ideal.Facts] [hPre_finite_dh3 : Cert.Pre_finite_dh3.Facts] : Prop :=
  ∀ (m : (ℓ : Loc Cert.KernelDH3Ideal.nD Cert.KernelDH3Ideal.τ Cert.KernelDH3Ideal.sig) → Buf (Elt Ideal) ℓ) (g : Dev Cert.KernelDH3Ideal.nD → PrngReg)
    (m' : (ℓ : Loc Cert.ReferenceDH3Ideal.nD Cert.ReferenceDH3Ideal.τ Cert.ReferenceDH3Ideal.sig) → Buf (Elt Ideal) ℓ) (g' : Dev Cert.ReferenceDH3Ideal.nD → PrngReg), Pre_KernelDH3Ideal_finite_dh3 m →
    (∀ c : Dev Cert.KernelDH3Ideal.nD,
      m' ((c.tc : Thread Cert.ReferenceDH3Ideal.nD Cert.ReferenceDH3Ideal.τ).loc Cert.ReferenceDH3Ideal.main_arg0) = m ((c.tc : Thread Cert.KernelDH3Ideal.nD Cert.KernelDH3Ideal.τ).loc Cert.KernelDH3Ideal.main_arg0)
      ∧ m' ((c.tc : Thread Cert.ReferenceDH3Ideal.nD Cert.ReferenceDH3Ideal.τ).loc Cert.ReferenceDH3Ideal.main_arg1) = m ((c.tc : Thread Cert.KernelDH3Ideal.nD Cert.KernelDH3Ideal.τ).loc Cert.KernelDH3Ideal.main_arg1)
      ∧ m' ((c.tc : Thread Cert.ReferenceDH3Ideal.nD Cert.ReferenceDH3Ideal.τ).loc Cert.ReferenceDH3Ideal.main_arg2) = m ((c.tc : Thread Cert.KernelDH3Ideal.nD Cert.KernelDH3Ideal.τ).loc Cert.KernelDH3Ideal.main_arg2)
      ∧ m' ((c.tc : Thread Cert.ReferenceDH3Ideal.nD Cert.ReferenceDH3Ideal.τ).loc Cert.ReferenceDH3Ideal.main_arg3) = m ((c.tc : Thread Cert.KernelDH3Ideal.nD Cert.KernelDH3Ideal.τ).loc Cert.KernelDH3Ideal.main_arg3)
      ∧ m' ((c.tc : Thread Cert.ReferenceDH3Ideal.nD Cert.ReferenceDH3Ideal.τ).loc Cert.ReferenceDH3Ideal.main_arg4) = m ((c.tc : Thread Cert.KernelDH3Ideal.nD Cert.KernelDH3Ideal.τ).loc Cert.KernelDH3Ideal.main_arg4)) →
    ∃ (v0 : (c : Dev Cert.KernelDH3Ideal.nD) → Buf (Elt Ideal) ((c.tc : Thread Cert.KernelDH3Ideal.nD Cert.KernelDH3Ideal.τ).loc Cert.KernelDH3Ideal.main_v11_0)) (v1 : (c : Dev Cert.KernelDH3Ideal.nD) → Buf (Elt Ideal) ((c.tc : Thread Cert.KernelDH3Ideal.nD Cert.KernelDH3Ideal.τ).loc Cert.KernelDH3Ideal.main_v11_1)) (v2 : (c : Dev Cert.KernelDH3Ideal.nD) → Buf (Elt Ideal) ((c.tc : Thread Cert.KernelDH3Ideal.nD Cert.KernelDH3Ideal.τ).loc Cert.KernelDH3Ideal.main_v11_2)),
      θ_run (Cert.KernelDH3Ideal.defs (F := Ideal)) (onTc (τ := Cert.KernelDH3Ideal.τ) (Cert.KernelDH3Ideal.main (F := Ideal))) ⟨m, fun _ => 0, g⟩ (fun r => ∀ c : Dev Cert.KernelDH3Ideal.nD,
          r.2.mem ((c.tc : Thread Cert.KernelDH3Ideal.nD Cert.KernelDH3Ideal.τ).loc Cert.KernelDH3Ideal.main_v11_0) = v0 c
          ∧ r.2.mem ((c.tc : Thread Cert.KernelDH3Ideal.nD Cert.KernelDH3Ideal.τ).loc Cert.KernelDH3Ideal.main_v11_1) = v1 c
          ∧ r.2.mem ((c.tc : Thread Cert.KernelDH3Ideal.nD Cert.KernelDH3Ideal.τ).loc Cert.KernelDH3Ideal.main_v11_2) = v2 c
          ∧ r.2.mem ((c.tc : Thread Cert.KernelDH3Ideal.nD Cert.KernelDH3Ideal.τ).loc Cert.KernelDH3Ideal.main_arg0) = m ((c.tc : Thread Cert.KernelDH3Ideal.nD Cert.KernelDH3Ideal.τ).loc Cert.KernelDH3Ideal.main_arg0)
          ∧ r.2.mem ((c.tc : Thread Cert.KernelDH3Ideal.nD Cert.KernelDH3Ideal.τ).loc Cert.KernelDH3Ideal.main_arg1) = m ((c.tc : Thread Cert.KernelDH3Ideal.nD Cert.KernelDH3Ideal.τ).loc Cert.KernelDH3Ideal.main_arg1)
          ∧ r.2.mem ((c.tc : Thread Cert.KernelDH3Ideal.nD Cert.KernelDH3Ideal.τ).loc Cert.KernelDH3Ideal.main_arg2) = m ((c.tc : Thread Cert.KernelDH3Ideal.nD Cert.KernelDH3Ideal.τ).loc Cert.KernelDH3Ideal.main_arg2)
          ∧ r.2.mem ((c.tc : Thread Cert.KernelDH3Ideal.nD Cert.KernelDH3Ideal.τ).loc Cert.KernelDH3Ideal.main_arg3) = m ((c.tc : Thread Cert.KernelDH3Ideal.nD Cert.KernelDH3Ideal.τ).loc Cert.KernelDH3Ideal.main_arg3)
          ∧ r.2.mem ((c.tc : Thread Cert.KernelDH3Ideal.nD Cert.KernelDH3Ideal.τ).loc Cert.KernelDH3Ideal.main_arg4) = m ((c.tc : Thread Cert.KernelDH3Ideal.nD Cert.KernelDH3Ideal.τ).loc Cert.KernelDH3Ideal.main_arg4))
      ∧ θ_run (Cert.ReferenceDH3Ideal.defs (F := Ideal)) (onTc (τ := Cert.ReferenceDH3Ideal.τ) (Cert.ReferenceDH3Ideal.main (F := Ideal))) ⟨m', fun _ => 0, g'⟩ (fun r => ∀ c : Dev Cert.ReferenceDH3Ideal.nD,
          r.2.mem ((c.tc : Thread Cert.ReferenceDH3Ideal.nD Cert.ReferenceDH3Ideal.τ).loc Cert.ReferenceDH3Ideal.main_v41) = v0 c
          ∧ r.2.mem ((c.tc : Thread Cert.ReferenceDH3Ideal.nD Cert.ReferenceDH3Ideal.τ).loc Cert.ReferenceDH3Ideal.main_v42) = v1 c
          ∧ r.2.mem ((c.tc : Thread Cert.ReferenceDH3Ideal.nD Cert.ReferenceDH3Ideal.τ).loc Cert.ReferenceDH3Ideal.main_v40) = v2 c
          ∧ r.2.mem ((c.tc : Thread Cert.ReferenceDH3Ideal.nD Cert.ReferenceDH3Ideal.τ).loc Cert.ReferenceDH3Ideal.main_arg0) = m' ((c.tc : Thread Cert.ReferenceDH3Ideal.nD Cert.ReferenceDH3Ideal.τ).loc Cert.ReferenceDH3Ideal.main_arg0)
          ∧ r.2.mem ((c.tc : Thread Cert.ReferenceDH3Ideal.nD Cert.ReferenceDH3Ideal.τ).loc Cert.ReferenceDH3Ideal.main_arg1) = m' ((c.tc : Thread Cert.ReferenceDH3Ideal.nD Cert.ReferenceDH3Ideal.τ).loc Cert.ReferenceDH3Ideal.main_arg1)
          ∧ r.2.mem ((c.tc : Thread Cert.ReferenceDH3Ideal.nD Cert.ReferenceDH3Ideal.τ).loc Cert.ReferenceDH3Ideal.main_arg2) = m' ((c.tc : Thread Cert.ReferenceDH3Ideal.nD Cert.ReferenceDH3Ideal.τ).loc Cert.ReferenceDH3Ideal.main_arg2)
          ∧ r.2.mem ((c.tc : Thread Cert.ReferenceDH3Ideal.nD Cert.ReferenceDH3Ideal.τ).loc Cert.ReferenceDH3Ideal.main_arg3) = m' ((c.tc : Thread Cert.ReferenceDH3Ideal.nD Cert.ReferenceDH3Ideal.τ).loc Cert.ReferenceDH3Ideal.main_arg3)
          ∧ r.2.mem ((c.tc : Thread Cert.ReferenceDH3Ideal.nD Cert.ReferenceDH3Ideal.τ).loc Cert.ReferenceDH3Ideal.main_arg4) = m' ((c.tc : Thread Cert.ReferenceDH3Ideal.nD Cert.ReferenceDH3Ideal.τ).loc Cert.ReferenceDH3Ideal.main_arg4))

def preserves_KernelDH2_KernelDH2Ideal : Prop :=
  True

def algebraic_KernelDH2Ideal_ReferenceDH2Ideal_pre_finite_dh2 [hKernelDH2Ideal : Cert.KernelDH2Ideal.Facts] [hReferenceDH2Ideal : Cert.ReferenceDH2Ideal.Facts] [hPre_finite_dh2 : Cert.Pre_finite_dh2.Facts] : Prop :=
  ∀ (m : (ℓ : Loc Cert.KernelDH2Ideal.nD Cert.KernelDH2Ideal.τ Cert.KernelDH2Ideal.sig) → Buf (Elt Ideal) ℓ) (g : Dev Cert.KernelDH2Ideal.nD → PrngReg)
    (m' : (ℓ : Loc Cert.ReferenceDH2Ideal.nD Cert.ReferenceDH2Ideal.τ Cert.ReferenceDH2Ideal.sig) → Buf (Elt Ideal) ℓ) (g' : Dev Cert.ReferenceDH2Ideal.nD → PrngReg), Pre_KernelDH2Ideal_finite_dh2 m →
    (∀ c : Dev Cert.KernelDH2Ideal.nD,
      m' ((c.tc : Thread Cert.ReferenceDH2Ideal.nD Cert.ReferenceDH2Ideal.τ).loc Cert.ReferenceDH2Ideal.main_arg0) = m ((c.tc : Thread Cert.KernelDH2Ideal.nD Cert.KernelDH2Ideal.τ).loc Cert.KernelDH2Ideal.main_arg0)
      ∧ m' ((c.tc : Thread Cert.ReferenceDH2Ideal.nD Cert.ReferenceDH2Ideal.τ).loc Cert.ReferenceDH2Ideal.main_arg1) = m ((c.tc : Thread Cert.KernelDH2Ideal.nD Cert.KernelDH2Ideal.τ).loc Cert.KernelDH2Ideal.main_arg1)
      ∧ m' ((c.tc : Thread Cert.ReferenceDH2Ideal.nD Cert.ReferenceDH2Ideal.τ).loc Cert.ReferenceDH2Ideal.main_arg2) = m ((c.tc : Thread Cert.KernelDH2Ideal.nD Cert.KernelDH2Ideal.τ).loc Cert.KernelDH2Ideal.main_arg2)
      ∧ m' ((c.tc : Thread Cert.ReferenceDH2Ideal.nD Cert.ReferenceDH2Ideal.τ).loc Cert.ReferenceDH2Ideal.main_arg3) = m ((c.tc : Thread Cert.KernelDH2Ideal.nD Cert.KernelDH2Ideal.τ).loc Cert.KernelDH2Ideal.main_arg3)
      ∧ m' ((c.tc : Thread Cert.ReferenceDH2Ideal.nD Cert.ReferenceDH2Ideal.τ).loc Cert.ReferenceDH2Ideal.main_arg4) = m ((c.tc : Thread Cert.KernelDH2Ideal.nD Cert.KernelDH2Ideal.τ).loc Cert.KernelDH2Ideal.main_arg4)) →
    ∃ (v0 : (c : Dev Cert.KernelDH2Ideal.nD) → Buf (Elt Ideal) ((c.tc : Thread Cert.KernelDH2Ideal.nD Cert.KernelDH2Ideal.τ).loc Cert.KernelDH2Ideal.main_v5_0)) (v1 : (c : Dev Cert.KernelDH2Ideal.nD) → Buf (Elt Ideal) ((c.tc : Thread Cert.KernelDH2Ideal.nD Cert.KernelDH2Ideal.τ).loc Cert.KernelDH2Ideal.main_v5_1)) (v2 : (c : Dev Cert.KernelDH2Ideal.nD) → Buf (Elt Ideal) ((c.tc : Thread Cert.KernelDH2Ideal.nD Cert.KernelDH2Ideal.τ).loc Cert.KernelDH2Ideal.main_v5_2)),
      θ_run (Cert.KernelDH2Ideal.defs (F := Ideal)) (onTc (τ := Cert.KernelDH2Ideal.τ) (Cert.KernelDH2Ideal.main (F := Ideal))) ⟨m, fun _ => 0, g⟩ (fun r => ∀ c : Dev Cert.KernelDH2Ideal.nD,
          r.2.mem ((c.tc : Thread Cert.KernelDH2Ideal.nD Cert.KernelDH2Ideal.τ).loc Cert.KernelDH2Ideal.main_v5_0) = v0 c
          ∧ r.2.mem ((c.tc : Thread Cert.KernelDH2Ideal.nD Cert.KernelDH2Ideal.τ).loc Cert.KernelDH2Ideal.main_v5_1) = v1 c
          ∧ r.2.mem ((c.tc : Thread Cert.KernelDH2Ideal.nD Cert.KernelDH2Ideal.τ).loc Cert.KernelDH2Ideal.main_v5_2) = v2 c
          ∧ r.2.mem ((c.tc : Thread Cert.KernelDH2Ideal.nD Cert.KernelDH2Ideal.τ).loc Cert.KernelDH2Ideal.main_arg0) = m ((c.tc : Thread Cert.KernelDH2Ideal.nD Cert.KernelDH2Ideal.τ).loc Cert.KernelDH2Ideal.main_arg0)
          ∧ r.2.mem ((c.tc : Thread Cert.KernelDH2Ideal.nD Cert.KernelDH2Ideal.τ).loc Cert.KernelDH2Ideal.main_arg1) = m ((c.tc : Thread Cert.KernelDH2Ideal.nD Cert.KernelDH2Ideal.τ).loc Cert.KernelDH2Ideal.main_arg1)
          ∧ r.2.mem ((c.tc : Thread Cert.KernelDH2Ideal.nD Cert.KernelDH2Ideal.τ).loc Cert.KernelDH2Ideal.main_arg2) = m ((c.tc : Thread Cert.KernelDH2Ideal.nD Cert.KernelDH2Ideal.τ).loc Cert.KernelDH2Ideal.main_arg2)
          ∧ r.2.mem ((c.tc : Thread Cert.KernelDH2Ideal.nD Cert.KernelDH2Ideal.τ).loc Cert.KernelDH2Ideal.main_arg3) = m ((c.tc : Thread Cert.KernelDH2Ideal.nD Cert.KernelDH2Ideal.τ).loc Cert.KernelDH2Ideal.main_arg3)
          ∧ r.2.mem ((c.tc : Thread Cert.KernelDH2Ideal.nD Cert.KernelDH2Ideal.τ).loc Cert.KernelDH2Ideal.main_arg4) = m ((c.tc : Thread Cert.KernelDH2Ideal.nD Cert.KernelDH2Ideal.τ).loc Cert.KernelDH2Ideal.main_arg4))
      ∧ θ_run (Cert.ReferenceDH2Ideal.defs (F := Ideal)) (onTc (τ := Cert.ReferenceDH2Ideal.τ) (Cert.ReferenceDH2Ideal.main (F := Ideal))) ⟨m', fun _ => 0, g'⟩ (fun r => ∀ c : Dev Cert.ReferenceDH2Ideal.nD,
          r.2.mem ((c.tc : Thread Cert.ReferenceDH2Ideal.nD Cert.ReferenceDH2Ideal.τ).loc Cert.ReferenceDH2Ideal.main_v41) = v0 c
          ∧ r.2.mem ((c.tc : Thread Cert.ReferenceDH2Ideal.nD Cert.ReferenceDH2Ideal.τ).loc Cert.ReferenceDH2Ideal.main_v42) = v1 c
          ∧ r.2.mem ((c.tc : Thread Cert.ReferenceDH2Ideal.nD Cert.ReferenceDH2Ideal.τ).loc Cert.ReferenceDH2Ideal.main_v40) = v2 c
          ∧ r.2.mem ((c.tc : Thread Cert.ReferenceDH2Ideal.nD Cert.ReferenceDH2Ideal.τ).loc Cert.ReferenceDH2Ideal.main_arg0) = m' ((c.tc : Thread Cert.ReferenceDH2Ideal.nD Cert.ReferenceDH2Ideal.τ).loc Cert.ReferenceDH2Ideal.main_arg0)
          ∧ r.2.mem ((c.tc : Thread Cert.ReferenceDH2Ideal.nD Cert.ReferenceDH2Ideal.τ).loc Cert.ReferenceDH2Ideal.main_arg1) = m' ((c.tc : Thread Cert.ReferenceDH2Ideal.nD Cert.ReferenceDH2Ideal.τ).loc Cert.ReferenceDH2Ideal.main_arg1)
          ∧ r.2.mem ((c.tc : Thread Cert.ReferenceDH2Ideal.nD Cert.ReferenceDH2Ideal.τ).loc Cert.ReferenceDH2Ideal.main_arg2) = m' ((c.tc : Thread Cert.ReferenceDH2Ideal.nD Cert.ReferenceDH2Ideal.τ).loc Cert.ReferenceDH2Ideal.main_arg2)
          ∧ r.2.mem ((c.tc : Thread Cert.ReferenceDH2Ideal.nD Cert.ReferenceDH2Ideal.τ).loc Cert.ReferenceDH2Ideal.main_arg3) = m' ((c.tc : Thread Cert.ReferenceDH2Ideal.nD Cert.ReferenceDH2Ideal.τ).loc Cert.ReferenceDH2Ideal.main_arg3)
          ∧ r.2.mem ((c.tc : Thread Cert.ReferenceDH2Ideal.nD Cert.ReferenceDH2Ideal.τ).loc Cert.ReferenceDH2Ideal.main_arg4) = m' ((c.tc : Thread Cert.ReferenceDH2Ideal.nD Cert.ReferenceDH2Ideal.τ).loc Cert.ReferenceDH2Ideal.main_arg4))

def preserves_KernelDH1_KernelDH1Ideal : Prop :=
  True

def algebraic_KernelDH1Ideal_ReferenceDH1Ideal_pre_finite_dh1 [hKernelDH1Ideal : Cert.KernelDH1Ideal.Facts] [hReferenceDH1Ideal : Cert.ReferenceDH1Ideal.Facts] [hPre_finite_dh1 : Cert.Pre_finite_dh1.Facts] : Prop :=
  ∀ (m : (ℓ : Loc Cert.KernelDH1Ideal.nD Cert.KernelDH1Ideal.τ Cert.KernelDH1Ideal.sig) → Buf (Elt Ideal) ℓ) (g : Dev Cert.KernelDH1Ideal.nD → PrngReg)
    (m' : (ℓ : Loc Cert.ReferenceDH1Ideal.nD Cert.ReferenceDH1Ideal.τ Cert.ReferenceDH1Ideal.sig) → Buf (Elt Ideal) ℓ) (g' : Dev Cert.ReferenceDH1Ideal.nD → PrngReg), Pre_KernelDH1Ideal_finite_dh1 m →
    (∀ c : Dev Cert.KernelDH1Ideal.nD,
      m' ((c.tc : Thread Cert.ReferenceDH1Ideal.nD Cert.ReferenceDH1Ideal.τ).loc Cert.ReferenceDH1Ideal.main_arg0) = m ((c.tc : Thread Cert.KernelDH1Ideal.nD Cert.KernelDH1Ideal.τ).loc Cert.KernelDH1Ideal.main_arg0)
      ∧ m' ((c.tc : Thread Cert.ReferenceDH1Ideal.nD Cert.ReferenceDH1Ideal.τ).loc Cert.ReferenceDH1Ideal.main_arg1) = m ((c.tc : Thread Cert.KernelDH1Ideal.nD Cert.KernelDH1Ideal.τ).loc Cert.KernelDH1Ideal.main_arg1)
      ∧ m' ((c.tc : Thread Cert.ReferenceDH1Ideal.nD Cert.ReferenceDH1Ideal.τ).loc Cert.ReferenceDH1Ideal.main_arg2) = m ((c.tc : Thread Cert.KernelDH1Ideal.nD Cert.KernelDH1Ideal.τ).loc Cert.KernelDH1Ideal.main_arg2)
      ∧ m' ((c.tc : Thread Cert.ReferenceDH1Ideal.nD Cert.ReferenceDH1Ideal.τ).loc Cert.ReferenceDH1Ideal.main_arg3) = m ((c.tc : Thread Cert.KernelDH1Ideal.nD Cert.KernelDH1Ideal.τ).loc Cert.KernelDH1Ideal.main_arg3)
      ∧ m' ((c.tc : Thread Cert.ReferenceDH1Ideal.nD Cert.ReferenceDH1Ideal.τ).loc Cert.ReferenceDH1Ideal.main_arg4) = m ((c.tc : Thread Cert.KernelDH1Ideal.nD Cert.KernelDH1Ideal.τ).loc Cert.KernelDH1Ideal.main_arg4)) →
    ∃ (v0 : (c : Dev Cert.KernelDH1Ideal.nD) → Buf (Elt Ideal) ((c.tc : Thread Cert.KernelDH1Ideal.nD Cert.KernelDH1Ideal.τ).loc Cert.KernelDH1Ideal.main_v5_0)) (v1 : (c : Dev Cert.KernelDH1Ideal.nD) → Buf (Elt Ideal) ((c.tc : Thread Cert.KernelDH1Ideal.nD Cert.KernelDH1Ideal.τ).loc Cert.KernelDH1Ideal.main_v5_1)),
      θ_run (Cert.KernelDH1Ideal.defs (F := Ideal)) (onTc (τ := Cert.KernelDH1Ideal.τ) (Cert.KernelDH1Ideal.main (F := Ideal))) ⟨m, fun _ => 0, g⟩ (fun r => ∀ c : Dev Cert.KernelDH1Ideal.nD,
          r.2.mem ((c.tc : Thread Cert.KernelDH1Ideal.nD Cert.KernelDH1Ideal.τ).loc Cert.KernelDH1Ideal.main_v5_0) = v0 c
          ∧ r.2.mem ((c.tc : Thread Cert.KernelDH1Ideal.nD Cert.KernelDH1Ideal.τ).loc Cert.KernelDH1Ideal.main_v5_1) = v1 c
          ∧ r.2.mem ((c.tc : Thread Cert.KernelDH1Ideal.nD Cert.KernelDH1Ideal.τ).loc Cert.KernelDH1Ideal.main_arg0) = m ((c.tc : Thread Cert.KernelDH1Ideal.nD Cert.KernelDH1Ideal.τ).loc Cert.KernelDH1Ideal.main_arg0)
          ∧ r.2.mem ((c.tc : Thread Cert.KernelDH1Ideal.nD Cert.KernelDH1Ideal.τ).loc Cert.KernelDH1Ideal.main_arg1) = m ((c.tc : Thread Cert.KernelDH1Ideal.nD Cert.KernelDH1Ideal.τ).loc Cert.KernelDH1Ideal.main_arg1)
          ∧ r.2.mem ((c.tc : Thread Cert.KernelDH1Ideal.nD Cert.KernelDH1Ideal.τ).loc Cert.KernelDH1Ideal.main_arg2) = m ((c.tc : Thread Cert.KernelDH1Ideal.nD Cert.KernelDH1Ideal.τ).loc Cert.KernelDH1Ideal.main_arg2)
          ∧ r.2.mem ((c.tc : Thread Cert.KernelDH1Ideal.nD Cert.KernelDH1Ideal.τ).loc Cert.KernelDH1Ideal.main_arg3) = m ((c.tc : Thread Cert.KernelDH1Ideal.nD Cert.KernelDH1Ideal.τ).loc Cert.KernelDH1Ideal.main_arg3)
          ∧ r.2.mem ((c.tc : Thread Cert.KernelDH1Ideal.nD Cert.KernelDH1Ideal.τ).loc Cert.KernelDH1Ideal.main_arg4) = m ((c.tc : Thread Cert.KernelDH1Ideal.nD Cert.KernelDH1Ideal.τ).loc Cert.KernelDH1Ideal.main_arg4))
      ∧ θ_run (Cert.ReferenceDH1Ideal.defs (F := Ideal)) (onTc (τ := Cert.ReferenceDH1Ideal.τ) (Cert.ReferenceDH1Ideal.main (F := Ideal))) ⟨m', fun _ => 0, g'⟩ (fun r => ∀ c : Dev Cert.ReferenceDH1Ideal.nD,
          r.2.mem ((c.tc : Thread Cert.ReferenceDH1Ideal.nD Cert.ReferenceDH1Ideal.τ).loc Cert.ReferenceDH1Ideal.main_v41) = v0 c
          ∧ r.2.mem ((c.tc : Thread Cert.ReferenceDH1Ideal.nD Cert.ReferenceDH1Ideal.τ).loc Cert.ReferenceDH1Ideal.main_v40) = v1 c
          ∧ r.2.mem ((c.tc : Thread Cert.ReferenceDH1Ideal.nD Cert.ReferenceDH1Ideal.τ).loc Cert.ReferenceDH1Ideal.main_arg0) = m' ((c.tc : Thread Cert.ReferenceDH1Ideal.nD Cert.ReferenceDH1Ideal.τ).loc Cert.ReferenceDH1Ideal.main_arg0)
          ∧ r.2.mem ((c.tc : Thread Cert.ReferenceDH1Ideal.nD Cert.ReferenceDH1Ideal.τ).loc Cert.ReferenceDH1Ideal.main_arg1) = m' ((c.tc : Thread Cert.ReferenceDH1Ideal.nD Cert.ReferenceDH1Ideal.τ).loc Cert.ReferenceDH1Ideal.main_arg1)
          ∧ r.2.mem ((c.tc : Thread Cert.ReferenceDH1Ideal.nD Cert.ReferenceDH1Ideal.τ).loc Cert.ReferenceDH1Ideal.main_arg2) = m' ((c.tc : Thread Cert.ReferenceDH1Ideal.nD Cert.ReferenceDH1Ideal.τ).loc Cert.ReferenceDH1Ideal.main_arg2)
          ∧ r.2.mem ((c.tc : Thread Cert.ReferenceDH1Ideal.nD Cert.ReferenceDH1Ideal.τ).loc Cert.ReferenceDH1Ideal.main_arg3) = m' ((c.tc : Thread Cert.ReferenceDH1Ideal.nD Cert.ReferenceDH1Ideal.τ).loc Cert.ReferenceDH1Ideal.main_arg3)
          ∧ r.2.mem ((c.tc : Thread Cert.ReferenceDH1Ideal.nD Cert.ReferenceDH1Ideal.τ).loc Cert.ReferenceDH1Ideal.main_arg4) = m' ((c.tc : Thread Cert.ReferenceDH1Ideal.nD Cert.ReferenceDH1Ideal.τ).loc Cert.ReferenceDH1Ideal.main_arg4))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v6_0)) (v1 : (c : Dev Cert.KernelLossIdeal.nD) → Buf (Elt Ideal) ((c.tc : Thread Cert.KernelLossIdeal.nD Cert.KernelLossIdeal.τ).loc Cert.KernelLossIdeal.main_v6_1)) (v2 : (c : Dev Cert.KernelLossIdeal.nD) → Buf (Elt Ideal) ((c.tc : Thread Cert.KernelLossIdeal.nD Cert.KernelLossIdeal.τ).loc Cert.KernelLossIdeal.main_v6_2)) (v3 : (c : Dev Cert.KernelLossIdeal.nD) → Buf (Elt Ideal) ((c.tc : Thread Cert.KernelLossIdeal.nD Cert.KernelLossIdeal.τ).loc Cert.KernelLossIdeal.main_v6_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v6_0) = v0 c
          ∧ r.2.mem ((c.tc : Thread Cert.KernelLossIdeal.nD Cert.KernelLossIdeal.τ).loc Cert.KernelLossIdeal.main_v6_1) = v1 c
          ∧ r.2.mem ((c.tc : Thread Cert.KernelLossIdeal.nD Cert.KernelLossIdeal.τ).loc Cert.KernelLossIdeal.main_v6_2) = v2 c
          ∧ r.2.mem ((c.tc : Thread Cert.KernelLossIdeal.nD Cert.KernelLossIdeal.τ).loc Cert.KernelLossIdeal.main_v6_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v53) = v0 c
          ∧ r.2.mem ((c.tc : Thread Cert.ReferenceLossIdeal.nD Cert.ReferenceLossIdeal.τ).loc Cert.ReferenceLossIdeal.main_v54) = v1 c
          ∧ r.2.mem ((c.tc : Thread Cert.ReferenceLossIdeal.nD Cert.ReferenceLossIdeal.τ).loc Cert.ReferenceLossIdeal.main_v55) = v2 c
          ∧ r.2.mem ((c.tc : Thread Cert.ReferenceLossIdeal.nD Cert.ReferenceLossIdeal.τ).loc Cert.ReferenceLossIdeal.main_v56) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelAttn_KernelAttnIdeal : Prop :=
  True

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)) →
    ∃ (v0 : (c : Dev Cert.KernelAttnIdeal.nD) → Buf (Elt Ideal) ((c.tc : Thread Cert.KernelAttnIdeal.nD Cert.KernelAttnIdeal.τ).loc Cert.KernelAttnIdeal.main_v6_0)) (v1 : (c : Dev Cert.KernelAttnIdeal.nD) → Buf (Elt Ideal) ((c.tc : Thread Cert.KernelAttnIdeal.nD Cert.KernelAttnIdeal.τ).loc Cert.KernelAttnIdeal.main_v6_1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v6_0) = v0 c
          ∧ r.2.mem ((c.tc : Thread Cert.KernelAttnIdeal.nD Cert.KernelAttnIdeal.τ).loc Cert.KernelAttnIdeal.main_v6_1) = v1 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v67) = v0 c
          ∧ r.2.mem ((c.tc : Thread Cert.ReferenceAttnIdeal.nD Cert.ReferenceAttnIdeal.τ).loc Cert.ReferenceAttnIdeal.main_v69) = v1 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2))

def preserves_KernelAttnF_KernelAttnFIdeal : Prop :=
  True

def algebraic_KernelAttnFIdeal_ReferenceAttnFIdeal [hKernelAttnFIdeal : Cert.KernelAttnFIdeal.Facts] [hReferenceAttnFIdeal : Cert.ReferenceAttnFIdeal.Facts] : Prop :=
  ∀ (m : (ℓ : Loc Cert.KernelAttnFIdeal.nD Cert.KernelAttnFIdeal.τ Cert.KernelAttnFIdeal.sig) → Buf (Elt Ideal) ℓ) (g : Dev Cert.KernelAttnFIdeal.nD → PrngReg)
    (m' : (ℓ : Loc Cert.ReferenceAttnFIdeal.nD Cert.ReferenceAttnFIdeal.τ Cert.ReferenceAttnFIdeal.sig) → Buf (Elt Ideal) ℓ) (g' : Dev Cert.ReferenceAttnFIdeal.nD → PrngReg), Pre_KernelAttnFIdeal m →
    (∀ c : Dev Cert.KernelAttnFIdeal.nD,
      m' ((c.tc : Thread Cert.ReferenceAttnFIdeal.nD Cert.ReferenceAttnFIdeal.τ).loc Cert.ReferenceAttnFIdeal.main_arg0) = m ((c.tc : Thread Cert.KernelAttnFIdeal.nD Cert.KernelAttnFIdeal.τ).loc Cert.KernelAttnFIdeal.main_arg0)
      ∧ m' ((c.tc : Thread Cert.ReferenceAttnFIdeal.nD Cert.ReferenceAttnFIdeal.τ).loc Cert.ReferenceAttnFIdeal.main_arg1) = m ((c.tc : Thread Cert.KernelAttnFIdeal.nD Cert.KernelAttnFIdeal.τ).loc Cert.KernelAttnFIdeal.main_arg1)) →
    ∃ (v0 : (c : Dev Cert.KernelAttnFIdeal.nD) → Buf (Elt Ideal) ((c.tc : Thread Cert.KernelAttnFIdeal.nD Cert.KernelAttnFIdeal.τ).loc Cert.KernelAttnFIdeal.main_v4)),
      θ_run (Cert.KernelAttnFIdeal.defs (F := Ideal)) (onTc (τ := Cert.KernelAttnFIdeal.τ) (Cert.KernelAttnFIdeal.main (F := Ideal))) ⟨m, fun _ => 0, g⟩ (fun r => ∀ c : Dev Cert.KernelAttnFIdeal.nD,
          r.2.mem ((c.tc : Thread Cert.KernelAttnFIdeal.nD Cert.KernelAttnFIdeal.τ).loc Cert.KernelAttnFIdeal.main_v4) = v0 c
          ∧ r.2.mem ((c.tc : Thread Cert.KernelAttnFIdeal.nD Cert.KernelAttnFIdeal.τ).loc Cert.KernelAttnFIdeal.main_arg0) = m ((c.tc : Thread Cert.KernelAttnFIdeal.nD Cert.KernelAttnFIdeal.τ).loc Cert.KernelAttnFIdeal.main_arg0)
          ∧ r.2.mem ((c.tc : Thread Cert.KernelAttnFIdeal.nD Cert.KernelAttnFIdeal.τ).loc Cert.KernelAttnFIdeal.main_arg1) = m ((c.tc : Thread Cert.KernelAttnFIdeal.nD Cert.KernelAttnFIdeal.τ).loc Cert.KernelAttnFIdeal.main_arg1))
      ∧ θ_run (Cert.ReferenceAttnFIdeal.defs (F := Ideal)) (onTc (τ := Cert.ReferenceAttnFIdeal.τ) (Cert.ReferenceAttnFIdeal.main (F := Ideal))) ⟨m', fun _ => 0, g'⟩ (fun r => ∀ c : Dev Cert.ReferenceAttnFIdeal.nD,
          r.2.mem ((c.tc : Thread Cert.ReferenceAttnFIdeal.nD Cert.ReferenceAttnFIdeal.τ).loc Cert.ReferenceAttnFIdeal.main_v23) = v0 c
          ∧ r.2.mem ((c.tc : Thread Cert.ReferenceAttnFIdeal.nD Cert.ReferenceAttnFIdeal.τ).loc Cert.ReferenceAttnFIdeal.main_arg0) = m' ((c.tc : Thread Cert.ReferenceAttnFIdeal.nD Cert.ReferenceAttnFIdeal.τ).loc Cert.ReferenceAttnFIdeal.main_arg0)
          ∧ r.2.mem ((c.tc : Thread Cert.ReferenceAttnFIdeal.nD Cert.ReferenceAttnFIdeal.τ).loc Cert.ReferenceAttnFIdeal.main_arg1) = m' ((c.tc : Thread Cert.ReferenceAttnFIdeal.nD Cert.ReferenceAttnFIdeal.τ).loc Cert.ReferenceAttnFIdeal.main_arg1))

def preserves_KernelRmsF_KernelRmsFIdeal : Prop :=
  True

def algebraic_KernelRmsFIdeal_ReferenceRmsFIdeal [hKernelRmsFIdeal : Cert.KernelRmsFIdeal.Facts] [hReferenceRmsFIdeal : Cert.ReferenceRmsFIdeal.Facts] : Prop :=
  ∀ (m : (ℓ : Loc Cert.KernelRmsFIdeal.nD Cert.KernelRmsFIdeal.τ Cert.KernelRmsFIdeal.sig) → Buf (Elt Ideal) ℓ) (g : Dev Cert.KernelRmsFIdeal.nD → PrngReg)
    (m' : (ℓ : Loc Cert.ReferenceRmsFIdeal.nD Cert.ReferenceRmsFIdeal.τ Cert.ReferenceRmsFIdeal.sig) → Buf (Elt Ideal) ℓ) (g' : Dev Cert.ReferenceRmsFIdeal.nD → PrngReg), Pre_KernelRmsFIdeal m →
    (∀ c : Dev Cert.KernelRmsFIdeal.nD,
      m' ((c.tc : Thread Cert.ReferenceRmsFIdeal.nD Cert.ReferenceRmsFIdeal.τ).loc Cert.ReferenceRmsFIdeal.main_arg0) = m ((c.tc : Thread Cert.KernelRmsFIdeal.nD Cert.KernelRmsFIdeal.τ).loc Cert.KernelRmsFIdeal.main_arg0)
      ∧ m' ((c.tc : Thread Cert.ReferenceRmsFIdeal.nD Cert.ReferenceRmsFIdeal.τ).loc Cert.ReferenceRmsFIdeal.main_arg1) = m ((c.tc : Thread Cert.KernelRmsFIdeal.nD Cert.KernelRmsFIdeal.τ).loc Cert.KernelRmsFIdeal.main_arg1)) →
    ∃ (v0 : (c : Dev Cert.KernelRmsFIdeal.nD) → Buf (Elt Ideal) ((c.tc : Thread Cert.KernelRmsFIdeal.nD Cert.KernelRmsFIdeal.τ).loc Cert.KernelRmsFIdeal.main_v1)),
      θ_run (Cert.KernelRmsFIdeal.defs (F := Ideal)) (onTc (τ := Cert.KernelRmsFIdeal.τ) (Cert.KernelRmsFIdeal.main (F := Ideal))) ⟨m, fun _ => 0, g⟩ (fun r => ∀ c : Dev Cert.KernelRmsFIdeal.nD,
          r.2.mem ((c.tc : Thread Cert.KernelRmsFIdeal.nD Cert.KernelRmsFIdeal.τ).loc Cert.KernelRmsFIdeal.main_v1) = v0 c
          ∧ r.2.mem ((c.tc : Thread Cert.KernelRmsFIdeal.nD Cert.KernelRmsFIdeal.τ).loc Cert.KernelRmsFIdeal.main_arg0) = m ((c.tc : Thread Cert.KernelRmsFIdeal.nD Cert.KernelRmsFIdeal.τ).loc Cert.KernelRmsFIdeal.main_arg0)
          ∧ r.2.mem ((c.tc : Thread Cert.KernelRmsFIdeal.nD Cert.KernelRmsFIdeal.τ).loc Cert.KernelRmsFIdeal.main_arg1) = m ((c.tc : Thread Cert.KernelRmsFIdeal.nD Cert.KernelRmsFIdeal.τ).loc Cert.KernelRmsFIdeal.main_arg1))
      ∧ θ_run (Cert.ReferenceRmsFIdeal.defs (F := Ideal)) (onTc (τ := Cert.ReferenceRmsFIdeal.τ) (Cert.ReferenceRmsFIdeal.main (F := Ideal))) ⟨m', fun _ => 0, g'⟩ (fun r => ∀ c : Dev Cert.ReferenceRmsFIdeal.nD,
          r.2.mem ((c.tc : Thread Cert.ReferenceRmsFIdeal.nD Cert.ReferenceRmsFIdeal.τ).loc Cert.ReferenceRmsFIdeal.main_v15) = v0 c
          ∧ r.2.mem ((c.tc : Thread Cert.ReferenceRmsFIdeal.nD Cert.ReferenceRmsFIdeal.τ).loc Cert.ReferenceRmsFIdeal.main_arg0) = m' ((c.tc : Thread Cert.ReferenceRmsFIdeal.nD Cert.ReferenceRmsFIdeal.τ).loc Cert.ReferenceRmsFIdeal.main_arg0)
          ∧ r.2.mem ((c.tc : Thread Cert.ReferenceRmsFIdeal.nD Cert.ReferenceRmsFIdeal.τ).loc Cert.ReferenceRmsFIdeal.main_arg1) = m' ((c.tc : Thread Cert.ReferenceRmsFIdeal.nD Cert.ReferenceRmsFIdeal.τ).loc Cert.ReferenceRmsFIdeal.main_arg1))

def preserves_KernelProjNorm_KernelProjNormIdeal : Prop :=
  True

def algebraic_KernelProjNormIdeal_ReferenceProjNormIdeal [hKernelProjNormIdeal : Cert.KernelProjNormIdeal.Facts] [hReferenceProjNormIdeal : Cert.ReferenceProjNormIdeal.Facts] : Prop :=
  ∀ (m : (ℓ : Loc Cert.KernelProjNormIdeal.nD Cert.KernelProjNormIdeal.τ Cert.KernelProjNormIdeal.sig) → Buf (Elt Ideal) ℓ) (g : Dev Cert.KernelProjNormIdeal.nD → PrngReg)
    (m' : (ℓ : Loc Cert.ReferenceProjNormIdeal.nD Cert.ReferenceProjNormIdeal.τ Cert.ReferenceProjNormIdeal.sig) → Buf (Elt Ideal) ℓ) (g' : Dev Cert.ReferenceProjNormIdeal.nD → PrngReg), Pre_KernelProjNormIdeal m →
    (∀ c : Dev Cert.KernelProjNormIdeal.nD,
      m' ((c.tc : Thread Cert.ReferenceProjNormIdeal.nD Cert.ReferenceProjNormIdeal.τ).loc Cert.ReferenceProjNormIdeal.main_arg0) = m ((c.tc : Thread Cert.KernelProjNormIdeal.nD Cert.KernelProjNormIdeal.τ).loc Cert.KernelProjNormIdeal.main_arg0)
      ∧ m' ((c.tc : Thread Cert.ReferenceProjNormIdeal.nD Cert.ReferenceProjNormIdeal.τ).loc Cert.ReferenceProjNormIdeal.main_arg1) = m ((c.tc : Thread Cert.KernelProjNormIdeal.nD Cert.KernelProjNormIdeal.τ).loc Cert.KernelProjNormIdeal.main_arg1)
      ∧ m' ((c.tc : Thread Cert.ReferenceProjNormIdeal.nD Cert.ReferenceProjNormIdeal.τ).loc Cert.ReferenceProjNormIdeal.main_arg2) = m ((c.tc : Thread Cert.KernelProjNormIdeal.nD Cert.KernelProjNormIdeal.τ).loc Cert.KernelProjNormIdeal.main_arg2)
      ∧ m' ((c.tc : Thread Cert.ReferenceProjNormIdeal.nD Cert.ReferenceProjNormIdeal.τ).loc Cert.ReferenceProjNormIdeal.main_arg3) = m ((c.tc : Thread Cert.KernelProjNormIdeal.nD Cert.KernelProjNormIdeal.τ).loc Cert.KernelProjNormIdeal.main_arg3)) →
    ∃ (v0 : (c : Dev Cert.KernelProjNormIdeal.nD) → Buf (Elt Ideal) ((c.tc : Thread Cert.KernelProjNormIdeal.nD Cert.KernelProjNormIdeal.τ).loc Cert.KernelProjNormIdeal.main_v4_0)) (v1 : (c : Dev Cert.KernelProjNormIdeal.nD) → Buf (Elt Ideal) ((c.tc : Thread Cert.KernelProjNormIdeal.nD Cert.KernelProjNormIdeal.τ).loc Cert.KernelProjNormIdeal.main_v4_1)),
      θ_run (Cert.KernelProjNormIdeal.defs (F := Ideal)) (onTc (τ := Cert.KernelProjNormIdeal.τ) (Cert.KernelProjNormIdeal.main (F := Ideal))) ⟨m, fun _ => 0, g⟩ (fun r => ∀ c : Dev Cert.KernelProjNormIdeal.nD,
          r.2.mem ((c.tc : Thread Cert.KernelProjNormIdeal.nD Cert.KernelProjNormIdeal.τ).loc Cert.KernelProjNormIdeal.main_v4_0) = v0 c
          ∧ r.2.mem ((c.tc : Thread Cert.KernelProjNormIdeal.nD Cert.KernelProjNormIdeal.τ).loc Cert.KernelProjNormIdeal.main_v4_1) = v1 c
          ∧ r.2.mem ((c.tc : Thread Cert.KernelProjNormIdeal.nD Cert.KernelProjNormIdeal.τ).loc Cert.KernelProjNormIdeal.main_arg0) = m ((c.tc : Thread Cert.KernelProjNormIdeal.nD Cert.KernelProjNormIdeal.τ).loc Cert.KernelProjNormIdeal.main_arg0)
          ∧ r.2.mem ((c.tc : Thread Cert.KernelProjNormIdeal.nD Cert.KernelProjNormIdeal.τ).loc Cert.KernelProjNormIdeal.main_arg1) = m ((c.tc : Thread Cert.KernelProjNormIdeal.nD Cert.KernelProjNormIdeal.τ).loc Cert.KernelProjNormIdeal.main_arg1)
          ∧ r.2.mem ((c.tc : Thread Cert.KernelProjNormIdeal.nD Cert.KernelProjNormIdeal.τ).loc Cert.KernelProjNormIdeal.main_arg2) = m ((c.tc : Thread Cert.KernelProjNormIdeal.nD Cert.KernelProjNormIdeal.τ).loc Cert.KernelProjNormIdeal.main_arg2)
          ∧ r.2.mem ((c.tc : Thread Cert.KernelProjNormIdeal.nD Cert.KernelProjNormIdeal.τ).loc Cert.KernelProjNormIdeal.main_arg3) = m ((c.tc : Thread Cert.KernelProjNormIdeal.nD Cert.KernelProjNormIdeal.τ).loc Cert.KernelProjNormIdeal.main_arg3))
      ∧ θ_run (Cert.ReferenceProjNormIdeal.defs (F := Ideal)) (onTc (τ := Cert.ReferenceProjNormIdeal.τ) (Cert.ReferenceProjNormIdeal.main (F := Ideal))) ⟨m', fun _ => 0, g'⟩ (fun r => ∀ c : Dev Cert.ReferenceProjNormIdeal.nD,
          r.2.mem ((c.tc : Thread Cert.ReferenceProjNormIdeal.nD Cert.ReferenceProjNormIdeal.τ).loc Cert.ReferenceProjNormIdeal.main_v2) = v0 c
          ∧ r.2.mem ((c.tc : Thread Cert.ReferenceProjNormIdeal.nD Cert.ReferenceProjNormIdeal.τ).loc Cert.ReferenceProjNormIdeal.main_v18) = v1 c
          ∧ r.2.mem ((c.tc : Thread Cert.ReferenceProjNormIdeal.nD Cert.ReferenceProjNormIdeal.τ).loc Cert.ReferenceProjNormIdeal.main_arg0) = m' ((c.tc : Thread Cert.ReferenceProjNormIdeal.nD Cert.ReferenceProjNormIdeal.τ).loc Cert.ReferenceProjNormIdeal.main_arg0)
          ∧ r.2.mem ((c.tc : Thread Cert.ReferenceProjNormIdeal.nD Cert.ReferenceProjNormIdeal.τ).loc Cert.ReferenceProjNormIdeal.main_arg1) = m' ((c.tc : Thread Cert.ReferenceProjNormIdeal.nD Cert.ReferenceProjNormIdeal.τ).loc Cert.ReferenceProjNormIdeal.main_arg1)
          ∧ r.2.mem ((c.tc : Thread Cert.ReferenceProjNormIdeal.nD Cert.ReferenceProjNormIdeal.τ).loc Cert.ReferenceProjNormIdeal.main_arg2) = m' ((c.tc : Thread Cert.ReferenceProjNormIdeal.nD Cert.ReferenceProjNormIdeal.τ).loc Cert.ReferenceProjNormIdeal.main_arg2)
          ∧ r.2.mem ((c.tc : Thread Cert.ReferenceProjNormIdeal.nD Cert.ReferenceProjNormIdeal.τ).loc Cert.ReferenceProjNormIdeal.main_arg3) = m' ((c.tc : Thread Cert.ReferenceProjNormIdeal.nD Cert.ReferenceProjNormIdeal.τ).loc Cert.ReferenceProjNormIdeal.main_arg3))

def preserves_KernelGateF_KernelGateFIdeal : Prop :=
  True

def algebraic_KernelGateFIdeal_ReferenceGateFIdeal [hKernelGateFIdeal : Cert.KernelGateFIdeal.Facts] [hReferenceGateFIdeal : Cert.ReferenceGateFIdeal.Facts] : Prop :=
  ∀ (m : (ℓ : Loc Cert.KernelGateFIdeal.nD Cert.KernelGateFIdeal.τ Cert.KernelGateFIdeal.sig) → Buf (Elt Ideal) ℓ) (g : Dev Cert.KernelGateFIdeal.nD → PrngReg)
    (m' : (ℓ : Loc Cert.ReferenceGateFIdeal.nD Cert.ReferenceGateFIdeal.τ Cert.ReferenceGateFIdeal.sig) → Buf (Elt Ideal) ℓ) (g' : Dev Cert.ReferenceGateFIdeal.nD → PrngReg), Pre_KernelGateFIdeal m →
    (∀ c : Dev Cert.KernelGateFIdeal.nD,
      m' ((c.tc : Thread Cert.ReferenceGateFIdeal.nD Cert.ReferenceGateFIdeal.τ).loc Cert.ReferenceGateFIdeal.main_arg0) = m ((c.tc : Thread Cert.KernelGateFIdeal.nD Cert.KernelGateFIdeal.τ).loc Cert.KernelGateFIdeal.main_arg0)
      ∧ m' ((c.tc : Thread Cert.ReferenceGateFIdeal.nD Cert.ReferenceGateFIdeal.τ).loc Cert.ReferenceGateFIdeal.main_arg1) = m ((c.tc : Thread Cert.KernelGateFIdeal.nD Cert.KernelGateFIdeal.τ).loc Cert.KernelGateFIdeal.main_arg1)
      ∧ m' ((c.tc : Thread Cert.ReferenceGateFIdeal.nD Cert.ReferenceGateFIdeal.τ).loc Cert.ReferenceGateFIdeal.main_arg2) = m ((c.tc : Thread Cert.KernelGateFIdeal.nD Cert.KernelGateFIdeal.τ).loc Cert.KernelGateFIdeal.main_arg2)) →
    ∃ (v0 : (c : Dev Cert.KernelGateFIdeal.nD) → Buf (Elt Ideal) ((c.tc : Thread Cert.KernelGateFIdeal.nD Cert.KernelGateFIdeal.τ).loc Cert.KernelGateFIdeal.main_v11_0)) (v1 : (c : Dev Cert.KernelGateFIdeal.nD) → Buf (Elt Ideal) ((c.tc : Thread Cert.KernelGateFIdeal.nD Cert.KernelGateFIdeal.τ).loc Cert.KernelGateFIdeal.main_v11_1)),
      θ_run (Cert.KernelGateFIdeal.defs (F := Ideal)) (onTc (τ := Cert.KernelGateFIdeal.τ) (Cert.KernelGateFIdeal.main (F := Ideal))) ⟨m, fun _ => 0, g⟩ (fun r => ∀ c : Dev Cert.KernelGateFIdeal.nD,
          r.2.mem ((c.tc : Thread Cert.KernelGateFIdeal.nD Cert.KernelGateFIdeal.τ).loc Cert.KernelGateFIdeal.main_v11_0) = v0 c
          ∧ r.2.mem ((c.tc : Thread Cert.KernelGateFIdeal.nD Cert.KernelGateFIdeal.τ).loc Cert.KernelGateFIdeal.main_v11_1) = v1 c
          ∧ r.2.mem ((c.tc : Thread Cert.KernelGateFIdeal.nD Cert.KernelGateFIdeal.τ).loc Cert.KernelGateFIdeal.main_arg0) = m ((c.tc : Thread Cert.KernelGateFIdeal.nD Cert.KernelGateFIdeal.τ).loc Cert.KernelGateFIdeal.main_arg0)
          ∧ r.2.mem ((c.tc : Thread Cert.KernelGateFIdeal.nD Cert.KernelGateFIdeal.τ).loc Cert.KernelGateFIdeal.main_arg1) = m ((c.tc : Thread Cert.KernelGateFIdeal.nD Cert.KernelGateFIdeal.τ).loc Cert.KernelGateFIdeal.main_arg1)
          ∧ r.2.mem ((c.tc : Thread Cert.KernelGateFIdeal.nD Cert.KernelGateFIdeal.τ).loc Cert.KernelGateFIdeal.main_arg2) = m ((c.tc : Thread Cert.KernelGateFIdeal.nD Cert.KernelGateFIdeal.τ).loc Cert.KernelGateFIdeal.main_arg2))
      ∧ θ_run (Cert.ReferenceGateFIdeal.defs (F := Ideal)) (onTc (τ := Cert.ReferenceGateFIdeal.τ) (Cert.ReferenceGateFIdeal.main (F := Ideal))) ⟨m', fun _ => 0, g'⟩ (fun r => ∀ c : Dev Cert.ReferenceGateFIdeal.nD,
          r.2.mem ((c.tc : Thread Cert.ReferenceGateFIdeal.nD Cert.ReferenceGateFIdeal.τ).loc Cert.ReferenceGateFIdeal.main_v30) = v0 c
          ∧ r.2.mem ((c.tc : Thread Cert.ReferenceGateFIdeal.nD Cert.ReferenceGateFIdeal.τ).loc Cert.ReferenceGateFIdeal.main_v33) = v1 c
          ∧ r.2.mem ((c.tc : Thread Cert.ReferenceGateFIdeal.nD Cert.ReferenceGateFIdeal.τ).loc Cert.ReferenceGateFIdeal.main_arg0) = m' ((c.tc : Thread Cert.ReferenceGateFIdeal.nD Cert.ReferenceGateFIdeal.τ).loc Cert.ReferenceGateFIdeal.main_arg0)
          ∧ r.2.mem ((c.tc : Thread Cert.ReferenceGateFIdeal.nD Cert.ReferenceGateFIdeal.τ).loc Cert.ReferenceGateFIdeal.main_arg1) = m' ((c.tc : Thread Cert.ReferenceGateFIdeal.nD Cert.ReferenceGateFIdeal.τ).loc Cert.ReferenceGateFIdeal.main_arg1)
          ∧ r.2.mem ((c.tc : Thread Cert.ReferenceGateFIdeal.nD Cert.ReferenceGateFIdeal.τ).loc Cert.ReferenceGateFIdeal.main_arg2) = m' ((c.tc : Thread Cert.ReferenceGateFIdeal.nD Cert.ReferenceGateFIdeal.τ).loc Cert.ReferenceGateFIdeal.main_arg2))

def preserves_KernelMixF_KernelMixFIdeal : Prop :=
  True

def algebraic_KernelMixFIdeal_ReferenceMixFIdeal_pre_finite_mixf [hKernelMixFIdeal : Cert.KernelMixFIdeal.Facts] [hReferenceMixFIdeal : Cert.ReferenceMixFIdeal.Facts] [hPre_finite_mixf : Cert.Pre_finite_mixf.Facts] : Prop :=
  ∀ (m : (ℓ : Loc Cert.KernelMixFIdeal.nD Cert.KernelMixFIdeal.τ Cert.KernelMixFIdeal.sig) → Buf (Elt Ideal) ℓ) (g : Dev Cert.KernelMixFIdeal.nD → PrngReg)
    (m' : (ℓ : Loc Cert.ReferenceMixFIdeal.nD Cert.ReferenceMixFIdeal.τ Cert.ReferenceMixFIdeal.sig) → Buf (Elt Ideal) ℓ) (g' : Dev Cert.ReferenceMixFIdeal.nD → PrngReg), Pre_KernelMixFIdeal_finite_mixf m →
    (∀ c : Dev Cert.KernelMixFIdeal.nD,
      m' ((c.tc : Thread Cert.ReferenceMixFIdeal.nD Cert.ReferenceMixFIdeal.τ).loc Cert.ReferenceMixFIdeal.main_arg0) = m ((c.tc : Thread Cert.KernelMixFIdeal.nD Cert.KernelMixFIdeal.τ).loc Cert.KernelMixFIdeal.main_arg0)
      ∧ m' ((c.tc : Thread Cert.ReferenceMixFIdeal.nD Cert.ReferenceMixFIdeal.τ).loc Cert.ReferenceMixFIdeal.main_arg1) = m ((c.tc : Thread Cert.KernelMixFIdeal.nD Cert.KernelMixFIdeal.τ).loc Cert.KernelMixFIdeal.main_arg1)
      ∧ m' ((c.tc : Thread Cert.ReferenceMixFIdeal.nD Cert.ReferenceMixFIdeal.τ).loc Cert.ReferenceMixFIdeal.main_arg2) = m ((c.tc : Thread Cert.KernelMixFIdeal.nD Cert.KernelMixFIdeal.τ).loc Cert.KernelMixFIdeal.main_arg2)
      ∧ m' ((c.tc : Thread Cert.ReferenceMixFIdeal.nD Cert.ReferenceMixFIdeal.τ).loc Cert.ReferenceMixFIdeal.main_arg3) = m ((c.tc : Thread Cert.KernelMixFIdeal.nD Cert.KernelMixFIdeal.τ).loc Cert.KernelMixFIdeal.main_arg3)
      ∧ m' ((c.tc : Thread Cert.ReferenceMixFIdeal.nD Cert.ReferenceMixFIdeal.τ).loc Cert.ReferenceMixFIdeal.main_arg4) = m ((c.tc : Thread Cert.KernelMixFIdeal.nD Cert.KernelMixFIdeal.τ).loc Cert.KernelMixFIdeal.main_arg4)
      ∧ m' ((c.tc : Thread Cert.ReferenceMixFIdeal.nD Cert.ReferenceMixFIdeal.τ).loc Cert.ReferenceMixFIdeal.main_arg5) = m ((c.tc : Thread Cert.KernelMixFIdeal.nD Cert.KernelMixFIdeal.τ).loc Cert.KernelMixFIdeal.main_arg5)
      ∧ m' ((c.tc : Thread Cert.ReferenceMixFIdeal.nD Cert.ReferenceMixFIdeal.τ).loc Cert.ReferenceMixFIdeal.main_arg6) = m ((c.tc : Thread Cert.KernelMixFIdeal.nD Cert.KernelMixFIdeal.τ).loc Cert.KernelMixFIdeal.main_arg6)) →
    ∃ (v0 : (c : Dev Cert.KernelMixFIdeal.nD) → Buf (Elt Ideal) ((c.tc : Thread Cert.KernelMixFIdeal.nD Cert.KernelMixFIdeal.τ).loc Cert.KernelMixFIdeal.main_v4_0)) (v1 : (c : Dev Cert.KernelMixFIdeal.nD) → Buf (Elt Ideal) ((c.tc : Thread Cert.KernelMixFIdeal.nD Cert.KernelMixFIdeal.τ).loc Cert.KernelMixFIdeal.main_v4_1)),
      θ_run (Cert.KernelMixFIdeal.defs (F := Ideal)) (onTc (τ := Cert.KernelMixFIdeal.τ) (Cert.KernelMixFIdeal.main (F := Ideal))) ⟨m, fun _ => 0, g⟩ (fun r => ∀ c : Dev Cert.KernelMixFIdeal.nD,
          r.2.mem ((c.tc : Thread Cert.KernelMixFIdeal.nD Cert.KernelMixFIdeal.τ).loc Cert.KernelMixFIdeal.main_v4_0) = v0 c
          ∧ r.2.mem ((c.tc : Thread Cert.KernelMixFIdeal.nD Cert.KernelMixFIdeal.τ).loc Cert.KernelMixFIdeal.main_v4_1) = v1 c
          ∧ r.2.mem ((c.tc : Thread Cert.KernelMixFIdeal.nD Cert.KernelMixFIdeal.τ).loc Cert.KernelMixFIdeal.main_arg0) = m ((c.tc : Thread Cert.KernelMixFIdeal.nD Cert.KernelMixFIdeal.τ).loc Cert.KernelMixFIdeal.main_arg0)
          ∧ r.2.mem ((c.tc : Thread Cert.KernelMixFIdeal.nD Cert.KernelMixFIdeal.τ).loc Cert.KernelMixFIdeal.main_arg1) = m ((c.tc : Thread Cert.KernelMixFIdeal.nD Cert.KernelMixFIdeal.τ).loc Cert.KernelMixFIdeal.main_arg1)
          ∧ r.2.mem ((c.tc : Thread Cert.KernelMixFIdeal.nD Cert.KernelMixFIdeal.τ).loc Cert.KernelMixFIdeal.main_arg2) = m ((c.tc : Thread Cert.KernelMixFIdeal.nD Cert.KernelMixFIdeal.τ).loc Cert.KernelMixFIdeal.main_arg2)
          ∧ r.2.mem ((c.tc : Thread Cert.KernelMixFIdeal.nD Cert.KernelMixFIdeal.τ).loc Cert.KernelMixFIdeal.main_arg3) = m ((c.tc : Thread Cert.KernelMixFIdeal.nD Cert.KernelMixFIdeal.τ).loc Cert.KernelMixFIdeal.main_arg3)
          ∧ r.2.mem ((c.tc : Thread Cert.KernelMixFIdeal.nD Cert.KernelMixFIdeal.τ).loc Cert.KernelMixFIdeal.main_arg4) = m ((c.tc : Thread Cert.KernelMixFIdeal.nD Cert.KernelMixFIdeal.τ).loc Cert.KernelMixFIdeal.main_arg4)
          ∧ r.2.mem ((c.tc : Thread Cert.KernelMixFIdeal.nD Cert.KernelMixFIdeal.τ).loc Cert.KernelMixFIdeal.main_arg5) = m ((c.tc : Thread Cert.KernelMixFIdeal.nD Cert.KernelMixFIdeal.τ).loc Cert.KernelMixFIdeal.main_arg5)
          ∧ r.2.mem ((c.tc : Thread Cert.KernelMixFIdeal.nD Cert.KernelMixFIdeal.τ).loc Cert.KernelMixFIdeal.main_arg6) = m ((c.tc : Thread Cert.KernelMixFIdeal.nD Cert.KernelMixFIdeal.τ).loc Cert.KernelMixFIdeal.main_arg6))
      ∧ θ_run (Cert.ReferenceMixFIdeal.defs (F := Ideal)) (onTc (τ := Cert.ReferenceMixFIdeal.τ) (Cert.ReferenceMixFIdeal.main (F := Ideal))) ⟨m', fun _ => 0, g'⟩ (fun r => ∀ c : Dev Cert.ReferenceMixFIdeal.nD,
          r.2.mem ((c.tc : Thread Cert.ReferenceMixFIdeal.nD Cert.ReferenceMixFIdeal.τ).loc Cert.ReferenceMixFIdeal.main_v338) = v0 c
          ∧ r.2.mem ((c.tc : Thread Cert.ReferenceMixFIdeal.nD Cert.ReferenceMixFIdeal.τ).loc Cert.ReferenceMixFIdeal.main_v339) = v1 c
          ∧ r.2.mem ((c.tc : Thread Cert.ReferenceMixFIdeal.nD Cert.ReferenceMixFIdeal.τ).loc Cert.ReferenceMixFIdeal.main_arg0) = m' ((c.tc : Thread Cert.ReferenceMixFIdeal.nD Cert.ReferenceMixFIdeal.τ).loc Cert.ReferenceMixFIdeal.main_arg0)
          ∧ r.2.mem ((c.tc : Thread Cert.ReferenceMixFIdeal.nD Cert.ReferenceMixFIdeal.τ).loc Cert.ReferenceMixFIdeal.main_arg1) = m' ((c.tc : Thread Cert.ReferenceMixFIdeal.nD Cert.ReferenceMixFIdeal.τ).loc Cert.ReferenceMixFIdeal.main_arg1)
          ∧ r.2.mem ((c.tc : Thread Cert.ReferenceMixFIdeal.nD Cert.ReferenceMixFIdeal.τ).loc Cert.ReferenceMixFIdeal.main_arg2) = m' ((c.tc : Thread Cert.ReferenceMixFIdeal.nD Cert.ReferenceMixFIdeal.τ).loc Cert.ReferenceMixFIdeal.main_arg2)
          ∧ r.2.mem ((c.tc : Thread Cert.ReferenceMixFIdeal.nD Cert.ReferenceMixFIdeal.τ).loc Cert.ReferenceMixFIdeal.main_arg3) = m' ((c.tc : Thread Cert.ReferenceMixFIdeal.nD Cert.ReferenceMixFIdeal.τ).loc Cert.ReferenceMixFIdeal.main_arg3)
          ∧ r.2.mem ((c.tc : Thread Cert.ReferenceMixFIdeal.nD Cert.ReferenceMixFIdeal.τ).loc Cert.ReferenceMixFIdeal.main_arg4) = m' ((c.tc : Thread Cert.ReferenceMixFIdeal.nD Cert.ReferenceMixFIdeal.τ).loc Cert.ReferenceMixFIdeal.main_arg4)
          ∧ r.2.mem ((c.tc : Thread Cert.ReferenceMixFIdeal.nD Cert.ReferenceMixFIdeal.τ).loc Cert.ReferenceMixFIdeal.main_arg5) = m' ((c.tc : Thread Cert.ReferenceMixFIdeal.nD Cert.ReferenceMixFIdeal.τ).loc Cert.ReferenceMixFIdeal.main_arg5)
          ∧ r.2.mem ((c.tc : Thread Cert.ReferenceMixFIdeal.nD Cert.ReferenceMixFIdeal.τ).loc Cert.ReferenceMixFIdeal.main_arg6) = m' ((c.tc : Thread Cert.ReferenceMixFIdeal.nD Cert.ReferenceMixFIdeal.τ).loc Cert.ReferenceMixFIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v3) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDAct_KernelDActIdeal : Prop :=
  True

def algebraic_KernelDActIdeal_ReferenceDActIdeal [hKernelDActIdeal : Cert.KernelDActIdeal.Facts] [hReferenceDActIdeal : Cert.ReferenceDActIdeal.Facts] : Prop :=
  ∀ (m : (ℓ : Loc Cert.KernelDActIdeal.nD Cert.KernelDActIdeal.τ Cert.KernelDActIdeal.sig) → Buf (Elt Ideal) ℓ) (g : Dev Cert.KernelDActIdeal.nD → PrngReg)
    (m' : (ℓ : Loc Cert.ReferenceDActIdeal.nD Cert.ReferenceDActIdeal.τ Cert.ReferenceDActIdeal.sig) → Buf (Elt Ideal) ℓ) (g' : Dev Cert.ReferenceDActIdeal.nD → PrngReg), Pre_KernelDActIdeal m →
    (∀ c : Dev Cert.KernelDActIdeal.nD,
      m' ((c.tc : Thread Cert.ReferenceDActIdeal.nD Cert.ReferenceDActIdeal.τ).loc Cert.ReferenceDActIdeal.main_arg0) = m ((c.tc : Thread Cert.KernelDActIdeal.nD Cert.KernelDActIdeal.τ).loc Cert.KernelDActIdeal.main_arg0)
      ∧ m' ((c.tc : Thread Cert.ReferenceDActIdeal.nD Cert.ReferenceDActIdeal.τ).loc Cert.ReferenceDActIdeal.main_arg1) = m ((c.tc : Thread Cert.KernelDActIdeal.nD Cert.KernelDActIdeal.τ).loc Cert.KernelDActIdeal.main_arg1)) →
    ∃ (v0 : (c : Dev Cert.KernelDActIdeal.nD) → Buf (Elt Ideal) ((c.tc : Thread Cert.KernelDActIdeal.nD Cert.KernelDActIdeal.τ).loc Cert.KernelDActIdeal.main_v3)),
      θ_run (Cert.KernelDActIdeal.defs (F := Ideal)) (onTc (τ := Cert.KernelDActIdeal.τ) (Cert.KernelDActIdeal.main (F := Ideal))) ⟨m, fun _ => 0, g⟩ (fun r => ∀ c : Dev Cert.KernelDActIdeal.nD,
          r.2.mem ((c.tc : Thread Cert.KernelDActIdeal.nD Cert.KernelDActIdeal.τ).loc Cert.KernelDActIdeal.main_v3) = v0 c
          ∧ r.2.mem ((c.tc : Thread Cert.KernelDActIdeal.nD Cert.KernelDActIdeal.τ).loc Cert.KernelDActIdeal.main_arg0) = m ((c.tc : Thread Cert.KernelDActIdeal.nD Cert.KernelDActIdeal.τ).loc Cert.KernelDActIdeal.main_arg0)
          ∧ r.2.mem ((c.tc : Thread Cert.KernelDActIdeal.nD Cert.KernelDActIdeal.τ).loc Cert.KernelDActIdeal.main_arg1) = m ((c.tc : Thread Cert.KernelDActIdeal.nD Cert.KernelDActIdeal.τ).loc Cert.KernelDActIdeal.main_arg1))
      ∧ θ_run (Cert.ReferenceDActIdeal.defs (F := Ideal)) (onTc (τ := Cert.ReferenceDActIdeal.τ) (Cert.ReferenceDActIdeal.main (F := Ideal))) ⟨m', fun _ => 0, g'⟩ (fun r => ∀ c : Dev Cert.ReferenceDActIdeal.nD,
          r.2.mem ((c.tc : Thread Cert.ReferenceDActIdeal.nD Cert.ReferenceDActIdeal.τ).loc Cert.ReferenceDActIdeal.main_v4) = v0 c
          ∧ r.2.mem ((c.tc : Thread Cert.ReferenceDActIdeal.nD Cert.ReferenceDActIdeal.τ).loc Cert.ReferenceDActIdeal.main_arg0) = m' ((c.tc : Thread Cert.ReferenceDActIdeal.nD Cert.ReferenceDActIdeal.τ).loc Cert.ReferenceDActIdeal.main_arg0)
          ∧ r.2.mem ((c.tc : Thread Cert.ReferenceDActIdeal.nD Cert.ReferenceDActIdeal.τ).loc Cert.ReferenceDActIdeal.main_arg1) = m' ((c.tc : Thread Cert.ReferenceDActIdeal.nD Cert.ReferenceDActIdeal.τ).loc Cert.ReferenceDActIdeal.main_arg1))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)) →
    ∃ (v0 : (c : Dev Cert.KernelDwDownIdeal.nD) → Buf (Elt Ideal) ((c.tc : Thread Cert.KernelDwDownIdeal.nD Cert.KernelDwDownIdeal.τ).loc Cert.KernelDwDownIdeal.main_v4)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v4) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v4) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1))

def preserves_KernelDwUp_KernelDwUpIdeal : Prop :=
  True

def algebraic_KernelDwUpIdeal_ReferenceDwUpIdeal [hKernelDwUpIdeal : Cert.KernelDwUpIdeal.Facts] [hReferenceDwUpIdeal : Cert.ReferenceDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg)
    (m' : (ℓ : Loc Cert.ReferenceDwUpIdeal.nD Cert.ReferenceDwUpIdeal.τ Cert.ReferenceDwUpIdeal.sig) → Buf (Elt Ideal) ℓ) (g' : Dev Cert.ReferenceDwUpIdeal.nD → PrngReg), Pre_KernelDwUpIdeal m →
    (∀ c : Dev Cert.KernelDwUpIdeal.nD,
      m' ((c.tc : Thread Cert.ReferenceDwUpIdeal.nD Cert.ReferenceDwUpIdeal.τ).loc Cert.ReferenceDwUpIdeal.main_arg0) = m ((c.tc : Thread Cert.KernelDwUpIdeal.nD Cert.KernelDwUpIdeal.τ).loc Cert.KernelDwUpIdeal.main_arg0)
      ∧ m' ((c.tc : Thread Cert.ReferenceDwUpIdeal.nD Cert.ReferenceDwUpIdeal.τ).loc Cert.ReferenceDwUpIdeal.main_arg1) = m ((c.tc : Thread Cert.KernelDwUpIdeal.nD Cert.KernelDwUpIdeal.τ).loc Cert.KernelDwUpIdeal.main_arg1)) →
    ∃ (v0 : (c : Dev Cert.KernelDwUpIdeal.nD) → Buf (Elt Ideal) ((c.tc : Thread Cert.KernelDwUpIdeal.nD Cert.KernelDwUpIdeal.τ).loc Cert.KernelDwUpIdeal.main_v10)),
      θ_run (Cert.KernelDwUpIdeal.defs (F := Ideal)) (onTc (τ := Cert.KernelDwUpIdeal.τ) (Cert.KernelDwUpIdeal.main (F := Ideal))) ⟨m, fun _ => 0, g⟩ (fun r => ∀ c : Dev Cert.KernelDwUpIdeal.nD,
          r.2.mem ((c.tc : Thread Cert.KernelDwUpIdeal.nD Cert.KernelDwUpIdeal.τ).loc Cert.KernelDwUpIdeal.main_v10) = v0 c
          ∧ r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
          ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ θ_run (Cert.ReferenceDwUpIdeal.defs (F := Ideal)) (onTc (τ := Cert.ReferenceDwUpIdeal.τ) (Cert.ReferenceDwUpIdeal.main (F := Ideal))) ⟨m', fun _ => 0, g'⟩ (fun r => ∀ c : Dev Cert.ReferenceDwUpIdeal.nD,
          r.2.mem ((c.tc : Thread Cert.ReferenceDwUpIdeal.nD Cert.ReferenceDwUpIdeal.τ).loc Cert.ReferenceDwUpIdeal.main_v7) = v0 c
          ∧ r.2.mem ((c.tc : Thread Cert.ReferenceDwUpIdeal.nD Cert.ReferenceDwUpIdeal.τ).loc Cert.ReferenceDwUpIdeal.main_arg0) = m' ((c.tc : Thread Cert.ReferenceDwUpIdeal.nD Cert.ReferenceDwUpIdeal.τ).loc Cert.ReferenceDwUpIdeal.main_arg0)
          ∧ r.2.mem ((c.tc : Thread Cert.ReferenceDwUpIdeal.nD Cert.ReferenceDwUpIdeal.τ).loc Cert.ReferenceDwUpIdeal.main_arg1) = m' ((c.tc : Thread Cert.ReferenceDwUpIdeal.nD Cert.ReferenceDwUpIdeal.τ).loc Cert.ReferenceDwUpIdeal.main_arg1))

def preserves_KernelAdamW_KernelAdamWIdeal : Prop :=
  True

def algebraic_KernelAdamWIdeal_ReferenceAdamWIdeal [hKernelAdamWIdeal : Cert.KernelAdamWIdeal.Facts] [hReferenceAdamWIdeal : Cert.ReferenceAdamWIdeal.Facts] : Prop :=
  ∀ (m : (ℓ : Loc Cert.KernelAdamWIdeal.nD Cert.KernelAdamWIdeal.τ Cert.KernelAdamWIdeal.sig) → Buf (Elt Ideal) ℓ) (g : Dev Cert.KernelAdamWIdeal.nD → PrngReg)
    (m' : (ℓ : Loc Cert.ReferenceAdamWIdeal.nD Cert.ReferenceAdamWIdeal.τ Cert.ReferenceAdamWIdeal.sig) → Buf (Elt Ideal) ℓ) (g' : Dev Cert.ReferenceAdamWIdeal.nD → PrngReg), Pre_KernelAdamWIdeal m →
    (∀ c : Dev Cert.KernelAdamWIdeal.nD,
      m' ((c.tc : Thread Cert.ReferenceAdamWIdeal.nD Cert.ReferenceAdamWIdeal.τ).loc Cert.ReferenceAdamWIdeal.main_arg0) = m ((c.tc : Thread Cert.KernelAdamWIdeal.nD Cert.KernelAdamWIdeal.τ).loc Cert.KernelAdamWIdeal.main_arg0)
      ∧ m' ((c.tc : Thread Cert.ReferenceAdamWIdeal.nD Cert.ReferenceAdamWIdeal.τ).loc Cert.ReferenceAdamWIdeal.main_arg1) = m ((c.tc : Thread Cert.KernelAdamWIdeal.nD Cert.KernelAdamWIdeal.τ).loc Cert.KernelAdamWIdeal.main_arg1)
      ∧ m' ((c.tc : Thread Cert.ReferenceAdamWIdeal.nD Cert.ReferenceAdamWIdeal.τ).loc Cert.ReferenceAdamWIdeal.main_arg2) = m ((c.tc : Thread Cert.KernelAdamWIdeal.nD Cert.KernelAdamWIdeal.τ).loc Cert.KernelAdamWIdeal.main_arg2)
      ∧ m' ((c.tc : Thread Cert.ReferenceAdamWIdeal.nD Cert.ReferenceAdamWIdeal.τ).loc Cert.ReferenceAdamWIdeal.main_arg3) = m ((c.tc : Thread Cert.KernelAdamWIdeal.nD Cert.KernelAdamWIdeal.τ).loc Cert.KernelAdamWIdeal.main_arg3)) →
    ∃ (v0 : (c : Dev Cert.KernelAdamWIdeal.nD) → Buf (Elt Ideal) ((c.tc : Thread Cert.KernelAdamWIdeal.nD Cert.KernelAdamWIdeal.τ).loc Cert.KernelAdamWIdeal.main_v0_0)) (v1 : (c : Dev Cert.KernelAdamWIdeal.nD) → Buf (Elt Ideal) ((c.tc : Thread Cert.KernelAdamWIdeal.nD Cert.KernelAdamWIdeal.τ).loc Cert.KernelAdamWIdeal.main_v0_1)) (v2 : (c : Dev Cert.KernelAdamWIdeal.nD) → Buf (Elt Ideal) ((c.tc : Thread Cert.KernelAdamWIdeal.nD Cert.KernelAdamWIdeal.τ).loc Cert.KernelAdamWIdeal.main_v0_2)) (v3 : (c : Dev Cert.KernelAdamWIdeal.nD) → Buf (Elt Ideal) ((c.tc : Thread Cert.KernelAdamWIdeal.nD Cert.KernelAdamWIdeal.τ).loc Cert.KernelAdamWIdeal.main_v0_3)),
      θ_run (Cert.KernelAdamWIdeal.defs (F := Ideal)) (onTc (τ := Cert.KernelAdamWIdeal.τ) (Cert.KernelAdamWIdeal.main (F := Ideal))) ⟨m, fun _ => 0, g⟩ (fun r => ∀ c : Dev Cert.KernelAdamWIdeal.nD,
          r.2.mem ((c.tc : Thread Cert.KernelAdamWIdeal.nD Cert.KernelAdamWIdeal.τ).loc Cert.KernelAdamWIdeal.main_v0_0) = v0 c
          ∧ r.2.mem ((c.tc : Thread Cert.KernelAdamWIdeal.nD Cert.KernelAdamWIdeal.τ).loc Cert.KernelAdamWIdeal.main_v0_1) = v1 c
          ∧ r.2.mem ((c.tc : Thread Cert.KernelAdamWIdeal.nD Cert.KernelAdamWIdeal.τ).loc Cert.KernelAdamWIdeal.main_v0_2) = v2 c
          ∧ r.2.mem ((c.tc : Thread Cert.KernelAdamWIdeal.nD Cert.KernelAdamWIdeal.τ).loc Cert.KernelAdamWIdeal.main_v0_3) = v3 c
          ∧ r.2.mem ((c.tc : Thread Cert.KernelAdamWIdeal.nD Cert.KernelAdamWIdeal.τ).loc Cert.KernelAdamWIdeal.main_arg0) = m ((c.tc : Thread Cert.KernelAdamWIdeal.nD Cert.KernelAdamWIdeal.τ).loc Cert.KernelAdamWIdeal.main_arg0)
          ∧ r.2.mem ((c.tc : Thread Cert.KernelAdamWIdeal.nD Cert.KernelAdamWIdeal.τ).loc Cert.KernelAdamWIdeal.main_arg1) = m ((c.tc : Thread Cert.KernelAdamWIdeal.nD Cert.KernelAdamWIdeal.τ).loc Cert.KernelAdamWIdeal.main_arg1)
          ∧ r.2.mem ((c.tc : Thread Cert.KernelAdamWIdeal.nD Cert.KernelAdamWIdeal.τ).loc Cert.KernelAdamWIdeal.main_arg2) = m ((c.tc : Thread Cert.KernelAdamWIdeal.nD Cert.KernelAdamWIdeal.τ).loc Cert.KernelAdamWIdeal.main_arg2)
          ∧ r.2.mem ((c.tc : Thread Cert.KernelAdamWIdeal.nD Cert.KernelAdamWIdeal.τ).loc Cert.KernelAdamWIdeal.main_arg3) = m ((c.tc : Thread Cert.KernelAdamWIdeal.nD Cert.KernelAdamWIdeal.τ).loc Cert.KernelAdamWIdeal.main_arg3))
      ∧ θ_run (Cert.ReferenceAdamWIdeal.defs (F := Ideal)) (onTc (τ := Cert.ReferenceAdamWIdeal.τ) (Cert.ReferenceAdamWIdeal.main (F := Ideal))) ⟨m', fun _ => 0, g'⟩ (fun r => ∀ c : Dev Cert.ReferenceAdamWIdeal.nD,
          r.2.mem ((c.tc : Thread Cert.ReferenceAdamWIdeal.nD Cert.ReferenceAdamWIdeal.τ).loc Cert.ReferenceAdamWIdeal.main_v0) = v0 c
          ∧ r.2.mem ((c.tc : Thread Cert.ReferenceAdamWIdeal.nD Cert.ReferenceAdamWIdeal.τ).loc Cert.ReferenceAdamWIdeal.main_v24) = v1 c
          ∧ r.2.mem ((c.tc : Thread Cert.ReferenceAdamWIdeal.nD Cert.ReferenceAdamWIdeal.τ).loc Cert.ReferenceAdamWIdeal.main_v5) = v2 c
          ∧ r.2.mem ((c.tc : Thread Cert.ReferenceAdamWIdeal.nD Cert.ReferenceAdamWIdeal.τ).loc Cert.ReferenceAdamWIdeal.main_v11) = v3 c
          ∧ r.2.mem ((c.tc : Thread Cert.ReferenceAdamWIdeal.nD Cert.ReferenceAdamWIdeal.τ).loc Cert.ReferenceAdamWIdeal.main_arg0) = m' ((c.tc : Thread Cert.ReferenceAdamWIdeal.nD Cert.ReferenceAdamWIdeal.τ).loc Cert.ReferenceAdamWIdeal.main_arg0)
          ∧ r.2.mem ((c.tc : Thread Cert.ReferenceAdamWIdeal.nD Cert.ReferenceAdamWIdeal.τ).loc Cert.ReferenceAdamWIdeal.main_arg1) = m' ((c.tc : Thread Cert.ReferenceAdamWIdeal.nD Cert.ReferenceAdamWIdeal.τ).loc Cert.ReferenceAdamWIdeal.main_arg1)
          ∧ r.2.mem ((c.tc : Thread Cert.ReferenceAdamWIdeal.nD Cert.ReferenceAdamWIdeal.τ).loc Cert.ReferenceAdamWIdeal.main_arg2) = m' ((c.tc : Thread Cert.ReferenceAdamWIdeal.nD Cert.ReferenceAdamWIdeal.τ).loc Cert.ReferenceAdamWIdeal.main_arg2)
          ∧ r.2.mem ((c.tc : Thread Cert.ReferenceAdamWIdeal.nD Cert.ReferenceAdamWIdeal.τ).loc Cert.ReferenceAdamWIdeal.main_arg3) = m' ((c.tc : Thread Cert.ReferenceAdamWIdeal.nD Cert.ReferenceAdamWIdeal.τ).loc Cert.ReferenceAdamWIdeal.main_arg3))

def preserves_KernelMixW_KernelMixWIdeal : Prop :=
  True

def algebraic_KernelMixWIdeal_ReferenceMixWIdeal_pre_finite_mixw [hKernelMixWIdeal : Cert.KernelMixWIdeal.Facts] [hReferenceMixWIdeal : Cert.ReferenceMixWIdeal.Facts] [hPre_finite_mixw : Cert.Pre_finite_mixw.Facts] : Prop :=
  ∀ (m : (ℓ : Loc Cert.KernelMixWIdeal.nD Cert.KernelMixWIdeal.τ Cert.KernelMixWIdeal.sig) → Buf (Elt Ideal) ℓ) (g : Dev Cert.KernelMixWIdeal.nD → PrngReg)
    (m' : (ℓ : Loc Cert.ReferenceMixWIdeal.nD Cert.ReferenceMixWIdeal.τ Cert.ReferenceMixWIdeal.sig) → Buf (Elt Ideal) ℓ) (g' : Dev Cert.ReferenceMixWIdeal.nD → PrngReg), Pre_KernelMixWIdeal_finite_mixw m →
    (∀ c : Dev Cert.KernelMixWIdeal.nD,
      m' ((c.tc : Thread Cert.ReferenceMixWIdeal.nD Cert.ReferenceMixWIdeal.τ).loc Cert.ReferenceMixWIdeal.main_arg0) = m ((c.tc : Thread Cert.KernelMixWIdeal.nD Cert.KernelMixWIdeal.τ).loc Cert.KernelMixWIdeal.main_arg0)
      ∧ m' ((c.tc : Thread Cert.ReferenceMixWIdeal.nD Cert.ReferenceMixWIdeal.τ).loc Cert.ReferenceMixWIdeal.main_arg1) = m ((c.tc : Thread Cert.KernelMixWIdeal.nD Cert.KernelMixWIdeal.τ).loc Cert.KernelMixWIdeal.main_arg1)
      ∧ m' ((c.tc : Thread Cert.ReferenceMixWIdeal.nD Cert.ReferenceMixWIdeal.τ).loc Cert.ReferenceMixWIdeal.main_arg2) = m ((c.tc : Thread Cert.KernelMixWIdeal.nD Cert.KernelMixWIdeal.τ).loc Cert.KernelMixWIdeal.main_arg2)
      ∧ m' ((c.tc : Thread Cert.ReferenceMixWIdeal.nD Cert.ReferenceMixWIdeal.τ).loc Cert.ReferenceMixWIdeal.main_arg3) = m ((c.tc : Thread Cert.KernelMixWIdeal.nD Cert.KernelMixWIdeal.τ).loc Cert.KernelMixWIdeal.main_arg3)
      ∧ m' ((c.tc : Thread Cert.ReferenceMixWIdeal.nD Cert.ReferenceMixWIdeal.τ).loc Cert.ReferenceMixWIdeal.main_arg4) = m ((c.tc : Thread Cert.KernelMixWIdeal.nD Cert.KernelMixWIdeal.τ).loc Cert.KernelMixWIdeal.main_arg4)
      ∧ m' ((c.tc : Thread Cert.ReferenceMixWIdeal.nD Cert.ReferenceMixWIdeal.τ).loc Cert.ReferenceMixWIdeal.main_arg5) = m ((c.tc : Thread Cert.KernelMixWIdeal.nD Cert.KernelMixWIdeal.τ).loc Cert.KernelMixWIdeal.main_arg5)) →
    ∃ (v0 : (c : Dev Cert.KernelMixWIdeal.nD) → Buf (Elt Ideal) ((c.tc : Thread Cert.KernelMixWIdeal.nD Cert.KernelMixWIdeal.τ).loc Cert.KernelMixWIdeal.main_v7_2)) (v1 : (c : Dev Cert.KernelMixWIdeal.nD) → Buf (Elt Ideal) ((c.tc : Thread Cert.KernelMixWIdeal.nD Cert.KernelMixWIdeal.τ).loc Cert.KernelMixWIdeal.main_v7_3)),
      θ_run (Cert.KernelMixWIdeal.defs (F := Ideal)) (onTc (τ := Cert.KernelMixWIdeal.τ) (Cert.KernelMixWIdeal.main (F := Ideal))) ⟨m, fun _ => 0, g⟩ (fun r => ∀ c : Dev Cert.KernelMixWIdeal.nD,
          r.2.mem ((c.tc : Thread Cert.KernelMixWIdeal.nD Cert.KernelMixWIdeal.τ).loc Cert.KernelMixWIdeal.main_v7_2) = v0 c
          ∧ r.2.mem ((c.tc : Thread Cert.KernelMixWIdeal.nD Cert.KernelMixWIdeal.τ).loc Cert.KernelMixWIdeal.main_v7_3) = v1 c
          ∧ r.2.mem ((c.tc : Thread Cert.KernelMixWIdeal.nD Cert.KernelMixWIdeal.τ).loc Cert.KernelMixWIdeal.main_arg0) = m ((c.tc : Thread Cert.KernelMixWIdeal.nD Cert.KernelMixWIdeal.τ).loc Cert.KernelMixWIdeal.main_arg0)
          ∧ r.2.mem ((c.tc : Thread Cert.KernelMixWIdeal.nD Cert.KernelMixWIdeal.τ).loc Cert.KernelMixWIdeal.main_arg1) = m ((c.tc : Thread Cert.KernelMixWIdeal.nD Cert.KernelMixWIdeal.τ).loc Cert.KernelMixWIdeal.main_arg1)
          ∧ r.2.mem ((c.tc : Thread Cert.KernelMixWIdeal.nD Cert.KernelMixWIdeal.τ).loc Cert.KernelMixWIdeal.main_arg2) = m ((c.tc : Thread Cert.KernelMixWIdeal.nD Cert.KernelMixWIdeal.τ).loc Cert.KernelMixWIdeal.main_arg2)
          ∧ r.2.mem ((c.tc : Thread Cert.KernelMixWIdeal.nD Cert.KernelMixWIdeal.τ).loc Cert.KernelMixWIdeal.main_arg3) = m ((c.tc : Thread Cert.KernelMixWIdeal.nD Cert.KernelMixWIdeal.τ).loc Cert.KernelMixWIdeal.main_arg3)
          ∧ r.2.mem ((c.tc : Thread Cert.KernelMixWIdeal.nD Cert.KernelMixWIdeal.τ).loc Cert.KernelMixWIdeal.main_arg4) = m ((c.tc : Thread Cert.KernelMixWIdeal.nD Cert.KernelMixWIdeal.τ).loc Cert.KernelMixWIdeal.main_arg4)
          ∧ r.2.mem ((c.tc : Thread Cert.KernelMixWIdeal.nD Cert.KernelMixWIdeal.τ).loc Cert.KernelMixWIdeal.main_arg5) = m ((c.tc : Thread Cert.KernelMixWIdeal.nD Cert.KernelMixWIdeal.τ).loc Cert.KernelMixWIdeal.main_arg5))
      ∧ θ_run (Cert.ReferenceMixWIdeal.defs (F := Ideal)) (onTc (τ := Cert.ReferenceMixWIdeal.τ) (Cert.ReferenceMixWIdeal.main (F := Ideal))) ⟨m', fun _ => 0, g'⟩ (fun r => ∀ c : Dev Cert.ReferenceMixWIdeal.nD,
          r.2.mem ((c.tc : Thread Cert.ReferenceMixWIdeal.nD Cert.ReferenceMixWIdeal.τ).loc Cert.ReferenceMixWIdeal.main_v90) = v0 c
          ∧ r.2.mem ((c.tc : Thread Cert.ReferenceMixWIdeal.nD Cert.ReferenceMixWIdeal.τ).loc Cert.ReferenceMixWIdeal.main_v87) = v1 c
          ∧ r.2.mem ((c.tc : Thread Cert.ReferenceMixWIdeal.nD Cert.ReferenceMixWIdeal.τ).loc Cert.ReferenceMixWIdeal.main_arg0) = m' ((c.tc : Thread Cert.ReferenceMixWIdeal.nD Cert.ReferenceMixWIdeal.τ).loc Cert.ReferenceMixWIdeal.main_arg0)
          ∧ r.2.mem ((c.tc : Thread Cert.ReferenceMixWIdeal.nD Cert.ReferenceMixWIdeal.τ).loc Cert.ReferenceMixWIdeal.main_arg1) = m' ((c.tc : Thread Cert.ReferenceMixWIdeal.nD Cert.ReferenceMixWIdeal.τ).loc Cert.ReferenceMixWIdeal.main_arg1)
          ∧ r.2.mem ((c.tc : Thread Cert.ReferenceMixWIdeal.nD Cert.ReferenceMixWIdeal.τ).loc Cert.ReferenceMixWIdeal.main_arg2) = m' ((c.tc : Thread Cert.ReferenceMixWIdeal.nD Cert.ReferenceMixWIdeal.τ).loc Cert.ReferenceMixWIdeal.main_arg2)
          ∧ r.2.mem ((c.tc : Thread Cert.ReferenceMixWIdeal.nD Cert.ReferenceMixWIdeal.τ).loc Cert.ReferenceMixWIdeal.main_arg3) = m' ((c.tc : Thread Cert.ReferenceMixWIdeal.nD Cert.ReferenceMixWIdeal.τ).loc Cert.ReferenceMixWIdeal.main_arg3)
          ∧ r.2.mem ((c.tc : Thread Cert.ReferenceMixWIdeal.nD Cert.ReferenceMixWIdeal.τ).loc Cert.ReferenceMixWIdeal.main_arg4) = m' ((c.tc : Thread Cert.ReferenceMixWIdeal.nD Cert.ReferenceMixWIdeal.τ).loc Cert.ReferenceMixWIdeal.main_arg4)
          ∧ r.2.mem ((c.tc : Thread Cert.ReferenceMixWIdeal.nD Cert.ReferenceMixWIdeal.τ).loc Cert.ReferenceMixWIdeal.main_arg5) = m' ((c.tc : Thread Cert.ReferenceMixWIdeal.nD Cert.ReferenceMixWIdeal.τ).loc Cert.ReferenceMixWIdeal.main_arg5))

def preserves_KernelTaps_KernelTapsIdeal : Prop :=
  True

def Claim : Prop :=
  ∃ (hKernelMemNorm : Cert.KernelMemNorm.Facts) (hKernelMemNormIdeal : Cert.KernelMemNormIdeal.Facts) (hReferenceMemNormIdeal : Cert.ReferenceMemNormIdeal.Facts) (hKernelMixNorm : Cert.KernelMixNorm.Facts) (hKernelMixNormIdeal : Cert.KernelMixNormIdeal.Facts) (hReferenceMixNormIdeal : Cert.ReferenceMixNormIdeal.Facts) (hKernelDH3 : Cert.KernelDH3.Facts) (hKernelDH3Ideal : Cert.KernelDH3Ideal.Facts) (hReferenceDH3Ideal : Cert.ReferenceDH3Ideal.Facts) (hKernelDH2 : Cert.KernelDH2.Facts) (hKernelDH2Ideal : Cert.KernelDH2Ideal.Facts) (hReferenceDH2Ideal : Cert.ReferenceDH2Ideal.Facts) (hKernelDH1 : Cert.KernelDH1.Facts) (hKernelDH1Ideal : Cert.KernelDH1Ideal.Facts) (hReferenceDH1Ideal : Cert.ReferenceDH1Ideal.Facts) (hKernelLoss : Cert.KernelLoss.Facts) (hKernelLossIdeal : Cert.KernelLossIdeal.Facts) (hReferenceLossIdeal : Cert.ReferenceLossIdeal.Facts) (hKernelAttn : Cert.KernelAttn.Facts) (hKernelAttnIdeal : Cert.KernelAttnIdeal.Facts) (hReferenceAttnIdeal : Cert.ReferenceAttnIdeal.Facts) (hKernelAttnF : Cert.KernelAttnF.Facts) (hKernelAttnFIdeal : Cert.KernelAttnFIdeal.Facts) (hReferenceAttnFIdeal : Cert.ReferenceAttnFIdeal.Facts) (hKernelRmsF : Cert.KernelRmsF.Facts) (hKernelRmsFIdeal : Cert.KernelRmsFIdeal.Facts) (hReferenceRmsFIdeal : Cert.ReferenceRmsFIdeal.Facts) (hKernelProjNorm : Cert.KernelProjNorm.Facts) (hKernelProjNormIdeal : Cert.KernelProjNormIdeal.Facts) (hReferenceProjNormIdeal : Cert.ReferenceProjNormIdeal.Facts) (hKernelGateF : Cert.KernelGateF.Facts) (hKernelGateFIdeal : Cert.KernelGateFIdeal.Facts) (hReferenceGateFIdeal : Cert.ReferenceGateFIdeal.Facts) (hKernelMixF : Cert.KernelMixF.Facts) (hKernelMixFIdeal : Cert.KernelMixFIdeal.Facts) (hReferenceMixFIdeal : Cert.ReferenceMixFIdeal.Facts) (hKernelUp : Cert.KernelUp.Facts) (hKernelUpIdeal : Cert.KernelUpIdeal.Facts) (hReferenceUpIdeal : Cert.ReferenceUpIdeal.Facts) (hKernelDAct : Cert.KernelDAct.Facts) (hKernelDActIdeal : Cert.KernelDActIdeal.Facts) (hReferenceDActIdeal : Cert.ReferenceDActIdeal.Facts) (hKernelDwDown : Cert.KernelDwDown.Facts) (hKernelDwDownIdeal : Cert.KernelDwDownIdeal.Facts) (hReferenceDwDownIdeal : Cert.ReferenceDwDownIdeal.Facts) (hKernelDwUp : Cert.KernelDwUp.Facts) (hKernelDwUpIdeal : Cert.KernelDwUpIdeal.Facts) (hReferenceDwUpIdeal : Cert.ReferenceDwUpIdeal.Facts) (hKernelAdamW : Cert.KernelAdamW.Facts) (hKernelAdamWIdeal : Cert.KernelAdamWIdeal.Facts) (hReferenceAdamWIdeal : Cert.ReferenceAdamWIdeal.Facts) (hKernelMixW : Cert.KernelMixW.Facts) (hKernelMixWIdeal : Cert.KernelMixWIdeal.Facts) (hReferenceMixWIdeal : Cert.ReferenceMixWIdeal.Facts) (hKernelTaps : Cert.KernelTaps.Facts) (hKernelTapsIdeal : Cert.KernelTapsIdeal.Facts) (hReferenceTapsIdeal : Cert.ReferenceTapsIdeal.Facts) (hPre_finite_mixnorm : Cert.Pre_finite_mixnorm.Facts) (hPre_finite_dh3 : Cert.Pre_finite_dh3.Facts) (hPre_finite_dh2 : Cert.Pre_finite_dh2.Facts) (hPre_finite_dh1 : Cert.Pre_finite_dh1.Facts) (hPre_finite_loss : Cert.Pre_finite_loss.Facts) (hPre_finite_attn : Cert.Pre_finite_attn.Facts) (hPre_finite_mixf : Cert.Pre_finite_mixf.Facts) (hPre_finite_mixw : Cert.Pre_finite_mixw.Facts),
    quiescent_KernelMemNorm (hKernelMemNorm := hKernelMemNorm)
    ∧ quiescent_KernelMemNormIdeal (hKernelMemNormIdeal := hKernelMemNormIdeal)
    ∧ quiescent_ReferenceMemNormIdeal (hReferenceMemNormIdeal := hReferenceMemNormIdeal)
    ∧ quiescent_KernelMixNorm (hKernelMixNorm := hKernelMixNorm)
    ∧ quiescent_KernelMixNormIdeal (hKernelMixNormIdeal := hKernelMixNormIdeal)
    ∧ quiescent_KernelMixNormIdeal_pre_finite_mixnorm (hKernelMixNormIdeal := hKernelMixNormIdeal) (hPre_finite_mixnorm := hPre_finite_mixnorm)
    ∧ quiescent_ReferenceMixNormIdeal (hReferenceMixNormIdeal := hReferenceMixNormIdeal)
    ∧ quiescent_ReferenceMixNormIdeal_pre_finite_mixnorm (hReferenceMixNormIdeal := hReferenceMixNormIdeal) (hPre_finite_mixnorm := hPre_finite_mixnorm)
    ∧ quiescent_KernelDH3 (hKernelDH3 := hKernelDH3)
    ∧ quiescent_KernelDH3Ideal (hKernelDH3Ideal := hKernelDH3Ideal)
    ∧ quiescent_KernelDH3Ideal_pre_finite_dh3 (hKernelDH3Ideal := hKernelDH3Ideal) (hPre_finite_dh3 := hPre_finite_dh3)
    ∧ quiescent_ReferenceDH3Ideal (hReferenceDH3Ideal := hReferenceDH3Ideal)
    ∧ quiescent_ReferenceDH3Ideal_pre_finite_dh3 (hReferenceDH3Ideal := hReferenceDH3Ideal) (hPre_finite_dh3 := hPre_finite_dh3)
    ∧ quiescent_KernelDH2 (hKernelDH2 := hKernelDH2)
    ∧ quiescent_KernelDH2Ideal (hKernelDH2Ideal := hKernelDH2Ideal)
    ∧ quiescent_KernelDH2Ideal_pre_finite_dh2 (hKernelDH2Ideal := hKernelDH2Ideal) (hPre_finite_dh2 := hPre_finite_dh2)
    ∧ quiescent_ReferenceDH2Ideal (hReferenceDH2Ideal := hReferenceDH2Ideal)
    ∧ quiescent_ReferenceDH2Ideal_pre_finite_dh2 (hReferenceDH2Ideal := hReferenceDH2Ideal) (hPre_finite_dh2 := hPre_finite_dh2)
    ∧ quiescent_KernelDH1 (hKernelDH1 := hKernelDH1)
    ∧ quiescent_KernelDH1Ideal (hKernelDH1Ideal := hKernelDH1Ideal)
    ∧ quiescent_KernelDH1Ideal_pre_finite_dh1 (hKernelDH1Ideal := hKernelDH1Ideal) (hPre_finite_dh1 := hPre_finite_dh1)
    ∧ quiescent_ReferenceDH1Ideal (hReferenceDH1Ideal := hReferenceDH1Ideal)
    ∧ quiescent_ReferenceDH1Ideal_pre_finite_dh1 (hReferenceDH1Ideal := hReferenceDH1Ideal) (hPre_finite_dh1 := hPre_finite_dh1)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelAttnF (hKernelAttnF := hKernelAttnF)
    ∧ quiescent_KernelAttnFIdeal (hKernelAttnFIdeal := hKernelAttnFIdeal)
    ∧ quiescent_ReferenceAttnFIdeal (hReferenceAttnFIdeal := hReferenceAttnFIdeal)
    ∧ quiescent_KernelRmsF (hKernelRmsF := hKernelRmsF)
    ∧ quiescent_KernelRmsFIdeal (hKernelRmsFIdeal := hKernelRmsFIdeal)
    ∧ quiescent_ReferenceRmsFIdeal (hReferenceRmsFIdeal := hReferenceRmsFIdeal)
    ∧ quiescent_KernelProjNorm (hKernelProjNorm := hKernelProjNorm)
    ∧ quiescent_KernelProjNormIdeal (hKernelProjNormIdeal := hKernelProjNormIdeal)
    ∧ quiescent_ReferenceProjNormIdeal (hReferenceProjNormIdeal := hReferenceProjNormIdeal)
    ∧ quiescent_KernelGateF (hKernelGateF := hKernelGateF)
    ∧ quiescent_KernelGateFIdeal (hKernelGateFIdeal := hKernelGateFIdeal)
    ∧ quiescent_ReferenceGateFIdeal (hReferenceGateFIdeal := hReferenceGateFIdeal)
    ∧ quiescent_KernelMixF (hKernelMixF := hKernelMixF)
    ∧ quiescent_KernelMixFIdeal (hKernelMixFIdeal := hKernelMixFIdeal)
    ∧ quiescent_KernelMixFIdeal_pre_finite_mixf (hKernelMixFIdeal := hKernelMixFIdeal) (hPre_finite_mixf := hPre_finite_mixf)
    ∧ quiescent_ReferenceMixFIdeal (hReferenceMixFIdeal := hReferenceMixFIdeal)
    ∧ quiescent_ReferenceMixFIdeal_pre_finite_mixf (hReferenceMixFIdeal := hReferenceMixFIdeal) (hPre_finite_mixf := hPre_finite_mixf)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDAct (hKernelDAct := hKernelDAct)
    ∧ quiescent_KernelDActIdeal (hKernelDActIdeal := hKernelDActIdeal)
    ∧ quiescent_ReferenceDActIdeal (hReferenceDActIdeal := hReferenceDActIdeal)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelDwUp (hKernelDwUp := hKernelDwUp)
    ∧ quiescent_KernelDwUpIdeal (hKernelDwUpIdeal := hKernelDwUpIdeal)
    ∧ quiescent_ReferenceDwUpIdeal (hReferenceDwUpIdeal := hReferenceDwUpIdeal)
    ∧ quiescent_KernelAdamW (hKernelAdamW := hKernelAdamW)
    ∧ quiescent_KernelAdamWIdeal (hKernelAdamWIdeal := hKernelAdamWIdeal)
    ∧ quiescent_ReferenceAdamWIdeal (hReferenceAdamWIdeal := hReferenceAdamWIdeal)
    ∧ quiescent_KernelMixW (hKernelMixW := hKernelMixW)
    ∧ quiescent_KernelMixWIdeal (hKernelMixWIdeal := hKernelMixWIdeal)
    ∧ quiescent_KernelMixWIdeal_pre_finite_mixw (hKernelMixWIdeal := hKernelMixWIdeal) (hPre_finite_mixw := hPre_finite_mixw)
    ∧ quiescent_ReferenceMixWIdeal (hReferenceMixWIdeal := hReferenceMixWIdeal)
    ∧ quiescent_ReferenceMixWIdeal_pre_finite_mixw (hReferenceMixWIdeal := hReferenceMixWIdeal) (hPre_finite_mixw := hPre_finite_mixw)
    ∧ quiescent_KernelTaps (hKernelTaps := hKernelTaps)
    ∧ quiescent_KernelTapsIdeal (hKernelTapsIdeal := hKernelTapsIdeal)
    ∧ quiescent_ReferenceTapsIdeal (hReferenceTapsIdeal := hReferenceTapsIdeal)
    ∧ preserves_KernelMemNorm_KernelMemNormIdeal
    ∧ algebraic_KernelMemNormIdeal_ReferenceMemNormIdeal (hKernelMemNormIdeal := hKernelMemNormIdeal) (hReferenceMemNormIdeal := hReferenceMemNormIdeal)
    ∧ preserves_KernelMixNorm_KernelMixNormIdeal
    ∧ algebraic_KernelMixNormIdeal_ReferenceMixNormIdeal_pre_finite_mixnorm (hKernelMixNormIdeal := hKernelMixNormIdeal) (hReferenceMixNormIdeal := hReferenceMixNormIdeal) (hPre_finite_mixnorm := hPre_finite_mixnorm)
    ∧ preserves_KernelDH3_KernelDH3Ideal
    ∧ algebraic_KernelDH3Ideal_ReferenceDH3Ideal_pre_finite_dh3 (hKernelDH3Ideal := hKernelDH3Ideal) (hReferenceDH3Ideal := hReferenceDH3Ideal) (hPre_finite_dh3 := hPre_finite_dh3)
    ∧ preserves_KernelDH2_KernelDH2Ideal
    ∧ algebraic_KernelDH2Ideal_ReferenceDH2Ideal_pre_finite_dh2 (hKernelDH2Ideal := hKernelDH2Ideal) (hReferenceDH2Ideal := hReferenceDH2Ideal) (hPre_finite_dh2 := hPre_finite_dh2)
    ∧ preserves_KernelDH1_KernelDH1Ideal
    ∧ algebraic_KernelDH1Ideal_ReferenceDH1Ideal_pre_finite_dh1 (hKernelDH1Ideal := hKernelDH1Ideal) (hReferenceDH1Ideal := hReferenceDH1Ideal) (hPre_finite_dh1 := hPre_finite_dh1)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
    ∧ preserves_KernelAttnF_KernelAttnFIdeal
    ∧ algebraic_KernelAttnFIdeal_ReferenceAttnFIdeal (hKernelAttnFIdeal := hKernelAttnFIdeal) (hReferenceAttnFIdeal := hReferenceAttnFIdeal)
    ∧ preserves_KernelRmsF_KernelRmsFIdeal
    ∧ algebraic_KernelRmsFIdeal_ReferenceRmsFIdeal (hKernelRmsFIdeal := hKernelRmsFIdeal) (hReferenceRmsFIdeal := hReferenceRmsFIdeal)
    ∧ preserves_KernelProjNorm_KernelProjNormIdeal
    ∧ algebraic_KernelProjNormIdeal_ReferenceProjNormIdeal (hKernelProjNormIdeal := hKernelProjNormIdeal) (hReferenceProjNormIdeal := hReferenceProjNormIdeal)
    ∧ preserves_KernelGateF_KernelGateFIdeal
    ∧ algebraic_KernelGateFIdeal_ReferenceGateFIdeal (hKernelGateFIdeal := hKernelGateFIdeal) (hReferenceGateFIdeal := hReferenceGateFIdeal)
    ∧ preserves_KernelMixF_KernelMixFIdeal
    ∧ algebraic_KernelMixFIdeal_ReferenceMixFIdeal_pre_finite_mixf (hKernelMixFIdeal := hKernelMixFIdeal) (hReferenceMixFIdeal := hReferenceMixFIdeal) (hPre_finite_mixf := hPre_finite_mixf)
    ∧ preserves_KernelUp_KernelUpIdeal
    ∧ algebraic_KernelUpIdeal_ReferenceUpIdeal (hKernelUpIdeal := hKernelUpIdeal) (hReferenceUpIdeal := hReferenceUpIdeal)
    ∧ preserves_KernelDAct_KernelDActIdeal
    ∧ algebraic_KernelDActIdeal_ReferenceDActIdeal (hKernelDActIdeal := hKernelDActIdeal) (hReferenceDActIdeal := hReferenceDActIdeal)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelDwUp_KernelDwUpIdeal
    ∧ algebraic_KernelDwUpIdeal_ReferenceDwUpIdeal (hKernelDwUpIdeal := hKernelDwUpIdeal) (hReferenceDwUpIdeal := hReferenceDwUpIdeal)
    ∧ preserves_KernelAdamW_KernelAdamWIdeal
    ∧ algebraic_KernelAdamWIdeal_ReferenceAdamWIdeal (hKernelAdamWIdeal := hKernelAdamWIdeal) (hReferenceAdamWIdeal := hReferenceAdamWIdeal)
    ∧ preserves_KernelMixW_KernelMixWIdeal
    ∧ algebraic_KernelMixWIdeal_ReferenceMixWIdeal_pre_finite_mixw (hKernelMixWIdeal := hKernelMixWIdeal) (hReferenceMixWIdeal := hReferenceMixWIdeal) (hPre_finite_mixw := hPre_finite_mixw)
    ∧ preserves_KernelTaps_KernelTapsIdeal
-- ==== Pre_finite_attn.lean ====
abbrev S2x2048x1024 : Shape := ⟨3, ![2, 2048, 1024]⟩
abbrev S2x256x2048 : Shape := ⟨3, ![2, 256, 2048]⟩
abbrev S_ : Shape := ⟨0, ![]⟩

class Facts : Prop where
  bcast_S_S2x2048x1024 : S_.BroadcastsInDim S2x2048x1024 (![] : Fin 0 → Fin S2x2048x1024.rank)
  bcast_S_S2x256x2048 : S_.BroadcastsInDim S2x256x2048 (![] : Fin 0 → Fin S2x256x2048.rank)

variable [Facts]

def fn {F : FTy → Type} [FloatOps F] (main_arg0 : FVec F S2x2048x1024 .f32) (main_arg1 : FVec F S2x256x2048 .f32) (main_arg2 : FVec F S2x2048x1024 .f32) : IVec S2x2048x1024 1 × IVec S2x256x2048 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x256x2048 .f32 := Host.absf main_arg1
  let main_cst_0 : FVec F S_ .f32 := constant S_ .f32 0x7F800000#32
  let main_v4 : FVec F S2x256x2048 .f32 := broadcastInDim S2x256x2048 ![] bcast_S_S2x256x2048 main_cst_0
  let main_v5 : IVec S2x256x2048 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  (main_v2, main_v5, main_v8)
-- ==== Pre_finite_dh1.lean ====
abbrev S2x2048x1024 : Shape := ⟨3, ![2, 2048, 1024]⟩
abbrev S1x1024 : Shape := ⟨2, ![1, 1024]⟩
abbrev S1024x1536 : Shape := ⟨2, ![1024, 1536]⟩
abbrev S2x2048x1536 : Shape := ⟨3, ![2, 2048, 1536]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1024x1536 : S_.BroadcastsInDim S1024x1536 (![] : Fin 0 → Fin S1024x1536.rank)
  bcast_S_S2x2048x1536 : S_.BroadcastsInDim S2x2048x1536 (![] : Fin 0 → Fin S2x2048x1536.rank)

variable [Facts]

def fn {F : FTy → Type} [FloatOps F] (main_arg0 : FVec F S2x2048x1024 .f32) (main_arg1 : FVec F S1x1024 .f32) (main_arg2 : FVec F S1024x1536 .f32) (main_arg3 : FVec F S2x2048x1024 .f32) (main_arg4 : FVec F S2x2048x1536 .f32) : IVec S2x2048x1024 1 × IVec S1x1024 1 × IVec S1024x1536 1 × IVec S2x2048x1536 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S2x2048x1536 .f32 := Host.absf main_arg4
  let main_cst_2 : FVec F S_ .f32 := constant S_ .f32 0x7F800000#32
  let main_v10 : FVec F S2x2048x1536 .f32 := broadcastInDim S2x2048x1536 ![] bcast_S_S2x2048x1536 main_cst_2
  let main_v11 : IVec S2x2048x1536 1 := cmpf .olt main_v9 main_v10
  (main_v2, main_v5, main_v8, main_v11)
-- ==== Pre_finite_dh2.lean ====
abbrev S2x2048x1024 : Shape := ⟨3, ![2, 2048, 1024]⟩
abbrev S1x1024 : Shape := ⟨2, ![1, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn {F : FTy → Type} [FloatOps F] (main_arg0 : FVec F S2x2048x1024 .f32) (main_arg1 : FVec F S1x1024 .f32) (main_arg2 : FVec F S1024x1024 .f32) (main_arg3 : FVec F S2x2048x1024 .f32) (main_arg4 : FVec F S2x2048x1024 .f32) : IVec S2x2048x1024 1 × IVec S1x1024 1 × IVec S1024x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S2x2048x1024 .f32 := Host.absf main_arg4
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  (main_v2, main_v5, main_v8, main_v11)
-- ==== Pre_finite_dh3.lean ====
abbrev S2x2048x1024 : Shape := ⟨3, ![2, 2048, 1024]⟩
abbrev S1x1024 : Shape := ⟨2, ![1, 1024]⟩
abbrev S1024x5632 : Shape := ⟨2, ![1024, 5632]⟩
abbrev S2x2048x5632 : Shape := ⟨3, ![2, 2048, 5632]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2x2048x5632 : S_.BroadcastsInDim S2x2048x5632 (![] : Fin 0 → Fin S2x2048x5632.rank)

variable [Facts]

def fn {F : FTy → Type} [FloatOps F] (main_arg0 : FVec F S2x2048x1024 .f32) (main_arg1 : FVec F S1x1024 .f32) (main_arg2 : FVec F S1024x5632 .f32) (main_arg3 : FVec F S2x2048x1024 .f32) (main_arg4 : FVec F S2x2048x5632 .f32) : IVec S2x2048x1024 1 × IVec S1x1024 1 × IVec S1024x5632 1 × IVec S2x2048x5632 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2x2048x5632 .f32 := Host.absf main_arg4
  let main_cst_2 : FVec F S_ .f32 := constant S_ .f32 0x7F800000#32
  let main_v10 : FVec F S2x2048x5632 .f32 := broadcastInDim S2x2048x5632 ![] bcast_S_S2x2048x5632 main_cst_2
  let main_v11 : IVec S2x2048x5632 1 := cmpf .olt main_v9 main_v10
  (main_v2, main_v5, main_v8, main_v11)
-- ==== Pre_finite_loss.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1024 : Shape := ⟨1, ![1024]⟩
abbrev S_ : Shape := ⟨0, ![]⟩

class Facts : Prop where
  bcast_S_S2x2048x2816 : S_.BroadcastsInDim S2x2048x2816 (![] : Fin 0 → Fin S2x2048x2816.rank)
  bcast_S_S2816x1024 : S_.BroadcastsInDim S2816x1024 (![] : Fin 0 → Fin S2816x1024.rank)
  bcast_S_S2x2048x1024 : S_.BroadcastsInDim S2x2048x1024 (![] : Fin 0 → Fin S2x2048x1024.rank)
  bcast_S_S1024 : S_.BroadcastsInDim S1024 (![] : Fin 0 → Fin S1024.rank)

variable [Facts]

def fn {F : FTy → Type} [FloatOps F] (main_arg0 : FVec F S2x2048x2816 .f32) (main_arg1 : FVec F S2816x1024 .f32) (main_arg2 : FVec F S2x2048x1024 .f32) (main_arg3 : FVec F S1024 .f32) (main_arg4 : FVec F S2x2048x1024 .f32) : IVec S2x2048x2816 1 × IVec S2816x1024 1 × IVec S2x2048x1024 1 × IVec S1024 1 × IVec S2x2048x1024 1 :=
  let main_v0 : FVec F S2x2048x2816 .f32 := Host.absf main_arg0
  let main_cst : FVec F S_ .f32 := constant S_ .f32 0x7F800000#32
  let main_v1 : FVec F S2x2048x2816 .f32 := broadcastInDim S2x2048x2816 ![] bcast_S_S2x2048x2816 main_cst
  let main_v2 : IVec S2x2048x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_finite_mixf.lean ====
abbrev S2x2048x1536 : Shape := ⟨3, ![2, 2048, 1536]⟩
abbrev S31x512 : Shape := ⟨2, ![31, 512]⟩
abbrev S1x512 : Shape := ⟨2, ![1, 512]⟩
abbrev S4x128x128 : Shape := ⟨3, ![4, 128, 128]⟩
abbrev S_ : Shape := ⟨0, ![]⟩

class Facts : Prop where
  bcast_S_S2x2048x1536 : S_.BroadcastsInDim S2x2048x1536 (![] : Fin 0 → Fin S2x2048x1536.rank)

variable [Facts]

def fn {F : FTy → Type} [FloatOps F] (main_arg0 : FVec F S2x2048x1536 .f32) (main_arg1 : FVec F S31x512 .f32) (main_arg2 : FVec F S1x512 .f32) (main_arg3 : FVec F S1x512 .f32) (main_arg4 : FVec F S1x512 .f32) (main_arg5 : FVec F S4x128x128 .f32) (main_arg6 : FVec F S1x512 .f32) : IVec S2x2048x1536 1 :=
  let main_v0 : FVec F S2x2048x1536 .f32 := Host.absf main_arg0
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  main_v2
-- ==== Pre_finite_mixnorm.lean ====
abbrev S2x2048x512 : Shape := ⟨3, ![2, 2048, 512]⟩
abbrev S1x512 : Shape := ⟨2, ![1, 512]⟩
abbrev S2x2048x1024 : Shape := ⟨3, ![2, 2048, 1024]⟩
abbrev S_ : Shape := ⟨0, ![]⟩

class Facts : Prop where
  bcast_S_S2x2048x512 : S_.BroadcastsInDim S2x2048x512 (![] : Fin 0 → Fin S2x2048x512.rank)
  bcast_S_S1x512 : S_.BroadcastsInDim S1x512 (![] : Fin 0 → Fin S1x512.rank)
  bcast_S_S2x2048x1024 : S_.BroadcastsInDim S2x2048x1024 (![] : Fin 0 → Fin S2x2048x1024.rank)

variable [Facts]

def fn {F : FTy → Type} [FloatOps F] (main_arg0 : FVec F S2x2048x512 .f32) (main_arg1 : FVec F S1x512 .f32) (main_arg2 : FVec F S1x512 .f32) (main_arg3 : FVec F S1x512 .f32) (main_arg4 : FVec F S2x2048x1024 .f32) : IVec S2x2048x512 1 × IVec S1x512 1 × IVec S1x512 1 × IVec S1x512 1 × IVec S2x2048x1024 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_finite_mixw.lean ====
abbrev S2x2048x1536 : Shape := ⟨3, ![2, 2048, 1536]⟩
abbrev S31x512 : Shape := ⟨2, ![31, 512]⟩
abbrev S4x128x128 : Shape := ⟨3, ![4, 128, 128]⟩
abbrev S1x512 : Shape := ⟨2, ![1, 512]⟩
abbrev S2x2048x512 : Shape := ⟨3, ![2, 2048, 512]⟩
abbrev S2x2048x1024 : Shape := ⟨3, ![2, 2048, 1024]⟩
abbrev S_ : Shape := ⟨0, ![]⟩

class Facts : Prop where
  bcast_S_S2x2048x1536 : S_.BroadcastsInDim S2x2048x1536 (![] : Fin 0 → Fin S2x2048x1536.rank)

variable [Facts]

def fn {F : FTy → Type} [FloatOps F] (main_arg0 : FVec F S2x2048x1536 .f32) (main_arg1 : FVec F S31x512 .f32) (main_arg2 : FVec F S4x128x128 .f32) (main_arg3 : FVec F S1x512 .f32) (main_arg4 : FVec F S2x2048x512 .f32) (main_arg5 : FVec F S2x2048x1024 .f32) : IVec S2x2048x1536 1 :=
  let main_v0 : FVec F S2x2048x1536 .f32 := Host.absf main_arg0
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  main_v2
-- ==== KernelMemNorm.lean ====
abbrev S2x256x1024 : Shape := ⟨3, ![2, 256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 3
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S2x256x1024, .f32⟩
  | .hbm, ⟨3, _⟩ => ⟨S512x1024, .f32⟩
  | .hbm, ⟨4, _⟩ => ⟨S512x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceMemNormIdeal.lean ====
abbrev S2x256x1024 : Shape := ⟨3, ![2, 256, 1024]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S2x256x1024, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S1024, .f32⟩
  | .hbm, ⟨23, _⟩ => ⟨S1x1x1024, .f32⟩
  | .hbm, ⟨24, _⟩ => ⟨S_, .f32⟩
  | .hbm, ⟨25, _⟩ => ⟨S1024, .f32⟩
  | .hbm, ⟨26, _⟩ => ⟨S1x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelMixNorm.lean ====
abbrev S2x2048x512 : Shape := ⟨3, ![2, 2048, 512]⟩
abbrev S1x512 : Shape := ⟨2, ![1, 512]⟩
abbrev S2x2048x1024 : Shape := ⟨3, ![2, 2048, 1024]⟩
abbrev S512 : Shape := ⟨1, ![512]⟩
abbrev S1x1x512 : Shape := ⟨3, ![1, 1, 512]⟩
abbrev S4096x1024 : Shape := ⟨2, ![4096, 1024]⟩
abbrev S4096x512 : Shape := ⟨2, ![4096, 512]⟩
abbrev S_ : Shape := ⟨0, ![]⟩
abbrev S8x128 : Shape := ⟨2, ![8, 128]⟩
abbrev S8x512 : Shape := ⟨2, ![8, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 16
  | .vmem => 9
  | .smem => 0
  | _ => 0

abbrev bufTy : (tb : Table) → Fin (tcTables nBuf tb) → BufTy
  | .hbm, ⟨0, _⟩ => ⟨S2x2048x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S2x2048x1024, .f32⟩
  | .hbm, ⟨5, _⟩ => ⟨S512, .f32⟩
  | .hbm, ⟨6, _⟩ => ⟨S1x1x512, .f32⟩
  | .hbm, ⟨7, _⟩ => ⟨S2x2048x512, .f32⟩
  | .hbm, ⟨8, _⟩ => ⟨S2x2048x512, .f32⟩
  | .hbm, ⟨9, _⟩ => ⟨S4096x1024, .f32⟩
  | .hbm, ⟨10, _⟩ => ⟨S4096x1024, .bf16⟩
  | .hbm, ⟨11, _⟩ => ⟨S4096x512, .f32⟩
  | .hbm, ⟨12, _⟩ => ⟨S_, .f32⟩
  | .hbm, ⟨13, _⟩ => ⟨S8x128, .f32⟩
  | .hbm, ⟨14, _⟩ => ⟨S4096x512, .f32⟩
  | .hbm, ⟨15, _⟩ => ⟨S8x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S8x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceMixNormIdeal.lean ====
abbrev S2x2048x512 : Shape := ⟨3, ![2, 2048, 512]⟩
abbrev S1x512 : Shape := ⟨2, ![1, 512]⟩
abbrev S2x2048x1024 : Shape := ⟨3, ![2, 2048, 1024]⟩
abbrev S512 : Shape := ⟨1, ![512]⟩
abbrev S1x1x512 : Shape := ⟨3, ![1, 1, 512]⟩
abbrev S_ : Shape := ⟨0, ![]⟩
abbrev S2x2048 : Shape := ⟨2, ![2, 2048]⟩
abbrev S2x2048x1 : Shape := ⟨3, ![2, 2048, 1]⟩
abbrev S4096x512 : Shape := ⟨2, ![4096, 512]⟩
abbrev S5x512 : Shape := ⟨2, ![5, 512]⟩
abbrev S8x512 : Shape := ⟨2, ![8, 512]⟩

abbrev nBuf : Space → Nat
  | .hbm => 121
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S2x2048x1024, .f32⟩
  | .hbm, ⟨5, _⟩ => ⟨S512, .f32⟩
  | .hbm, ⟨6, _⟩ => ⟨S1x1x512, .f32⟩
  | .hbm, ⟨7, _⟩ => ⟨S2x2048x512, .f32⟩
  | .hbm, ⟨8, _⟩ => ⟨S2x2048x512, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x512, .f32⟩
  | .hbm, ⟨18, _⟩ => ⟨S2x2048x512, .f32⟩
  | .hbm, ⟨19, _⟩ => ⟨S2x2048x512, .f32⟩
  | .hbm, ⟨20, _⟩ => ⟨S_, .f32⟩
  | .hbm, ⟨21, _⟩ => ⟨S2x2048x512, .f32⟩
  | .hbm, ⟨22, _⟩ => ⟨S2x2048x512, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x512, .f32⟩
  | .hbm, ⟨30, _⟩ => ⟨S2x2048x512, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S2x2048x512, .f32⟩
  | .hbm, ⟨40, _⟩ => ⟨S2x2048x512, .f32⟩
  | .hbm, ⟨41, _⟩ => ⟨S1x1x512, .f32⟩
  | .hbm, ⟨42, _⟩ => ⟨S2x2048x512, .f32⟩
  | .hbm, ⟨43, _⟩ => ⟨S2x2048x512, .f32⟩
  | .hbm, ⟨44, _⟩ => ⟨S1x1x512, .f32⟩
  | .hbm, ⟨45, _⟩ => ⟨S2x2048x512, .f32⟩
  | .hbm, ⟨46, _⟩ => ⟨S2x2048x512, .f32⟩
  | .hbm, ⟨47, _⟩ => ⟨S2x2048x512, .f32⟩
  | .hbm, ⟨48, _⟩ => ⟨S2x2048x512, .f32⟩
  | .hbm, ⟨49, _⟩ => ⟨S_, .f32⟩
  | .hbm, ⟨50, _⟩ => ⟨S2x2048x512, .f32⟩
  | .hbm, ⟨51, _⟩ => ⟨S2x2048x512, .f32⟩
  | .hbm, ⟨52, _⟩ => ⟨S_, .f32⟩
  | .hbm, ⟨53, _⟩ => ⟨S2x2048x512, .f32⟩
  | .hbm, ⟨54, _⟩ => ⟨S2x2048x512, .f32⟩
  | .hbm, ⟨55, _⟩ => ⟨S_, .f32⟩
  | .hbm, ⟨56, _⟩ => ⟨S2x2048x512, .f32⟩
  | .hbm, ⟨57, _⟩ => ⟨S2x2048x512, .f32⟩
  | .hbm, ⟨58, _⟩ => ⟨S2x2048x512, .f32⟩
  | .hbm, ⟨59, _⟩ => ⟨S2x2048x512, .f32⟩
  | .hbm, ⟨60, _⟩ => ⟨S2x2048x512, .f32⟩
  | .hbm, ⟨61, _⟩ => ⟨S2x2048x512, .f32⟩
  | .hbm, ⟨62, _⟩ => ⟨S2x2048x512, .f32⟩
  | .hbm, ⟨63, _⟩ => ⟨S2x2048x512, .f32⟩
  | .hbm, ⟨64, _⟩ => ⟨S2x2048x512, .f32⟩
  | .hbm, ⟨65, _⟩ => ⟨S_, .f32⟩
  | .hbm, ⟨66, _⟩ => ⟨S512, .f32⟩
  | .hbm, ⟨67, _⟩ => ⟨S1x1x512, .f32⟩
  | .hbm, ⟨68, _⟩ => ⟨S_, .f32⟩
  | .hbm, ⟨69, _⟩ => ⟨S512, .f32⟩
  | .hbm, ⟨70, _⟩ => ⟨S2x2048x512, .f32⟩
  | .hbm, ⟨71, _⟩ => ⟨S_, .f32⟩
  | .hbm, ⟨72, _⟩ => ⟨S512, .f32⟩
  | .hbm, ⟨73, _⟩ => ⟨S1x1x512, .f32⟩
  | .hbm, ⟨74, _⟩ => ⟨S2x2048x512, .f32⟩
  | .hbm, ⟨75, _⟩ => ⟨S2x2048x512, .f32⟩
  | .hbm, ⟨76, _⟩ => ⟨S_, .f32⟩
  | .hbm, ⟨77, _⟩ => ⟨S512, .f32⟩
  | .hbm, ⟨78, _⟩ => ⟨S2x2048x512, .f32⟩
  | .hbm, ⟨79, _⟩ => ⟨S_, .f32⟩
  | .hbm, ⟨80, _⟩ => ⟨S2x2048, .f32⟩
  | .hbm, ⟨81, _⟩ => ⟨S2x2048x1, .f32⟩
  | .hbm, ⟨82, _⟩ => ⟨S2x2048x512, .f32⟩
  | .hbm, ⟨83, _⟩ => ⟨S2x2048x512, .f32⟩
  | .hbm, ⟨84, _⟩ => ⟨S2x2048x1, .f32⟩
  | .hbm, ⟨85, _⟩ => ⟨S2x2048x512, .f32⟩
  | .hbm, ⟨86, _⟩ => ⟨S_, .f32⟩
  | .hbm, ⟨87, _⟩ => ⟨S2x2048, .f32⟩
  | .hbm, ⟨88, _⟩ => ⟨S2x2048x1, .f32⟩
  | .hbm, ⟨89, _⟩ => ⟨S_, .f32⟩
  | .hbm, ⟨90, _⟩ => ⟨S2x2048x1, .f32⟩
  | .hbm, ⟨91, _⟩ => ⟨S2x2048x1, .f32⟩
  | .hbm, ⟨92, _⟩ => ⟨S_, .f32⟩
  | .hbm, ⟨93, _⟩ => ⟨S2x2048, .f32⟩
  | .hbm, ⟨94, _⟩ => ⟨S2x2048x512, .f32⟩
  | .hbm, ⟨95, _⟩ => ⟨S2x2048x512, .f32⟩
  | .hbm, ⟨96, _⟩ => ⟨S2x2048x512, .f32⟩
  | .hbm, ⟨97, _⟩ => ⟨S_, .f32⟩
  | .hbm, ⟨98, _⟩ => ⟨S2x2048, .f32⟩
  | .hbm, ⟨99, _⟩ => ⟨S2x2048x1, .f32⟩
  | .hbm, ⟨100, _⟩ => ⟨S2x2048x512, .f32⟩
  | .hbm, ⟨101, _⟩ => ⟨S2x2048x1, .f32⟩
  | .hbm, ⟨102, _⟩ => ⟨S_, .f32⟩
  | .hbm, ⟨103, _⟩ => ⟨S2x2048x1, .f32⟩
  | .hbm, ⟨104, _⟩ => ⟨S2x2048x1, .f32⟩
  | .hbm, ⟨105, _⟩ => ⟨S_, .f32⟩
  | .hbm, ⟨106, _⟩ => ⟨S2x2048, .f32⟩
  | .hbm, ⟨107, _⟩ => ⟨S2x2048x512, .f32⟩
  | .hbm, ⟨108, _⟩ => ⟨S2x2048x512, .f32⟩
  | .hbm, ⟨109, _⟩ => ⟨S1x512, .f32⟩
  | .hbm, ⟨110, _⟩ => ⟨S1x512, .f32⟩
  | .hbm, ⟨111, _⟩ => ⟨S_, .f32⟩
  | .hbm, ⟨112, _⟩ => ⟨S512, .f32⟩
  | .hbm, ⟨113, _⟩ => ⟨S1x1x512, .f32⟩
  | .hbm, ⟨114, _⟩ => ⟨S_, .f32⟩
  | .hbm, ⟨115, _⟩ => ⟨S512, .f32⟩
  | .hbm, ⟨116, _⟩ => ⟨S1x512, .f32⟩
  | .hbm, ⟨117, _⟩ => ⟨S4096x512, .f32⟩
  | .hbm, ⟨118, _⟩ => ⟨S_, .f32⟩
  | .hbm, ⟨119, _⟩ => ⟨S5x512, .f32⟩
  | .hbm, ⟨120, _⟩ => ⟨S8x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v35_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v35_1 : Ref sig .tc := ⟨.hbm, 58, rfl⟩
abbrev main_v35_0 : Ref sig .tc := ⟨.hbm, 59, rfl⟩
abbrev main_v36 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_cst_13 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_17 : Ref sig .tc := ⟨.hbm, 111, rfl⟩
abbrev main_v73 : Ref sig .tc := ⟨.hbm, 112, rfl⟩
abbrev main_v74 : Ref sig .tc := ⟨.hbm, 113, rfl⟩
abbrev main_cst_18 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_19 : Ref sig .tc := ⟨.hbm, 118, rfl⟩
abbrev main_v78 : Ref sig .tc := ⟨.hbm, 119, rfl⟩
abbrev main_v79 : Ref sig .tc := ⟨.hbm, 120, rfl⟩

abbrev nD : Nat := 1
abbrev τ : Topo := Topo.v7x

variable {F : FTy → Type} [FloatOps F]
-- ==== KernelDH3.lean ====
abbrev S2x2048x1024 : Shape := ⟨3, ![2, 2048, 1024]⟩
abbrev S1x1024 : Shape := ⟨2, ![1, 1024]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4096x1024 : Shape := ⟨2, ![4096, 1024]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 19
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024x5632, .f32⟩
  | .hbm, ⟨3, _⟩ => ⟨S2x2048x1024, .f32⟩
  | .hbm, ⟨4, _⟩ => ⟨S2x2048x5632, .f32⟩
  | .hbm, ⟨5, _⟩ => ⟨S2x2048x2816, .f32⟩
  | .hbm, ⟨6, _⟩ => ⟨S4096x2816, .f32⟩
  | .hbm, ⟨7, _⟩ => ⟨S2x2048x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | .hbm, ⟨12, _⟩ => ⟨S2x4096x2816, .bf16⟩
  | .hbm, ⟨13, _⟩ => ⟨S1024x5632, .bf16⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceDH3Ideal.lean ====
abbrev S2x2048x1024 : Shape := ⟨3, ![2, 2048, 1024]⟩
abbrev S1x1024 : Shape := ⟨2, ![1, 1024]⟩
abbrev S1024x5632 : Shape := ⟨2, ![1024, 5632]⟩
abbrev S2x2048x5632 : Shape := ⟨3, ![2, 2048, 5632]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024x5632, .f32⟩
  | .hbm, ⟨3, _⟩ => ⟨S2x2048x1024, .f32⟩
  | .hbm, ⟨4, _⟩ => ⟨S2x2048x5632, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x5632, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S1024, .f32⟩
  | .hbm, ⟨36, _⟩ => ⟨S2x2048x1024, .f32⟩
  | .hbm, ⟨37, _⟩ => ⟨S_, .f32⟩
  | .hbm, ⟨38, _⟩ => ⟨S2x2048, .f32⟩
  | .hbm, ⟨39, _⟩ => ⟨S2x2048x1, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S_, .f32⟩
  | .hbm, ⟨48, _⟩ => ⟨S2x2048, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S1x1024, .f32⟩
  | .hbm, ⟨55, _⟩ => ⟨S4096x1024, .f32⟩
  | .hbm, ⟨56, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KernelDH2.lean ====
abbrev S2x2048x1024 : Shape := ⟨3, ![2, 2048, 1024]⟩
abbrev S1x1024 : Shape := ⟨2, ![1, 1024]⟩
abbrev S1024x1024 : Shape := ⟨2, ![1024, 1024]⟩
abbrev S4096x1024 : Shape := ⟨2, ![4096, 1024]⟩
abbrev S1024 : Shape := ⟨1, ![1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | .hbm, ⟨6, _⟩ => ⟨S4096x1024, .bf16⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceDH2Ideal.lean ====
abbrev S2x2048x1024 : Shape := ⟨3, ![2, 2048, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024x1024, .f32⟩
  | .hbm, ⟨3, _⟩ => ⟨S2x2048x1024, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S1024, .f32⟩
  | .hbm, ⟨36, _⟩ => ⟨S2x2048x1024, .f32⟩
  | .hbm, ⟨37, _⟩ => ⟨S_, .f32⟩
  | .hbm, ⟨38, _⟩ => ⟨S2x2048, .f32⟩
  | .hbm, ⟨39, _⟩ => ⟨S2x2048x1, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S_, .f32⟩
  | .hbm, ⟨48, _⟩ => ⟨S2x2048, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S1x1024, .f32⟩
  | .hbm, ⟨55, _⟩ => ⟨S4096x1024, .f32⟩
  | .hbm, ⟨56, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KernelDH1.lean ====
abbrev S2x2048x1024 : Shape := ⟨3, ![2, 2048, 1024]⟩
abbrev S1x1024 : Shape := ⟨2, ![1, 1024]⟩
abbrev S1024x1536 : Shape := ⟨2, ![1024, 1536]⟩
abbrev S2x2048x1536 : Shape := ⟨3, ![2, 2048, 1536]⟩
abbrev S4096x1536 : Shape := ⟨2, ![4096, 1536]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024x1536, .f32⟩
  | .hbm, ⟨3, _⟩ => ⟨S2x2048x1024, .f32⟩
  | .hbm, ⟨4, _⟩ => ⟨S2x2048x1536, .f32⟩
  | .hbm, ⟨5, _⟩ => ⟨S4096x1536, .f32⟩
  | .hbm, ⟨6, _⟩ => ⟨S4096x1536, .bf16⟩
  | .hbm, ⟨7, _⟩ => ⟨S1024x1536, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDH1Ideal.lean ====
abbrev S2x2048x1024 : Shape := ⟨3, ![2, 2048, 1024]⟩
abbrev S1x1024 : Shape := ⟨2, ![1, 1024]⟩
abbrev S1024x1536 : Shape := ⟨2, ![1024, 1536]⟩
abbrev S2x2048x1536 : Shape := ⟨3, ![2, 2048, 1536]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024x1536, .f32⟩
  | .hbm, ⟨3, _⟩ => ⟨S2x2048x1024, .f32⟩
  | .hbm, ⟨4, _⟩ => ⟨S2x2048x1536, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x1536, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S1024, .f32⟩
  | .hbm, ⟨36, _⟩ => ⟨S2x2048x1024, .f32⟩
  | .hbm, ⟨37, _⟩ => ⟨S_, .f32⟩
  | .hbm, ⟨38, _⟩ => ⟨S2x2048, .f32⟩
  | .hbm, ⟨39, _⟩ => ⟨S2x2048x1, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S_, .f32⟩
  | .hbm, ⟨48, _⟩ => ⟨S2x2048, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S1x1024, .f32⟩
  | .hbm, ⟨55, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelLoss.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1024 : Shape := ⟨1, ![1024]⟩
abbrev S4096x2816 : Shape := ⟨2, ![4096, 2816]⟩
abbrev S4096x1024 : Shape := ⟨2, ![4096, 1024]⟩
abbrev S1x1024 : Shape := ⟨2, ![1, 1024]⟩
abbrev S1x1 : Shape := ⟨2, ![1, 1]⟩
abbrev S1024x2816 : Shape := ⟨2, ![1024, 2816]⟩
abbrev S1024x1024 : Shape := ⟨2, ![1024, 1024]⟩
abbrev S1024x1 : Shape := ⟨2, ![1024, 1]⟩
abbrev S1 : Shape := ⟨1, ![1]⟩

abbrev nBuf : Space → Nat
  | .hbm => 15
  | .vmem => 14
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S4096x2816, .f32⟩
  | .hbm, ⟨6, _⟩ => ⟨S4096x2816, .bf16⟩
  | .hbm, ⟨7, _⟩ => ⟨S2816x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceLossIdeal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2x2048, .f32⟩
  | .hbm, ⟨45, _⟩ => ⟨S_, .f32⟩
  | .hbm, ⟨46, _⟩ => ⟨S2x2048, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S4096x1024, .f32⟩
  | .hbm, ⟨76, _⟩ => ⟨S4096x1024, .bf16⟩
  | .hbm, ⟨77, _⟩ => ⟨S1x1024, .f32⟩
  | .hbm, ⟨78, _⟩ => ⟨S1x1, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== KernelAttn.lean ====
abbrev S2x2048x1024 : Shape := ⟨3, ![2, 2048, 1024]⟩
abbrev S2x256x2048 : Shape := ⟨3, ![2, 256, 2048]⟩
abbrev S4096x1024 : Shape := ⟨2, ![4096, 1024]⟩
abbrev S512x2048 : Shape := ⟨2, ![512, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x256x2048, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S512x2048, .f32⟩
  | .hbm, ⟨6, _⟩ => ⟨S512x2048, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S512x2048, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v187 : BitVec 1 := Scalar.cmpi .eq arg1 c1_i32
  let v188 : BitVec 32 := Scalar.extui v187
  let c0_i32_104 : BitVec 32 := 0#32
  let v189 : BitVec 1 := Scalar.cmpi .ne v188 c0_i32_104
  v189

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceAttnIdeal.lean ====
abbrev S2x2048x1024 : Shape := ⟨3, ![2, 2048, 1024]⟩
abbrev S2x256x2048 : Shape := ⟨3, ![2, 256, 2048]⟩
abbrev S2x2048x4x256 : Shape := ⟨4, ![2, 2048, 4, 256]⟩
abbrev S2x256x1024 : Shape := ⟨3, ![2, 256, 1024]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S4096x1024 : Shape := ⟨2, ![4096, 1024]⟩
abbrev S512x2048 : Shape := ⟨2, ![512, 2048]⟩

abbrev nBuf : Space → Nat
  | .hbm => 87
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x2048, .f32⟩
  | .hbm, ⟨2, _⟩ => ⟨S2x2048x1024, .f32⟩
  | .hbm, ⟨3, _⟩ => ⟨S2x2048x4x256, .f32⟩
  | .hbm, ⟨4, _⟩ => ⟨S2x256x1024, .f32⟩
  | .hbm, ⟨5, _⟩ => ⟨S2x256x1024, .f32⟩
  | .hbm, ⟨6, _⟩ => ⟨S2x256x4x256, .f32⟩
  | .hbm, ⟨7, _⟩ => ⟨S2x256x4x256, .f32⟩
  | .hbm, ⟨8, _⟩ => ⟨S2x4x2048x256, .f32⟩
  | .hbm, ⟨9, _⟩ => ⟨S_, .f32⟩
  | .hbm, ⟨10, _⟩ => ⟨S2x4x2048x256, .f32⟩
  | .hbm, ⟨11, _⟩ => ⟨S2x4x2048x256, .f32⟩
  | .hbm, ⟨12, _⟩ => ⟨S_, .f32⟩
  | .hbm, ⟨13, _⟩ => ⟨S2x4x2048, .f32⟩
  | .hbm, ⟨14, _⟩ => ⟨S2x4x2048x1, .f32⟩
  | .hbm, ⟨15, _⟩ => ⟨S2x4x2048x256, .f32⟩
  | .hbm, ⟨16, _⟩ => ⟨S2x4x2048x256, .i1⟩
  | .hbm, ⟨17, _⟩ => ⟨S2x4x2048x256, .f32⟩
  | .hbm, ⟨18, _⟩ => ⟨S_, .f32⟩
  | .hbm, ⟨19, _⟩ => ⟨S2x4x2048, .f32⟩
  | .hbm, ⟨20, _⟩ => ⟨S_, .f32⟩
  | .hbm, ⟨21, _⟩ => ⟨S2x4x2048, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .i1⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S2x4x2048, .f32⟩
  | .hbm, ⟨36, _⟩ => ⟨S2x4x2048, .f32⟩
  | .hbm, ⟨37, _⟩ => ⟨S2x4x2048x1, .f32⟩
  | .hbm, ⟨38, _⟩ => ⟨S2x4x2048x256, .f32⟩
  | .hbm, ⟨39, _⟩ => ⟨S2x4x2048x256, .f32⟩
  | .hbm, ⟨40, _⟩ => ⟨S2x4x2048x256, .f32⟩
  | .hbm, ⟨41, _⟩ => ⟨S_, .f32⟩
  | .hbm, ⟨42, _⟩ => ⟨S2x4x2048, .f32⟩
  | .hbm, ⟨43, _⟩ => ⟨S2x4x2048x1, .f32⟩
  | .hbm, ⟨44, _⟩ => ⟨S2x4x2048x256, .f32⟩
  | .hbm, ⟨45, _⟩ => ⟨S2x4x2048x256, .f32⟩
  | .hbm, ⟨46, _⟩ => ⟨S2x4x2048x1, .f32⟩
  | .hbm, ⟨47, _⟩ => ⟨S_, .f32⟩
  | .hbm, ⟨48, _⟩ => ⟨S2x4x2048x1, .f32⟩
  | .hbm, ⟨49, _⟩ => ⟨S2x4x2048x1, .f32⟩
  | .hbm, ⟨50, _⟩ => ⟨S2x4x256x2048, .f32⟩
  | .hbm, ⟨51, _⟩ => ⟨S2x2048x4x256, .f32⟩
  | .hbm, ⟨52, _⟩ => ⟨S2x2048x1024, .f32⟩
  | .hbm, ⟨53, _⟩ => ⟨S2x2048x4x256, .f32⟩
  | .hbm, ⟨54, _⟩ => ⟨S2x4x256x2048, .f32⟩
  | .hbm, ⟨55, _⟩ => ⟨S2x4x2048x256, .f32⟩
  | .hbm, ⟨56, _⟩ => ⟨S2x4x256x256, .f32⟩
  | .hbm, ⟨57, _⟩ => ⟨S2x256x4x256, .f32⟩
  | .hbm, ⟨58, _⟩ => ⟨S2x4x2048x256, .f32⟩
  | .hbm, ⟨59, _⟩ => ⟨S2x4x2048x256, .f32⟩
  | .hbm, ⟨60, _⟩ => ⟨S2x4x2048x256, .f32⟩
  | .hbm, ⟨61, _⟩ => ⟨S_, .f32⟩
  | .hbm, ⟨62, _⟩ => ⟨S2x4x2048, .f32⟩
  | .hbm, ⟨63, _⟩ => ⟨S2x4x2048x1, .f32⟩
  | .hbm, ⟨64, _⟩ => ⟨S2x4x2048x1, .f32⟩
  | .hbm, ⟨65, _⟩ => ⟨S2x4x2048x256, .f32⟩
  | .hbm, ⟨66, _⟩ => ⟨S2x4x2048x256, .f32⟩
  | .hbm, ⟨67, _⟩ => ⟨S_, .f32⟩
  | .hbm, ⟨68, _⟩ => ⟨S2x4x2048, .f32⟩
  | .hbm, ⟨69, _⟩ => ⟨S2x4x2048x256, .f32⟩
  | .hbm, ⟨70, _⟩ => ⟨S2x4x2048x256, .f32⟩
  | .hbm, ⟨71, _⟩ => ⟨S2x4x2048x256, .f32⟩
  | .hbm, ⟨72, _⟩ => ⟨S_, .f32⟩
  | .hbm, ⟨73, _⟩ => ⟨S2x4x2048x256, .f32⟩
  | .hbm, ⟨74, _⟩ => ⟨S2x4x2048x256, .f32⟩
  | .hbm, ⟨75, _⟩ => ⟨S2x4x256x256, .f32⟩
  | .hbm, ⟨76, _⟩ => ⟨S2x256x4x256, .f32⟩
  | .hbm, ⟨77, _⟩ => ⟨S2x4x2048x256, .f32⟩
  | .hbm, ⟨78, _⟩ => ⟨S2x2048x4x256, .f32⟩
  | .hbm, ⟨79, _⟩ => ⟨S2x256x1024, .f32⟩
  | .hbm, ⟨80, _⟩ => ⟨S2x256x1024, .f32⟩
  | .hbm, ⟨81, _⟩ => ⟨S2x256x2048, .f32⟩
  | .hbm, ⟨82, _⟩ => ⟨S2x2048x1024, .f32⟩
  | .hbm, ⟨83, _⟩ => ⟨S4096x1024, .f32⟩
  | .hbm, ⟨84, _⟩ => ⟨S4096x1024, .bf16⟩
  | .hbm, ⟨85, _⟩ => ⟨S512x2048, .f32⟩
  | .hbm, ⟨86, _⟩ => ⟨S512x2048, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== KernelAttnF.lean ====
abbrev S2x2048x1024 : Shape := ⟨3, ![2, 2048, 1024]⟩
abbrev S2x256x2048 : Shape := ⟨3, ![2, 256, 2048]⟩
abbrev S4096x1024 : Shape := ⟨2, ![4096, 1024]⟩
abbrev S512x2048 : Shape := ⟨2, ![512, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x256x2048, .f32⟩
  | .hbm, ⟨2, _⟩ => ⟨S4096x1024, .f32⟩
  | .hbm, ⟨3, _⟩ => ⟨S4096x1024, .bf16⟩
  | .hbm, ⟨4, _⟩ => ⟨S512x2048, .f32⟩
  | .hbm, ⟨5, _⟩ => ⟨S512x2048, .bf16⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAttnFIdeal.lean ====
abbrev S2x2048x1024 : Shape := ⟨3, ![2, 2048, 1024]⟩
abbrev S2x256x2048 : Shape := ⟨3, ![2, 256, 2048]⟩
abbrev S2x2048x4x256 : Shape := ⟨4, ![2, 2048, 4, 256]⟩
abbrev S2x256x1024 : Shape := ⟨3, ![2, 256, 1024]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S4096x1024 : Shape := ⟨2, ![4096, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x2048, .f32⟩
  | .hbm, ⟨2, _⟩ => ⟨S2x2048x4x256, .f32⟩
  | .hbm, ⟨3, _⟩ => ⟨S2x256x1024, .f32⟩
  | .hbm, ⟨4, _⟩ => ⟨S2x256x1024, .f32⟩
  | .hbm, ⟨5, _⟩ => ⟨S2x256x4x256, .f32⟩
  | .hbm, ⟨6, _⟩ => ⟨S2x256x4x256, .f32⟩
  | .hbm, ⟨7, _⟩ => ⟨S2x4x2048x256, .f32⟩
  | .hbm, ⟨8, _⟩ => ⟨S_, .f32⟩
  | .hbm, ⟨9, _⟩ => ⟨S2x4x2048x256, .f32⟩
  | .hbm, ⟨10, _⟩ => ⟨S2x4x2048x256, .f32⟩
  | .hbm, ⟨11, _⟩ => ⟨S_, .f32⟩
  | .hbm, ⟨12, _⟩ => ⟨S2x4x2048, .f32⟩
  | .hbm, ⟨13, _⟩ => ⟨S_, .f32⟩
  | .hbm, ⟨14, _⟩ => ⟨S2x4x2048, .f32⟩
  | .hbm, ⟨15, _⟩ => ⟨S2x4x2048, .f32⟩
  | .hbm, ⟨16, _⟩ => ⟨S2x4x2048x1, .f32⟩
  | .hbm, ⟨17, _⟩ => ⟨S2x4x2048x256, .f32⟩
  | .hbm, ⟨18, _⟩ => ⟨S2x4x2048x256, .f32⟩
  | .hbm, ⟨19, _⟩ => ⟨S2x4x2048x256, .f32⟩
  | .hbm, ⟨20, _⟩ => ⟨S_, .f32⟩
  | .hbm, ⟨21, _⟩ => ⟨S2x4x2048, .f32⟩
  | .hbm, ⟨22, _⟩ => ⟨S2x4x2048x1, .f32⟩
  | .hbm, ⟨23, _⟩ => ⟨S2x4x2048x256, .f32⟩
  | .hbm, ⟨24, _⟩ => ⟨S2x4x2048x256, .f32⟩
  | .hbm, ⟨25, _⟩ => ⟨S2x4x256x2048, .f32⟩
  | .hbm, ⟨26, _⟩ => ⟨S2x2048x4x256, .f32⟩
  | .hbm, ⟨27, _⟩ => ⟨S2x2048x1024, .f32⟩
  | .hbm, ⟨28, _⟩ => ⟨S4096x1024, .f32⟩
  | .hbm, ⟨29, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== KernelRmsF.lean ====
abbrev S2x2048x1024 : Shape := ⟨3, ![2, 2048, 1024]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsFIdeal.lean ====
abbrev S2x2048x1024 : Shape := ⟨3, ![2, 2048, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | .hbm, ⟨20, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelProjNorm.lean ====
abbrev S2x2048x1024 : Shape := ⟨3, ![2, 2048, 1024]⟩
abbrev S1024x1024 : Shape := ⟨2, ![1024, 1024]⟩
abbrev S1x1024 : Shape := ⟨2, ![1, 1024]⟩
abbrev S4096x1024 : Shape := ⟨2, ![4096, 1024]⟩
abbrev S1024 : Shape := ⟨1, ![1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceProjNormIdeal.lean ====
abbrev S2x2048x1024 : Shape := ⟨3, ![2, 2048, 1024]⟩
abbrev S1024x1024 : Shape := ⟨2, ![1024, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1x1024, .f32⟩
  | .hbm, ⟨4, _⟩ => ⟨S2x2048x1024, .f32⟩
  | .hbm, ⟨5, _⟩ => ⟨S2x2048x1024, .f32⟩
  | .hbm, ⟨6, _⟩ => ⟨S4096x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S4096x1024, .f32⟩
  | .hbm, ⟨25, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelGateF.lean ====
abbrev S2x2048x5632 : Shape := ⟨3, ![2, 2048, 5632]⟩
abbrev S3x5632 : Shape := ⟨2, ![3, 5632]⟩
abbrev S5632 : Shape := ⟨1, ![5632]⟩
abbrev S2x2048x2816 : Shape := ⟨3, ![2, 2048, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩
abbrev S5x5632 : Shape := ⟨2, ![5, 5632]⟩
abbrev S8x5632 : Shape := ⟨2, ![8, 5632]⟩
abbrev S1x5632 : Shape := ⟨2, ![1, 5632]⟩
abbrev S2x2048x256 : Shape := ⟨3, ![2, 2048, 256]⟩
abbrev S2x16x256 : Shape := ⟨3, ![2, 16, 256]⟩
abbrev S8x256 : Shape := ⟨2, ![8, 256]⟩
abbrev S1x256 : Shape := ⟨2, ![1, 256]⟩
abbrev S2048x256 : Shape := ⟨2, ![2048, 256]⟩
abbrev S1x16x256 : Shape := ⟨3, ![1, 16, 256]⟩
abbrev S16x256 : Shape := ⟨2, ![16, 256]⟩
abbrev S1x64x256 : Shape := ⟨3, ![1, 64, 256]⟩
abbrev S64x256 : Shape := ⟨2, ![64, 256]⟩
abbrev S80x256 : Shape := ⟨2, ![80, 256]⟩
abbrev S72x256 : Shape := ⟨2, ![72, 256]⟩
abbrev S1x80x256 : Shape := ⟨3, ![1, 80, 256]⟩

abbrev nBuf : Space → Nat
  | .hbm => 17
  | .vmem => 16
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S5632, .f32⟩
  | .hbm, ⟨3, _⟩ => ⟨S2x2048x2816, .f32⟩
  | .hbm, ⟨4, _⟩ => ⟨S4096x2816, .f32⟩
  | .hbm, ⟨5, _⟩ => ⟨S2x2048x2816, .f32⟩
  | .hbm, ⟨6, _⟩ => ⟨S4096x2816, .f32⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | .hbm, ⟨11, _⟩ => ⟨S_, .f32⟩
  | .hbm, ⟨12, _⟩ => ⟨S5x5632, .f32⟩
  | .hbm, ⟨13, _⟩ => ⟨S8x5632, .f32⟩
  | .hbm, ⟨14, _⟩ => ⟨S1x5632, .f32⟩
  | .hbm, ⟨15, _⟩ => ⟨S4096x2816, .bf16⟩
  | .hbm, ⟨16, _⟩ => ⟨S2x4096x2816, .bf16⟩
  | .local _ .vmem, ⟨0, _⟩ => ⟨S2x2048x256, .bf16⟩
  | .local _ .vmem, ⟨1, _⟩ => ⟨S2x2048x256, .bf16⟩
  | .local _ .vmem, ⟨2, _⟩ => ⟨S2x16x256, .bf16⟩
  | .local _ .vmem, ⟨3, _⟩ => ⟨S2x16x256, .bf16⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2x2048x256, .bf16⟩
  | .local _ .vmem, ⟨15, _⟩ => ⟨S2x2048x256, .bf16⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 2], ![false, false]⟩

@[reducible] def k0_t1_loop : Scf.Loop 32 :=
  let c1_i32_40 : BitVec 32 := 1#32
  let c31_i32 : BitVec 32 := 31#32
  let v94 : BitVec 32 := Scalar.addi c1_i32_40 c31_i32
  let c1_i32_41 : BitVec 32 := 1#32
  ⟨c1_i32_40, v94, c1_i32_41⟩
def k0_mult1 (k0_t1 : Fin k0_t1_loop.trips) : BitVec 32 :=
  let c1_i32_40 : BitVec 32 := 1#32
  let c1_i32_41 : BitVec 32 := 1#32
  let arg10 : BitVec 32 := Scf.iv c1_i32_40 c1_i32_41 k0_t1
  let c64_i32 : BitVec 32 := 64#32
  let v95 : BitVec 32 := Scalar.muli arg10 c64_i32
  v95
def k0_off1 (k0_t1 : Fin k0_t1_loop.trips) : Fin 3 → Nat :=
  let c0_43 : Index := 0#32
  let c1_i32_40 : BitVec 32 := 1#32
  let c1_i32_41 : BitVec 32 := 1#32
  let arg10 : BitVec 32 := Scf.iv c1_i32_40 c1_i32_41 k0_t1
  let c64_i32 : BitVec 32 := 64#32
  let v95 : BitVec 32 := Scalar.muli arg10 c64_i32
  let v96 : BitVec 32 := v95
  let c16_i32 : BitVec 32 := 16#32
  let v97 : BitVec 32 := Scalar.subi v96 c16_i32
  let v98 : Index := Scalar.indexCast v97
  let c0_44 : Index := 0#32
  ![0, v98.toNat, 0]
def k0_off2 (k0_t1 : Fin k0_t1_loop.trips) : Fin 3 → Nat :=
  let c1_46 : Index := 1#32
  let c1_i32_40 : BitVec 32 := 1#32
  let c1_i32_41 : BitVec 32 := 1#32
  let arg10 : BitVec 32 := Scf.iv c1_i32_40 c1_i32_41 k0_t1
  let c64_i32 : BitVec 32 := 64#32
  let v95 : BitVec 32 := Scalar.muli arg10 c64_i32
  let v96 : BitVec 32 := v95
  let c16_i32_45 : BitVec 32 := 16#32
  let v101 : BitVec 32 := Scalar.subi v96 c16_i32_45
  let v102 : Index := Scalar.indexCast v101
  let c0_47 : Index := 0#32
  ![1, v102.toNat, 0]
def k0_off3 (k0_t1 : Fin k0_t1_loop.trips) : Fin 3 → Nat :=
  let c0_58 : Index := 0#32
  let c1_i32_40 : BitVec 32 := 1#32
  let c1_i32_41 : BitVec 32 := 1#32
  let arg10 : BitVec 32 := Scf.iv c1_i32_40 c1_i32_41 k0_t1
  let c64_i32 : BitVec 32 := 64#32
  let v95 : BitVec 32 := Scalar.muli arg10 c64_i32
  let v96 : BitVec 32 := v95
  let v131 : Index := Scalar.indexCast v96
  let c0_59 : Index := 0#32
  ![0, v131.toNat, 0]
def k0_off4 (k0_t1 : Fin k0_t1_loop.trips) : Fin 3 → Nat :=
  let c1_70 : Index := 1#32
  let c1_i32_40 : BitVec 32 := 1#32
  let c1_i32_41 : BitVec 32 := 1#32
  let arg10 : BitVec 32 := Scf.iv c1_i32_40 c1_i32_41 k0_t1
  let c64_i32 : BitVec 32 := 64#32
  let v95 : BitVec 32 := Scalar.muli arg10 c64_i32
  let v96 : BitVec 32 := v95
  let v161 : Index := Scalar.indexCast v96
  let c0_71 : Index := 0#32
  ![1, v161.toNat, 0]
def k0_off5 (k0_t1 : Fin k0_t1_loop.trips) : Fin 2 → Nat :=
  let c1_i32_40 : BitVec 32 := 1#32
  let c1_i32_41 : BitVec 32 := 1#32
  let arg10 : BitVec 32 := Scf.iv c1_i32_40 c1_i32_41 k0_t1
  let c64_i32 : BitVec 32 := 64#32
  let v95 : BitVec 32 := Scalar.muli arg10 c64_i32
  let v96 : BitVec 32 := v95
  let v175 : Index := Scalar.indexCast v96
  let c0_75 : Index := 0#32
  ![v175.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceGateFIdeal.lean ====
abbrev S2x2048x5632 : Shape := ⟨3, ![2, 2048, 5632]⟩
abbrev S3x5632 : Shape := ⟨2, ![3, 5632]⟩
abbrev S5632 : Shape := ⟨1, ![5632]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩
abbrev S4096x2816 : Shape := ⟨2, ![4096, 2816]⟩
abbrev S4096x2x2816 : Shape := ⟨3, ![4096, 2, 2816]⟩
abbrev S2x4096x2816 : Shape := ⟨3, ![2, 4096, 2816]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S2x2x5632, .f32⟩
  | .hbm, ⟨5, _⟩ => ⟨S2x2050x5632, .f32⟩
  | .hbm, ⟨6, _⟩ => ⟨S1x5632, .f32⟩
  | .hbm, ⟨7, _⟩ => ⟨S5632, .f32⟩
  | .hbm, ⟨8, _⟩ => ⟨S2x2048x5632, .f32⟩
  | .hbm, ⟨9, _⟩ => ⟨S1x1x5632, .f32⟩
  | .hbm, ⟨10, _⟩ => ⟨S2x2048x5632, .f32⟩
  | .hbm, ⟨11, _⟩ => ⟨S2x2048x5632, .f32⟩
  | .hbm, ⟨12, _⟩ => ⟨S1x5632, .f32⟩
  | .hbm, ⟨13, _⟩ => ⟨S5632, .f32⟩
  | .hbm, ⟨14, _⟩ => ⟨S2x2048x5632, .f32⟩
  | .hbm, ⟨15, _⟩ => ⟨S1x1x5632, .f32⟩
  | .hbm, ⟨16, _⟩ => ⟨S2x2048x5632, .f32⟩
  | .hbm, ⟨17, _⟩ => ⟨S2x2048x5632, .f32⟩
  | .hbm, ⟨18, _⟩ => ⟨S2x2048x5632, .f32⟩
  | .hbm, ⟨19, _⟩ => ⟨S1x5632, .f32⟩
  | .hbm, ⟨20, _⟩ => ⟨S5632, .f32⟩
  | .hbm, ⟨21, _⟩ => ⟨S2x2048x5632, .f32⟩
  | .hbm, ⟨22, _⟩ => ⟨S1x1x5632, .f32⟩
  | .hbm, ⟨23, _⟩ => ⟨S2x2048x5632, .f32⟩
  | .hbm, ⟨24, _⟩ => ⟨S2x2048x5632, .f32⟩
  | .hbm, ⟨25, _⟩ => ⟨S2x2048x5632, .f32⟩
  | .hbm, ⟨26, _⟩ => ⟨S1x1x5632, .f32⟩
  | .hbm, ⟨27, _⟩ => ⟨S2x2048x5632, .f32⟩
  | .hbm, ⟨28, _⟩ => ⟨S2x2048x5632, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S4096x2816, .f32⟩
  | .hbm, ⟨42, _⟩ => ⟨S4096x2816, .bf16⟩
  | .hbm, ⟨43, _⟩ => ⟨S4096x2x2816, .f32⟩
  | .hbm, ⟨44, _⟩ => ⟨S2x4096x2816, .f32⟩
  | .hbm, ⟨45, _⟩ => ⟨S2x4096x2816, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== KernelMixF.lean ====
abbrev S2x2048x1536 : Shape := ⟨3, ![2, 2048, 1536]⟩
abbrev S31x512 : Shape := ⟨2, ![31, 512]⟩
abbrev S1x512 : Shape := ⟨2, ![1, 512]⟩
abbrev S4x128x128 : Shape := ⟨3, ![4, 128, 128]⟩
abbrev S_ : Shape := ⟨0, ![]⟩
abbrev S32x512 : Shape := ⟨2, ![32, 512]⟩
abbrev S4096x1536 : Shape := ⟨2, ![4096, 1536]⟩
abbrev S4096x1024 : Shape := ⟨2, ![4096, 1024]⟩
abbrev S4096x512 : Shape := ⟨2, ![4096, 512]⟩
abbrev S512x1536 : Shape := ⟨2, ![512, 1536]⟩
abbrev S32x1536 : Shape := ⟨2, ![32, 1536]⟩
abbrev S512x1024 : Shape := ⟨2, ![512, 1024]⟩
abbrev S512x512 : Shape := ⟨2, ![512, 512]⟩
abbrev S544x512 : Shape := ⟨2, ![544, 512]⟩
abbrev S64x1536 : Shape := ⟨2, ![64, 1536]⟩
abbrev S64x512 : Shape := ⟨2, ![64, 512]⟩
abbrev S88x512 : Shape := ⟨2, ![88, 512]⟩
abbrev S96x512 : Shape := ⟨2, ![96, 512]⟩
abbrev S64 : Shape := ⟨1, ![64]⟩
abbrev S64x1 : Shape := ⟨2, ![64, 1]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 14
  | .vmem => 16
  | .smem => 0
  | _ => 0

abbrev bufTy : (tb : Table) → Fin (tcTables nBuf tb) → BufTy
  | .hbm, ⟨0, _⟩ => ⟨S2x2048x1536, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S4x128x128, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S32x512, .f32⟩
  | .hbm, ⟨10, _⟩ => ⟨S4096x1536, .f32⟩
  | .hbm, ⟨11, _⟩ => ⟨S4096x1536, .bf16⟩
  | .hbm, ⟨12, _⟩ => ⟨S4096x1024, .bf16⟩
  | .hbm, ⟨13, _⟩ => ⟨S4096x512, .f32⟩
  | .local _ .vmem, ⟨0, _⟩ => ⟨S512x1536, .bf16⟩
  | .local _ .vmem, ⟨1, _⟩ => ⟨S512x1536, .bf16⟩
  | .local _ .vmem, ⟨2, _⟩ => ⟨S32x1536, .bf16⟩
  | .local _ .vmem, ⟨3, _⟩ => ⟨S32x1536, .bf16⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S512x512, .f32⟩
  | .local _ .vmem, ⟨13, _⟩ => ⟨S512x512, .f32⟩
  | .local _ .vmem, ⟨14, _⟩ => ⟨S544x512, .f32⟩
  | .local _ .vmem, ⟨15, _⟩ => ⟨S544x512, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMixFIdeal.lean ====
abbrev S2x2048x1536 : Shape := ⟨3, ![2, 2048, 1536]⟩
abbrev S31x512 : Shape := ⟨2, ![31, 512]⟩
abbrev S1x512 : Shape := ⟨2, ![1, 512]⟩
abbrev S4x128x128 : Shape := ⟨3, ![4, 128, 128]⟩
abbrev S2x2048x1024 : Shape := ⟨3, ![2, 2048, 1024]⟩
abbrev S2x2048x512 : Shape := ⟨3, ![2, 2048, 512]⟩
abbrev S_ : Shape := ⟨0, ![]⟩
abbrev S512 : Shape := ⟨1, ![512]⟩
abbrev S2x30x512 : Shape := ⟨3, ![2, 30, 512]⟩
abbrev S2x2078x512 : Shape := ⟨3, ![2, 2078, 512]⟩
abbrev S1x1x512 : Shape := ⟨3, ![1, 1, 512]⟩
abbrev S2x2048 : Shape := ⟨2, ![2, 2048]⟩
abbrev S2x2048x1 : Shape := ⟨3, ![2, 2048, 1]⟩
abbrev S2x2048x128 : Shape := ⟨3, ![2, 2048, 128]⟩
abbrev S2x2x128 : Shape := ⟨3, ![2, 2, 128]⟩
abbrev S2x2050x128 : Shape := ⟨3, ![2, 2050, 128]⟩
abbrev S2048 : Shape := ⟨1, ![2048]⟩
abbrev S1x2048x1 : Shape := ⟨3, ![1, 2048, 1]⟩
abbrev S2x4x128 : Shape := ⟨3, ![2, 4, 128]⟩
abbrev S2x2052x128 : Shape := ⟨3, ![2, 2052, 128]⟩
abbrev S2x8x128 : Shape := ⟨3, ![2, 8, 128]⟩
abbrev S2x2056x128 : Shape := ⟨3, ![2, 2056, 128]⟩
abbrev S2x16x128 : Shape := ⟨3, ![2, 16, 128]⟩
abbrev S2x2064x128 : Shape := ⟨3, ![2, 2064, 128]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S4096x1024 : Shape := ⟨2, ![4096, 1024]⟩
abbrev S4096x512 : Shape := ⟨2, ![4096, 512]⟩

abbrev nBuf : Space → Nat
  | .hbm => 383
  | .vmem => 0
  | .smem => 0
  | _ => 0

abbrev hbmTy0_0 (i : Nat) : BufTy := match i % 128 with
  | 0 => ⟨S2x2048x1536, .f32⟩
  | 1 => ⟨S31x512, .f32⟩
  | 2 => ⟨S1x512, .f32⟩
  | 3 => ⟨S1x512, .f32⟩
  | 4 => ⟨S1x512, .f32⟩
  | 5 => ⟨S4x128x128, .f32⟩
  | 6 => ⟨S1x512, .f32⟩
  | 7 => ⟨S2x2048x1024, .f32⟩
  | 8 => ⟨S2x2048x512, .f32⟩
  | 9 => ⟨S2x2048x512, .f32⟩
  | 10 => ⟨S2x2048x512, .f32⟩
  | 11 => ⟨S2x2048x512, .f32⟩
  | 12 => ⟨S_, .f32⟩
  | 13 => ⟨S2x2048x512, .f32⟩
  | 14 => ⟨S2x2048x512, .f32⟩
  | 15 => ⟨S_, .f32⟩
  | 16 => ⟨S2x2048x512, .f32⟩
  | 17 => ⟨S2x2048x512, .f32⟩
  | 18 => ⟨S2x2048x512, .f32⟩
  | 19 => ⟨S512, .f32⟩
  | 20 => ⟨S_, .f32⟩
  | 21 => ⟨S2x30x512, .f32⟩
  | 22 => ⟨S2x2078x512, .f32⟩
  | 23 => ⟨S1x512, .f32⟩
  | 24 => ⟨S512, .f32⟩
  | 25 => ⟨S2x2048x512, .f32⟩
  | 26 => ⟨S1x1x512, .f32⟩
  | 27 => ⟨S2x2048x512, .f32⟩
  | 28 => ⟨S2x2048x512, .f32⟩
  | 29 => ⟨S1x512, .f32⟩
  | 30 => ⟨S512, .f32⟩
  | 31 => ⟨S2x2048x512, .f32⟩
  | 32 => ⟨S1x1x512, .f32⟩
  | 33 => ⟨S2x2048x512, .f32⟩
  | 34 => ⟨S2x2048x512, .f32⟩
  | 35 => ⟨S2x2048x512, .f32⟩
  | 36 => ⟨S1x512, .f32⟩
  | 37 => ⟨S512, .f32⟩
  | 38 => ⟨S2x2048x512, .f32⟩
  | 39 => ⟨S1x1x512, .f32⟩
  | 40 => ⟨S2x2048x512, .f32⟩
  | 41 => ⟨S2x2048x512, .f32⟩
  | 42 => ⟨S2x2048x512, .f32⟩
  | 43 => ⟨S1x512, .f32⟩
  | 44 => ⟨S512, .f32⟩
  | 45 => ⟨S2x2048x512, .f32⟩
  | 46 => ⟨S1x1x512, .f32⟩
  | 47 => ⟨S2x2048x512, .f32⟩
  | 48 => ⟨S2x2048x512, .f32⟩
  | 49 => ⟨S2x2048x512, .f32⟩
  | 50 => ⟨S1x512, .f32⟩
  | 51 => ⟨S512, .f32⟩
  | 52 => ⟨S2x2048x512, .f32⟩
  | 53 => ⟨S1x1x512, .f32⟩
  | 54 => ⟨S2x2048x512, .f32⟩
  | 55 => ⟨S2x2048x512, .f32⟩
  | 56 => ⟨S2x2048x512, .f32⟩
  | 57 => ⟨S1x512, .f32⟩
  | 58 => ⟨S512, .f32⟩
  | 59 => ⟨S2x2048x512, .f32⟩
  | 60 => ⟨S1x1x512, .f32⟩
  | 61 => ⟨S2x2048x512, .f32⟩
  | 62 => ⟨S2x2048x512, .f32⟩
  | 63 => ⟨S2x2048x512, .f32⟩
  | 64 => ⟨S1x512, .f32⟩
  | 65 => ⟨S512, .f32⟩
  | 66 => ⟨S2x2048x512, .f32⟩
  | 67 => ⟨S1x1x512, .f32⟩
  | 68 => ⟨S2x2048x512, .f32⟩
  | 69 => ⟨S2x2048x512, .f32⟩
  | 70 => ⟨S2x2048x512, .f32⟩
  | 71 => ⟨S1x512, .f32⟩
  | 72 => ⟨S512, .f32⟩
  | 73 => ⟨S2x2048x512, .f32⟩
  | 74 => ⟨S1x1x512, .f32⟩
  | 75 => ⟨S2x2048x512, .f32⟩
  | 76 => ⟨S2x2048x512, .f32⟩
  | 77 => ⟨S2x2048x512, .f32⟩
  | 78 => ⟨S1x512, .f32⟩
  | 79 => ⟨S512, .f32⟩
  | 80 => ⟨S2x2048x512, .f32⟩
  | 81 => ⟨S1x1x512, .f32⟩
  | 82 => ⟨S2x2048x512, .f32⟩
  | 83 => ⟨S2x2048x512, .f32⟩
  | 84 => ⟨S2x2048x512, .f32⟩
  | 85 => ⟨S1x512, .f32⟩
  | 86 => ⟨S512, .f32⟩
  | 87 => ⟨S2x2048x512, .f32⟩
  | 88 => ⟨S1x1x512, .f32⟩
  | 89 => ⟨S2x2048x512, .f32⟩
  | 90 => ⟨S2x2048x512, .f32⟩
  | 91 => ⟨S2x2048x512, .f32⟩
  | 92 => ⟨S1x512, .f32⟩
  | 93 => ⟨S512, .f32⟩
  | 94 => ⟨S2x2048x512, .f32⟩
  | 95 => ⟨S1x1x512, .f32⟩
  | 96 => ⟨S2x2048x512, .f32⟩
  | 97 => ⟨S2x2048x512, .f32⟩
  | 98 => ⟨S2x2048x512, .f32⟩
  | 99 => ⟨S1x512, .f32⟩
  | 100 => ⟨S512, .f32⟩
  | 101 => ⟨S2x2048x512, .f32⟩
  | 102 => ⟨S1x1x512, .f32⟩
  | 103 => ⟨S2x2048x512, .f32⟩
  | 104 => ⟨S2x2048x512, .f32⟩
  | 105 => ⟨S2x2048x512, .f32⟩
  | 106 => ⟨S1x512, .f32⟩
  | 107 => ⟨S512, .f32⟩
  | 108 => ⟨S2x2048x512, .f32⟩
  | 109 => ⟨S1x1x512, .f32⟩
  | 110 => ⟨S2x2048x512, .f32⟩
  | 111 => ⟨S2x2048x512, .f32⟩
  | 112 => ⟨S2x2048x512, .f32⟩
  | 113 => ⟨S1x512, .f32⟩
  | 114 => ⟨S512, .f32⟩
  | 115 => ⟨S2x2048x512, .f32⟩
  | 116 => ⟨S1x1x512, .f32⟩
  | 117 => ⟨S2x2048x512, .f32⟩
  | 118 => ⟨S2x2048x512, .f32⟩
  | 119 => ⟨S2x2048x512, .f32⟩
  | 120 => ⟨S1x512, .f32⟩
  | 121 => ⟨S512, .f32⟩
  | 122 => ⟨S2x2048x512, .f32⟩
  | 123 => ⟨S1x1x512, .f32⟩
  | 124 => ⟨S2x2048x512, .f32⟩
  | 125 => ⟨S2x2048x512, .f32⟩
  | 126 => ⟨S2x2048x512, .f32⟩
  | 127 => ⟨S1x512, .f32⟩
  | _ => ⟨S2x2048x1536, .f32⟩

abbrev hbmTy0_1 (i : Nat) : BufTy := match i % 128 with
  | 0 => ⟨S512, .f32⟩
  | 1 => ⟨S2x2048x512, .f32⟩
  | 2 => ⟨S1x1x512, .f32⟩
  | 3 => ⟨S2x2048x512, .f32⟩
  | 4 => ⟨S2x2048x512, .f32⟩
  | 5 => ⟨S2x2048x512, .f32⟩
  | 6 => ⟨S1x512, .f32⟩
  | 7 => ⟨S512, .f32⟩
  | 8 => ⟨S2x2048x512, .f32⟩
  | 9 => ⟨S1x1x512, .f32⟩
  | 10 => ⟨S2x2048x512, .f32⟩
  | 11 => ⟨S2x2048x512, .f32⟩
  | 12 => ⟨S2x2048x512, .f32⟩
  | 13 => ⟨S1x512, .f32⟩
  | 14 => ⟨S512, .f32⟩
  | 15 => ⟨S2x2048x512, .f32⟩
  | 16 => ⟨S1x1x512, .f32⟩
  | 17 => ⟨S2x2048x512, .f32⟩
  | 18 => ⟨S2x2048x512, .f32⟩
  | 19 => ⟨S2x2048x512, .f32⟩
  | 20 => ⟨S1x512, .f32⟩
  | 21 => ⟨S512, .f32⟩
  | 22 => ⟨S2x2048x512, .f32⟩
  | 23 => ⟨S1x1x512, .f32⟩
  | 24 => ⟨S2x2048x512, .f32⟩
  | 25 => ⟨S2x2048x512, .f32⟩
  | 26 => ⟨S2x2048x512, .f32⟩
  | 27 => ⟨S1x512, .f32⟩
  | 28 => ⟨S512, .f32⟩
  | 29 => ⟨S2x2048x512, .f32⟩
  | 30 => ⟨S1x1x512, .f32⟩
  | 31 => ⟨S2x2048x512, .f32⟩
  | 32 => ⟨S2x2048x512, .f32⟩
  | 33 => ⟨S2x2048x512, .f32⟩
  | 34 => ⟨S1x512, .f32⟩
  | 35 => ⟨S512, .f32⟩
  | 36 => ⟨S2x2048x512, .f32⟩
  | 37 => ⟨S1x1x512, .f32⟩
  | 38 => ⟨S2x2048x512, .f32⟩
  | 39 => ⟨S2x2048x512, .f32⟩
  | 40 => ⟨S2x2048x512, .f32⟩
  | 41 => ⟨S1x512, .f32⟩
  | 42 => ⟨S512, .f32⟩
  | 43 => ⟨S2x2048x512, .f32⟩
  | 44 => ⟨S1x1x512, .f32⟩
  | 45 => ⟨S2x2048x512, .f32⟩
  | 46 => ⟨S2x2048x512, .f32⟩
  | 47 => ⟨S2x2048x512, .f32⟩
  | 48 => ⟨S1x512, .f32⟩
  | 49 => ⟨S512, .f32⟩
  | 50 => ⟨S2x2048x512, .f32⟩
  | 51 => ⟨S1x1x512, .f32⟩
  | 52 => ⟨S2x2048x512, .f32⟩
  | 53 => ⟨S2x2048x512, .f32⟩
  | 54 => ⟨S2x2048x512, .f32⟩
  | 55 => ⟨S1x512, .f32⟩
  | 56 => ⟨S512, .f32⟩
  | 57 => ⟨S2x2048x512, .f32⟩
  | 58 => ⟨S1x1x512, .f32⟩
  | 59 => ⟨S2x2048x512, .f32⟩
  | 60 => ⟨S2x2048x512, .f32⟩
  | 61 => ⟨S2x2048x512, .f32⟩
  | 62 => ⟨S1x512, .f32⟩
  | 63 => ⟨S512, .f32⟩
  | 64 => ⟨S2x2048x512, .f32⟩
  | 65 => ⟨S1x1x512, .f32⟩
  | 66 => ⟨S2x2048x512, .f32⟩
  | 67 => ⟨S2x2048x512, .f32⟩
  | 68 => ⟨S2x2048x512, .f32⟩
  | 69 => ⟨S1x512, .f32⟩
  | 70 => ⟨S512, .f32⟩
  | 71 => ⟨S2x2048x512, .f32⟩
  | 72 => ⟨S1x1x512, .f32⟩
  | 73 => ⟨S2x2048x512, .f32⟩
  | 74 => ⟨S2x2048x512, .f32⟩
  | 75 => ⟨S2x2048x512, .f32⟩
  | 76 => ⟨S1x512, .f32⟩
  | 77 => ⟨S512, .f32⟩
  | 78 => ⟨S2x2048x512, .f32⟩
  | 79 => ⟨S1x1x512, .f32⟩
  | 80 => ⟨S2x2048x512, .f32⟩
  | 81 => ⟨S2x2048x512, .f32⟩
  | 82 => ⟨S2x2048x512, .f32⟩
  | 83 => ⟨S1x512, .f32⟩
  | 84 => ⟨S512, .f32⟩
  | 85 => ⟨S2x2048x512, .f32⟩
  | 86 => ⟨S1x1x512, .f32⟩
  | 87 => ⟨S2x2048x512, .f32⟩
  | 88 => ⟨S2x2048x512, .f32⟩
  | 89 => ⟨S2x2048x512, .f32⟩
  | 90 => ⟨S1x512, .f32⟩
  | 91 => ⟨S512, .f32⟩
  | 92 => ⟨S2x2048x512, .f32⟩
  | 93 => ⟨S1x1x512, .f32⟩
  | 94 => ⟨S2x2048x512, .f32⟩
  | 95 => ⟨S2x2048x512, .f32⟩
  | 96 => ⟨S2x2048x512, .f32⟩
  | 97 => ⟨S1x512, .f32⟩
  | 98 => ⟨S512, .f32⟩
  | 99 => ⟨S2x2048x512, .f32⟩
  | 100 => ⟨S1x1x512, .f32⟩
  | 101 => ⟨S2x2048x512, .f32⟩
  | 102 => ⟨S2x2048x512, .f32⟩
  | 103 => ⟨S2x2048x512, .f32⟩
  | 104 => ⟨S1x512, .f32⟩
  | 105 => ⟨S512, .f32⟩
  | 106 => ⟨S2x2048x512, .f32⟩
  | 107 => ⟨S1x1x512, .f32⟩
  | 108 => ⟨S2x2048x512, .f32⟩
  | 109 => ⟨S2x2048x512, .f32⟩
  | 110 => ⟨S2x2048x512, .f32⟩
  | 111 => ⟨S1x1x512, .f32⟩
  | 112 => ⟨S2x2048x512, .f32⟩
  | 113 => ⟨S2x2048x512, .f32⟩
  | 114 => ⟨S512, .f32⟩
  | 115 => ⟨S512, .f32⟩
  | 116 => ⟨S_, .f32⟩
  | 117 => ⟨S2x2048, .f32⟩
  | 118 => ⟨S2x2048x1, .f32⟩
  | 119 => ⟨S_, .f32⟩
  | 120 => ⟨S2x2048x1, .f32⟩
  | 121 => ⟨S2x2048x1, .f32⟩
  | 122 => ⟨S2x2048x512, .f32⟩
  | 123 => ⟨S2x2048x512, .f32⟩
  | 124 => ⟨S2x2048x512, .f32⟩
  | 125 => ⟨S_, .f32⟩
  | 126 => ⟨S2x2048, .f32⟩
  | 127 => ⟨S2x2048x1, .f32⟩
  | _ => ⟨S2x2048x1536, .f32⟩

abbrev hbmTy0_2 (i : Nat) : BufTy := match i % 128 with
  | 0 => ⟨S_, .f32⟩
  | 1 => ⟨S2x2048x1, .f32⟩
  | 2 => ⟨S2x2048x1, .f32⟩
  | 3 => ⟨S2x2048x512, .f32⟩
  | 4 => ⟨S2x2048x512, .f32⟩
  | 5 => ⟨S_, .f32⟩
  | 6 => ⟨S2x2048x1, .f32⟩
  | 7 => ⟨S2x2048x1, .f32⟩
  | 8 => ⟨S2x2048x1, .f32⟩
  | 9 => ⟨S2x2048x512, .f32⟩
  | 10 => ⟨S2x2048x512, .f32⟩
  | 11 => ⟨S1x1x512, .f32⟩
  | 12 => ⟨S2x2048x512, .f32⟩
  | 13 => ⟨S2x2048x512, .f32⟩
  | 14 => ⟨S1x1x512, .f32⟩
  | 15 => ⟨S2x2048x512, .f32⟩
  | 16 => ⟨S2x2048x512, .f32⟩
  | 17 => ⟨S2x2048x512, .f32⟩
  | 18 => ⟨S2x2048x512, .f32⟩
  | 19 => ⟨S_, .f32⟩
  | 20 => ⟨S2x2048x512, .f32⟩
  | 21 => ⟨S2x2048x512, .f32⟩
  | 22 => ⟨S_, .f32⟩
  | 23 => ⟨S2x2048x512, .f32⟩
  | 24 => ⟨S2x2048x512, .f32⟩
  | 25 => ⟨S2x2048x512, .f32⟩
  | 26 => ⟨S2x2048x512, .f32⟩
  | 27 => ⟨S512, .f32⟩
  | 28 => ⟨S2x2048x128, .f32⟩
  | 29 => ⟨S2x2048x128, .f32⟩
  | 30 => ⟨S2x2048x128, .f32⟩
  | 31 => ⟨S2x2048x128, .f32⟩
  | 32 => ⟨S_, .f32⟩
  | 33 => ⟨S_, .f32⟩
  | 34 => ⟨S2x2048x128, .f32⟩
  | 35 => ⟨S2x2x128, .f32⟩
  | 36 => ⟨S_, .f32⟩
  | 37 => ⟨S2x2x128, .f32⟩
  | 38 => ⟨S2x2050x128, .f32⟩
  | 39 => ⟨S2x2048x128, .f32⟩
  | 40 => ⟨S2048, .f32⟩
  | 41 => ⟨S_, .f32⟩
  | 42 => ⟨S2048, .f32⟩
  | 43 => ⟨S2048, .f32⟩
  | 44 => ⟨S_, .f32⟩
  | 45 => ⟨S2048, .f32⟩
  | 46 => ⟨S2048, .f32⟩
  | 47 => ⟨S2x2048x128, .f32⟩
  | 48 => ⟨S1x2048x1, .f32⟩
  | 49 => ⟨S2x2048x128, .f32⟩
  | 50 => ⟨S2x2048x128, .f32⟩
  | 51 => ⟨S2x2048x128, .f32⟩
  | 52 => ⟨S_, .f32⟩
  | 53 => ⟨S_, .f32⟩
  | 54 => ⟨S2x2048x128, .f32⟩
  | 55 => ⟨S2x4x128, .f32⟩
  | 56 => ⟨S_, .f32⟩
  | 57 => ⟨S2x4x128, .f32⟩
  | 58 => ⟨S2x2052x128, .f32⟩
  | 59 => ⟨S2x2048x128, .f32⟩
  | 60 => ⟨S2048, .f32⟩
  | 61 => ⟨S_, .f32⟩
  | 62 => ⟨S2048, .f32⟩
  | 63 => ⟨S2048, .f32⟩
  | 64 => ⟨S_, .f32⟩
  | 65 => ⟨S2048, .f32⟩
  | 66 => ⟨S2048, .f32⟩
  | 67 => ⟨S2x2048x128, .f32⟩
  | 68 => ⟨S1x2048x1, .f32⟩
  | 69 => ⟨S2x2048x128, .f32⟩
  | 70 => ⟨S2x2048x128, .f32⟩
  | 71 => ⟨S2x2048x128, .f32⟩
  | 72 => ⟨S_, .f32⟩
  | 73 => ⟨S_, .f32⟩
  | 74 => ⟨S2x2048x128, .f32⟩
  | 75 => ⟨S2x8x128, .f32⟩
  | 76 => ⟨S_, .f32⟩
  | 77 => ⟨S2x8x128, .f32⟩
  | 78 => ⟨S2x2056x128, .f32⟩
  | 79 => ⟨S2x2048x128, .f32⟩
  | 80 => ⟨S2048, .f32⟩
  | 81 => ⟨S_, .f32⟩
  | 82 => ⟨S2048, .f32⟩
  | 83 => ⟨S2048, .f32⟩
  | 84 => ⟨S_, .f32⟩
  | 85 => ⟨S2048, .f32⟩
  | 86 => ⟨S2048, .f32⟩
  | 87 => ⟨S2x2048x128, .f32⟩
  | 88 => ⟨S1x2048x1, .f32⟩
  | 89 => ⟨S2x2048x128, .f32⟩
  | 90 => ⟨S2x2048x128, .f32⟩
  | 91 => ⟨S2x2048x128, .f32⟩
  | 92 => ⟨S_, .f32⟩
  | 93 => ⟨S_, .f32⟩
  | 94 => ⟨S2x2048x128, .f32⟩
  | 95 => ⟨S2x16x128, .f32⟩
  | 96 => ⟨S_, .f32⟩
  | 97 => ⟨S2x16x128, .f32⟩
  | 98 => ⟨S2x2064x128, .f32⟩
  | 99 => ⟨S2x2048x128, .f32⟩
  | 100 => ⟨S2048, .f32⟩
  | 101 => ⟨S_, .f32⟩
  | 102 => ⟨S2048, .f32⟩
  | 103 => ⟨S2048, .f32⟩
  | 104 => ⟨S_, .f32⟩
  | 105 => ⟨S2048, .f32⟩
  | 106 => ⟨S2048, .f32⟩
  | 107 => ⟨S2x2048x128, .f32⟩
  | 108 => ⟨S1x2048x1, .f32⟩
  | 109 => ⟨S2x2048x128, .f32⟩
  | 110 => ⟨S2x2048x128, .f32⟩
  | 111 => ⟨S2x2048x128, .f32⟩
  | 112 => ⟨S2x2048x1x128, .f32⟩
  | 113 => ⟨S2x2048x1x128, .f32⟩
  | 114 => ⟨S2x2048x1x128, .f32⟩
  | 115 => ⟨S2x2048x1x128, .f32⟩
  | 116 => ⟨S2x2048x4x128, .f32⟩
  | 117 => ⟨S4x128x2x2048, .f32⟩
  | 118 => ⟨S2x2048x4x128, .f32⟩
  | 119 => ⟨S2x2048x512, .f32⟩
  | 120 => ⟨S1x1x512, .f32⟩
  | 121 => ⟨S2x2048x512, .f32⟩
  | 122 => ⟨S2x2048x512, .f32⟩
  | 123 => ⟨S2x2048x1024, .f32⟩
  | 124 => ⟨S4096x1024, .f32⟩
  | 125 => ⟨S4096x1024, .bf16⟩
  | 126 => ⟨S4096x512, .f32⟩
  | _ => ⟨S2x2048x1536, .f32⟩

abbrev hbmTy (i : Nat) : BufTy := match i / 128 with
  | 0 => hbmTy0_0 i
  | 1 => hbmTy0_1 i
  | 2 => hbmTy0_2 i
  | _ => ⟨S2x2048x1536, .f32⟩

abbrev bufTy : (tb : Table) → Fin (tcTables nBuf tb) → BufTy
  | .hbm, ⟨i, _⟩ => hbmTy i
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_2 : Ref sig .tc := ⟨.hbm, 244, rfl⟩
abbrev main_v234 : Ref sig .tc := ⟨.hbm, 245, rfl⟩
abbrev main_v235 : Ref sig .tc := ⟨.hbm, 246, rfl⟩
abbrev main_cst_3 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_cst_6 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_call0_v0 : Ref sig .tc := ⟨.hbm, 273, rfl⟩
abbrev main_call0_v1 : Ref sig .tc := ⟨.hbm, 274, rfl⟩
abbrev main_call0_cst : Ref sig .tc := ⟨.hbm, 275, rfl⟩
abbrev main_call0_v2 : Ref sig .tc := ⟨.hbm, 276, rfl⟩
abbrev main_call0_v3 : Ref sig .tc := ⟨.hbm, 277, rfl⟩
abbrev main_call0_cst_0 : Ref sig .tc := ⟨.hbm, 278, rfl⟩
abbrev main_call0_v4 : Ref sig .tc := ⟨.hbm, 279, rfl⟩
abbrev main_call0_v5 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_call1_call0_cst : Ref sig .tc := ⟨.hbm, 288, rfl⟩
abbrev main_call1_call0_v0 : Ref sig .tc := ⟨.hbm, 289, rfl⟩
abbrev main_v265 : Ref sig .tc := ⟨.hbm, 290, rfl⟩
abbrev main_v266 : Ref sig .tc := ⟨.hbm, 291, rfl⟩
abbrev main_cst_7 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_cst_8 : Ref sig .tc := ⟨.hbm, 297, rfl⟩
abbrev main_v271 : Ref sig .tc := ⟨.hbm, 298, rfl⟩
abbrev main_v272 : Ref sig .tc := ⟨.hbm, 299, rfl⟩
abbrev main_cst_9 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_call2_call0_cst : Ref sig .tc := ⟨.hbm, 308, rfl⟩
abbrev main_call2_call0_v0 : Ref sig .tc := ⟨.hbm, 309, rfl⟩
abbrev main_v280 : Ref sig .tc := ⟨.hbm, 310, rfl⟩
abbrev main_v281 : Ref sig .tc := ⟨.hbm, 311, rfl⟩
abbrev main_cst_10 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_cst_11 : Ref sig .tc := ⟨.hbm, 317, rfl⟩
abbrev main_v286 : Ref sig .tc := ⟨.hbm, 318, rfl⟩
abbrev main_v287 : Ref sig .tc := ⟨.hbm, 319, rfl⟩
abbrev main_cst_12 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_call3_call0_cst : Ref sig .tc := ⟨.hbm, 328, rfl⟩
abbrev main_call3_call0_v0 : Ref sig .tc := ⟨.hbm, 329, rfl⟩
abbrev main_v295 : Ref sig .tc := ⟨.hbm, 330, rfl⟩
abbrev main_v296 : Ref sig .tc := ⟨.hbm, 331, rfl⟩
abbrev main_cst_13 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_cst_14 : Ref sig .tc := ⟨.hbm, 337, rfl⟩
abbrev main_v301 : Ref sig .tc := ⟨.hbm, 338, rfl⟩
abbrev main_v302 : Ref sig .tc := ⟨.hbm, 339, rfl⟩
abbrev main_cst_15 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_call4_call0_cst : Ref sig .tc := ⟨.hbm, 348, rfl⟩
abbrev main_call4_call0_v0 : Ref sig .tc := ⟨.hbm, 349, rfl⟩
abbrev main_v310 : Ref sig .tc := ⟨.hbm, 350, rfl⟩
abbrev main_v311 : Ref sig .tc := ⟨.hbm, 351, rfl⟩
abbrev main_cst_16 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_cst_17 : Ref sig .tc := ⟨.hbm, 357, rfl⟩
abbrev main_v316 : Ref sig .tc := ⟨.hbm, 358, rfl⟩
abbrev main_v317 : Ref sig .tc := ⟨.hbm, 359, rfl⟩
abbrev main_cst_18 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_v327 : Ref sig .tc := ⟨.hbm, 370, rfl⟩
abbrev main_v328 : Ref sig .tc := ⟨.hbm, 371, rfl⟩
abbrev main_v329 : Ref sig .tc := ⟨.hbm, 372, rfl⟩
abbrev main_v330 : Ref sig .tc := ⟨.hbm, 373, rfl⟩
abbrev main_v331 : Ref sig .tc := ⟨.hbm, 374, rfl⟩
abbrev main_v332 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_v339 : Ref sig .tc := ⟨.hbm, 382, rfl⟩

abbrev nD : Nat := 1
abbrev τ : Topo := Topo.v7x

variable {F : FTy → Type} [FloatOps F]
-- ==== KernelUp.lean ====
abbrev S2x2048x1024 : Shape := ⟨3, ![2, 2048, 1024]⟩
abbrev S1024x5632 : Shape := ⟨2, ![1024, 5632]⟩
abbrev S4096x1024 : Shape := ⟨2, ![4096, 1024]⟩
abbrev S2x4096x2816 : Shape := ⟨3, ![2, 4096, 2816]⟩
abbrev S1024x1024 : Shape := ⟨2, ![1024, 1024]⟩
abbrev S1024x2816 : Shape := ⟨2, ![1024, 2816]⟩
abbrev S1x1024x2816 : Shape := ⟨3, ![1, 1024, 2816]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S4096x1024, .f32⟩
  | .hbm, ⟨3, _⟩ => ⟨S4096x1024, .bf16⟩
  | .hbm, ⟨4, _⟩ => ⟨S1024x5632, .bf16⟩
  | .hbm, ⟨5, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1x1024x2816, .bf16⟩
  | .local _ .vmem, ⟨5, _⟩ => ⟨S1x1024x2816, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S2x2048x1024 : Shape := ⟨3, ![2, 2048, 1024]⟩
abbrev S1024x5632 : Shape := ⟨2, ![1024, 5632]⟩
abbrev S2x2048x5632 : Shape := ⟨3, ![2, 2048, 5632]⟩
abbrev S4096x2x2816 : Shape := ⟨3, ![4096, 2, 2816]⟩
abbrev S2x4096x2816 : Shape := ⟨3, ![2, 4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x5632, .f32⟩
  | .hbm, ⟨3, _⟩ => ⟨S4096x2x2816, .f32⟩
  | .hbm, ⟨4, _⟩ => ⟨S2x4096x2816, .f32⟩
  | .hbm, ⟨5, _⟩ => ⟨S2x4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDAct.lean ====
abbrev S2816x1024 : Shape := ⟨2, ![2816, 1024]⟩
abbrev S2x2048x1024 : Shape := ⟨3, ![2, 2048, 1024]⟩
abbrev S4096x1024 : Shape := ⟨2, ![4096, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 6
  | .vmem => 5
  | .smem => 0
  | _ => 0

abbrev bufTy : (tb : Table) → Fin (tcTables nBuf tb) → BufTy
  | .hbm, ⟨0, _⟩ => ⟨S2816x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S2816x1024, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDActIdeal.lean ====
abbrev S2816x1024 : Shape := ⟨2, ![2816, 1024]⟩
abbrev S2x2048x1024 : Shape := ⟨3, ![2, 2048, 1024]⟩
abbrev S_ : Shape := ⟨0, ![]⟩
abbrev S2x2048x2816 : Shape := ⟨3, ![2, 2048, 2816]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2x2048x1024, .f32⟩
  | .hbm, ⟨2, _⟩ => ⟨S_, .f32⟩
  | .hbm, ⟨3, _⟩ => ⟨S2x2048x2816, .f32⟩
  | .hbm, ⟨4, _⟩ => ⟨S2x2048x1024, .f32⟩
  | .hbm, ⟨5, _⟩ => ⟨S2x2048x2816, .f32⟩
  | .hbm, ⟨6, _⟩ => ⟨S4096x2816, .f32⟩
  | .hbm, ⟨7, _⟩ => ⟨S4096x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwDown.lean ====
abbrev S2x2048x2816 : Shape := ⟨3, ![2, 2048, 2816]⟩
abbrev S2x2048x1024 : Shape := ⟨3, ![2, 2048, 1024]⟩
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S4096x2816, .f32⟩
  | .hbm, ⟨3, _⟩ => ⟨S4096x2816, .bf16⟩
  | .hbm, ⟨4, _⟩ => ⟨S4096x1024, .f32⟩
  | .hbm, ⟨5, _⟩ => ⟨S4096x1024, .bf16⟩
  | .hbm, ⟨6, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwDownIdeal.lean ====
abbrev S2x2048x2816 : Shape := ⟨3, ![2, 2048, 2816]⟩
abbrev S2x2048x1024 : Shape := ⟨3, ![2, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S_, .f32⟩
  | .hbm, ⟨3, _⟩ => ⟨S2816x1024, .f32⟩
  | .hbm, ⟨4, _⟩ => ⟨S2x2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwUp.lean ====
abbrev S2x2048x1024 : Shape := ⟨3, ![2, 2048, 1024]⟩
abbrev S2x2048x5632 : Shape := ⟨3, ![2, 2048, 5632]⟩
abbrev S2x2048x2816 : Shape := ⟨3, ![2, 2048, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4096x1024 : Shape := ⟨2, ![4096, 1024]⟩
abbrev S8x512x1408 : Shape := ⟨3, ![8, 512, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 13
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S2x2048x2816, .f32⟩
  | .hbm, ⟨3, _⟩ => ⟨S4096x2816, .f32⟩
  | .hbm, ⟨4, _⟩ => ⟨S2x2048x2816, .f32⟩
  | .hbm, ⟨5, _⟩ => ⟨S4096x2816, .f32⟩
  | .hbm, ⟨6, _⟩ => ⟨S1x4096x2816, .f32⟩
  | .hbm, ⟨7, _⟩ => ⟨S1x4096x2816, .f32⟩
  | .hbm, ⟨8, _⟩ => ⟨S2x4096x2816, .f32⟩
  | .hbm, ⟨9, _⟩ => ⟨S2x4096x2816, .bf16⟩
  | .hbm, ⟨10, _⟩ => ⟨S4096x1024, .f32⟩
  | .hbm, ⟨11, _⟩ => ⟨S4096x1024, .bf16⟩
  | .hbm, ⟨12, _⟩ => ⟨S8x512x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwUpIdeal.lean ====
abbrev S2x2048x1024 : Shape := ⟨3, ![2, 2048, 1024]⟩
abbrev S2x2048x5632 : Shape := ⟨3, ![2, 2048, 5632]⟩
abbrev S_ : Shape := ⟨0, ![]⟩
abbrev S1024x5632 : Shape := ⟨2, ![1024, 5632]⟩
abbrev S5632x1024 : Shape := ⟨2, ![5632, 1024]⟩
abbrev S2x512x4x1408 : Shape := ⟨4, ![2, 512, 4, 1408]⟩
abbrev S4x2x512x1408 : Shape := ⟨4, ![4, 2, 512, 1408]⟩
abbrev S8x512x1408 : Shape := ⟨3, ![8, 512, 1408]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S_, .f32⟩
  | .hbm, ⟨3, _⟩ => ⟨S1024x5632, .f32⟩
  | .hbm, ⟨4, _⟩ => ⟨S2x2048x5632, .f32⟩
  | .hbm, ⟨5, _⟩ => ⟨S5632x1024, .f32⟩
  | .hbm, ⟨6, _⟩ => ⟨S1024x5632, .f32⟩
  | .hbm, ⟨7, _⟩ => ⟨S2x512x4x1408, .f32⟩
  | .hbm, ⟨8, _⟩ => ⟨S4x2x512x1408, .f32⟩
  | .hbm, ⟨9, _⟩ => ⟨S8x512x1408, .f32⟩
  | .hbm, ⟨10, _⟩ => ⟨S8x512x1408, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelAdamW.lean ====
abbrev S1x1024x1408 : Shape := ⟨3, ![1, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S128x1408, .f32⟩
  | .local _ .vmem, ⟨3, _⟩ => ⟨S128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamWIdeal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S_, .f32⟩
  | .hbm, ⟨6, _⟩ => ⟨S1x1024x1408, .f32⟩
  | .hbm, ⟨7, _⟩ => ⟨S1x1024x1408, .f32⟩
  | .hbm, ⟨8, _⟩ => ⟨S_, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .hbm, ⟨12, _⟩ => ⟨S_, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S_, .f32⟩
  | .hbm, ⟨17, _⟩ => ⟨S1x1024x1408, .f32⟩
  | .hbm, ⟨18, _⟩ => ⟨S1x1024x1408, .f32⟩
  | .hbm, ⟨19, _⟩ => ⟨S1x1024x1408, .f32⟩
  | .hbm, ⟨20, _⟩ => ⟨S_, .f32⟩
  | .hbm, ⟨21, _⟩ => ⟨S1x1024x1408, .f32⟩
  | .hbm, ⟨22, _⟩ => ⟨S1x1024x1408, .f32⟩
  | .hbm, ⟨23, _⟩ => ⟨S_, .f32⟩
  | .hbm, ⟨24, _⟩ => ⟨S1x1024x1408, .f32⟩
  | .hbm, ⟨25, _⟩ => ⟨S1x1024x1408, .f32⟩
  | .hbm, ⟨26, _⟩ => ⟨S1x1024x1408, .f32⟩
  | .hbm, ⟨27, _⟩ => ⟨S_, .f32⟩
  | .hbm, ⟨28, _⟩ => ⟨S1x1024x1408, .f32⟩
  | .hbm, ⟨29, _⟩ => ⟨S1x1024x1408, .f32⟩
  | .hbm, ⟨30, _⟩ => ⟨S1x1024x1408, .f32⟩
  | .hbm, ⟨31, _⟩ => ⟨S_, .f32⟩
  | .hbm, ⟨32, _⟩ => ⟨S1x1024x1408, .f32⟩
  | .hbm, ⟨33, _⟩ => ⟨S1x1024x1408, .f32⟩
  | .hbm, ⟨34, _⟩ => ⟨S1x1024x1408, .f32⟩
  | .hbm, ⟨35, _⟩ => ⟨S_, .f32⟩
  | .hbm, ⟨36, _⟩ => ⟨S1x1024x1408, .f32⟩
  | .hbm, ⟨37, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelMixW.lean ====
abbrev S2x2048x1536 : Shape := ⟨3, ![2, 2048, 1536]⟩
abbrev S31x512 : Shape := ⟨2, ![31, 512]⟩
abbrev S4x128x128 : Shape := ⟨3, ![4, 128, 128]⟩
abbrev S1x512 : Shape := ⟨2, ![1, 512]⟩
abbrev S2x2048x512 : Shape := ⟨3, ![2, 2048, 512]⟩
abbrev S2x2048x1024 : Shape := ⟨3, ![2, 2048, 1024]⟩
abbrev S_ : Shape := ⟨0, ![]⟩
abbrev S32x512 : Shape := ⟨2, ![32, 512]⟩
abbrev S4096x1536 : Shape := ⟨2, ![4096, 1536]⟩
abbrev S4096x512 : Shape := ⟨2, ![4096, 512]⟩
abbrev S4096x1024 : Shape := ⟨2, ![4096, 1024]⟩
abbrev S8x512 : Shape := ⟨2, ![8, 512]⟩
abbrev S512x1536 : Shape := ⟨2, ![512, 1536]⟩
abbrev S32x1536 : Shape := ⟨2, ![32, 1536]⟩
abbrev S512x512 : Shape := ⟨2, ![512, 512]⟩
abbrev S16x512 : Shape := ⟨2, ![16, 512]⟩
abbrev S544x512 : Shape := ⟨2, ![544, 512]⟩
abbrev S528x512 : Shape := ⟨2, ![528, 512]⟩
abbrev S64x1536 : Shape := ⟨2, ![64, 1536]⟩
abbrev S64x512 : Shape := ⟨2, ![64, 512]⟩
abbrev S88x512 : Shape := ⟨2, ![88, 512]⟩
abbrev S8x8x512 : Shape := ⟨3, ![8, 8, 512]⟩
abbrev S96x512 : Shape := ⟨2, ![96, 512]⟩
abbrev S512 : Shape := ⟨1, ![512]⟩
abbrev S512x1 : Shape := ⟨2, ![512, 1]⟩
abbrev S16x1 : Shape := ⟨2, ![16, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16x128 : Shape := ⟨2, ![16, 128]⟩

abbrev nBuf : Space → Nat
  | .hbm => 18
  | .vmem => 24
  | .smem => 0
  | _ => 0

abbrev bufTy : (tb : Table) → Fin (tcTables nBuf tb) → BufTy
  | .hbm, ⟨0, _⟩ => ⟨S2x2048x1536, .f32⟩
  | .hbm, ⟨1, _⟩ => ⟨S31x512, .f32⟩
  | .hbm, ⟨2, _⟩ => ⟨S4x128x128, .f32⟩
  | .hbm, ⟨3, _⟩ => ⟨S1x512, .f32⟩
  | .hbm, ⟨4, _⟩ => ⟨S2x2048x512, .f32⟩
  | .hbm, ⟨5, _⟩ => ⟨S2x2048x1024, .f32⟩
  | .hbm, ⟨6, _⟩ => ⟨S_, .f32⟩
  | .hbm, ⟨7, _⟩ => ⟨S1x512, .f32⟩
  | .hbm, ⟨8, _⟩ => ⟨S32x512, .f32⟩
  | .hbm, ⟨9, _⟩ => ⟨S4096x1536, .f32⟩
  | .hbm, ⟨10, _⟩ => ⟨S4096x1536, .bf16⟩
  | .hbm, ⟨11, _⟩ => ⟨S4096x512, .f32⟩
  | .hbm, ⟨12, _⟩ => ⟨S4096x1024, .f32⟩
  | .hbm, ⟨13, _⟩ => ⟨S4096x1024, .bf16⟩
  | .hbm, ⟨14, _⟩ => ⟨S4096x1536, .bf16⟩
  | .hbm, ⟨15, _⟩ => ⟨S32x512, .f32⟩
  | .hbm, ⟨16, _⟩ => ⟨S8x512, .f32⟩
  | .hbm, ⟨17, _⟩ => ⟨S4x128x128, .f32⟩
  | .local _ .vmem, ⟨0, _⟩ => ⟨S512x1536, .bf16⟩
  | .local _ .vmem, ⟨1, _⟩ => ⟨S512x1536, .bf16⟩
  | .local _ .vmem, ⟨2, _⟩ => ⟨S32x1536, .bf16⟩
  | .local _ .vmem, ⟨3, _⟩ => ⟨S32x1536, .bf16⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S32x512, .f32⟩
  | .local _ .vmem, ⟨13, _⟩ => ⟨S4x128x128, .f32⟩
  | .local _ .vmem, ⟨14, _⟩ => ⟨S1x512, .f32⟩
  | .local _ .vmem, ⟨15, _⟩ => ⟨S512x1536, .bf16⟩
  | .local _ .vmem, ⟨16, _⟩ => ⟨S512x1536, .bf16⟩
  | .local _ .vmem, ⟨17, _⟩ => ⟨S32x512, .f32⟩
  | .local _ .vmem, ⟨18, _⟩ => ⟨S8x512, .f32⟩
  | .local _ .vmem, ⟨19, _⟩ => ⟨S4x128x128, .f32⟩
  | .local _ .vmem, ⟨20, _⟩ => ⟨S544x512, .f32⟩
  | .local _ .vmem, ⟨21, _⟩ => ⟨S544x512, .f32⟩
  | .local _ .vmem, ⟨22, _⟩ => ⟨S544x512, .f32⟩
  | .local _ .vmem, ⟨23, _⟩ => ⟨S528x512, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceMixWIdeal.lean ====
abbrev S2x2048x1536 : Shape := ⟨3, ![2, 2048, 1536]⟩
abbrev S31x512 : Shape := ⟨2, ![31, 512]⟩
abbrev S4x128x128 : Shape := ⟨3, ![4, 128, 128]⟩
abbrev S1x512 : Shape := ⟨2, ![1, 512]⟩
abbrev S2x2048x512 : Shape := ⟨3, ![2, 2048, 512]⟩
abbrev S2x2048x1024 : Shape := ⟨3, ![2, 2048, 1024]⟩
abbrev S512 : Shape := ⟨1, ![512]⟩
abbrev S2x2048x128 : Shape := ⟨3, ![2, 2048, 128]⟩
abbrev S_ : Shape := ⟨0, ![]⟩
abbrev S2x2x128 : Shape := ⟨3, ![2, 2, 128]⟩
abbrev S2x2050x128 : Shape := ⟨3, ![2, 2050, 128]⟩
abbrev S2048 : Shape := ⟨1, ![2048]⟩
abbrev S1x2048x1 : Shape := ⟨3, ![1, 2048, 1]⟩
abbrev S2x4x128 : Shape := ⟨3, ![2, 4, 128]⟩
abbrev S2x2052x128 : Shape := ⟨3, ![2, 2052, 128]⟩
abbrev S2x8x128 : Shape := ⟨3, ![2, 8, 128]⟩
abbrev S2x2056x128 : Shape := ⟨3, ![2, 2056, 128]⟩
abbrev S2x16x128 : Shape := ⟨3, ![2, 16, 128]⟩
abbrev S2x2064x128 : Shape := ⟨3, ![2, 2064, 128]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S1x1x512 : Shape := ⟨3, ![1, 1, 512]⟩
abbrev S7x512 : Shape := ⟨2, ![7, 512]⟩
abbrev S8x512 : Shape := ⟨2, ![8, 512]⟩

abbrev nBuf : Space → Nat
  | .hbm => 120
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S31x512, .f32⟩
  | .hbm, ⟨2, _⟩ => ⟨S4x128x128, .f32⟩
  | .hbm, ⟨3, _⟩ => ⟨S1x512, .f32⟩
  | .hbm, ⟨4, _⟩ => ⟨S2x2048x512, .f32⟩
  | .hbm, ⟨5, _⟩ => ⟨S2x2048x1024, .f32⟩
  | .hbm, ⟨6, _⟩ => ⟨S2x2048x512, .f32⟩
  | .hbm, ⟨7, _⟩ => ⟨S512, .f32⟩
  | .hbm, ⟨8, _⟩ => ⟨S2x2048x128, .f32⟩
  | .hbm, ⟨9, _⟩ => ⟨S2x2048x128, .f32⟩
  | .hbm, ⟨10, _⟩ => ⟨S2x2048x128, .f32⟩
  | .hbm, ⟨11, _⟩ => ⟨S2x2048x128, .f32⟩
  | .hbm, ⟨12, _⟩ => ⟨S_, .f32⟩
  | .hbm, ⟨13, _⟩ => ⟨S_, .f32⟩
  | .hbm, ⟨14, _⟩ => ⟨S2x2048x128, .f32⟩
  | .hbm, ⟨15, _⟩ => ⟨S2x2x128, .f32⟩
  | .hbm, ⟨16, _⟩ => ⟨S_, .f32⟩
  | .hbm, ⟨17, _⟩ => ⟨S2x2x128, .f32⟩
  | .hbm, ⟨18, _⟩ => ⟨S2x2050x128, .f32⟩
  | .hbm, ⟨19, _⟩ => ⟨S2x2048x128, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2x2048x128, .f32⟩
  | .hbm, ⟨28, _⟩ => ⟨S1x2048x1, .f32⟩
  | .hbm, ⟨29, _⟩ => ⟨S2x2048x128, .f32⟩
  | .hbm, ⟨30, _⟩ => ⟨S2x2048x128, .f32⟩
  | .hbm, ⟨31, _⟩ => ⟨S2x2048x128, .f32⟩
  | .hbm, ⟨32, _⟩ => ⟨S_, .f32⟩
  | .hbm, ⟨33, _⟩ => ⟨S_, .f32⟩
  | .hbm, ⟨34, _⟩ => ⟨S2x2048x128, .f32⟩
  | .hbm, ⟨35, _⟩ => ⟨S2x4x128, .f32⟩
  | .hbm, ⟨36, _⟩ => ⟨S_, .f32⟩
  | .hbm, ⟨37, _⟩ => ⟨S2x4x128, .f32⟩
  | .hbm, ⟨38, _⟩ => ⟨S2x2052x128, .f32⟩
  | .hbm, ⟨39, _⟩ => ⟨S2x2048x128, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2x2048x128, .f32⟩
  | .hbm, ⟨48, _⟩ => ⟨S1x2048x1, .f32⟩
  | .hbm, ⟨49, _⟩ => ⟨S2x2048x128, .f32⟩
  | .hbm, ⟨50, _⟩ => ⟨S2x2048x128, .f32⟩
  | .hbm, ⟨51, _⟩ => ⟨S2x2048x128, .f32⟩
  | .hbm, ⟨52, _⟩ => ⟨S_, .f32⟩
  | .hbm, ⟨53, _⟩ => ⟨S_, .f32⟩
  | .hbm, ⟨54, _⟩ => ⟨S2x2048x128, .f32⟩
  | .hbm, ⟨55, _⟩ => ⟨S2x8x128, .f32⟩
  | .hbm, ⟨56, _⟩ => ⟨S_, .f32⟩
  | .hbm, ⟨57, _⟩ => ⟨S2x8x128, .f32⟩
  | .hbm, ⟨58, _⟩ => ⟨S2x2056x128, .f32⟩
  | .hbm, ⟨59, _⟩ => ⟨S2x2048x128, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S2x2048x128, .f32⟩
  | .hbm, ⟨68, _⟩ => ⟨S1x2048x1, .f32⟩
  | .hbm, ⟨69, _⟩ => ⟨S2x2048x128, .f32⟩
  | .hbm, ⟨70, _⟩ => ⟨S2x2048x128, .f32⟩
  | .hbm, ⟨71, _⟩ => ⟨S2x2048x128, .f32⟩
  | .hbm, ⟨72, _⟩ => ⟨S_, .f32⟩
  | .hbm, ⟨73, _⟩ => ⟨S_, .f32⟩
  | .hbm, ⟨74, _⟩ => ⟨S2x2048x128, .f32⟩
  | .hbm, ⟨75, _⟩ => ⟨S2x16x128, .f32⟩
  | .hbm, ⟨76, _⟩ => ⟨S_, .f32⟩
  | .hbm, ⟨77, _⟩ => ⟨S2x16x128, .f32⟩
  | .hbm, ⟨78, _⟩ => ⟨S2x2064x128, .f32⟩
  | .hbm, ⟨79, _⟩ => ⟨S2x2048x128, .f32⟩
  | .hbm, ⟨80, _⟩ => ⟨S2048, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S2x2048x128, .f32⟩
  | .hbm, ⟨88, _⟩ => ⟨S1x2048x1, .f32⟩
  | .hbm, ⟨89, _⟩ => ⟨S2x2048x128, .f32⟩
  | .hbm, ⟨90, _⟩ => ⟨S2x2048x128, .f32⟩
  | .hbm, ⟨91, _⟩ => ⟨S2x2048x128, .f32⟩
  | .hbm, ⟨92, _⟩ => ⟨S2x2048x1x128, .f32⟩
  | .hbm, ⟨93, _⟩ => ⟨S2x2048x1x128, .f32⟩
  | .hbm, ⟨94, _⟩ => ⟨S2x2048x1x128, .f32⟩
  | .hbm, ⟨95, _⟩ => ⟨S2x2048x1x128, .f32⟩
  | .hbm, ⟨96, _⟩ => ⟨S2x2048x4x128, .f32⟩
  | .hbm, ⟨97, _⟩ => ⟨S4x128x2x2048, .f32⟩
  | .hbm, ⟨98, _⟩ => ⟨S2x2048x4x128, .f32⟩
  | .hbm, ⟨99, _⟩ => ⟨S2x2048x512, .f32⟩
  | .hbm, ⟨100, _⟩ => ⟨S1x1x512, .f32⟩
  | .hbm, ⟨101, _⟩ => ⟨S2x2048x512, .f32⟩
  | .hbm, ⟨102, _⟩ => ⟨S2x2048x512, .f32⟩
  | .hbm, ⟨103, _⟩ => ⟨S2x2048x512, .f32⟩
  | .hbm, ⟨104, _⟩ => ⟨S2x2048x512, .f32⟩
  | .hbm, ⟨105, _⟩ => ⟨S_, .f32⟩
  | .hbm, ⟨106, _⟩ => ⟨S512, .f32⟩
  | .hbm, ⟨107, _⟩ => ⟨S1x1x512, .f32⟩
  | .hbm, ⟨108, _⟩ => ⟨S2x2048x512, .f32⟩
  | .hbm, ⟨109, _⟩ => ⟨S2x2048x512, .f32⟩
  | .hbm, ⟨110, _⟩ => ⟨S_, .f32⟩
  | .hbm, ⟨111, _⟩ => ⟨S512, .f32⟩
  | .hbm, ⟨112, _⟩ => ⟨S2x2048x4x128, .f32⟩
  | .hbm, ⟨113, _⟩ => ⟨S4x128x2x2048, .f32⟩
  | .hbm, ⟨114, _⟩ => ⟨S4x128x128, .f32⟩
  | .hbm, ⟨115, _⟩ => ⟨S4x128x128, .f32⟩
  | .hbm, ⟨116, _⟩ => ⟨S1x512, .f32⟩
  | .hbm, ⟨117, _⟩ => ⟨S_, .f32⟩
  | .hbm, ⟨118, _⟩ => ⟨S7x512, .f32⟩
  | .hbm, ⟨119, _⟩ => ⟨S8x512, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_call0_cst : Ref sig .tc := ⟨.hbm, 12, rfl⟩
abbrev main_call0_call0_v0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_call0_cst : Ref sig .tc := ⟨.hbm, 32, rfl⟩
abbrev main_call1_call0_v0 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call2_call0_cst : Ref sig .tc := ⟨.hbm, 52, rfl⟩
abbrev main_call2_call0_v0 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call3_call0_cst : Ref sig .tc := ⟨.hbm, 72, rfl⟩
abbrev main_call3_call0_v0 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_11 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_12 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_13 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== KernelTaps.lean ====
abbrev S2x2048x1536 : Shape := ⟨3, ![2, 2048, 1536]⟩
abbrev S31x512 : Shape := ⟨2, ![31, 512]⟩
abbrev S4x128x128 : Shape := ⟨3, ![4, 128, 128]⟩
abbrev S1x512 : Shape := ⟨2, ![1, 512]⟩
abbrev S2x2048x512 : Shape := ⟨3, ![2, 2048, 512]⟩
abbrev S2x2048x1024 : Shape := ⟨3, ![2, 2048, 1024]⟩
abbrev S_ : Shape := ⟨0, ![]⟩
abbrev S32x512 : Shape := ⟨2, ![32, 512]⟩
abbrev S4096x1536 : Shape := ⟨2, ![4096, 1536]⟩
abbrev S4096x512 : Shape := ⟨2, ![4096, 512]⟩
abbrev S4096x1024 : Shape := ⟨2, ![4096, 1024]⟩
abbrev S8x512 : Shape := ⟨2, ![8, 512]⟩
abbrev S512x1536 : Shape := ⟨2, ![512, 1536]⟩
abbrev S32x1536 : Shape := ⟨2, ![32, 1536]⟩
abbrev S512x512 : Shape := ⟨2, ![512, 512]⟩
abbrev S16x512 : Shape := ⟨2, ![16, 512]⟩
abbrev S544x512 : Shape := ⟨2, ![544, 512]⟩
abbrev S528x512 : Shape := ⟨2, ![528, 512]⟩
abbrev S64x1536 : Shape := ⟨2, ![64, 1536]⟩
abbrev S64x512 : Shape := ⟨2, ![64, 512]⟩
abbrev S88x512 : Shape := ⟨2, ![88, 512]⟩
abbrev S8x8x512 : Shape := ⟨3, ![8, 8, 512]⟩
abbrev S96x512 : Shape := ⟨2, ![96, 512]⟩
abbrev S512 : Shape := ⟨1, ![512]⟩
abbrev S512x1 : Shape := ⟨2, ![512, 1]⟩
abbrev S16x1 : Shape := ⟨2, ![16, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16x128 : Shape := ⟨2, ![16, 128]⟩

abbrev nBuf : Space → Nat
  | .hbm => 18
  | .vmem => 24
  | .smem => 0
  | _ => 0

abbrev bufTy : (tb : Table) → Fin (tcTables nBuf tb) → BufTy
  | .hbm, ⟨0, _⟩ => ⟨S2x2048x1536, .f32⟩
  | .hbm, ⟨1, _⟩ => ⟨S31x512, .f32⟩
  | .hbm, ⟨2, _⟩ => ⟨S4x128x128, .f32⟩
  | .hbm, ⟨3, _⟩ => ⟨S1x512, .f32⟩
  | .hbm, ⟨4, _⟩ => ⟨S2x2048x512, .f32⟩
  | .hbm, ⟨5, _⟩ => ⟨S2x2048x1024, .f32⟩
  | .hbm, ⟨6, _⟩ => ⟨S_, .f32⟩
  | .hbm, ⟨7, _⟩ => ⟨S1x512, .f32⟩
  | .hbm, ⟨8, _⟩ => ⟨S32x512, .f32⟩
  | .hbm, ⟨9, _⟩ => ⟨S4096x1536, .f32⟩
  | .hbm, ⟨10, _⟩ => ⟨S4096x1536, .bf16⟩
  | .hbm, ⟨11, _⟩ => ⟨S4096x512, .f32⟩
  | .hbm, ⟨12, _⟩ => ⟨S4096x1024, .f32⟩
  | .hbm, ⟨13, _⟩ => ⟨S4096x1024, .bf16⟩
  | .hbm, ⟨14, _⟩ => ⟨S4096x1536, .bf16⟩
  | .hbm, ⟨15, _⟩ => ⟨S32x512, .f32⟩
  | .hbm, ⟨16, _⟩ => ⟨S8x512, .f32⟩
  | .hbm, ⟨17, _⟩ => ⟨S4x128x128, .f32⟩
  | .local _ .vmem, ⟨0, _⟩ => ⟨S512x1536, .bf16⟩
  | .local _ .vmem, ⟨1, _⟩ => ⟨S512x1536, .bf16⟩
  | .local _ .vmem, ⟨2, _⟩ => ⟨S32x1536, .bf16⟩
  | .local _ .vmem, ⟨3, _⟩ => ⟨S32x1536, .bf16⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S32x512, .f32⟩
  | .local _ .vmem, ⟨13, _⟩ => ⟨S4x128x128, .f32⟩
  | .local _ .vmem, ⟨14, _⟩ => ⟨S1x512, .f32⟩
  | .local _ .vmem, ⟨15, _⟩ => ⟨S512x1536, .bf16⟩
  | .local _ .vmem, ⟨16, _⟩ => ⟨S512x1536, .bf16⟩
  | .local _ .vmem, ⟨17, _⟩ => ⟨S32x512, .f32⟩
  | .local _ .vmem, ⟨18, _⟩ => ⟨S8x512, .f32⟩
  | .local _ .vmem, ⟨19, _⟩ => ⟨S4x128x128, .f32⟩
  | .local _ .vmem, ⟨20, _⟩ => ⟨S544x512, .f32⟩
  | .local _ .vmem, ⟨21, _⟩ => ⟨S544x512, .f32⟩
  | .local _ .vmem, ⟨22, _⟩ => ⟨S544x512, .f32⟩
  | .local _ .vmem, ⟨23, _⟩ => ⟨S528x512, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceTapsIdeal.lean ====
abbrev S2x2048x1536 : Shape := ⟨3, ![2, 2048, 1536]⟩
abbrev S31x512 : Shape := ⟨2, ![31, 512]⟩
abbrev S4x128x128 : Shape := ⟨3, ![4, 128, 128]⟩
abbrev S1x512 : Shape := ⟨2, ![1, 512]⟩
abbrev S2x2048x512 : Shape := ⟨3, ![2, 2048, 512]⟩
abbrev S2x2048x1024 : Shape := ⟨3, ![2, 2048, 1024]⟩
abbrev S_ : Shape := ⟨0, ![]⟩
abbrev S512 : Shape := ⟨1, ![512]⟩
abbrev S2x30x512 : Shape := ⟨3, ![2, 30, 512]⟩
abbrev S2x2078x512 : Shape := ⟨3, ![2, 2078, 512]⟩
abbrev S1x1x512 : Shape := ⟨3, ![1, 1, 512]⟩
abbrev S2x2048x128 : Shape := ⟨3, ![2, 2048, 128]⟩
abbrev S2x2x128 : Shape := ⟨3, ![2, 2, 128]⟩
abbrev S2x2050x128 : Shape := ⟨3, ![2, 2050, 128]⟩
abbrev S2048 : Shape := ⟨1, ![2048]⟩
abbrev S1x2048x1 : Shape := ⟨3, ![1, 2048, 1]⟩
abbrev S2x4x128 : Shape := ⟨3, ![2, 4, 128]⟩
abbrev S2x2052x128 : Shape := ⟨3, ![2, 2052, 128]⟩
abbrev S2x8x128 : Shape := ⟨3, ![2, 8, 128]⟩
abbrev S2x2056x128 : Shape := ⟨3, ![2, 2056, 128]⟩
abbrev S2x16x128 : Shape := ⟨3, ![2, 16, 128]⟩
abbrev S2x2064x128 : Shape := ⟨3, ![2, 2064, 128]⟩
abbrev S2x2048x1x128 : Shape := ⟨4, ![2, 2048, 1, 128]⟩
abbrev S2x2048x4x128 : Shape := ⟨4, ![2, 2048, 4, 128]⟩
abbrev S4x128x2x2048 : Shape := ⟨4, ![4, 128, 2, 2048]⟩
abbrev S4x2x2048x128 : Shape := ⟨4, ![4, 2, 2048, 128]⟩
abbrev S4096x1536 : Shape := ⟨2, ![4096, 1536]⟩
abbrev S32x512 : Shape := ⟨2, ![32, 512]⟩
abbrev S7x512 : Shape := ⟨2, ![7, 512]⟩
abbrev S8x512 : Shape := ⟨2, ![8, 512]⟩

abbrev nBuf : Space → Nat
  | .hbm => 914
  | .vmem => 0
  | .smem => 0
  | _ => 0

abbrev hbmTy0_0 (i : Nat) : BufTy := match i % 128 with
  | 0 => ⟨S2x2048x1536, .f32⟩
  | 1 => ⟨S31x512, .f32⟩
  | 2 => ⟨S4x128x128, .f32⟩
  | 3 => ⟨S1x512, .f32⟩
  | 4 => ⟨S2x2048x512, .f32⟩
  | 5 => ⟨S2x2048x1024, .f32⟩
  | 6 => ⟨S2x2048x1024, .f32⟩
  | 7 => ⟨S2x2048x512, .f32⟩
  | 8 => ⟨S2x2048x512, .f32⟩
  | 9 => ⟨S2x2048x512, .f32⟩
  | 10 => ⟨S2x2048x512, .f32⟩
  | 11 => ⟨S_, .f32⟩
  | 12 => ⟨S2x2048x512, .f32⟩
  | 13 => ⟨S2x2048x512, .f32⟩
  | 14 => ⟨S_, .f32⟩
  | 15 => ⟨S2x2048x512, .f32⟩
  | 16 => ⟨S2x2048x512, .f32⟩
  | 17 => ⟨S_, .f32⟩
  | 18 => ⟨S2x2048x512, .f32⟩
  | 19 => ⟨S2x2048x512, .f32⟩
  | 20 => ⟨S2x2048x512, .f32⟩
  | 21 => ⟨S2x2048x512, .f32⟩
  | 22 => ⟨S_, .f32⟩
  | 23 => ⟨S512, .f32⟩
  | 24 => ⟨S_, .f32⟩
  | 25 => ⟨S2x30x512, .f32⟩
  | 26 => ⟨S2x2078x512, .f32⟩
  | 27 => ⟨S_, .f32⟩
  | 28 => ⟨S2x30x512, .f32⟩
  | 29 => ⟨S1x512, .f32⟩
  | 30 => ⟨S512, .f32⟩
  | 31 => ⟨S2x2048x512, .f32⟩
  | 32 => ⟨S1x1x512, .f32⟩
  | 33 => ⟨S2x2048x512, .f32⟩
  | 34 => ⟨S2x2048x512, .f32⟩
  | 35 => ⟨S1x512, .f32⟩
  | 36 => ⟨S512, .f32⟩
  | 37 => ⟨S2x2048x512, .f32⟩
  | 38 => ⟨S1x1x512, .f32⟩
  | 39 => ⟨S2x2048x512, .f32⟩
  | 40 => ⟨S2x2048x512, .f32⟩
  | 41 => ⟨S2x2048x512, .f32⟩
  | 42 => ⟨S1x512, .f32⟩
  | 43 => ⟨S512, .f32⟩
  | 44 => ⟨S2x2048x512, .f32⟩
  | 45 => ⟨S1x1x512, .f32⟩
  | 46 => ⟨S2x2048x512, .f32⟩
  | 47 => ⟨S2x2048x512, .f32⟩
  | 48 => ⟨S2x2048x512, .f32⟩
  | 49 => ⟨S1x512, .f32⟩
  | 50 => ⟨S512, .f32⟩
  | 51 => ⟨S2x2048x512, .f32⟩
  | 52 => ⟨S1x1x512, .f32⟩
  | 53 => ⟨S2x2048x512, .f32⟩
  | 54 => ⟨S2x2048x512, .f32⟩
  | 55 => ⟨S2x2048x512, .f32⟩
  | 56 => ⟨S1x512, .f32⟩
  | 57 => ⟨S512, .f32⟩
  | 58 => ⟨S2x2048x512, .f32⟩
  | 59 => ⟨S1x1x512, .f32⟩
  | 60 => ⟨S2x2048x512, .f32⟩
  | 61 => ⟨S2x2048x512, .f32⟩
  | 62 => ⟨S2x2048x512, .f32⟩
  | 63 => ⟨S1x512, .f32⟩
  | 64 => ⟨S512, .f32⟩
  | 65 => ⟨S2x2048x512, .f32⟩
  | 66 => ⟨S1x1x512, .f32⟩
  | 67 => ⟨S2x2048x512, .f32⟩
  | 68 => ⟨S2x2048x512, .f32⟩
  | 69 => ⟨S2x2048x512, .f32⟩
  | 70 => ⟨S1x512, .f32⟩
  | 71 => ⟨S512, .f32⟩
  | 72 => ⟨S2x2048x512, .f32⟩
  | 73 => ⟨S1x1x512, .f32⟩
  | 74 => ⟨S2x2048x512, .f32⟩
  | 75 => ⟨S2x2048x512, .f32⟩
  | 76 => ⟨S2x2048x512, .f32⟩
  | 77 => ⟨S1x512, .f32⟩
  | 78 => ⟨S512, .f32⟩
  | 79 => ⟨S2x2048x512, .f32⟩
  | 80 => ⟨S1x1x512, .f32⟩
  | 81 => ⟨S2x2048x512, .f32⟩
  | 82 => ⟨S2x2048x512, .f32⟩
  | 83 => ⟨S2x2048x512, .f32⟩
  | 84 => ⟨S1x512, .f32⟩
  | 85 => ⟨S512, .f32⟩
  | 86 => ⟨S2x2048x512, .f32⟩
  | 87 => ⟨S1x1x512, .f32⟩
  | 88 => ⟨S2x2048x512, .f32⟩
  | 89 => ⟨S2x2048x512, .f32⟩
  | 90 => ⟨S2x2048x512, .f32⟩
  | 91 => ⟨S1x512, .f32⟩
  | 92 => ⟨S512, .f32⟩
  | 93 => ⟨S2x2048x512, .f32⟩
  | 94 => ⟨S1x1x512, .f32⟩
  | 95 => ⟨S2x2048x512, .f32⟩
  | 96 => ⟨S2x2048x512, .f32⟩
  | 97 => ⟨S2x2048x512, .f32⟩
  | 98 => ⟨S1x512, .f32⟩
  | 99 => ⟨S512, .f32⟩
  | 100 => ⟨S2x2048x512, .f32⟩
  | 101 => ⟨S1x1x512, .f32⟩
  | 102 => ⟨S2x2048x512, .f32⟩
  | 103 => ⟨S2x2048x512, .f32⟩
  | 104 => ⟨S2x2048x512, .f32⟩
  | 105 => ⟨S1x512, .f32⟩
  | 106 => ⟨S512, .f32⟩
  | 107 => ⟨S2x2048x512, .f32⟩
  | 108 => ⟨S1x1x512, .f32⟩
  | 109 => ⟨S2x2048x512, .f32⟩
  | 110 => ⟨S2x2048x512, .f32⟩
  | 111 => ⟨S2x2048x512, .f32⟩
  | 112 => ⟨S1x512, .f32⟩
  | 113 => ⟨S512, .f32⟩
  | 114 => ⟨S2x2048x512, .f32⟩
  | 115 => ⟨S1x1x512, .f32⟩
  | 116 => ⟨S2x2048x512, .f32⟩
  | 117 => ⟨S2x2048x512, .f32⟩
  | 118 => ⟨S2x2048x512, .f32⟩
  | 119 => ⟨S1x512, .f32⟩
  | 120 => ⟨S512, .f32⟩
  | 121 => ⟨S2x2048x512, .f32⟩
  | 122 => ⟨S1x1x512, .f32⟩
  | 123 => ⟨S2x2048x512, .f32⟩
  | 124 => ⟨S2x2048x512, .f32⟩
  | 125 => ⟨S2x2048x512, .f32⟩
  | 126 => ⟨S1x512, .f32⟩
  | 127 => ⟨S512, .f32⟩
  | _ => ⟨S2x2048x1536, .f32⟩

abbrev hbmTy0_1 (i : Nat) : BufTy := match i % 128 with
  | 0 => ⟨S2x2048x512, .f32⟩
  | 1 => ⟨S1x1x512, .f32⟩
  | 2 => ⟨S2x2048x512, .f32⟩
  | 3 => ⟨S2x2048x512, .f32⟩
  | 4 => ⟨S2x2048x512, .f32⟩
  | 5 => ⟨S1x512, .f32⟩
  | 6 => ⟨S512, .f32⟩
  | 7 => ⟨S2x2048x512, .f32⟩
  | 8 => ⟨S1x1x512, .f32⟩
  | 9 => ⟨S2x2048x512, .f32⟩
  | 10 => ⟨S2x2048x512, .f32⟩
  | 11 => ⟨S2x2048x512, .f32⟩
  | 12 => ⟨S1x512, .f32⟩
  | 13 => ⟨S512, .f32⟩
  | 14 => ⟨S2x2048x512, .f32⟩
  | 15 => ⟨S1x1x512, .f32⟩
  | 16 => ⟨S2x2048x512, .f32⟩
  | 17 => ⟨S2x2048x512, .f32⟩
  | 18 => ⟨S2x2048x512, .f32⟩
  | 19 => ⟨S1x512, .f32⟩
  | 20 => ⟨S512, .f32⟩
  | 21 => ⟨S2x2048x512, .f32⟩
  | 22 => ⟨S1x1x512, .f32⟩
  | 23 => ⟨S2x2048x512, .f32⟩
  | 24 => ⟨S2x2048x512, .f32⟩
  | 25 => ⟨S2x2048x512, .f32⟩
  | 26 => ⟨S1x512, .f32⟩
  | 27 => ⟨S512, .f32⟩
  | 28 => ⟨S2x2048x512, .f32⟩
  | 29 => ⟨S1x1x512, .f32⟩
  | 30 => ⟨S2x2048x512, .f32⟩
  | 31 => ⟨S2x2048x512, .f32⟩
  | 32 => ⟨S2x2048x512, .f32⟩
  | 33 => ⟨S1x512, .f32⟩
  | 34 => ⟨S512, .f32⟩
  | 35 => ⟨S2x2048x512, .f32⟩
  | 36 => ⟨S1x1x512, .f32⟩
  | 37 => ⟨S2x2048x512, .f32⟩
  | 38 => ⟨S2x2048x512, .f32⟩
  | 39 => ⟨S2x2048x512, .f32⟩
  | 40 => ⟨S1x512, .f32⟩
  | 41 => ⟨S512, .f32⟩
  | 42 => ⟨S2x2048x512, .f32⟩
  | 43 => ⟨S1x1x512, .f32⟩
  | 44 => ⟨S2x2048x512, .f32⟩
  | 45 => ⟨S2x2048x512, .f32⟩
  | 46 => ⟨S2x2048x512, .f32⟩
  | 47 => ⟨S1x512, .f32⟩
  | 48 => ⟨S512, .f32⟩
  | 49 => ⟨S2x2048x512, .f32⟩
  | 50 => ⟨S1x1x512, .f32⟩
  | 51 => ⟨S2x2048x512, .f32⟩
  | 52 => ⟨S2x2048x512, .f32⟩
  | 53 => ⟨S2x2048x512, .f32⟩
  | 54 => ⟨S1x512, .f32⟩
  | 55 => ⟨S512, .f32⟩
  | 56 => ⟨S2x2048x512, .f32⟩
  | 57 => ⟨S1x1x512, .f32⟩
  | 58 => ⟨S2x2048x512, .f32⟩
  | 59 => ⟨S2x2048x512, .f32⟩
  | 60 => ⟨S2x2048x512, .f32⟩
  | 61 => ⟨S1x512, .f32⟩
  | 62 => ⟨S512, .f32⟩
  | 63 => ⟨S2x2048x512, .f32⟩
  | 64 => ⟨S1x1x512, .f32⟩
  | 65 => ⟨S2x2048x512, .f32⟩
  | 66 => ⟨S2x2048x512, .f32⟩
  | 67 => ⟨S2x2048x512, .f32⟩
  | 68 => ⟨S1x512, .f32⟩
  | 69 => ⟨S512, .f32⟩
  | 70 => ⟨S2x2048x512, .f32⟩
  | 71 => ⟨S1x1x512, .f32⟩
  | 72 => ⟨S2x2048x512, .f32⟩
  | 73 => ⟨S2x2048x512, .f32⟩
  | 74 => ⟨S2x2048x512, .f32⟩
  | 75 => ⟨S1x512, .f32⟩
  | 76 => ⟨S512, .f32⟩
  | 77 => ⟨S2x2048x512, .f32⟩
  | 78 => ⟨S1x1x512, .f32⟩
  | 79 => ⟨S2x2048x512, .f32⟩
  | 80 => ⟨S2x2048x512, .f32⟩
  | 81 => ⟨S2x2048x512, .f32⟩
  | 82 => ⟨S1x512, .f32⟩
  | 83 => ⟨S512, .f32⟩
  | 84 => ⟨S2x2048x512, .f32⟩
  | 85 => ⟨S1x1x512, .f32⟩
  | 86 => ⟨S2x2048x512, .f32⟩
  | 87 => ⟨S2x2048x512, .f32⟩
  | 88 => ⟨S2x2048x512, .f32⟩
  | 89 => ⟨S1x512, .f32⟩
  | 90 => ⟨S512, .f32⟩
  | 91 => ⟨S2x2048x512, .f32⟩
  | 92 => ⟨S1x1x512, .f32⟩
  | 93 => ⟨S2x2048x512, .f32⟩
  | 94 => ⟨S2x2048x512, .f32⟩
  | 95 => ⟨S2x2048x512, .f32⟩
  | 96 => ⟨S1x512, .f32⟩
  | 97 => ⟨S512, .f32⟩
  | 98 => ⟨S2x2048x512, .f32⟩
  | 99 => ⟨S1x1x512, .f32⟩
  | 100 => ⟨S2x2048x512, .f32⟩
  | 101 => ⟨S2x2048x512, .f32⟩
  | 102 => ⟨S2x2048x512, .f32⟩
  | 103 => ⟨S1x512, .f32⟩
  | 104 => ⟨S512, .f32⟩
  | 105 => ⟨S2x2048x512, .f32⟩
  | 106 => ⟨S1x1x512, .f32⟩
  | 107 => ⟨S2x2048x512, .f32⟩
  | 108 => ⟨S2x2048x512, .f32⟩
  | 109 => ⟨S2x2048x512, .f32⟩
  | 110 => ⟨S1x512, .f32⟩
  | 111 => ⟨S512, .f32⟩
  | 112 => ⟨S2x2048x512, .f32⟩
  | 113 => ⟨S1x1x512, .f32⟩
  | 114 => ⟨S2x2048x512, .f32⟩
  | 115 => ⟨S2x2048x512, .f32⟩
  | 116 => ⟨S2x2048x512, .f32⟩
  | 117 => ⟨S1x1x512, .f32⟩
  | 118 => ⟨S2x2048x512, .f32⟩
  | 119 => ⟨S2x2048x512, .f32⟩
  | 120 => ⟨S2x2048x512, .f32⟩
  | 121 => ⟨S512, .f32⟩
  | 122 => ⟨S2x2048x128, .f32⟩
  | 123 => ⟨S2x2048x128, .f32⟩
  | 124 => ⟨S2x2048x128, .f32⟩
  | 125 => ⟨S2x2048x128, .f32⟩
  | 126 => ⟨S_, .f32⟩
  | 127 => ⟨S_, .f32⟩
  | _ => ⟨S2x2048x1536, .f32⟩

abbrev hbmTy0_2 (i : Nat) : BufTy := match i % 128 with
  | 0 => ⟨S2x2048x128, .f32⟩
  | 1 => ⟨S2x2x128, .f32⟩
  | 2 => ⟨S_, .f32⟩
  | 3 => ⟨S2x2x128, .f32⟩
  | 4 => ⟨S2x2050x128, .f32⟩
  | 5 => ⟨S_, .f32⟩
  | 6 => ⟨S2x2x128, .f32⟩
  | 7 => ⟨S2x2048x128, .f32⟩
  | 8 => ⟨S2048, .f32⟩
  | 9 => ⟨S_, .f32⟩
  | 10 => ⟨S2048, .f32⟩
  | 11 => ⟨S2048, .f32⟩
  | 12 => ⟨S_, .f32⟩
  | 13 => ⟨S2048, .f32⟩
  | 14 => ⟨S2048, .f32⟩
  | 15 => ⟨S2x2048x128, .f32⟩
  | 16 => ⟨S1x2048x1, .f32⟩
  | 17 => ⟨S2x2048x128, .f32⟩
  | 18 => ⟨S2x2048x128, .f32⟩
  | 19 => ⟨S2x2048x128, .f32⟩
  | 20 => ⟨S_, .f32⟩
  | 21 => ⟨S_, .f32⟩
  | 22 => ⟨S2x2048x128, .f32⟩
  | 23 => ⟨S2x4x128, .f32⟩
  | 24 => ⟨S_, .f32⟩
  | 25 => ⟨S2x4x128, .f32⟩
  | 26 => ⟨S2x2052x128, .f32⟩
  | 27 => ⟨S_, .f32⟩
  | 28 => ⟨S2x4x128, .f32⟩
  | 29 => ⟨S2x2048x128, .f32⟩
  | 30 => ⟨S2048, .f32⟩
  | 31 => ⟨S_, .f32⟩
  | 32 => ⟨S2048, .f32⟩
  | 33 => ⟨S2048, .f32⟩
  | 34 => ⟨S_, .f32⟩
  | 35 => ⟨S2048, .f32⟩
  | 36 => ⟨S2048, .f32⟩
  | 37 => ⟨S2x2048x128, .f32⟩
  | 38 => ⟨S1x2048x1, .f32⟩
  | 39 => ⟨S2x2048x128, .f32⟩
  | 40 => ⟨S2x2048x128, .f32⟩
  | 41 => ⟨S2x2048x128, .f32⟩
  | 42 => ⟨S_, .f32⟩
  | 43 => ⟨S_, .f32⟩
  | 44 => ⟨S2x2048x128, .f32⟩
  | 45 => ⟨S2x8x128, .f32⟩
  | 46 => ⟨S_, .f32⟩
  | 47 => ⟨S2x8x128, .f32⟩
  | 48 => ⟨S2x2056x128, .f32⟩
  | 49 => ⟨S_, .f32⟩
  | 50 => ⟨S2x8x128, .f32⟩
  | 51 => ⟨S2x2048x128, .f32⟩
  | 52 => ⟨S2048, .f32⟩
  | 53 => ⟨S_, .f32⟩
  | 54 => ⟨S2048, .f32⟩
  | 55 => ⟨S2048, .f32⟩
  | 56 => ⟨S_, .f32⟩
  | 57 => ⟨S2048, .f32⟩
  | 58 => ⟨S2048, .f32⟩
  | 59 => ⟨S2x2048x128, .f32⟩
  | 60 => ⟨S1x2048x1, .f32⟩
  | 61 => ⟨S2x2048x128, .f32⟩
  | 62 => ⟨S2x2048x128, .f32⟩
  | 63 => ⟨S2x2048x128, .f32⟩
  | 64 => ⟨S_, .f32⟩
  | 65 => ⟨S_, .f32⟩
  | 66 => ⟨S2x2048x128, .f32⟩
  | 67 => ⟨S2x16x128, .f32⟩
  | 68 => ⟨S_, .f32⟩
  | 69 => ⟨S2x16x128, .f32⟩
  | 70 => ⟨S2x2064x128, .f32⟩
  | 71 => ⟨S_, .f32⟩
  | 72 => ⟨S2x16x128, .f32⟩
  | 73 => ⟨S2x2048x128, .f32⟩
  | 74 => ⟨S2048, .f32⟩
  | 75 => ⟨S_, .f32⟩
  | 76 => ⟨S2048, .f32⟩
  | 77 => ⟨S2048, .f32⟩
  | 78 => ⟨S_, .f32⟩
  | 79 => ⟨S2048, .f32⟩
  | 80 => ⟨S2048, .f32⟩
  | 81 => ⟨S2x2048x128, .f32⟩
  | 82 => ⟨S1x2048x1, .f32⟩
  | 83 => ⟨S2x2048x128, .f32⟩
  | 84 => ⟨S2x2048x128, .f32⟩
  | 85 => ⟨S2x2048x128, .f32⟩
  | 86 => ⟨S2x2048x1x128, .f32⟩
  | 87 => ⟨S2x2048x1x128, .f32⟩
  | 88 => ⟨S2x2048x1x128, .f32⟩
  | 89 => ⟨S2x2048x1x128, .f32⟩
  | 90 => ⟨S2x2048x4x128, .f32⟩
  | 91 => ⟨S4x128x2x2048, .f32⟩
  | 92 => ⟨S2x2048x4x128, .f32⟩
  | 93 => ⟨S2x2048x512, .f32⟩
  | 94 => ⟨S1x1x512, .f32⟩
  | 95 => ⟨S2x2048x512, .f32⟩
  | 96 => ⟨S2x2048x512, .f32⟩
  | 97 => ⟨S2x2048x512, .f32⟩
  | 98 => ⟨S2x2048x512, .f32⟩
  | 99 => ⟨S_, .f32⟩
  | 100 => ⟨S512, .f32⟩
  | 101 => ⟨S1x1x512, .f32⟩
  | 102 => ⟨S2x2048x512, .f32⟩
  | 103 => ⟨S2x2048x512, .f32⟩
  | 104 => ⟨S_, .f32⟩
  | 105 => ⟨S512, .f32⟩
  | 106 => ⟨S2x2048x4x128, .f32⟩
  | 107 => ⟨S4x128x2x2048, .f32⟩
  | 108 => ⟨S4x2x2048x128, .f32⟩
  | 109 => ⟨S2x2048x4x128, .f32⟩
  | 110 => ⟨S4x128x128, .f32⟩
  | 111 => ⟨S4x128x128, .f32⟩
  | 112 => ⟨S2x2048x1x128, .f32⟩
  | 113 => ⟨S2x2048x128, .f32⟩
  | 114 => ⟨S2x2048x1x128, .f32⟩
  | 115 => ⟨S2x2048x128, .f32⟩
  | 116 => ⟨S2x2048x1x128, .f32⟩
  | 117 => ⟨S2x2048x128, .f32⟩
  | 118 => ⟨S2x2048x1x128, .f32⟩
  | 119 => ⟨S2x2048x128, .f32⟩
  | 120 => ⟨S2x2048x128, .f32⟩
  | 121 => ⟨S2x2048x128, .f32⟩
  | 122 => ⟨S2x2048x128, .f32⟩
  | 123 => ⟨S2x2048x128, .f32⟩
  | 124 => ⟨S_, .f32⟩
  | 125 => ⟨S2x2064x128, .f32⟩
  | 126 => ⟨S2x16x128, .f32⟩
  | 127 => ⟨S2x2048x128, .f32⟩
  | _ => ⟨S2x2048x1536, .f32⟩

abbrev hbmTy0_3 (i : Nat) : BufTy := match i % 128 with
  | 0 => ⟨S2x2048x128, .f32⟩
  | 1 => ⟨S_, .f32⟩
  | 2 => ⟨S_, .f32⟩
  | 3 => ⟨S2x2048x128, .f32⟩
  | 4 => ⟨S2x2048x128, .f32⟩
  | 5 => ⟨S2x2048x128, .f32⟩
  | 6 => ⟨S2x2048x128, .f32⟩
  | 7 => ⟨S2x2048x128, .f32⟩
  | 8 => ⟨S2x2048x128, .f32⟩
  | 9 => ⟨S_, .f32⟩
  | 10 => ⟨S2x2056x128, .f32⟩
  | 11 => ⟨S2x8x128, .f32⟩
  | 12 => ⟨S2x2048x128, .f32⟩
  | 13 => ⟨S2x2048x128, .f32⟩
  | 14 => ⟨S_, .f32⟩
  | 15 => ⟨S_, .f32⟩
  | 16 => ⟨S2x2048x128, .f32⟩
  | 17 => ⟨S2x2048x128, .f32⟩
  | 18 => ⟨S2x2048x128, .f32⟩
  | 19 => ⟨S2x2048x128, .f32⟩
  | 20 => ⟨S2x2048x128, .f32⟩
  | 21 => ⟨S2x2048x128, .f32⟩
  | 22 => ⟨S_, .f32⟩
  | 23 => ⟨S2x2052x128, .f32⟩
  | 24 => ⟨S2x4x128, .f32⟩
  | 25 => ⟨S2x2048x128, .f32⟩
  | 26 => ⟨S2x2048x128, .f32⟩
  | 27 => ⟨S_, .f32⟩
  | 28 => ⟨S_, .f32⟩
  | 29 => ⟨S2x2048x128, .f32⟩
  | 30 => ⟨S2x2048x128, .f32⟩
  | 31 => ⟨S2x2048x128, .f32⟩
  | 32 => ⟨S2x2048x128, .f32⟩
  | 33 => ⟨S2x2048x128, .f32⟩
  | 34 => ⟨S2x2048x128, .f32⟩
  | 35 => ⟨S_, .f32⟩
  | 36 => ⟨S2x2050x128, .f32⟩
  | 37 => ⟨S2x2x128, .f32⟩
  | 38 => ⟨S2x2048x128, .f32⟩
  | 39 => ⟨S2x2048x128, .f32⟩
  | 40 => ⟨S_, .f32⟩
  | 41 => ⟨S_, .f32⟩
  | 42 => ⟨S2x2048x128, .f32⟩
  | 43 => ⟨S2x2048x128, .f32⟩
  | 44 => ⟨S2x2048x512, .f32⟩
  | 45 => ⟨S1x512, .f32⟩
  | 46 => ⟨S_, .f32⟩
  | 47 => ⟨S2x2048x1536, .f32⟩
  | 48 => ⟨S2x2048x512, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S512, .f32⟩
  | 55 => ⟨S1x1x512, .f32⟩
  | 56 => ⟨S_, .f32⟩
  | 57 => ⟨S512, .f32⟩
  | 58 => ⟨S_, .f32⟩
  | 59 => ⟨S2x2078x512, .f32⟩
  | 60 => ⟨S1x512, .f32⟩
  | 61 => ⟨S_, .f32⟩
  | 62 => ⟨S31x512, .f32⟩
  | 63 => ⟨S2x2048x512, .f32⟩
  | 64 => ⟨S2x2048x512, .f32⟩
  | 65 => ⟨S2x2048x512, .f32⟩
  | 66 => ⟨S_, .f32⟩
  | 67 => ⟨S512, .f32⟩
  | 68 => ⟨S1x1x512, .f32⟩
  | 69 => ⟨S_, .f32⟩
  | 70 => ⟨S512, .f32⟩
  | 71 => ⟨S_, .f32⟩
  | 72 => ⟨S2x2078x512, .f32⟩
  | 73 => ⟨S2x2078x512, .f32⟩
  | 74 => ⟨S1x512, .f32⟩
  | 75 => ⟨S_, .f32⟩
  | 76 => ⟨S31x512, .f32⟩
  | 77 => ⟨S31x512, .f32⟩
  | 78 => ⟨S2x2048x512, .f32⟩
  | 79 => ⟨S2x2048x512, .f32⟩
  | 80 => ⟨S2x2048x512, .f32⟩
  | 81 => ⟨S_, .f32⟩
  | 82 => ⟨S512, .f32⟩
  | 83 => ⟨S1x1x512, .f32⟩
  | 84 => ⟨S_, .f32⟩
  | 85 => ⟨S512, .f32⟩
  | 86 => ⟨S_, .f32⟩
  | 87 => ⟨S2x2078x512, .f32⟩
  | 88 => ⟨S2x2078x512, .f32⟩
  | 89 => ⟨S1x512, .f32⟩
  | 90 => ⟨S_, .f32⟩
  | 91 => ⟨S31x512, .f32⟩
  | 92 => ⟨S31x512, .f32⟩
  | 93 => ⟨S2x2048x512, .f32⟩
  | 94 => ⟨S2x2048x512, .f32⟩
  | 95 => ⟨S2x2048x512, .f32⟩
  | 96 => ⟨S_, .f32⟩
  | 97 => ⟨S512, .f32⟩
  | 98 => ⟨S1x1x512, .f32⟩
  | 99 => ⟨S_, .f32⟩
  | 100 => ⟨S512, .f32⟩
  | 101 => ⟨S_, .f32⟩
  | 102 => ⟨S2x2078x512, .f32⟩
  | 103 => ⟨S2x2078x512, .f32⟩
  | 104 => ⟨S1x512, .f32⟩
  | 105 => ⟨S_, .f32⟩
  | 106 => ⟨S31x512, .f32⟩
  | 107 => ⟨S31x512, .f32⟩
  | 108 => ⟨S2x2048x512, .f32⟩
  | 109 => ⟨S2x2048x512, .f32⟩
  | 110 => ⟨S2x2048x512, .f32⟩
  | 111 => ⟨S_, .f32⟩
  | 112 => ⟨S512, .f32⟩
  | 113 => ⟨S1x1x512, .f32⟩
  | 114 => ⟨S_, .f32⟩
  | 115 => ⟨S512, .f32⟩
  | 116 => ⟨S_, .f32⟩
  | 117 => ⟨S2x2078x512, .f32⟩
  | 118 => ⟨S2x2078x512, .f32⟩
  | 119 => ⟨S1x512, .f32⟩
  | 120 => ⟨S_, .f32⟩
  | 121 => ⟨S31x512, .f32⟩
  | 122 => ⟨S31x512, .f32⟩
  | 123 => ⟨S2x2048x512, .f32⟩
  | 124 => ⟨S2x2048x512, .f32⟩
  | 125 => ⟨S2x2048x512, .f32⟩
  | 126 => ⟨S_, .f32⟩
  | 127 => ⟨S512, .f32⟩
  | _ => ⟨S2x2048x1536, .f32⟩

abbrev hbmTy0_4 (i : Nat) : BufTy := match i % 128 with
  | 0 => ⟨S1x1x512, .f32⟩
  | 1 => ⟨S_, .f32⟩
  | 2 => ⟨S512, .f32⟩
  | 3 => ⟨S_, .f32⟩
  | 4 => ⟨S2x2078x512, .f32⟩
  | 5 => ⟨S2x2078x512, .f32⟩
  | 6 => ⟨S1x512, .f32⟩
  | 7 => ⟨S_, .f32⟩
  | 8 => ⟨S31x512, .f32⟩
  | 9 => ⟨S31x512, .f32⟩
  | 10 => ⟨S2x2048x512, .f32⟩
  | 11 => ⟨S2x2048x512, .f32⟩
  | 12 => ⟨S2x2048x512, .f32⟩
  | 13 => ⟨S_, .f32⟩
  | 14 => ⟨S512, .f32⟩
  | 15 => ⟨S1x1x512, .f32⟩
  | 16 => ⟨S_, .f32⟩
  | 17 => ⟨S512, .f32⟩
  | 18 => ⟨S_, .f32⟩
  | 19 => ⟨S2x2078x512, .f32⟩
  | 20 => ⟨S2x2078x512, .f32⟩
  | 21 => ⟨S1x512, .f32⟩
  | 22 => ⟨S_, .f32⟩
  | 23 => ⟨S31x512, .f32⟩
  | 24 => ⟨S31x512, .f32⟩
  | 25 => ⟨S2x2048x512, .f32⟩
  | 26 => ⟨S2x2048x512, .f32⟩
  | 27 => ⟨S2x2048x512, .f32⟩
  | 28 => ⟨S_, .f32⟩
  | 29 => ⟨S512, .f32⟩
  | 30 => ⟨S1x1x512, .f32⟩
  | 31 => ⟨S_, .f32⟩
  | 32 => ⟨S512, .f32⟩
  | 33 => ⟨S_, .f32⟩
  | 34 => ⟨S2x2078x512, .f32⟩
  | 35 => ⟨S2x2078x512, .f32⟩
  | 36 => ⟨S1x512, .f32⟩
  | 37 => ⟨S_, .f32⟩
  | 38 => ⟨S31x512, .f32⟩
  | 39 => ⟨S31x512, .f32⟩
  | 40 => ⟨S2x2048x512, .f32⟩
  | 41 => ⟨S2x2048x512, .f32⟩
  | 42 => ⟨S2x2048x512, .f32⟩
  | 43 => ⟨S_, .f32⟩
  | 44 => ⟨S512, .f32⟩
  | 45 => ⟨S1x1x512, .f32⟩
  | 46 => ⟨S_, .f32⟩
  | 47 => ⟨S512, .f32⟩
  | 48 => ⟨S_, .f32⟩
  | 49 => ⟨S2x2078x512, .f32⟩
  | 50 => ⟨S2x2078x512, .f32⟩
  | 51 => ⟨S1x512, .f32⟩
  | 52 => ⟨S_, .f32⟩
  | 53 => ⟨S31x512, .f32⟩
  | 54 => ⟨S31x512, .f32⟩
  | 55 => ⟨S2x2048x512, .f32⟩
  | 56 => ⟨S2x2048x512, .f32⟩
  | 57 => ⟨S2x2048x512, .f32⟩
  | 58 => ⟨S_, .f32⟩
  | 59 => ⟨S512, .f32⟩
  | 60 => ⟨S1x1x512, .f32⟩
  | 61 => ⟨S_, .f32⟩
  | 62 => ⟨S512, .f32⟩
  | 63 => ⟨S_, .f32⟩
  | 64 => ⟨S2x2078x512, .f32⟩
  | 65 => ⟨S2x2078x512, .f32⟩
  | 66 => ⟨S1x512, .f32⟩
  | 67 => ⟨S_, .f32⟩
  | 68 => ⟨S31x512, .f32⟩
  | 69 => ⟨S31x512, .f32⟩
  | 70 => ⟨S2x2048x512, .f32⟩
  | 71 => ⟨S2x2048x512, .f32⟩
  | 72 => ⟨S2x2048x512, .f32⟩
  | 73 => ⟨S_, .f32⟩
  | 74 => ⟨S512, .f32⟩
  | 75 => ⟨S1x1x512, .f32⟩
  | 76 => ⟨S_, .f32⟩
  | 77 => ⟨S512, .f32⟩
  | 78 => ⟨S_, .f32⟩
  | 79 => ⟨S2x2078x512, .f32⟩
  | 80 => ⟨S2x2078x512, .f32⟩
  | 81 => ⟨S1x512, .f32⟩
  | 82 => ⟨S_, .f32⟩
  | 83 => ⟨S31x512, .f32⟩
  | 84 => ⟨S31x512, .f32⟩
  | 85 => ⟨S2x2048x512, .f32⟩
  | 86 => ⟨S2x2048x512, .f32⟩
  | 87 => ⟨S2x2048x512, .f32⟩
  | 88 => ⟨S_, .f32⟩
  | 89 => ⟨S512, .f32⟩
  | 90 => ⟨S1x1x512, .f32⟩
  | 91 => ⟨S_, .f32⟩
  | 92 => ⟨S512, .f32⟩
  | 93 => ⟨S_, .f32⟩
  | 94 => ⟨S2x2078x512, .f32⟩
  | 95 => ⟨S2x2078x512, .f32⟩
  | 96 => ⟨S1x512, .f32⟩
  | 97 => ⟨S_, .f32⟩
  | 98 => ⟨S31x512, .f32⟩
  | 99 => ⟨S31x512, .f32⟩
  | 100 => ⟨S2x2048x512, .f32⟩
  | 101 => ⟨S2x2048x512, .f32⟩
  | 102 => ⟨S2x2048x512, .f32⟩
  | 103 => ⟨S_, .f32⟩
  | 104 => ⟨S512, .f32⟩
  | 105 => ⟨S1x1x512, .f32⟩
  | 106 => ⟨S_, .f32⟩
  | 107 => ⟨S512, .f32⟩
  | 108 => ⟨S_, .f32⟩
  | 109 => ⟨S2x2078x512, .f32⟩
  | 110 => ⟨S2x2078x512, .f32⟩
  | 111 => ⟨S1x512, .f32⟩
  | 112 => ⟨S_, .f32⟩
  | 113 => ⟨S31x512, .f32⟩
  | 114 => ⟨S31x512, .f32⟩
  | 115 => ⟨S2x2048x512, .f32⟩
  | 116 => ⟨S2x2048x512, .f32⟩
  | 117 => ⟨S2x2048x512, .f32⟩
  | 118 => ⟨S_, .f32⟩
  | 119 => ⟨S512, .f32⟩
  | 120 => ⟨S1x1x512, .f32⟩
  | 121 => ⟨S_, .f32⟩
  | 122 => ⟨S512, .f32⟩
  | 123 => ⟨S_, .f32⟩
  | 124 => ⟨S2x2078x512, .f32⟩
  | 125 => ⟨S2x2078x512, .f32⟩
  | 126 => ⟨S1x512, .f32⟩
  | 127 => ⟨S_, .f32⟩
  | _ => ⟨S2x2048x1536, .f32⟩

abbrev hbmTy0_5 (i : Nat) : BufTy := match i % 128 with
  | 0 => ⟨S31x512, .f32⟩
  | 1 => ⟨S31x512, .f32⟩
  | 2 => ⟨S2x2048x512, .f32⟩
  | 3 => ⟨S2x2048x512, .f32⟩
  | 4 => ⟨S2x2048x512, .f32⟩
  | 5 => ⟨S_, .f32⟩
  | 6 => ⟨S512, .f32⟩
  | 7 => ⟨S1x1x512, .f32⟩
  | 8 => ⟨S_, .f32⟩
  | 9 => ⟨S512, .f32⟩
  | 10 => ⟨S_, .f32⟩
  | 11 => ⟨S2x2078x512, .f32⟩
  | 12 => ⟨S2x2078x512, .f32⟩
  | 13 => ⟨S1x512, .f32⟩
  | 14 => ⟨S_, .f32⟩
  | 15 => ⟨S31x512, .f32⟩
  | 16 => ⟨S31x512, .f32⟩
  | 17 => ⟨S2x2048x512, .f32⟩
  | 18 => ⟨S2x2048x512, .f32⟩
  | 19 => ⟨S2x2048x512, .f32⟩
  | 20 => ⟨S_, .f32⟩
  | 21 => ⟨S512, .f32⟩
  | 22 => ⟨S1x1x512, .f32⟩
  | 23 => ⟨S_, .f32⟩
  | 24 => ⟨S512, .f32⟩
  | 25 => ⟨S_, .f32⟩
  | 26 => ⟨S2x2078x512, .f32⟩
  | 27 => ⟨S2x2078x512, .f32⟩
  | 28 => ⟨S1x512, .f32⟩
  | 29 => ⟨S_, .f32⟩
  | 30 => ⟨S31x512, .f32⟩
  | 31 => ⟨S31x512, .f32⟩
  | 32 => ⟨S2x2048x512, .f32⟩
  | 33 => ⟨S2x2048x512, .f32⟩
  | 34 => ⟨S2x2048x512, .f32⟩
  | 35 => ⟨S_, .f32⟩
  | 36 => ⟨S512, .f32⟩
  | 37 => ⟨S1x1x512, .f32⟩
  | 38 => ⟨S_, .f32⟩
  | 39 => ⟨S512, .f32⟩
  | 40 => ⟨S_, .f32⟩
  | 41 => ⟨S2x2078x512, .f32⟩
  | 42 => ⟨S2x2078x512, .f32⟩
  | 43 => ⟨S1x512, .f32⟩
  | 44 => ⟨S_, .f32⟩
  | 45 => ⟨S31x512, .f32⟩
  | 46 => ⟨S31x512, .f32⟩
  | 47 => ⟨S2x2048x512, .f32⟩
  | 48 => ⟨S2x2048x512, .f32⟩
  | 49 => ⟨S2x2048x512, .f32⟩
  | 50 => ⟨S_, .f32⟩
  | 51 => ⟨S512, .f32⟩
  | 52 => ⟨S1x1x512, .f32⟩
  | 53 => ⟨S_, .f32⟩
  | 54 => ⟨S512, .f32⟩
  | 55 => ⟨S_, .f32⟩
  | 56 => ⟨S2x2078x512, .f32⟩
  | 57 => ⟨S2x2078x512, .f32⟩
  | 58 => ⟨S1x512, .f32⟩
  | 59 => ⟨S_, .f32⟩
  | 60 => ⟨S31x512, .f32⟩
  | 61 => ⟨S31x512, .f32⟩
  | 62 => ⟨S2x2048x512, .f32⟩
  | 63 => ⟨S2x2048x512, .f32⟩
  | 64 => ⟨S2x2048x512, .f32⟩
  | 65 => ⟨S_, .f32⟩
  | 66 => ⟨S512, .f32⟩
  | 67 => ⟨S1x1x512, .f32⟩
  | 68 => ⟨S_, .f32⟩
  | 69 => ⟨S512, .f32⟩
  | 70 => ⟨S_, .f32⟩
  | 71 => ⟨S2x2078x512, .f32⟩
  | 72 => ⟨S2x2078x512, .f32⟩
  | 73 => ⟨S1x512, .f32⟩
  | 74 => ⟨S_, .f32⟩
  | 75 => ⟨S31x512, .f32⟩
  | 76 => ⟨S31x512, .f32⟩
  | 77 => ⟨S2x2048x512, .f32⟩
  | 78 => ⟨S2x2048x512, .f32⟩
  | 79 => ⟨S2x2048x512, .f32⟩
  | 80 => ⟨S_, .f32⟩
  | 81 => ⟨S512, .f32⟩
  | 82 => ⟨S1x1x512, .f32⟩
  | 83 => ⟨S_, .f32⟩
  | 84 => ⟨S512, .f32⟩
  | 85 => ⟨S_, .f32⟩
  | 86 => ⟨S2x2078x512, .f32⟩
  | 87 => ⟨S2x2078x512, .f32⟩
  | 88 => ⟨S1x512, .f32⟩
  | 89 => ⟨S_, .f32⟩
  | 90 => ⟨S31x512, .f32⟩
  | 91 => ⟨S31x512, .f32⟩
  | 92 => ⟨S2x2048x512, .f32⟩
  | 93 => ⟨S2x2048x512, .f32⟩
  | 94 => ⟨S2x2048x512, .f32⟩
  | 95 => ⟨S_, .f32⟩
  | 96 => ⟨S512, .f32⟩
  | 97 => ⟨S1x1x512, .f32⟩
  | 98 => ⟨S_, .f32⟩
  | 99 => ⟨S512, .f32⟩
  | 100 => ⟨S_, .f32⟩
  | 101 => ⟨S2x2078x512, .f32⟩
  | 102 => ⟨S2x2078x512, .f32⟩
  | 103 => ⟨S1x512, .f32⟩
  | 104 => ⟨S_, .f32⟩
  | 105 => ⟨S31x512, .f32⟩
  | 106 => ⟨S31x512, .f32⟩
  | 107 => ⟨S2x2048x512, .f32⟩
  | 108 => ⟨S2x2048x512, .f32⟩
  | 109 => ⟨S2x2048x512, .f32⟩
  | 110 => ⟨S_, .f32⟩
  | 111 => ⟨S512, .f32⟩
  | 112 => ⟨S1x1x512, .f32⟩
  | 113 => ⟨S_, .f32⟩
  | 114 => ⟨S512, .f32⟩
  | 115 => ⟨S_, .f32⟩
  | 116 => ⟨S2x2078x512, .f32⟩
  | 117 => ⟨S2x2078x512, .f32⟩
  | 118 => ⟨S1x512, .f32⟩
  | 119 => ⟨S_, .f32⟩
  | 120 => ⟨S31x512, .f32⟩
  | 121 => ⟨S31x512, .f32⟩
  | 122 => ⟨S2x2048x512, .f32⟩
  | 123 => ⟨S2x2048x512, .f32⟩
  | 124 => ⟨S2x2048x512, .f32⟩
  | 125 => ⟨S_, .f32⟩
  | 126 => ⟨S512, .f32⟩
  | 127 => ⟨S1x1x512, .f32⟩
  | _ => ⟨S2x2048x1536, .f32⟩

abbrev hbmTy0_6 (i : Nat) : BufTy := match i % 128 with
  | 0 => ⟨S_, .f32⟩
  | 1 => ⟨S512, .f32⟩
  | 2 => ⟨S_, .f32⟩
  | 3 => ⟨S2x2078x512, .f32⟩
  | 4 => ⟨S2x2078x512, .f32⟩
  | 5 => ⟨S1x512, .f32⟩
  | 6 => ⟨S_, .f32⟩
  | 7 => ⟨S31x512, .f32⟩
  | 8 => ⟨S31x512, .f32⟩
  | 9 => ⟨S2x2048x512, .f32⟩
  | 10 => ⟨S2x2048x512, .f32⟩
  | 11 => ⟨S2x2048x512, .f32⟩
  | 12 => ⟨S_, .f32⟩
  | 13 => ⟨S512, .f32⟩
  | 14 => ⟨S1x1x512, .f32⟩
  | 15 => ⟨S_, .f32⟩
  | 16 => ⟨S512, .f32⟩
  | 17 => ⟨S_, .f32⟩
  | 18 => ⟨S2x2078x512, .f32⟩
  | 19 => ⟨S2x2078x512, .f32⟩
  | 20 => ⟨S1x512, .f32⟩
  | 21 => ⟨S_, .f32⟩
  | 22 => ⟨S31x512, .f32⟩
  | 23 => ⟨S31x512, .f32⟩
  | 24 => ⟨S2x2048x512, .f32⟩
  | 25 => ⟨S2x2048x512, .f32⟩
  | 26 => ⟨S2x2048x512, .f32⟩
  | 27 => ⟨S_, .f32⟩
  | 28 => ⟨S512, .f32⟩
  | 29 => ⟨S1x1x512, .f32⟩
  | 30 => ⟨S_, .f32⟩
  | 31 => ⟨S512, .f32⟩
  | 32 => ⟨S_, .f32⟩
  | 33 => ⟨S2x2078x512, .f32⟩
  | 34 => ⟨S2x2078x512, .f32⟩
  | 35 => ⟨S1x512, .f32⟩
  | 36 => ⟨S_, .f32⟩
  | 37 => ⟨S31x512, .f32⟩
  | 38 => ⟨S31x512, .f32⟩
  | 39 => ⟨S2x2048x512, .f32⟩
  | 40 => ⟨S2x2048x512, .f32⟩
  | 41 => ⟨S2x2048x512, .f32⟩
  | 42 => ⟨S_, .f32⟩
  | 43 => ⟨S512, .f32⟩
  | 44 => ⟨S1x1x512, .f32⟩
  | 45 => ⟨S_, .f32⟩
  | 46 => ⟨S512, .f32⟩
  | 47 => ⟨S_, .f32⟩
  | 48 => ⟨S2x2078x512, .f32⟩
  | 49 => ⟨S2x2078x512, .f32⟩
  | 50 => ⟨S1x512, .f32⟩
  | 51 => ⟨S_, .f32⟩
  | 52 => ⟨S31x512, .f32⟩
  | 53 => ⟨S31x512, .f32⟩
  | 54 => ⟨S2x2048x512, .f32⟩
  | 55 => ⟨S2x2048x512, .f32⟩
  | 56 => ⟨S2x2048x512, .f32⟩
  | 57 => ⟨S_, .f32⟩
  | 58 => ⟨S512, .f32⟩
  | 59 => ⟨S1x1x512, .f32⟩
  | 60 => ⟨S_, .f32⟩
  | 61 => ⟨S512, .f32⟩
  | 62 => ⟨S_, .f32⟩
  | 63 => ⟨S2x2078x512, .f32⟩
  | 64 => ⟨S2x2078x512, .f32⟩
  | 65 => ⟨S1x512, .f32⟩
  | 66 => ⟨S_, .f32⟩
  | 67 => ⟨S31x512, .f32⟩
  | 68 => ⟨S31x512, .f32⟩
  | 69 => ⟨S2x2048x512, .f32⟩
  | 70 => ⟨S2x2048x512, .f32⟩
  | 71 => ⟨S2x2048x512, .f32⟩
  | 72 => ⟨S_, .f32⟩
  | 73 => ⟨S512, .f32⟩
  | 74 => ⟨S1x1x512, .f32⟩
  | 75 => ⟨S_, .f32⟩
  | 76 => ⟨S512, .f32⟩
  | 77 => ⟨S_, .f32⟩
  | 78 => ⟨S2x2078x512, .f32⟩
  | 79 => ⟨S2x2078x512, .f32⟩
  | 80 => ⟨S1x512, .f32⟩
  | 81 => ⟨S_, .f32⟩
  | 82 => ⟨S31x512, .f32⟩
  | 83 => ⟨S31x512, .f32⟩
  | 84 => ⟨S2x2048x512, .f32⟩
  | 85 => ⟨S2x2048x512, .f32⟩
  | 86 => ⟨S2x2048x512, .f32⟩
  | 87 => ⟨S_, .f32⟩
  | 88 => ⟨S512, .f32⟩
  | 89 => ⟨S1x1x512, .f32⟩
  | 90 => ⟨S_, .f32⟩
  | 91 => ⟨S512, .f32⟩
  | 92 => ⟨S_, .f32⟩
  | 93 => ⟨S2x2078x512, .f32⟩
  | 94 => ⟨S2x2078x512, .f32⟩
  | 95 => ⟨S1x512, .f32⟩
  | 96 => ⟨S_, .f32⟩
  | 97 => ⟨S31x512, .f32⟩
  | 98 => ⟨S31x512, .f32⟩
  | 99 => ⟨S2x2048x512, .f32⟩
  | 100 => ⟨S2x2048x512, .f32⟩
  | 101 => ⟨S2x2048x512, .f32⟩
  | 102 => ⟨S_, .f32⟩
  | 103 => ⟨S512, .f32⟩
  | 104 => ⟨S1x1x512, .f32⟩
  | 105 => ⟨S_, .f32⟩
  | 106 => ⟨S512, .f32⟩
  | 107 => ⟨S_, .f32⟩
  | 108 => ⟨S2x2078x512, .f32⟩
  | 109 => ⟨S2x2078x512, .f32⟩
  | 110 => ⟨S1x512, .f32⟩
  | 111 => ⟨S_, .f32⟩
  | 112 => ⟨S31x512, .f32⟩
  | 113 => ⟨S31x512, .f32⟩
  | 114 => ⟨S2x2048x512, .f32⟩
  | 115 => ⟨S2x2048x512, .f32⟩
  | 116 => ⟨S2x2048x512, .f32⟩
  | 117 => ⟨S_, .f32⟩
  | 118 => ⟨S512, .f32⟩
  | 119 => ⟨S1x1x512, .f32⟩
  | 120 => ⟨S_, .f32⟩
  | 121 => ⟨S512, .f32⟩
  | 122 => ⟨S_, .f32⟩
  | 123 => ⟨S2x2078x512, .f32⟩
  | 124 => ⟨S2x2078x512, .f32⟩
  | 125 => ⟨S1x512, .f32⟩
  | 126 => ⟨S_, .f32⟩
  | 127 => ⟨S31x512, .f32⟩
  | _ => ⟨S2x2048x1536, .f32⟩

abbrev hbmTy0_7 (i : Nat) : BufTy := match i % 128 with
  | 0 => ⟨S31x512, .f32⟩
  | 1 => ⟨S2x30x512, .f32⟩
  | 2 => ⟨S2x2048x512, .f32⟩
  | 3 => ⟨S2x2048x512, .f32⟩
  | 4 => ⟨S2x2048x512, .f32⟩
  | 5 => ⟨S2x2048x512, .f32⟩
  | 6 => ⟨S2x2048x1024, .f32⟩
  | 7 => ⟨S_, .f32⟩
  | 8 => ⟨S2x2048x1536, .f32⟩
  | 9 => ⟨S2x2048x1536, .f32⟩
  | 10 => ⟨S4096x1536, .f32⟩
  | 11 => ⟨S4096x1536, .bf16⟩
  | 12 => ⟨S_, .f32⟩
  | 13 => ⟨S1x512, .f32⟩
  | 14 => ⟨S32x512, .f32⟩
  | 15 => ⟨S_, .f32⟩
  | 16 => ⟨S7x512, .f32⟩
  | 17 => ⟨S8x512, .f32⟩
  | _ => ⟨S2x2048x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x2048x1536, .f32⟩

abbrev bufTy : (tb : Table) → Fin (tcTables nBuf tb) → BufTy
  | .hbm, ⟨i, _⟩ => hbmTy i
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_call0_call0_cst : Ref sig .tc := ⟨.hbm, 254, rfl⟩
abbrev main_call0_call0_v0 : Ref sig .tc := ⟨.hbm, 255, rfl⟩
abbrev main_v242 : Ref sig .tc := ⟨.hbm, 256, rfl⟩
abbrev main_v243 : Ref sig .tc := ⟨.hbm, 257, rfl⟩
abbrev main_cst_5 : Ref sig .tc := ⟨.hbm, 258, rfl⟩
abbrev main_v244 : Ref sig .tc := ⟨.hbm, 259, rfl⟩
abbrev main_v245 : Ref sig .tc := ⟨.hbm, 260, rfl⟩
abbrev main_cst_6 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_cst_7 : Ref sig .tc := ⟨.hbm, 265, rfl⟩
abbrev main_v249 : Ref sig .tc := ⟨.hbm, 266, rfl⟩
abbrev main_v250 : Ref sig .tc := ⟨.hbm, 267, rfl⟩
abbrev main_cst_8 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_call1_call0_cst : Ref sig .tc := ⟨.hbm, 276, rfl⟩
abbrev main_call1_call0_v0 : Ref sig .tc := ⟨.hbm, 277, rfl⟩
abbrev main_v258 : Ref sig .tc := ⟨.hbm, 278, rfl⟩
abbrev main_v259 : Ref sig .tc := ⟨.hbm, 279, rfl⟩
abbrev main_cst_9 : Ref sig .tc := ⟨.hbm, 280, rfl⟩
abbrev main_v260 : Ref sig .tc := ⟨.hbm, 281, rfl⟩
abbrev main_v261 : Ref sig .tc := ⟨.hbm, 282, rfl⟩
abbrev main_cst_10 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_cst_11 : Ref sig .tc := ⟨.hbm, 287, rfl⟩
abbrev main_v265 : Ref sig .tc := ⟨.hbm, 288, rfl⟩
abbrev main_v266 : Ref sig .tc := ⟨.hbm, 289, rfl⟩
abbrev main_cst_12 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_call2_call0_cst : Ref sig .tc := ⟨.hbm, 298, rfl⟩
abbrev main_call2_call0_v0 : Ref sig .tc := ⟨.hbm, 299, rfl⟩
abbrev main_v274 : Ref sig .tc := ⟨.hbm, 300, rfl⟩
abbrev main_v275 : Ref sig .tc := ⟨.hbm, 301, rfl⟩
abbrev main_cst_13 : Ref sig .tc := ⟨.hbm, 302, rfl⟩
abbrev main_v276 : Ref sig .tc := ⟨.hbm, 303, rfl⟩
abbrev main_v277 : Ref sig .tc := ⟨.hbm, 304, rfl⟩
abbrev main_cst_14 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_cst_15 : Ref sig .tc := ⟨.hbm, 309, rfl⟩
abbrev main_v281 : Ref sig .tc := ⟨.hbm, 310, rfl⟩
abbrev main_v282 : Ref sig .tc := ⟨.hbm, 311, rfl⟩
abbrev main_cst_16 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_call3_call0_cst : Ref sig .tc := ⟨.hbm, 320, rfl⟩
abbrev main_call3_call0_v0 : Ref sig .tc := ⟨.hbm, 321, rfl⟩
abbrev main_v290 : Ref sig .tc := ⟨.hbm, 322, rfl⟩
abbrev main_v291 : Ref sig .tc := ⟨.hbm, 323, rfl⟩
abbrev main_cst_17 : Ref sig .tc := ⟨.hbm, 324, rfl⟩
abbrev main_v292 : Ref sig .tc := ⟨.hbm, 325, rfl⟩
abbrev main_v293 : Ref sig .tc := ⟨.hbm, 326, rfl⟩
abbrev main_cst_18 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_cst_19 : Ref sig .tc := ⟨.hbm, 331, rfl⟩
abbrev main_v297 : Ref sig .tc := ⟨.hbm, 332, rfl⟩
abbrev main_v298 : Ref sig .tc := ⟨.hbm, 333, rfl⟩
abbrev main_cst_20 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_cst_21 : Ref sig .tc := ⟨.hbm, 355, rfl⟩
abbrev main_v319 : Ref sig .tc := ⟨.hbm, 356, rfl⟩
abbrev main_v320 : Ref sig .tc := ⟨.hbm, 357, rfl⟩
abbrev main_v321 : Ref sig .tc := ⟨.hbm, 358, rfl⟩
abbrev main_v322 : Ref sig .tc := ⟨.hbm, 359, rfl⟩
abbrev main_cst_22 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩
abbrev main_v328 : Ref sig .tc := ⟨.hbm, 366, rfl⟩
abbrev main_v329 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_v341 : Ref sig .tc := ⟨.hbm, 379, rfl⟩
abbrev main_cst_23 : Ref sig .tc := ⟨.hbm, 380, rfl⟩
abbrev main_v342 : Ref sig .tc := ⟨.hbm, 381, rfl⟩
abbrev main_v343 : Ref sig .tc := ⟨.hbm, 382, rfl⟩
abbrev main_v344 : Ref sig .tc := ⟨.hbm, 383, rfl⟩
abbrev main_v345 : Ref sig .tc := ⟨.hbm, 384, rfl⟩
abbrev main_call4_call0_cst : Ref sig .tc := ⟨.hbm, 385, rfl⟩
abbrev main_call4_call0_v0 : Ref sig .tc := ⟨.hbm, 386, rfl⟩
abbrev main_v346 : Ref sig .tc := ⟨.hbm, 387, rfl⟩
abbrev main_v347 : Ref sig .tc := ⟨.hbm, 388, rfl⟩
abbrev main_v348 : Ref sig .tc := ⟨.hbm, 389, rfl⟩
abbrev main_v349 : Ref sig .tc := ⟨.hbm, 390, rfl⟩
abbrev main_v350 : Ref sig .tc := ⟨.hbm, 391, rfl⟩
abbrev main_v351 : Ref sig .tc := ⟨.hbm, 392, rfl⟩
abbrev main_cst_24 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_v355 : Ref sig .tc := ⟨.hbm, 397, rfl⟩
abbrev main_call5_call0_cst : Ref sig .tc := ⟨.hbm, 398, rfl⟩
abbrev main_call5_call0_v0 : Ref sig .tc := ⟨.hbm, 399, rfl⟩
abbrev main_v356 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_cst_25 : Ref sig .tc := ⟨.hbm, 406, rfl⟩
abbrev main_v362 : Ref sig .tc := ⟨.hbm, 407, rfl⟩
abbrev main_v363 : Ref sig .tc := ⟨.hbm, 408, rfl⟩
abbrev main_v364 : Ref sig .tc := ⟨.hbm, 409, rfl⟩
abbrev main_v365 : Ref sig .tc := ⟨.hbm, 410, rfl⟩
abbrev main_call6_call0_cst : Ref sig .tc := ⟨.hbm, 411, rfl⟩
abbrev main_call6_call0_v0 : Ref sig .tc := ⟨.hbm, 412, rfl⟩
abbrev main_v366 : Ref sig .tc := ⟨.hbm, 413, rfl⟩
abbrev main_v367 : Ref sig .tc := ⟨.hbm, 414, rfl⟩
abbrev main_v368 : Ref sig .tc := ⟨.hbm, 415, rfl⟩
abbrev main_v369 : Ref sig .tc := ⟨.hbm, 416, rfl⟩
abbrev main_v370 : Ref sig .tc := ⟨.hbm, 417, rfl⟩
abbrev main_v371 : Ref sig .tc := ⟨.hbm, 418, rfl⟩
abbrev main_cst_26 : Ref sig .tc := ⟨.hbm, 419, rfl⟩
abbrev main_v372 : Ref sig .tc := ⟨.hbm, 420, rfl⟩
abbrev main_v373 : Ref sig .tc := ⟨.hbm, 421, rfl⟩
abbrev main_v374 : Ref sig .tc := ⟨.hbm, 422, rfl⟩
abbrev main_v375 : Ref sig .tc := ⟨.hbm, 423, rfl⟩
abbrev main_call7_call0_cst : Ref sig .tc := ⟨.hbm, 424, rfl⟩
abbrev main_call7_call0_v0 : Ref sig .tc := ⟨.hbm, 425, rfl⟩
abbrev main_v376 : Ref sig .tc := ⟨.hbm, 426, rfl⟩
abbrev main_v377 : Ref sig .tc := ⟨.hbm, 427, rfl⟩
abbrev main_v378 : Ref sig .tc := ⟨.hbm, 428, rfl⟩
abbrev main_v379 : Ref sig .tc := ⟨.hbm, 429, rfl⟩
abbrev main_cst_27 : Ref sig .tc := ⟨.hbm, 430, rfl⟩
abbrev main_v380 : Ref sig .tc := ⟨.hbm, 431, rfl⟩
abbrev main_v381 : Ref sig .tc := ⟨.hbm, 432, rfl⟩
abbrev main_v382 : Ref sig .tc := ⟨.hbm, 433, rfl⟩
abbrev main_v383 : Ref sig .tc := ⟨.hbm, 434, rfl⟩
abbrev main_v384 : Ref sig .tc := ⟨.hbm, 435, rfl⟩
abbrev main_v385 : Ref sig .tc := ⟨.hbm, 436, rfl⟩
abbrev main_cst_28 : Ref sig .tc := ⟨.hbm, 437, rfl⟩
abbrev main_v386 : Ref sig .tc := ⟨.hbm, 438, rfl⟩
abbrev main_v387 : Ref sig .tc := ⟨.hbm, 439, rfl⟩
abbrev main_cst_29 : Ref sig .tc := ⟨.hbm, 440, rfl⟩
abbrev main_v388 : Ref sig .tc := ⟨.hbm, 441, rfl⟩
abbrev main_cst_30 : Ref sig .tc := ⟨.hbm, 442, rfl⟩
abbrev main_v389 : Ref sig .tc := ⟨.hbm, 443, rfl⟩
abbrev main_v390 : Ref sig .tc := ⟨.hbm, 444, rfl⟩
abbrev main_cst_31 : Ref sig .tc := ⟨.hbm, 445, rfl⟩
abbrev main_v391 : Ref sig .tc := ⟨.hbm, 446, rfl⟩
abbrev main_v392 : Ref sig .tc := ⟨.hbm, 447, rfl⟩
abbrev main_v393 : Ref sig .tc := ⟨.hbm, 448, rfl⟩
abbrev main_v394 : Ref sig .tc := ⟨.hbm, 449, rfl⟩
abbrev main_cst_32 : Ref sig .tc := ⟨.hbm, 450, rfl⟩
abbrev main_v395 : Ref sig .tc := ⟨.hbm, 451, rfl⟩
abbrev main_v396 : Ref sig .tc := ⟨.hbm, 452, rfl⟩
abbrev main_cst_33 : Ref sig .tc := ⟨.hbm, 453, rfl⟩
abbrev main_v397 : Ref sig .tc := ⟨.hbm, 454, rfl⟩
abbrev main_cst_34 : Ref sig .tc := ⟨.hbm, 455, rfl⟩
abbrev main_v398 : Ref sig .tc := ⟨.hbm, 456, rfl⟩
abbrev main_v399 : Ref sig .tc := ⟨.hbm, 457, rfl⟩
abbrev main_v400 : Ref sig .tc := ⟨.hbm, 458, rfl⟩
abbrev main_cst_35 : Ref sig .tc := ⟨.hbm, 459, rfl⟩
abbrev main_v401 : Ref sig .tc := ⟨.hbm, 460, rfl⟩
abbrev main_v402 : Ref sig .tc := ⟨.hbm, 461, rfl⟩
abbrev main_v403 : Ref sig .tc := ⟨.hbm, 462, rfl⟩
abbrev main_v404 : Ref sig .tc := ⟨.hbm, 463, rfl⟩
abbrev main_v405 : Ref sig .tc := ⟨.hbm, 464, rfl⟩
abbrev main_cst_36 : Ref sig .tc := ⟨.hbm, 465, rfl⟩
abbrev main_v406 : Ref sig .tc := ⟨.hbm, 466, rfl⟩
abbrev main_v407 : Ref sig .tc := ⟨.hbm, 467, rfl⟩
abbrev main_cst_37 : Ref sig .tc := ⟨.hbm, 468, rfl⟩
abbrev main_v408 : Ref sig .tc := ⟨.hbm, 469, rfl⟩
abbrev main_cst_38 : Ref sig .tc := ⟨.hbm, 470, rfl⟩
abbrev main_v409 : Ref sig .tc := ⟨.hbm, 471, rfl⟩
abbrev main_v410 : Ref sig .tc := ⟨.hbm, 472, rfl⟩
abbrev main_v411 : Ref sig .tc := ⟨.hbm, 473, rfl⟩
abbrev main_cst_39 : Ref sig .tc := ⟨.hbm, 474, rfl⟩
abbrev main_v412 : Ref sig .tc := ⟨.hbm, 475, rfl⟩
abbrev main_v413 : Ref sig .tc := ⟨.hbm, 476, rfl⟩
abbrev main_v414 : Ref sig .tc := ⟨.hbm, 477, rfl⟩
abbrev main_v415 : Ref sig .tc := ⟨.hbm, 478, rfl⟩
abbrev main_v416 : Ref sig .tc := ⟨.hbm, 479, rfl⟩
abbrev main_cst_40 : Ref sig .tc := ⟨.hbm, 480, rfl⟩
abbrev main_v417 : Ref sig .tc := ⟨.hbm, 481, rfl⟩
abbrev main_v418 : Ref sig .tc := ⟨.hbm, 482, rfl⟩
abbrev main_cst_41 : Ref sig .tc := ⟨.hbm, 483, rfl⟩
abbrev main_v419 : Ref sig .tc := ⟨.hbm, 484, rfl⟩
abbrev main_cst_42 : Ref sig .tc := ⟨.hbm, 485, rfl⟩
abbrev main_v420 : Ref sig .tc := ⟨.hbm, 486, rfl⟩
abbrev main_v421 : Ref sig .tc := ⟨.hbm, 487, rfl⟩
abbrev main_v422 : Ref sig .tc := ⟨.hbm, 488, rfl⟩
abbrev main_cst_43 : Ref sig .tc := ⟨.hbm, 489, rfl⟩
abbrev main_v423 : Ref sig .tc := ⟨.hbm, 490, rfl⟩
abbrev main_v424 : Ref sig .tc := ⟨.hbm, 491, rfl⟩
abbrev main_v425 : Ref sig .tc := ⟨.hbm, 492, rfl⟩
abbrev main_v426 : Ref sig .tc := ⟨.hbm, 493, rfl⟩
abbrev main_v427 : Ref sig .tc := ⟨.hbm, 494, rfl⟩
abbrev main_cst_44 : Ref sig .tc := ⟨.hbm, 495, rfl⟩
abbrev main_v428 : Ref sig .tc := ⟨.hbm, 496, rfl⟩
abbrev main_v429 : Ref sig .tc := ⟨.hbm, 497, rfl⟩
abbrev main_cst_45 : Ref sig .tc := ⟨.hbm, 498, rfl⟩
abbrev main_v430 : Ref sig .tc := ⟨.hbm, 499, rfl⟩
abbrev main_cst_46 : Ref sig .tc := ⟨.hbm, 500, rfl⟩
abbrev main_v431 : Ref sig .tc := ⟨.hbm, 501, rfl⟩
abbrev main_v432 : Ref sig .tc := ⟨.hbm, 502, rfl⟩
abbrev main_v433 : Ref sig .tc := ⟨.hbm, 503, rfl⟩
abbrev main_cst_47 : Ref sig .tc := ⟨.hbm, 504, rfl⟩
abbrev main_v434 : Ref sig .tc := ⟨.hbm, 505, rfl⟩
abbrev main_v435 : Ref sig .tc := ⟨.hbm, 506, rfl⟩
abbrev main_v436 : Ref sig .tc := ⟨.hbm, 507, rfl⟩
abbrev main_v437 : Ref sig .tc := ⟨.hbm, 508, rfl⟩
abbrev main_v438 : Ref sig .tc := ⟨.hbm, 509, rfl⟩
abbrev main_cst_48 : Ref sig .tc := ⟨.hbm, 510, rfl⟩
abbrev main_v439 : Ref sig .tc := ⟨.hbm, 511, rfl⟩
abbrev main_v440 : Ref sig .tc := ⟨.hbm, 512, rfl⟩
abbrev main_cst_49 : Ref sig .tc := ⟨.hbm, 513, rfl⟩
abbrev main_v441 : Ref sig .tc := ⟨.hbm, 514, rfl⟩
abbrev main_cst_50 : Ref sig .tc := ⟨.hbm, 515, rfl⟩
abbrev main_v442 : Ref sig .tc := ⟨.hbm, 516, rfl⟩
abbrev main_v443 : Ref sig .tc := ⟨.hbm, 517, rfl⟩
abbrev main_v444 : Ref sig .tc := ⟨.hbm, 518, rfl⟩
abbrev main_cst_51 : Ref sig .tc := ⟨.hbm, 519, rfl⟩
abbrev main_v445 : Ref sig .tc := ⟨.hbm, 520, rfl⟩
abbrev main_v446 : Ref sig .tc := ⟨.hbm, 521, rfl⟩
abbrev main_v447 : Ref sig .tc := ⟨.hbm, 522, rfl⟩
abbrev main_v448 : Ref sig .tc := ⟨.hbm, 523, rfl⟩
abbrev main_v449 : Ref sig .tc := ⟨.hbm, 524, rfl⟩
abbrev main_cst_52 : Ref sig .tc := ⟨.hbm, 525, rfl⟩
abbrev main_v450 : Ref sig .tc := ⟨.hbm, 526, rfl⟩
abbrev main_v451 : Ref sig .tc := ⟨.hbm, 527, rfl⟩
abbrev main_cst_53 : Ref sig .tc := ⟨.hbm, 528, rfl⟩
abbrev main_v452 : Ref sig .tc := ⟨.hbm, 529, rfl⟩
abbrev main_cst_54 : Ref sig .tc := ⟨.hbm, 530, rfl⟩
abbrev main_v453 : Ref sig .tc := ⟨.hbm, 531, rfl⟩
abbrev main_v454 : Ref sig .tc := ⟨.hbm, 532, rfl⟩
abbrev main_v455 : Ref sig .tc := ⟨.hbm, 533, rfl⟩
abbrev main_cst_55 : Ref sig .tc := ⟨.hbm, 534, rfl⟩
abbrev main_v456 : Ref sig .tc := ⟨.hbm, 535, rfl⟩
abbrev main_v457 : Ref sig .tc := ⟨.hbm, 536, rfl⟩
abbrev main_v458 : Ref sig .tc := ⟨.hbm, 537, rfl⟩
abbrev main_v459 : Ref sig .tc := ⟨.hbm, 538, rfl⟩
abbrev main_v460 : Ref sig .tc := ⟨.hbm, 539, rfl⟩
abbrev main_cst_56 : Ref sig .tc := ⟨.hbm, 540, rfl⟩
abbrev main_v461 : Ref sig .tc := ⟨.hbm, 541, rfl⟩
abbrev main_v462 : Ref sig .tc := ⟨.hbm, 542, rfl⟩
abbrev main_cst_57 : Ref sig .tc := ⟨.hbm, 543, rfl⟩
abbrev main_v463 : Ref sig .tc := ⟨.hbm, 544, rfl⟩
abbrev main_cst_58 : Ref sig .tc := ⟨.hbm, 545, rfl⟩
abbrev main_v464 : Ref sig .tc := ⟨.hbm, 546, rfl⟩
abbrev main_v465 : Ref sig .tc := ⟨.hbm, 547, rfl⟩
abbrev main_v466 : Ref sig .tc := ⟨.hbm, 548, rfl⟩
abbrev main_cst_59 : Ref sig .tc := ⟨.hbm, 549, rfl⟩
abbrev main_v467 : Ref sig .tc := ⟨.hbm, 550, rfl⟩
abbrev main_v468 : Ref sig .tc := ⟨.hbm, 551, rfl⟩
abbrev main_v469 : Ref sig .tc := ⟨.hbm, 552, rfl⟩
abbrev main_v470 : Ref sig .tc := ⟨.hbm, 553, rfl⟩
abbrev main_v471 : Ref sig .tc := ⟨.hbm, 554, rfl⟩
abbrev main_cst_60 : Ref sig .tc := ⟨.hbm, 555, rfl⟩
abbrev main_v472 : Ref sig .tc := ⟨.hbm, 556, rfl⟩
abbrev main_v473 : Ref sig .tc := ⟨.hbm, 557, rfl⟩
abbrev main_cst_61 : Ref sig .tc := ⟨.hbm, 558, rfl⟩
abbrev main_v474 : Ref sig .tc := ⟨.hbm, 559, rfl⟩
abbrev main_cst_62 : Ref sig .tc := ⟨.hbm, 560, rfl⟩
abbrev main_v475 : Ref sig .tc := ⟨.hbm, 561, rfl⟩
abbrev main_v476 : Ref sig .tc := ⟨.hbm, 562, rfl⟩
abbrev main_v477 : Ref sig .tc := ⟨.hbm, 563, rfl⟩
abbrev main_cst_63 : Ref sig .tc := ⟨.hbm, 564, rfl⟩
abbrev main_v478 : Ref sig .tc := ⟨.hbm, 565, rfl⟩
abbrev main_v479 : Ref sig .tc := ⟨.hbm, 566, rfl⟩
abbrev main_v480 : Ref sig .tc := ⟨.hbm, 567, rfl⟩
abbrev main_v481 : Ref sig .tc := ⟨.hbm, 568, rfl⟩
abbrev main_v482 : Ref sig .tc := ⟨.hbm, 569, rfl⟩
abbrev main_cst_64 : Ref sig .tc := ⟨.hbm, 570, rfl⟩
abbrev main_v483 : Ref sig .tc := ⟨.hbm, 571, rfl⟩
abbrev main_v484 : Ref sig .tc := ⟨.hbm, 572, rfl⟩
abbrev main_cst_65 : Ref sig .tc := ⟨.hbm, 573, rfl⟩
abbrev main_v485 : Ref sig .tc := ⟨.hbm, 574, rfl⟩
abbrev main_cst_66 : Ref sig .tc := ⟨.hbm, 575, rfl⟩
abbrev main_v486 : Ref sig .tc := ⟨.hbm, 576, rfl⟩
abbrev main_v487 : Ref sig .tc := ⟨.hbm, 577, rfl⟩
abbrev main_v488 : Ref sig .tc := ⟨.hbm, 578, rfl⟩
abbrev main_cst_67 : Ref sig .tc := ⟨.hbm, 579, rfl⟩
abbrev main_v489 : Ref sig .tc := ⟨.hbm, 580, rfl⟩
abbrev main_v490 : Ref sig .tc := ⟨.hbm, 581, rfl⟩
abbrev main_v491 : Ref sig .tc := ⟨.hbm, 582, rfl⟩
abbrev main_v492 : Ref sig .tc := ⟨.hbm, 583, rfl⟩
abbrev main_v493 : Ref sig .tc := ⟨.hbm, 584, rfl⟩
abbrev main_cst_68 : Ref sig .tc := ⟨.hbm, 585, rfl⟩
abbrev main_v494 : Ref sig .tc := ⟨.hbm, 586, rfl⟩
abbrev main_v495 : Ref sig .tc := ⟨.hbm, 587, rfl⟩
abbrev main_cst_69 : Ref sig .tc := ⟨.hbm, 588, rfl⟩
abbrev main_v496 : Ref sig .tc := ⟨.hbm, 589, rfl⟩
abbrev main_cst_70 : Ref sig .tc := ⟨.hbm, 590, rfl⟩
abbrev main_v497 : Ref sig .tc := ⟨.hbm, 591, rfl⟩
abbrev main_v498 : Ref sig .tc := ⟨.hbm, 592, rfl⟩
abbrev main_v499 : Ref sig .tc := ⟨.hbm, 593, rfl⟩
abbrev main_cst_71 : Ref sig .tc := ⟨.hbm, 594, rfl⟩
abbrev main_v500 : Ref sig .tc := ⟨.hbm, 595, rfl⟩
abbrev main_v501 : Ref sig .tc := ⟨.hbm, 596, rfl⟩
abbrev main_v502 : Ref sig .tc := ⟨.hbm, 597, rfl⟩
abbrev main_v503 : Ref sig .tc := ⟨.hbm, 598, rfl⟩
abbrev main_v504 : Ref sig .tc := ⟨.hbm, 599, rfl⟩
abbrev main_cst_72 : Ref sig .tc := ⟨.hbm, 600, rfl⟩
abbrev main_v505 : Ref sig .tc := ⟨.hbm, 601, rfl⟩
abbrev main_v506 : Ref sig .tc := ⟨.hbm, 602, rfl⟩
abbrev main_cst_73 : Ref sig .tc := ⟨.hbm, 603, rfl⟩
abbrev main_v507 : Ref sig .tc := ⟨.hbm, 604, rfl⟩
abbrev main_cst_74 : Ref sig .tc := ⟨.hbm, 605, rfl⟩
abbrev main_v508 : Ref sig .tc := ⟨.hbm, 606, rfl⟩
abbrev main_v509 : Ref sig .tc := ⟨.hbm, 607, rfl⟩
abbrev main_v510 : Ref sig .tc := ⟨.hbm, 608, rfl⟩
abbrev main_cst_75 : Ref sig .tc := ⟨.hbm, 609, rfl⟩
abbrev main_v511 : Ref sig .tc := ⟨.hbm, 610, rfl⟩
abbrev main_v512 : Ref sig .tc := ⟨.hbm, 611, rfl⟩
abbrev main_v513 : Ref sig .tc := ⟨.hbm, 612, rfl⟩
abbrev main_v514 : Ref sig .tc := ⟨.hbm, 613, rfl⟩
abbrev main_v515 : Ref sig .tc := ⟨.hbm, 614, rfl⟩
abbrev main_cst_76 : Ref sig .tc := ⟨.hbm, 615, rfl⟩
abbrev main_v516 : Ref sig .tc := ⟨.hbm, 616, rfl⟩
abbrev main_v517 : Ref sig .tc := ⟨.hbm, 617, rfl⟩
abbrev main_cst_77 : Ref sig .tc := ⟨.hbm, 618, rfl⟩
abbrev main_v518 : Ref sig .tc := ⟨.hbm, 619, rfl⟩
abbrev main_cst_78 : Ref sig .tc := ⟨.hbm, 620, rfl⟩
abbrev main_v519 : Ref sig .tc := ⟨.hbm, 621, rfl⟩
abbrev main_v520 : Ref sig .tc := ⟨.hbm, 622, rfl⟩
abbrev main_v521 : Ref sig .tc := ⟨.hbm, 623, rfl⟩
abbrev main_cst_79 : Ref sig .tc := ⟨.hbm, 624, rfl⟩
abbrev main_v522 : Ref sig .tc := ⟨.hbm, 625, rfl⟩
abbrev main_v523 : Ref sig .tc := ⟨.hbm, 626, rfl⟩
abbrev main_v524 : Ref sig .tc := ⟨.hbm, 627, rfl⟩
abbrev main_v525 : Ref sig .tc := ⟨.hbm, 628, rfl⟩
abbrev main_v526 : Ref sig .tc := ⟨.hbm, 629, rfl⟩
abbrev main_cst_80 : Ref sig .tc := ⟨.hbm, 630, rfl⟩
abbrev main_v527 : Ref sig .tc := ⟨.hbm, 631, rfl⟩
abbrev main_v528 : Ref sig .tc := ⟨.hbm, 632, rfl⟩
abbrev main_cst_81 : Ref sig .tc := ⟨.hbm, 633, rfl⟩
abbrev main_v529 : Ref sig .tc := ⟨.hbm, 634, rfl⟩
abbrev main_cst_82 : Ref sig .tc := ⟨.hbm, 635, rfl⟩
abbrev main_v530 : Ref sig .tc := ⟨.hbm, 636, rfl⟩
abbrev main_v531 : Ref sig .tc := ⟨.hbm, 637, rfl⟩
abbrev main_v532 : Ref sig .tc := ⟨.hbm, 638, rfl⟩
abbrev main_cst_83 : Ref sig .tc := ⟨.hbm, 639, rfl⟩
abbrev main_v533 : Ref sig .tc := ⟨.hbm, 640, rfl⟩
abbrev main_v534 : Ref sig .tc := ⟨.hbm, 641, rfl⟩
abbrev main_v535 : Ref sig .tc := ⟨.hbm, 642, rfl⟩
abbrev main_v536 : Ref sig .tc := ⟨.hbm, 643, rfl⟩
abbrev main_v537 : Ref sig .tc := ⟨.hbm, 644, rfl⟩
abbrev main_cst_84 : Ref sig .tc := ⟨.hbm, 645, rfl⟩
abbrev main_v538 : Ref sig .tc := ⟨.hbm, 646, rfl⟩
abbrev main_v539 : Ref sig .tc := ⟨.hbm, 647, rfl⟩
abbrev main_cst_85 : Ref sig .tc := ⟨.hbm, 648, rfl⟩
abbrev main_v540 : Ref sig .tc := ⟨.hbm, 649, rfl⟩
abbrev main_cst_86 : Ref sig .tc := ⟨.hbm, 650, rfl⟩
abbrev main_v541 : Ref sig .tc := ⟨.hbm, 651, rfl⟩
abbrev main_v542 : Ref sig .tc := ⟨.hbm, 652, rfl⟩
abbrev main_v543 : Ref sig .tc := ⟨.hbm, 653, rfl⟩
abbrev main_cst_87 : Ref sig .tc := ⟨.hbm, 654, rfl⟩
abbrev main_v544 : Ref sig .tc := ⟨.hbm, 655, rfl⟩
abbrev main_v545 : Ref sig .tc := ⟨.hbm, 656, rfl⟩
abbrev main_v546 : Ref sig .tc := ⟨.hbm, 657, rfl⟩
abbrev main_v547 : Ref sig .tc := ⟨.hbm, 658, rfl⟩
abbrev main_v548 : Ref sig .tc := ⟨.hbm, 659, rfl⟩
abbrev main_cst_88 : Ref sig .tc := ⟨.hbm, 660, rfl⟩
abbrev main_v549 : Ref sig .tc := ⟨.hbm, 661, rfl⟩
abbrev main_v550 : Ref sig .tc := ⟨.hbm, 662, rfl⟩
abbrev main_cst_89 : Ref sig .tc := ⟨.hbm, 663, rfl⟩
abbrev main_v551 : Ref sig .tc := ⟨.hbm, 664, rfl⟩
abbrev main_cst_90 : Ref sig .tc := ⟨.hbm, 665, rfl⟩
abbrev main_v552 : Ref sig .tc := ⟨.hbm, 666, rfl⟩
abbrev main_v553 : Ref sig .tc := ⟨.hbm, 667, rfl⟩
abbrev main_v554 : Ref sig .tc := ⟨.hbm, 668, rfl⟩
abbrev main_cst_91 : Ref sig .tc := ⟨.hbm, 669, rfl⟩
abbrev main_v555 : Ref sig .tc := ⟨.hbm, 670, rfl⟩
abbrev main_v556 : Ref sig .tc := ⟨.hbm, 671, rfl⟩
abbrev main_v557 : Ref sig .tc := ⟨.hbm, 672, rfl⟩
abbrev main_v558 : Ref sig .tc := ⟨.hbm, 673, rfl⟩
abbrev main_v559 : Ref sig .tc := ⟨.hbm, 674, rfl⟩
abbrev main_cst_92 : Ref sig .tc := ⟨.hbm, 675, rfl⟩
abbrev main_v560 : Ref sig .tc := ⟨.hbm, 676, rfl⟩
abbrev main_v561 : Ref sig .tc := ⟨.hbm, 677, rfl⟩
abbrev main_cst_93 : Ref sig .tc := ⟨.hbm, 678, rfl⟩
abbrev main_v562 : Ref sig .tc := ⟨.hbm, 679, rfl⟩
abbrev main_cst_94 : Ref sig .tc := ⟨.hbm, 680, rfl⟩
abbrev main_v563 : Ref sig .tc := ⟨.hbm, 681, rfl⟩
abbrev main_v564 : Ref sig .tc := ⟨.hbm, 682, rfl⟩
abbrev main_v565 : Ref sig .tc := ⟨.hbm, 683, rfl⟩
abbrev main_cst_95 : Ref sig .tc := ⟨.hbm, 684, rfl⟩
abbrev main_v566 : Ref sig .tc := ⟨.hbm, 685, rfl⟩
abbrev main_v567 : Ref sig .tc := ⟨.hbm, 686, rfl⟩
abbrev main_v568 : Ref sig .tc := ⟨.hbm, 687, rfl⟩
abbrev main_v569 : Ref sig .tc := ⟨.hbm, 688, rfl⟩
abbrev main_v570 : Ref sig .tc := ⟨.hbm, 689, rfl⟩
abbrev main_cst_96 : Ref sig .tc := ⟨.hbm, 690, rfl⟩
abbrev main_v571 : Ref sig .tc := ⟨.hbm, 691, rfl⟩
abbrev main_v572 : Ref sig .tc := ⟨.hbm, 692, rfl⟩
abbrev main_cst_97 : Ref sig .tc := ⟨.hbm, 693, rfl⟩
abbrev main_v573 : Ref sig .tc := ⟨.hbm, 694, rfl⟩
abbrev main_cst_98 : Ref sig .tc := ⟨.hbm, 695, rfl⟩
abbrev main_v574 : Ref sig .tc := ⟨.hbm, 696, rfl⟩
abbrev main_v575 : Ref sig .tc := ⟨.hbm, 697, rfl⟩
abbrev main_v576 : Ref sig .tc := ⟨.hbm, 698, rfl⟩
abbrev main_cst_99 : Ref sig .tc := ⟨.hbm, 699, rfl⟩
abbrev main_v577 : Ref sig .tc := ⟨.hbm, 700, rfl⟩
abbrev main_v578 : Ref sig .tc := ⟨.hbm, 701, rfl⟩
abbrev main_v579 : Ref sig .tc := ⟨.hbm, 702, rfl⟩
abbrev main_v580 : Ref sig .tc := ⟨.hbm, 703, rfl⟩
abbrev main_v581 : Ref sig .tc := ⟨.hbm, 704, rfl⟩
abbrev main_cst_100 : Ref sig .tc := ⟨.hbm, 705, rfl⟩
abbrev main_v582 : Ref sig .tc := ⟨.hbm, 706, rfl⟩
abbrev main_v583 : Ref sig .tc := ⟨.hbm, 707, rfl⟩
abbrev main_cst_101 : Ref sig .tc := ⟨.hbm, 708, rfl⟩
abbrev main_v584 : Ref sig .tc := ⟨.hbm, 709, rfl⟩
abbrev main_cst_102 : Ref sig .tc := ⟨.hbm, 710, rfl⟩
abbrev main_v585 : Ref sig .tc := ⟨.hbm, 711, rfl⟩
abbrev main_v586 : Ref sig .tc := ⟨.hbm, 712, rfl⟩
abbrev main_v587 : Ref sig .tc := ⟨.hbm, 713, rfl⟩
abbrev main_cst_103 : Ref sig .tc := ⟨.hbm, 714, rfl⟩
abbrev main_v588 : Ref sig .tc := ⟨.hbm, 715, rfl⟩
abbrev main_v589 : Ref sig .tc := ⟨.hbm, 716, rfl⟩
abbrev main_v590 : Ref sig .tc := ⟨.hbm, 717, rfl⟩
abbrev main_v591 : Ref sig .tc := ⟨.hbm, 718, rfl⟩
abbrev main_v592 : Ref sig .tc := ⟨.hbm, 719, rfl⟩
abbrev main_cst_104 : Ref sig .tc := ⟨.hbm, 720, rfl⟩
abbrev main_v593 : Ref sig .tc := ⟨.hbm, 721, rfl⟩
abbrev main_v594 : Ref sig .tc := ⟨.hbm, 722, rfl⟩
abbrev main_cst_105 : Ref sig .tc := ⟨.hbm, 723, rfl⟩
abbrev main_v595 : Ref sig .tc := ⟨.hbm, 724, rfl⟩
abbrev main_cst_106 : Ref sig .tc := ⟨.hbm, 725, rfl⟩
abbrev main_v596 : Ref sig .tc := ⟨.hbm, 726, rfl⟩
abbrev main_v597 : Ref sig .tc := ⟨.hbm, 727, rfl⟩
abbrev main_v598 : Ref sig .tc := ⟨.hbm, 728, rfl⟩
abbrev main_cst_107 : Ref sig .tc := ⟨.hbm, 729, rfl⟩
abbrev main_v599 : Ref sig .tc := ⟨.hbm, 730, rfl⟩
abbrev main_v600 : Ref sig .tc := ⟨.hbm, 731, rfl⟩
abbrev main_v601 : Ref sig .tc := ⟨.hbm, 732, rfl⟩
abbrev main_v602 : Ref sig .tc := ⟨.hbm, 733, rfl⟩
abbrev main_v603 : Ref sig .tc := ⟨.hbm, 734, rfl⟩
abbrev main_cst_108 : Ref sig .tc := ⟨.hbm, 735, rfl⟩
abbrev main_v604 : Ref sig .tc := ⟨.hbm, 736, rfl⟩
abbrev main_v605 : Ref sig .tc := ⟨.hbm, 737, rfl⟩
abbrev main_cst_109 : Ref sig .tc := ⟨.hbm, 738, rfl⟩
abbrev main_v606 : Ref sig .tc := ⟨.hbm, 739, rfl⟩
abbrev main_cst_110 : Ref sig .tc := ⟨.hbm, 740, rfl⟩
abbrev main_v607 : Ref sig .tc := ⟨.hbm, 741, rfl⟩
abbrev main_v608 : Ref sig .tc := ⟨.hbm, 742, rfl⟩
abbrev main_v609 : Ref sig .tc := ⟨.hbm, 743, rfl⟩
abbrev main_cst_111 : Ref sig .tc := ⟨.hbm, 744, rfl⟩
abbrev main_v610 : Ref sig .tc := ⟨.hbm, 745, rfl⟩
abbrev main_v611 : Ref sig .tc := ⟨.hbm, 746, rfl⟩
abbrev main_v612 : Ref sig .tc := ⟨.hbm, 747, rfl⟩
abbrev main_v613 : Ref sig .tc := ⟨.hbm, 748, rfl⟩
abbrev main_v614 : Ref sig .tc := ⟨.hbm, 749, rfl⟩
abbrev main_cst_112 : Ref sig .tc := ⟨.hbm, 750, rfl⟩
abbrev main_v615 : Ref sig .tc := ⟨.hbm, 751, rfl⟩
abbrev main_v616 : Ref sig .tc := ⟨.hbm, 752, rfl⟩
abbrev main_cst_113 : Ref sig .tc := ⟨.hbm, 753, rfl⟩
abbrev main_v617 : Ref sig .tc := ⟨.hbm, 754, rfl⟩
abbrev main_cst_114 : Ref sig .tc := ⟨.hbm, 755, rfl⟩
abbrev main_v618 : Ref sig .tc := ⟨.hbm, 756, rfl⟩
abbrev main_v619 : Ref sig .tc := ⟨.hbm, 757, rfl⟩
abbrev main_v620 : Ref sig .tc := ⟨.hbm, 758, rfl⟩
abbrev main_cst_115 : Ref sig .tc := ⟨.hbm, 759, rfl⟩
abbrev main_v621 : Ref sig .tc := ⟨.hbm, 760, rfl⟩
abbrev main_v622 : Ref sig .tc := ⟨.hbm, 761, rfl⟩
abbrev main_v623 : Ref sig .tc := ⟨.hbm, 762, rfl⟩
abbrev main_v624 : Ref sig .tc := ⟨.hbm, 763, rfl⟩
abbrev main_v625 : Ref sig .tc := ⟨.hbm, 764, rfl⟩
abbrev main_cst_116 : Ref sig .tc := ⟨.hbm, 765, rfl⟩
abbrev main_v626 : Ref sig .tc := ⟨.hbm, 766, rfl⟩
abbrev main_v627 : Ref sig .tc := ⟨.hbm, 767, rfl⟩
abbrev main_cst_117 : Ref sig .tc := ⟨.hbm, 768, rfl⟩
abbrev main_v628 : Ref sig .tc := ⟨.hbm, 769, rfl⟩
abbrev main_cst_118 : Ref sig .tc := ⟨.hbm, 770, rfl⟩
abbrev main_v629 : Ref sig .tc := ⟨.hbm, 771, rfl⟩
abbrev main_v630 : Ref sig .tc := ⟨.hbm, 772, rfl⟩
abbrev main_v631 : Ref sig .tc := ⟨.hbm, 773, rfl⟩
abbrev main_cst_119 : Ref sig .tc := ⟨.hbm, 774, rfl⟩
abbrev main_v632 : Ref sig .tc := ⟨.hbm, 775, rfl⟩
abbrev main_v633 : Ref sig .tc := ⟨.hbm, 776, rfl⟩
abbrev main_v634 : Ref sig .tc := ⟨.hbm, 777, rfl⟩
abbrev main_v635 : Ref sig .tc := ⟨.hbm, 778, rfl⟩
abbrev main_v636 : Ref sig .tc := ⟨.hbm, 779, rfl⟩
abbrev main_cst_120 : Ref sig .tc := ⟨.hbm, 780, rfl⟩
abbrev main_v637 : Ref sig .tc := ⟨.hbm, 781, rfl⟩
abbrev main_v638 : Ref sig .tc := ⟨.hbm, 782, rfl⟩
abbrev main_cst_121 : Ref sig .tc := ⟨.hbm, 783, rfl⟩
abbrev main_v639 : Ref sig .tc := ⟨.hbm, 784, rfl⟩
abbrev main_cst_122 : Ref sig .tc := ⟨.hbm, 785, rfl⟩
abbrev main_v640 : Ref sig .tc := ⟨.hbm, 786, rfl⟩
abbrev main_v641 : Ref sig .tc := ⟨.hbm, 787, rfl⟩
abbrev main_v642 : Ref sig .tc := ⟨.hbm, 788, rfl⟩
abbrev main_cst_123 : Ref sig .tc := ⟨.hbm, 789, rfl⟩
abbrev main_v643 : Ref sig .tc := ⟨.hbm, 790, rfl⟩
abbrev main_v644 : Ref sig .tc := ⟨.hbm, 791, rfl⟩
abbrev main_v645 : Ref sig .tc := ⟨.hbm, 792, rfl⟩
abbrev main_v646 : Ref sig .tc := ⟨.hbm, 793, rfl⟩
abbrev main_v647 : Ref sig .tc := ⟨.hbm, 794, rfl⟩
abbrev main_cst_124 : Ref sig .tc := ⟨.hbm, 795, rfl⟩
abbrev main_v648 : Ref sig .tc := ⟨.hbm, 796, rfl⟩
abbrev main_v649 : Ref sig .tc := ⟨.hbm, 797, rfl⟩
abbrev main_cst_125 : Ref sig .tc := ⟨.hbm, 798, rfl⟩
abbrev main_v650 : Ref sig .tc := ⟨.hbm, 799, rfl⟩
abbrev main_cst_126 : Ref sig .tc := ⟨.hbm, 800, rfl⟩
abbrev main_v651 : Ref sig .tc := ⟨.hbm, 801, rfl⟩
abbrev main_v652 : Ref sig .tc := ⟨.hbm, 802, rfl⟩
abbrev main_v653 : Ref sig .tc := ⟨.hbm, 803, rfl⟩
abbrev main_cst_127 : Ref sig .tc := ⟨.hbm, 804, rfl⟩
abbrev main_v654 : Ref sig .tc := ⟨.hbm, 805, rfl⟩
abbrev main_v655 : Ref sig .tc := ⟨.hbm, 806, rfl⟩
abbrev main_v656 : Ref sig .tc := ⟨.hbm, 807, rfl⟩
abbrev main_v657 : Ref sig .tc := ⟨.hbm, 808, rfl⟩
abbrev main_v658 : Ref sig .tc := ⟨.hbm, 809, rfl⟩
abbrev main_cst_128 : Ref sig .tc := ⟨.hbm, 810, rfl⟩
abbrev main_v659 : Ref sig .tc := ⟨.hbm, 811, rfl⟩
abbrev main_v660 : Ref sig .tc := ⟨.hbm, 812, rfl⟩
abbrev main_cst_129 : Ref sig .tc := ⟨.hbm, 813, rfl⟩
abbrev main_v661 : Ref sig .tc := ⟨.hbm, 814, rfl⟩
abbrev main_cst_130 : Ref sig .tc := ⟨.hbm, 815, rfl⟩
abbrev main_v662 : Ref sig .tc := ⟨.hbm, 816, rfl⟩
abbrev main_v663 : Ref sig .tc := ⟨.hbm, 817, rfl⟩
abbrev main_v664 : Ref sig .tc := ⟨.hbm, 818, rfl⟩
abbrev main_cst_131 : Ref sig .tc := ⟨.hbm, 819, rfl⟩
abbrev main_v665 : Ref sig .tc := ⟨.hbm, 820, rfl⟩
abbrev main_v666 : Ref sig .tc := ⟨.hbm, 821, rfl⟩
abbrev main_v667 : Ref sig .tc := ⟨.hbm, 822, rfl⟩
abbrev main_v668 : Ref sig .tc := ⟨.hbm, 823, rfl⟩
abbrev main_v669 : Ref sig .tc := ⟨.hbm, 824, rfl⟩
abbrev main_cst_132 : Ref sig .tc := ⟨.hbm, 825, rfl⟩
abbrev main_v670 : Ref sig .tc := ⟨.hbm, 826, rfl⟩
abbrev main_v671 : Ref sig .tc := ⟨.hbm, 827, rfl⟩
abbrev main_cst_133 : Ref sig .tc := ⟨.hbm, 828, rfl⟩
abbrev main_v672 : Ref sig .tc := ⟨.hbm, 829, rfl⟩
abbrev main_cst_134 : Ref sig .tc := ⟨.hbm, 830, rfl⟩
abbrev main_v673 : Ref sig .tc := ⟨.hbm, 831, rfl⟩
abbrev main_v674 : Ref sig .tc := ⟨.hbm, 832, rfl⟩
abbrev main_v675 : Ref sig .tc := ⟨.hbm, 833, rfl⟩
abbrev main_cst_135 : Ref sig .tc := ⟨.hbm, 834, rfl⟩
abbrev main_v676 : Ref sig .tc := ⟨.hbm, 835, rfl⟩
abbrev main_v677 : Ref sig .tc := ⟨.hbm, 836, rfl⟩
abbrev main_v678 : Ref sig .tc := ⟨.hbm, 837, rfl⟩
abbrev main_v679 : Ref sig .tc := ⟨.hbm, 838, rfl⟩
abbrev main_v680 : Ref sig .tc := ⟨.hbm, 839, rfl⟩
abbrev main_cst_136 : Ref sig .tc := ⟨.hbm, 840, rfl⟩
abbrev main_v681 : Ref sig .tc := ⟨.hbm, 841, rfl⟩
abbrev main_v682 : Ref sig .tc := ⟨.hbm, 842, rfl⟩
abbrev main_cst_137 : Ref sig .tc := ⟨.hbm, 843, rfl⟩
abbrev main_v683 : Ref sig .tc := ⟨.hbm, 844, rfl⟩
abbrev main_cst_138 : Ref sig .tc := ⟨.hbm, 845, rfl⟩
abbrev main_v684 : Ref sig .tc := ⟨.hbm, 846, rfl⟩
abbrev main_v685 : Ref sig .tc := ⟨.hbm, 847, rfl⟩
abbrev main_v686 : Ref sig .tc := ⟨.hbm, 848, rfl⟩
abbrev main_cst_139 : Ref sig .tc := ⟨.hbm, 849, rfl⟩
abbrev main_v687 : Ref sig .tc := ⟨.hbm, 850, rfl⟩
abbrev main_v688 : Ref sig .tc := ⟨.hbm, 851, rfl⟩
abbrev main_v689 : Ref sig .tc := ⟨.hbm, 852, rfl⟩
abbrev main_v690 : Ref sig .tc := ⟨.hbm, 853, rfl⟩
abbrev main_v691 : Ref sig .tc := ⟨.hbm, 854, rfl⟩
abbrev main_cst_140 : Ref sig .tc := ⟨.hbm, 855, rfl⟩
abbrev main_v692 : Ref sig .tc := ⟨.hbm, 856, rfl⟩
abbrev main_v693 : Ref sig .tc := ⟨.hbm, 857, rfl⟩
abbrev main_cst_141 : Ref sig .tc := ⟨.hbm, 858, rfl⟩
abbrev main_v694 : Ref sig .tc := ⟨.hbm, 859, rfl⟩
abbrev main_cst_142 : Ref sig .tc := ⟨.hbm, 860, rfl⟩
abbrev main_v695 : Ref sig .tc := ⟨.hbm, 861, rfl⟩
abbrev main_v696 : Ref sig .tc := ⟨.hbm, 862, rfl⟩
abbrev main_v697 : Ref sig .tc := ⟨.hbm, 863, rfl⟩
abbrev main_cst_143 : Ref sig .tc := ⟨.hbm, 864, rfl⟩
abbrev main_v698 : Ref sig .tc := ⟨.hbm, 865, rfl⟩
abbrev main_v699 : Ref sig .tc := ⟨.hbm, 866, rfl⟩
abbrev main_v700 : Ref sig .tc := ⟨.hbm, 867, rfl⟩
abbrev main_v701 : Ref sig .tc := ⟨.hbm, 868, rfl⟩
abbrev main_v702 : Ref sig .tc := ⟨.hbm, 869, rfl⟩
abbrev main_cst_144 : Ref sig .tc := ⟨.hbm, 870, rfl⟩
abbrev main_v703 : Ref sig .tc := ⟨.hbm, 871, rfl⟩
abbrev main_v704 : Ref sig .tc := ⟨.hbm, 872, rfl⟩
abbrev main_cst_145 : Ref sig .tc := ⟨.hbm, 873, rfl⟩
abbrev main_v705 : Ref sig .tc := ⟨.hbm, 874, rfl⟩
abbrev main_cst_146 : Ref sig .tc := ⟨.hbm, 875, rfl⟩
abbrev main_v706 : Ref sig .tc := ⟨.hbm, 876, rfl⟩
abbrev main_v707 : Ref sig .tc := ⟨.hbm, 877, rfl⟩
abbrev main_v708 : Ref sig .tc := ⟨.hbm, 878, rfl⟩
abbrev main_cst_147 : Ref sig .tc := ⟨.hbm, 879, rfl⟩
abbrev main_v709 : Ref sig .tc := ⟨.hbm, 880, rfl⟩
abbrev main_v710 : Ref sig .tc := ⟨.hbm, 881, rfl⟩
abbrev main_v711 : Ref sig .tc := ⟨.hbm, 882, rfl⟩
abbrev main_v712 : Ref sig .tc := ⟨.hbm, 883, rfl⟩
abbrev main_v713 : Ref sig .tc := ⟨.hbm, 884, rfl⟩
abbrev main_cst_148 : Ref sig .tc := ⟨.hbm, 885, rfl⟩
abbrev main_v714 : Ref sig .tc := ⟨.hbm, 886, rfl⟩
abbrev main_v715 : Ref sig .tc := ⟨.hbm, 887, rfl⟩
abbrev main_cst_149 : Ref sig .tc := ⟨.hbm, 888, rfl⟩
abbrev main_v716 : Ref sig .tc := ⟨.hbm, 889, rfl⟩
abbrev main_cst_150 : Ref sig .tc := ⟨.hbm, 890, rfl⟩
abbrev main_v717 : Ref sig .tc := ⟨.hbm, 891, rfl⟩
abbrev main_v718 : Ref sig .tc := ⟨.hbm, 892, rfl⟩
abbrev main_v719 : Ref sig .tc := ⟨.hbm, 893, rfl⟩
abbrev main_cst_151 : Ref sig .tc := ⟨.hbm, 894, rfl⟩
abbrev main_v720 : Ref sig .tc := ⟨.hbm, 895, rfl⟩
abbrev main_v721 : Ref sig .tc := ⟨.hbm, 896, rfl⟩
abbrev main_v722 : Ref sig .tc := ⟨.hbm, 897, rfl⟩
abbrev main_v723 : Ref sig .tc := ⟨.hbm, 898, rfl⟩
abbrev main_v724 : Ref sig .tc := ⟨.hbm, 899, rfl⟩
abbrev main_v725 : Ref sig .tc := ⟨.hbm, 900, rfl⟩
abbrev main_v726 : Ref sig .tc := ⟨.hbm, 901, rfl⟩
abbrev main_v727 : Ref sig .tc := ⟨.hbm, 902, rfl⟩
abbrev main_cst_152 : Ref sig .tc := ⟨.hbm, 903, rfl⟩
abbrev main_v728 : Ref sig .tc := ⟨.hbm, 904, rfl⟩
abbrev main_v729 : Ref sig .tc := ⟨.hbm, 905, rfl⟩
abbrev main_v730 : Ref sig .tc := ⟨.hbm, 906, rfl⟩
abbrev main_v731 : Ref sig .tc := ⟨.hbm, 907, rfl⟩
abbrev main_cst_153 : Ref sig .tc := ⟨.hbm, 908, rfl⟩
abbrev main_v732 : Ref sig .tc := ⟨.hbm, 909, rfl⟩
abbrev main_v733 : Ref sig .tc := ⟨.hbm, 910, rfl⟩
abbrev main_cst_154 : Ref sig .tc := ⟨.hbm, 911, rfl⟩
abbrev main_v734 : Ref sig .tc := ⟨.hbm, 912, rfl⟩
abbrev main_v735 : Ref sig .tc := ⟨.hbm, 913, rfl⟩

abbrev nD : Nat := 1
abbrev τ : Topo := Topo.v7x

variable {F : FTy → Type} [FloatOps F]
-- ==== Proof.Sums.lean ====
/-
  Sums over the two leading axes of an array, at an index of the result.
-/
module

public import Idealize.ShloMosaic.Lib.Pointwise

@[expose] public section

noncomputable section

namespace Idealize.ShloMosaic

variable {n0 n1 n2 : Nat} {t : Shape}

theorem Shape.ReducesTo.rank_lead2 (h : (⟨3, ![n0, n1, n2]⟩ : Shape).ReducesTo [0, 1] t) : t.rank = 1 := h.1
theorem Shape.ReducesTo.lt_lead2 (h : (⟨3, ![n0, n1, n2]⟩ : Shape).ReducesTo [0, 1] t) : 0 < t.rank := h.rank_lead2 ▸ (by decide)
theorem Shape.ReducesTo.size_lead2 (h : (⟨3, ![n0, n1, n2]⟩ : Shape).ReducesTo [0, 1] t) : t.size ⟨0, h.lt_lead2⟩ = n2 :=
  h.2 ⟨0, h.lt_lead2⟩

/-- The host's sum of an `[n0, n1, n2]` array over its two leading axes is, at lane `l`, the initial value plus the sum
    over both leading coordinates at that lane. -/
theorem Ideal.hostReduceAdd_lead2 (h : (⟨3, ![n0, n1, n2]⟩ : Shape).ReducesTo [0, 1] t)
    (v : (⟨3, ![n0, n1, n2]⟩ : Shape).Idx → EReal) (init : EReal) (j : t.Idx) :
    Ideal.hostReduceAdd h v init j
      = init + ∑ a : Fin n0, ∑ b : Fin n1, v (ix3 a b ⟨(j ⟨0, h.lt_lead2⟩).val, Shape.coordLt (j ⟨0, h.lt_lead2⟩) h.size_lead2⟩) := by
  refine congrArg (init + ·) ?_
  rw [Finset.sum_filter_eq_sum_of_fiber _
    (fun p : Fin n0 × Fin n1 => (ix3 p.1 p.2 ⟨(j ⟨0, h.lt_lead2⟩).val, Shape.coordLt (j ⟨0, h.lt_lead2⟩) h.size_lead2⟩ : (⟨3, ![n0, n1, n2]⟩ : Shape).Idx))
    (fun _ _ e => Prod.ext (congrFun e 0) (congrFun e 1))]
  · exact Fintype.sum_prod_type' (fun (a : Fin n0) (b : Fin n1) =>
      v (ix3 a b ⟨(j ⟨0, h.lt_lead2⟩).val, Shape.coordLt (j ⟨0, h.lt_lead2⟩) h.size_lead2⟩))
  · intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, h.lt_lead2⟩)).symm
    · rintro ⟨k, rfl⟩
      funext b
      apply Fin.ext
      match b with
      | ⟨0, _⟩ => rfl
      | ⟨_ + 1, hb⟩ => exact absurd hb (by have := h.rank_lead2; omega)

/-- An index of a one-row array is its lane. -/
theorem exists_lane {n : Nat} (j : (⟨2, ![1, n]⟩ : Shape).Idx) : ∃ l : Fin n, j = ix2 0 l :=
  ⟨j 1, (eq_ix2 j).trans (congrArg (ix2 · (j 1)) (Fin.ext (by have h : (j 0).val < 1 := (j 0).isLt; show (j 0).val = 0; omega)))⟩

end Idealize.ShloMosaic

end
-- ==== Proof.MemNorm.lean ====
/-
  The gain gradient of the memory's RMS norm: what the kernel writes is the reference's array.
-/
module

public import proofs.«01_k».proof.Defs
public import proofs.«01_k».proof.Proof.Sums
public import proofs.«01_k».proof.Proof.Gen.KernelMemNormIdeal.Value
public import proofs.«01_k».proof.Proof.Gen.ReferenceMemNormIdeal.Read
public import Idealize.ShloMosaic.Lib.Pipeline.ValueKit

@[expose] public section

set_option maxRecDepth 16384

noncomputable section

open Idealize.ShloMosaic Idealize.ShloMosaic.TcCoe Idealize.SL.Sem

namespace Cert.MemNorm

open Cert.KernelMemNormIdeal Cert.KernelMemNormIdeal.Gen

variable (m : (ℓ : Loc nD τ sig) → Buf (Elt Ideal) ℓ)

/-- The gain gradient as the reference writes it: the normalised rows times the cotangent, summed over all rows. -/
abbrev gain (x ct : FVec Ideal S2x256x1024 .f32) : FVec Ideal S1x1024 .f32 :=
  Cert.ReferenceMemNormIdeal.Read.val_main_v18 (F := Ideal) x ct

theorem gain_apply (x ct : FVec Ideal S2x256x1024 .f32) (j : Fin 1024) :
    gain x ct (ix2 0 j) = ∑ b : Fin 2, ∑ s : Fin 256,
      x (ix3 b s j) * Ideal.rsqrt (Ideal.div (∑ k : Fin 1024, x (ix3 b s k) * x (ix3 b s k)) (Ideal.ofBits .f32 0x44800000#32)
        + Ideal.ofBits .f32 0x358637BD#32) * ct (ix3 b s j) := by
  unfold gain
  pointwise [Cert.ReferenceMemNormIdeal.Read.val_main_v18, Cert.ReferenceMemNormIdeal.Read.val_main_v17,
    Cert.ReferenceMemNormIdeal.Read.val_main_v16, Cert.ReferenceMemNormIdeal.Read.val_main_v15,
    Cert.ReferenceMemNormIdeal.Read.val_main_v14, Cert.ReferenceMemNormIdeal.Read.val_main_v10,
    Cert.ReferenceMemNormIdeal.Read.val_main_v9, Cert.ReferenceMemNormIdeal.Read.val_main_v8,
    Cert.ReferenceMemNormIdeal.Read.val_main_v7, Cert.ReferenceMemNormIdeal.Read.val_main_v6,
    Cert.ReferenceMemNormIdeal.Read.val_main_v5, Cert.ReferenceMemNormIdeal.Read.val_main_v4,
    Cert.ReferenceMemNormIdeal.Read.val_main_v3, Cert.ReferenceMemNormIdeal.Read.val_main_v2,
    Cert.ReferenceMemNormIdeal.Read.val_main_v1, Cert.ReferenceMemNormIdeal.Read.val_main_cst,
    Cert.ReferenceMemNormIdeal.Read.val_main_cst_0, Cert.ReferenceMemNormIdeal.Read.val_main_cst_1,
    Cert.ReferenceMemNormIdeal.Read.val_main_cst_2, Cert.ReferenceMemNormIdeal.Read.val_main_cst_3, Ideal.hostReduceAdd_lead2]
  simp only [Fin.sum_univ_one]

/-- Where each window's block sits: the one block of each operand is the whole array. -/
theorem idx : ∀ t : Fin cfg0.N, win0_0.index t = ![0, 0] ∧ win0_1.index t = ![0, 0] ∧ win0_2.index t = ![0, 0] :=
  (by decide +kernel : ∀ t : Fin grid0.N, _)

/-- Row `256 b + s` of the flattened memory is row `(b, s)` of the memory. -/
theorem read_x (c : Dev nD) (t : Fin cfg0.N) (b : Fin 2) (s : Fin 256) (k : Fin 1024) (h : b.val * 256 + s.val < 512) :
    (show FVec Ideal S512x1024 .f32 from iblk m c 0 t) (ix2 ⟨b.val * 256 + s.val, h⟩ k) = m ((c : Thread nD τ).loc main_arg0) (ix3 b s k) := by
  blk_point [iblk, V, idx t]

theorem read_ct (c : Dev nD) (t : Fin cfg0.N) (b : Fin 2) (s : Fin 256) (k : Fin 1024) (h : b.val * 256 + s.val < 512) :
    (show FVec Ideal S512x1024 .f32 from iblk m c 1 t) (ix2 ⟨b.val * 256 + s.val, h⟩ k) = m ((c : Thread nD τ).loc main_arg2) (ix3 b s k) := by
  blk_point [iblk, V, idx t]

theorem pay_apply (x ct : FVec Ideal S512x1024 .f32) (j : Fin 1024) :
    k0_pay2 (F := Ideal) x (k0_pay1 (F := Ideal)) ct (ix2 0 j) = ∑ r : Fin 512,
      ct (ix2 r j) * (x (ix2 r j) * Ideal.rsqrt (Ideal.div (∑ k : Fin 1024, x (ix2 r k) * x (ix2 r k)) (Ideal.ofBits .f32 0x44800000#32)
        + Ideal.ofBits .f32 0x358637BD#32)) := by
  pointwise [k0_pay2, k0_pay1]

theorem final (c : Dev nD) : (dats m 0 c).arrAt 2 cfg0.N
    = gain (m ((c : Thread nD τ).loc main_arg0)) (m ((c : Thread nD τ).loc main_arg2)) := by
  refine (dats m 0 c).arrAt_eq_of_after_last 2 t0_0 (by decide +kernel) _ fun j => ?_
  blk_simp
  rw [after0_2]
  unfold outsAt0
  frame_out
  obtain ⟨l, rfl⟩ := exists_lane (n := 1024) j
  refine (pay_apply _ _ l).trans (Eq.trans ?_ (gain_apply _ _ l).symm)
  rw [Fin.sum_univ_tiles 2 256 rfl]
  refine Finset.sum_congr rfl fun b _ => Finset.sum_congr rfl fun s _ => ?_
  rw [mul_comm]
  exact congrArg₂ (· * ·) (congrArg₂ (· * ·) (read_x m c t0_0 b s l _) (congrArg Ideal.rsqrt (congrArg (Ideal.div · _ + _)
    (Finset.sum_congr rfl fun k _ => congrArg₂ (· * ·) (read_x m c t0_0 b s k _) (read_x m c t0_0 b s k _))))) (read_ct m c t0_0 b s l _)

/-- The kernel and the derivative of the plain lines leave the same gain gradient. -/
theorem algebraic : Cert.algebraic_KernelMemNormIdeal_ReferenceMemNormIdeal := fun m g m' g' _ hag =>
  ⟨fun c => gain (m ((c : Thread nD τ).loc main_arg0)) (m ((c : Thread nD τ).loc main_arg2)),
    (θ_run _ _ _).mono (fun _ h c => ⟨(h c).1.trans (final m c), (h c).2⟩) (Cert.KernelMemNormIdeal.Value.run_blocks m g),
    (θ_run _ _ _).mono (fun _ h c => ⟨(h c).1.trans (by rw [(hag c).1, (hag c).2.2]; rfl), (h c).2⟩)
      (Cert.ReferenceMemNormIdeal.Value.run m' g')⟩

end Cert.MemNorm

end
-- ==== Proof.Real.lean ====
/- Finite extended reals: sums, quotients, maxima and comparisons of values that are real numbers are real numbers, and
   the identities that the gradients rest on, which hold over the reals and not over all extended reals. -/
module

public import Idealize.ShloMosaic.Lib.Pipeline.ValueKit

@[expose] public section

noncomputable section

namespace Cert.Real

open Idealize.ShloMosaic

/-- A sum of real numbers, taken over the extended reals, is the real sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient of real numbers with a divisor that is not zero is the real quotient. -/
theorem div_coe {a b : ℝ} (hb : b ≠ 0) : Ideal.div (a : EReal) (b : EReal) = ((a / b : ℝ) : EReal) := by
  rw [Ideal.div_coe hb, ← EReal.coe_mul, mul_one_div]

/-- The largest of finitely many real numbers, at least one, is a real number. -/
theorem fold_max_real {ι : Type*} (s : Finset ι) (hs : s.Nonempty) (f : ι → ℝ) :
    ∃ r : ℝ, s.fold max (⊥ : EReal) (fun k => ((f k : ℝ) : EReal)) = r := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (EReal.coe_strictMono.monotone.map_max).symm

/-- What `|x| < ∞` says of an extended real: it is a real number. -/
theorem exists_real {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The initial value of a maximum is the least extended real. -/
theorem ofBits_neg_inf : Ideal.ofBits .f32 0xFF800000#32 = ⊥ := by simp [Ideal.ofBits, Ideal.ieee]

/-- Sums and products of reals are real. -/
theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A function of five arguments at equal arguments. -/
theorem congr5 {A B C D E R : Type} (f : A → B → C → D → E → R) {a a' : A} {b b' : B} {c c' : C} {d d' : D} {e e' : E}
    (h : a' = a ∧ b' = b ∧ c' = c ∧ d' = d ∧ e' = e) : f a' b' c' d' e' = f a b c d e := by
  obtain ⟨rfl, rfl, rfl, rfl, rfl⟩ := h
  rfl

end Cert.Real

end
-- ==== Proof.LayerNorm.lean ====
/- The layer norm followed by `y · sigmoid y`, backwards: the gradient as the kernel writes it and as it comes out of the plain
   lines, row by row, and that the two agree on reals. -/
module

public import proofs.«01_k».proof.Proof.Real

@[expose] public section

noncomputable section

open Idealize.ShloMosaic

namespace Cert.LayerNorm

/-- The row length as the programs hold it. -/
abbrev len : EReal := Ideal.ofBits .f32 0x44000000#32

abbrev eps : EReal := Ideal.ofBits .f32 0x358637BD#32

abbrev mhalf : EReal := Ideal.ofBits .f32 0xBF000000#32

abbrev two : EReal := Ideal.ofBits .f32 0x40000000#32

section
variable {n : Nat} (x gx : Fin n → EReal) (lg lb dy : Fin n → EReal)

/-- A row minus its mean. -/
def dev (j : Fin n) : EReal := x j - Ideal.div (∑ k, x k) len

/-- The mean of the squares of that, a little enlarged. -/
def var : EReal := Ideal.div (∑ k, dev x k * dev x k) len + eps

def inv : EReal := Ideal.rsqrt (var x)

/-- The normed row. -/
def hat (j : Fin n) : EReal := dev x j * inv x

/-- The normed row, scaled and shifted. -/
def pre (j : Fin n) : EReal := hat x j * lg j + lb j

/-- The gradient with respect to the row, as the kernel writes it. -/
def dx (j : Fin n) : EReal :=
  inv x * (gx j - Ideal.div (∑ k, gx k) len - hat x j * Ideal.div (∑ k, gx k * hat x k) len)

/-- The part of the plain gradient that runs through the mean of the squares. -/
def thru (j : Fin n) : EReal :=
  (∑ _i : Fin 1, Ideal.div ((∑ k, dev x k * gx k) * (mhalf * Ideal.div (inv x) (var x))) len) * (two * dev x j)

/-- The plain gradient with respect to the row. -/
def dxRef (j : Fin n) : EReal :=
  gx j * inv x + thru x gx j + ∑ _i : Fin 1, Ideal.div (∑ k, -(gx k * inv x) + ∑ k, -thru x gx k) len

end

/-- The kernel's logistic function. -/
def sig (y : EReal) : EReal := Ideal.div 1 (1 + Ideal.exp (0 - y))

/-- The gradient before `y · sigmoid y`, as the kernel writes it. -/
def dswish (y d : EReal) : EReal := d * (sig y * (1 + y * (1 - sig y)))

def sigRef (y : EReal) : EReal := Ideal.div 1 (1 + Ideal.exp (-y))

/-- The same from the plain lines. -/
def dswishRef (y d : EReal) : EReal := d * sigRef y + y * d * (sigRef y * (1 - sigRef y))

theorem len_eq : len = ((512 : ℝ) : EReal) := by simp [len, Ideal.ofBits, Ideal.ieee, -EReal.coe_mul]; norm_num

theorem mhalf_eq : mhalf = ((-(1 / 2) : ℝ) : EReal) := by simp [mhalf, Ideal.ofBits, Ideal.ieee, -EReal.coe_mul]; norm_num

theorem two_eq : two = ((2 : ℝ) : EReal) := by simp [two, Ideal.ofBits, Ideal.ieee, -EReal.coe_mul]; norm_num

theorem eps_eq : ∃ e : ℝ, 0 < e ∧ eps = e :=
  ⟨8796093 * (2 : ℝ) ^ (-43 : ℤ), by positivity, by simp [eps, Ideal.ofBits, Ideal.ieee, -EReal.coe_mul]⟩

section
variable {n : Nat} (x gx : Fin n → ℝ)

/-- The deviations over the reals. -/
def devR (j : Fin n) : ℝ := x j - (∑ k, x k) / 512

theorem dev_coe (j : Fin n) : dev (fun k => (x k : EReal)) j = (devR x j : ℝ) := by
  simp only [dev, len_eq, Real.sum_coe, Real.div_coe (show (512 : ℝ) ≠ 0 by norm_num), ← EReal.coe_sub, devR]

theorem var_coe : ∃ v : ℝ, 0 < v ∧ var (fun k => (x k : EReal)) = (v : ℝ) := by
  obtain ⟨e, he, h⟩ := eps_eq
  refine ⟨(∑ k, devR x k * devR x k) / 512 + e, ?_, ?_⟩
  · have : 0 ≤ ∑ k, devR x k * devR x k := Finset.sum_nonneg fun k _ => mul_self_nonneg _
    positivity
  · simp only [var, dev_coe, len_eq, h, ← EReal.coe_mul, Real.sum_coe, Real.div_coe (show (512 : ℝ) ≠ 0 by norm_num), ← EReal.coe_add]

/-- The root: a positive real whose square is the inverse of the mean square. -/
theorem inv_coe : ∃ v r : ℝ, 0 < v ∧ r * r = 1 / v ∧ var (fun k => (x k : EReal)) = (v : ℝ) ∧ inv (fun k => (x k : EReal)) = (r : ℝ) := by
  obtain ⟨v, hv, h⟩ := var_coe x
  refine ⟨v, (√v)⁻¹, hv, ?_, h, by rw [inv, h, Ideal.rsqrt_coe, if_neg (not_lt.2 hv.le), if_neg hv.ne']⟩
  rw [← mul_inv, _root_.Real.mul_self_sqrt hv.le, one_div]

/-- The deviations of a row of the full length sum to zero. -/
theorem sum_devR (hn : n = 512) : ∑ k, devR x k = 0 := by
  subst hn
  simp only [devR, Finset.sum_sub_distrib, Finset.sum_const, Finset.card_univ, Fintype.card_fin, nsmul_eq_mul]
  push_cast
  ring

/-- On reals the kernel's gradient of the norm is the plain one. -/
theorem dx_eq (hn : n = 512) (X G : Fin n → EReal) (hX : ∀ k, ∃ y : ℝ, X k = y) (hG : ∀ k, ∃ y : ℝ, G k = y) (j : Fin n) :
    dx X G j = dxRef X G j := by
  choose x hx using hX
  choose g hg using hG
  obtain rfl : X = fun k => (x k : EReal) := funext hx
  obtain rfl : G = fun k => (g k : EReal) := funext hg
  obtain ⟨v, r, hv, hr, h1, h2⟩ := inv_coe x
  have h0 := sum_devR x hn
  have hv' : v ≠ 0 := hv.ne'
  simp only [dx, dxRef, thru, hat, dev_coe, h1, h2, len_eq, mhalf_eq, two_eq, Fin.sum_univ_one, ← EReal.coe_mul, Real.sum_coe,
    Real.div_coe (show (512 : ℝ) ≠ 0 by norm_num), Real.div_coe hv', ← EReal.coe_sub, ← EReal.coe_neg, ← EReal.coe_add]
  congr 1
  simp only [Finset.sum_neg_distrib, ← Finset.sum_mul, ← Finset.mul_sum, h0]
  have e : ∑ k, g k * (devR x k * r) = (∑ k, devR x k * g k) * r := by
    rw [Finset.sum_mul]; exact Finset.sum_congr rfl fun k _ => by ring
  rw [e]
  generalize ∑ k, devR x k * g k = S
  generalize ∑ k, g k = T
  have : r / v = r * (r * r) := by rw [hr]; ring
  rw [this]
  ring

theorem hat_real (X : Fin n → EReal) (hX : ∀ k, ∃ y : ℝ, X k = y) (j : Fin n) : ∃ y : ℝ, hat X j = y := by
  choose x hx using hX
  obtain rfl : X = fun k => (x k : EReal) := funext hx
  obtain ⟨v, r, -, -, -, h2⟩ := inv_coe x
  exact ⟨devR x j * r, by simp only [hat, dev_coe, h2, ← EReal.coe_mul]⟩

end

theorem pre_real {n : Nat} (x lg lb : Fin n → EReal) (j : Fin n) (hx : ∃ y : ℝ, hat x j = y) (hg : ∃ y : ℝ, lg j = y) (hb : ∃ y : ℝ, lb j = y) :
    ∃ y : ℝ, pre x lg lb j = y :=
  Real.add_real (Real.mul_real hx hg) hb

theorem sig_eq (y : EReal) : sig y = sigRef y := by rw [sig, sigRef, zero_sub]

theorem sigRef_coe (y : ℝ) : sigRef (y : EReal) = ((1 / (1 + _root_.Real.exp (-y)) : ℝ) : EReal) := by
  have h : (1 + _root_.Real.exp (-y)) ≠ 0 := by positivity
  rw [sigRef, ← EReal.coe_neg, Ideal.exp_coe, ← EReal.coe_one, ← EReal.coe_add, Real.div_coe h]

/-- On reals the two gradients of `y · sigmoid y` agree, -/
theorem dswish_eq {y d : EReal} (hy : ∃ a : ℝ, y = a) (hd : ∃ a : ℝ, d = a) : dswish y d = dswishRef y d := by
  obtain ⟨y, rfl⟩ := hy
  obtain ⟨d, rfl⟩ := hd
  simp only [dswish, dswishRef, sig_eq, sigRef_coe, ← EReal.coe_one, ← EReal.coe_sub, ← EReal.coe_mul, ← EReal.coe_add]
  congr 1
  ring

/-- and are real. -/
theorem dswish_real {y d : EReal} (hy : ∃ a : ℝ, y = a) (hd : ∃ a : ℝ, d = a) : ∃ a : ℝ, dswishRef y d = a := by
  obtain ⟨y, rfl⟩ := hy
  obtain ⟨d, rfl⟩ := hd
  simp only [dswishRef, sigRef_coe, ← EReal.coe_one, ← EReal.coe_sub, ← EReal.coe_mul, ← EReal.coe_add]
  exact ⟨_, rfl⟩

end Cert.LayerNorm

end
-- ==== Proof.Rows.lean ====
/- Stores and loads of single rows of a buffer of rows: what the buffer holds after a store of one row, by row and column. -/
module

public import Idealize.ShloMosaic.Lib.Pipeline.ReadBack
public import Idealize.ShloMosaic.Lib.WritesUnit
public import Idealize.ShloMosaic.Lib.Pipeline.ValueKit

@[expose] public section

noncomputable section

open Idealize.ShloMosaic

namespace Cert.Rows

variable {a b : Nat} {e : EltTy}

/-- A matrix as a function of its row and its column. -/
abbrev rows (X : (⟨2, ![a, b]⟩ : Shape).Idx → EReal) (r : Fin a) (x : Fin b) : EReal := X (ix2 r x)

/-- Row `o` of a buffer as a rectangle. -/
abbrev row (o : Nat) (inb : ∀ i, (![o, 0] : Fin 2 → Nat) i + (![1, b] : Fin 2 → Nat) i ≤ (⟨2, ![a, b]⟩ : Shape).size i) : Rect ⟨2, ![a, b]⟩ :=
  Rect.unit (s := ⟨2, ![a, b]⟩) ![o, 0] ![1, b] inb

/-- A load of row `o` reads that row. -/
theorem ld_row (X : (⟨2, ![a, b]⟩ : Shape).Idx → Elt Ideal e) (o : Nat)
    (inb : ∀ i, (![o, 0] : Fin 2 → Nat) i + (![1, b] : Fin 2 → Nat) i ≤ (⟨2, ![a, b]⟩ : Shape).size i) (u : Fin a) (j : Fin b) (hu : u.val = o) :
    View.ld (Val := Elt Ideal) (e' := e) X (Rect.unit (s := ⟨2, ![a, b]⟩) ![o, 0] ![1, b] inb) (ix2 0 j) = X (ix2 u j) :=
  View.ld_unit_apply_of _ _ _ _ _ _ fun i => by
    match i with
    | ⟨0, _⟩ => show u.val = o + 0; omega
    | ⟨1, _⟩ => show j.val = 0 + j.val; omega

theorem row_mem (o : Nat) (inb : ∀ i, (![o, 0] : Fin 2 → Nat) i + (![1, b] : Fin 2 → Nat) i ≤ (⟨2, ![a, b]⟩ : Shape).size i)
    (u : Fin a) (j : Fin b) (hu : u.val = o) :
    (Rect.unit (s := ⟨2, ![a, b]⟩) ![o, 0] ![1, b] inb).emb (ix2 0 j) = ix2 u j := by
  refine funext fun i => Fin.ext ?_
  rw [Rect.emb_apply]
  match i with
  | ⟨0, _⟩ => show o + 1 * 0 = u.val; omega
  | ⟨1, _⟩ => show 0 + 1 * j.val = j.val; omega

theorem row_not_mem (o : Nat) (inb : ∀ i, (![o, 0] : Fin 2 → Nat) i + (![1, b] : Fin 2 → Nat) i ≤ (⟨2, ![a, b]⟩ : Shape).size i)
    (u : Fin a) (j : Fin b) (hu : u.val ≠ o) : ix2 u j ∉ (Rect.unit (s := ⟨2, ![a, b]⟩) ![o, 0] ![1, b] inb).set := by
  rw [Rect.mem_set_unit]
  intro h
  have h0 : o ≤ u.val ∧ u.val < o + 1 := h 0
  omega

/-- What a list of stores leaves, its last store one of row `o`: the stored row there, elsewhere what the stores before it left. -/
theorem canon_row (o : Nat) (inb : ∀ i, (![o, 0] : Fin 2 → Nat) i + (![1, b] : Fin 2 → Nat) i ≤ (⟨2, ![a, b]⟩ : Shape).size i)
    (w : (⟨2, ![1, b]⟩ : Shape).Idx → Elt Ideal e) (L : List (View.Piece (Elt Ideal) (⟨2, ![a, b]⟩ : Shape) e)) (u : Fin a) (j : Fin b) :
    View.canon (Val := Elt Ideal) (e := e) (⟨Rect.unit (s := ⟨2, ![a, b]⟩) ![o, 0] ![1, b] inb, w⟩ :: L) (ix2 u j)
      = if u.val = o then w (ix2 0 j) else View.canon (Val := Elt Ideal) L (ix2 u j) := by
  split
  · rename_i h
    rw [← row_mem o inb u j h]
    exact View.canon_cons_emb (Val := Elt Ideal) (Rect.unit (s := ⟨2, ![a, b]⟩) ![o, 0] ![1, b] inb) w L (ix2 0 j)
  · rename_i h
    exact View.canon_cons_of_not_mem (Val := Elt Ideal) _ L (row_not_mem o inb u j h)

/-- The same over given contents of the buffer. -/
theorem read_row {sig : RefSig} {κ : Kind} {sp : Space} (v : View sig κ sp (⟨2, ![a, b]⟩ : Shape) e) (f : v.ty.Contents (Elt Ideal)) (o : Nat)
    (inb : ∀ i, (![o, 0] : Fin 2 → Nat) i + (![1, b] : Fin 2 → Nat) i ≤ (⟨2, ![a, b]⟩ : Shape).size i)
    (w : (⟨2, ![1, b]⟩ : Shape).Idx → Elt Ideal e) (L : List (View.Piece (Elt Ideal) (⟨2, ![a, b]⟩ : Shape) e)) (u : Fin a) (j : Fin b) :
    v.read (Elt Ideal) (v.writes (Elt Ideal) f (⟨Rect.unit (s := ⟨2, ![a, b]⟩) ![o, 0] ![1, b] inb, w⟩ :: L)) (ix2 u j)
      = if u.val = o then w (ix2 0 j) else v.read (Elt Ideal) (v.writes (Elt Ideal) f L) (ix2 u j) := by
  split
  · rename_i h
    rw [← row_mem o inb u j h]
    exact View.read_writes_cons_emb (Val := Elt Ideal) v f (Rect.unit (s := ⟨2, ![a, b]⟩) ![o, 0] ![1, b] inb) w L (ix2 0 j)
  · rename_i h
    refine View.read_writes_cons_unit_of_not_mem (Val := Elt Ideal) v f inb w L (ix2 u j) rfl (0 : Fin 2) ?_
    show u.val < o ∨ o + 1 ≤ u.val
    omega

end Cert.Rows

end
-- ==== Proof.MixNormPay.lean ====
/- The normed gate's gradient, the kernel's side: what one grid point stores, as sums over the loaded rows. -/
module

public import proofs.«01_k».proof.Proof.LayerNorm
public import proofs.«01_k».proof.Proof.Rows
public import proofs.«01_k».proof.Proof.Gen.KernelMixNormIdeal.Value

@[expose] public section

set_option maxRecDepth 16384

noncomputable section

open Idealize.ShloMosaic Idealize.ShloMosaic.TcCoe Idealize.SL.Sem

namespace Cert.MixNorm

open Cert.KernelMixNormIdeal Cert.KernelMixNormIdeal.Gen Cert.Rows

/-- The gradient before the activation, one row. -/
def grad (x lg lb dy : Fin 512 → EReal) (j : Fin 512) : EReal := LayerNorm.dswish (LayerNorm.pre x lg lb j) (dy j)

/-- The gradient with respect to one row of the norm's argument. -/
def back (x lg lb dy : Fin 512 → EReal) (j : Fin 512) : EReal := LayerNorm.dx x (fun k => grad x lg lb dy k * lg k) j

/-- What one row adds to row `u` of the sums. -/
def part (x lg lb dy : Fin 512 → EReal) (u : Fin 8) (j : Fin 512) : EReal :=
  if u.val = 2 then back x lg lb dy j else if u.val = 1 then grad x lg lb dy j
  else if u.val = 0 then grad x lg lb dy j * LayerNorm.hat x j else 0

variable (x : FVec Ideal S1024x512 .f32) (lg lb : FVec Ideal S1x512 .f32) (dy : FVec Ideal S1024x512 .bf16) (z : FVec Ideal S1x512 .f32)

theorem pay_grad (r : Fin 1024) (j : Fin 512) :
    k0_pay10 (F := Ideal) (k0_pay6 x lg lb) (k0_pay7 x lg lb) (k0_pay8 dy) (k0_pay9 x lg lb) (ix2 r j)
      = grad (rows x r) (rows lg 0) (rows lb 0) (rows dy r) j := by
  have h : k0_pay6 (F := Ideal) x lg lb (ix2 r j) = LayerNorm.pre (rows x r) (rows lg 0) (rows lb 0) j := by
    pointwise [k0_pay6, k0_pay5, k0_pay4, k0_pay3]
    rfl
  rw [grad, ← h]
  pointwise [k0_pay10, k0_pay9, k0_pay8, k0_pay7]
  rfl

theorem pay_hat (r : Fin 1024) (j : Fin 512) : k0_pay5 (F := Ideal) x (ix2 r j) = LayerNorm.hat (rows x r) j := by
  pointwise [k0_pay5, k0_pay4, k0_pay3]
  rfl

theorem pay_inv (r : Fin 1024) : k0_pay4 (F := Ideal) x (ix2 r 0) = LayerNorm.inv (rows x r) := by
  pointwise [k0_pay4, k0_pay3]
  rfl

/-- The block of the gradient. -/
theorem pay_back (r : Fin 1024) (j : Fin 512) :
    k0_pay11 (F := Ideal) (k0_pay4 x) (k0_pay5 x) (k0_pay6 x lg lb) (k0_pay7 x lg lb) (k0_pay8 dy) (k0_pay9 x lg lb) lg (ix2 r j)
      = back (rows x r) (rows lg 0) (rows lb 0) (rows dy r) j := by
  have h : k0_pay11 (F := Ideal) (k0_pay4 x) (k0_pay5 x) (k0_pay6 x lg lb) (k0_pay7 x lg lb) (k0_pay8 dy) (k0_pay9 x lg lb) lg (ix2 r j)
      = k0_pay4 (F := Ideal) x (ix2 r 0) * (k0_pay10 (F := Ideal) (k0_pay6 x lg lb) (k0_pay7 x lg lb) (k0_pay8 dy) (k0_pay9 x lg lb) (ix2 r j) * lg (ix2 0 j)
        - Ideal.div (∑ k, k0_pay10 (F := Ideal) (k0_pay6 x lg lb) (k0_pay7 x lg lb) (k0_pay8 dy) (k0_pay9 x lg lb) (ix2 r k) * lg (ix2 0 k)) LayerNorm.len
        - k0_pay5 (F := Ideal) x (ix2 r j) * Ideal.div (∑ k, k0_pay10 (F := Ideal) (k0_pay6 x lg lb) (k0_pay7 x lg lb) (k0_pay8 dy) (k0_pay9 x lg lb) (ix2 r k) * lg (ix2 0 k)
          * k0_pay5 (F := Ideal) x (ix2 r k)) LayerNorm.len) := by
    generalize k0_pay4 (F := Ideal) x = a
    generalize k0_pay5 (F := Ideal) x = b
    generalize k0_pay6 (F := Ideal) x lg lb = p
    generalize k0_pay7 (F := Ideal) x lg lb = q
    generalize k0_pay8 (F := Ideal) dy = s
    generalize k0_pay9 (F := Ideal) x lg lb = u
    pointwise [k0_pay11]
  rw [h]
  simp only [pay_grad, pay_hat, pay_inv]
  rfl

/-- The rows of the sums after the point. -/
theorem pay_lg (j : Fin 512) :
    k0_pay12 (F := Ideal) (k0_pay5 x) (k0_pay6 x lg lb) (k0_pay7 x lg lb) (k0_pay8 dy) (k0_pay9 x lg lb) z (ix2 0 j)
      = z (ix2 0 j) + ∑ r : Fin 1024, grad (rows x r) (rows lg 0) (rows lb 0) (rows dy r) j * LayerNorm.hat (rows x r) j := by
  simp only [← pay_grad, ← pay_hat]
  generalize k0_pay5 (F := Ideal) x = b
  generalize k0_pay6 (F := Ideal) x lg lb = p
  generalize k0_pay7 (F := Ideal) x lg lb = q
  generalize k0_pay8 (F := Ideal) dy = s
  generalize k0_pay9 (F := Ideal) x lg lb = u
  pointwise [k0_pay12]

theorem pay_lb (j : Fin 512) :
    k0_pay13 (F := Ideal) (k0_pay6 x lg lb) (k0_pay7 x lg lb) (k0_pay8 dy) (k0_pay9 x lg lb) z (ix2 0 j)
      = z (ix2 0 j) + ∑ r : Fin 1024, grad (rows x r) (rows lg 0) (rows lb 0) (rows dy r) j := by
  simp only [← pay_grad]
  generalize k0_pay6 (F := Ideal) x lg lb = p
  generalize k0_pay7 (F := Ideal) x lg lb = q
  generalize k0_pay8 (F := Ideal) dy = s
  generalize k0_pay9 (F := Ideal) x lg lb = u
  pointwise [k0_pay13]

theorem pay_sum (G : FVec Ideal S1024x512 .f32) (j : Fin 512) :
    k0_pay1 (F := Ideal) G z (ix2 0 j) = z (ix2 0 j) + ∑ r : Fin 1024, G (ix2 r j) := by
  pointwise [k0_pay1]

theorem pay_zero (u : Fin 8) (j : Fin 512) : k0_pay2 (F := Ideal) (ix2 u j) = 0 := by
  pointwise [k0_pay2]

end Cert.MixNorm

end
-- ==== Proof.MixNormBlocks.lean ====
/- The normed gate's gradient, the kernel at one grid point: the block of the gradient it leaves, and what it adds to the sums. -/
module

public import proofs.«01_k».proof.Proof.MixNormPay

@[expose] public section

set_option maxRecDepth 16384

noncomputable section

open Idealize.ShloMosaic Idealize.ShloMosaic.TcCoe Idealize.SL.Sem

namespace Cert.MixNorm

open Cert.KernelMixNormIdeal Cert.KernelMixNormIdeal.Gen Cert.Rows

variable (m : (ℓ : Loc nD τ sig) → Buf (Elt Ideal) ℓ) (c : Dev nD) (t : Fin cfg0.N)

/-- The four blocks a point loads. -/
abbrev bx : FVec Ideal S1024x512 .f32 := show FVec Ideal S1024x512 .f32 from iblk m c 0 t
abbrev bdy : FVec Ideal S1024x512 .bf16 := show FVec Ideal S1024x512 .bf16 from iblk m c 1 t
abbrev blg : FVec Ideal S1x512 .f32 := show FVec Ideal S1x512 .f32 from iblk m c 2 t
abbrev blb : FVec Ideal S1x512 .f32 := show FVec Ideal S1x512 .f32 from iblk m c 3 t

/-- What a point adds to the sums, by row and column. -/
def adds (u : Fin 8) (j : Fin 512) : EReal :=
  ∑ r : Fin 1024, part (rows (bx m c t) r) (rows (blg m c t) 0) (rows (blb m c t) 0) (rows (bdy m c t) r) u j

/-- The point's block of the gradient. -/
theorem out_back (r : Fin 1024) (j : Fin 512) :
    (outsAt0 m c t.val t.isLt).1 (ix2 r j) = back (rows (bx m c t) r) (rows (blg m c t) 0) (rows (blb m c t) 0) (rows (bdy m c t) r) j := by
  by_cases e : t.val % 4 = 0
  · rw [outsAt0_A m c t e]
    frame_out
    exact pay_back (bx m c t) (blg m c t) (blb m c t) (bdy m c t) r j
  · rw [outsAt0_B m c t e]
    frame_out
    exact pay_back (bx m c t) (blg m c t) (blb m c t) (bdy m c t) r j

theorem adds_two (u : Fin 8) (j : Fin 512) (hu : u.val = 2) : adds m c t u j
    = ∑ r : Fin 1024, k0_pay11 (F := Ideal) (k0_pay4 (bx m c t)) (k0_pay5 (bx m c t)) (k0_pay6 (bx m c t) (blg m c t) (blb m c t))
      (k0_pay7 (bx m c t) (blg m c t) (blb m c t)) (k0_pay8 (bdy m c t)) (k0_pay9 (bx m c t) (blg m c t) (blb m c t)) (blg m c t) (ix2 r j) := by
  simp only [adds, part, if_pos hu, pay_back]

theorem adds_one (u : Fin 8) (j : Fin 512) (hu : u.val = 1) : adds m c t u j
    = ∑ r : Fin 1024, grad (rows (bx m c t) r) (rows (blg m c t) 0) (rows (blb m c t) 0) (rows (bdy m c t) r) j := by
  simp only [adds, part, if_pos hu, if_neg (show ¬ u.val = 2 by omega)]

theorem adds_zero (u : Fin 8) (j : Fin 512) (hu : u.val = 0) : adds m c t u j
    = ∑ r : Fin 1024, grad (rows (bx m c t) r) (rows (blg m c t) 0) (rows (blb m c t) 0) (rows (bdy m c t) r) j * LayerNorm.hat (rows (bx m c t) r) j := by
  simp only [adds, part, if_pos hu, if_neg (show ¬ u.val = 2 by omega), if_neg (show ¬ u.val = 1 by omega)]

theorem adds_rest (u : Fin 8) (j : Fin 512) (hu : 3 ≤ u.val) : adds m c t u j = 0 := by
  simp only [adds, part, if_neg (show ¬ u.val = 2 by omega), if_neg (show ¬ u.val = 1 by omega), if_neg (show ¬ u.val = 0 by omega), Finset.sum_const_zero]

/-- The rows a point stores over sums `Z`: the sums and what the point adds. -/
theorem stored (Z : FVec Ideal S8x512 .f32) (u : Fin 8) (j : Fin 512) (z0 z1 z2 : FVec Ideal S1x512 .f32)
    (h0 : u.val = 0 → z0 (ix2 0 j) = Z (ix2 u j)) (h1 : u.val = 1 → z1 (ix2 0 j) = Z (ix2 u j)) (h2 : u.val = 2 → z2 (ix2 0 j) = Z (ix2 u j)) :
    (if u.val = 2 then k0_pay1 (F := Ideal) (k0_pay11 (k0_pay4 (bx m c t)) (k0_pay5 (bx m c t)) (k0_pay6 (bx m c t) (blg m c t) (blb m c t))
          (k0_pay7 (bx m c t) (blg m c t) (blb m c t)) (k0_pay8 (bdy m c t)) (k0_pay9 (bx m c t) (blg m c t) (blb m c t)) (blg m c t)) z2 (ix2 0 j)
      else if u.val = 1 then k0_pay13 (F := Ideal) (k0_pay6 (bx m c t) (blg m c t) (blb m c t)) (k0_pay7 (bx m c t) (blg m c t) (blb m c t))
          (k0_pay8 (bdy m c t)) (k0_pay9 (bx m c t) (blg m c t) (blb m c t)) z1 (ix2 0 j)
      else if u.val = 0 then k0_pay12 (F := Ideal) (k0_pay5 (bx m c t)) (k0_pay6 (bx m c t) (blg m c t) (blb m c t)) (k0_pay7 (bx m c t) (blg m c t) (blb m c t))
          (k0_pay8 (bdy m c t)) (k0_pay9 (bx m c t) (blg m c t) (blb m c t)) z0 (ix2 0 j)
      else Z (ix2 u j)) = Z (ix2 u j) + adds m c t u j := by
  split
  · rename_i hu
    rw [pay_sum, h2 hu, adds_two m c t u j hu]
  split
  · rename_i hu
    rw [pay_lb, h1 hu, adds_one m c t u j hu]
  split
  · rename_i hu
    rw [pay_lg, h0 hu, adds_zero m c t u j hu]
  · rw [adds_rest m c t u j (by omega), add_zero]

/-- The first point's sums: what it adds to zero, -/
theorem sumsA (e : t.val % 4 = 0) (u : Fin 8) (j : Fin 512) : (outsAt0 m c t.val t.isLt).2 (ix2 u j) = 0 + adds m c t u j := by
  rw [outsAt0_A m c t e]
  frame_open
  simp (disch := decide) only [↓View.readCov_skip, ↓View.readCov_cons_toLoadRect, ↓View.readCov_fill]
  frame_out
  rw [canon_row 2, canon_row 1, canon_row 0, View.canon_cons_unit_lit _ _ _ (by decide), ← pay_zero u j]
  exact stored m c t k0_pay2 u j _ _ _ (fun h => ld_row _ 0 _ u j h) (fun h => ld_row _ 1 _ u j h) (fun h => ld_row _ 2 _ u j h)

/-- and a later point's: what it adds to the sums before. -/
theorem sumsB (e : ¬ t.val % 4 = 0) (u : Fin 8) (j : Fin 512) :
    (outsAt0 m c t.val t.isLt).2 (ix2 u j) = (outsAt0 m c (t.val - 1) (Nat.lt_of_le_of_lt (Nat.sub_le _ _) t.isLt)).2 (ix2 u j) + adds m c t u j := by
  rw [outsAt0_B m c t e]
  frame_out
  rw [read_row _ _ 2, read_row _ _ 1, read_row _ _ 0]
  simp only [View.writes_nil, Memref.IsWhole.read_unread]
  exact stored m c t (outsAt0 m c (t.val - 1) (Nat.lt_of_le_of_lt (Nat.sub_le _ _) t.isLt)).2 u j _ _ _
    (fun h => ld_row _ 0 _ u j h) (fun h => ld_row _ 1 _ u j h) (fun h => ld_row _ 2 _ u j h)

end Cert.MixNorm

end
-- ==== Proof.MixNormRef.lean ====
/- The normed gate's gradient, the plain side: the gradient that is taken of the plain norm and activation, row by row. -/
module

public import proofs.«01_k».proof.Proof.LayerNorm
public import proofs.«01_k».proof.Proof.Sums
public import proofs.«01_k».proof.Proof.Gen.ReferenceMixNormIdeal.Read
public import Idealize.ShloMosaic.Lib.Pipeline.ValueKit

@[expose] public section

set_option maxRecDepth 16384

noncomputable section

open Idealize.ShloMosaic Idealize.ShloMosaic.TcCoe

namespace Cert.MixNormRef

open Cert.ReferenceMixNormIdeal Cert.ReferenceMixNormIdeal.Read

variable (z : FVec Ideal S2x2048x512 .f32) (cb lg lb : FVec Ideal S1x512 .f32) (dy : FVec Ideal S2x2048x1024 .f32) (b : Fin 2) (s : Fin 2048)

/-- The norm's argument, its gain and its shift, and the activation's gradient, one row each. -/
def inp (j : Fin 512) : EReal := z (ix3 b s j) + cb (ix2 0 j)
def vec (w : FVec Ideal S1x512 .f32) (j : Fin 512) : EReal := w (ix2 0 j)
def cot (j : Fin 512) : EReal := dy (ix3 b s ⟨j.val, by omega⟩)

theorem inp_apply (j : Fin 512) : val_main_v3 (F := Ideal) z cb (ix3 b s j) = inp z cb b s j := by
  unfold val_main_v3 val_main_v2 val_main_v1 val_main_v0
  pointwise []
  rfl

theorem dev_apply (j : Fin 512) : val_main_v20 (F := Ideal) z cb (ix3 b s j) = LayerNorm.dev (inp z cb b s) j := by
  simp only [LayerNorm.dev, ← inp_apply]
  unfold val_main_v20 val_main_v19 val_main_v9 val_main_v8 val_main_v7 val_main_v6
  generalize val_main_v3 (F := Ideal) z cb = X
  pointwise [val_main_cst, val_main_cst_0]

theorem dev_apply' (j : Fin 512) : val_main_v11 (F := Ideal) z cb (ix3 b s j) = LayerNorm.dev (inp z cb b s) j := by
  simp only [LayerNorm.dev, ← inp_apply]
  unfold val_main_v11 val_main_v10 val_main_v9 val_main_v8 val_main_v7 val_main_v6
  generalize val_main_v3 (F := Ideal) z cb = X
  pointwise [val_main_cst, val_main_cst_0]

theorem var_apply (x : Fin 1) : val_main_v22 (F := Ideal) z cb (ix3 b s x) = LayerNorm.var (inp z cb b s) := by
  simp only [LayerNorm.var, ← dev_apply']
  unfold val_main_v22 val_main_v21 val_main_v18 val_main_v17 val_main_v16 val_main_v15 val_main_v12
  generalize val_main_v11 (F := Ideal) z cb = X
  pointwise [val_main_cst_2, val_main_cst_3, val_main_cst_4]

theorem inv_apply (x : Fin 1) : val_main_v23 (F := Ideal) z cb (ix3 b s x) = LayerNorm.inv (inp z cb b s) := by
  simp only [LayerNorm.inv, ← var_apply z cb b s x]
  unfold val_main_v23
  generalize val_main_v22 (F := Ideal) z cb = X
  pointwise []

theorem hat_apply (j : Fin 512) : val_main_v28 (F := Ideal) z cb (ix3 b s j) = LayerNorm.hat (inp z cb b s) j := by
  simp only [LayerNorm.hat, ← dev_apply, ← inv_apply z cb b s 0]
  unfold val_main_v28 val_main_v27
  generalize val_main_v20 (F := Ideal) z cb = X
  generalize val_main_v23 (F := Ideal) z cb = Y
  pointwise []

theorem pre_apply (j : Fin 512) : val_main_v34 (F := Ideal) z cb lg lb (ix3 b s j) = LayerNorm.pre (inp z cb b s) (vec lg) (vec lb) j := by
  simp only [LayerNorm.pre, ← hat_apply]
  unfold val_main_v34 val_main_v33 val_main_v32 val_main_v31 val_main_v30 val_main_v29 val_main_v5 val_main_v4
  generalize val_main_v28 (F := Ideal) z cb = X
  pointwise []
  rfl

/-- The gradient before the activation, one row. -/
def grad (j : Fin 512) : EReal := LayerNorm.dswishRef (LayerNorm.pre (inp z cb b s) (vec lg) (vec lb) j) (cot dy b s j)

theorem grad_apply (j : Fin 512) : val_main_v37 (F := Ideal) z cb lg lb dy (ix3 b s j) = grad z cb lg lb dy b s j := by
  simp only [grad, LayerNorm.dswishRef, LayerNorm.sigRef, ← pre_apply]
  unfold val_main_v37 val_main_call1_v1 val_main_call1_v2 val_main_call1_v0 val_main_v35_1 val_main_call0_v7 val_main_v35_2 val_main_call0_v6
    val_main_call0_v3 val_main_call0_v4 val_main_call0_v1 val_main_call0_v2 val_main_call0_v0 val_main_v36
  generalize val_main_v34 (F := Ideal) z cb lg lb = Y
  unfold cot
  pointwise [val_main_call0_cst, val_main_call0_cst_0, val_main_call0_cst_1]

theorem gx_apply (j : Fin 512) : val_main_v45 (F := Ideal) z cb lg lb dy (ix3 b s j) = grad z cb lg lb dy b s j * vec lg j := by
  simp only [← grad_apply]
  unfold val_main_v45 val_main_v44 val_main_v29 val_main_v4
  generalize val_main_v37 (F := Ideal) z cb lg lb dy = Y
  pointwise []
  rfl

theorem through_apply (j : Fin 512) : val_main_v60 (F := Ideal) z cb lg lb dy (ix3 b s j)
    = LayerNorm.thru (inp z cb b s) (fun k => grad z cb lg lb dy b s k * vec lg k) j := by
  simp only [LayerNorm.thru]
  simp only [← gx_apply, ← dev_apply', ← inv_apply z cb b s 0, ← var_apply z cb b s 0]
  simp only [dev_apply', ← dev_apply]
  unfold val_main_v60 val_main_v59 val_main_v58 val_main_v57 val_main_v56 val_main_v52 val_main_v26 val_main_v25 val_main_v24 val_main_v49 val_main_v48
    val_main_v47 val_main_v14 val_main_v13
  generalize hD : val_main_v11 (F := Ideal) z cb = D
  have e : ∀ k, val_main_v20 (F := Ideal) z cb (ix3 b s k) = D (ix3 b s k) := fun k => by rw [← hD, dev_apply, dev_apply']
  simp only [e]
  generalize hE : val_main_v20 (F := Ideal) z cb = E at e
  generalize val_main_v45 (F := Ideal) z cb lg lb dy = A
  generalize val_main_v23 (F := Ideal) z cb = B
  generalize val_main_v22 (F := Ideal) z cb = C
  pointwise [val_main_cst_1, val_main_cst_5, val_main_cst_10, val_main_cst_12, val_main_cst_13]
  simp only [e]
  simp only [Fin.sum_univ_one]

theorem back_apply (j : Fin 512) : val_main_v70 (F := Ideal) z cb lg lb dy (ix3 b s j)
    = LayerNorm.dxRef (inp z cb b s) (fun k => grad z cb lg lb dy b s k * vec lg k) j := by
  unfold LayerNorm.dxRef
  rw [← funext (through_apply z cb lg lb dy b s)]
  simp only [ ← inv_apply z cb b s 0, ← gx_apply]
  unfold val_main_v70 val_main_v69 val_main_v68 val_main_v67 val_main_v66 val_main_v65 val_main_v64 val_main_v63 val_main_v62 val_main_v61 val_main_v55
    val_main_v54 val_main_v53 val_main_v51 val_main_v50
  generalize val_main_v60 (F := Ideal) z cb lg lb dy = B
  generalize val_main_v45 (F := Ideal) z cb lg lb dy = A
  generalize val_main_v23 (F := Ideal) z cb = C
  pointwise [val_main_cst_11, val_main_cst_14, val_main_cst_15, val_main_cst_16]

/-- The gradient with respect to the norm's argument. -/
theorem back_flat (j : Fin 512) : val_main_v77 (F := Ideal) z cb lg lb dy (ix2 ⟨b.val * 2048 + s.val, by omega⟩ j)
    = LayerNorm.dxRef (inp z cb b s) (fun k => grad z cb lg lb dy b s k * vec lg k) j := by
  simp only [← back_apply]
  unfold val_main_v77
  generalize val_main_v70 (F := Ideal) z cb lg lb dy = B
  pointwise []

/-- The sums over all rows: the gain's gradient, -/
theorem sum_lg (j : Fin 512) : val_main_v79 (F := Ideal) z cb lg lb dy (ix2 0 j)
    = ∑ b : Fin 2, ∑ s : Fin 2048, LayerNorm.hat (inp z cb b s) j * grad z cb lg lb dy b s j := by
  simp only [← grad_apply, ← hat_apply]
  unfold val_main_v79 val_main_v72 val_main_v46 val_main_v43 val_main_v42 val_main_v41
  generalize val_main_v37 (F := Ideal) z cb lg lb dy = G
  generalize val_main_v28 (F := Ideal) z cb = H
  generalize val_main_v71 (F := Ideal) z cb lg lb dy = Q
  generalize val_main_v76 (F := Ideal) z cb lg lb dy = T
  pointwise [Ideal.hostReduceAdd_lead2, val_main_cst_8, val_main_cst_9]
  simp only [Fin.sum_univ_one]

/-- the shift's gradient, -/
theorem sum_lb (j : Fin 512) : val_main_v79 (F := Ideal) z cb lg lb dy (ix2 1 j)
    = ∑ b : Fin 2, ∑ s : Fin 2048, grad z cb lg lb dy b s j := by
  simp only [← grad_apply]
  unfold val_main_v79 val_main_v71 val_main_v40 val_main_v39 val_main_v38
  generalize val_main_v37 (F := Ideal) z cb lg lb dy = G
  generalize val_main_v72 (F := Ideal) z cb lg lb dy = Q
  generalize val_main_v76 (F := Ideal) z cb lg lb dy = T
  pointwise [Ideal.hostReduceAdd_lead2, val_main_cst_6, val_main_cst_7]
  simp only [Fin.sum_univ_one]

/-- the bias's gradient; -/
theorem sum_back (j : Fin 512) : val_main_v79 (F := Ideal) z cb lg lb dy (ix2 2 j)
    = ∑ b : Fin 2, ∑ s : Fin 2048, LayerNorm.dxRef (inp z cb b s) (fun k => grad z cb lg lb dy b s k * vec lg k) j := by
  simp only [← back_apply]
  unfold val_main_v79 val_main_v76 val_main_v75 val_main_v74 val_main_v73
  generalize val_main_v70 (F := Ideal) z cb lg lb dy = G
  generalize val_main_v72 (F := Ideal) z cb lg lb dy = Q
  generalize val_main_v71 (F := Ideal) z cb lg lb dy = T
  pointwise [Ideal.hostReduceAdd_lead2, val_main_cst_17, val_main_cst_18]
  simp only [Fin.sum_univ_one]

/-- the remaining rows hold zero. -/
theorem sum_rest (u : Fin 8) (j : Fin 512) (hu : 3 ≤ u.val) : val_main_v79 (F := Ideal) z cb lg lb dy (ix2 u j) = 0 := by
  unfold val_main_v79 val_main_v78
  generalize val_main_v72 (F := Ideal) z cb lg lb dy = Q
  generalize val_main_v71 (F := Ideal) z cb lg lb dy = T
  generalize val_main_v76 (F := Ideal) z cb lg lb dy = W
  pointwise [val_main_cst_19]
  rw [dif_neg (by omega), dif_neg (by omega), dif_neg (by omega)]

end Cert.MixNormRef

end
-- ==== Proof.MixNorm.lean ====
/- The normed gate's gradient: the kernel, whose body writes the gradient out, leaves on finite arguments what the gradient
   taken of the plain lines leaves. -/
module

public import proofs.«01_k».proof.Defs
public import proofs.«01_k».proof.Proof.MixNormBlocks
public import proofs.«01_k».proof.Proof.MixNormRef
public import proofs.«01_k».proof.Proof.Gen.Pre_finite_mixnorm

@[expose] public section

set_option maxRecDepth 16384

noncomputable section

open Idealize.ShloMosaic Idealize.ShloMosaic.TcCoe Idealize.SL.Sem

namespace Cert.MixNorm

open Cert.KernelMixNormIdeal Cert.KernelMixNormIdeal.Gen Cert.Rows

section rows
variable (z : FVec Ideal ⟨3, ![2, 2048, 512]⟩ .f32) (cb lg lb : FVec Ideal ⟨2, ![1, 512]⟩ .f32) (dy : FVec Ideal ⟨3, ![2, 2048, 1024]⟩ .f32)
  (b : Fin 2) (s : Fin 2048) (hz : ∀ i, ∃ y : ℝ, z i = y) (hcb : ∀ i, ∃ y : ℝ, cb i = y) (hlg : ∀ i, ∃ y : ℝ, lg i = y)
  (hlb : ∀ i, ∃ y : ℝ, lb i = y) (hdy : ∀ i, ∃ y : ℝ, dy i = y)
include hz hcb hlg hlb hdy

/-- One row's kernel gradient before the activation is the plain one, -/
theorem grad_row (k : Fin 512) : grad (MixNormRef.inp z cb b s) (MixNormRef.vec lg) (MixNormRef.vec lb) (MixNormRef.cot dy b s) k
    = MixNormRef.grad z cb lg lb dy b s k := by
  refine LayerNorm.dswish_eq ?_ (hdy _)
  obtain ⟨h, hh⟩ := LayerNorm.hat_real (MixNormRef.inp z cb b s) (fun k => Real.add_real (hz _) (hcb _)) k
  exact LayerNorm.pre_real _ _ _ k ⟨h, hh⟩ (hlg _) (hlb _)

/-- and real; -/
theorem grad_real (k : Fin 512) : ∃ y : ℝ, MixNormRef.grad z cb lg lb dy b s k = y :=
  LayerNorm.dswish_real (LayerNorm.pre_real _ _ _ k (LayerNorm.hat_real _ (fun k => Real.add_real (hz _) (hcb _)) k) (hlg _) (hlb _)) (hdy _)

/-- so is the gradient with respect to the norm's argument. -/
theorem back_row (k : Fin 512) : back (MixNormRef.inp z cb b s) (MixNormRef.vec lg) (MixNormRef.vec lb) (MixNormRef.cot dy b s) k
    = LayerNorm.dxRef (MixNormRef.inp z cb b s) (fun k => MixNormRef.grad z cb lg lb dy b s k * MixNormRef.vec lg k) k := by
  refine Eq.trans (congrArg (LayerNorm.dx _ · k) (funext fun k => congrArg (· * _) (grad_row z cb lg lb dy b s hz hcb hlg hlb hdy k)))
    (LayerNorm.dx_eq rfl _ _ (fun k => Real.add_real (hz _) (hcb _))
      (fun k => Real.mul_real (grad_real z cb lg lb dy b s hz hcb hlg hlb hdy k) (hlg _)) k)

/-- What one row adds to the sums, summed over all rows, is the plain array of sums. -/
theorem sums_rows (u : Fin 8) (j : Fin 512) :
    (∑ b : Fin 2, ∑ s : Fin 2048, part (MixNormRef.inp z cb b s) (MixNormRef.vec lg) (MixNormRef.vec lb) (MixNormRef.cot dy b s) u j)
      = Cert.ReferenceMixNormIdeal.Read.val_main_v79 (F := Ideal) z cb lg lb dy (ix2 u j) := by
  unfold part
  by_cases h2 : u.val = 2
  · obtain rfl : u = 2 := Fin.ext h2
    simp only [if_pos h2, back_row z cb lg lb dy _ _ hz hcb hlg hlb hdy, MixNormRef.sum_back]
  by_cases h1 : u.val = 1
  · obtain rfl : u = 1 := Fin.ext h1
    simp only [if_neg h2, if_pos h1, grad_row z cb lg lb dy _ _ hz hcb hlg hlb hdy, MixNormRef.sum_lb]
  by_cases h0 : u.val = 0
  · obtain rfl : u = 0 := Fin.ext h0
    simp only [if_neg h2, if_neg h1, if_pos h0, grad_row z cb lg lb dy _ _ hz hcb hlg hlb hdy, MixNormRef.sum_lg]
    exact Finset.sum_congr rfl fun _ _ => Finset.sum_congr rfl fun _ _ => mul_comm _ _
  · simp only [if_neg h2, if_neg h1, if_neg h0, Finset.sum_const_zero, MixNormRef.sum_rest z cb lg lb dy u j (by omega)]

end rows

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] :=
  (by decide +kernel : ∀ t : Fin grid0.N, _)

/-- The kernel's arguments as arrays. -/
abbrev az : FVec Ideal ⟨3, ![2, 2048, 512]⟩ .f32 := m ((c : Thread nD τ).loc main_arg0)
abbrev acb : FVec Ideal ⟨2, ![1, 512]⟩ .f32 := m ((c : Thread nD τ).loc main_arg1)
abbrev alg : FVec Ideal ⟨2, ![1, 512]⟩ .f32 := m ((c : Thread nD τ).loc main_arg2)
abbrev alb : FVec Ideal ⟨2, ![1, 512]⟩ .f32 := m ((c : Thread nD τ).loc main_arg3)
abbrev ady : FVec Ideal ⟨3, ![2, 2048, 1024]⟩ .f32 := m ((c : Thread nD τ).loc main_arg4)

/-- Row `r` of point `t`'s blocks is the row `1024 t + r` of the arrays. -/
theorem at_x (t : Fin cfg0.N) (b : Fin 2) (s : Fin 2048) (r : Fin 1024) (k : Fin 512) (hr : t.val * 1024 + r.val = b.val * 2048 + s.val) :
    (show FVec Ideal S1024x512 .f32 from iblk m c 0 t) (ix2 r k)
      = @HAdd.hAdd EReal EReal EReal _ (m ((c : Thread nD τ).loc main_arg0) (ix3 b s k)) (m ((c : Thread nD τ).loc main_arg1) (ix2 0 k)) := by
  blk_simp [iblk, V]
  entry_read
  pointwise []
  blk_point [idx t]

theorem at_dy (t : Fin cfg0.N) (b : Fin 2) (s : Fin 2048) (r : Fin 1024) (k : Fin 512) (hr : t.val * 1024 + r.val = b.val * 2048 + s.val) :
    (show FVec Ideal S1024x512 .bf16 from iblk m c 1 t) (ix2 r k) = m ((c : Thread nD τ).loc main_arg4) (ix3 b s ⟨k.val, by omega⟩) := by
  blk_point [iblk, V, idx t]

theorem at_lg (t : Fin cfg0.N) (k : Fin 512) : (show FVec Ideal S1x512 .f32 from iblk m c 2 t) (ix2 0 k) = m ((c : Thread nD τ).loc main_arg2) (ix2 0 k) := by
  blk_point [iblk, V, idx t]

theorem at_lb (t : Fin cfg0.N) (k : Fin 512) : (show FVec Ideal S1x512 .f32 from iblk m c 3 t) (ix2 0 k) = m ((c : Thread nD τ).loc main_arg3) (ix2 0 k) := by
  blk_point [iblk, V, idx t]

theorem read_x (t : Fin cfg0.N) (b : Fin 2) (s : Fin 2048) (r : Fin 1024) (hr : t.val * 1024 + r.val = b.val * 2048 + s.val) :
    rows (bx m c t) r = MixNormRef.inp (az m c) (acb m c) b s :=
  funext fun k => at_x m c t b s r k hr

theorem read_dy (t : Fin cfg0.N) (b : Fin 2) (s : Fin 2048) (r : Fin 1024) (hr : t.val * 1024 + r.val = b.val * 2048 + s.val) :
    rows (bdy m c t) r = MixNormRef.cot (ady m c) b s :=
  funext fun k => at_dy m c t b s r k hr

theorem read_lg (t : Fin cfg0.N) : rows (blg m c t) 0 = MixNormRef.vec (alg m c) :=
  funext fun k => at_lg m c t k

theorem read_lb (t : Fin cfg0.N) : rows (blb m c t) 0 = MixNormRef.vec (alb m c) :=
  funext fun k => at_lb m c t k

section
variable (hz : ∀ i, ∃ y : ℝ, az m c i = y) (hcb : ∀ i, ∃ y : ℝ, acb m c i = y) (hlg : ∀ i, ∃ y : ℝ, alg m c i = y)
  (hlb : ∀ i, ∃ y : ℝ, alb m c i = y) (hdy : ∀ i, ∃ y : ℝ, ady m c i = y)
include hz hcb hlg hlb hdy

/-- A point's block of the gradient, at an index, is the plain gradient at the array's index. -/
theorem point_back (t : Fin cfg0.N) (y : S1024x512.Idx) (i : (⟨2, ![4096, 512]⟩ : Shape).Idx)
    (h0 : (i 0).val = t.val * 1024 + (y 0).val) (h1 : (i 1).val = (y 1).val) :
    (outsAt0 m c t.val t.isLt).1 y
      = Cert.ReferenceMixNormIdeal.Read.val_main_v77 (F := Ideal) (az m c) (acb m c) (alg m c) (alb m c) (ady m c) i := by
  have ht : t.val < 4 := t.isLt
  obtain ⟨r, l, rfl⟩ : ∃ (r : Fin 1024) (l : Fin 512), y = ix2 r l := ⟨_, _, eq_ix2 y⟩
  change (i 0).val = t.val * 1024 + r.val at h0
  change (i 1).val = l.val at h1
  obtain ⟨b, s, hs⟩ : ∃ (b : Fin 2) (s : Fin 2048), t.val * 1024 + r.val = b.val * 2048 + s.val :=
    ⟨⟨t.val / 2, by omega⟩, ⟨t.val % 2 * 1024 + r.val, by omega⟩, by show _ = _ / 2 * 2048 + (_ % 2 * 1024 + _); omega⟩
  have e : i = ix2 ⟨b.val * 2048 + s.val, by omega⟩ l := (eq_ix2 i).trans (congrArg₂ ix2 (Fin.ext (h0.trans hs)) (Fin.ext h1))
  rw [out_back, read_x m c t b s r hs, read_dy m c t b s r hs, read_lg, read_lb, e, MixNormRef.back_flat,
    back_row _ _ _ _ _ b s hz hcb hlg hlb hdy]

/-- The last point's sums are the plain ones. -/
theorem point_sums (y : S8x512.Idx) :
    (outsAt0 m c 3 (by decide)).2 y
      = Cert.ReferenceMixNormIdeal.Read.val_main_v79 (F := Ideal) (az m c) (acb m c) (alg m c) (alb m c) (ady m c) y := by
  obtain ⟨u, j, rfl⟩ : ∃ (u : Fin 8) (j : Fin 512), y = ix2 u j := ⟨_, _, eq_ix2 y⟩
  rw [← sums_rows _ _ _ _ _ hz hcb hlg hlb hdy]
  rw [Pipeline.eq_sum_fin_of_reset_step_apply_last (fun n h => (outsAt0 m c n h).2) 4 (fun _ => 0) (fun t y => adds m c t (y 0) (y 1))
    (fun t h y => by obtain ⟨u, j, rfl⟩ : ∃ (u : Fin 8) (j : Fin 512), y = ix2 u j := ⟨_, _, eq_ix2 y⟩; exact sumsA m c t h u j)
    (fun t h y => by obtain ⟨u, j, rfl⟩ : ∃ (u : Fin 8) (j : Fin 512), y = ix2 u j := ⟨_, _, eq_ix2 y⟩; exact sumsB m c t h u j)
    (le_of_eq N_0) ⟨3, by decide⟩ rfl (ix2 u j), zero_add]
  refine Fin.sum_points_lanes_congr 2 (fun t r ha hl => ?_) (by exact N_0)
  have hr : t.val * 1024 + r.val = t.val / 2 * 2048 + (t.val % 2 * 1024 + r.val) := by omega
  rw [read_x m c t ⟨t.val / 2, ha⟩ ⟨t.val % 2 * 1024 + r.val, hl⟩ r hr, read_dy m c t ⟨t.val / 2, ha⟩ ⟨t.val % 2 * 1024 + r.val, hl⟩ r hr, read_lg, read_lb]
  rfl

theorem final_back : (dats m 0 c).arrAt 4 cfg0.N
    = Cert.ReferenceMixNormIdeal.Read.val_main_v77 (F := Ideal) (az m c) (acb m c) (alg m c) (alb m c) (ady m c) := by
  refine (dats m 0 c).arrAt_eq_of_covers 4 _ (by decide +kernel) fun t hf y => ?_
  blk_simp
  rw [after0_4]
  refine point_back m c hz hcb hlg hlb hdy t y _ ?_ ?_
  · blk_simp [idx t]
  · blk_simp [idx t]

theorem final_sums : (dats m 0 c).arrAt 5 cfg0.N
    = Cert.ReferenceMixNormIdeal.Read.val_main_v79 (F := Ideal) (az m c) (acb m c) (alg m c) (alb m c) (ady m c) := by
  refine (dats m 0 c).arrAt_eq_of_after_last 5 t0_3 (by decide +kernel) _ fun j => ?_
  blk_simp
  rw [after0_5]
  exact point_sums m c hz hcb hlg hlb hdy j

end

/-- At finite arguments the kernel and the gradient taken of the plain lines leave the same arrays. -/
theorem algebraic : Cert.algebraic_KernelMixNormIdeal_ReferenceMixNormIdeal_pre_finite_mixnorm := fun m g m' g' hpre hag =>
  ⟨fun c => Cert.ReferenceMixNormIdeal.Read.val_main_v77 (F := Ideal) (az m c) (acb m c) (alg m c) (alb m c) (ady m c),
    fun c => Cert.ReferenceMixNormIdeal.Read.val_main_v79 (F := Ideal) (az m c) (acb m c) (alg m c) (alb m c) (ady m c),
    (θ_run _ _ _).mono (fun _ h c => ⟨(h c).1.trans (final_back m c (fun i => Cert.Real.exists_real (congrFun (hpre c).1 i))
        (fun i => Cert.Real.exists_real (congrFun (hpre c).2.1 i)) (fun i => Cert.Real.exists_real (congrFun (hpre c).2.2.1 i))
        (fun i => Cert.Real.exists_real (congrFun (hpre c).2.2.2.1 i)) (fun i => Cert.Real.exists_real (congrFun (hpre c).2.2.2.2 i))),
      (h c).2.1.trans (final_sums m c (fun i => Cert.Real.exists_real (congrFun (hpre c).1 i))
        (fun i => Cert.Real.exists_real (congrFun (hpre c).2.1 i)) (fun i => Cert.Real.exists_real (congrFun (hpre c).2.2.1 i))
        (fun i => Cert.Real.exists_real (congrFun (hpre c).2.2.2.1 i)) (fun i => Cert.Real.exists_real (congrFun (hpre c).2.2.2.2 i))), (h c).2.2⟩)
      (Cert.KernelMixNormIdeal.Value.run_blocks m g),
    (θ_run _ _ _).mono (fun _ h c => ⟨(h c).1.trans ((Cert.ReferenceMixNormIdeal.Read.val_main_v77_eq (StableHlo.launchContents m' c)).trans
        (Cert.Real.congr5 (Cert.ReferenceMixNormIdeal.Read.val_main_v77 (F := Ideal)) (hag c))),
      (h c).2.1.trans ((Cert.ReferenceMixNormIdeal.Read.val_main_v79_eq (StableHlo.launchContents m' c)).trans
        (Cert.Real.congr5 (Cert.ReferenceMixNormIdeal.Read.val_main_v79 (F := Ideal)) (hag c))),
      (h c).2.2⟩) (Cert.ReferenceMixNormIdeal.Value.run m' g')⟩

end Cert.MixNorm

end
-- ==== Proof.RmsNorm.lean ====
/- The norm that divides a row by the root of its mean square, backwards: the gradient as the kernels write it and as it comes
   out of the plain lines, row by row, and that the two agree on reals. -/
module

public import proofs.«01_k».proof.Proof.Real

@[expose] public section

noncomputable section

open Idealize.ShloMosaic

namespace Cert.RmsNorm

/-- The row length as the programs hold it. -/
abbrev len : EReal := Ideal.ofBits .f32 0x44800000#32

abbrev eps : EReal := Ideal.ofBits .f32 0x358637BD#32

abbrev mhalf : EReal := Ideal.ofBits .f32 0xBF000000#32

section
variable {n : Nat} (x d res : Fin n → EReal)

/-- A row's mean square, a little enlarged. -/
def ms : EReal := Ideal.div (∑ k, x k * x k) len + eps

def inv : EReal := Ideal.rsqrt (ms x)

/-- The normed row. -/
def hat (j : Fin n) : EReal := x j * inv x

/-- The gradient with respect to the row, as the kernels write it; `d` is the gradient to the normed row. -/
def dx (j : Fin n) : EReal := inv x * (d j - hat x j * Ideal.div (∑ k, d k * hat x k) len)

/-- The factor of the part of the plain gradient that runs through the mean square. -/
def coef : EReal := ∑ _i : Fin 1, Ideal.div ((∑ k, x k * d k) * (mhalf * Ideal.div (inv x) (ms x))) len

/-- The plain gradient with respect to the row, added to a gradient `res` that reaches the row past the norm. -/
def dxRef (j : Fin n) : EReal := res j + d j * inv x + x j * coef x d + coef x d * x j

/-- A row times the transpose of a matrix. -/
def proj {p : Nat} (a : Fin p → EReal) (w : Fin n → Fin p → EReal) (j : Fin n) : EReal := ∑ k, a k * w j k

end

theorem len_eq : len = ((1024 : ℝ) : EReal) := by simp [len, Ideal.ofBits, Ideal.ieee, -EReal.coe_mul]; norm_num

theorem mhalf_eq : mhalf = ((-(1 / 2) : ℝ) : EReal) := by simp [mhalf, Ideal.ofBits, Ideal.ieee, -EReal.coe_mul]; norm_num

theorem eps_eq : ∃ e : ℝ, 0 < e ∧ eps = e :=
  ⟨8796093 * (2 : ℝ) ^ (-43 : ℤ), by positivity, by simp [eps, Ideal.ofBits, Ideal.ieee, -EReal.coe_mul]⟩

/-- The root: a positive real whose square is the inverse of the mean square. -/
theorem inv_coe {n : Nat} (x : Fin n → ℝ) :
    ∃ v r : ℝ, 0 < v ∧ r * r = 1 / v ∧ ms (fun k => (x k : EReal)) = (v : ℝ) ∧ inv (fun k => (x k : EReal)) = (r : ℝ) := by
  obtain ⟨e, he, h⟩ := eps_eq
  obtain ⟨v, hv, h⟩ : ∃ v : ℝ, 0 < v ∧ ms (fun k => (x k : EReal)) = (v : ℝ) := by
    refine ⟨(∑ k, x k * x k) / 1024 + e, ?_, ?_⟩
    · have : 0 ≤ ∑ k, x k * x k := Finset.sum_nonneg fun k _ => mul_self_nonneg _
      positivity
    · simp only [ms, len_eq, h, ← EReal.coe_mul, Real.sum_coe, Real.div_coe (show (1024 : ℝ) ≠ 0 by norm_num), ← EReal.coe_add]
  refine ⟨v, (√v)⁻¹, hv, ?_, h, by rw [inv, h, Ideal.rsqrt_coe, if_neg (not_lt.2 hv.le), if_neg hv.ne']⟩
  rw [← mul_inv, _root_.Real.mul_self_sqrt hv.le, one_div]

/-- On reals the kernels' gradient of the norm is the plain one; nothing is asked of the gradient that passes it by. -/
theorem dx_eq {n : Nat} (X D res : Fin n → EReal) (hX : ∀ k, ∃ y : ℝ, X k = y) (hD : ∀ k, ∃ y : ℝ, D k = y) (j : Fin n) :
    dx X D j + res j = dxRef X D res j := by
  choose x hx using hX
  choose d hd using hD
  obtain rfl : X = fun k => (x k : EReal) := funext hx
  obtain rfl : D = fun k => (d k : EReal) := funext hd
  obtain ⟨v, r, hv, hr, h1, h2⟩ := inv_coe x
  have hv' : v ≠ 0 := hv.ne'
  rw [dxRef, add_assoc, add_assoc, add_comm (res j)]
  congr 1
  simp only [dx, hat, coef, h1, h2, len_eq, mhalf_eq, Fin.sum_univ_one, ← EReal.coe_mul, Real.sum_coe,
    Real.div_coe (show (1024 : ℝ) ≠ 0 by norm_num), Real.div_coe hv', ← EReal.coe_sub, ← EReal.coe_add]
  congr 1
  have e : ∑ k, d k * (x k * r) = (∑ k, x k * d k) * r := by
    rw [Finset.sum_mul]; exact Finset.sum_congr rfl fun k _ => by ring
  rw [e]
  generalize ∑ k, x k * d k = S
  have : r / v = r * (r * r) := by rw [hr]; ring
  rw [this]
  ring

/-- A sum of real products is real. -/
theorem proj_real {n p : Nat} (a : Fin p → EReal) (w : Fin n → Fin p → EReal) (ha : ∀ k, ∃ y : ℝ, a k = y) (hw : ∀ j k, ∃ y : ℝ, w j k = y)
    (j : Fin n) : ∃ y : ℝ, proj a w j = y := by
  choose A hA using ha
  choose W hW using hw
  exact ⟨∑ k, A k * W j k, by simp only [proj, hA, hW, ← EReal.coe_mul, Real.sum_coe]⟩

/-- A product over a row of two halves is the sum of the products over the halves. -/
theorem proj_add {n p : Nat} (a : Fin (p + p) → EReal) (w : Fin n → Fin (p + p) → EReal) (j : Fin n) :
    proj a w j = proj (fun k => a (Fin.castAdd p k)) (fun i k => w i (Fin.castAdd p k)) j
      + proj (fun k => a (Fin.natAdd p k)) (fun i k => w i (Fin.natAdd p k)) j := by
  simp only [proj, Fin.sum_univ_add]

end Cert.RmsNorm

end
-- ==== Proof.DH3Ref.lean ====
/- The norm before the feed-forward part and the product after it, the plain side: the gradient that is taken of the plain lines, row by row. -/
module

public import proofs.«01_k».proof.Proof.RmsNorm
public import proofs.«01_k».proof.Proof.Sums
public import proofs.«01_k».proof.Proof.Gen.ReferenceDH3Ideal.Read
public import Idealize.ShloMosaic.Lib.Pipeline.ValueKit

@[expose] public section

set_option maxRecDepth 16384

noncomputable section

open Idealize.ShloMosaic Idealize.ShloMosaic.TcCoe Idealize.SL.Sem

namespace Cert.DH3Ref

open Cert.ReferenceDH3Ideal Cert.ReferenceDH3Ideal.Read

variable (x : FVec Ideal S2x2048x1024 .f32) (g : FVec Ideal S1x1024 .f32) (w : FVec Ideal S1024x5632 .f32) (res : FVec Ideal S2x2048x1024 .f32)
  (ct : FVec Ideal S2x2048x5632 .f32) (b : Fin 2) (s : Fin 2048)

/-- One row of the norm's argument, of the gradient that passes it by, and of the gradient to the normed row before and
    after the gain. -/
def row (x : FVec Ideal S2x2048x1024 .f32) (b : Fin 2) (s : Fin 2048) (j : Fin 1024) : EReal := x (ix3 b s j)
def cot (j : Fin 5632) : EReal := ct (ix3 b s j)
def mat (i : Fin 1024) (k : Fin 5632) : EReal := w (ix2 i k)
def grad (j : Fin 1024) : EReal := RmsNorm.proj (cot ct b s) (mat w) j
def scaled (j : Fin 1024) : EReal := grad w ct b s j * g (ix2 0 j)

theorem ms_apply (i : Fin 1) : val_main_v7 (F := Ideal) x (ix3 b s i) = RmsNorm.ms (row x b s) := by
  unfold val_main_v7 val_main_v6 val_main_v5 val_main_v4 val_main_v3 val_main_v2 val_main_v1 RmsNorm.ms row
  pointwise [val_main_cst, val_main_cst_0, val_main_cst_1]

theorem inv_apply (i : Fin 1) : val_main_v8 (F := Ideal) x (ix3 b s i) = RmsNorm.inv (row x b s) := by
  simp only [RmsNorm.inv, ← ms_apply x b s i]
  unfold val_main_v8
  generalize val_main_v7 (F := Ideal) x = X
  pointwise []

theorem hat_apply (j : Fin 1024) : val_main_v13 (F := Ideal) x (ix3 b s j) = RmsNorm.hat (row x b s) j := by
  simp only [RmsNorm.hat, ← inv_apply x b s 0]
  unfold val_main_v13 val_main_v12 row
  generalize val_main_v8 (F := Ideal) x = X
  pointwise []

theorem grad_apply (j : Fin 1024) : val_main_v18 (F := Ideal) w ct (ix3 b s j) = grad w ct b s j := by
  unfold val_main_v18 grad RmsNorm.proj cot mat
  pointwise []

theorem scaled_apply (j : Fin 1024) : val_main_v23 (F := Ideal) g w ct (ix3 b s j) = scaled g w ct b s j := by
  simp only [scaled, ← grad_apply]
  unfold val_main_v23 val_main_v22 val_main_v14 val_main_v0
  generalize val_main_v18 (F := Ideal) w ct = X
  pointwise []

theorem coef_apply : val_main_v34 (F := Ideal) x g w ct (ix2 b s) = RmsNorm.coef (row x b s) (scaled g w ct b s) := by
  simp only [RmsNorm.coef, ← inv_apply x b s 0, ← ms_apply x b s 0, ← scaled_apply]
  unfold val_main_v34 val_main_v33 val_main_v32 val_main_v31 val_main_v27 val_main_v26 val_main_v25 val_main_v11 val_main_v10 val_main_v9 row
  generalize val_main_v7 (F := Ideal) x = X
  generalize val_main_v8 (F := Ideal) x = Y
  generalize val_main_v23 (F := Ideal) g w ct = Z
  pointwise [val_main_cst_2, val_main_cst_5, val_main_cst_6, val_main_cst_7]
  simp only [Fin.sum_univ_one]

theorem back_apply (j : Fin 1024) : val_main_v39 (F := Ideal) x g w res ct (ix3 b s j)
    = RmsNorm.dxRef (row x b s) (scaled g w ct b s) (row res b s) j := by
  simp only [RmsNorm.dxRef, ← inv_apply x b s 0, ← coef_apply, ← scaled_apply]
  unfold val_main_v39 val_main_v38 val_main_v37 val_main_v36 val_main_v35 val_main_v30 val_main_v29 val_main_v28 row
  generalize val_main_v34 (F := Ideal) x g w ct = X
  generalize val_main_v8 (F := Ideal) x = Y
  generalize val_main_v23 (F := Ideal) g w ct = Z
  pointwise []

/-- The gradient with respect to the norm's argument, the two leading axes as one, -/
theorem back_flat (j : Fin 1024) : val_main_v41 (F := Ideal) x g w res ct (ix2 ⟨b.val * 2048 + s.val, by omega⟩ j)
    = RmsNorm.dxRef (row x b s) (scaled g w ct b s) (row res b s) j := by
  rw [← back_apply]
  unfold val_main_v41
  generalize val_main_v39 (F := Ideal) x g w res ct = X
  pointwise []

/-- and its copy. -/
theorem copy_eq (i : S4096x1024.Idx) : val_main_v42 (F := Ideal) x g w res ct i = val_main_v41 (F := Ideal) x g w res ct i := by
  unfold val_main_v42
  generalize val_main_v41 (F := Ideal) x g w res ct = X
  pointwise []

/-- The gradient of the gain. -/
theorem gain_apply (j : Fin 1024) : val_main_v40 (F := Ideal) x w ct (ix2 0 j)
    = ∑ b : Fin 2, ∑ s : Fin 2048, RmsNorm.hat (row x b s) j * grad w ct b s j := by
  simp only [← hat_apply, ← grad_apply]
  unfold val_main_v40 val_main_v24 val_main_v21 val_main_v20 val_main_v19
  generalize val_main_v13 (F := Ideal) x = X
  generalize val_main_v18 (F := Ideal) w ct = Z
  pointwise [Ideal.hostReduceAdd_lead2, val_main_cst_3, val_main_cst_4]
  simp only [Fin.sum_univ_one]

end Cert.DH3Ref

end
-- ==== Proof.DH3.lean ====
/- The norm before the feed-forward part and the product after it, backwards: what the kernel's gradient leaves is, on finite arguments, what the
   gradient taken of the plain lines leaves. -/
module

public import proofs.«01_k».proof.Defs
public import proofs.«01_k».proof.Proof.DH3Ref
public import proofs.«01_k».proof.Proof.Rows
public import proofs.«01_k».proof.Proof.Gen.KernelDH3Ideal.Value
public import proofs.«01_k».proof.Proof.Gen.Pre_finite_dh3
public import Idealize.ShloMosaic.Lib.Pipeline.ReadBack

@[expose] public section

set_option maxRecDepth 16384

noncomputable section

open Idealize.ShloMosaic Idealize.ShloMosaic.TcCoe Idealize.SL.Sem

namespace Cert.DH3

open Cert.KernelDH3Ideal Cert.KernelDH3Ideal.Gen Cert.Rows

section
variable (a a2 : FVec Ideal S1x512x2816 .bf16) (w w2 : FVec Ideal S1024x2816 .bf16) (x res : FVec Ideal S512x1024 .f32)
  (g z : FVec Ideal S1x1024 .f32) (r : Fin 512) (j : Fin 1024)

/-- The gradient to the normed row. -/
def dh : EReal := RmsNorm.proj (fun k => a (ix3 0 r k)) (rows w) j + RmsNorm.proj (fun k => a2 (ix3 0 r k)) (rows w2) j

theorem pay_dh : k0_pay4 (F := Ideal) a w a2 w2 (ix2 r j) = dh a a2 w w2 r j := by
  pointwise [k0_pay4]
  rfl

theorem pay_inv : k0_pay7 (F := Ideal) x (ix2 r 0) = RmsNorm.inv (rows x r) := by
  pointwise [k0_pay7, k0_pay6]
  rfl

theorem pay_hat : k0_pay8 (F := Ideal) x (ix2 r j) = RmsNorm.hat (rows x r) j := by
  pointwise [k0_pay8, k0_pay7, k0_pay6]
  rfl

/-- The stored block of the gradient. -/
theorem pay_back : k0_pay1 (F := Ideal) (k0_pay7 x) (k0_pay8 x) (k0_pay9 a w a2 w2 g) (k0_pay10 a w a2 w2 x g) res (ix2 r j)
    = RmsNorm.dx (rows x r) (fun k => dh a a2 w w2 r k * rows g 0 k) j + rows res r j := by
  simp only [RmsNorm.dx, ← pay_dh, ← pay_hat, ← pay_inv]
  unfold k0_pay1 k0_pay10 k0_pay9
  generalize k0_pay4 (F := Ideal) a w a2 w2 = M
  generalize k0_pay8 (F := Ideal) x = H
  generalize k0_pay7 (F := Ideal) x = I
  pointwise []

/-- The gain's gradient after the point. -/
theorem pay_gain : k0_pay3 (F := Ideal) (k0_pay4 a w a2 w2) (k0_pay8 x) z (ix2 0 j)
    = z (ix2 0 j) + ∑ r : Fin 512, dh a a2 w w2 r j * RmsNorm.hat (rows x r) j := by
  simp only [← pay_dh, ← pay_hat]
  unfold k0_pay3
  generalize k0_pay4 (F := Ideal) a w a2 w2 = M
  generalize k0_pay8 (F := Ideal) x = H
  pointwise []

theorem pay_zero : k0_pay5 (F := Ideal) (ix2 0 j) = 0 := by
  pointwise [k0_pay5]

end

variable (m : (ℓ : Loc nD τ sig) → Buf (Elt Ideal) ℓ) (c : Dev nD) (t : Fin cfg0.N)

/-- The blocks a point loads. -/
abbrev ba : FVec Ideal S1x512x2816 .bf16 :=
  View.ld (Val := Elt Ideal) (e' := .bf16) (iblk m c 0 t) (Rect.unit (s := S2x512x2816) ![0, 0, 0] ![1, 512, 2816] inb_S2x512x2816_S1x512x2816_0_0_0)
abbrev bw : FVec Ideal S1024x2816 .bf16 :=
  View.ld (Val := Elt Ideal) (e' := .bf16) (iblk m c 1 t) (Rect.unit (s := S1024x5632) ![0, 0] ![1024, 2816] inb_S1024x5632_S1024x2816_0_0)
abbrev ba2 : FVec Ideal S1x512x2816 .bf16 :=
  View.ld (Val := Elt Ideal) (e' := .bf16) (iblk m c 0 t) (Rect.unit (s := S2x512x2816) ![1, 0, 0] ![1, 512, 2816] inb_S2x512x2816_S1x512x2816_1_0_0)
abbrev bw2 : FVec Ideal S1024x2816 .bf16 :=
  View.ld (Val := Elt Ideal) (e' := .bf16) (iblk m c 1 t) (Rect.unit (s := S1024x5632) ![0, 2816] ![1024, 2816] inb_S1024x5632_S1024x2816_0_2816)
abbrev bx : FVec Ideal S512x1024 .f32 := show FVec Ideal S512x1024 .f32 from iblk m c 2 t
abbrev bg : FVec Ideal S1x1024 .f32 := show FVec Ideal S1x1024 .f32 from iblk m c 3 t
abbrev bres : FVec Ideal S512x1024 .f32 := show FVec Ideal S512x1024 .f32 from iblk m c 4 t

/-- What a point adds to the gain's gradient. -/
def adds (j : Fin 1024) : EReal := ∑ r : Fin 512, dh (ba m c t) (ba2 m c t) (bw m c t) (bw2 m c t) r j * RmsNorm.hat (rows (bx m c t) r) j

/-- The point's block of the gradient, -/
theorem out_back (r : Fin 512) (j : Fin 1024) : (outsAt0 m c t.val t.isLt).1 (ix2 r j)
    = RmsNorm.dx (rows (bx m c t) r) (fun k => dh (ba m c t) (ba2 m c t) (bw m c t) (bw2 m c t) r k * rows (bg m c t) 0 k) j + rows (bres m c t) r j := by
  by_cases e : t.val % 8 = 0
  · rw [outsAt0_A m c t e]
    frame_out
    exact pay_back (ba m c t) (ba2 m c t) (bw m c t) (bw2 m c t) (bx m c t) (bres m c t) (bg m c t) r j
  · rw [outsAt0_B m c t e]
    frame_out
    exact pay_back (ba m c t) (ba2 m c t) (bw m c t) (bw2 m c t) (bx m c t) (bres m c t) (bg m c t) r j

/-- of its copy, -/
theorem out_copy (r : Fin 512) (j : Fin 1024) : (outsAt0 m c t.val t.isLt).2.1 (ix2 r j)
    = RmsNorm.dx (rows (bx m c t) r) (fun k => dh (ba m c t) (ba2 m c t) (bw m c t) (bw2 m c t) r k * rows (bg m c t) 0 k) j + rows (bres m c t) r j := by
  by_cases e : t.val % 8 = 0
  · rw [outsAt0_A m c t e]
    frame_out
    pointwise [k0_pay2]
    exact pay_back (ba m c t) (ba2 m c t) (bw m c t) (bw2 m c t) (bx m c t) (bres m c t) (bg m c t) r j
  · rw [outsAt0_B m c t e]
    frame_out
    pointwise [k0_pay2]
    exact pay_back (ba m c t) (ba2 m c t) (bw m c t) (bw2 m c t) (bx m c t) (bres m c t) (bg m c t) r j

/-- and the gain's gradient: what the first point adds to zero, -/
theorem gainA (e : t.val % 8 = 0) (j : Fin 1024) : (outsAt0 m c t.val t.isLt).2.2 (ix2 0 j) = 0 + adds m c t j := by
  rw [outsAt0_A m c t e]
  frame_open
  simp (disch := decide) only [↓View.readCov_skip, ↓View.readCov_cons_toLoadRect, ↓View.readCov_fill]
  frame_out
  rw [← pay_zero j]
  exact pay_gain (ba m c t) (ba2 m c t) (bw m c t) (bw2 m c t) (bx m c t) k0_pay5 j

/-- and what a later one adds to the gradient before. -/
theorem gainB (e : ¬ t.val % 8 = 0) (j : Fin 1024) :
    (outsAt0 m c t.val t.isLt).2.2 (ix2 0 j) = (outsAt0 m c (t.val - 1) (Nat.lt_of_le_of_lt (Nat.sub_le _ _) t.isLt)).2.2 (ix2 0 j) + adds m c t j := by
  rw [outsAt0_B m c t e]
  frame_out
  exact pay_gain (ba m c t) (ba2 m c t) (bw m c t) (bw2 m c t) (bx m c t) (outsAt0 m c (t.val - 1) (Nat.lt_of_le_of_lt (Nat.sub_le _ _) t.isLt)).2.2 j

theorem idx : ∀ t : Fin cfg0.N, win0_0.index t = ![0, t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The kernel's arguments as arrays. -/
abbrev ax : FVec Ideal ⟨3, ![2, 2048, 1024]⟩ .f32 := m ((c : Thread nD τ).loc main_arg0)
abbrev ag : FVec Ideal ⟨2, ![1, 1024]⟩ .f32 := m ((c : Thread nD τ).loc main_arg1)
abbrev aw : FVec Ideal ⟨2, ![1024, 5632]⟩ .f32 := m ((c : Thread nD τ).loc main_arg2)
abbrev ares : FVec Ideal ⟨3, ![2, 2048, 1024]⟩ .f32 := m ((c : Thread nD τ).loc main_arg3)
abbrev act : FVec Ideal ⟨3, ![2, 2048, 5632]⟩ .f32 := m ((c : Thread nD τ).loc main_arg4)

/-- Row `r` of point `t`'s blocks is the row `512 t + r` of the arrays. -/
theorem at_x (b : Fin 2) (s : Fin 2048) (r : Fin 512) (k : Fin 1024) (hr : t.val * 512 + r.val = b.val * 2048 + s.val) :
    (show FVec Ideal S512x1024 .f32 from iblk m c 2 t) (ix2 r k) = m ((c : Thread nD τ).loc main_arg0) (ix3 b s k) := by
  blk_point [iblk, V, idx t]

theorem at_res (b : Fin 2) (s : Fin 2048) (r : Fin 512) (k : Fin 1024) (hr : t.val * 512 + r.val = b.val * 2048 + s.val) :
    (show FVec Ideal S512x1024 .f32 from iblk m c 4 t) (ix2 r k) = m ((c : Thread nD τ).loc main_arg3) (ix3 b s k) := by
  blk_point [iblk, V, idx t]

theorem at_g (k : Fin 1024) : (show FVec Ideal S1x1024 .f32 from iblk m c 3 t) (ix2 0 k) = m ((c : Thread nD τ).loc main_arg1) (ix2 0 k) := by
  blk_point [iblk, V, idx t]

theorem at_w (i : Fin 1024) (k : Fin 5632) : (show FVec Ideal S1024x5632 .bf16 from iblk m c 1 t) (ix2 i k) = m ((c : Thread nD τ).loc main_arg2) (ix2 i k) := by
  blk_point [iblk, V, idx t]

theorem at_a (b : Fin 2) (s : Fin 2048) (r : Fin 512) (k : Fin 2816) (hr : t.val * 512 + r.val = b.val * 2048 + s.val) :
    (show FVec Ideal S2x512x2816 .bf16 from iblk m c 0 t) (ix3 0 r k) = m ((c : Thread nD τ).loc main_arg4) (ix3 b s ⟨k.val, by omega⟩) := by
  blk_simp [iblk, V]
  entry_read
  pointwise []
  rw [dif_pos (by blk_simp [idx t]; decide)]
  blk_point [idx t]

theorem at_a2 (b : Fin 2) (s : Fin 2048) (r : Fin 512) (k : Fin 2816) (hr : t.val * 512 + r.val = b.val * 2048 + s.val) :
    (show FVec Ideal S2x512x2816 .bf16 from iblk m c 0 t) (ix3 1 r k) = m ((c : Thread nD τ).loc main_arg4) (ix3 b s ⟨2816 + k.val, by omega⟩) := by
  blk_simp [iblk, V]
  entry_read
  pointwise []
  rw [dif_neg (by blk_simp [idx t]; decide)]
  blk_point [idx t]

theorem half_a (X : FVec Ideal S2x512x2816 .bf16) (h : Nat) (u : Fin 2) (hu : u.val = h) (inb) (r : Fin 512) (k : Fin 2816) :
    View.ld (Val := Elt Ideal) (e' := .bf16) X (Rect.unit (s := S2x512x2816) ![h, 0, 0] ![1, 512, 2816] inb) (ix3 0 r k) = X (ix3 u r k) :=
  View.ld_unit_apply_of _ _ _ _ _ _ fun i => by
    match i with
    | ⟨0, _⟩ => show u.val = h + 0; omega
    | ⟨1, _⟩ => show r.val = 0 + r.val; omega
    | ⟨2, _⟩ => show k.val = 0 + k.val; omega

theorem half_w (X : FVec Ideal S1024x5632 .bf16) (h : Nat) (inb) (i : Fin 1024) (k : Fin 2816) (l : Fin 5632) (hl : l.val = h + k.val) :
    View.ld (Val := Elt Ideal) (e' := .bf16) X (Rect.unit (s := S1024x5632) ![0, h] ![1024, 2816] inb) (ix2 i k) = X (ix2 i l) :=
  View.ld_unit_apply_of _ _ _ _ _ _ fun a => by
    match a with
    | ⟨0, _⟩ => show i.val = 0 + i.val; omega
    | ⟨1, _⟩ => exact hl

theorem read_dh (b : Fin 2) (s : Fin 2048) (r : Fin 512) (hr : t.val * 512 + r.val = b.val * 2048 + s.val) (j : Fin 1024) : dh (ba m c t) (ba2 m c t) (bw m c t) (bw2 m c t) r j = DH3Ref.grad (aw m c) (act m c) b s j := by
  refine Eq.trans (congrArg₂ (· + ·)
    (congrArg₂ (RmsNorm.proj · · j)
      (funext fun k => (half_a _ 0 0 rfl _ r k).trans (at_a m c t b s r k hr))
      (funext fun i => funext fun k => (half_w _ 0 _ i k ⟨k.val, by omega⟩ (Nat.zero_add _).symm).trans (at_w m c t i _)))
    (congrArg₂ (RmsNorm.proj · · j)
      (funext fun k => (half_a _ 1 1 rfl _ r k).trans (at_a2 m c t b s r k hr))
      (funext fun i => funext fun k => (half_w _ 2816 _ i k ⟨2816 + k.val, by omega⟩ rfl).trans (at_w m c t i _))))
    (RmsNorm.proj_add (p := 2816) (DH3Ref.cot (act m c) b s) (DH3Ref.mat (aw m c)) j).symm

theorem read_x (b : Fin 2) (s : Fin 2048) (r : Fin 512) (hr : t.val * 512 + r.val = b.val * 2048 + s.val) : rows (bx m c t) r = DH3Ref.row (ax m c) b s :=
  funext fun k => at_x m c t b s r k hr

theorem read_scaled (b : Fin 2) (s : Fin 2048) (r : Fin 512) (hr : t.val * 512 + r.val = b.val * 2048 + s.val) :
    (fun k => dh (ba m c t) (ba2 m c t) (bw m c t) (bw2 m c t) r k * rows (bg m c t) 0 k) = DH3Ref.scaled (ag m c) (aw m c) (act m c) b s :=
  funext fun k => congrArg₂ (· * ·) (read_dh m c t b s r hr k) (at_g m c t k)

section
variable (hx : ∀ i, ∃ y : ℝ, ax m c i = y) (hg : ∀ i, ∃ y : ℝ, ag m c i = y) (hw : ∀ i, ∃ y : ℝ, aw m c i = y) (hct : ∀ i, ∃ y : ℝ, act m c i = y)

include hx hg hw hct in
/-- One row of a point's block is the plain gradient. -/
theorem row_back (b : Fin 2) (s : Fin 2048) (r : Fin 512) (hr : t.val * 512 + r.val = b.val * 2048 + s.val) (j : Fin 1024) :
    RmsNorm.dx (rows (bx m c t) r) (fun k => dh (ba m c t) (ba2 m c t) (bw m c t) (bw2 m c t) r k * rows (bg m c t) 0 k) j + rows (bres m c t) r j
      = Cert.ReferenceDH3Ideal.Read.val_main_v41 (F := Ideal) (ax m c) (ag m c) (aw m c) (ares m c) (act m c) (ix2 ⟨b.val * 2048 + s.val, by omega⟩ j) := by
  rw [read_x m c t b s r hr, read_scaled m c t b s r hr, DH3Ref.back_flat,
    show rows (bres m c t) r j = DH3Ref.row (ares m c) b s j from at_res m c t b s r j hr]
  exact RmsNorm.dx_eq _ _ (DH3Ref.row (ares m c) b s) (fun k => hx _)
    (fun k => Real.mul_real (RmsNorm.proj_real _ _ (fun k => hct _) (fun i k => hw _) k) (hg _)) j

include hx hg hw hct in
/-- A block that holds these rows, at an index, is the plain gradient at the array's index. -/
theorem point (O : FVec Ideal S512x1024 .f32) (hO : ∀ r j, O (ix2 r j)
      = RmsNorm.dx (rows (bx m c t) r) (fun k => dh (ba m c t) (ba2 m c t) (bw m c t) (bw2 m c t) r k * rows (bg m c t) 0 k) j + rows (bres m c t) r j)
    (y : S512x1024.Idx) (i : (⟨2, ![4096, 1024]⟩ : Shape).Idx) (h0 : (i 0).val = t.val * 512 + (y 0).val) (h1 : (i 1).val = (y 1).val) :
    O y = Cert.ReferenceDH3Ideal.Read.val_main_v41 (F := Ideal) (ax m c) (ag m c) (aw m c) (ares m c) (act m c) i := by
  have ht : t.val < 8 := t.isLt
  obtain ⟨r, l, rfl⟩ : ∃ (r : Fin 512) (l : Fin 1024), y = ix2 r l := ⟨_, _, eq_ix2 y⟩
  change (i 0).val = t.val * 512 + r.val at h0
  change (i 1).val = l.val at h1
  obtain ⟨b, s, hs⟩ : ∃ (b : Fin 2) (s : Fin 2048), t.val * 512 + r.val = b.val * 2048 + s.val :=
    ⟨⟨t.val / 4, by omega⟩, ⟨t.val % 4 * 512 + r.val, by omega⟩, by show _ = _ / 4 * 2048 + (_ % 4 * 512 + _); omega⟩
  have e : i = ix2 ⟨b.val * 2048 + s.val, by omega⟩ l := (eq_ix2 i).trans (congrArg₂ ix2 (Fin.ext (h0.trans hs)) (Fin.ext h1))
  rw [hO, e, row_back m c t hx hg hw hct b s r hs]

end

/-- The last point's gradient of the gain is the plain one. -/
theorem point_gain (y : S1x1024.Idx) :
    (outsAt0 m c 7 (by decide)).2.2 y = Cert.ReferenceDH3Ideal.Read.val_main_v40 (F := Ideal) (ax m c) (aw m c) (act m c) y := by
  obtain ⟨j, rfl⟩ := exists_lane y
  rw [DH3Ref.gain_apply]
  rw [Pipeline.eq_sum_fin_of_reset_step_apply_last (fun n h => (outsAt0 m c n h).2.2) 8 (fun _ => 0) (fun t y => adds m c t (y 1))
    (fun t h y => by obtain ⟨j, rfl⟩ := exists_lane y; exact gainA m c t h j)
    (fun t h y => by obtain ⟨j, rfl⟩ := exists_lane y; exact gainB m c t h j)
    (le_of_eq N_0) ⟨7, by decide⟩ rfl (ix2 0 j), zero_add]
  refine Fin.sum_points_lanes_congr 4 (fun t r ha hl => ?_) (by exact N_0)
  have hr : t.val * 512 + r.val = t.val / 4 * 2048 + (t.val % 4 * 512 + r.val) := by omega
  show dh (ba m c t) (ba2 m c t) (bw m c t) (bw2 m c t) r j * RmsNorm.hat (rows (bx m c t) r) j = _
  rw [read_x m c t ⟨t.val / 4, ha⟩ ⟨t.val % 4 * 512 + r.val, hl⟩ r hr, read_dh m c t ⟨t.val / 4, ha⟩ ⟨t.val % 4 * 512 + r.val, hl⟩ r hr]
  exact mul_comm _ _

section
variable (hx : ∀ i, ∃ y : ℝ, ax m c i = y) (hg : ∀ i, ∃ y : ℝ, ag m c i = y) (hw : ∀ i, ∃ y : ℝ, aw m c i = y) (hct : ∀ i, ∃ y : ℝ, act m c i = y)
include hx hg hw hct

theorem final_back : (dats m 0 c).arrAt 5 cfg0.N = Cert.ReferenceDH3Ideal.Read.val_main_v41 (F := Ideal) (ax m c) (ag m c) (aw m c) (ares m c) (act m c) := by
  refine (dats m 0 c).arrAt_eq_of_covers 5 _ (by decide +kernel) fun t hf y => ?_
  blk_simp
  rw [after0_5]
  refine point m c t hx hg hw hct _ (out_back m c t) y _ ?_ ?_
  · blk_simp [idx t]
  · blk_simp [idx t]

theorem final_copy : (dats m 0 c).arrAt 6 cfg0.N = Cert.ReferenceDH3Ideal.Read.val_main_v42 (F := Ideal) (ax m c) (ag m c) (aw m c) (ares m c) (act m c) := by
  rw [show Cert.ReferenceDH3Ideal.Read.val_main_v42 (F := Ideal) (ax m c) (ag m c) (aw m c) (ares m c) (act m c) = Cert.ReferenceDH3Ideal.Read.val_main_v41 (F := Ideal) (ax m c) (ag m c) (aw m c) (ares m c) (act m c) from
    funext fun i => DH3Ref.copy_eq _ _ _ _ _ i]
  refine (dats m 0 c).arrAt_eq_of_covers 6 _ (by decide +kernel) fun t hf y => ?_
  blk_simp
  rw [after0_6]
  refine point m c t hx hg hw hct _ (out_copy m c t) y _ ?_ ?_
  · blk_simp [idx t]
  · blk_simp [idx t]

end

theorem final_gain : (dats m 0 c).arrAt 7 cfg0.N = Cert.ReferenceDH3Ideal.Read.val_main_v40 (F := Ideal) (ax m c) (aw m c) (act m c) := by
  refine (dats m 0 c).arrAt_eq_of_after_last 7 t0_7 (by decide +kernel) _ fun j => ?_
  blk_simp
  rw [after0_7]
  exact point_gain m c j

/-- At finite arguments the kernel and the gradient taken of the plain lines leave the same arrays. -/
theorem algebraic : Cert.algebraic_KernelDH3Ideal_ReferenceDH3Ideal_pre_finite_dh3 := fun m g m' g' hpre hag => by
  have hx (c : Dev nD) (i) : ∃ y : ℝ, ax m c i = y := Real.exists_real (congrFun (hpre c).1 i)
  have hg (c : Dev nD) (i) : ∃ y : ℝ, ag m c i = y := Real.exists_real (congrFun (hpre c).2.1 i)
  have hw (c : Dev nD) (i) : ∃ y : ℝ, aw m c i = y := Real.exists_real (congrFun (hpre c).2.2.1 i)
  have hct (c : Dev nD) (i) : ∃ y : ℝ, act m c i = y := Real.exists_real (congrFun (hpre c).2.2.2 i)
  exact ⟨fun c => Cert.ReferenceDH3Ideal.Read.val_main_v41 (F := Ideal) (ax m c) (ag m c) (aw m c) (ares m c) (act m c),
    fun c => Cert.ReferenceDH3Ideal.Read.val_main_v42 (F := Ideal) (ax m c) (ag m c) (aw m c) (ares m c) (act m c),
    fun c => Cert.ReferenceDH3Ideal.Read.val_main_v40 (F := Ideal) (ax m c) (aw m c) (act m c),
    (θ_run _ _ _).mono (fun _ h c => ⟨(h c).1.trans (final_back m c (hx c) (hg c) (hw c) (hct c)),
      (h c).2.1.trans (final_copy m c (hx c) (hg c) (hw c) (hct c)), (h c).2.2.1.trans (final_gain m c), (h c).2.2.2⟩)
      (Cert.KernelDH3Ideal.Value.run_blocks m g),
    (θ_run _ _ _).mono (fun _ h c => ⟨(h c).1.trans ((Cert.ReferenceDH3Ideal.Read.val_main_v41_eq m' c).trans
        (Real.congr5 (Cert.ReferenceDH3Ideal.Read.val_main_v41 (F := Ideal)) (hag c))),
      (h c).2.1.trans ((Cert.ReferenceDH3Ideal.Read.val_main_v42_eq m' c).trans
        (Real.congr5 (Cert.ReferenceDH3Ideal.Read.val_main_v42 (F := Ideal)) (hag c))),
      (h c).2.2.1.trans ((Cert.ReferenceDH3Ideal.Read.val_main_v40_eq _ _ _).trans
        (Real.congr5 (fun x _ w _ ct => Cert.ReferenceDH3Ideal.Read.val_main_v40 (F := Ideal) x w ct) (hag c))),
      (h c).2.2.2⟩) (Cert.ReferenceDH3Ideal.Value.run m' g')⟩

end Cert.DH3

end
-- ==== Proof.DH2Ref.lean ====
/- The norm before the cross-attention and the product after it, the plain side: the gradient that is taken of the plain lines, row by row. -/
module

public import proofs.«01_k».proof.Proof.RmsNorm
public import proofs.«01_k».proof.Proof.Sums
public import proofs.«01_k».proof.Proof.Gen.ReferenceDH2Ideal.Read
public import Idealize.ShloMosaic.Lib.Pipeline.ValueKit

@[expose] public section

set_option maxRecDepth 16384

noncomputable section

open Idealize.ShloMosaic Idealize.ShloMosaic.TcCoe Idealize.SL.Sem

namespace Cert.DH2Ref

open Cert.ReferenceDH2Ideal Cert.ReferenceDH2Ideal.Read

variable (x : FVec Ideal S2x2048x1024 .f32) (g : FVec Ideal S1x1024 .f32) (w : FVec Ideal S1024x1024 .f32) (res : FVec Ideal S2x2048x1024 .f32)
  (ct : FVec Ideal S2x2048x1024 .f32) (b : Fin 2) (s : Fin 2048)

/-- One row of the norm's argument, of the gradient that passes it by, and of the gradient to the normed row before and
    after the gain. -/
def row (x : FVec Ideal S2x2048x1024 .f32) (b : Fin 2) (s : Fin 2048) (j : Fin 1024) : EReal := x (ix3 b s j)
def cot (j : Fin 1024) : EReal := ct (ix3 b s j)
def mat (i : Fin 1024) (k : Fin 1024) : EReal := w (ix2 i k)
def grad (j : Fin 1024) : EReal := RmsNorm.proj (cot ct b s) (mat w) j
def scaled (j : Fin 1024) : EReal := grad w ct b s j * g (ix2 0 j)

theorem ms_apply (i : Fin 1) : val_main_v7 (F := Ideal) x (ix3 b s i) = RmsNorm.ms (row x b s) := by
  unfold val_main_v7 val_main_v6 val_main_v5 val_main_v4 val_main_v3 val_main_v2 val_main_v1 RmsNorm.ms row
  pointwise [val_main_cst, val_main_cst_0, val_main_cst_1]

theorem inv_apply (i : Fin 1) : val_main_v8 (F := Ideal) x (ix3 b s i) = RmsNorm.inv (row x b s) := by
  simp only [RmsNorm.inv, ← ms_apply x b s i]
  unfold val_main_v8
  generalize val_main_v7 (F := Ideal) x = X
  pointwise []

theorem hat_apply (j : Fin 1024) : val_main_v13 (F := Ideal) x (ix3 b s j) = RmsNorm.hat (row x b s) j := by
  simp only [RmsNorm.hat, ← inv_apply x b s 0]
  unfold val_main_v13 val_main_v12 row
  generalize val_main_v8 (F := Ideal) x = X
  pointwise []

theorem grad_apply (j : Fin 1024) : val_main_v18 (F := Ideal) w ct (ix3 b s j) = grad w ct b s j := by
  unfold val_main_v18 grad RmsNorm.proj cot mat
  pointwise []

theorem scaled_apply (j : Fin 1024) : val_main_v23 (F := Ideal) g w ct (ix3 b s j) = scaled g w ct b s j := by
  simp only [scaled, ← grad_apply]
  unfold val_main_v23 val_main_v22 val_main_v14 val_main_v0
  generalize val_main_v18 (F := Ideal) w ct = X
  pointwise []

theorem coef_apply : val_main_v34 (F := Ideal) x g w ct (ix2 b s) = RmsNorm.coef (row x b s) (scaled g w ct b s) := by
  simp only [RmsNorm.coef, ← inv_apply x b s 0, ← ms_apply x b s 0, ← scaled_apply]
  unfold val_main_v34 val_main_v33 val_main_v32 val_main_v31 val_main_v27 val_main_v26 val_main_v25 val_main_v11 val_main_v10 val_main_v9 row
  generalize val_main_v7 (F := Ideal) x = X
  generalize val_main_v8 (F := Ideal) x = Y
  generalize val_main_v23 (F := Ideal) g w ct = Z
  pointwise [val_main_cst_2, val_main_cst_5, val_main_cst_6, val_main_cst_7]
  simp only [Fin.sum_univ_one]

theorem back_apply (j : Fin 1024) : val_main_v39 (F := Ideal) x g w res ct (ix3 b s j)
    = RmsNorm.dxRef (row x b s) (scaled g w ct b s) (row res b s) j := by
  simp only [RmsNorm.dxRef, ← inv_apply x b s 0, ← coef_apply, ← scaled_apply]
  unfold val_main_v39 val_main_v38 val_main_v37 val_main_v36 val_main_v35 val_main_v30 val_main_v29 val_main_v28 row
  generalize val_main_v34 (F := Ideal) x g w ct = X
  generalize val_main_v8 (F := Ideal) x = Y
  generalize val_main_v23 (F := Ideal) g w ct = Z
  pointwise []

/-- The gradient with respect to the norm's argument, the two leading axes as one, -/
theorem back_flat (j : Fin 1024) : val_main_v41 (F := Ideal) x g w res ct (ix2 ⟨b.val * 2048 + s.val, by omega⟩ j)
    = RmsNorm.dxRef (row x b s) (scaled g w ct b s) (row res b s) j := by
  rw [← back_apply]
  unfold val_main_v41
  generalize val_main_v39 (F := Ideal) x g w res ct = X
  pointwise []

/-- and its copy. -/
theorem copy_eq (i : S4096x1024.Idx) : val_main_v42 (F := Ideal) x g w res ct i = val_main_v41 (F := Ideal) x g w res ct i := by
  unfold val_main_v42
  generalize val_main_v41 (F := Ideal) x g w res ct = X
  pointwise []

/-- The gradient of the gain. -/
theorem gain_apply (j : Fin 1024) : val_main_v40 (F := Ideal) x w ct (ix2 0 j)
    = ∑ b : Fin 2, ∑ s : Fin 2048, RmsNorm.hat (row x b s) j * grad w ct b s j := by
  simp only [← hat_apply, ← grad_apply]
  unfold val_main_v40 val_main_v24 val_main_v21 val_main_v20 val_main_v19
  generalize val_main_v13 (F := Ideal) x = X
  generalize val_main_v18 (F := Ideal) w ct = Z
  pointwise [Ideal.hostReduceAdd_lead2, val_main_cst_3, val_main_cst_4]
  simp only [Fin.sum_univ_one]

end Cert.DH2Ref

end
-- ==== Proof.DH2.lean ====
/- The norm before the cross-attention and the product after it, backwards: what the kernel's gradient leaves is, on finite arguments, what the
   gradient taken of the plain lines leaves. -/
module

public import proofs.«01_k».proof.Defs
public import proofs.«01_k».proof.Proof.DH2Ref
public import proofs.«01_k».proof.Proof.Rows
public import proofs.«01_k».proof.Proof.Gen.KernelDH2Ideal.Value
public import proofs.«01_k».proof.Proof.Gen.Pre_finite_dh2
public import Idealize.ShloMosaic.Lib.Pipeline.ReadBack

@[expose] public section

set_option maxRecDepth 16384

noncomputable section

open Idealize.ShloMosaic Idealize.ShloMosaic.TcCoe Idealize.SL.Sem

namespace Cert.DH2

open Cert.KernelDH2Ideal Cert.KernelDH2Ideal.Gen Cert.Rows

section
variable (a : FVec Ideal S1024x1024 .bf16) (w : FVec Ideal S1024x1024 .bf16) (x res : FVec Ideal S1024x1024 .f32)
  (g z : FVec Ideal S1x1024 .f32) (r : Fin 1024) (j : Fin 1024)

/-- The gradient to the normed row. -/
def dh : EReal := RmsNorm.proj (rows a r) (rows w) j

theorem pay_dh : k0_pay3 (F := Ideal) a w (ix2 r j) = dh a w r j := by
  pointwise [k0_pay3]
  rfl

theorem pay_inv : k0_pay6 (F := Ideal) x (ix2 r 0) = RmsNorm.inv (rows x r) := by
  pointwise [k0_pay6, k0_pay5]
  rfl

theorem pay_hat : k0_pay7 (F := Ideal) x (ix2 r j) = RmsNorm.hat (rows x r) j := by
  pointwise [k0_pay7, k0_pay6, k0_pay5]
  rfl

/-- The stored block of the gradient. -/
theorem pay_back : k0_pay8 (F := Ideal) a w x g res (ix2 r j)
    = RmsNorm.dx (rows x r) (fun k => dh a w r k * rows g 0 k) j + rows res r j := by
  simp only [RmsNorm.dx, ← pay_dh, ← pay_hat, ← pay_inv]
  unfold k0_pay8
  generalize k0_pay3 (F := Ideal) a w = M
  generalize k0_pay7 (F := Ideal) x = H
  generalize k0_pay6 (F := Ideal) x = I
  pointwise []

/-- The gain's gradient after the point. -/
theorem pay_gain : k0_pay2 (F := Ideal) (k0_pay3 a w) (k0_pay7 x) z (ix2 0 j)
    = z (ix2 0 j) + ∑ r : Fin 1024, dh a w r j * RmsNorm.hat (rows x r) j := by
  simp only [← pay_dh, ← pay_hat]
  unfold k0_pay2
  generalize k0_pay3 (F := Ideal) a w = M
  generalize k0_pay7 (F := Ideal) x = H
  pointwise []

theorem pay_zero : k0_pay4 (F := Ideal) (ix2 0 j) = 0 := by
  pointwise [k0_pay4]

end

variable (m : (ℓ : Loc nD τ sig) → Buf (Elt Ideal) ℓ) (c : Dev nD) (t : Fin cfg0.N)

/-- The blocks a point loads. -/
abbrev ba : FVec Ideal S1024x1024 .bf16 := show FVec Ideal S1024x1024 .bf16 from iblk m c 0 t
abbrev bw : FVec Ideal S1024x1024 .bf16 := show FVec Ideal S1024x1024 .bf16 from iblk m c 1 t
abbrev bx : FVec Ideal S1024x1024 .f32 := show FVec Ideal S1024x1024 .f32 from iblk m c 2 t
abbrev bg : FVec Ideal S1x1024 .f32 := show FVec Ideal S1x1024 .f32 from iblk m c 3 t
abbrev bres : FVec Ideal S1024x1024 .f32 := show FVec Ideal S1024x1024 .f32 from iblk m c 4 t

/-- What a point adds to the gain's gradient. -/
def adds (j : Fin 1024) : EReal := ∑ r : Fin 1024, dh (ba m c t) (bw m c t) r j * RmsNorm.hat (rows (bx m c t) r) j

/-- The point's block of the gradient, -/
theorem out_back (r : Fin 1024) (j : Fin 1024) : (outsAt0 m c t.val t.isLt).1 (ix2 r j)
    = RmsNorm.dx (rows (bx m c t) r) (fun k => dh (ba m c t) (bw m c t) r k * rows (bg m c t) 0 k) j + rows (bres m c t) r j := by
  by_cases e : t.val % 4 = 0
  · rw [outsAt0_A m c t e]
    frame_out
    exact pay_back (ba m c t) (bw m c t) (bx m c t) (bres m c t) (bg m c t) r j
  · rw [outsAt0_B m c t e]
    frame_out
    exact pay_back (ba m c t) (bw m c t) (bx m c t) (bres m c t) (bg m c t) r j

/-- of its copy, -/
theorem out_copy (r : Fin 1024) (j : Fin 1024) : (outsAt0 m c t.val t.isLt).2.1 (ix2 r j)
    = RmsNorm.dx (rows (bx m c t) r) (fun k => dh (ba m c t) (bw m c t) r k * rows (bg m c t) 0 k) j + rows (bres m c t) r j := by
  by_cases e : t.val % 4 = 0
  · rw [outsAt0_A m c t e]
    frame_out
    pointwise [k0_pay1]
    exact pay_back (ba m c t) (bw m c t) (bx m c t) (bres m c t) (bg m c t) r j
  · rw [outsAt0_B m c t e]
    frame_out
    pointwise [k0_pay1]
    exact pay_back (ba m c t) (bw m c t) (bx m c t) (bres m c t) (bg m c t) r j

/-- and the gain's gradient: what the first point adds to zero, -/
theorem gainA (e : t.val % 4 = 0) (j : Fin 1024) : (outsAt0 m c t.val t.isLt).2.2 (ix2 0 j) = 0 + adds m c t j := by
  rw [outsAt0_A m c t e]
  frame_open
  simp (disch := decide) only [↓View.readCov_skip, ↓View.readCov_cons_toLoadRect, ↓View.readCov_fill]
  frame_out
  rw [← pay_zero j]
  exact pay_gain (ba m c t) (bw m c t) (bx m c t) k0_pay4 j

/-- and what a later one adds to the gradient before. -/
theorem gainB (e : ¬ t.val % 4 = 0) (j : Fin 1024) :
    (outsAt0 m c t.val t.isLt).2.2 (ix2 0 j) = (outsAt0 m c (t.val - 1) (Nat.lt_of_le_of_lt (Nat.sub_le _ _) t.isLt)).2.2 (ix2 0 j) + adds m c t j := by
  rw [outsAt0_B m c t e]
  frame_out
  exact pay_gain (ba m c t) (bw m c t) (bx m c t) (outsAt0 m c (t.val - 1) (Nat.lt_of_le_of_lt (Nat.sub_le _ _) t.isLt)).2.2 j

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The kernel's arguments as arrays. -/
abbrev ax : FVec Ideal ⟨3, ![2, 2048, 1024]⟩ .f32 := m ((c : Thread nD τ).loc main_arg0)
abbrev ag : FVec Ideal ⟨2, ![1, 1024]⟩ .f32 := m ((c : Thread nD τ).loc main_arg1)
abbrev aw : FVec Ideal ⟨2, ![1024, 1024]⟩ .f32 := m ((c : Thread nD τ).loc main_arg2)
abbrev ares : FVec Ideal ⟨3, ![2, 2048, 1024]⟩ .f32 := m ((c : Thread nD τ).loc main_arg3)
abbrev act : FVec Ideal ⟨3, ![2, 2048, 1024]⟩ .f32 := m ((c : Thread nD τ).loc main_arg4)

/-- Row `r` of point `t`'s blocks is the row `1024 t + r` of the arrays. -/
theorem at_x (b : Fin 2) (s : Fin 2048) (r : Fin 1024) (k : Fin 1024) (hr : t.val * 1024 + r.val = b.val * 2048 + s.val) :
    (show FVec Ideal S1024x1024 .f32 from iblk m c 2 t) (ix2 r k) = m ((c : Thread nD τ).loc main_arg0) (ix3 b s k) := by
  blk_point [iblk, V, idx t]

theorem at_res (b : Fin 2) (s : Fin 2048) (r : Fin 1024) (k : Fin 1024) (hr : t.val * 1024 + r.val = b.val * 2048 + s.val) :
    (show FVec Ideal S1024x1024 .f32 from iblk m c 4 t) (ix2 r k) = m ((c : Thread nD τ).loc main_arg3) (ix3 b s k) := by
  blk_point [iblk, V, idx t]

theorem at_g (k : Fin 1024) : (show FVec Ideal S1x1024 .f32 from iblk m c 3 t) (ix2 0 k) = m ((c : Thread nD τ).loc main_arg1) (ix2 0 k) := by
  blk_point [iblk, V, idx t]

theorem at_w (i : Fin 1024) (k : Fin 1024) : (show FVec Ideal S1024x1024 .bf16 from iblk m c 1 t) (ix2 i k) = m ((c : Thread nD τ).loc main_arg2) (ix2 i k) := by
  blk_point [iblk, V, idx t]

theorem at_a (b : Fin 2) (s : Fin 2048) (r : Fin 1024) (k : Fin 1024) (hr : t.val * 1024 + r.val = b.val * 2048 + s.val) :
    (show FVec Ideal S1024x1024 .bf16 from iblk m c 0 t) (ix2 r k) = m ((c : Thread nD τ).loc main_arg4) (ix3 b s k) := by
  blk_point [iblk, V, idx t]

theorem read_dh (b : Fin 2) (s : Fin 2048) (r : Fin 1024) (hr : t.val * 1024 + r.val = b.val * 2048 + s.val) (j : Fin 1024) : dh (ba m c t) (bw m c t) r j = DH2Ref.grad (aw m c) (act m c) b s j :=
  congrArg₂ (RmsNorm.proj · · j) (funext fun k => at_a m c t b s r k hr) (funext fun i => funext fun k => at_w m c t i k)

theorem read_x (b : Fin 2) (s : Fin 2048) (r : Fin 1024) (hr : t.val * 1024 + r.val = b.val * 2048 + s.val) : rows (bx m c t) r = DH2Ref.row (ax m c) b s :=
  funext fun k => at_x m c t b s r k hr

theorem read_scaled (b : Fin 2) (s : Fin 2048) (r : Fin 1024) (hr : t.val * 1024 + r.val = b.val * 2048 + s.val) :
    (fun k => dh (ba m c t) (bw m c t) r k * rows (bg m c t) 0 k) = DH2Ref.scaled (ag m c) (aw m c) (act m c) b s :=
  funext fun k => congrArg₂ (· * ·) (read_dh m c t b s r hr k) (at_g m c t k)

section
variable (hx : ∀ i, ∃ y : ℝ, ax m c i = y) (hg : ∀ i, ∃ y : ℝ, ag m c i = y) (hw : ∀ i, ∃ y : ℝ, aw m c i = y) (hct : ∀ i, ∃ y : ℝ, act m c i = y)

include hx hg hw hct in
/-- One row of a point's block is the plain gradient. -/
theorem row_back (b : Fin 2) (s : Fin 2048) (r : Fin 1024) (hr : t.val * 1024 + r.val = b.val * 2048 + s.val) (j : Fin 1024) :
    RmsNorm.dx (rows (bx m c t) r) (fun k => dh (ba m c t) (bw m c t) r k * rows (bg m c t) 0 k) j + rows (bres m c t) r j
      = Cert.ReferenceDH2Ideal.Read.val_main_v41 (F := Ideal) (ax m c) (ag m c) (aw m c) (ares m c) (act m c) (ix2 ⟨b.val * 2048 + s.val, by omega⟩ j) := by
  rw [read_x m c t b s r hr, read_scaled m c t b s r hr, DH2Ref.back_flat,
    show rows (bres m c t) r j = DH2Ref.row (ares m c) b s j from at_res m c t b s r j hr]
  exact RmsNorm.dx_eq _ _ (DH2Ref.row (ares m c) b s) (fun k => hx _)
    (fun k => Real.mul_real (RmsNorm.proj_real _ _ (fun k => hct _) (fun i k => hw _) k) (hg _)) j

include hx hg hw hct in
/-- A block that holds these rows, at an index, is the plain gradient at the array's index. -/
theorem point (O : FVec Ideal S1024x1024 .f32) (hO : ∀ r j, O (ix2 r j)
      = RmsNorm.dx (rows (bx m c t) r) (fun k => dh (ba m c t) (bw m c t) r k * rows (bg m c t) 0 k) j + rows (bres m c t) r j)
    (y : S1024x1024.Idx) (i : (⟨2, ![4096, 1024]⟩ : Shape).Idx) (h0 : (i 0).val = t.val * 1024 + (y 0).val) (h1 : (i 1).val = (y 1).val) :
    O y = Cert.ReferenceDH2Ideal.Read.val_main_v41 (F := Ideal) (ax m c) (ag m c) (aw m c) (ares m c) (act m c) i := by
  have ht : t.val < 4 := t.isLt
  obtain ⟨r, l, rfl⟩ : ∃ (r : Fin 1024) (l : Fin 1024), y = ix2 r l := ⟨_, _, eq_ix2 y⟩
  change (i 0).val = t.val * 1024 + r.val at h0
  change (i 1).val = l.val at h1
  obtain ⟨b, s, hs⟩ : ∃ (b : Fin 2) (s : Fin 2048), t.val * 1024 + r.val = b.val * 2048 + s.val :=
    ⟨⟨t.val / 2, by omega⟩, ⟨t.val % 2 * 1024 + r.val, by omega⟩, by show _ = _ / 2 * 2048 + (_ % 2 * 1024 + _); omega⟩
  have e : i = ix2 ⟨b.val * 2048 + s.val, by omega⟩ l := (eq_ix2 i).trans (congrArg₂ ix2 (Fin.ext (h0.trans hs)) (Fin.ext h1))
  rw [hO, e, row_back m c t hx hg hw hct b s r hs]

end

/-- The last point's gradient of the gain is the plain one. -/
theorem point_gain (y : S1x1024.Idx) :
    (outsAt0 m c 3 (by decide)).2.2 y = Cert.ReferenceDH2Ideal.Read.val_main_v40 (F := Ideal) (ax m c) (aw m c) (act m c) y := by
  obtain ⟨j, rfl⟩ := exists_lane y
  rw [DH2Ref.gain_apply]
  rw [Pipeline.eq_sum_fin_of_reset_step_apply_last (fun n h => (outsAt0 m c n h).2.2) 4 (fun _ => 0) (fun t y => adds m c t (y 1))
    (fun t h y => by obtain ⟨j, rfl⟩ := exists_lane y; exact gainA m c t h j)
    (fun t h y => by obtain ⟨j, rfl⟩ := exists_lane y; exact gainB m c t h j)
    (le_of_eq N_0) ⟨3, by decide⟩ rfl (ix2 0 j), zero_add]
  refine Fin.sum_points_lanes_congr 2 (fun t r ha hl => ?_) (by exact N_0)
  have hr : t.val * 1024 + r.val = t.val / 2 * 2048 + (t.val % 2 * 1024 + r.val) := by omega
  show dh (ba m c t) (bw m c t) r j * RmsNorm.hat (rows (bx m c t) r) j = _
  rw [read_x m c t ⟨t.val / 2, ha⟩ ⟨t.val % 2 * 1024 + r.val, hl⟩ r hr, read_dh m c t ⟨t.val / 2, ha⟩ ⟨t.val % 2 * 1024 + r.val, hl⟩ r hr]
  exact mul_comm _ _

section
variable (hx : ∀ i, ∃ y : ℝ, ax m c i = y) (hg : ∀ i, ∃ y : ℝ, ag m c i = y) (hw : ∀ i, ∃ y : ℝ, aw m c i = y) (hct : ∀ i, ∃ y : ℝ, act m c i = y)
include hx hg hw hct

theorem final_back : (dats m 0 c).arrAt 5 cfg0.N = Cert.ReferenceDH2Ideal.Read.val_main_v41 (F := Ideal) (ax m c) (ag m c) (aw m c) (ares m c) (act m c) := by
  refine (dats m 0 c).arrAt_eq_of_covers 5 _ (by decide +kernel) fun t hf y => ?_
  blk_simp
  rw [after0_5]
  refine point m c t hx hg hw hct _ (out_back m c t) y _ ?_ ?_
  · blk_simp [idx t]
  · blk_simp [idx t]

theorem final_copy : (dats m 0 c).arrAt 6 cfg0.N = Cert.ReferenceDH2Ideal.Read.val_main_v42 (F := Ideal) (ax m c) (ag m c) (aw m c) (ares m c) (act m c) := by
  rw [show Cert.ReferenceDH2Ideal.Read.val_main_v42 (F := Ideal) (ax m c) (ag m c) (aw m c) (ares m c) (act m c) = Cert.ReferenceDH2Ideal.Read.val_main_v41 (F := Ideal) (ax m c) (ag m c) (aw m c) (ares m c) (act m c) from
    funext fun i => DH2Ref.copy_eq _ _ _ _ _ i]
  refine (dats m 0 c).arrAt_eq_of_covers 6 _ (by decide +kernel) fun t hf y => ?_
  blk_simp
  rw [after0_6]
  refine point m c t hx hg hw hct _ (out_copy m c t) y _ ?_ ?_
  · blk_simp [idx t]
  · blk_simp [idx t]

end

theorem final_gain : (dats m 0 c).arrAt 7 cfg0.N = Cert.ReferenceDH2Ideal.Read.val_main_v40 (F := Ideal) (ax m c) (aw m c) (act m c) := by
  refine (dats m 0 c).arrAt_eq_of_after_last 7 t0_3 (by decide +kernel) _ fun j => ?_
  blk_simp
  rw [after0_7]
  exact point_gain m c j

/-- At finite arguments the kernel and the gradient taken of the plain lines leave the same arrays. -/
theorem algebraic : Cert.algebraic_KernelDH2Ideal_ReferenceDH2Ideal_pre_finite_dh2 := fun m g m' g' hpre hag => by
  have hx (c : Dev nD) (i) : ∃ y : ℝ, ax m c i = y := Real.exists_real (congrFun (hpre c).1 i)
  have hg (c : Dev nD) (i) : ∃ y : ℝ, ag m c i = y := Real.exists_real (congrFun (hpre c).2.1 i)
  have hw (c : Dev nD) (i) : ∃ y : ℝ, aw m c i = y := Real.exists_real (congrFun (hpre c).2.2.1 i)
  have hct (c : Dev nD) (i) : ∃ y : ℝ, act m c i = y := Real.exists_real (congrFun (hpre c).2.2.2 i)
  exact ⟨fun c => Cert.ReferenceDH2Ideal.Read.val_main_v41 (F := Ideal) (ax m c) (ag m c) (aw m c) (ares m c) (act m c),
    fun c => Cert.ReferenceDH2Ideal.Read.val_main_v42 (F := Ideal) (ax m c) (ag m c) (aw m c) (ares m c) (act m c),
    fun c => Cert.ReferenceDH2Ideal.Read.val_main_v40 (F := Ideal) (ax m c) (aw m c) (act m c),
    (θ_run _ _ _).mono (fun _ h c => ⟨(h c).1.trans (final_back m c (hx c) (hg c) (hw c) (hct c)),
      (h c).2.1.trans (final_copy m c (hx c) (hg c) (hw c) (hct c)), (h c).2.2.1.trans (final_gain m c), (h c).2.2.2⟩)
      (Cert.KernelDH2Ideal.Value.run_blocks m g),
    (θ_run _ _ _).mono (fun _ h c => ⟨(h c).1.trans ((Cert.ReferenceDH2Ideal.Read.val_main_v41_eq m' c).trans
        (Real.congr5 (Cert.ReferenceDH2Ideal.Read.val_main_v41 (F := Ideal)) (hag c))),
      (h c).2.1.trans ((Cert.ReferenceDH2Ideal.Read.val_main_v42_eq m' c).trans
        (Real.congr5 (Cert.ReferenceDH2Ideal.Read.val_main_v42 (F := Ideal)) (hag c))),
      (h c).2.2.1.trans ((Cert.ReferenceDH2Ideal.Read.val_main_v40_eq _ _ _).trans
        (Real.congr5 (fun x _ w _ ct => Cert.ReferenceDH2Ideal.Read.val_main_v40 (F := Ideal) x w ct) (hag c))),
      (h c).2.2.2⟩) (Cert.ReferenceDH2Ideal.Value.run m' g')⟩

end Cert.DH2

end
-- ==== Proof.DH1Ref.lean ====
/- The first norm and the product after it, the plain side: the gradient that is taken of the plain lines, row by row. -/
module

public import proofs.«01_k».proof.Proof.RmsNorm
public import proofs.«01_k».proof.Proof.Sums
public import proofs.«01_k».proof.Proof.Gen.ReferenceDH1Ideal.Read
public import Idealize.ShloMosaic.Lib.Pipeline.ValueKit

@[expose] public section

set_option maxRecDepth 16384

noncomputable section

open Idealize.ShloMosaic Idealize.ShloMosaic.TcCoe Idealize.SL.Sem

namespace Cert.DH1Ref

open Cert.ReferenceDH1Ideal Cert.ReferenceDH1Ideal.Read

variable (x : FVec Ideal S2x2048x1024 .f32) (g : FVec Ideal S1x1024 .f32) (w : FVec Ideal S1024x1536 .f32) (res : FVec Ideal S2x2048x1024 .f32)
  (ct : FVec Ideal S2x2048x1536 .f32) (b : Fin 2) (s : Fin 2048)

/-- One row of the norm's argument, of the gradient that passes it by, and of the gradient to the normed row before and
    after the gain. -/
def row (x : FVec Ideal S2x2048x1024 .f32) (b : Fin 2) (s : Fin 2048) (j : Fin 1024) : EReal := x (ix3 b s j)
def cot (j : Fin 1536) : EReal := ct (ix3 b s j)
def mat (i : Fin 1024) (k : Fin 1536) : EReal := w (ix2 i k)
def grad (j : Fin 1024) : EReal := RmsNorm.proj (cot ct b s) (mat w) j
def scaled (j : Fin 1024) : EReal := grad w ct b s j * g (ix2 0 j)

theorem ms_apply (i : Fin 1) : val_main_v7 (F := Ideal) x (ix3 b s i) = RmsNorm.ms (row x b s) := by
  unfold val_main_v7 val_main_v6 val_main_v5 val_main_v4 val_main_v3 val_main_v2 val_main_v1 RmsNorm.ms row
  pointwise [val_main_cst, val_main_cst_0, val_main_cst_1]

theorem inv_apply (i : Fin 1) : val_main_v8 (F := Ideal) x (ix3 b s i) = RmsNorm.inv (row x b s) := by
  simp only [RmsNorm.inv, ← ms_apply x b s i]
  unfold val_main_v8
  generalize val_main_v7 (F := Ideal) x = X
  pointwise []

theorem hat_apply (j : Fin 1024) : val_main_v13 (F := Ideal) x (ix3 b s j) = RmsNorm.hat (row x b s) j := by
  simp only [RmsNorm.hat, ← inv_apply x b s 0]
  unfold val_main_v13 val_main_v12 row
  generalize val_main_v8 (F := Ideal) x = X
  pointwise []

theorem grad_apply (j : Fin 1024) : val_main_v18 (F := Ideal) w ct (ix3 b s j) = grad w ct b s j := by
  unfold val_main_v18 grad RmsNorm.proj cot mat
  pointwise []

theorem scaled_apply (j : Fin 1024) : val_main_v23 (F := Ideal) g w ct (ix3 b s j) = scaled g w ct b s j := by
  simp only [scaled, ← grad_apply]
  unfold val_main_v23 val_main_v22 val_main_v14 val_main_v0
  generalize val_main_v18 (F := Ideal) w ct = X
  pointwise []

theorem coef_apply : val_main_v34 (F := Ideal) x g w ct (ix2 b s) = RmsNorm.coef (row x b s) (scaled g w ct b s) := by
  simp only [RmsNorm.coef, ← inv_apply x b s 0, ← ms_apply x b s 0, ← scaled_apply]
  unfold val_main_v34 val_main_v33 val_main_v32 val_main_v31 val_main_v27 val_main_v26 val_main_v25 val_main_v11 val_main_v10 val_main_v9 row
  generalize val_main_v7 (F := Ideal) x = X
  generalize val_main_v8 (F := Ideal) x = Y
  generalize val_main_v23 (F := Ideal) g w ct = Z
  pointwise [val_main_cst_2, val_main_cst_5, val_main_cst_6, val_main_cst_7]
  simp only [Fin.sum_univ_one]

theorem back_apply (j : Fin 1024) : val_main_v39 (F := Ideal) x g w res ct (ix3 b s j)
    = RmsNorm.dxRef (row x b s) (scaled g w ct b s) (row res b s) j := by
  simp only [RmsNorm.dxRef, ← inv_apply x b s 0, ← coef_apply, ← scaled_apply]
  unfold val_main_v39 val_main_v38 val_main_v37 val_main_v36 val_main_v35 val_main_v30 val_main_v29 val_main_v28 row
  generalize val_main_v34 (F := Ideal) x g w ct = X
  generalize val_main_v8 (F := Ideal) x = Y
  generalize val_main_v23 (F := Ideal) g w ct = Z
  pointwise []

/-- The gradient with respect to the norm's argument, the two leading axes as one, -/
theorem back_flat (j : Fin 1024) : val_main_v41 (F := Ideal) x g w res ct (ix2 ⟨b.val * 2048 + s.val, by omega⟩ j)
    = RmsNorm.dxRef (row x b s) (scaled g w ct b s) (row res b s) j := by
  rw [← back_apply]
  unfold val_main_v41
  generalize val_main_v39 (F := Ideal) x g w res ct = X
  pointwise []

/-- The gradient of the gain. -/
theorem gain_apply (j : Fin 1024) : val_main_v40 (F := Ideal) x w ct (ix2 0 j)
    = ∑ b : Fin 2, ∑ s : Fin 2048, RmsNorm.hat (row x b s) j * grad w ct b s j := by
  simp only [← hat_apply, ← grad_apply]
  unfold val_main_v40 val_main_v24 val_main_v21 val_main_v20 val_main_v19
  generalize val_main_v13 (F := Ideal) x = X
  generalize val_main_v18 (F := Ideal) w ct = Z
  pointwise [Ideal.hostReduceAdd_lead2, val_main_cst_3, val_main_cst_4]
  simp only [Fin.sum_univ_one]

end Cert.DH1Ref

end
-- ==== Proof.DH1.lean ====
/- The first norm and the product after it, backwards: what the kernel's gradient leaves is, on finite arguments, what the
   gradient taken of the plain lines leaves. -/
module

public import proofs.«01_k».proof.Defs
public import proofs.«01_k».proof.Proof.DH1Ref
public import proofs.«01_k».proof.Proof.Rows
public import proofs.«01_k».proof.Proof.Gen.KernelDH1Ideal.Value
public import proofs.«01_k».proof.Proof.Gen.Pre_finite_dh1
public import Idealize.ShloMosaic.Lib.Pipeline.ReadBack

@[expose] public section

set_option maxRecDepth 16384

noncomputable section

open Idealize.ShloMosaic Idealize.ShloMosaic.TcCoe Idealize.SL.Sem

namespace Cert.DH1

open Cert.KernelDH1Ideal Cert.KernelDH1Ideal.Gen Cert.Rows

section
variable (a : FVec Ideal S1024x1536 .bf16) (w : FVec Ideal S1024x1536 .bf16) (x res : FVec Ideal S1024x1024 .f32)
  (g z : FVec Ideal S1x1024 .f32) (r : Fin 1024) (j : Fin 1024)

/-- The gradient to the normed row. -/
def dh : EReal := RmsNorm.proj (rows a r) (rows w) j

theorem pay_dh : k0_pay2 (F := Ideal) a w (ix2 r j) = dh a w r j := by
  pointwise [k0_pay2]
  rfl

theorem pay_inv : k0_pay5 (F := Ideal) x (ix2 r 0) = RmsNorm.inv (rows x r) := by
  pointwise [k0_pay5, k0_pay4]
  rfl

theorem pay_hat : k0_pay6 (F := Ideal) x (ix2 r j) = RmsNorm.hat (rows x r) j := by
  pointwise [k0_pay6, k0_pay5, k0_pay4]
  rfl

/-- The stored block of the gradient. -/
theorem pay_back : k0_pay7 (F := Ideal) a w x g res (ix2 r j)
    = RmsNorm.dx (rows x r) (fun k => dh a w r k * rows g 0 k) j + rows res r j := by
  simp only [RmsNorm.dx, ← pay_dh, ← pay_hat, ← pay_inv]
  unfold k0_pay7
  generalize k0_pay2 (F := Ideal) a w = M
  generalize k0_pay6 (F := Ideal) x = H
  generalize k0_pay5 (F := Ideal) x = I
  pointwise []

/-- The gain's gradient after the point. -/
theorem pay_gain : k0_pay1 (F := Ideal) (k0_pay2 a w) (k0_pay6 x) z (ix2 0 j)
    = z (ix2 0 j) + ∑ r : Fin 1024, dh a w r j * RmsNorm.hat (rows x r) j := by
  simp only [← pay_dh, ← pay_hat]
  unfold k0_pay1
  generalize k0_pay2 (F := Ideal) a w = M
  generalize k0_pay6 (F := Ideal) x = H
  pointwise []

theorem pay_zero : k0_pay3 (F := Ideal) (ix2 0 j) = 0 := by
  pointwise [k0_pay3]

end

variable (m : (ℓ : Loc nD τ sig) → Buf (Elt Ideal) ℓ) (c : Dev nD) (t : Fin cfg0.N)

/-- The blocks a point loads. -/
abbrev ba : FVec Ideal S1024x1536 .bf16 := show FVec Ideal S1024x1536 .bf16 from iblk m c 0 t
abbrev bw : FVec Ideal S1024x1536 .bf16 := show FVec Ideal S1024x1536 .bf16 from iblk m c 1 t
abbrev bx : FVec Ideal S1024x1024 .f32 := show FVec Ideal S1024x1024 .f32 from iblk m c 2 t
abbrev bg : FVec Ideal S1x1024 .f32 := show FVec Ideal S1x1024 .f32 from iblk m c 3 t
abbrev bres : FVec Ideal S1024x1024 .f32 := show FVec Ideal S1024x1024 .f32 from iblk m c 4 t

/-- What a point adds to the gain's gradient. -/
def adds (j : Fin 1024) : EReal := ∑ r : Fin 1024, dh (ba m c t) (bw m c t) r j * RmsNorm.hat (rows (bx m c t) r) j

/-- The point's block of the gradient, -/
theorem out_back (r : Fin 1024) (j : Fin 1024) : (outsAt0 m c t.val t.isLt).1 (ix2 r j)
    = RmsNorm.dx (rows (bx m c t) r) (fun k => dh (ba m c t) (bw m c t) r k * rows (bg m c t) 0 k) j + rows (bres m c t) r j := by
  by_cases e : t.val % 4 = 0
  · rw [outsAt0_A m c t e]
    frame_out
    exact pay_back (ba m c t) (bw m c t) (bx m c t) (bres m c t) (bg m c t) r j
  · rw [outsAt0_B m c t e]
    frame_out
    exact pay_back (ba m c t) (bw m c t) (bx m c t) (bres m c t) (bg m c t) r j

/-- and the gain's gradient: what the first point adds to zero, -/
theorem gainA (e : t.val % 4 = 0) (j : Fin 1024) : (outsAt0 m c t.val t.isLt).2 (ix2 0 j) = 0 + adds m c t j := by
  rw [outsAt0_A m c t e]
  frame_open
  simp (disch := decide) only [↓View.readCov_skip, ↓View.readCov_cons_toLoadRect, ↓View.readCov_fill]
  frame_out
  rw [← pay_zero j]
  exact pay_gain (ba m c t) (bw m c t) (bx m c t) k0_pay3 j

/-- and what a later one adds to the gradient before. -/
theorem gainB (e : ¬ t.val % 4 = 0) (j : Fin 1024) :
    (outsAt0 m c t.val t.isLt).2 (ix2 0 j) = (outsAt0 m c (t.val - 1) (Nat.lt_of_le_of_lt (Nat.sub_le _ _) t.isLt)).2 (ix2 0 j) + adds m c t j := by
  rw [outsAt0_B m c t e]
  frame_out
  exact pay_gain (ba m c t) (bw m c t) (bx m c t) (outsAt0 m c (t.val - 1) (Nat.lt_of_le_of_lt (Nat.sub_le _ _) t.isLt)).2 j

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The kernel's arguments as arrays. -/
abbrev ax : FVec Ideal ⟨3, ![2, 2048, 1024]⟩ .f32 := m ((c : Thread nD τ).loc main_arg0)
abbrev ag : FVec Ideal ⟨2, ![1, 1024]⟩ .f32 := m ((c : Thread nD τ).loc main_arg1)
abbrev aw : FVec Ideal ⟨2, ![1024, 1536]⟩ .f32 := m ((c : Thread nD τ).loc main_arg2)
abbrev ares : FVec Ideal ⟨3, ![2, 2048, 1024]⟩ .f32 := m ((c : Thread nD τ).loc main_arg3)
abbrev act : FVec Ideal ⟨3, ![2, 2048, 1536]⟩ .f32 := m ((c : Thread nD τ).loc main_arg4)

/-- Row `r` of point `t`'s blocks is the row `1024 t + r` of the arrays. -/
theorem at_x (b : Fin 2) (s : Fin 2048) (r : Fin 1024) (k : Fin 1024) (hr : t.val * 1024 + r.val = b.val * 2048 + s.val) :
    (show FVec Ideal S1024x1024 .f32 from iblk m c 2 t) (ix2 r k) = m ((c : Thread nD τ).loc main_arg0) (ix3 b s k) := by
  blk_point [iblk, V, idx t]

theorem at_res (b : Fin 2) (s : Fin 2048) (r : Fin 1024) (k : Fin 1024) (hr : t.val * 1024 + r.val = b.val * 2048 + s.val) :
    (show FVec Ideal S1024x1024 .f32 from iblk m c 4 t) (ix2 r k) = m ((c : Thread nD τ).loc main_arg3) (ix3 b s k) := by
  blk_point [iblk, V, idx t]

theorem at_g (k : Fin 1024) : (show FVec Ideal S1x1024 .f32 from iblk m c 3 t) (ix2 0 k) = m ((c : Thread nD τ).loc main_arg1) (ix2 0 k) := by
  blk_point [iblk, V, idx t]

theorem at_w (i : Fin 1024) (k : Fin 1536) : (show FVec Ideal S1024x1536 .bf16 from iblk m c 1 t) (ix2 i k) = m ((c : Thread nD τ).loc main_arg2) (ix2 i k) := by
  blk_point [iblk, V, idx t]

theorem at_a (b : Fin 2) (s : Fin 2048) (r : Fin 1024) (k : Fin 1536) (hr : t.val * 1024 + r.val = b.val * 2048 + s.val) :
    (show FVec Ideal S1024x1536 .bf16 from iblk m c 0 t) (ix2 r k) = m ((c : Thread nD τ).loc main_arg4) (ix3 b s k) := by
  blk_point [iblk, V, idx t]

theorem read_dh (b : Fin 2) (s : Fin 2048) (r : Fin 1024) (hr : t.val * 1024 + r.val = b.val * 2048 + s.val) (j : Fin 1024) : dh (ba m c t) (bw m c t) r j = DH1Ref.grad (aw m c) (act m c) b s j :=
  congrArg₂ (RmsNorm.proj · · j) (funext fun k => at_a m c t b s r k hr) (funext fun i => funext fun k => at_w m c t i k)

theorem read_x (b : Fin 2) (s : Fin 2048) (r : Fin 1024) (hr : t.val * 1024 + r.val = b.val * 2048 + s.val) : rows (bx m c t) r = DH1Ref.row (ax m c) b s :=
  funext fun k => at_x m c t b s r k hr

theorem read_scaled (b : Fin 2) (s : Fin 2048) (r : Fin 1024) (hr : t.val * 1024 + r.val = b.val * 2048 + s.val) :
    (fun k => dh (ba m c t) (bw m c t) r k * rows (bg m c t) 0 k) = DH1Ref.scaled (ag m c) (aw m c) (act m c) b s :=
  funext fun k => congrArg₂ (· * ·) (read_dh m c t b s r hr k) (at_g m c t k)

section
variable (hx : ∀ i, ∃ y : ℝ, ax m c i = y) (hg : ∀ i, ∃ y : ℝ, ag m c i = y) (hw : ∀ i, ∃ y : ℝ, aw m c i = y) (hct : ∀ i, ∃ y : ℝ, act m c i = y)

include hx hg hw hct in
/-- One row of a point's block is the plain gradient. -/
theorem row_back (b : Fin 2) (s : Fin 2048) (r : Fin 1024) (hr : t.val * 1024 + r.val = b.val * 2048 + s.val) (j : Fin 1024) :
    RmsNorm.dx (rows (bx m c t) r) (fun k => dh (ba m c t) (bw m c t) r k * rows (bg m c t) 0 k) j + rows (bres m c t) r j
      = Cert.ReferenceDH1Ideal.Read.val_main_v41 (F := Ideal) (ax m c) (ag m c) (aw m c) (ares m c) (act m c) (ix2 ⟨b.val * 2048 + s.val, by omega⟩ j) := by
  rw [read_x m c t b s r hr, read_scaled m c t b s r hr, DH1Ref.back_flat,
    show rows (bres m c t) r j = DH1Ref.row (ares m c) b s j from at_res m c t b s r j hr]
  exact RmsNorm.dx_eq _ _ (DH1Ref.row (ares m c) b s) (fun k => hx _)
    (fun k => Real.mul_real (RmsNorm.proj_real _ _ (fun k => hct _) (fun i k => hw _) k) (hg _)) j

include hx hg hw hct in
/-- A block that holds these rows, at an index, is the plain gradient at the array's index. -/
theorem point (O : FVec Ideal S1024x1024 .f32) (hO : ∀ r j, O (ix2 r j)
      = RmsNorm.dx (rows (bx m c t) r) (fun k => dh (ba m c t) (bw m c t) r k * rows (bg m c t) 0 k) j + rows (bres m c t) r j)
    (y : S1024x1024.Idx) (i : (⟨2, ![4096, 1024]⟩ : Shape).Idx) (h0 : (i 0).val = t.val * 1024 + (y 0).val) (h1 : (i 1).val = (y 1).val) :
    O y = Cert.ReferenceDH1Ideal.Read.val_main_v41 (F := Ideal) (ax m c) (ag m c) (aw m c) (ares m c) (act m c) i := by
  have ht : t.val < 4 := t.isLt
  obtain ⟨r, l, rfl⟩ : ∃ (r : Fin 1024) (l : Fin 1024), y = ix2 r l := ⟨_, _, eq_ix2 y⟩
  change (i 0).val = t.val * 1024 + r.val at h0
  change (i 1).val = l.val at h1
  obtain ⟨b, s, hs⟩ : ∃ (b : Fin 2) (s : Fin 2048), t.val * 1024 + r.val = b.val * 2048 + s.val :=
    ⟨⟨t.val / 2, by omega⟩, ⟨t.val % 2 * 1024 + r.val, by omega⟩, by show _ = _ / 2 * 2048 + (_ % 2 * 1024 + _); omega⟩
  have e : i = ix2 ⟨b.val * 2048 + s.val, by omega⟩ l := (eq_ix2 i).trans (congrArg₂ ix2 (Fin.ext (h0.trans hs)) (Fin.ext h1))
  rw [hO, e, row_back m c t hx hg hw hct b s r hs]

end

/-- The last point's gradient of the gain is the plain one. -/
theorem point_gain (y : S1x1024.Idx) :
    (outsAt0 m c 3 (by decide)).2 y = Cert.ReferenceDH1Ideal.Read.val_main_v40 (F := Ideal) (ax m c) (aw m c) (act m c) y := by
  obtain ⟨j, rfl⟩ := exists_lane y
  rw [DH1Ref.gain_apply]
  rw [Pipeline.eq_sum_fin_of_reset_step_apply_last (fun n h => (outsAt0 m c n h).2) 4 (fun _ => 0) (fun t y => adds m c t (y 1))
    (fun t h y => by obtain ⟨j, rfl⟩ := exists_lane y; exact gainA m c t h j)
    (fun t h y => by obtain ⟨j, rfl⟩ := exists_lane y; exact gainB m c t h j)
    (le_of_eq N_0) ⟨3, by decide⟩ rfl (ix2 0 j), zero_add]
  refine Fin.sum_points_lanes_congr 2 (fun t r ha hl => ?_) (by exact N_0)
  have hr : t.val * 1024 + r.val = t.val / 2 * 2048 + (t.val % 2 * 1024 + r.val) := by omega
  show dh (ba m c t) (bw m c t) r j * RmsNorm.hat (rows (bx m c t) r) j = _
  rw [read_x m c t ⟨t.val / 2, ha⟩ ⟨t.val % 2 * 1024 + r.val, hl⟩ r hr, read_dh m c t ⟨t.val / 2, ha⟩ ⟨t.val % 2 * 1024 + r.val, hl⟩ r hr]
  exact mul_comm _ _

section
variable (hx : ∀ i, ∃ y : ℝ, ax m c i = y) (hg : ∀ i, ∃ y : ℝ, ag m c i = y) (hw : ∀ i, ∃ y : ℝ, aw m c i = y) (hct : ∀ i, ∃ y : ℝ, act m c i = y)
include hx hg hw hct

theorem final_back : (dats m 0 c).arrAt 5 cfg0.N = Cert.ReferenceDH1Ideal.Read.val_main_v41 (F := Ideal) (ax m c) (ag m c) (aw m c) (ares m c) (act m c) := by
  refine (dats m 0 c).arrAt_eq_of_covers 5 _ (by decide +kernel) fun t hf y => ?_
  blk_simp
  rw [after0_5]
  refine point m c t hx hg hw hct _ (out_back m c t) y _ ?_ ?_
  · blk_simp [idx t]
  · blk_simp [idx t]

end

theorem final_gain : (dats m 0 c).arrAt 6 cfg0.N = Cert.ReferenceDH1Ideal.Read.val_main_v40 (F := Ideal) (ax m c) (aw m c) (act m c) := by
  refine (dats m 0 c).arrAt_eq_of_after_last 6 t0_3 (by decide +kernel) _ fun j => ?_
  blk_simp
  rw [after0_6]
  exact point_gain m c j

/-- At finite arguments the kernel and the gradient taken of the plain lines leave the same arrays. -/
theorem algebraic : Cert.algebraic_KernelDH1Ideal_ReferenceDH1Ideal_pre_finite_dh1 := fun m g m' g' hpre hag => by
  have hx (c : Dev nD) (i) : ∃ y : ℝ, ax m c i = y := Real.exists_real (congrFun (hpre c).1 i)
  have hg (c : Dev nD) (i) : ∃ y : ℝ, ag m c i = y := Real.exists_real (congrFun (hpre c).2.1 i)
  have hw (c : Dev nD) (i) : ∃ y : ℝ, aw m c i = y := Real.exists_real (congrFun (hpre c).2.2.1 i)
  have hct (c : Dev nD) (i) : ∃ y : ℝ, act m c i = y := Real.exists_real (congrFun (hpre c).2.2.2 i)
  exact ⟨fun c => Cert.ReferenceDH1Ideal.Read.val_main_v41 (F := Ideal) (ax m c) (ag m c) (aw m c) (ares m c) (act m c),
    fun c => Cert.ReferenceDH1Ideal.Read.val_main_v40 (F := Ideal) (ax m c) (aw m c) (act m c),
    (θ_run _ _ _).mono (fun _ h c => ⟨(h c).1.trans (final_back m c (hx c) (hg c) (hw c) (hct c)),
      (h c).2.1.trans (final_gain m c), (h c).2.2⟩)
      (Cert.KernelDH1Ideal.Value.run_blocks m g),
    (θ_run _ _ _).mono (fun _ h c => ⟨(h c).1.trans ((Cert.ReferenceDH1Ideal.Read.val_main_v41_eq m' c).trans
        (Real.congr5 (Cert.ReferenceDH1Ideal.Read.val_main_v41 (F := Ideal)) (hag c))),
      (h c).2.1.trans ((Cert.ReferenceDH1Ideal.Read.val_main_v40_eq _ _ _).trans
        (Real.congr5 (fun x _ w _ ct => Cert.ReferenceDH1Ideal.Read.val_main_v40 (F := Ideal) x w ct) (hag c))),
      (h c).2.2⟩) (Cert.ReferenceDH1Ideal.Value.run m' g')⟩

end Cert.DH1

end
-- ==== Proof.LossRef.lean ====
/- The last norm and the loss, the plain side: the loss and the gradient that is taken of it, row by row. -/
module

public import proofs.«01_k».proof.Proof.RmsNorm
public import proofs.«01_k».proof.Proof.Sums
public import proofs.«01_k».proof.Proof.Gen.ReferenceLossIdeal.Read
public import Idealize.ShloMosaic.Lib.Pipeline.ValueKit

@[expose] public section

set_option maxRecDepth 16384

noncomputable section

open Idealize.ShloMosaic Idealize.ShloMosaic.TcCoe Idealize.SL.Sem

namespace Cert.LossRef

open Cert.ReferenceLossIdeal Cert.ReferenceLossIdeal.Read

abbrev half : EReal := Ideal.ofBits .f32 0x3F000000#32
abbrev two : EReal := Ideal.ofBits .f32 0x40000000#32

/-- The normed row, scaled, minus the target. -/
def err {n : Nat} (x g tgt : Fin n → EReal) (j : Fin n) : EReal := RmsNorm.hat x j * g j - tgt j

/-- The mean of the squares of that: twice a row's part of the loss. -/
def sq {n : Nat} (x g tgt : Fin n → EReal) : EReal := Ideal.div (∑ k, err x g tgt k * err x g tgt k) RmsNorm.len

/-- The plain gradient of the loss to the normed and scaled row. -/
def dout {n : Nat} (x g tgt : Fin n → EReal) (j : Fin n) : EReal := Ideal.div half RmsNorm.len * (two * err x g tgt j)

variable (a : FVec Ideal S2x2048x2816 .f32) (w : FVec Ideal S2816x1024 .f32) (res : FVec Ideal S2x2048x1024 .f32) (g : FVec Ideal S1024 .f32)
  (tgt : FVec Ideal S2x2048x1024 .f32) (b : Fin 2) (s : Fin 2048)

/-- One row of the norm's argument, of the target, and the gain. -/
def inp (j : Fin 1024) : EReal := res (ix3 b s j) + ∑ k : Fin 2816, a (ix3 b s k) * w (ix2 k j)
def goal (j : Fin 1024) : EReal := tgt (ix3 b s j)
def gain (j : Fin 1024) : EReal := g (ix1 j)

theorem inp_apply (j : Fin 1024) : val_main_v1 (F := Ideal) a w res (ix3 b s j) = inp a w res b s j := by
  unfold val_main_v1 val_main_v0 inp
  pointwise []

theorem ms_apply (i : Fin 1) : val_main_v8 (F := Ideal) a w res (ix3 b s i) = RmsNorm.ms (inp a w res b s) := by
  simp only [RmsNorm.ms, ← inp_apply]
  unfold val_main_v8 val_main_v7 val_main_v6 val_main_v5 val_main_v4 val_main_v3 val_main_v2
  generalize val_main_v1 (F := Ideal) a w res = X
  pointwise [val_main_cst, val_main_cst_0, val_main_cst_1]

theorem inv_apply (i : Fin 1) : val_main_v9 (F := Ideal) a w res (ix3 b s i) = RmsNorm.inv (inp a w res b s) := by
  simp only [RmsNorm.inv, ← ms_apply a w res b s i]
  unfold val_main_v9
  generalize val_main_v8 (F := Ideal) a w res = X
  pointwise []

theorem hat_apply (j : Fin 1024) : val_main_v14 (F := Ideal) a w res (ix3 b s j) = RmsNorm.hat (inp a w res b s) j := by
  simp only [RmsNorm.hat, ← inp_apply, ← inv_apply a w res b s 0]
  unfold val_main_v14 val_main_v13
  generalize val_main_v1 (F := Ideal) a w res = X
  generalize val_main_v9 (F := Ideal) a w res = Y
  pointwise []

theorem err_apply (j : Fin 1024) : val_main_v18 (F := Ideal) a w res g tgt (ix3 b s j) = err (inp a w res b s) (gain g) (goal tgt b s) j := by
  simp only [err, ← hat_apply]
  unfold val_main_v18 val_main_v17 val_main_v16 val_main_v15 gain goal
  generalize val_main_v14 (F := Ideal) a w res = X
  pointwise []

theorem dout_apply (j : Fin 1024) : val_main_v32 (F := Ideal) a w res g tgt (ix3 b s j) = dout (inp a w res b s) (gain g) (goal tgt b s) j := by
  simp only [dout, ← err_apply]
  unfold val_main_v32 val_main_v31 val_main_v30 val_main_v29 val_main_v28 val_main_v27 val_main_v21 val_main_v20
  generalize val_main_v18 (F := Ideal) a w res g tgt = X
  pointwise [val_main_cst_8, val_main_cst_9, val_main_cst_10, val_main_cst_3]

/-- The gradient to the normed row. -/
def scaled (j : Fin 1024) : EReal := dout (inp a w res b s) (gain g) (goal tgt b s) j * gain g j

theorem scaled_apply (j : Fin 1024) : val_main_v37 (F := Ideal) a w res g tgt (ix3 b s j) = scaled a w res g tgt b s j := by
  simp only [scaled, ← dout_apply]
  unfold val_main_v37 val_main_v36 val_main_v15 gain
  generalize val_main_v32 (F := Ideal) a w res g tgt = X
  pointwise []

theorem coef_apply : val_main_v47 (F := Ideal) a w res g tgt (ix2 b s) = RmsNorm.coef (inp a w res b s) (scaled a w res g tgt b s) := by
  simp only [RmsNorm.coef, ← inp_apply, ← inv_apply a w res b s 0, ← ms_apply a w res b s 0, ← scaled_apply]
  unfold val_main_v47 val_main_v46 val_main_v45 val_main_v44 val_main_v41 val_main_v40 val_main_v39 val_main_v12 val_main_v11 val_main_v10
  generalize val_main_v1 (F := Ideal) a w res = W
  generalize val_main_v8 (F := Ideal) a w res = X
  generalize val_main_v9 (F := Ideal) a w res = Y
  generalize val_main_v37 (F := Ideal) a w res g tgt = Z
  pointwise [val_main_cst_2, val_main_cst_13, val_main_cst_14, val_main_cst_15]
  simp only [Fin.sum_univ_one]

/-- The gradient with respect to the norm's argument, -/
theorem back_apply (j : Fin 1024) : val_main_v52 (F := Ideal) a w res g tgt (ix3 b s j)
    = RmsNorm.dxRef (inp a w res b s) (scaled a w res g tgt b s) (fun _ => 0) j := by
  simp only [RmsNorm.dxRef, zero_add, ← inp_apply, ← inv_apply a w res b s 0, ← coef_apply, ← scaled_apply]
  unfold val_main_v52 val_main_v51 val_main_v50 val_main_v49 val_main_v48 val_main_v43 val_main_v42
  generalize val_main_v47 (F := Ideal) a w res g tgt = X
  generalize val_main_v9 (F := Ideal) a w res = Y
  generalize val_main_v37 (F := Ideal) a w res g tgt = Z
  generalize val_main_v1 (F := Ideal) a w res = W
  pointwise []

/-- the two leading axes as one, -/
theorem back_flat (j : Fin 1024) : val_main_v53 (F := Ideal) a w res g tgt (ix2 ⟨b.val * 2048 + s.val, by omega⟩ j)
    = RmsNorm.dxRef (inp a w res b s) (scaled a w res g tgt b s) (fun _ => 0) j := by
  rw [← back_apply]
  unfold val_main_v53
  generalize val_main_v52 (F := Ideal) a w res g tgt = X
  pointwise []

/-- and its copy. -/
theorem copy_eq (i : S4096x1024.Idx) : val_main_v54 (F := Ideal) a w res g tgt i = val_main_v53 (F := Ideal) a w res g tgt i := by
  unfold val_main_v54
  generalize val_main_v53 (F := Ideal) a w res g tgt = X
  pointwise []

/-- The gradient of the gain. -/
theorem gain_apply (j : Fin 1024) : val_main_v55 (F := Ideal) a w res g tgt (ix2 0 j)
    = ∑ b : Fin 2, ∑ s : Fin 2048, RmsNorm.hat (inp a w res b s) j * dout (inp a w res b s) (gain g) (goal tgt b s) j := by
  simp only [← hat_apply, ← dout_apply]
  unfold val_main_v55 val_main_v38 val_main_v35 val_main_v34 val_main_v33
  generalize val_main_v14 (F := Ideal) a w res = X
  generalize val_main_v32 (F := Ideal) a w res g tgt = Z
  pointwise [Ideal.hostReduceAdd_lead2, val_main_cst_11, val_main_cst_12]
  simp only [Fin.sum_univ_one]

/-- The loss. -/
theorem loss_apply (u v : Fin 1) : val_main_v56 (F := Ideal) a w res g tgt (ix2 u v)
    = half * ∑ b : Fin 2, ∑ s : Fin 2048, sq (inp a w res b s) (gain g) (goal tgt b s) := by
  have e (b : Fin 2) (s : Fin 2048) : val_main_v24 (F := Ideal) a w res g tgt (ix2 b s) = sq (inp a w res b s) (gain g) (goal tgt b s) := by
    simp only [sq, ← err_apply]
    unfold val_main_v24 val_main_v23 val_main_v22 val_main_v19
    generalize val_main_v18 (F := Ideal) a w res g tgt = X
    pointwise [val_main_cst_4, val_main_cst_5]
  simp only [← e]
  unfold val_main_v56 val_main_v26 val_main_v25
  generalize val_main_v24 (F := Ideal) a w res g tgt = X
  pointwise [val_main_cst_6, val_main_cst_7]

end Cert.LossRef

end
-- ==== Proof.Loss.lean ====
/- The last norm and the loss, backwards: the loss and the gradients the kernel leaves are, on finite arguments, those of the
   plain lines. -/
module

public import proofs.«01_k».proof.Defs
public import proofs.«01_k».proof.Proof.LossRef
public import proofs.«01_k».proof.Proof.Rows
public import proofs.«01_k».proof.Proof.Gen.KernelLossIdeal.Value
public import proofs.«01_k».proof.Proof.Gen.Pre_finite_loss
public import Idealize.ShloMosaic.Lib.Pipeline.ReadBack

@[expose] public section

set_option maxRecDepth 16384

noncomputable section

open Idealize.ShloMosaic Idealize.ShloMosaic.TcCoe Idealize.SL.Sem

namespace Cert.Loss

open Cert.KernelLossIdeal Cert.KernelLossIdeal.Gen Cert.Rows

/-- The inverse of the row length as the kernel holds it. -/
abbrev scale : EReal := Ideal.ofBits .f32 0x3A800000#32

theorem scale_eq : scale = ((1 / 1024 : ℝ) : EReal) := by simp [scale, Ideal.ofBits, Ideal.ieee, -EReal.coe_mul]; norm_num
theorem half_eq : LossRef.half = ((1 / 2 : ℝ) : EReal) := by simp [LossRef.half, Ideal.ofBits, Ideal.ieee, -EReal.coe_mul]; norm_num
theorem two_eq : LossRef.two = ((2 : ℝ) : EReal) := by simp [LossRef.two, Ideal.ofBits, Ideal.ieee, -EReal.coe_mul]; norm_num

/-- On reals the kernel's gradient to the scaled row is the plain one. -/
theorem scale_err {e : EReal} (h : ∃ y : ℝ, e = y) : e * scale = Ideal.div LossRef.half RmsNorm.len * (LossRef.two * e) := by
  obtain ⟨y, rfl⟩ := h
  simp only [scale_eq, half_eq, two_eq, RmsNorm.len_eq, Real.div_coe (show (1024 : ℝ) ≠ 0 by norm_num), ← EReal.coe_mul]
  congr 1
  ring

/-- Half of a sum of reals is the sum of the halves. -/
theorem half_sum {n : Nat} (f : Fin n → EReal) (h : ∀ i, ∃ y : ℝ, f i = y) : LossRef.half * ∑ i, f i = ∑ i, LossRef.half * f i := by
  choose y hy using h
  simp only [hy, half_eq, ← EReal.coe_mul, Real.sum_coe, Finset.mul_sum]

section
variable {n : Nat} (x g tgt : Fin n → EReal) (hx : ∀ k, ∃ y : ℝ, x k = y) (hg : ∀ k, ∃ y : ℝ, g k = y) (ht : ∀ k, ∃ y : ℝ, tgt k = y)
include hx hg ht

/-- A row's errors are real, -/
theorem err_real (j : Fin n) : ∃ y : ℝ, LossRef.err x g tgt j = y := by
  obtain ⟨u, hu⟩ := hg j
  obtain ⟨v, hv⟩ := ht j
  choose X hX using hx
  obtain rfl : x = fun k => (X k : EReal) := funext hX
  obtain ⟨_, r, -, -, -, h2⟩ := RmsNorm.inv_coe X
  exact ⟨X j * r * u - v, by simp only [LossRef.err, RmsNorm.hat, h2, hu, hv, ← EReal.coe_mul, ← EReal.coe_sub]⟩

/-- so is their mean square. -/
theorem sq_real : ∃ y : ℝ, LossRef.sq x g tgt = y := by
  choose e he using err_real x g tgt hx hg ht
  exact ⟨(∑ k, e k * e k) / 1024, by
    simp only [LossRef.sq, he, RmsNorm.len_eq, ← EReal.coe_mul, Real.sum_coe, Real.div_coe (show (1024 : ℝ) ≠ 0 by norm_num)]⟩

end

section
variable (a : FVec Ideal S1024x2816 .bf16) (w : FVec Ideal S2816x1024 .bf16) (res : FVec Ideal S1024x1024 .f32) (g : FVec Ideal S1x1024 .f32)
  (tgt : FVec Ideal S1024x1024 .f32) (z : FVec Ideal S1x1024 .f32) (l : FVec Ideal S1x1 .f32) (r : Fin 1024) (j : Fin 1024)

/-- A row of the norm's argument, -/
def sum (r : Fin 1024) (j : Fin 1024) : EReal := rows res r j + ∑ k : Fin 2816, rows a r k * rows w k j

/-- and the gradient to the scaled row. -/
def dout (r : Fin 1024) (j : Fin 1024) : EReal := LossRef.err (sum a w res r) (rows g 0) (rows tgt r) j * scale

theorem pay_sum : k0_pay8 (F := Ideal) a w res (ix2 r j) = sum a w res r j := by
  unfold sum
  rw [add_comm]
  pointwise [k0_pay8]

theorem pay_inv (i : Fin 1) : k0_pay10 (F := Ideal) a w res (ix2 r i) = RmsNorm.inv (sum a w res r) := by
  simp only [RmsNorm.inv, RmsNorm.ms, ← pay_sum]
  unfold k0_pay10
  generalize k0_pay8 (F := Ideal) a w res = X
  pointwise []

theorem pay_hat : k0_pay11 (F := Ideal) a w res (ix2 r j) = RmsNorm.hat (sum a w res r) j := by
  simp only [RmsNorm.hat, ← pay_sum, ← pay_inv a w res r 0]
  unfold k0_pay11
  generalize k0_pay8 (F := Ideal) a w res = X
  generalize k0_pay10 (F := Ideal) a w res = Y
  pointwise []

theorem pay_err : k0_pay12 (F := Ideal) a w res g tgt (ix2 r j) = LossRef.err (sum a w res r) (rows g 0) (rows tgt r) j := by
  simp only [LossRef.err, ← pay_hat]
  unfold k0_pay12
  generalize k0_pay11 (F := Ideal) a w res = X
  pointwise [k0_pay9]

/-- The stored block of the gradient. -/
theorem pay_back : k0_pay3 (F := Ideal) (k0_pay9 g) (k0_pay10 a w res) (k0_pay11 a w res) (k0_pay12 a w res g tgt) (ix2 r j)
    = RmsNorm.dx (sum a w res r) (fun k => dout a w res g tgt r k * rows g 0 k) j := by
  simp only [RmsNorm.dx, dout, ← pay_err, ← pay_hat, ← pay_inv a w res r 0]
  unfold k0_pay3 k0_pay2
  generalize k0_pay10 (F := Ideal) a w res = X
  generalize k0_pay11 (F := Ideal) a w res = Y
  generalize k0_pay12 (F := Ideal) a w res g tgt = Z
  pointwise [k0_pay9]

/-- The gain's gradient after the point, -/
theorem pay_gain : k0_pay5 (F := Ideal) (k0_pay11 a w res) (k0_pay12 a w res g tgt) z (ix2 0 j)
    = z (ix2 0 j) + ∑ r : Fin 1024, dout a w res g tgt r j * RmsNorm.hat (sum a w res r) j := by
  simp only [dout, ← pay_err, ← pay_hat]
  unfold k0_pay5 k0_pay2
  generalize k0_pay11 (F := Ideal) a w res = Y
  generalize k0_pay12 (F := Ideal) a w res g tgt = Z
  pointwise []

/-- and the loss. -/
theorem pay_loss (j : Fin 1) : k0_pay1 (F := Ideal) (k0_pay13 l) (k0_pay14 a w res g tgt) (ix2 0 j)
    = l (ix2 0 j) + LossRef.half * ∑ r : Fin 1024, LossRef.sq (sum a w res r) (rows g 0) (rows tgt r) := by
  simp only [LossRef.sq, ← pay_err]
  unfold k0_pay1 k0_pay13 k0_pay14
  generalize k0_pay12 (F := Ideal) a w res g tgt = Z
  pointwise []

theorem pay_zero1024 : k0_pay6 (F := Ideal) (ix2 0 j) = 0 := by
  pointwise [k0_pay6]

theorem pay_zero1 (j : Fin 1) : k0_pay7 (F := Ideal) (ix2 0 j) = 0 := by
  pointwise [k0_pay7]

end

variable (m : (ℓ : Loc nD τ sig) → Buf (Elt Ideal) ℓ) (c : Dev nD) (t : Fin cfg0.N)

/-- The blocks a point loads. -/
abbrev ba : FVec Ideal S1024x2816 .bf16 := show FVec Ideal S1024x2816 .bf16 from iblk m c 0 t
abbrev bw : FVec Ideal S2816x1024 .bf16 := show FVec Ideal S2816x1024 .bf16 from iblk m c 1 t
abbrev bres : FVec Ideal S1024x1024 .f32 := show FVec Ideal S1024x1024 .f32 from iblk m c 2 t
abbrev bg : FVec Ideal S1x1024 .f32 := show FVec Ideal S1x1024 .f32 from iblk m c 3 t
abbrev btgt : FVec Ideal S1024x1024 .f32 := show FVec Ideal S1024x1024 .f32 from iblk m c 4 t

/-- What a point adds to the gain's gradient, and to the loss. -/
def dgain (j : Fin 1024) : EReal := ∑ r : Fin 1024, dout (ba m c t) (bw m c t) (bres m c t) (bg m c t) (btgt m c t) r j * RmsNorm.hat (sum (ba m c t) (bw m c t) (bres m c t) r) j
def dloss (_j : Fin 1) : EReal := LossRef.half * ∑ r : Fin 1024, LossRef.sq (sum (ba m c t) (bw m c t) (bres m c t) r) (rows (bg m c t) 0) (rows (btgt m c t) r)

/-- The point's block of the gradient, -/
theorem out_back (r : Fin 1024) (j : Fin 1024) : (outsAt0 m c t.val t.isLt).1 (ix2 r j) = RmsNorm.dx (sum (ba m c t) (bw m c t) (bres m c t) r) (fun k => dout (ba m c t) (bw m c t) (bres m c t) (bg m c t) (btgt m c t) r k * rows (bg m c t) 0 k) j := by
  by_cases e : t.val % 4 = 0
  · rw [outsAt0_A m c t e]
    frame_out
    exact pay_back (ba m c t) (bw m c t) (bres m c t) (bg m c t) (btgt m c t) r j
  · rw [outsAt0_B m c t e]
    frame_out
    exact pay_back (ba m c t) (bw m c t) (bres m c t) (bg m c t) (btgt m c t) r j

/-- of its copy, -/
theorem out_copy (r : Fin 1024) (j : Fin 1024) : (outsAt0 m c t.val t.isLt).2.1 (ix2 r j) = RmsNorm.dx (sum (ba m c t) (bw m c t) (bres m c t) r) (fun k => dout (ba m c t) (bw m c t) (bres m c t) (bg m c t) (btgt m c t) r k * rows (bg m c t) 0 k) j := by
  by_cases e : t.val % 4 = 0
  · rw [outsAt0_A m c t e]
    frame_out
    pointwise [k0_pay4]
    exact pay_back (ba m c t) (bw m c t) (bres m c t) (bg m c t) (btgt m c t) r j
  · rw [outsAt0_B m c t e]
    frame_out
    pointwise [k0_pay4]
    exact pay_back (ba m c t) (bw m c t) (bres m c t) (bg m c t) (btgt m c t) r j

/-- the gain's gradient: what the first point adds to zero, -/
theorem dgainA (e : t.val % 4 = 0) (j : Fin 1024) : (outsAt0 m c t.val t.isLt).2.2.1 (ix2 0 j) = 0 + dgain m c t j := by
  rw [outsAt0_A m c t e]
  frame_open
  simp (disch := decide) only [↓View.readCov_skip, ↓View.readCov_cons_toLoadRect, ↓View.readCov_fill]
  frame_out
  rw [← pay_zero1024 j]
  exact pay_gain (ba m c t) (bw m c t) (bres m c t) (bg m c t) (btgt m c t) k0_pay6 j

/-- and what a later one adds to the gradient before; -/
theorem dgainB (e : ¬ t.val % 4 = 0) (j : Fin 1024) :
    (outsAt0 m c t.val t.isLt).2.2.1 (ix2 0 j) = (outsAt0 m c (t.val - 1) (Nat.lt_of_le_of_lt (Nat.sub_le _ _) t.isLt)).2.2.1 (ix2 0 j) + dgain m c t j := by
  rw [outsAt0_B m c t e]
  frame_out
  exact pay_gain (ba m c t) (bw m c t) (bres m c t) (bg m c t) (btgt m c t) (outsAt0 m c (t.val - 1) (Nat.lt_of_le_of_lt (Nat.sub_le _ _) t.isLt)).2.2.1 j

/-- and the loss in the same way. -/
theorem dlossA (e : t.val % 4 = 0) (j : Fin 1) : (outsAt0 m c t.val t.isLt).2.2.2 (ix2 0 j) = 0 + dloss m c t j := by
  rw [outsAt0_A m c t e]
  frame_open
  simp (disch := decide) only [↓View.readCov_skip, ↓View.readCov_cons_toLoadRect, ↓View.readCov_fill]
  frame_out
  rw [← pay_zero1 j]
  exact pay_loss (ba m c t) (bw m c t) (bres m c t) (bg m c t) (btgt m c t) k0_pay7 j

/-- (A later point.) -/
theorem dlossB (e : ¬ t.val % 4 = 0) (j : Fin 1) :
    (outsAt0 m c t.val t.isLt).2.2.2 (ix2 0 j) = (outsAt0 m c (t.val - 1) (Nat.lt_of_le_of_lt (Nat.sub_le _ _) t.isLt)).2.2.2 (ix2 0 j) + dloss m c t j := by
  rw [outsAt0_B m c t e]
  frame_out
  exact pay_loss (ba m c t) (bw m c t) (bres m c t) (bg m c t) (btgt m c t) (outsAt0 m c (t.val - 1) (Nat.lt_of_le_of_lt (Nat.sub_le _ _) t.isLt)).2.2.2 j

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] ∧ win0_8.index t = ![0, 0] :=
  (by decide +kernel : ∀ t : Fin grid0.N, _)

/-- The kernel's arguments as arrays. -/
abbrev aa : FVec Ideal ⟨3, ![2, 2048, 2816]⟩ .f32 := m ((c : Thread nD τ).loc main_arg0)
abbrev aw : FVec Ideal ⟨2, ![2816, 1024]⟩ .f32 := m ((c : Thread nD τ).loc main_arg1)
abbrev ares : FVec Ideal ⟨3, ![2, 2048, 1024]⟩ .f32 := m ((c : Thread nD τ).loc main_arg2)
abbrev ag : FVec Ideal ⟨1, ![1024]⟩ .f32 := m ((c : Thread nD τ).loc main_arg3)
abbrev atgt : FVec Ideal ⟨3, ![2, 2048, 1024]⟩ .f32 := m ((c : Thread nD τ).loc main_arg4)

/-- Row `r` of point `t`'s blocks is the row `1024 t + r` of the arrays. -/
theorem at_a (b : Fin 2) (s : Fin 2048) (r : Fin 1024) (k : Fin 2816) (hr : t.val * 1024 + r.val = b.val * 2048 + s.val) :
    (show FVec Ideal S1024x2816 .bf16 from iblk m c 0 t) (ix2 r k) = m ((c : Thread nD τ).loc main_arg0) (ix3 b s k) := by
  blk_point [iblk, V, idx t]

theorem at_res (b : Fin 2) (s : Fin 2048) (r : Fin 1024) (k : Fin 1024) (hr : t.val * 1024 + r.val = b.val * 2048 + s.val) :
    (show FVec Ideal S1024x1024 .f32 from iblk m c 2 t) (ix2 r k) = m ((c : Thread nD τ).loc main_arg2) (ix3 b s k) := by
  blk_point [iblk, V, idx t]

theorem at_tgt (b : Fin 2) (s : Fin 2048) (r : Fin 1024) (k : Fin 1024) (hr : t.val * 1024 + r.val = b.val * 2048 + s.val) :
    (show FVec Ideal S1024x1024 .f32 from iblk m c 4 t) (ix2 r k) = m ((c : Thread nD τ).loc main_arg4) (ix3 b s k) := by
  blk_point [iblk, V, idx t]

theorem at_g (k : Fin 1024) : (show FVec Ideal S1x1024 .f32 from iblk m c 3 t) (ix2 0 k) = m ((c : Thread nD τ).loc main_arg3) (ix1 k) := by
  blk_point [iblk, V, idx t]

theorem at_w (i : Fin 2816) (k : Fin 1024) : (show FVec Ideal S2816x1024 .bf16 from iblk m c 1 t) (ix2 i k) = m ((c : Thread nD τ).loc main_arg1) (ix2 i k) := by
  blk_point [iblk, V, idx t]

theorem read_sum (b : Fin 2) (s : Fin 2048) (r : Fin 1024) (hr : t.val * 1024 + r.val = b.val * 2048 + s.val) : sum (ba m c t) (bw m c t) (bres m c t) r = LossRef.inp (aa m c) (aw m c) (ares m c) b s :=
  funext fun j => congrArg₂ (· + ·) (at_res m c t b s r j hr)
    (Finset.sum_congr rfl fun k _ => congrArg₂ (· * ·) (at_a m c t b s r k hr) (at_w m c t k j))

theorem read_tgt (b : Fin 2) (s : Fin 2048) (r : Fin 1024) (hr : t.val * 1024 + r.val = b.val * 2048 + s.val) : rows (btgt m c t) r = LossRef.goal (atgt m c) b s :=
  funext fun k => at_tgt m c t b s r k hr

theorem read_g : rows (bg m c t) 0 = LossRef.gain (ag m c) :=
  funext fun k => at_g m c t k

section
variable (ha : ∀ i, ∃ y : ℝ, aa m c i = y) (hw : ∀ i, ∃ y : ℝ, aw m c i = y) (hres : ∀ i, ∃ y : ℝ, ares m c i = y)
  (hg : ∀ i, ∃ y : ℝ, ag m c i = y) (htgt : ∀ i, ∃ y : ℝ, atgt m c i = y)

include ha hw hres in
theorem inp_real (b : Fin 2) (s : Fin 2048) (k : Fin 1024) : ∃ y : ℝ, LossRef.inp (aa m c) (aw m c) (ares m c) b s k = y := by
  obtain ⟨p, hp⟩ := RmsNorm.proj_real (fun k => aa m c (ix3 b s k)) (fun j k => aw m c (ix2 k j)) (fun k => ha _) (fun j k => hw _) k
  exact Real.add_real (hres _) ⟨p, hp⟩

include ha hw hres hg htgt

theorem errs (b : Fin 2) (s : Fin 2048) (k : Fin 1024) :
    ∃ y : ℝ, LossRef.err (LossRef.inp (aa m c) (aw m c) (ares m c) b s) (LossRef.gain (ag m c)) (LossRef.goal (atgt m c) b s) k = y :=
  err_real _ _ _ (inp_real m c ha hw hres b s) (fun _ => hg _) (fun _ => htgt _) k

theorem sqs (b : Fin 2) (s : Fin 2048) :
    ∃ y : ℝ, LossRef.sq (LossRef.inp (aa m c) (aw m c) (ares m c) b s) (LossRef.gain (ag m c)) (LossRef.goal (atgt m c) b s) = y :=
  sq_real _ _ _ (inp_real m c ha hw hres b s) (fun _ => hg _) (fun _ => htgt _)

theorem read_dout (b : Fin 2) (s : Fin 2048) (r : Fin 1024) (hr : t.val * 1024 + r.val = b.val * 2048 + s.val) (j : Fin 1024) : dout (ba m c t) (bw m c t) (bres m c t) (bg m c t) (btgt m c t) r j
    = LossRef.dout (LossRef.inp (aa m c) (aw m c) (ares m c) b s) (LossRef.gain (ag m c)) (LossRef.goal (atgt m c) b s) j := by
  rw [dout, read_sum m c t b s r hr, read_tgt m c t b s r hr, read_g]
  exact scale_err (errs m c ha hw hres hg htgt b s j)

/-- One row of a point's block is the plain gradient. -/
theorem row_back (b : Fin 2) (s : Fin 2048) (r : Fin 1024) (hr : t.val * 1024 + r.val = b.val * 2048 + s.val) (j : Fin 1024) :
    RmsNorm.dx (sum (ba m c t) (bw m c t) (bres m c t) r) (fun k => dout (ba m c t) (bw m c t) (bres m c t) (bg m c t) (btgt m c t) r k * rows (bg m c t) 0 k) j = Cert.ReferenceLossIdeal.Read.val_main_v53 (F := Ideal) (aa m c) (aw m c) (ares m c) (ag m c) (atgt m c) (ix2 ⟨b.val * 2048 + s.val, by omega⟩ j) := by
  have e : (fun k => dout (ba m c t) (bw m c t) (bres m c t) (bg m c t) (btgt m c t) r k * rows (bg m c t) 0 k) = LossRef.scaled (aa m c) (aw m c) (ares m c) (ag m c) (atgt m c) b s :=
    funext fun k => congrArg₂ (· * ·) (read_dout m c t ha hw hres hg htgt b s r hr k) (at_g m c t k)
  rw [read_sum m c t b s r hr, e, LossRef.back_flat, ← RmsNorm.dx_eq _ _ (fun _ => 0) (inp_real m c ha hw hres b s) ?_ j, add_zero]
  intro k
  obtain ⟨e, he⟩ := errs m c ha hw hres hg htgt b s k
  refine Real.mul_real ⟨1 / 2 / 1024 * (2 * e), ?_⟩ (hg _)
  rw [LossRef.dout, he, half_eq, two_eq, RmsNorm.len_eq, Real.div_coe (show (1024 : ℝ) ≠ 0 by norm_num), ← EReal.coe_mul, ← EReal.coe_mul]

/-- A block that holds these rows, at an index, is the plain gradient at the array's index. -/
theorem point (O : FVec Ideal S1024x1024 .f32) (hO : ∀ r j, O (ix2 r j) = RmsNorm.dx (sum (ba m c t) (bw m c t) (bres m c t) r) (fun k => dout (ba m c t) (bw m c t) (bres m c t) (bg m c t) (btgt m c t) r k * rows (bg m c t) 0 k) j)
    (y : S1024x1024.Idx) (i : (⟨2, ![4096, 1024]⟩ : Shape).Idx) (h0 : (i 0).val = t.val * 1024 + (y 0).val) (h1 : (i 1).val = (y 1).val) :
    O y = Cert.ReferenceLossIdeal.Read.val_main_v53 (F := Ideal) (aa m c) (aw m c) (ares m c) (ag m c) (atgt m c) i := by
  have ht : t.val < 4 := t.isLt
  obtain ⟨r, l, rfl⟩ : ∃ (r : Fin 1024) (l : Fin 1024), y = ix2 r l := ⟨_, _, eq_ix2 y⟩
  change (i 0).val = t.val * 1024 + r.val at h0
  change (i 1).val = l.val at h1
  obtain ⟨b, s, hs⟩ : ∃ (b : Fin 2) (s : Fin 2048), t.val * 1024 + r.val = b.val * 2048 + s.val :=
    ⟨⟨t.val / 2, by omega⟩, ⟨t.val % 2 * 1024 + r.val, by omega⟩, by show _ = _ / 2 * 2048 + (_ % 2 * 1024 + _); omega⟩
  have e : i = ix2 ⟨b.val * 2048 + s.val, by omega⟩ l := (eq_ix2 i).trans (congrArg₂ ix2 (Fin.ext (h0.trans hs)) (Fin.ext h1))
  rw [hO, e, row_back m c t ha hw hres hg htgt b s r hs]

omit t

/-- The last point's gradient of the gain is the plain one, -/
theorem point_dgain (y : S1x1024.Idx) :
    (outsAt0 m c 3 (by decide)).2.2.1 y = Cert.ReferenceLossIdeal.Read.val_main_v55 (F := Ideal) (aa m c) (aw m c) (ares m c) (ag m c) (atgt m c) y := by
  obtain ⟨j, rfl⟩ := exists_lane y
  rw [Pipeline.eq_sum_fin_of_reset_step_apply_last (fun n h => (outsAt0 m c n h).2.2.1) 4 (fun _ => 0) (fun t y => dgain m c t (y 1))
    (fun t h y => by obtain ⟨j, rfl⟩ := exists_lane y; exact dgainA m c t h j)
    (fun t h y => by obtain ⟨j, rfl⟩ := exists_lane y; exact dgainB m c t h j)
    (le_of_eq N_0) ⟨3, by decide⟩ rfl (ix2 0 j), zero_add]
  rw [LossRef.gain_apply]
  refine Fin.sum_points_lanes_congr 2 (fun t r hb hl => ?_) (by exact N_0)
  have hr : t.val * 1024 + r.val = t.val / 2 * 2048 + (t.val % 2 * 1024 + r.val) := by omega
  show dout (ba m c t) (bw m c t) (bres m c t) (bg m c t) (btgt m c t) r j * RmsNorm.hat (sum (ba m c t) (bw m c t) (bres m c t) r) j = _
  rw [read_dout m c t ha hw hres hg htgt ⟨t.val / 2, hb⟩ ⟨t.val % 2 * 1024 + r.val, hl⟩ r hr, read_sum m c t ⟨t.val / 2, hb⟩ ⟨t.val % 2 * 1024 + r.val, hl⟩ r hr]
  exact mul_comm _ _

/-- and so is the loss. -/
theorem point_dloss (y : S1x1.Idx) :
    (outsAt0 m c 3 (by decide)).2.2.2 y = Cert.ReferenceLossIdeal.Read.val_main_v56 (F := Ideal) (aa m c) (aw m c) (ares m c) (ag m c) (atgt m c) y := by
  obtain ⟨j, rfl⟩ := exists_lane y
  rw [Pipeline.eq_sum_fin_of_reset_step_apply_last (fun n h => (outsAt0 m c n h).2.2.2) 4 (fun _ => 0) (fun t y => dloss m c t (y 1))
    (fun t h y => by obtain ⟨j, rfl⟩ := exists_lane y; exact dlossA m c t h j)
    (fun t h y => by obtain ⟨j, rfl⟩ := exists_lane y; exact dlossB m c t h j)
    (le_of_eq N_0) ⟨3, by decide⟩ rfl (ix2 0 j), zero_add]
  have e (b : Fin 2) : ∃ y : ℝ, ∑ s : Fin 2048, LossRef.sq (LossRef.inp (aa m c) (aw m c) (ares m c) b s) (LossRef.gain (ag m c)) (LossRef.goal (atgt m c) b s) = y := by
    choose y hy using sqs m c ha hw hres hg htgt b
    exact ⟨∑ s, y s, (Finset.sum_congr rfl fun s _ => hy s).trans (Real.sum_coe _ _)⟩
  rw [LossRef.loss_apply, half_sum _ e, Finset.sum_congr rfl fun b _ => half_sum _ (sqs m c ha hw hres hg htgt b)]
  have d (t : Fin cfg0.N) : dloss m c t j = ∑ r : Fin 1024, LossRef.half * LossRef.sq (sum (ba m c t) (bw m c t) (bres m c t) r) (rows (bg m c t) 0) (rows (btgt m c t) r) := by
    have ht : t.val < 4 := t.isLt
    refine half_sum _ fun r => ?_
    have hr : t.val * 1024 + r.val = t.val / 2 * 2048 + (t.val % 2 * 1024 + r.val) := by omega
    rw [read_sum m c t ⟨t.val / 2, by omega⟩ ⟨t.val % 2 * 1024 + r.val, by omega⟩ r hr, read_tgt m c t ⟨t.val / 2, by omega⟩ ⟨t.val % 2 * 1024 + r.val, by omega⟩ r hr, read_g]
    exact sqs m c ha hw hres hg htgt _ _
  refine Eq.trans (Finset.sum_congr rfl fun t _ => d t) (Fin.sum_points_lanes_congr 2 (fun t r hb hl => ?_) (by exact N_0))
  have hr : t.val * 1024 + r.val = t.val / 2 * 2048 + (t.val % 2 * 1024 + r.val) := by omega
  rw [read_sum m c t ⟨t.val / 2, hb⟩ ⟨t.val % 2 * 1024 + r.val, hl⟩ r hr, read_tgt m c t ⟨t.val / 2, hb⟩ ⟨t.val % 2 * 1024 + r.val, hl⟩ r hr, read_g]

theorem final_back : (dats m 0 c).arrAt 5 cfg0.N = Cert.ReferenceLossIdeal.Read.val_main_v53 (F := Ideal) (aa m c) (aw m c) (ares m c) (ag m c) (atgt m c) := by
  refine (dats m 0 c).arrAt_eq_of_covers 5 _ (by decide +kernel) fun t hf y => ?_
  blk_simp
  rw [after0_5]
  refine point m c t ha hw hres hg htgt _ (out_back m c t) y _ ?_ ?_
  · blk_simp [idx t]
  · blk_simp [idx t]

theorem final_copy : (dats m 0 c).arrAt 6 cfg0.N = Cert.ReferenceLossIdeal.Read.val_main_v54 (F := Ideal) (aa m c) (aw m c) (ares m c) (ag m c) (atgt m c) := by
  rw [show Cert.ReferenceLossIdeal.Read.val_main_v54 (F := Ideal) (aa m c) (aw m c) (ares m c) (ag m c) (atgt m c) = Cert.ReferenceLossIdeal.Read.val_main_v53 (F := Ideal) (aa m c) (aw m c) (ares m c) (ag m c) (atgt m c) from
    funext fun i => LossRef.copy_eq _ _ _ _ _ i]
  refine (dats m 0 c).arrAt_eq_of_covers 6 _ (by decide +kernel) fun t hf y => ?_
  blk_simp
  rw [after0_6]
  refine point m c t ha hw hres hg htgt _ (out_copy m c t) y _ ?_ ?_
  · blk_simp [idx t]
  · blk_simp [idx t]

theorem final_gain : (dats m 0 c).arrAt 7 cfg0.N = Cert.ReferenceLossIdeal.Read.val_main_v55 (F := Ideal) (aa m c) (aw m c) (ares m c) (ag m c) (atgt m c) := by
  refine (dats m 0 c).arrAt_eq_of_after_last 7 t0_3 (by decide +kernel) _ fun j => ?_
  blk_simp
  rw [after0_7]
  exact point_dgain m c ha hw hres hg htgt j

theorem final_loss : (dats m 0 c).arrAt 8 cfg0.N = Cert.ReferenceLossIdeal.Read.val_main_v56 (F := Ideal) (aa m c) (aw m c) (ares m c) (ag m c) (atgt m c) := by
  refine (dats m 0 c).arrAt_eq_of_after_last 8 t0_3 (by decide +kernel) _ fun j => ?_
  blk_simp
  rw [after0_8]
  exact point_dloss m c ha hw hres hg htgt j

end

/-- At finite arguments the kernel and the plain lines leave the same loss and the same gradients. -/
theorem algebraic : Cert.algebraic_KernelLossIdeal_ReferenceLossIdeal_pre_finite_loss := fun m g m' g' hpre hag => by
  have ha (c : Dev nD) (i) : ∃ y : ℝ, aa m c i = y := Real.exists_real (congrFun (hpre c).1 i)
  have hw (c : Dev nD) (i) : ∃ y : ℝ, aw m c i = y := Real.exists_real (congrFun (hpre c).2.1 i)
  have hres (c : Dev nD) (i) : ∃ y : ℝ, ares m c i = y := Real.exists_real (congrFun (hpre c).2.2.1 i)
  have hg (c : Dev nD) (i) : ∃ y : ℝ, ag m c i = y := Real.exists_real (congrFun (hpre c).2.2.2.1 i)
  have htgt (c : Dev nD) (i) : ∃ y : ℝ, atgt m c i = y := Real.exists_real (congrFun (hpre c).2.2.2.2 i)
  exact ⟨fun c => Cert.ReferenceLossIdeal.Read.val_main_v53 (F := Ideal) (aa m c) (aw m c) (ares m c) (ag m c) (atgt m c),
    fun c => Cert.ReferenceLossIdeal.Read.val_main_v54 (F := Ideal) (aa m c) (aw m c) (ares m c) (ag m c) (atgt m c),
    fun c => Cert.ReferenceLossIdeal.Read.val_main_v55 (F := Ideal) (aa m c) (aw m c) (ares m c) (ag m c) (atgt m c),
    fun c => Cert.ReferenceLossIdeal.Read.val_main_v56 (F := Ideal) (aa m c) (aw m c) (ares m c) (ag m c) (atgt m c),
    (θ_run _ _ _).mono (fun _ h c => ⟨(h c).1.trans (final_back m c (ha c) (hw c) (hres c) (hg c) (htgt c)),
      (h c).2.1.trans (final_copy m c (ha c) (hw c) (hres c) (hg c) (htgt c)),
      (h c).2.2.1.trans (final_gain m c (ha c) (hw c) (hres c) (hg c) (htgt c)),
      (h c).2.2.2.1.trans (final_loss m c (ha c) (hw c) (hres c) (hg c) (htgt c)), (h c).2.2.2.2⟩)
      (Cert.KernelLossIdeal.Value.run_blocks m g),
    (θ_run _ _ _).mono (fun _ h c => ⟨(h c).1.trans ((Cert.ReferenceLossIdeal.Read.val_main_v53_eq m' c).trans
        (Real.congr5 (Cert.ReferenceLossIdeal.Read.val_main_v53 (F := Ideal)) (hag c))),
      (h c).2.1.trans ((Cert.ReferenceLossIdeal.Read.val_main_v54_eq m' c).trans
        (Real.congr5 (Cert.ReferenceLossIdeal.Read.val_main_v54 (F := Ideal)) (hag c))),
      (h c).2.2.1.trans ((Cert.ReferenceLossIdeal.Read.val_main_v55_eq _ _ _ _ _).trans
        (Real.congr5 (Cert.ReferenceLossIdeal.Read.val_main_v55 (F := Ideal)) (hag c))),
      (h c).2.2.2.1.trans ((Cert.ReferenceLossIdeal.Read.val_main_v56_eq _ _ _ _ _).trans
        (Real.congr5 (Cert.ReferenceLossIdeal.Read.val_main_v56 (F := Ideal)) (hag c))),
      (h c).2.2.2.2⟩) (Cert.ReferenceLossIdeal.Value.run m' g')⟩

end Cert.Loss

end
-- ==== Proof.Softmax.lean ====
/- One attention head over the extended reals, row by row: its weights, the gradient of its scores as a kernel computes it from
   the weights and as the derivative of the plain lines computes it from the exponentials, and that the two agree on real
   operands; then the three gradients of the head. -/
module

public import proofs.«01_k».proof.Proof.Real

@[expose] public section

noncomputable section

namespace Cert.Softmax

open Idealize.ShloMosaic

variable {n m d : Nat}

/-- The factor of the scores, one over the square root of the head's width. -/
abbrev scale : EReal := Ideal.ofBits .f32 0x3D800000#32

/-- The value that a row's maximum starts from. -/
abbrev bot : EReal := Ideal.ofBits .f32 0xFF800000#32

/-- The scaled scores of every query row against every key row. -/
def score (q : Fin n → Fin d → EReal) (k : Fin m → Fin d → EReal) (r : Fin n) (j : Fin m) : EReal :=
  (∑ x, q r x * k j x) * scale

/-- The largest of a row's scores. -/
def top (s : Fin m → EReal) : EReal := Finset.univ.fold max bot fun x => s x

/-- A row's weights: the exponentials of its scores less the largest one, over their sum. -/
def weight (s : Fin m → EReal) (j : Fin m) : EReal :=
  Ideal.div (Ideal.exp (s j - top s)) (∑ x, Ideal.exp (s x - top s))

/-- The gradient of a row's unscaled scores, from its weights and their gradient. -/
def dscore (p dp : Fin m → EReal) (j : Fin m) : EReal :=
  p j * (dp j - ∑ x, dp x * p x) * scale

/-- The same gradient as the derivative of the plain lines has it, from the exponentials: the gradient through the
    numerator and, summed over the row, through the denominator. -/
def dscoreRef (e dp : Fin m → EReal) (j : Fin m) : EReal :=
  (Ideal.div (dp j) (∑ x, e x) + ∑ _x : Fin 1, -∑ x, dp x * Ideal.div 1 ((∑ x, e x) * ∑ x, e x) * e x) * e j * scale

/-- The gradient of the unscaled scores of a head, from its queries, keys, values and the output's gradient. -/
def ds (q : Fin n → Fin d → EReal) (k : Fin m → Fin d → EReal) (g : Fin n → Fin d → EReal) (v : Fin m → Fin d → EReal)
    (r : Fin n) : Fin m → EReal :=
  dscore (weight (score q k r)) fun j => ∑ x, g r x * v j x

/-- The gradient of the queries. -/
def dq (q : Fin n → Fin d → EReal) (k : Fin m → Fin d → EReal) (g : Fin n → Fin d → EReal) (v : Fin m → Fin d → EReal)
    (r : Fin n) (j : Fin d) : EReal :=
  ∑ x, ds q k g v r x * k x j

/-- The gradient of the keys. -/
def dk (q : Fin n → Fin d → EReal) (k : Fin m → Fin d → EReal) (g : Fin n → Fin d → EReal) (v : Fin m → Fin d → EReal)
    (u : Fin m) (j : Fin d) : EReal :=
  ∑ r, ds q k g v r u * q r j

/-- The gradient of the values. -/
def dv (q : Fin n → Fin d → EReal) (k : Fin m → Fin d → EReal) (g : Fin n → Fin d → EReal) (u : Fin m) (j : Fin d) : EReal :=
  ∑ r, weight (score q k r) u * g r j

/-- The largest of a row's scores, once more against the least value, is itself. -/
theorem max_bot_top (s : Fin m → EReal) : max bot (top s) = top s := by
  rw [show bot = ⊥ from Real.ofBits_neg_inf]; exact max_eq_right bot_le

/-- The factor of the scores is a real number. -/
theorem scale_real : ∃ r : ℝ, scale = r := ⟨1 / 16, by simp [Ideal.ofBits, Ideal.ieee, -EReal.coe_mul]; norm_num⟩

/-- Scores of real queries and keys are real. -/
theorem score_real (q : Fin n → Fin d → EReal) (k : Fin m → Fin d → EReal) (hq : ∀ r x, ∃ y : ℝ, q r x = y)
    (hk : ∀ r x, ∃ y : ℝ, k r x = y) (r : Fin n) (j : Fin m) : ∃ y : ℝ, score q k r j = y := by
  choose q' hq using hq
  choose k' hk using hk
  obtain ⟨c, hc⟩ := scale_real
  exact ⟨(∑ x, q' r x * k' j x) * c, by simp only [score, hq, hk, hc, ← EReal.coe_mul, Real.sum_coe]⟩

/-- On real scores and a real gradient of the weights the two forms of the scores' gradient agree: the derivative's form is
    `(dpⱼ / Z - Σ dpₓ eₓ / Z²) eⱼ`, the kernel's `(eⱼ / Z) (dpⱼ - Σ dpₓ eₓ / Z)`. -/
theorem dscoreRef_eq (s dp : Fin m → EReal) (hs : ∀ j, ∃ y : ℝ, s j = y) (hd : ∀ j, ∃ y : ℝ, dp j = y) (j : Fin m) :
    dscoreRef (fun j => Ideal.exp (s j - max bot (top s))) dp j = dscore (weight s) dp j := by
  choose s' hs using hs
  choose d' hd using hd
  obtain ⟨t, ht⟩ : ∃ t : ℝ, top s = t := by
    unfold top
    rw [show bot = ⊥ from Real.ofBits_neg_inf]
    simp only [hs]
    exact Real.fold_max_real _ ⟨j, Finset.mem_univ j⟩ s'
  have he : ∀ x, Ideal.exp (s x - top s) = ((_root_.Real.exp (s' x - t) : ℝ) : EReal) := fun x => by
    rw [hs, ht, ← EReal.coe_sub, Ideal.exp_coe]
  have hz : (∑ x, _root_.Real.exp (s' x - t)) ≠ 0 :=
    (Finset.sum_pos (fun x _ => _root_.Real.exp_pos _) ⟨j, Finset.mem_univ j⟩).ne'
  unfold dscoreRef dscore
  refine congrArg (· * scale) ?_
  simp only [weight, max_bot_top, he, hd, Real.sum_coe, ← EReal.coe_mul, Real.div_coe hz]
  rw [show (1 : EReal) = ((1 : ℝ) : EReal) from rfl, Real.div_coe (mul_ne_zero hz hz)]
  simp only [Real.sum_coe, ← EReal.coe_mul, ← EReal.coe_neg, ← EReal.coe_add, ← EReal.coe_sub, Fin.sum_univ_one]
  refine congrArg _ ?_
  generalize (∑ x, _root_.Real.exp (s' x - t)) = z at hz
  have h1 : ∑ x, d' x * (1 / (z * z)) * _root_.Real.exp (s' x - t) = (∑ x, d' x * (_root_.Real.exp (s' x - t) / z)) / z := by
    rw [Finset.sum_div]; exact Finset.sum_congr rfl fun x _ => by field_simp
  rw [h1]
  field_simp
  ring

end Cert.Softmax

end
-- ==== Proof.AttnPay.lean ====
/- The attention gradient's kernel, head by head: what the stores of one grid point hold, as the gradients of one head over
   the loaded columns. The four heads' stores are cut into payloads in different places; each comes to the same gradients. -/
module

public import proofs.«01_k».proof.Proof.Softmax
public import proofs.«01_k».proof.Proof.Gen.KernelAttnIdeal.Value
public import Idealize.ShloMosaic.Lib.Pipeline.ValueKit

@[expose] public section

set_option maxRecDepth 16384

noncomputable section

open Idealize.ShloMosaic Idealize.ShloMosaic.TcCoe Idealize.SL.Sem

namespace Cert.Attn

open Cert.KernelAttnIdeal Cert.KernelAttnIdeal.Gen

/-- A matrix as a function of its row and its column. -/
abbrev rows {a b : Nat} (X : (⟨2, ![a, b]⟩ : Shape).Idx → EReal) (r : Fin a) (x : Fin b) : EReal := X (ix2 r x)

variable (q g : FVec Ideal S1024x256 .bf16) (k v : FVec Ideal S256x256 .bf16) (acc : FVec Ideal S256x256 .f32)

/-- The first head's stores: the queries' gradient, and what its keys' and its values' gradients add to the sums so far. -/
theorem dq0 (r : Fin 1024) (j : Fin 256) :
    k0_pay10 (F := Ideal) q k g v (ix2 r j) = Softmax.dq (rows q) (rows k) (rows g) (rows v) r j := by
  pointwise [k0_pay5, k0_pay6, k0_pay7, k0_pay8, k0_pay9, k0_pay10]
  rfl

theorem dk0 (u j : Fin 256) :
    k0_pay11 (F := Ideal) (k0_pay5 q) (k0_pay9 q k g v) acc (ix2 u j) = acc (ix2 u j) + Softmax.dk (rows q) (rows k) (rows g) (rows v) u j := by
  pointwise [k0_pay5, k0_pay6, k0_pay7, k0_pay8, k0_pay9, k0_pay11]
  rfl

theorem dv0 (u j : Fin 256) :
    k0_pay12 (F := Ideal) (k0_pay7 g) (k0_pay8 q k) acc (ix2 u j) = acc (ix2 u j) + Softmax.dv (rows q) (rows k) (rows g) u j := by
  pointwise [k0_pay5, k0_pay6, k0_pay7, k0_pay8, k0_pay12]
  rfl

/-- The second head's stores: the queries' gradient, and what its keys' and its values' gradients add to the sums so far. -/
theorem dq1 (r : Fin 1024) (j : Fin 256) :
    k0_pay20 (F := Ideal) (k0_pay14 k) (k0_pay16 q k) (k0_pay17 g v) (k0_pay18 q k g v) (ix2 r j) = Softmax.dq (rows q) (rows k) (rows g) (rows v) r j := by
  pointwise [k0_pay13, k0_pay14, k0_pay15, k0_pay16, k0_pay17, k0_pay18, k0_pay19, k0_pay20]
  rfl

theorem dk1 (u j : Fin 256) :
    k0_pay21 (F := Ideal) (k0_pay13 q) (k0_pay16 q k) (k0_pay17 g v) (k0_pay18 q k g v) acc (ix2 u j) = acc (ix2 u j) + Softmax.dk (rows q) (rows k) (rows g) (rows v) u j := by
  pointwise [k0_pay13, k0_pay14, k0_pay15, k0_pay16, k0_pay17, k0_pay18, k0_pay19, k0_pay21]
  rfl

theorem dv1 (u j : Fin 256) :
    k0_pay22 (F := Ideal) (k0_pay15 g) (k0_pay16 q k) acc (ix2 u j) = acc (ix2 u j) + Softmax.dv (rows q) (rows k) (rows g) u j := by
  pointwise [k0_pay13, k0_pay14, k0_pay15, k0_pay16, k0_pay22]
  rfl

/-- The third head's stores: the queries' gradient, and what its keys' and its values' gradients add to the sums so far. -/
theorem dq2 (r : Fin 1024) (j : Fin 256) :
    k0_pay29 (F := Ideal) (k0_pay24 k) (k0_pay25 g) (k0_pay26 q k) v (ix2 r j) = Softmax.dq (rows q) (rows k) (rows g) (rows v) r j := by
  pointwise [k0_pay23, k0_pay24, k0_pay25, k0_pay26, k0_pay27, k0_pay28, k0_pay29]
  rfl

theorem dk2 (u j : Fin 256) :
    k0_pay30 (F := Ideal) (k0_pay23 q) (k0_pay25 g) (k0_pay26 q k) v acc (ix2 u j) = acc (ix2 u j) + Softmax.dk (rows q) (rows k) (rows g) (rows v) u j := by
  pointwise [k0_pay23, k0_pay24, k0_pay25, k0_pay26, k0_pay27, k0_pay28, k0_pay30]
  rfl

theorem dv2 (u j : Fin 256) :
    k0_pay31 (F := Ideal) (k0_pay25 g) (k0_pay26 q k) acc (ix2 u j) = acc (ix2 u j) + Softmax.dv (rows q) (rows k) (rows g) u j := by
  pointwise [k0_pay23, k0_pay24, k0_pay25, k0_pay26, k0_pay27, k0_pay31]
  rfl

/-- The fourth head's stores: the queries' gradient, and what its keys' and its values' gradients add to the sums so far. -/
theorem dq3 (r : Fin 1024) (j : Fin 256) :
    k0_pay37 (F := Ideal) q k g v (ix2 r j) = Softmax.dq (rows q) (rows k) (rows g) (rows v) r j := by
  pointwise [k0_pay32, k0_pay33, k0_pay34, k0_pay35, k0_pay36, k0_pay37]
  rfl

theorem dk3 (u j : Fin 256) :
    k0_pay1 (F := Ideal) (k0_pay38 q k g v acc) (ix2 u j) = acc (ix2 u j) + Softmax.dk (rows q) (rows k) (rows g) (rows v) u j := by
  pointwise [k0_pay32, k0_pay33, k0_pay34, k0_pay35, k0_pay36, k0_pay38, k0_pay1]
  rfl

theorem dv3 (u j : Fin 256) :
    k0_pay2 (F := Ideal) (k0_pay34 g) (k0_pay35 q k) acc (ix2 u j) = acc (ix2 u j) + Softmax.dv (rows q) (rows k) (rows g) u j := by
  pointwise [k0_pay32, k0_pay33, k0_pay34, k0_pay35, k0_pay2]
  rfl

end Cert.Attn

end
-- ==== Proof.AttnBlocks.lean ====
/- The attention gradient's kernel at one grid point: the stores of the four heads into the queries' gradient and into the
   running sums of the keys' and values' gradients, each store's payload being the head's gradient over the loaded blocks. -/
module

public import proofs.«01_k».proof.Proof.AttnPay
public import Idealize.ShloMosaic.Lib.Pipeline.ReadBack

@[expose] public section

set_option maxRecDepth 16384

noncomputable section

open Idealize.ShloMosaic Idealize.ShloMosaic.TcCoe Idealize.SL.Sem

namespace Cert.Softmax

variable {n n' m d : Nat} {q : Fin n → Fin d → EReal} {q' : Fin n' → Fin d → EReal} {k k' : Fin m → Fin d → EReal}
variable {g : Fin n → Fin d → EReal} {g' : Fin n' → Fin d → EReal} {v v' : Fin m → Fin d → EReal}

/-- A row's weights depend on that row's query alone. -/
theorem weight_congr {r : Fin n} {s : Fin n'} (hq : ∀ x, q r x = q' s x) (hk : ∀ u x, k u x = k' u x) :
    weight (score q k r) = weight (score q' k' s) :=
  congrArg weight (funext fun j => congrArg (· * scale) (Finset.sum_congr rfl fun x _ => congrArg₂ (· * ·) (hq x) (hk j x)))

/-- So does the gradient of its scores, which depends on the same row of the output's gradient. -/
theorem ds_congr {r : Fin n} {s : Fin n'} (hq : ∀ x, q r x = q' s x) (hk : ∀ u x, k u x = k' u x) (hg : ∀ x, g r x = g' s x)
    (hv : ∀ u x, v u x = v' u x) : ds q k g v r = ds q' k' g' v' s :=
  congrArg₂ dscore (weight_congr hq hk) (funext fun j => Finset.sum_congr rfl fun x _ => congrArg₂ (· * ·) (hg x) (hv j x))

theorem dq_congr {r : Fin n} {s : Fin n'} (hq : ∀ x, q r x = q' s x) (hk : ∀ u x, k u x = k' u x) (hg : ∀ x, g r x = g' s x)
    (hv : ∀ u x, v u x = v' u x) (j : Fin d) : dq q k g v r j = dq q' k' g' v' s j :=
  Finset.sum_congr rfl fun x _ => congrArg₂ (· * ·) (congrFun (ds_congr hq hk hg hv) x) (hk x j)

theorem dk_congr {q₂ g₂ : Fin n → Fin d → EReal} (hq : ∀ r x, q r x = q₂ r x) (hk : ∀ u x, k u x = k' u x) (hg : ∀ r x, g r x = g₂ r x)
    (hv : ∀ u x, v u x = v' u x) (u : Fin m) (j : Fin d) : dk q k g v u j = dk q₂ k' g₂ v' u j :=
  Finset.sum_congr rfl fun r _ => congrArg₂ (· * ·) (congrFun (ds_congr (hq r) hk (hg r) hv) u) (hq r j)

theorem dv_congr {q₂ g₂ : Fin n → Fin d → EReal} (hq : ∀ r x, q r x = q₂ r x) (hk : ∀ u x, k u x = k' u x) (hg : ∀ r x, g r x = g₂ r x)
    (u : Fin m) (j : Fin d) : dv q k g u j = dv q₂ k' g₂ u j :=
  Finset.sum_congr rfl fun r _ => congrArg₂ (· * ·) (congrFun (weight_congr (hq r) hk) u) (hg r j)

end Cert.Softmax

namespace Cert.Attn

open Cert.KernelAttnIdeal Cert.KernelAttnIdeal.Gen

/-- Head `h`'s 256 columns of a matrix that holds the heads from column `o` on. -/
abbrev cols {a b : Nat} (o : Nat) (ho : o + 1024 ≤ b) (X : (⟨2, ![a, b]⟩ : Shape).Idx → EReal) (h : Fin 4) (r : Fin a) (x : Fin 256) : EReal :=
  X (ix2 r ⟨o + (h.val * 256 + x.val), by omega⟩)

/-- A load of whole rows' columns from `o` on, at an index. -/
theorem ld_cols {a b n w : Nat} {e : EltTy} (X : (⟨2, ![a, b]⟩ : Shape).Idx → Elt Ideal e) (o : Nat)
    (inb : ∀ i, (![0, o] : Fin 2 → Nat) i + (![n, w] : Fin 2 → Nat) i ≤ (⟨2, ![a, b]⟩ : Shape).size i) (r : Fin n) (x : Fin w)
    (r' : Fin a) (x' : Fin b) (hr : r'.val = r.val) (hx : x'.val = o + x.val) :
    View.ld (Val := Elt Ideal) (e' := e) X (Rect.unit (s := ⟨2, ![a, b]⟩) ![0, o] ![n, w] inb) (ix2 r x) = X (ix2 r' x') :=
  View.ld_unit_apply_of _ _ _ _ _ _ fun i => by
    match i with
    | ⟨0, _⟩ => show r'.val = 0 + r.val; omega
    | ⟨1, _⟩ => exact hx

variable (Q G : FVec Ideal S1024x1024 .bf16) (KV : FVec Ideal S256x2048 .bf16) (Z : FVec Ideal S256x2048 .f32)

/-- The queries' gradient of one point at row `r`, head `h`, column `j`. -/
def gradQ (h : Fin 4) (r : Fin 1024) (j : Fin 256) : EReal :=
  Softmax.dq (cols 0 (by omega) Q h) (cols 0 (by omega) KV h) (cols 0 (by omega) G h) (cols 1024 (by omega) KV h) r j

/-- What one point adds to the keys' gradient of head `h`. -/
def gradK (h : Fin 4) (u : Fin 256) (j : Fin 256) : EReal :=
  Softmax.dk (cols 0 (by omega) Q h) (cols 0 (by omega) KV h) (cols 0 (by omega) G h) (cols 1024 (by omega) KV h) u j

/-- What it adds to the values' gradient. -/
def gradV (h : Fin 4) (u : Fin 256) (j : Fin 256) : EReal :=
  Softmax.dv (cols 0 (by omega) Q h) (cols 0 (by omega) KV h) (cols 0 (by omega) G h) u j

/-- The queries' gradient as an array: column `256 h + j` is head `h`'s column `j`. -/
def arrQ (y : S1024x1024.Idx) : EReal :=
  gradQ Q G KV ⟨(y 1).val / 256, by have := (y 1).isLt; change (y 1).val < 1024 at this; omega⟩ (y 0) ⟨(y 1).val % 256, by omega⟩

/-- The sums after one point as an array: the keys' gradients in the first half of the columns, the values' in the second. -/
def arrKV (y : S256x2048.Idx) : EReal :=
  Z y + if hy : (y 1).val < 1024 then gradK Q G KV ⟨(y 1).val / 256, by omega⟩ (y 0) ⟨(y 1).val % 256, by omega⟩
    else gradV Q G KV ⟨((y 1).val - 1024) / 256, by have := (y 1).isLt; change (y 1).val < 2048 at this; omega⟩ (y 0)
      ⟨((y 1).val - 1024) % 256, by omega⟩

theorem arrQ_apply (y : S1024x1024.Idx) (h : Fin 4) (r : Fin 1024) (j : Fin 256) (h0 : (y 0).val = r.val) (h1 : (y 1).val = h.val * 256 + j.val) :
    arrQ Q G KV y = gradQ Q G KV h r j := by
  have e1 : (⟨(y 1).val / 256, by have := (y 1).isLt; change (y 1).val < 1024 at this; omega⟩ : Fin 4) = h := Fin.ext (by show _ / 256 = _; omega)
  have e2 : (⟨(y 1).val % 256, by omega⟩ : Fin 256) = j := Fin.ext (by show _ % 256 = _; omega)
  unfold arrQ
  rw [e1, e2, show y 0 = r from Fin.ext h0]

theorem arrK_apply (y : S256x2048.Idx) (h : Fin 4) (u j : Fin 256) (h0 : (y 0).val = u.val) (h1 : (y 1).val = h.val * 256 + j.val) :
    arrKV Q G KV Z y = Z y + gradK Q G KV h u j := by
  have hy : (y 1).val < 1024 := by omega
  have e1 : (⟨(y 1).val / 256, by omega⟩ : Fin 4) = h := Fin.ext (by show _ / 256 = _; omega)
  have e2 : (⟨(y 1).val % 256, by omega⟩ : Fin 256) = j := Fin.ext (by show _ % 256 = _; omega)
  unfold arrKV
  rw [dif_pos hy, e1, e2, show y 0 = u from Fin.ext h0]

theorem arrV_apply (y : S256x2048.Idx) (h : Fin 4) (u j : Fin 256) (h0 : (y 0).val = u.val) (h1 : (y 1).val = 1024 + (h.val * 256 + j.val)) :
    arrKV Q G KV Z y = Z y + gradV Q G KV h u j := by
  have hy : ¬ (y 1).val < 1024 := by omega
  have e1 : (⟨((y 1).val - 1024) / 256, by omega⟩ : Fin 4) = h := Fin.ext (by show _ / 256 = _; omega)
  have e2 : (⟨((y 1).val - 1024) % 256, by omega⟩ : Fin 256) = j := Fin.ext (by show _ % 256 = _; omega)
  unfold arrKV
  rw [dif_neg hy, e1, e2, show y 0 = u from Fin.ext h0]

/-- A store of head `h`'s gradient of the queries is a block of the array. -/
theorem storeQ (h : Fin 4) (o o2 : Nat) (ho : o = h.val * 256)
    (ho2 : o2 = 1024 + h.val * 256) (inb1 inb2 inb3 inb4)
    (P : FVec Ideal S1024x256 .bf16)
    (hP : ∀ r j, P (ix2 r j) = Softmax.dq
      (rows (View.ld (Val := Elt Ideal) (e' := .bf16) Q (Rect.unit (s := S1024x1024) ![0, o] ![1024, 256] inb1)))
      (rows (View.ld (Val := Elt Ideal) (e' := .bf16) KV (Rect.unit (s := S256x2048) ![0, o] ![256, 256] inb2)))
      (rows (View.ld (Val := Elt Ideal) (e' := .bf16) G (Rect.unit (s := S1024x1024) ![0, o] ![1024, 256] inb3)))
      (rows (View.ld (Val := Elt Ideal) (e' := .bf16) KV (Rect.unit (s := S256x2048) ![0, o2] ![256, 256] inb4))) r j)
    (inb) (x : (Rect.unit (s := S1024x1024) ![0, o] ![1024, 256] inb).shape.Idx) :
    P x = arrQ Q G KV ((Rect.unit (s := S1024x1024) ![0, o] ![1024, 256] inb).emb x) := by
  subst ho ho2
  obtain ⟨r, j, rfl⟩ : ∃ (r : Fin 1024) (j : Fin 256), x = ix2 r j := ⟨_, _, eq_ix2 x⟩
  rw [hP, arrQ_apply Q G KV _ h r j (by rw [Rect.emb_apply]; show 0 + 1 * r.val = r.val; omega)
    (by rw [Rect.emb_apply]; show h.val * 256 + 1 * j.val = _; omega)]
  exact Softmax.dq_congr (fun x => ld_cols _ _ _ _ _ _ _ rfl (by simp)) (fun u x => ld_cols _ _ _ _ _ _ _ rfl (by simp))
    (fun x => ld_cols _ _ _ _ _ _ _ rfl (by simp)) (fun u x => ld_cols _ _ _ _ _ _ _ rfl (by simp; omega)) j

/-- A store of head `h`'s part of the keys' gradient is a block of the array of sums. -/
theorem storeK (h : Fin 4) (o o2 : Nat) (ho : o = h.val * 256)
    (ho2 : o2 = 1024 + h.val * 256) (inb0 inb1 inb2 inb3 inb4)
    (P : FVec Ideal S256x256 .f32)
    (hP : ∀ u j, P (ix2 u j) = View.ld (Val := Elt Ideal) (e' := .f32) Z (Rect.unit (s := S256x2048) ![0, o] ![256, 256] inb0) (ix2 u j) + Softmax.dk
      (rows (View.ld (Val := Elt Ideal) (e' := .bf16) Q (Rect.unit (s := S1024x1024) ![0, o] ![1024, 256] inb1)))
      (rows (View.ld (Val := Elt Ideal) (e' := .bf16) KV (Rect.unit (s := S256x2048) ![0, o] ![256, 256] inb2)))
      (rows (View.ld (Val := Elt Ideal) (e' := .bf16) G (Rect.unit (s := S1024x1024) ![0, o] ![1024, 256] inb3)))
      (rows (View.ld (Val := Elt Ideal) (e' := .bf16) KV (Rect.unit (s := S256x2048) ![0, o2] ![256, 256] inb4))) u j)
    (inb) (x : (Rect.unit (s := S256x2048) ![0, o] ![256, 256] inb).shape.Idx) :
    P x = arrKV Q G KV Z ((Rect.unit (s := S256x2048) ![0, o] ![256, 256] inb).emb x) := by
  subst ho ho2
  obtain ⟨u, j, rfl⟩ : ∃ (r : Fin 256) (j : Fin 256), x = ix2 r j := ⟨_, _, eq_ix2 x⟩
  rw [hP, arrK_apply Q G KV Z _ h u j (by rw [Rect.emb_apply]; show 0 + 1 * u.val = u.val; omega)
    (by rw [Rect.emb_apply]; show h.val * 256 + 1 * j.val = _; omega)]
  refine congrArg₂ (· + ·) rfl (Softmax.dk_congr ?_ ?_ ?_ ?_ u j)
  · exact fun r x => ld_cols _ _ _ _ _ _ _ rfl (by simp)
  · exact fun u x => ld_cols _ _ _ _ _ _ _ rfl (by simp)
  · exact fun r x => ld_cols _ _ _ _ _ _ _ rfl (by simp)
  · exact fun u x => ld_cols _ _ _ _ _ _ _ rfl (by simp; omega)

/-- A store of head `h`'s part of the values' gradient is a block of the array of sums. -/
theorem storeV (h : Fin 4) (o o2 : Nat) (ho : o = h.val * 256)
    (ho2 : o2 = 1024 + h.val * 256) (inb0 inb1 inb2 inb3)
    (P : FVec Ideal S256x256 .f32)
    (hP : ∀ u j, P (ix2 u j) = View.ld (Val := Elt Ideal) (e' := .f32) Z (Rect.unit (s := S256x2048) ![0, o2] ![256, 256] inb0) (ix2 u j) + Softmax.dv
      (rows (View.ld (Val := Elt Ideal) (e' := .bf16) Q (Rect.unit (s := S1024x1024) ![0, o] ![1024, 256] inb1)))
      (rows (View.ld (Val := Elt Ideal) (e' := .bf16) KV (Rect.unit (s := S256x2048) ![0, o] ![256, 256] inb2)))
      (rows (View.ld (Val := Elt Ideal) (e' := .bf16) G (Rect.unit (s := S1024x1024) ![0, o] ![1024, 256] inb3))) u j)
    (inb) (x : (Rect.unit (s := S256x2048) ![0, o2] ![256, 256] inb).shape.Idx) :
    P x = arrKV Q G KV Z ((Rect.unit (s := S256x2048) ![0, o2] ![256, 256] inb).emb x) := by
  subst ho ho2
  obtain ⟨u, j, rfl⟩ : ∃ (r : Fin 256) (j : Fin 256), x = ix2 r j := ⟨_, _, eq_ix2 x⟩
  rw [hP, arrV_apply Q G KV Z _ h u j (by rw [Rect.emb_apply]; show 0 + 1 * u.val = u.val; omega)
    (by rw [Rect.emb_apply]; show 1024 + h.val * 256 + 1 * j.val = _; omega)]
  refine congrArg₂ (· + ·) rfl (Softmax.dv_congr ?_ ?_ ?_ u j)
  · exact fun r x => ld_cols _ _ _ _ _ _ _ rfl (by simp)
  · exact fun u x => ld_cols _ _ _ _ _ _ _ rfl (by simp)
  · exact fun r x => ld_cols _ _ _ _ _ _ _ rfl (by simp)

variable (m : (ℓ : Loc nD τ sig) → Buf (Elt Ideal) ℓ)

/-- What every point leaves in the queries' gradient's block. -/
theorem outQ (c : Dev nD) (t : Fin cfg0.N) (y : S1024x1024.Idx) :
    (outsAt0 m c t.val t.isLt).1 y = arrQ (iblk m c 0 t) (iblk m c 2 t) (iblk m c 1 t) y := by
  by_cases e : t.val % 2 = 0
  · rw [outsAt0_A m c t e (by omega)]
    frame_out
    refine View.canon_append_of_piecesOf (Val := Elt Ideal) (e := .bf16) (arrQ (iblk m c 0 t) (iblk m c 2 t) (iblk m c 1 t)) [] [_, _, _, _] ?_ y ?_
    · exact ⟨storeQ _ _ _ 3 768 1792 rfl rfl _ _ _ _ _ (dq3 _ _ _ _) (by decide), storeQ _ _ _ 2 512 1536 rfl rfl _ _ _ _ _ (dq2 _ _ _ _) (by decide),
       storeQ _ _ _ 1 256 1280 rfl rfl _ _ _ _ _ (dq1 _ _ _ _) (by decide), storeQ _ _ _ 0 0 1024 rfl rfl _ _ _ _ _ (dq0 _ _ _ _) (by decide), trivial⟩
    · exact View.cover_of_tiled _ ![1024, 256] rfl y
  · rw [outsAt0_B m c t e (by omega)]
    frame_out
    refine View.canon_append_of_piecesOf (Val := Elt Ideal) (e := .bf16) (arrQ (iblk m c 0 t) (iblk m c 2 t) (iblk m c 1 t)) [] [_, _, _, _] ?_ y ?_
    · exact ⟨storeQ _ _ _ 3 768 1792 rfl rfl _ _ _ _ _ (dq3 _ _ _ _) (by decide), storeQ _ _ _ 2 512 1536 rfl rfl _ _ _ _ _ (dq2 _ _ _ _) (by decide),
       storeQ _ _ _ 1 256 1280 rfl rfl _ _ _ _ _ (dq1 _ _ _ _) (by decide), storeQ _ _ _ 0 0 1024 rfl rfl _ _ _ _ _ (dq0 _ _ _ _) (by decide), trivial⟩
    · exact View.cover_of_tiled _ ![1024, 256] rfl y

/-- What the first point of a batch row leaves in the running sums. -/
theorem sumsA (c : Dev nD) (t : Fin cfg0.N) (e : t.val % 2 = 0) (y : S256x2048.Idx) :
    (outsAt0 m c t.val t.isLt).2.2 y = arrKV (iblk m c 0 t) (iblk m c 2 t) (iblk m c 1 t) k0_pay4 y := by
  rw [outsAt0_A m c t e (by omega)]
  frame_open
  simp (disch := decide) only [↓View.readCov_skip, ↓View.readCov_cons_toLoadRect, ↓View.readCov_fill]
  frame_out
  refine View.canon_append_of_piecesOf (Val := Elt Ideal) (e := .f32) (arrKV (iblk m c 0 t) (iblk m c 2 t) (iblk m c 1 t) k0_pay4) [_] [_, _, _, _, _, _, _, _] ?_ y ?_
  · exact ⟨storeV _ _ _ _ 3 768 1792 rfl rfl _ _ _ _ _ (dv3 _ _ _ _) (by decide), storeK _ _ _ _ 3 768 1792 rfl rfl _ _ _ _ _ _ (dk3 _ _ _ _ _) (by decide),
     storeV _ _ _ _ 2 512 1536 rfl rfl _ _ _ _ _ (dv2 _ _ _ _) (by decide), storeK _ _ _ _ 2 512 1536 rfl rfl _ _ _ _ _ _ (dk2 _ _ _ _ _) (by decide),
     storeV _ _ _ _ 1 256 1280 rfl rfl _ _ _ _ _ (dv1 _ _ _ _) (by decide), storeK _ _ _ _ 1 256 1280 rfl rfl _ _ _ _ _ _ (dk1 _ _ _ _ _) (by decide),
     storeV _ _ _ _ 0 0 1024 rfl rfl _ _ _ _ _ (dv0 _ _ _ _) (by decide), storeK _ _ _ _ 0 0 1024 rfl rfl _ _ _ _ _ _ (dk0 _ _ _ _ _) (by decide), trivial⟩
  · exact View.cover_of_tiled _ ![256, 256] rfl y

/-- What the second point writes back: the sums so far and its own. -/
theorem outKV (c : Dev nD) (t : Fin cfg0.N) (e : t.val % 2 = 1) (y : S256x2048.Idx) :
    (outsAt0 m c t.val t.isLt).2.1 y = arrKV (iblk m c 0 t) (iblk m c 2 t) (iblk m c 1 t)
      (outsAt0 m c (t.val - 1) (by have := t.isLt; omega)).2.2 y := by
  rw [outsAt0_B m c t (by omega) e]
  frame_out
  simp only [read_unread_whole]
  rw [View.readCov_eq_canon_ld _ _ _ (fun y => View.cover_of_tiled _ ![256, 256] rfl y),
    View.ld_unit_zero (by ext a; fin_cases a <;> rfl)]
  refine View.canon_append_of_piecesOf (Val := Elt Ideal) (e := .f32) (arrKV (iblk m c 0 t) (iblk m c 2 t) (iblk m c 1 t) _) [] [_, _, _, _, _, _, _, _] ?_ y ?_
  · exact ⟨storeV _ _ _ _ 3 768 1792 rfl rfl _ _ _ _ _ (dv3 _ _ _ _) (by decide), storeK _ _ _ _ 3 768 1792 rfl rfl _ _ _ _ _ _ (dk3 _ _ _ _ _) (by decide),
     storeV _ _ _ _ 2 512 1536 rfl rfl _ _ _ _ _ (dv2 _ _ _ _) (by decide), storeK _ _ _ _ 2 512 1536 rfl rfl _ _ _ _ _ _ (dk2 _ _ _ _ _) (by decide),
     storeV _ _ _ _ 1 256 1280 rfl rfl _ _ _ _ _ (dv1 _ _ _ _) (by decide), storeK _ _ _ _ 1 256 1280 rfl rfl _ _ _ _ _ _ (dk1 _ _ _ _ _) (by decide),
     storeV _ _ _ _ 0 0 1024 rfl rfl _ _ _ _ _ (dv0 _ _ _ _) (by decide), storeK _ _ _ _ 0 0 1024 rfl rfl _ _ _ _ _ _ (dk0 _ _ _ _ _) (by decide), trivial⟩
  · exact View.cover_of_tiled _ ![256, 256] rfl y

end Cert.Attn

end
-- ==== Proof.AttnRef.lean ====
/- The derivative of the attention's plain lines, read at an index: its three gradients are those of one head of
   `Proof/Softmax.lean` over the head's columns of the arguments, when these are real numbers. -/
module

public import proofs.«01_k».proof.Proof.Softmax
public import proofs.«01_k».proof.Proof.Gen.ReferenceAttnIdeal.Read
public import Idealize.ShloMosaic.Lib.Pipeline.ValueKit

@[expose] public section

set_option maxRecDepth 16384

noncomputable section

open Idealize.ShloMosaic Idealize.ShloMosaic.TcCoe Idealize.SL.Sem

namespace Cert.AttnRef

open Cert.ReferenceAttnIdeal Cert.ReferenceAttnIdeal.Gen

variable (q : FVec Ideal S2x2048x1024 .f32) (kv : FVec Ideal S2x256x2048 .f32) (g : FVec Ideal S2x2048x1024 .f32)
variable (b : Fin 2) (h : Fin 4)

/-- Batch row `b`, head `h` of a `1024`-wide array: the head's 256 columns. -/
abbrev head (q : FVec Ideal S2x2048x1024 .f32) (b : Fin 2) (h : Fin 4) (s : Fin 2048) (x : Fin 256) : EReal :=
  q (ix3 b s ⟨h.val * 256 + x.val, by omega⟩)

/-- The head's keys: its 256 columns of the first half. -/
abbrev keys (kv : FVec Ideal S2x256x2048 .f32) (b : Fin 2) (h : Fin 4) (u : Fin 256) (x : Fin 256) : EReal :=
  kv (ix3 b u ⟨h.val * 256 + x.val, by omega⟩)

/-- The head's values: its 256 columns of the second half. -/
abbrev vals (kv : FVec Ideal S2x256x2048 .f32) (b : Fin 2) (h : Fin 4) (u : Fin 256) (x : Fin 256) : EReal :=
  kv (ix3 b u ⟨1024 + (h.val * 256 + x.val), by omega⟩)

theorem score_apply (s : Fin 2048) (j : Fin 256) :
    Cert.ReferenceAttnIdeal.Read.val_main_v7 (F := Ideal) q kv (ix4 b h s j) = Softmax.score (head q b h) (keys kv b h) s j := by
  unfold Cert.ReferenceAttnIdeal.Read.val_main_v7 Cert.ReferenceAttnIdeal.Read.val_main_v6 Cert.ReferenceAttnIdeal.Read.val_main_v5
    Cert.ReferenceAttnIdeal.Read.val_main_v3 Cert.ReferenceAttnIdeal.Read.val_main_v1 Cert.ReferenceAttnIdeal.Read.val_main_v0
    Cert.ReferenceAttnIdeal.Read.val_main_cst
  pointwise []
  rfl

theorem exp_apply (s : Fin 2048) (j : Fin 256) :
    Cert.ReferenceAttnIdeal.Read.val_main_v28 (F := Ideal) q kv (ix4 b h s j) = Ideal.exp (Softmax.score (head q b h) (keys kv b h) s j
      - max Softmax.bot (Softmax.top (Softmax.score (head q b h) (keys kv b h) s))) := by
  have hs := score_apply q kv b h s
  have ht : Cert.ReferenceAttnIdeal.Read.val_main_v26 (F := Ideal) q kv (ix4 b h s j) = Cert.ReferenceAttnIdeal.Read.val_main_v15 (F := Ideal) q kv (ix3 b h s) := by
    unfold Cert.ReferenceAttnIdeal.Read.val_main_v26 Cert.ReferenceAttnIdeal.Read.val_main_v25
    generalize Cert.ReferenceAttnIdeal.Read.val_main_v15 (F := Ideal) q kv = M
    pointwise []
  have hm : Cert.ReferenceAttnIdeal.Read.val_main_v8 (F := Ideal) q kv (ix3 b h s) = Softmax.top (Softmax.score (head q b h) (keys kv b h) s) := by
    unfold Cert.ReferenceAttnIdeal.Read.val_main_v8
    simp only [← hs, Softmax.top]
    generalize Cert.ReferenceAttnIdeal.Read.val_main_v7 (F := Ideal) q kv = S
    simp only [pointwise]
    rfl
  rw [← hs j]
  rw [Cert.ReferenceAttnIdeal.Read.val_main_v15_apply, Cert.ReferenceAttnIdeal.Read.val_main_v14_apply, Cert.ReferenceAttnIdeal.Read.val_main_cst_2_apply, hm] at ht
  refine Eq.trans ?_ (congrArg (fun x => Ideal.exp (Cert.ReferenceAttnIdeal.Read.val_main_v7 (F := Ideal) q kv (ix4 b h s j) - x)) ht)
  unfold Cert.ReferenceAttnIdeal.Read.val_main_v28 Cert.ReferenceAttnIdeal.Read.val_main_v27
  generalize Cert.ReferenceAttnIdeal.Read.val_main_v26 (F := Ideal) q kv = M
  generalize Cert.ReferenceAttnIdeal.Read.val_main_v7 (F := Ideal) q kv = S
  pointwise []

theorem weight_apply (s : Fin 2048) (j : Fin 256) :
    Cert.ReferenceAttnIdeal.Read.val_main_v32 (F := Ideal) q kv (ix4 b h s j) = Softmax.weight (Softmax.score (head q b h) (keys kv b h) s) j := by
  have he := exp_apply q kv b h s
  simp only [Softmax.max_bot_top] at he
  simp only [Softmax.weight, ← he]
  unfold Cert.ReferenceAttnIdeal.Read.val_main_v32 Cert.ReferenceAttnIdeal.Read.val_main_v31 Cert.ReferenceAttnIdeal.Read.val_main_v30
    Cert.ReferenceAttnIdeal.Read.val_main_v29 Cert.ReferenceAttnIdeal.Read.val_main_cst_8
  generalize Cert.ReferenceAttnIdeal.Read.val_main_v28 (F := Ideal) q kv = E
  pointwise []

theorem dweight_apply (s : Fin 2048) (j : Fin 256) :
    Cert.ReferenceAttnIdeal.Read.val_main_v41 (F := Ideal) kv g (ix4 b h s j) = ∑ x, head g b h s x * vals kv b h j x := by
  unfold Cert.ReferenceAttnIdeal.Read.val_main_v41 Cert.ReferenceAttnIdeal.Read.val_main_v40 Cert.ReferenceAttnIdeal.Read.val_main_v39
    Cert.ReferenceAttnIdeal.Read.val_main_v4 Cert.ReferenceAttnIdeal.Read.val_main_v2
  pointwise []

/-- The gradient of the scores, on real arguments. -/
theorem ds_apply (hq : ∀ i, ∃ y : ℝ, q i = y) (hk : ∀ i, ∃ y : ℝ, kv i = y) (hg : ∀ i, ∃ y : ℝ, g i = y) (s : Fin 2048) (j : Fin 256) :
    Cert.ReferenceAttnIdeal.Read.val_main_v57 (F := Ideal) q kv g (ix4 b h s j) = Softmax.ds (head q b h) (keys kv b h) (head g b h) (vals kv b h) s j := by
  have hd : ∀ j, ∃ y : ℝ, (fun j => ∑ x, head g b h s x * vals kv b h j x) j = y := fun j => by
    choose g' hg using hg
    choose k' hk using hk
    exact ⟨_, by simp only [hg, hk, ← EReal.coe_mul, Real.sum_coe]; rfl⟩
  refine Eq.trans ?_ (Softmax.dscoreRef_eq (Softmax.score (head q b h) (keys kv b h) s) _
    (fun j => Softmax.score_real _ _ (fun _ _ => hq _) (fun _ _ => hk _) s j) hd j)
  simp only [Softmax.dscoreRef, ← exp_apply q kv b h s, ← dweight_apply kv g b h s]
  unfold Cert.ReferenceAttnIdeal.Read.val_main_v57 Cert.ReferenceAttnIdeal.Read.val_main_v56 Cert.ReferenceAttnIdeal.Read.val_main_v55
    Cert.ReferenceAttnIdeal.Read.val_main_v54 Cert.ReferenceAttnIdeal.Read.val_main_v53 Cert.ReferenceAttnIdeal.Read.val_main_v52
    Cert.ReferenceAttnIdeal.Read.val_main_v51 Cert.ReferenceAttnIdeal.Read.val_main_v50 Cert.ReferenceAttnIdeal.Read.val_main_v49
    Cert.ReferenceAttnIdeal.Read.val_main_v48 Cert.ReferenceAttnIdeal.Read.val_main_v47 Cert.ReferenceAttnIdeal.Read.val_main_v46
    Cert.ReferenceAttnIdeal.Read.val_main_v45 Cert.ReferenceAttnIdeal.Read.val_main_v44 Cert.ReferenceAttnIdeal.Read.val_main_v35
    Cert.ReferenceAttnIdeal.Read.val_main_v34 Cert.ReferenceAttnIdeal.Read.val_main_v33 Cert.ReferenceAttnIdeal.Read.val_main_v30
    Cert.ReferenceAttnIdeal.Read.val_main_v29 Cert.ReferenceAttnIdeal.Read.val_main_cst_8 Cert.ReferenceAttnIdeal.Read.val_main_cst_9
    Cert.ReferenceAttnIdeal.Read.val_main_cst_10 Cert.ReferenceAttnIdeal.Read.val_main_cst_11 Cert.ReferenceAttnIdeal.Read.val_main_cst_12
  generalize Cert.ReferenceAttnIdeal.Read.val_main_v28 (F := Ideal) q kv = E
  generalize Cert.ReferenceAttnIdeal.Read.val_main_v41 (F := Ideal) kv g = D
  pointwise []

/-- The queries' gradient. -/
theorem dq_apply (hq : ∀ i, ∃ y : ℝ, q i = y) (hk : ∀ i, ∃ y : ℝ, kv i = y) (hg : ∀ i, ∃ y : ℝ, g i = y) (s : Fin 2048) (j : Fin 256) :
    Cert.ReferenceAttnIdeal.Read.val_main_v67 (F := Ideal) q kv g (ix2 ⟨b.val * 2048 + s.val, by omega⟩ ⟨h.val * 256 + j.val, by omega⟩)
      = Softmax.dq (head q b h) (keys kv b h) (head g b h) (vals kv b h) s j := by
  simp only [Softmax.dq, ← ds_apply q kv g b h hq hk hg s]
  unfold Cert.ReferenceAttnIdeal.Read.val_main_v67 Cert.ReferenceAttnIdeal.Read.val_main_v66 Cert.ReferenceAttnIdeal.Read.val_main_v65
    Cert.ReferenceAttnIdeal.Read.val_main_v61 Cert.ReferenceAttnIdeal.Read.val_main_v60 Cert.ReferenceAttnIdeal.Read.val_main_v3
    Cert.ReferenceAttnIdeal.Read.val_main_v1
  generalize Cert.ReferenceAttnIdeal.Read.val_main_v57 (F := Ideal) q kv g = S
  pointwise []

/-- The keys' gradient, the first half of the columns. -/
theorem dk_apply (hq : ∀ i, ∃ y : ℝ, q i = y) (hk : ∀ i, ∃ y : ℝ, kv i = y) (hg : ∀ i, ∃ y : ℝ, g i = y) (u : Fin 256) (j : Fin 256) :
    Cert.ReferenceAttnIdeal.Read.val_main_v69 (F := Ideal) q kv g (ix2 ⟨b.val * 256 + u.val, by omega⟩ ⟨h.val * 256 + j.val, by omega⟩)
      = Softmax.dk (head q b h) (keys kv b h) (head g b h) (vals kv b h) u j := by
  simp only [Softmax.dk, ← ds_apply q kv g b h hq hk hg]
  unfold Cert.ReferenceAttnIdeal.Read.val_main_v69 Cert.ReferenceAttnIdeal.Read.val_main_v68 Cert.ReferenceAttnIdeal.Read.val_main_v64
    Cert.ReferenceAttnIdeal.Read.val_main_v63 Cert.ReferenceAttnIdeal.Read.val_main_v62 Cert.ReferenceAttnIdeal.Read.val_main_v59
    Cert.ReferenceAttnIdeal.Read.val_main_v58 Cert.ReferenceAttnIdeal.Read.val_main_v0
  generalize Cert.ReferenceAttnIdeal.Read.val_main_v43 (F := Ideal) q kv g = V
  generalize Cert.ReferenceAttnIdeal.Read.val_main_v57 (F := Ideal) q kv g = S
  pointwise []
  exact dif_pos (by omega)

/-- The values' gradient, the second half. -/
theorem dv_apply (u : Fin 256) (j : Fin 256) :
    Cert.ReferenceAttnIdeal.Read.val_main_v69 (F := Ideal) q kv g (ix2 ⟨b.val * 256 + u.val, by omega⟩ ⟨1024 + (h.val * 256 + j.val), by omega⟩)
      = Softmax.dv (head q b h) (keys kv b h) (head g b h) u j := by
  simp only [Softmax.dv, ← weight_apply q kv b h]
  unfold Cert.ReferenceAttnIdeal.Read.val_main_v69 Cert.ReferenceAttnIdeal.Read.val_main_v68 Cert.ReferenceAttnIdeal.Read.val_main_v64
    Cert.ReferenceAttnIdeal.Read.val_main_v63 Cert.ReferenceAttnIdeal.Read.val_main_v62 Cert.ReferenceAttnIdeal.Read.val_main_v43
    Cert.ReferenceAttnIdeal.Read.val_main_v42 Cert.ReferenceAttnIdeal.Read.val_main_v40 Cert.ReferenceAttnIdeal.Read.val_main_v39
  generalize Cert.ReferenceAttnIdeal.Read.val_main_v59 (F := Ideal) q kv g = K
  generalize Cert.ReferenceAttnIdeal.Read.val_main_v32 (F := Ideal) q kv = P
  pointwise []
  exact Finset.sum_congr rfl fun x _ => mul_comm _ _

end Cert.AttnRef

end
-- ==== Proof.Attn.lean ====
/- The gradients of the attention: the kernel and the gradient taken of the plain attention leave the same arrays, at finite
   arguments. -/
module

public import proofs.«01_k».proof.Defs
public import proofs.«01_k».proof.Proof.AttnBlocks
public import proofs.«01_k».proof.Proof.AttnRef
public import proofs.«01_k».proof.Proof.Gen.Pre_finite_attn

@[expose] public section

set_option maxRecDepth 16384

noncomputable section

open Idealize.ShloMosaic Idealize.ShloMosaic.TcCoe Idealize.SL.Sem

namespace Cert.Softmax

variable {n m d : Nat} {q g : Fin (2 * n) → Fin d → EReal} {k v : Fin m → Fin d → EReal}
variable {q0 q1 g0 g1 : Fin n → Fin d → EReal} {k0 k1 v0 v1 : Fin m → Fin d → EReal}

/-- The keys' gradient over all rows is the one over the first half of the rows and the one over the second. -/
theorem dk_two (hq0 : ∀ r x, q0 r x = q ⟨0 * n + r.val, by omega⟩ x) (hq1 : ∀ r x, q1 r x = q ⟨1 * n + r.val, by omega⟩ x)
    (hg0 : ∀ r x, g0 r x = g ⟨0 * n + r.val, by omega⟩ x) (hg1 : ∀ r x, g1 r x = g ⟨1 * n + r.val, by omega⟩ x)
    (hk0 : ∀ u x, k0 u x = k u x) (hk1 : ∀ u x, k1 u x = k u x) (hv0 : ∀ u x, v0 u x = v u x) (hv1 : ∀ u x, v1 u x = v u x)
    (u : Fin m) (j : Fin d) : dk q0 k0 g0 v0 u j + dk q1 k1 g1 v1 u j = dk q k g v u j := by
  unfold dk
  rw [Fin.sum_univ_tiles 2 n rfl, Fin.sum_univ_two]
  exact congrArg₂ (· + ·)
    (Finset.sum_congr rfl fun r _ => congrArg₂ (· * ·) (congrFun (ds_congr (hq0 r) hk0 (hg0 r) hv0) u) (hq0 r j))
    (Finset.sum_congr rfl fun r _ => congrArg₂ (· * ·) (congrFun (ds_congr (hq1 r) hk1 (hg1 r) hv1) u) (hq1 r j))

theorem dv_two (hq0 : ∀ r x, q0 r x = q ⟨0 * n + r.val, by omega⟩ x) (hq1 : ∀ r x, q1 r x = q ⟨1 * n + r.val, by omega⟩ x)
    (hg0 : ∀ r x, g0 r x = g ⟨0 * n + r.val, by omega⟩ x) (hg1 : ∀ r x, g1 r x = g ⟨1 * n + r.val, by omega⟩ x)
    (hk0 : ∀ u x, k0 u x = k u x) (hk1 : ∀ u x, k1 u x = k u x)
    (u : Fin m) (j : Fin d) : dv q0 k0 g0 u j + dv q1 k1 g1 u j = dv q k g u j := by
  unfold dv
  rw [Fin.sum_univ_tiles 2 n rfl, Fin.sum_univ_two]
  exact congrArg₂ (· + ·)
    (Finset.sum_congr rfl fun r _ => congrArg₂ (· * ·) (congrFun (weight_congr (hq0 r) hk0) u) (hg0 r j))
    (Finset.sum_congr rfl fun r _ => congrArg₂ (· * ·) (congrFun (weight_congr (hq1 r) hk1) u) (hg1 r j))

end Cert.Softmax

namespace Cert.Attn

open Cert.KernelAttnIdeal Cert.KernelAttnIdeal.Gen

theorem idx : ∀ t : Fin cfg0.N, win0_0.index t = ![t.val, 0] ∧ win0_1.index t = ![t.val / 2, 0] ∧ win0_2.index t = ![t.val, 0]
    ∧ win0_3.index t = ![t.val, 0] ∧ win0_4.index t = ![t.val / 2, 0] :=
  (by decide +kernel : ∀ t : Fin grid0.N, _)

variable (m : (ℓ : Loc nD τ sig) → Buf (Elt Ideal) ℓ)

/-- Row `r` of point `t`'s block of the queries is row `1024 (t % 2) + r` of batch row `t / 2`. -/
theorem read_q (c : Dev nD) (t : Fin cfg0.N) (b : Fin 2) (s : Fin 2048) (r : Fin 1024) (k : Fin 1024)
    (hr : t.val * 1024 + r.val = b.val * 2048 + s.val) :
    (show FVec Ideal S1024x1024 .bf16 from iblk m c 0 t) (ix2 r k) = m ((c : Thread nD τ).loc main_arg0) (ix3 b s k) := by
  blk_point [iblk, V, idx t]

theorem read_g (c : Dev nD) (t : Fin cfg0.N) (b : Fin 2) (s : Fin 2048) (r : Fin 1024) (k : Fin 1024)
    (hr : t.val * 1024 + r.val = b.val * 2048 + s.val) :
    (show FVec Ideal S1024x1024 .bf16 from iblk m c 2 t) (ix2 r k) = m ((c : Thread nD τ).loc main_arg2) (ix3 b s k) := by
  blk_point [iblk, V, idx t]

theorem read_kv (c : Dev nD) (t : Fin cfg0.N) (b : Fin 2) (u : Fin 256) (k : Fin 2048) (hb : t.val / 2 = b.val) :
    (show FVec Ideal S256x2048 .bf16 from iblk m c 1 t) (ix2 u k) = m ((c : Thread nD τ).loc main_arg1) (ix3 b u k) := by
  blk_point [iblk, V, idx t]

theorem zero_apply (y : S256x2048.Idx) : (k0_pay4 (F := Ideal)) y = 0 := by
  idx_vars y
  pointwise [k0_pay4]

/-- The heads of the blocks a point loads are the arrays' heads, at the rows the point covers. -/
theorem cols_q (c : Dev nD) (t : Fin cfg0.N) (b : Fin 2) (s : Fin 2) (ht : t.val = b.val * 2 + s.val) (h : Fin 4) (r : Fin 1024) (x : Fin 256) :
    cols 0 (by omega) (show FVec Ideal S1024x1024 .bf16 from iblk m c 0 t) h r x
      = AttnRef.head (m ((c : Thread nD τ).loc main_arg0)) b h ⟨s.val * 1024 + r.val, by omega⟩ x :=
  (read_q m c t b ⟨s.val * 1024 + r.val, by omega⟩ r _ (by show _ = _ * 2048 + (_ * 1024 + _); omega)).trans
    (congrArg (fun z => m ((c : Thread nD τ).loc main_arg0) (ix3 b _ z)) (Fin.ext (Nat.zero_add _)))

theorem cols_g (c : Dev nD) (t : Fin cfg0.N) (b : Fin 2) (s : Fin 2) (ht : t.val = b.val * 2 + s.val) (h : Fin 4) (r : Fin 1024) (x : Fin 256) :
    cols 0 (by omega) (show FVec Ideal S1024x1024 .bf16 from iblk m c 2 t) h r x
      = AttnRef.head (m ((c : Thread nD τ).loc main_arg2)) b h ⟨s.val * 1024 + r.val, by omega⟩ x :=
  (read_g m c t b ⟨s.val * 1024 + r.val, by omega⟩ r _ (by show _ = _ * 2048 + (_ * 1024 + _); omega)).trans
    (congrArg (fun z => m ((c : Thread nD τ).loc main_arg2) (ix3 b _ z)) (Fin.ext (Nat.zero_add _)))

theorem cols_k (c : Dev nD) (t : Fin cfg0.N) (b : Fin 2) (ht : t.val / 2 = b.val) (h : Fin 4) (u : Fin 256) (x : Fin 256) :
    cols 0 (by omega) (show FVec Ideal S256x2048 .bf16 from iblk m c 1 t) h u x = AttnRef.keys (m ((c : Thread nD τ).loc main_arg1)) b h u x :=
  (read_kv m c t b u _ ht).trans (congrArg (fun z => m ((c : Thread nD τ).loc main_arg1) (ix3 b u z)) (Fin.ext (Nat.zero_add _)))

theorem cols_v (c : Dev nD) (t : Fin cfg0.N) (b : Fin 2) (ht : t.val / 2 = b.val) (h : Fin 4) (u : Fin 256) (x : Fin 256) :
    cols 1024 (by omega) (show FVec Ideal S256x2048 .bf16 from iblk m c 1 t) h u x = AttnRef.vals (m ((c : Thread nD τ).loc main_arg1)) b h u x :=
  read_kv m c t b u _ ht

/-- The plain queries' gradient at a row `2048 b + s` and a column `256 h + j`. -/
theorem ref_q (q : FVec Ideal ⟨3, ![2, 2048, 1024]⟩ .f32) (kv : FVec Ideal ⟨3, ![2, 256, 2048]⟩ .f32)
    (g : FVec Ideal ⟨3, ![2, 2048, 1024]⟩ .f32) (hq : ∀ i, ∃ y : ℝ, q i = y) (hk : ∀ i, ∃ y : ℝ, kv i = y) (hg : ∀ i, ∃ y : ℝ, g i = y)
    (i : (⟨2, ![4096, 1024]⟩ : Shape).Idx) (b : Fin 2) (s : Fin 2048) (h : Fin 4) (j : Fin 256)
    (h0 : (i 0).val = b.val * 2048 + s.val) (h1 : (i 1).val = h.val * 256 + j.val) :
    Cert.ReferenceAttnIdeal.Read.val_main_v67 (F := Ideal) q kv g i
      = Softmax.dq (AttnRef.head q b h) (AttnRef.keys kv b h) (AttnRef.head g b h) (AttnRef.vals kv b h) s j := by
  rw [← AttnRef.dq_apply q kv g b h hq hk hg s j, eq_ix2 i]
  exact congrArg _ (congrArg₂ ix2 (Fin.ext h0) (Fin.ext h1))

theorem ref_k (q : FVec Ideal ⟨3, ![2, 2048, 1024]⟩ .f32) (kv : FVec Ideal ⟨3, ![2, 256, 2048]⟩ .f32)
    (g : FVec Ideal ⟨3, ![2, 2048, 1024]⟩ .f32) (hq : ∀ i, ∃ y : ℝ, q i = y) (hk : ∀ i, ∃ y : ℝ, kv i = y) (hg : ∀ i, ∃ y : ℝ, g i = y)
    (i : (⟨2, ![512, 2048]⟩ : Shape).Idx) (b : Fin 2) (u : Fin 256) (h : Fin 4) (j : Fin 256)
    (h0 : (i 0).val = b.val * 256 + u.val) (h1 : (i 1).val = h.val * 256 + j.val) :
    Cert.ReferenceAttnIdeal.Read.val_main_v69 (F := Ideal) q kv g i
      = Softmax.dk (AttnRef.head q b h) (AttnRef.keys kv b h) (AttnRef.head g b h) (AttnRef.vals kv b h) u j := by
  rw [← AttnRef.dk_apply q kv g b h hq hk hg u j, eq_ix2 i]
  exact congrArg _ (congrArg₂ ix2 (Fin.ext h0) (Fin.ext h1))

theorem ref_v (q : FVec Ideal ⟨3, ![2, 2048, 1024]⟩ .f32) (kv : FVec Ideal ⟨3, ![2, 256, 2048]⟩ .f32)
    (g : FVec Ideal ⟨3, ![2, 2048, 1024]⟩ .f32) (i : (⟨2, ![512, 2048]⟩ : Shape).Idx) (b : Fin 2) (u : Fin 256) (h : Fin 4) (j : Fin 256)
    (h0 : (i 0).val = b.val * 256 + u.val) (h1 : (i 1).val = 1024 + (h.val * 256 + j.val)) :
    Cert.ReferenceAttnIdeal.Read.val_main_v69 (F := Ideal) q kv g i
      = Softmax.dv (AttnRef.head q b h) (AttnRef.keys kv b h) (AttnRef.head g b h) u j := by
  rw [← AttnRef.dv_apply q kv g b h u j, eq_ix2 i]
  exact congrArg _ (congrArg₂ ix2 (Fin.ext h0) (Fin.ext h1))

section
variable (c : Dev nD)
  (hq : ∀ i, ∃ y : ℝ, (show FVec Ideal S2x2048x1024 .f32 from m ((c : Thread nD τ).loc main_arg0)) i = y)
  (hk : ∀ i, ∃ y : ℝ, (show FVec Ideal S2x256x2048 .f32 from m ((c : Thread nD τ).loc main_arg1)) i = y)
  (hg : ∀ i, ∃ y : ℝ, (show FVec Ideal S2x2048x1024 .f32 from m ((c : Thread nD τ).loc main_arg2)) i = y)
include hq hk hg

/-- A point's block of the queries' gradients, at an index, is the plain gradient at the array's index. -/
theorem point_q (t : Fin cfg0.N) (y : S1024x1024.Idx) (i : (⟨2, ![4096, 1024]⟩ : Shape).Idx)
    (h0 : (i 0).val = t.val * 1024 + (y 0).val) (h1 : (i 1).val = (y 1).val) :
    (outsAt0 m c t.val t.isLt).1 y = Cert.ReferenceAttnIdeal.Read.val_main_v67 (F := Ideal)
      (m ((c : Thread nD τ).loc main_arg0)) (m ((c : Thread nD τ).loc main_arg1)) (m ((c : Thread nD τ).loc main_arg2)) i := by
  have ht : t.val < 4 := t.isLt
  obtain ⟨r, l, rfl⟩ : ∃ (r : Fin 1024) (l : Fin 1024), y = ix2 r l := ⟨_, _, eq_ix2 y⟩
  change (i 0).val = t.val * 1024 + r.val at h0
  change (i 1).val = l.val at h1
  obtain ⟨b, hb⟩ : ∃ b : Fin 2, t.val / 2 = b.val := ⟨⟨t.val / 2, by omega⟩, rfl⟩
  obtain ⟨s, hs⟩ : ∃ s : Fin 2, t.val = b.val * 2 + s.val := ⟨⟨t.val % 2, by omega⟩, by show _ = _ + t.val % 2; omega⟩
  obtain ⟨h, j, hl⟩ : ∃ (h : Fin 4) (j : Fin 256), l.val = h.val * 256 + j.val := ⟨⟨l.val / 256, by omega⟩, ⟨l.val % 256, by omega⟩, by show _ = _ / 256 * 256 + _ % 256; omega⟩
  rw [outQ m c t, arrQ_apply _ _ _ (ix2 r l) h r j rfl hl, ref_q _ _ _ hq hk hg i b ⟨s.val * 1024 + r.val, by omega⟩ h j
    (h0.trans (by show _ = _ * 2048 + (_ * 1024 + _); omega)) (h1.trans hl)]
  exact Softmax.dq_congr (cols_q m c t b s hs h r) (cols_k m c t b hb h) (cols_g m c t b s hs h r) (cols_v m c t b hb h) j

/-- The second point of a batch row writes back the plain gradient of the keys and the values. -/
theorem point_k (t : Fin cfg0.N) (e : t.val % 2 = 1) (y : S256x2048.Idx) (i : (⟨2, ![512, 2048]⟩ : Shape).Idx)
    (h0 : (i 0).val = t.val / 2 * 256 + (y 0).val) (h1 : (i 1).val = (y 1).val) :
    (outsAt0 m c t.val t.isLt).2.1 y = Cert.ReferenceAttnIdeal.Read.val_main_v69 (F := Ideal)
      (m ((c : Thread nD τ).loc main_arg0)) (m ((c : Thread nD τ).loc main_arg1)) (m ((c : Thread nD τ).loc main_arg2)) i := by
  have ht : t.val < 4 := t.isLt
  obtain ⟨u, l, rfl⟩ : ∃ (u : Fin 256) (l : Fin 2048), y = ix2 u l := ⟨_, _, eq_ix2 y⟩
  change (i 0).val = t.val / 2 * 256 + u.val at h0
  change (i 1).val = l.val at h1
  obtain ⟨b, hb⟩ : ∃ b : Fin 2, t.val / 2 = b.val := ⟨⟨t.val / 2, by omega⟩, rfl⟩
  obtain ⟨p, hp⟩ : ∃ p : Fin cfg0.N, p.val = t.val - 1 := ⟨⟨t.val - 1, by have := t.isLt; omega⟩, rfl⟩
  have hpb : p.val / 2 = b.val := by omega
  have hprev : (outsAt0 m c (t.val - 1) (by have := t.isLt; omega)).2.2 (ix2 u l) = (outsAt0 m c p.val p.isLt).2.2 (ix2 u l) := by
    have : ∀ n (hn : n < cfg0.N) (_ : p.val = n), (outsAt0 m c n hn).2.2 (ix2 u l) = (outsAt0 m c p.val p.isLt).2.2 (ix2 u l) := by
      rintro n hn rfl; rfl
    exact this _ _ hp
  rw [outKV m c t e]
  have h0p : p.val = b.val * 2 + 0 := by omega
  have h1t : t.val = b.val * 2 + 1 := by omega
  by_cases hl : l.val < 1024
  · obtain ⟨h, j, hl⟩ : ∃ (h : Fin 4) (j : Fin 256), l.val = h.val * 256 + j.val := ⟨⟨l.val / 256, by omega⟩, ⟨l.val % 256, by omega⟩, by show _ = _ / 256 * 256 + _ % 256; omega⟩
    rw [arrK_apply _ _ _ _ (ix2 u l) h u j rfl hl, hprev, sumsA m c p (by omega), arrK_apply _ _ _ _ (ix2 u l) h u j rfl hl, zero_apply, zero_add,
      ref_k _ _ _ hq hk hg i b u h j (h0.trans (by rw [hb])) (h1.trans hl)]
    exact Softmax.dk_two (n := 1024) (cols_q m c p b 0 h0p h) (cols_q m c t b 1 h1t h) (cols_g m c p b 0 h0p h) (cols_g m c t b 1 h1t h)
      (cols_k m c p b hpb h) (cols_k m c t b hb h) (cols_v m c p b hpb h) (cols_v m c t b hb h) u j
  · obtain ⟨h, j, hl⟩ : ∃ (h : Fin 4) (j : Fin 256), l.val = 1024 + (h.val * 256 + j.val) := ⟨⟨(l.val - 1024) / 256, by omega⟩, ⟨(l.val - 1024) % 256, by omega⟩,
      by show _ = 1024 + (_ / 256 * 256 + _ % 256); omega⟩
    rw [arrV_apply _ _ _ _ (ix2 u l) h u j rfl hl, hprev, sumsA m c p (by omega), arrV_apply _ _ _ _ (ix2 u l) h u j rfl hl, zero_apply, zero_add,
      ref_v _ _ _ i b u h j (h0.trans (by rw [hb])) (h1.trans hl)]
    exact Softmax.dv_two (n := 1024) (cols_q m c p b 0 h0p h) (cols_q m c t b 1 h1t h) (cols_g m c p b 0 h0p h) (cols_g m c t b 1 h1t h)
      (cols_k m c p b hpb h) (cols_k m c t b hb h) u j

/-- The queries' gradients left by the points are the plain ones. -/
theorem final_q : (dats m 0 c).arrAt 3 cfg0.N = Cert.ReferenceAttnIdeal.Read.val_main_v67 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine point_q m c hq hk hg t y _ ?_ ?_
  · blk_simp [idx t]
  · blk_simp [idx t]

/-- So are the keys' and values', each the sum of two points' parts. -/
theorem final_kv : (dats m 0 c).arrAt 4 cfg0.N = Cert.ReferenceAttnIdeal.Read.val_main_v69 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  have e : t.val % 2 = 1 := (by decide +kernel : ∀ t : Fin grid0.N, (cfg0.win 4).flush t = true → t.val % 2 = 1) t hf
  blk_simp
  rw [after0_4]
  refine point_k m c hq hk hg t e y _ ?_ ?_
  · blk_simp [idx t]
  · blk_simp [idx t]

end

/-- At finite arguments the kernel and the gradient taken of the plain attention leave the same arrays. -/
theorem algebraic : Cert.algebraic_KernelAttnIdeal_ReferenceAttnIdeal_pre_finite_attn := fun m g m' g' hpre hag =>
  ⟨fun c => Cert.ReferenceAttnIdeal.Read.val_main_v67 (F := Ideal) (m ((c : Thread nD τ).loc main_arg0)) (m ((c : Thread nD τ).loc main_arg1)) (m ((c : Thread nD τ).loc main_arg2)),
    fun c => Cert.ReferenceAttnIdeal.Read.val_main_v69 (F := Ideal) (m ((c : Thread nD τ).loc main_arg0)) (m ((c : Thread nD τ).loc main_arg1)) (m ((c : Thread nD τ).loc main_arg2)),
    (θ_run _ _ _).mono (fun _ h c => ⟨(h c).1.trans (final_q m c (fun i => Cert.Real.exists_real (congrFun (hpre c).1 i)) (fun i => Cert.Real.exists_real (congrFun (hpre c).2.1 i))
        (fun i => Cert.Real.exists_real (congrFun (hpre c).2.2 i))),
      (h c).2.1.trans (final_kv m c (fun i => Cert.Real.exists_real (congrFun (hpre c).1 i)) (fun i => Cert.Real.exists_real (congrFun (hpre c).2.1 i))
        (fun i => Cert.Real.exists_real (congrFun (hpre c).2.2 i))), (h c).2.2⟩) (Cert.KernelAttnIdeal.Value.run_blocks m g),
    (θ_run _ _ _).mono (fun _ h c => ⟨(h c).1.trans (by rw [Cert.ReferenceAttnIdeal.Read.val_main_v67_eq, (hag c).1, (hag c).2.1, (hag c).2.2]),
      (h c).2.1.trans (by rw [Cert.ReferenceAttnIdeal.Read.val_main_v69_eq, (hag c).1, (hag c).2.1, (hag c).2.2]), (h c).2.2⟩)
      (Cert.ReferenceAttnIdeal.Value.run m' g')⟩

end Cert.Attn

end
-- ==== Proof.AttnF.lean ====
/- The attention itself: the kernel, which writes its output head by head in column tiles, and the plain lines leave the same
   array. -/
module

public import proofs.«01_k».proof.Defs
public import proofs.«01_k».proof.Proof.AttnBlocks
public import proofs.«01_k».proof.Proof.AttnRef
public import proofs.«01_k».proof.Proof.Gen.KernelAttnFIdeal.Value
public import proofs.«01_k».proof.Proof.Gen.ReferenceAttnFIdeal.Read
public import Idealize.ShloMosaic.Lib.Pipeline.ReadBack

@[expose] public section

set_option maxRecDepth 16384

noncomputable section

open Idealize.ShloMosaic Idealize.ShloMosaic.TcCoe Idealize.SL.Sem

namespace Cert.Softmax

/-- A head's output: its values, weighted. -/
def out {n m d : Nat} (q : Fin n → Fin d → EReal) (k v : Fin m → Fin d → EReal) (r : Fin n) (j : Fin d) : EReal :=
  ∑ u, weight (score q k r) u * v u j

theorem out_congr {n n' m d : Nat} {q : Fin n → Fin d → EReal} {q' : Fin n' → Fin d → EReal} {k k' v v' : Fin m → Fin d → EReal}
    {r : Fin n} {s : Fin n'} (hq : ∀ x, q r x = q' s x) (hk : ∀ u x, k u x = k' u x) (hv : ∀ u x, v u x = v' u x) (j : Fin d) :
    out q k v r j = out q' k' v' s j :=
  Finset.sum_congr rfl fun u _ => congrArg₂ (· * ·) (congrFun (weight_congr hq hk) u) (hv u j)

end Cert.Softmax

/- The plain lines. -/
namespace Cert.AttnFRef

open Cert.ReferenceAttnFIdeal Cert.ReferenceAttnFIdeal.Read
open Cert.AttnRef (head keys vals)

variable (q : FVec Ideal ⟨3, ![2, 2048, 1024]⟩ .f32) (kv : FVec Ideal ⟨3, ![2, 256, 2048]⟩ .f32) (b : Fin 2) (h : Fin 4) (s : Fin 2048)

theorem score_apply (j : Fin 256) : val_main_v7 (F := Ideal) q kv (ix4 b h s j) = Softmax.score (head q b h) (keys kv b h) s j := by
  unfold val_main_v7 val_main_v6 val_main_v5 val_main_v3 val_main_v1 val_main_v0 val_main_cst
  pointwise []
  rfl

theorem top_apply : val_main_v8 (F := Ideal) q kv (ix3 b h s) = Softmax.top (Softmax.score (head q b h) (keys kv b h) s) := by
  unfold val_main_v8
  simp only [← score_apply q kv b h s, Softmax.top]
  generalize val_main_v7 (F := Ideal) q kv = S
  simp only [pointwise]
  rfl

theorem exp_apply (j : Fin 256) : val_main_v14 (F := Ideal) q kv (ix4 b h s j)
    = Ideal.exp (Softmax.score (head q b h) (keys kv b h) s j - Softmax.top (Softmax.score (head q b h) (keys kv b h) s)) := by
  have ht : val_main_v12 (F := Ideal) q kv (ix4 b h s j) = val_main_v10 (F := Ideal) q kv (ix3 b h s) := by
    unfold val_main_v12 val_main_v11
    generalize val_main_v10 (F := Ideal) q kv = M
    pointwise []
  rw [val_main_v10_apply, val_main_v9_apply, val_main_cst_1_apply, top_apply q kv b h s] at ht
  rw [← Softmax.max_bot_top, ← score_apply q kv b h s j]
  refine Eq.trans ?_ (congrArg (fun x => Ideal.exp (val_main_v7 (F := Ideal) q kv (ix4 b h s j) - x)) ht)
  unfold val_main_v14 val_main_v13
  generalize val_main_v12 (F := Ideal) q kv = M
  generalize val_main_v7 (F := Ideal) q kv = S
  pointwise []

theorem weight_apply (j : Fin 256) : val_main_v18 (F := Ideal) q kv (ix4 b h s j)
    = Softmax.weight (Softmax.score (head q b h) (keys kv b h) s) j := by
  simp only [Softmax.weight, ← exp_apply q kv b h s]
  unfold val_main_v18 val_main_v17 val_main_v16 val_main_v15
  generalize val_main_v14 (F := Ideal) q kv = E
  pointwise [val_main_cst_2]

/-- The output at row `2048 b + s`, column `256 h + j`. -/
theorem out_apply (j : Fin 256) (i : (⟨2, ![4096, 1024]⟩ : Shape).Idx) (h0 : (i 0).val = b.val * 2048 + s.val)
    (h1 : (i 1).val = h.val * 256 + j.val) :
    val_main_v23 (F := Ideal) q kv i = Softmax.out (head q b h) (keys kv b h) (vals kv b h) s j := by
  rw [show i = ix2 ⟨b.val * 2048 + s.val, by omega⟩ ⟨h.val * 256 + j.val, by omega⟩ from (eq_ix2 i).trans (congrArg₂ ix2 (Fin.ext h0) (Fin.ext h1))]
  simp only [Softmax.out, ← weight_apply q kv b h s]
  unfold val_main_v23 val_main_v22 val_main_v21 val_main_v20 val_main_v19 val_main_v4 val_main_v2
  generalize val_main_v18 (F := Ideal) q kv = W
  pointwise []
  exact Finset.sum_congr rfl fun x _ => mul_comm _ _

end Cert.AttnFRef

/- The kernel. -/
namespace Cert.AttnF

open Cert.KernelAttnFIdeal Cert.KernelAttnFIdeal.Gen
open Cert.Attn (cols ld_cols rows)

section
variable (q : FVec Ideal S1024x256 .bf16) (k v : FVec Ideal S256x256 .bf16) (r : Fin 1024) (j : Fin 256)

/-- The four heads' stores, cut into payloads in different places. -/
theorem o0 : k0_pay2 (F := Ideal) q k v (ix2 r j) = Softmax.out (rows q) (rows k) (rows v) r j := by
  pointwise [k0_pay2]
  rfl

theorem o1 : k0_pay5 (F := Ideal) (k0_pay3 q k) (k0_pay4 q k) v (ix2 r j) = Softmax.out (rows q) (rows k) (rows v) r j := by
  pointwise [k0_pay3, k0_pay4, k0_pay5]
  rfl

theorem o2 : k0_pay6 (F := Ideal) q k v (ix2 r j) = Softmax.out (rows q) (rows k) (rows v) r j := by
  pointwise [k0_pay6]
  rfl

theorem o3 : k0_pay1 (F := Ideal) (k0_pay7 q k) v (ix2 r j) = Softmax.out (rows q) (rows k) (rows v) r j := by
  pointwise [k0_pay7, k0_pay1]
  rfl

end

section
variable (Q : FVec Ideal S1024x1024 .bf16) (KV : FVec Ideal S256x2048 .bf16)

/-- The block one point writes: column `256 h + j` is head `h`'s column `j`. -/
def arr (y : S1024x1024.Idx) : EReal :=
  Softmax.out (cols 0 (by omega) Q ⟨(y 1).val / 256, by have := (y 1).isLt; change (y 1).val < 1024 at this; omega⟩)
    (cols 0 (by omega) KV ⟨(y 1).val / 256, by have := (y 1).isLt; change (y 1).val < 1024 at this; omega⟩)
    (cols 1024 (by omega) KV ⟨(y 1).val / 256, by have := (y 1).isLt; change (y 1).val < 1024 at this; omega⟩) (y 0) ⟨(y 1).val % 256, by omega⟩

theorem arr_apply (y : S1024x1024.Idx) (h : Fin 4) (r : Fin 1024) (j : Fin 256) (h0 : (y 0).val = r.val) (h1 : (y 1).val = h.val * 256 + j.val) :
    arr Q KV y = Softmax.out (cols 0 (by omega) Q h) (cols 0 (by omega) KV h) (cols 1024 (by omega) KV h) r j := by
  have e1 : (⟨(y 1).val / 256, by have := (y 1).isLt; change (y 1).val < 1024 at this; omega⟩ : Fin 4) = h := Fin.ext (by show _ / 256 = _; omega)
  have e2 : (⟨(y 1).val % 256, by omega⟩ : Fin 256) = j := Fin.ext (by show _ % 256 = _; omega)
  unfold arr
  rw [e1, e2, show y 0 = r from Fin.ext h0]

/-- A head's store is a block of it. -/
theorem store (h : Fin 4) (o o2 : Nat) (ho : o = h.val * 256)
    (ho2 : o2 = 1024 + h.val * 256) (inb1 inb2 inb4)
    (P : FVec Ideal S1024x256 .bf16)
    (hP : ∀ r j, P (ix2 r j) = Softmax.out
      (rows (View.ld (Val := Elt Ideal) (e' := .bf16) Q (Rect.unit (s := S1024x1024) ![0, o] ![1024, 256] inb1)))
      (rows (View.ld (Val := Elt Ideal) (e' := .bf16) KV (Rect.unit (s := S256x2048) ![0, o] ![256, 256] inb2)))
      (rows (View.ld (Val := Elt Ideal) (e' := .bf16) KV (Rect.unit (s := S256x2048) ![0, o2] ![256, 256] inb4))) r j)
    (inb) (x : (Rect.unit (s := S1024x1024) ![0, o] ![1024, 256] inb).shape.Idx) :
    P x = arr Q KV ((Rect.unit (s := S1024x1024) ![0, o] ![1024, 256] inb).emb x) := by
  subst ho ho2
  obtain ⟨r, j, rfl⟩ : ∃ (r : Fin 1024) (j : Fin 256), x = ix2 r j := ⟨_, _, eq_ix2 x⟩
  rw [hP, arr_apply Q KV _ h r j (by rw [Rect.emb_apply]; show 0 + 1 * r.val = r.val; omega)
    (by rw [Rect.emb_apply]; show h.val * 256 + 1 * j.val = _; omega)]
  exact Softmax.out_congr (fun x => ld_cols _ _ _ _ _ _ _ rfl (by simp)) (fun u x => ld_cols _ _ _ _ _ _ _ rfl (by simp))
    (fun u x => ld_cols _ _ _ _ _ _ _ rfl (by simp; omega)) j

theorem out_eq (y : S1024x1024.Idx) : out0_2 (F := Ideal) Q KV y = arr Q KV y := by
  frame_out
  refine View.canon_append_of_piecesOf (Val := Elt Ideal) (e := .bf16) (arr Q KV) [] [_, _, _, _] ?_ y ?_
  · exact ⟨store _ _ 3 768 1792 rfl rfl _ _ _ _ (o3 _ _ _) (by decide), store _ _ 2 512 1536 rfl rfl _ _ _ _ (o2 _ _ _) (by decide),
     store _ _ 1 256 1280 rfl rfl _ _ _ _ (o1 _ _ _) (by decide), store _ _ 0 0 1024 rfl rfl _ _ _ _ (o0 _ _ _) (by decide), trivial⟩
  · exact View.cover_of_tiled _ ![1024, 256] rfl y

end

theorem idx : ∀ t : Fin cfg0.N, win0_0.index t = ![t.val, 0] ∧ win0_1.index t = ![t.val / 2, 0] ∧ win0_2.index t = ![t.val, 0] :=
  (by decide +kernel : ∀ t : Fin grid0.N, _)

variable (m : (ℓ : Loc nD τ sig) → Buf (Elt Ideal) ℓ) (c : Dev nD) (t : Fin cfg0.N)

/-- Row `r` of point `t`'s block of the queries is row `1024 (t % 2) + r` of batch row `t / 2`. -/
theorem read_q (b : Fin 2) (s : Fin 2048) (r : Fin 1024) (k : Fin 1024) (hr : t.val * 1024 + r.val = b.val * 2048 + s.val) :
    (show FVec Ideal S1024x1024 .bf16 from iblk m c 0 t) (ix2 r k) = m ((c : Thread nD τ).loc main_arg0) (ix3 b s k) := by
  blk_point [iblk, V, idx t]

theorem read_kv (b : Fin 2) (u : Fin 256) (k : Fin 2048) (hb : t.val / 2 = b.val) :
    (show FVec Ideal S256x2048 .bf16 from iblk m c 1 t) (ix2 u k) = m ((c : Thread nD τ).loc main_arg1) (ix3 b u k) := by
  blk_point [iblk, V, idx t]

/-- A point's block, at an index, is the plain output at the array's index. -/
theorem point (y : S1024x1024.Idx) (i : (⟨2, ![4096, 1024]⟩ : Shape).Idx)
    (h0 : (i 0).val = t.val * 1024 + (y 0).val) (h1 : (i 1).val = (y 1).val) :
    out0_2 (F := Ideal) (iblk m c 0 t) (iblk m c 1 t) y = Cert.ReferenceAttnFIdeal.Read.val_main_v23 (F := Ideal)
      (m ((c : Thread nD τ).loc main_arg0)) (m ((c : Thread nD τ).loc main_arg1)) i := by
  have ht : t.val < 4 := t.isLt
  obtain ⟨r, l, rfl⟩ : ∃ (r : Fin 1024) (l : Fin 1024), y = ix2 r l := ⟨_, _, eq_ix2 y⟩
  change (i 0).val = t.val * 1024 + r.val at h0
  change (i 1).val = l.val at h1
  obtain ⟨b, hb⟩ : ∃ b : Fin 2, t.val / 2 = b.val := ⟨⟨t.val / 2, by omega⟩, rfl⟩
  obtain ⟨s, hs⟩ : ∃ s : Fin 2048, t.val * 1024 + r.val = b.val * 2048 + s.val := ⟨⟨t.val % 2 * 1024 + r.val, by omega⟩, by show _ = _ + (_ + _); omega⟩
  obtain ⟨h, j, hl⟩ : ∃ (h : Fin 4) (j : Fin 256), l.val = h.val * 256 + j.val := ⟨⟨l.val / 256, by omega⟩, ⟨l.val % 256, by omega⟩, by show _ = _ / 256 * 256 + _ % 256; omega⟩
  rw [out_eq, arr_apply _ _ (ix2 r l) h r j rfl hl, AttnFRef.out_apply _ _ b h s j i (h0.trans hs) (h1.trans hl)]
  refine Softmax.out_congr (fun x => ?_) (fun u x => ?_) (fun u x => ?_) j
  · exact (read_q m c t b s r _ hs).trans (congrArg (fun z => m ((c : Thread nD τ).loc main_arg0) (ix3 b s z)) (Fin.ext (Nat.zero_add _)))
  · exact (read_kv m c t b u _ hb).trans (congrArg (fun z => m ((c : Thread nD τ).loc main_arg1) (ix3 b u z)) (Fin.ext (Nat.zero_add _)))
  · exact read_kv m c t b u _ hb

theorem final : (dats m 0 c).arrAt 2 cfg0.N = Cert.ReferenceAttnFIdeal.Read.val_main_v23 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  refine point m c t y _ ?_ ?_
  · blk_simp [idx t]
  · blk_simp [idx t]

/-- The kernel and the plain attention leave the same array. -/
theorem algebraic : Cert.algebraic_KernelAttnFIdeal_ReferenceAttnFIdeal := fun m g m' g' _ hag =>
  ⟨fun c => Cert.ReferenceAttnFIdeal.Read.val_main_v23 (F := Ideal) (m ((c : Thread nD τ).loc main_arg0)) (m ((c : Thread nD τ).loc main_arg1)),
    (θ_run _ _ _).mono (fun _ h c => ⟨(h c).1.trans (final m c), (h c).2⟩) (Cert.KernelAttnFIdeal.Value.run_blocks m g),
    (θ_run _ _ _).mono (fun _ h c => ⟨(h c).1.trans (by rw [Cert.ReferenceAttnFIdeal.Read.val_main_v23_eq, (hag c).1, (hag c).2]), (h c).2⟩)
      (Cert.ReferenceAttnFIdeal.Value.run m' g')⟩

end Cert.AttnF

end
-- ==== Proof.RmsF.lean ====
/- The first norm: the kernel and the plain lines leave the same array. -/
module

public import proofs.«01_k».proof.Defs
public import proofs.«01_k».proof.Proof.RmsNorm
public import proofs.«01_k».proof.Proof.Rows
public import proofs.«01_k».proof.Proof.Gen.KernelRmsFIdeal.Value
public import proofs.«01_k».proof.Proof.Gen.ReferenceRmsFIdeal.Read
public import Idealize.ShloMosaic.Lib.Pipeline.ReadBack

@[expose] public section

set_option maxRecDepth 16384

noncomputable section

open Idealize.ShloMosaic Idealize.ShloMosaic.TcCoe Idealize.SL.Sem

/- The plain lines. -/
namespace Cert.RmsFRef

open Cert.ReferenceRmsFIdeal Cert.ReferenceRmsFIdeal.Read

variable (x : FVec Ideal ⟨3, ![2, 2048, 1024]⟩ .f32) (g : FVec Ideal ⟨2, ![1, 1024]⟩ .f32) (b : Fin 2) (s : Fin 2048) (j : Fin 1024)

theorem inv_apply (i : Fin 1) : val_main_v8 (F := Ideal) x (ix3 b s i) = RmsNorm.inv fun k : Fin 1024 => x (ix3 b s k) := by
  unfold val_main_v8 val_main_v7 val_main_v6 val_main_v5 val_main_v4 val_main_v3 val_main_v2 val_main_v1 RmsNorm.inv RmsNorm.ms
  pointwise [val_main_cst, val_main_cst_0, val_main_cst_1]

/-- The normed row with its gain, at row `2048 b + s`. -/
theorem out_apply (i : (⟨2, ![4096, 1024]⟩ : Shape).Idx) (h0 : (i 0).val = b.val * 2048 + s.val) (h1 : (i 1).val = j.val) :
    val_main_v15 (F := Ideal) x g i = RmsNorm.hat (fun k : Fin 1024 => x (ix3 b s k)) j * g (ix2 0 j) := by
  rw [show i = ix2 ⟨b.val * 2048 + s.val, by omega⟩ j from (eq_ix2 i).trans (congrArg₂ ix2 (Fin.ext h0) (Fin.ext h1))]
  simp only [RmsNorm.hat, ← inv_apply x b s 0]
  unfold val_main_v15 val_main_v14 val_main_v13 val_main_v12 val_main_v11 val_main_v10 val_main_v9 val_main_v0
  generalize val_main_v8 (F := Ideal) x = X
  pointwise []

end Cert.RmsFRef

/- The kernel. -/
namespace Cert.RmsF

open Cert.KernelRmsFIdeal Cert.KernelRmsFIdeal.Gen Cert.Rows

theorem pay (x : FVec Ideal S1024x1024 .f32) (g : FVec Ideal S1x1024 .f32) (r : Fin 1024) (j : Fin 1024) :
    k0_pay1 (F := Ideal) x g (ix2 r j) = RmsNorm.hat (rows x r) j * rows g 0 j := by
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) (t : Fin cfg0.N)

theorem at_x (b : Fin 2) (s : Fin 2048) (r : Fin 1024) (k : Fin 1024) (hr : t.val * 1024 + r.val = b.val * 2048 + s.val) :
    (show FVec Ideal S1024x1024 .f32 from iblk m c 0 t) (ix2 r k) = m ((c : Thread nD τ).loc main_arg0) (ix3 b s k) := by
  blk_point [iblk, V, idx t]

theorem at_g (k : Fin 1024) :
    (show FVec Ideal S1x1024 .f32 from iblk m c 1 t) (ix2 0 k) = m ((c : Thread nD τ).loc main_arg1) (ix2 0 k) := by
  blk_point [iblk, V, idx t]

/-- A point's block, at an index, is the plain array at the array's index. -/
theorem point (y : S1024x1024.Idx) (i : (⟨2, ![4096, 1024]⟩ : Shape).Idx)
    (h0 : (i 0).val = t.val * 1024 + (y 0).val) (h1 : (i 1).val = (y 1).val) :
    out0_2 (F := Ideal) (iblk m c 0 t) (iblk m c 1 t) y = Cert.ReferenceRmsFIdeal.Read.val_main_v15 (F := Ideal)
      (m ((c : Thread nD τ).loc main_arg0)) (m ((c : Thread nD τ).loc main_arg1)) i := by
  have ht : t.val < 4 := t.isLt
  obtain ⟨r, l, rfl⟩ : ∃ (r : Fin 1024) (l : Fin 1024), y = ix2 r l := ⟨_, _, eq_ix2 y⟩
  change (i 0).val = t.val * 1024 + r.val at h0
  change (i 1).val = l.val at h1
  obtain ⟨b, hb⟩ : ∃ b : Fin 2, t.val / 2 = b.val := ⟨⟨t.val / 2, by omega⟩, rfl⟩
  obtain ⟨s, hs⟩ : ∃ s : Fin 2048, t.val * 1024 + r.val = b.val * 2048 + s.val := ⟨⟨t.val % 2 * 1024 + r.val, by omega⟩, by show _ = _ + (_ + _); omega⟩
  rw [RmsFRef.out_apply _ _ b s l i (h0.trans hs) h1]
  frame_out
  refine (pay (show FVec Ideal S1024x1024 .f32 from iblk m c 0 t) (show FVec Ideal S1x1024 .f32 from iblk m c 1 t) r l).trans ?_
  rw [show rows (show FVec Ideal S1024x1024 .f32 from iblk m c 0 t) r = fun k : Fin 1024 => m ((c : Thread nD τ).loc main_arg0) (ix3 b s k)
    from funext fun k => at_x m c t b s r k hs]
  exact congrArg _ (at_g m c t l)

theorem final : (dats m 0 c).arrAt 2 cfg0.N = Cert.ReferenceRmsFIdeal.Read.val_main_v15 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  refine point m c t y _ ?_ ?_
  · blk_simp [idx t]
  · blk_simp [idx t]

/-- The kernel and the plain norm leave the same array. -/
theorem algebraic : Cert.algebraic_KernelRmsFIdeal_ReferenceRmsFIdeal := fun m g m' g' _ hag =>
  ⟨fun c => Cert.ReferenceRmsFIdeal.Read.val_main_v15 (F := Ideal) (m ((c : Thread nD τ).loc main_arg0)) (m ((c : Thread nD τ).loc main_arg1)),
    (θ_run _ _ _).mono (fun _ h c => ⟨(h c).1.trans (final m c), (h c).2⟩) (Cert.KernelRmsFIdeal.Value.run_blocks m g),
    (θ_run _ _ _).mono (fun _ h c => ⟨(h c).1.trans (by rw [Cert.ReferenceRmsFIdeal.Read.val_main_v15_eq, (hag c).1, (hag c).2]), (h c).2⟩)
      (Cert.ReferenceRmsFIdeal.Value.run m' g')⟩

end Cert.RmsF

end
-- ==== Proof.ProjNorm.lean ====
/- An output projection with its residual and the next norm: the kernel and the plain lines leave the same two arrays. -/
module

public import proofs.«01_k».proof.Defs
public import proofs.«01_k».proof.Proof.RmsNorm
public import proofs.«01_k».proof.Proof.Rows
public import proofs.«01_k».proof.Proof.Gen.KernelProjNormIdeal.Value
public import proofs.«01_k».proof.Proof.Gen.ReferenceProjNormIdeal.Read
public import Idealize.ShloMosaic.Lib.Pipeline.ReadBack

@[expose] public section

set_option maxRecDepth 16384

noncomputable section

open Idealize.ShloMosaic Idealize.ShloMosaic.TcCoe Idealize.SL.Sem

/- The plain lines. -/
namespace Cert.ProjNormRef

open Cert.ReferenceProjNormIdeal Cert.ReferenceProjNormIdeal.Read

variable (a : FVec Ideal ⟨3, ![2, 2048, 1024]⟩ .f32) (w : FVec Ideal ⟨2, ![1024, 1024]⟩ .f32) (res : FVec Ideal ⟨3, ![2, 2048, 1024]⟩ .f32)
  (g : FVec Ideal ⟨2, ![1, 1024]⟩ .f32) (b : Fin 2) (s : Fin 2048) (j : Fin 1024)

/-- A row times the matrix, and the residual's row. -/
def line (j : Fin 1024) : EReal := (∑ k : Fin 1024, a (ix3 b s k) * w (ix2 k j)) + res (ix3 b s j)

theorem line_apply : val_main_v1 (F := Ideal) a w res (ix3 b s j) = line a w res b s j := by
  unfold val_main_v1 val_main_v0 line
  pointwise []
  exact add_comm _ _

theorem inv_apply (i : Fin 1) : val_main_v11 (F := Ideal) a w res (ix3 b s i) = RmsNorm.inv (line a w res b s) := by
  rw [← show (fun j => val_main_v1 (F := Ideal) a w res (ix3 b s j)) = line a w res b s from funext fun j => line_apply a w res b s j]
  unfold val_main_v11 val_main_v10 val_main_v9 val_main_v8 val_main_v7 val_main_v6 val_main_v5 val_main_v4 RmsNorm.inv RmsNorm.ms
  generalize val_main_v1 (F := Ideal) a w res = X
  pointwise [val_main_cst, val_main_cst_0, val_main_cst_1]

theorem sum_apply (i : (⟨2, ![4096, 1024]⟩ : Shape).Idx) (h0 : (i 0).val = b.val * 2048 + s.val) (h1 : (i 1).val = j.val) :
    val_main_v2 (F := Ideal) a w res i = line a w res b s j := by
  rw [show i = ix2 ⟨b.val * 2048 + s.val, by omega⟩ j from (eq_ix2 i).trans (congrArg₂ ix2 (Fin.ext h0) (Fin.ext h1))]
  rw [← line_apply]
  unfold val_main_v2
  generalize val_main_v1 (F := Ideal) a w res = X
  pointwise []

theorem norm_apply (i : (⟨2, ![4096, 1024]⟩ : Shape).Idx) (h0 : (i 0).val = b.val * 2048 + s.val) (h1 : (i 1).val = j.val) :
    val_main_v18 (F := Ideal) a w res g i = RmsNorm.hat (line a w res b s) j * g (ix2 0 j) := by
  rw [show i = ix2 ⟨b.val * 2048 + s.val, by omega⟩ j from (eq_ix2 i).trans (congrArg₂ ix2 (Fin.ext h0) (Fin.ext h1))]
  rw [RmsNorm.hat, ← inv_apply a w res b s 0, ← line_apply]
  unfold val_main_v18 val_main_v17 val_main_v16 val_main_v15 val_main_v14 val_main_v13 val_main_v12 val_main_v3
  generalize val_main_v11 (F := Ideal) a w res = I
  generalize val_main_v1 (F := Ideal) a w res = X
  pointwise []

end Cert.ProjNormRef

/- The kernel. -/
namespace Cert.ProjNorm

open Cert.KernelProjNormIdeal Cert.KernelProjNormIdeal.Gen Cert.Rows

section
variable (a w : FVec Ideal S1024x1024 .bf16) (res : FVec Ideal S1024x1024 .f32) (g : FVec Ideal S1x1024 .f32) (r : Fin 1024) (j : Fin 1024)

def line (j : Fin 1024) : EReal := (∑ k : Fin 1024, rows a r k * rows w k j) + rows res r j

theorem pay_line : k0_pay1 (F := Ideal) a w res (ix2 r j) = line a w res r j := by
  pointwise [k0_pay1]
  rfl

theorem pay_norm : k0_pay2 (F := Ideal) a w res g (ix2 r j) = RmsNorm.hat (line a w res r) j * rows g 0 j := by
  rw [← show (fun j => k0_pay1 (F := Ideal) a w res (ix2 r j)) = line a w res r from funext fun j => pay_line a w res r j]
  unfold k0_pay2 RmsNorm.hat RmsNorm.inv RmsNorm.ms
  generalize k0_pay1 (F := Ideal) a w res = X
  pointwise []

end

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ) (c : Dev nD) (t : Fin cfg0.N)

abbrev ba : FVec Ideal S1024x1024 .bf16 := show FVec Ideal S1024x1024 .bf16 from iblk m c 0 t
abbrev bw : FVec Ideal S1024x1024 .bf16 := show FVec Ideal S1024x1024 .bf16 from iblk m c 1 t
abbrev bres : FVec Ideal S1024x1024 .f32 := show FVec Ideal S1024x1024 .f32 from iblk m c 2 t
abbrev bg : FVec Ideal S1x1024 .f32 := show FVec Ideal S1x1024 .f32 from iblk m c 3 t
abbrev aa : FVec Ideal ⟨3, ![2, 2048, 1024]⟩ .f32 := m ((c : Thread nD τ).loc main_arg0)
abbrev aw : FVec Ideal ⟨2, ![1024, 1024]⟩ .f32 := m ((c : Thread nD τ).loc main_arg1)
abbrev ares : FVec Ideal ⟨3, ![2, 2048, 1024]⟩ .f32 := m ((c : Thread nD τ).loc main_arg2)
abbrev ag : FVec Ideal ⟨2, ![1, 1024]⟩ .f32 := m ((c : Thread nD τ).loc main_arg3)

theorem at_a (b : Fin 2) (s : Fin 2048) (r : Fin 1024) (k : Fin 1024) (hr : t.val * 1024 + r.val = b.val * 2048 + s.val) :
    (show FVec Ideal S1024x1024 .bf16 from iblk m c 0 t) (ix2 r k) = m ((c : Thread nD τ).loc main_arg0) (ix3 b s k) := by
  blk_point [iblk, V, idx t]

theorem at_w (i k : Fin 1024) :
    (show FVec Ideal S1024x1024 .bf16 from iblk m c 1 t) (ix2 i k) = m ((c : Thread nD τ).loc main_arg1) (ix2 i k) := by
  blk_point [iblk, V, idx t]

theorem at_res (b : Fin 2) (s : Fin 2048) (r : Fin 1024) (k : Fin 1024) (hr : t.val * 1024 + r.val = b.val * 2048 + s.val) :
    (show FVec Ideal S1024x1024 .f32 from iblk m c 2 t) (ix2 r k) = m ((c : Thread nD τ).loc main_arg2) (ix3 b s k) := by
  blk_point [iblk, V, idx t]

theorem at_g (k : Fin 1024) :
    (show FVec Ideal S1x1024 .f32 from iblk m c 3 t) (ix2 0 k) = m ((c : Thread nD τ).loc main_arg3) (ix2 0 k) := by
  blk_point [iblk, V, idx t]

/-- A point's row is the plain lines' row. -/
theorem line_eq (b : Fin 2) (s : Fin 2048) (r : Fin 1024) (hr : t.val * 1024 + r.val = b.val * 2048 + s.val) :
    line (ba m c t) (bw m c t) (bres m c t) r = ProjNormRef.line (aa m c) (aw m c) (ares m c) b s :=
  funext fun j => congrArg₂ (· + ·) (Finset.sum_congr rfl fun k _ => congrArg₂ (· * ·) (at_a m c t b s r k hr) (at_w m c t k j))
    (at_res m c t b s r j hr)

/-- The batch row and the row in it of a point's row. -/
theorem split (ht : t.val < 4) (r : Fin 1024) : ∃ (b : Fin 2) (s : Fin 2048), t.val * 1024 + r.val = b.val * 2048 + s.val :=
  ⟨⟨t.val / 2, by omega⟩, ⟨t.val % 2 * 1024 + r.val, by omega⟩, by show _ = _ / 2 * 2048 + (_ + _); omega⟩

/-- A point's two blocks, at an index, are the plain arrays at the array's index. -/
theorem point_sum (y : S1024x1024.Idx) (i : (⟨2, ![4096, 1024]⟩ : Shape).Idx)
    (h0 : (i 0).val = t.val * 1024 + (y 0).val) (h1 : (i 1).val = (y 1).val) :
    out0_4 (F := Ideal) (iblk m c 0 t) (iblk m c 1 t) (iblk m c 2 t) (iblk m c 3 t) y
      = Cert.ReferenceProjNormIdeal.Read.val_main_v2 (F := Ideal) (aa m c) (aw m c) (ares m c) i := by
  obtain ⟨r, l, rfl⟩ : ∃ (r : Fin 1024) (l : Fin 1024), y = ix2 r l := ⟨_, _, eq_ix2 y⟩
  change (i 0).val = t.val * 1024 + r.val at h0
  obtain ⟨b, s, hs⟩ := split t t.isLt r
  rw [ProjNormRef.sum_apply _ _ _ b s l i (h0.trans hs) h1, ← line_eq m c t b s r hs, ← pay_line]
  frame_out

theorem point_norm (y : S1024x1024.Idx) (i : (⟨2, ![4096, 1024]⟩ : Shape).Idx)
    (h0 : (i 0).val = t.val * 1024 + (y 0).val) (h1 : (i 1).val = (y 1).val) :
    out0_5 (F := Ideal) (iblk m c 0 t) (iblk m c 1 t) (iblk m c 2 t) (iblk m c 3 t) y
      = Cert.ReferenceProjNormIdeal.Read.val_main_v18 (F := Ideal) (aa m c) (aw m c) (ares m c) (ag m c) i := by
  obtain ⟨r, l, rfl⟩ : ∃ (r : Fin 1024) (l : Fin 1024), y = ix2 r l := ⟨_, _, eq_ix2 y⟩
  change (i 0).val = t.val * 1024 + r.val at h0
  obtain ⟨b, s, hs⟩ := split t t.isLt r
  rw [ProjNormRef.norm_apply _ _ _ _ b s l i (h0.trans hs) h1, ← line_eq m c t b s r hs,
    show ag m c (ix2 0 l) = rows (bg m c t) 0 l from (at_g m c t l).symm, ← pay_norm]
  frame_out

theorem final_sum : (dats m 0 c).arrAt 4 cfg0.N = Cert.ReferenceProjNormIdeal.Read.val_main_v2 (F := Ideal) (aa m c) (aw m c) (ares m c) := by
  refine (dats m 0 c).arrAt_eq_of_covers 4 _ (by decide +kernel) fun t hf y => ?_
  blk_simp
  rw [after0_4]
  refine point_sum m c t y _ ?_ ?_
  · blk_simp [idx t]
  · blk_simp [idx t]

theorem final_norm : (dats m 0 c).arrAt 5 cfg0.N = Cert.ReferenceProjNormIdeal.Read.val_main_v18 (F := Ideal) (aa m c) (aw m c) (ares m c) (ag m c) := by
  refine (dats m 0 c).arrAt_eq_of_covers 5 _ (by decide +kernel) fun t hf y => ?_
  blk_simp
  rw [after0_5]
  refine point_norm m c t y _ ?_ ?_
  · blk_simp [idx t]
  · blk_simp [idx t]

/-- The kernel and the plain lines leave the same arrays. -/
theorem algebraic : Cert.algebraic_KernelProjNormIdeal_ReferenceProjNormIdeal := fun m g m' g' _ hag =>
  ⟨fun c => Cert.ReferenceProjNormIdeal.Read.val_main_v2 (F := Ideal) (aa m c) (aw m c) (ares m c),
    fun c => Cert.ReferenceProjNormIdeal.Read.val_main_v18 (F := Ideal) (aa m c) (aw m c) (ares m c) (ag m c),
    (θ_run _ _ _).mono (fun _ h c => ⟨(h c).1.trans (final_sum m c), (h c).2.1.trans (final_norm m c), (h c).2.2⟩) (Cert.KernelProjNormIdeal.Value.run_blocks m g),
    (θ_run _ _ _).mono (fun _ h c => ⟨(h c).1.trans (by rw [Cert.ReferenceProjNormIdeal.Read.val_main_v2_eq, (hag c).1, (hag c).2.1, (hag c).2.2.1]),
      (h c).2.1.trans (by rw [Cert.ReferenceProjNormIdeal.Read.val_main_v18_eq, (hag c).1, (hag c).2.1, (hag c).2.2.1, (hag c).2.2.2]), (h c).2.2⟩)
      (Cert.ReferenceProjNormIdeal.Value.run m' g')⟩

end Cert.ProjNorm

end
-- ==== Proof.Conv3.lean ====
/- A causal depthwise convolution with three taps, column by column, and the gate `y · sigmoid y`: the sums the programs leave, and that
   three shifted windows of a chunk of rows with the rows before it give the convolution's rows. -/
module

public import proofs.«01_k».proof.Proof.LayerNorm

@[expose] public section

noncomputable section

open Idealize.ShloMosaic

namespace Cert.Conv3

variable {n : Nat}

/-- The entry `d` rows earlier, zero before the first row. -/
def back (x : Fin n → EReal) (d : Nat) (r : Fin n) : EReal := if h : d ≤ r.val then x ⟨r.val - d, by omega⟩ else 0

/-- Three taps and a bias. -/
def conv (w : Fin 3 → EReal) (b : EReal) (x : Fin n → EReal) (r : Fin n) : EReal :=
  b + w 0 * back x 2 r + w 1 * back x 1 r + w 2 * back x 0 r

/-- The gate. -/
def silu (y : EReal) : EReal := y * LayerNorm.sig y

/-- The taps of a chunk: `win` holds the rows from sixteen before the chunk's first row `R`. -/
theorem conv_window (w : Fin 3 → EReal) (b : EReal) (x : Fin n → EReal) (win : Fin 80 → EReal) (R : Nat)
    (hw : ∀ (i : Fin 80) (s : Fin n), R + i.val = s.val + 16 → win i = x s) (h0 : ∀ i : Fin 80, R + i.val < 16 → win i = 0)
    (r : Fin 64) (s : Fin n) (hs : s.val = R + r.val) :
    b + w 0 * win ⟨r.val + 14, by omega⟩ + w 1 * win ⟨r.val + 15, by omega⟩ + w 2 * win ⟨r.val + 16, by omega⟩ = conv w b x s := by
  have key : ∀ (d : Nat) (h : d ≤ 2), win ⟨r.val + (16 - d), by omega⟩ = back x d s := fun d h => by
    unfold back
    split
    · exact hw _ _ (by show _ + (_ + _) = _ - _ + 16; omega)
    · exact h0 _ (by show _ + (_ + _) < _; omega)
  exact congrArg₂ _ (congrArg₂ _ (congrArg₂ _ rfl (congrArg _ (key 2 (by omega)))) (congrArg _ (key 1 (by omega)))) (congrArg _ (key 0 (by omega)))

/-- The plain sum adds the bias last. -/
theorem conv_eq (w : Fin 3 → EReal) (b : EReal) (x : Fin n → EReal) (r : Fin n) :
    w 0 * back x 2 r + w 1 * back x 1 r + w 2 * back x 0 r + b = conv w b x r := by
  unfold conv
  rw [add_comm, ← add_assoc, ← add_assoc]

end Cert.Conv3

end
-- ==== Proof.GateFPay.lean ====
/- The gate kernel's chunks: the values it stores, entry by entry, and that its stores leave the convolution's rows. -/
module

public import proofs.«01_k».proof.Proof.Conv3
public import proofs.«01_k».proof.Proof.Rows
public import proofs.«01_k».proof.Proof.Gen.KernelGateFIdeal.Frame
public import Idealize.ShloMosaic.Lib.Pipeline.ReadBack
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem

namespace Cert.GateF

open Cert.KernelGateFIdeal Cert.KernelGateFIdeal.Gen

section
variable (b w0 w1 w2 : FVec Ideal S1x256 .f32) (r : Fin 64) (j : Fin 256)

theorem gate_pay (x : FVec Ideal S1x80x256 .bf16) : k0_pay5 (F := Ideal) x b w0 w1 w2 (ix2 r j)
    = b (ix2 0 j) + w0 (ix2 0 j) * x (ix3 0 ⟨r.val + 14, by omega⟩ j) + w1 (ix2 0 j) * x (ix3 0 ⟨r.val + 15, by omega⟩ j)
      + w2 (ix2 0 j) * x (ix3 0 ⟨r.val + 16, by omega⟩ j) := by
  pointwise [k0_pay5]
  rw [show (⟨8 + (r.val + 72 - 66) % 72, by omega⟩ : Fin 80) = ⟨r.val + 14, by omega⟩ from Fin.ext (by show _ + _ % _ = _ + _; omega),
    show (⟨8 + (r.val + 72 - 65) % 72, by omega⟩ : Fin 80) = ⟨r.val + 15, by omega⟩ from Fin.ext (by show _ + _ % _ = _ + _; omega),
    show (⟨8 + (8 + r.val), by omega⟩ : Fin 80) = ⟨r.val + 16, by omega⟩ from Fin.ext (by show _ + (_ + _) = _ + _; omega)]

theorem val_pay (x : FVec Ideal S80x256 .bf16) : k0_pay7 (F := Ideal) x b w0 w1 w2 (ix2 r j)
    = b (ix2 0 j) + w0 (ix2 0 j) * x (ix2 ⟨r.val + 14, by omega⟩ j) + w1 (ix2 0 j) * x (ix2 ⟨r.val + 15, by omega⟩ j)
      + w2 (ix2 0 j) * x (ix2 ⟨r.val + 16, by omega⟩ j) := by
  pointwise [k0_pay7]
  rw [show (⟨8 + (r.val + 72 - 66) % 72, by omega⟩ : Fin 80) = ⟨r.val + 14, by omega⟩ from Fin.ext (by show _ + _ % _ = _ + _; omega),
    show (⟨8 + (r.val + 72 - 65) % 72, by omega⟩ : Fin 80) = ⟨r.val + 15, by omega⟩ from Fin.ext (by show _ + _ % _ = _ + _; omega),
    show (⟨8 + (8 + r.val), by omega⟩ : Fin 80) = ⟨r.val + 16, by omega⟩ from Fin.ext (by show _ + (_ + _) = _ + _; omega)]

/-- The block's column before the first chunk: sixteen zeros, then the chunk's rows. -/
theorem halo (t : Fin cfg0.N) (v : FVec Ideal S2x16x256 .bf16) : k0_pay10 (F := Ideal) (grid0.coords t) v = fun _ => 0 := by
  have hrem : ∀ t : Fin cfg0.N, Scalar.remsi (BitVec.ofNat 32 (grid0.coords t 1).val) 1#32 = 0#32 := by decide +kernel
  funext y
  pointwise [k0_pay10]
  rw [hrem t]
  exact if_pos (by decide)

theorem first_win (t : Fin cfg0.N) (v : FVec Ideal S2x16x256 .bf16) (x : FVec Ideal S1x64x256 .bf16) (i : Fin 80) :
    k0_pay11 (F := Ideal) (grid0.coords t) v x (ix2 i j) = if h : i.val < 16 then 0 else x (ix3 0 ⟨i.val - 16, by omega⟩ j) := by
  unfold k0_pay11
  rw [halo t v]
  pointwise []

theorem first_gate (t : Fin cfg0.N) (v : FVec Ideal S2x16x256 .bf16) (x : FVec Ideal S1x64x256 .bf16) :
    k0_pay17 (F := Ideal) (k0_pay13 (grid0.coords t) v x) (k0_pay14 (grid0.coords t) v x) (k0_pay15 (grid0.coords t) v x) (k0_pay16 b) w0 w1 w2 (ix2 r j)
    = k0_pay7 (F := Ideal) (k0_pay11 (F := Ideal) (grid0.coords t) v x) b w0 w1 w2 (ix2 r j) := by
  unfold k0_pay17 k0_pay15 k0_pay14 k0_pay13 k0_pay12 k0_pay7 k0_pay11
  rw [halo t v]
  pointwise [k0_pay16]

theorem first_val (x : FVec Ideal S80x256 .bf16) :
    k0_pay1 (F := Ideal) (k0_pay20 x) (k0_pay21 x b w0 w1) (k0_pay22 w2) (ix2 r j) = k0_pay7 (F := Ideal) x b w0 w1 w2 (ix2 r j) := by
  pointwise [k0_pay1, k0_pay20, k0_pay21, k0_pay22, k0_pay19, k0_pay7]

end

theorem offs : ∀ k : Fin k0_t1_loop.trips, k0_off1 k = ![0, 64 * k.val + 48, 0] ∧ k0_off2 k = ![1, 64 * k.val + 48, 0]
    ∧ k0_off3 k = ![0, 64 * k.val + 64, 0] ∧ k0_off4 k = ![1, 64 * k.val + 64, 0] ∧ k0_off5 k = ![64 * k.val + 64, 0] := by decide +kernel

/-- A load of a block through a whole buffer reads the block. -/
theorem readAt_ld {s : Shape} {e : EltTy} (a : Memref sig .tc .vmem s e) (h : a.IsWhole) (X : s.Idx → Elt Ideal e) (R : Rect s) :
    View.readAt (Elt Ideal) a.view R.toLoadRect (h.unread X) = View.ld (Val := Elt Ideal) X R := funext fun x => h.readAt_unread X R.toLoadRect x

/-- Stores that are blocks of `G` and cover a place leave `G` there. -/
theorem canon_of_blocks {s : Shape} {e : EltTy} (G : s.Idx → Elt Ideal e) (L : List (View.Piece (Elt Ideal) s e)) (y : s.Idx)
    (hc : ∃ p ∈ L, y ∈ p.1.set) (h : ∀ p ∈ L, ∀ x, p.2 x = G (p.1.emb x)) : View.canon (Val := Elt Ideal) L y = G y := by
  have := View.canon_append_of_pieces (Val := Elt Ideal) G [] L h y hc
  rwa [List.append_nil] at this

section
variable (U : FVec Ideal S2x2048x256 .bf16) (Wg Wv : FVec Ideal S8x256 .f32) (bg bv : FVec Ideal S1x256 .f32)

/-- The three taps of a weights' block. -/
abbrev tap (W : FVec Ideal S8x256 .f32) (j : Fin 256) (q : Fin 3) : EReal := W (ix2 ⟨q.val, by omega⟩ j)

/-- A half's column of a block of rows. -/
abbrev col (g : Fin 2) (j : Fin 256) (r : Fin 2048) : EReal := U (ix3 g r j)

/-- The convolution of one column of a block. -/
def half (g : Fin 2) (W : FVec Ideal S8x256 .f32) (b : FVec Ideal S1x256 .f32) (r : Fin 2048) (j : Fin 256) : EReal :=
  Conv3.conv (tap W j) (b (ix2 0 j)) (col U g j) r

/-- The block of gated values. -/
def G6 (y : S2048x256.Idx) : EReal := Conv3.silu (half U 0 Wg bg (y 0) (y 1)) * half U 1 Wv bv (y 0) (y 1)

/-- The block of convolved values. -/
def G7 (y : S2x2048x256.Idx) : EReal := if (y 0).val = 0 then half U 0 Wg bg (y 1) (y 2) else half U 1 Wv bv (y 1) (y 2)

abbrev wrow (W : FVec Ideal S8x256 .f32) (o : Nat) (inb : ∀ i, (![o, 0] : Fin 2 → Nat) i + (![1, 256] : Fin 2 → Nat) i ≤ S8x256.size i) :
    FVec Ideal S1x256 .f32 := View.ld (Val := Elt Ideal) (e' := .f32) W (Rect.unit (s := S8x256) ![o, 0] ![1, 256] inb)

theorem wrow_apply (W : FVec Ideal S8x256 .f32) (o : Nat) (inb : ∀ i, (![o, 0] : Fin 2 → Nat) i + (![1, 256] : Fin 2 → Nat) i ≤ S8x256.size i)
    (u : Fin 8) (j : Fin 256) (hu : u.val = o) : wrow W o inb (ix2 0 j) = W (ix2 u j) :=
  Rows.ld_row (e := .f32) W o inb u j hu

/-- The three taps over a window of 80 rows. -/
theorem taps_eq (g : Fin 2) (W : FVec Ideal S8x256 .f32) (b : FVec Ideal S1x256 .f32) (x : FVec Ideal S80x256 .bf16) (R : Nat) (j : Fin 256)
    (hw : ∀ (i : Fin 80) (s : Fin 2048), R + i.val = s.val + 16 → x (ix2 i j) = U (ix3 g s j)) (h0 : ∀ i : Fin 80, R + i.val < 16 → x (ix2 i j) = 0)
    (r : Fin 64) (s : Fin 2048) (hs : s.val = R + r.val) :
    k0_pay7 (F := Ideal) x b (wrow W 0 inb_S8x256_S1x256_0_0) (wrow W 1 inb_S8x256_S1x256_1_0) (wrow W 2 inb_S8x256_S1x256_2_0) (ix2 r j)
      = half U g W b s j := by
  rw [val_pay, wrow_apply W 0 _ 0 j rfl, wrow_apply W 1 _ 1 j rfl, wrow_apply W 2 _ 2 j rfl]
  exact Conv3.conv_window (tap W j) (b (ix2 0 j)) (col U g j) (fun i => x (ix2 i j)) R hw h0 r s hs

/-- A later chunk's window of half `g`. -/
theorem later_win (k : Fin k0_t1_loop.trips) (g : Fin 2) (off : Fin 3 → Nat) (hoff : off = ![g.val, 64 * k.val + 48, 0])
    (inb : ∀ a, off a + (![1, 80, 256] : Fin 3 → Nat) a ≤ S2x2048x256.size a) (i : Fin 80) (j : Fin 256) (s : Fin 2048)
    (h : 64 * k.val + 64 + i.val = s.val + 16) :
    View.ld (Val := Elt Ideal) (e' := .bf16) U (Rect.unit (s := S2x2048x256) off ![1, 80, 256] inb) (ix3 0 i j) = U (ix3 g s j) := by
  subst hoff
  refine View.ld_unit_apply_of _ _ _ _ _ _ fun a => ?_
  match a with
  | ⟨0, _⟩ => show g.val = g.val + 0; omega
  | ⟨1, _⟩ => show s.val = 64 * k.val + 48 + i.val; omega
  | ⟨2, _⟩ => show j.val = 0 + j.val; omega

theorem ld_bias (b : FVec Ideal S1x256 .f32) :
    View.ld (Val := Elt Ideal) (e' := .f32) b (Rect.unit (s := S1x256) ![0, 0] ![1, 256] inb_S1x256_S1x256_0_0) = b := funext fun y =>
  View.ld_unit_apply_of _ _ _ _ _ _ fun a => by
    match a with
    | ⟨0, _⟩ => show (y 0).val = 0 + (y 0).val; omega
    | ⟨1, _⟩ => show (y 1).val = 0 + (y 1).val; omega

theorem first_stored (v28 v30 v31 : FVec Ideal S64x256 .f32) (v33 w0 w1 w2 : FVec Ideal S1x256 .f32) (r : Fin 64) (j : Fin 256) :
    k0_pay18 (F := Ideal) v28 v30 v31 v33 w0 w1 w2 (ix3 0 r j) = k0_pay17 (F := Ideal) v28 v30 v31 v33 w0 w1 w2 (ix2 r j) := by
  unfold k0_pay18
  generalize k0_pay17 (F := Ideal) _ _ _ _ _ _ _ = X
  pointwise []

theorem first_stored' (a b d : FVec Ideal S64x256 .f32) (r : Fin 64) (j : Fin 256) :
    k0_pay2 (F := Ideal) a b d (ix3 0 r j) = k0_pay1 (F := Ideal) a b d (ix2 r j) := by
  unfold k0_pay2
  generalize k0_pay1 (F := Ideal) _ _ _ = X
  pointwise []

theorem first_gated (v a b d : FVec Ideal S64x256 .f32) (r : Fin 64) (j : Fin 256) :
    k0_pay3 (F := Ideal) v a b d (ix2 r j) = Conv3.silu (v (ix2 r j)) * k0_pay1 (F := Ideal) a b d (ix2 r j) := by
  unfold k0_pay3
  generalize k0_pay1 (F := Ideal) _ _ _ = X
  pointwise []
  rfl

theorem gated_pay (x : FVec Ideal S80x256 .bf16) (v : FVec Ideal S64x256 .f32) (b w0 w1 w2 : FVec Ideal S1x256 .f32) (r : Fin 64) (j : Fin 256) :
    k0_pay9 (F := Ideal) x v b w0 w1 w2 (ix2 r j) = Conv3.silu (v (ix2 r j)) * k0_pay7 (F := Ideal) x b w0 w1 w2 (ix2 r j) := by
  unfold k0_pay9
  generalize k0_pay7 (F := Ideal) x b w0 w1 w2 = X
  pointwise []
  rfl

theorem gate_pay' (x : FVec Ideal S1x80x256 .bf16) (b w0 w1 w2 : FVec Ideal S1x256 .f32) (r : Fin 64) (j : Fin 256) :
    k0_pay5 (F := Ideal) x b w0 w1 w2 (ix2 r j) = k0_pay7 (F := Ideal) (k0_pay4 x) b w0 w1 w2 (ix2 r j) := by
  pointwise [k0_pay4, k0_pay5, k0_pay7]

/-- The convolution in a later chunk's rows. -/
theorem later_half (k : Fin k0_t1_loop.trips) (g : Fin 2) (W : FVec Ideal S8x256 .f32) (b : FVec Ideal S1x256 .f32) (off : Fin 3 → Nat)
    (hoff : off = ![g.val, 64 * k.val + 48, 0]) (inb : ∀ a, off a + (![1, 80, 256] : Fin 3 → Nat) a ≤ S2x2048x256.size a) (r : Fin 64) (j : Fin 256)
    (s : Fin 2048) (hs : s.val = 64 * k.val + 64 + r.val) :
    k0_pay7 (F := Ideal) (k0_pay4 (View.ld (Val := Elt Ideal) (e' := .bf16) U (Rect.unit (s := S2x2048x256) off ![1, 80, 256] inb))) b
      (wrow W 0 inb_S8x256_S1x256_0_0) (wrow W 1 inb_S8x256_S1x256_1_0) (wrow W 2 inb_S8x256_S1x256_2_0) (ix2 r j) = half U g W b s j := by
  refine taps_eq U g W b _ (64 * k.val + 64) j (fun i s h => ?_) (fun i h => absurd h (by omega)) r s hs
  refine Eq.trans ?_ (later_win U k g off hoff inb i j s h)
  pointwise [k0_pay4]

/-- The convolution in the first chunk's rows. -/
theorem first_half (t : Fin cfg0.N) (v : FVec Ideal S2x16x256 .bf16) (g : Fin 2) (W : FVec Ideal S8x256 .f32) (b : FVec Ideal S1x256 .f32)
    (inb : ∀ a, (![g.val, 0, 0] : Fin 3 → Nat) a + (![1, 64, 256] : Fin 3 → Nat) a ≤ S2x2048x256.size a) (r : Fin 64) (j : Fin 256)
    (s : Fin 2048) (hs : s.val = r.val) :
    k0_pay7 (F := Ideal) (k0_pay11 (F := Ideal) (grid0.coords t) v (View.ld (Val := Elt Ideal) (e' := .bf16) U (Rect.unit (s := S2x2048x256) ![g.val, 0, 0] ![1, 64, 256] inb))) b
      (wrow W 0 inb_S8x256_S1x256_0_0) (wrow W 1 inb_S8x256_S1x256_1_0) (wrow W 2 inb_S8x256_S1x256_2_0) (ix2 r j) = half U g W b s j := by
  refine taps_eq U g W b _ 0 j (fun i s h => ?_) (fun i h => ?_) r s (by omega)
  · rw [first_win, dif_neg (by omega)]
    refine View.ld_unit_apply_of _ _ _ _ _ _ fun a => ?_
    match a with
    | ⟨0, _⟩ => show g.val = g.val + 0; omega
    | ⟨1, _⟩ => show s.val = 0 + (i.val - 16); omega
    | ⟨2, _⟩ => show j.val = 0 + j.val; omega
  · rw [first_win, dif_pos (by omega)]

/-- A chunk's store into the gated block is a block of it. -/
theorem chunk6 (off : Fin 2 → Nat) (R : Nat) (hoff : off = ![R, 0]) (inb : ∀ a, off a + (![64, 256] : Fin 2 → Nat) a ≤ S2048x256.size a)
    (w : S64x256.Idx → EReal) (hw : ∀ (r : Fin 64) (j : Fin 256) (s : Fin 2048), s.val = R + r.val →
      w (ix2 r j) = Conv3.silu (half U 0 Wg bg s j) * half U 1 Wv bv s j) (x : S64x256.Idx) :
    w x = G6 U Wg Wv bg bv ((Rect.unit (s := S2048x256) off ![64, 256] inb).emb x) := by
  subst hoff
  obtain ⟨r, j, rfl⟩ : ∃ (r : Fin 64) (j : Fin 256), x = ix2 r j := ⟨_, _, eq_ix2 x⟩
  have hR : R + 64 ≤ 2048 := inb 0
  rw [hw r j ⟨R + r.val, by omega⟩ rfl, show (Rect.unit (s := S2048x256) ![R, 0] ![64, 256] inb).emb (ix2 r j) = ix2 ⟨R + r.val, by omega⟩ j from
    funext fun a => Fin.ext (by
      rw [Rect.emb_apply]
      match a with
      | ⟨0, _⟩ => show R + 1 * r.val = R + r.val; omega
      | ⟨1, _⟩ => show 0 + 1 * j.val = j.val; omega)]
  rfl

/-- A chunk's store into the convolved block is a block of it. -/
theorem chunk7 (g : Fin 2) (off : Fin 3 → Nat) (R : Nat) (hoff : off = ![g.val, R, 0])
    (inb : ∀ a, off a + (![1, 64, 256] : Fin 3 → Nat) a ≤ S2x2048x256.size a)
    (w : S1x64x256.Idx → EReal) (hw : ∀ (r : Fin 64) (j : Fin 256) (s : Fin 2048), s.val = R + r.val →
      w (ix3 0 r j) = if g.val = 0 then half U 0 Wg bg s j else half U 1 Wv bv s j) (x : S1x64x256.Idx) :
    w x = G7 U Wg Wv bg bv ((Rect.unit (s := S2x2048x256) off ![1, 64, 256] inb).emb x) := by
  subst hoff
  obtain ⟨u, r, j, rfl⟩ : ∃ (u : Fin 1) (r : Fin 64) (j : Fin 256), x = ix3 u r j := ⟨_, _, _, eq_ix3 x⟩
  obtain rfl : u = 0 := Subsingleton.elim _ _
  have hR : R + 64 ≤ 2048 := inb 1
  rw [hw r j ⟨R + r.val, by omega⟩ rfl, show (Rect.unit (s := S2x2048x256) ![g.val, R, 0] ![1, 64, 256] inb).emb (ix3 0 r j) = ix3 g ⟨R + r.val, by omega⟩ j from
    funext fun a => Fin.ext (by
      rw [Rect.emb_apply]
      match a with
      | ⟨0, _⟩ => show g.val + 1 * 0 = g.val; omega
      | ⟨1, _⟩ => show R + 1 * r.val = R + r.val; omega
      | ⟨2, _⟩ => show 0 + 1 * j.val = j.val; omega)]
  rfl

section
variable (𝒱 : Variants) (c : Dev nD) (bd : Option 𝒱.V) (i : grid0.Coords) (a2 : Memref sig .tc .vmem S2x2048x256 .bf16) (h2 : a2.IsWhole)
  (a3 : Memref sig .tc .vmem S2x16x256 .bf16) (h3 : a3.IsWhole) (a4 : Memref sig .tc .vmem S8x256 .f32) (h4 : a4.IsWhole)
  (a5 : Memref sig .tc .vmem S8x256 .f32) (h5 : a5.IsWhole) (a6 : Memref sig .tc .vmem S1x256 .f32) (h6 : a6.IsWhole)
  (a7 : Memref sig .tc .vmem S1x256 .f32) (h7 : a7.IsWhole) (a8 : Memref sig .tc .vmem S2048x256 .bf16) (h8 : a8.IsWhole)
  (a9 : Memref sig .tc .vmem S2x2048x256 .bf16) (h9 : a9.IsWhole)

/-- Every store of a trip is a block of the gated values. -/
theorem trip6 (k : Fin k0_t1_loop.trips) : ∀ p ∈ (tripL_k0_t1 (F := Ideal) 𝒱 c bd i a2 h2 a3 h3 a4 h4 a5 h5 a6 h6 a7 h7 a8 h8 a9 h9
    (h2.unread U) (h4.unread Wg) (h5.unread Wv) (h6.unread bg) (h7.unread bv) k).1, ∀ x, p.2 x = G6 U Wg Wv bg bv (p.1.emb x) := by
  obtain ⟨o1, o2, o3, o4, o5⟩ := offs k
  unfold tripL_k0_t1 trip_k0_t1
  dsimp only
  intro p hp
  obtain rfl := List.mem_singleton.mp hp
  refine chunk6 U Wg Wv bg bv _ _ o5 (k0_off5_inb k) _ fun r j s hs => ?_
  unfold trip_k0_t1.sl.r_3 trip_k0_t1.sl.r_1 trip_k0_t1.sl.r
  simp only [readAt_ld]
  rw [gated_pay, gate_pay', ld_bias, ld_bias]
  exact congrArg₂ _ (congrArg _ (later_half U k 0 Wg bg _ o1 _ r j s hs)) (later_half U k 1 Wv bv _ o2 _ r j s hs)

/-- Every store of a trip is a block of the convolved values. -/
theorem trip7 (k : Fin k0_t1_loop.trips) : ∀ p ∈ (tripL_k0_t1 (F := Ideal) 𝒱 c bd i a2 h2 a3 h3 a4 h4 a5 h5 a6 h6 a7 h7 a8 h8 a9 h9
    (h2.unread U) (h4.unread Wg) (h5.unread Wv) (h6.unread bg) (h7.unread bv) k).2, ∀ x, p.2 x = G7 U Wg Wv bg bv (p.1.emb x) := by
  obtain ⟨o1, o2, o3, o4, o5⟩ := offs k
  unfold tripL_k0_t1 trip_k0_t1
  dsimp only
  intro p hp
  rcases List.mem_cons.mp hp with rfl | hp
  · refine chunk7 U Wg Wv bg bv 1 _ _ o4 (k0_off4_inb k) _ fun r j s hs => ?_
    rw [if_neg (by decide)]
    refine Eq.trans ?_ (later_half U k 1 Wv bv _ o2 (k0_off2_inb k) r j s hs)
    unfold trip_k0_t1.sl.r k0_pay8
    simp only [readAt_ld]
    rw [ld_bias]
    generalize k0_pay7 (F := Ideal) _ _ _ _ _ = X
    pointwise []
  · obtain rfl := List.mem_singleton.mp hp
    refine chunk7 U Wg Wv bg bv 0 _ _ o3 (k0_off3_inb k) _ fun r j s hs => ?_
    rw [if_pos (show (0 : Fin 2).val = 0 from rfl)]
    refine Eq.trans ?_ (later_half U k 0 Wg bg _ o1 (k0_off1_inb k) r j s hs)
    rw [← gate_pay']
    unfold trip_k0_t1.sl.r_2 k0_pay6
    simp only [readAt_ld]
    rw [ld_bias]
    generalize k0_pay5 (F := Ideal) _ _ _ _ _ = X
    pointwise []

/-- Every store of the trips before `n`. -/
theorem trips (n : Nat) (hn : n ≤ k0_t1_loop.trips) :
    (∀ p ∈ (pb_k0_t1 (F := Ideal) 𝒱 c bd i a2 h2 a3 h3 a4 h4 a5 h5 a6 h6 a7 h7 a8 h8 a9 h9
      (h2.unread U) (h4.unread Wg) (h5.unread Wv) (h6.unread bg) (h7.unread bv) n).1, ∀ x, p.2 x = G6 U Wg Wv bg bv (p.1.emb x))
    ∧ ∀ p ∈ (pb_k0_t1 (F := Ideal) 𝒱 c bd i a2 h2 a3 h3 a4 h4 a5 h5 a6 h6 a7 h7 a8 h8 a9 h9
      (h2.unread U) (h4.unread Wg) (h5.unread Wv) (h6.unread bg) (h7.unread bv) n).2, ∀ x, p.2 x = G7 U Wg Wv bg bv (p.1.emb x) := by
  induction n with
  | zero => exact ⟨fun p hp => absurd hp List.not_mem_nil, fun p hp => absurd hp List.not_mem_nil⟩
  | succ n ih =>
    have ih := ih (by omega)
    have hs := pb_k0_t1_succ (F := Ideal) 𝒱 c bd i a2 h2 a3 h3 a4 h4 a5 h5 a6 h6 a7 h7 a8 h8 a9 h9
      (h2.unread U) (h4.unread Wg) (h5.unread Wv) (h6.unread bg) (h7.unread bv) ⟨n, hn⟩
    dsimp only at hs
    rw [hs]
    exact ⟨fun p hp => (List.mem_append.mp hp).elim (trip6 U Wg Wv bg bv 𝒱 c bd i a2 h2 a3 h3 a4 h4 a5 h5 a6 h6 a7 h7 a8 h8 a9 h9 ⟨n, hn⟩ p) (ih.1 p),
      fun p hp => (List.mem_append.mp hp).elim (trip7 U Wg Wv bg bv 𝒱 c bd i a2 h2 a3 h3 a4 h4 a5 h5 a6 h6 a7 h7 a8 h8 a9 h9 ⟨n, hn⟩ p) (ih.2 p)⟩

end

end

end Cert.GateF

end
-- ==== Proof.GateFRef.lean ====
/- The plain gate's arrays, entry by entry. -/
module

public import proofs.«01_k».proof.Proof.Conv3
public import proofs.«01_k».proof.Proof.Gen.ReferenceGateFIdeal.Read
public import Idealize.ShloMosaic.Lib.Pipeline.ValueKit

@[expose] public section

set_option maxRecDepth 16384

noncomputable section

open Idealize.ShloMosaic Idealize.ShloMosaic.TcCoe Idealize.SL.Sem

namespace Cert.GateFRef

open Cert.ReferenceGateFIdeal Cert.ReferenceGateFIdeal.Read

variable (up : FVec Ideal ⟨3, ![2, 2048, 5632]⟩ .f32) (fw : FVec Ideal ⟨2, ![3, 5632]⟩ .f32) (fb : FVec Ideal ⟨1, ![5632]⟩ .f32)

/-- The convolution of a column. -/
def u (b : Fin 2) (s : Fin 2048) (k : Fin 5632) : EReal :=
  Conv3.conv (fun q => fw (ix2 q k)) (fb (ix1 k)) (fun r : Fin 2048 => up (ix3 b r k)) s

theorem pad_apply (b : Fin 2) (s : Fin 2050) (r : Fin 2048) (d : Nat) (h : s.val + d = r.val + 2) (k : Fin 5632) :
    val_main_v1 (F := Ideal) up (ix3 b s k) = Conv3.back (fun r : Fin 2048 => up (ix3 b r k)) d r := by
  unfold val_main_v1 val_main_v0 Conv3.back
  pointwise [val_main_cst]
  by_cases hs : s.val < 2
  · rw [dif_pos hs, dif_neg (by omega)]
  · rw [dif_neg hs, dif_pos (by omega)]
    exact congrArg (fun q => up (ix3 b q k)) (Fin.ext (by show _ - _ = _ - _; omega))

theorem u_apply (b : Fin 2) (s : Fin 2048) (k : Fin 5632) : val_main_v24 (F := Ideal) up fw fb (ix3 b s k) = u up fw fb b s k := by
  unfold u
  rw [← Conv3.conv_eq, ← pad_apply up b ⟨s.val, by omega⟩ s 2 rfl k, ← pad_apply up b ⟨1 + s.val, by omega⟩ s 1 (by show 1 + s.val + 1 = _; omega) k,
    ← pad_apply up b ⟨2 + s.val, by omega⟩ s 0 (by show 2 + s.val + 0 = _; omega) k]
  unfold val_main_v24 val_main_v23 val_main_v22 val_main_v21 val_main_v20 val_main_v19 val_main_v18 val_main_v17 val_main_v16 val_main_v15
    val_main_v14 val_main_v13 val_main_v12 val_main_v11 val_main_v10 val_main_v9 val_main_v8 val_main_v7 val_main_v6 val_main_v5 val_main_v4
    val_main_v3 val_main_v2
  generalize val_main_v1 (F := Ideal) up = X
  pointwise []

/-- The gated values, at row `2048 b + s`. -/
theorem a_apply (b : Fin 2) (s : Fin 2048) (k : Fin 2816) (kg kv : Fin 5632) (hg : kg.val = k.val) (hv : kv.val = 2816 + k.val)
    (i : (⟨2, ![4096, 2816]⟩ : Shape).Idx) (h0 : (i 0).val = b.val * 2048 + s.val) (h1 : (i 1).val = k.val) :
    val_main_v30 (F := Ideal) up fw fb i = Conv3.silu (u up fw fb b s kg) * u up fw fb b s kv := by
  rw [show i = ix2 ⟨b.val * 2048 + s.val, by omega⟩ k from (eq_ix2 i).trans (congrArg₂ ix2 (Fin.ext h0) (Fin.ext h1))]
  rw [show kg = ⟨k.val, k.isLt.trans (by decide)⟩ from Fin.ext hg, show kv = ⟨2816 + k.val, Nat.add_lt_add_left k.isLt 2816⟩ from Fin.ext hv]
  simp only [← u_apply, Conv3.silu, LayerNorm.sig, zero_sub]
  unfold val_main_v30 val_main_v29 val_main_v28 val_main_v27 val_main_call0_v5 val_main_call0_v4 val_main_call0_v3 val_main_call0_v2
    val_main_call0_v1 val_main_call0_v0 val_main_v26 val_main_v25
  generalize val_main_v24 (F := Ideal) up fw fb = X
  pointwise [val_main_call0_cst, val_main_call0_cst_0]

/-- The convolved values, half `g`, at row `2048 b + s`. -/
theorem uc_apply (b : Fin 2) (s : Fin 2048) (g : Fin 2) (k : Fin 2816) (kg : Fin 5632) (hk : kg.val = g.val * 2816 + k.val)
    (i : (⟨3, ![2, 4096, 2816]⟩ : Shape).Idx) (hg : (i 0).val = g.val) (h0 : (i 1).val = b.val * 2048 + s.val) (h1 : (i 2).val = k.val) :
    val_main_v33 (F := Ideal) up fw fb i = u up fw fb b s kg := by
  rw [show i = ix3 g ⟨b.val * 2048 + s.val, by omega⟩ k from funext fun a => by
    match a with
    | ⟨0, _⟩ => exact Fin.ext hg
    | ⟨1, _⟩ => exact Fin.ext h0
    | ⟨2, _⟩ => exact Fin.ext h1]
  rw [← u_apply]
  rw [show kg = ⟨g.val * 2816 + k.val, by omega⟩ from Fin.ext hk]
  unfold val_main_v33 val_main_v32 val_main_v31
  generalize val_main_v24 (F := Ideal) up fw fb = X
  pointwise []

end Cert.GateFRef

end
-- ==== Proof.GateF.lean ====
/- The ConvFFN's gate: the kernel and the plain lines leave the same arrays. -/
module

public import proofs.«01_k».proof.Defs
public import proofs.«01_k».proof.Proof.GateFPay
public import proofs.«01_k».proof.Proof.GateFRef
public import proofs.«01_k».proof.Proof.Gen.KernelGateFIdeal.Value
public import proofs.«01_k».proof.Proof.Gen.ReferenceGateFIdeal.Run

@[expose] public section

set_option maxRecDepth 16384

noncomputable section

open Idealize.ShloMosaic Idealize.ShloMosaic.TcCoe Idealize.SL.Sem

namespace Cert.GateF

open Cert.KernelGateFIdeal Cert.KernelGateFIdeal.Gen

theorem idx : ∀ t : Fin cfg0.N, win0_0.index t = ![0, t.val % 2, t.val / 2] ∧ win0_2.index t = ![0, t.val / 2]
    ∧ win0_3.index t = ![0, 11 + t.val / 2] ∧ win0_4.index t = ![0, t.val / 2] ∧ win0_5.index t = ![0, 11 + t.val / 2]
    ∧ win0_6.index t = ![t.val % 2, t.val / 2] ∧ win0_7.index t = ![0, t.val % 2, t.val / 2] :=
  (by decide +kernel : ∀ t : Fin grid0.N, _)

variable (m : (ℓ : Loc nD τ sig) → Buf (Elt Ideal) ℓ) (c : Dev nD) (t : Fin cfg0.N)

/-- The argument arrays. -/
abbrev aup : FVec Ideal ⟨3, ![2, 2048, 5632]⟩ .f32 := m ((c : Thread nD τ).loc main_arg0)
abbrev afw : FVec Ideal ⟨2, ![3, 5632]⟩ .f32 := m ((c : Thread nD τ).loc main_arg1)
abbrev afb : FVec Ideal ⟨1, ![5632]⟩ .f32 := m ((c : Thread nD τ).loc main_arg2)

/-- A point's blocks. -/
abbrev bU : FVec Ideal S2x2048x256 .bf16 := iblk m c 0 t
abbrev bWg : FVec Ideal S8x256 .f32 := iblk m c 2 t
abbrev bWv : FVec Ideal S8x256 .f32 := iblk m c 3 t
abbrev bbg : FVec Ideal S1x256 .f32 := iblk m c 4 t
abbrev bbv : FVec Ideal S1x256 .f32 := iblk m c 5 t

section
variable (b : Fin 2) (hb : t.val % 2 = b.val) (j : Fin 256) (k : Fin 5632)
include hb

theorem at_gate (s : Fin 2048) (hk : k.val = t.val / 2 * 256 + j.val) : bU m c t (ix3 0 s j) = aup m c (ix3 b s k) := by
  blk_simp [iblk, V]
  entry_read
  pointwise []
  rw [dif_pos (by blk_simp [idx t]; decide)]
  blk_point [idx t]

theorem at_val (s : Fin 2048) (hk : k.val = 2816 + (t.val / 2 * 256 + j.val)) : bU m c t (ix3 1 s j) = aup m c (ix3 b s k) := by
  blk_simp [iblk, V]
  entry_read
  pointwise []
  rw [dif_neg (by blk_simp [idx t]; decide)]
  blk_point [idx t]
end

section
variable (q : Fin 3) (u : Fin 8) (hu : u.val = q.val) (j : Fin 256) (k : Fin 5632)
include hu

theorem at_wg (hk : k.val = t.val / 2 * 256 + j.val) : bWg m c t (ix2 u j) = afw m c (ix2 q k) := by
  blk_simp [iblk, V]
  entry_read
  pointwise []
  rw [dif_pos (by blk_simp [idx t]; omega)]
  blk_point [idx t]

theorem at_wv (hk : k.val = 2816 + (t.val / 2 * 256 + j.val)) : bWv m c t (ix2 u j) = afw m c (ix2 q k) := by
  blk_simp [iblk, V]
  entry_read
  pointwise []
  rw [dif_pos (by blk_simp [idx t]; omega)]
  blk_point [idx t]
end

section
variable (j : Fin 256) (k : Fin 5632)

theorem at_bg (hk : k.val = t.val / 2 * 256 + j.val) : bbg m c t (ix2 0 j) = afb m c (ix1 k) := by
  blk_point [iblk, V, idx t]

theorem at_bv (hk : k.val = 2816 + (t.val / 2 * 256 + j.val)) : bbv m c t (ix2 0 j) = afb m c (ix1 k) := by
  blk_point [iblk, V, idx t]
end

/-- The first half's columns convolved, in the arguments' terms. -/
theorem half_gate (b : Fin 2) (hb : t.val % 2 = b.val) (s : Fin 2048) (j : Fin 256) (k : Fin 5632) (hk : k.val = t.val / 2 * 256 + j.val) :
    half (bU m c t) 0 (bWg m c t) (bbg m c t) s j = GateFRef.u (aup m c) (afw m c) (afb m c) b s k := by
  unfold half GateFRef.u
  rw [at_bg m c t j k hk]
  exact congrArg₂ (fun w x => Conv3.conv w _ x s) (funext fun q => at_wg m c t q _ rfl j k hk) (funext fun r => at_gate m c t b hb j k r hk)

theorem half_val (b : Fin 2) (hb : t.val % 2 = b.val) (s : Fin 2048) (j : Fin 256) (k : Fin 5632) (hk : k.val = 2816 + (t.val / 2 * 256 + j.val)) :
    half (bU m c t) 1 (bWv m c t) (bbv m c t) s j = GateFRef.u (aup m c) (afw m c) (afb m c) b s k := by
  unfold half GateFRef.u
  rw [at_bv m c t j k hk]
  exact congrArg₂ (fun w x => Conv3.conv w _ x s) (funext fun q => at_wv m c t q _ rfl j k hk) (funext fun r => at_val m c t b hb j k r hk)

/-- What a point leaves in its block of gated values. -/
theorem left6 (y : S2048x256.Idx) : (outsAt0 m c t).1 y = G6 (bU m c t) (bWg m c t) (bWv m c t) (bbg m c t) (bbv m c t) y := by
  unfold outsAt0
  frame_out
  refine canon_of_blocks (s := S2048x256) (e := .bf16) (G6 (bU m c t) (bWg m c t) (bWv m c t) (bbg m c t) (bbv m c t)) _ y
    (View.cover_of_tiledL (s := S2048x256) (Val := Elt Ideal) (e := .bf16) _ ![64, 256] (by sl_kernel_rfl) y) fun p hp => ?_
  rcases List.mem_append.mp hp with hp | hp
  · exact (trips _ _ _ _ _ _ c _ _ _ _ _ _ _ _ _ _ _ _ _ _ _ _ _ _ _ le_rfl).1 p hp
  · obtain rfl := List.mem_singleton.mp hp
    refine chunk6 _ _ _ _ _ _ 0 rfl inb_S2048x256_S64x256_0_0 _ fun r j s hs => ?_
    exact (first_gated _ _ _ _ r j).trans (congrArg₂ (fun u v => Conv3.silu u * v)
      ((first_gate _ _ _ _ r j t (iblk m c 1 t) _).trans (first_half (bU m c t) t (iblk m c 1 t) 0 (bWg m c t) (bbg m c t) inb_S2x2048x256_S1x64x256_0_0_0 r j s (by omega)))
      ((first_val _ _ _ _ r j _).trans (first_half (bU m c t) t (iblk m c 1 t) 1 (bWv m c t) (bbv m c t) inb_S2x2048x256_S1x64x256_1_0_0 r j s (by omega))))

/-- What a point leaves in its block of convolved values. -/
theorem left7 (y : S2x2048x256.Idx) : (outsAt0 m c t).2 y = G7 (bU m c t) (bWg m c t) (bWv m c t) (bbg m c t) (bbv m c t) y := by
  unfold outsAt0
  frame_out
  refine canon_of_blocks (s := S2x2048x256) (e := .bf16) (G7 (bU m c t) (bWg m c t) (bWv m c t) (bbg m c t) (bbv m c t)) _ y
    (View.cover_of_tiledL (s := S2x2048x256) (Val := Elt Ideal) (e := .bf16) _ ![1, 64, 256] (by sl_kernel_rfl) y) fun p hp => ?_
  rcases List.mem_append.mp hp with hp | hp
  · exact (trips _ _ _ _ _ _ c _ _ _ _ _ _ _ _ _ _ _ _ _ _ _ _ _ _ _ le_rfl).2 p hp
  · rcases List.mem_cons.mp hp with rfl | hp
    · refine chunk7 _ _ _ _ _ 1 _ 0 rfl inb_S2x2048x256_S1x64x256_1_0_0 _ fun r j s hs => ?_
      rw [if_neg (by decide)]
      exact (first_stored' _ _ _ r j).trans ((first_val _ _ _ _ r j _).trans (first_half (bU m c t) t (iblk m c 1 t) 1 (bWv m c t) (bbv m c t) inb_S2x2048x256_S1x64x256_1_0_0 r j s (by omega)))
    · obtain rfl := List.mem_singleton.mp hp
      refine chunk7 _ _ _ _ _ 0 _ 0 rfl inb_S2x2048x256_S1x64x256_0_0_0 _ fun r j s hs => ?_
      rw [if_pos (show (0 : Fin 2).val = 0 from rfl)]
      exact (first_stored _ _ _ _ _ _ _ r j).trans ((first_gate _ _ _ _ r j t (iblk m c 1 t) _).trans
        (first_half (bU m c t) t (iblk m c 1 t) 0 (bWg m c t) (bbg m c t) inb_S2x2048x256_S1x64x256_0_0_0 r j s (by omega)))

theorem point6 (y : S2048x256.Idx) (i : (⟨2, ![4096, 2816]⟩ : Shape).Idx) (h0 : (i 0).val = t.val % 2 * 2048 + (y 0).val)
    (h1 : (i 1).val = t.val / 2 * 256 + (y 1).val) :
    (outsAt0 m c t).1 y = Cert.ReferenceGateFIdeal.Read.val_main_v30 (F := Ideal) (aup m c) (afw m c) (afb m c) i := by
  have ht : t.val < 22 := t.isLt
  obtain ⟨s, j, rfl⟩ : ∃ (s : Fin 2048) (j : Fin 256), y = ix2 s j := ⟨_, _, eq_ix2 y⟩
  obtain ⟨b, hb⟩ : ∃ b : Fin 2, t.val % 2 = b.val := ⟨⟨t.val % 2, by omega⟩, rfl⟩
  change (i 0).val = t.val % 2 * 2048 + s.val at h0
  change (i 1).val = t.val / 2 * 256 + j.val at h1
  rw [left6, GateFRef.a_apply _ _ _ b s ⟨t.val / 2 * 256 + j.val, by omega⟩ ⟨t.val / 2 * 256 + j.val, by omega⟩
    ⟨2816 + (t.val / 2 * 256 + j.val), by omega⟩ rfl rfl i (by omega) h1]
  exact congrArg₂ (fun u v => Conv3.silu u * v) (half_gate m c t b hb s j _ rfl) (half_val m c t b hb s j _ rfl)

theorem point7 (y : S2x2048x256.Idx) (i : (⟨3, ![2, 4096, 2816]⟩ : Shape).Idx) (hg : (i 0).val = (y 0).val)
    (h0 : (i 1).val = t.val % 2 * 2048 + (y 1).val) (h1 : (i 2).val = t.val / 2 * 256 + (y 2).val) :
    (outsAt0 m c t).2 y = Cert.ReferenceGateFIdeal.Read.val_main_v33 (F := Ideal) (aup m c) (afw m c) (afb m c) i := by
  have ht : t.val < 22 := t.isLt
  obtain ⟨g, s, j, rfl⟩ : ∃ (g : Fin 2) (s : Fin 2048) (j : Fin 256), y = ix3 g s j := ⟨_, _, _, eq_ix3 y⟩
  obtain ⟨b, hb⟩ : ∃ b : Fin 2, t.val % 2 = b.val := ⟨⟨t.val % 2, by omega⟩, rfl⟩
  change (i 0).val = g.val at hg
  change (i 1).val = t.val % 2 * 2048 + s.val at h0
  change (i 2).val = t.val / 2 * 256 + j.val at h1
  rw [left7, GateFRef.uc_apply _ _ _ b s g ⟨t.val / 2 * 256 + j.val, by omega⟩ ⟨g.val * 2816 + (t.val / 2 * 256 + j.val), by omega⟩ rfl i hg
    (by omega) h1]
  show (if g.val = 0 then _ else _) = _
  split
  · exact half_gate m c t b hb s j _ (by show g.val * _ + _ = _; omega)
  · exact half_val m c t b hb s j _ (by show g.val * _ + _ = _; omega)

theorem final6 : (dats m 0 c).arrAt 6 cfg0.N = Cert.ReferenceGateFIdeal.Read.val_main_v30 (F := Ideal) (aup m c) (afw m c) (afb m c) := by
  refine (dats m 0 c).arrAt_eq_of_covers 6 _ (by decide +kernel) fun t hf y => ?_
  blk_simp
  rw [after0_6]
  refine point6 m c t y _ ?_ ?_
  · blk_simp [idx t]
  · blk_simp [idx t]

theorem final7 : (dats m 0 c).arrAt 7 cfg0.N = Cert.ReferenceGateFIdeal.Read.val_main_v33 (F := Ideal) (aup m c) (afw m c) (afb m c) := by
  refine (dats m 0 c).arrAt_eq_of_covers 7 _ (by decide +kernel) fun t hf y => ?_
  blk_simp
  rw [after0_7]
  refine point7 m c t y _ ?_ ?_ ?_
  · blk_simp [idx t]
  · blk_simp [idx t]
  · blk_simp [idx t]

/-- The kernel and the plain gate leave the same arrays. -/
theorem algebraic : Cert.algebraic_KernelGateFIdeal_ReferenceGateFIdeal := fun m g m' g' _ hag =>
  ⟨fun c => Cert.ReferenceGateFIdeal.Read.val_main_v30 (F := Ideal) (aup m c) (afw m c) (afb m c),
    fun c => Cert.ReferenceGateFIdeal.Read.val_main_v33 (F := Ideal) (aup m c) (afw m c) (afb m c),
    (θ_run _ _ _).mono (fun _ h c => ⟨(h c).1.trans (final6 m c), (h c).2.1.trans (final7 m c), (h c).2.2⟩) (Cert.KernelGateFIdeal.Value.run_blocks m g),
    (θ_run _ _ _).mono (fun _ h c => ⟨(h c).1.trans (by rw [Cert.ReferenceGateFIdeal.Read.val_main_v30_eq, (hag c).1, (hag c).2.1, (hag c).2.2]),
      (h c).2.1.trans (by rw [Cert.ReferenceGateFIdeal.Read.val_main_v33_eq, (hag c).1, (hag c).2.1, (hag c).2.2]), (h c).2.2⟩)
      (Cert.ReferenceGateFIdeal.Value.run m' g')⟩

end Cert.GateF

end
-- ==== Proof.Conv31.lean ====
/- The thirty-one taps of a causal convolution whose rows are read from a scratch, in the order in which a kernel adds them. -/
module

public import proofs.«01_k».proof.Proof.Conv3
public import Idealize.ShloMosaic.Lib.Pipeline.ValueKit
public import Idealize.ShloMosaic.PureOps.Ideal

@[expose] public section

set_option maxRecDepth 16384

noncomputable section

open Idealize.ShloMosaic Idealize.ShloMosaic.TcCoe Idealize.SL.Sem

namespace Cert.Conv31

/-- A column of an array as a function of the row's number. -/
def col {n m : Nat} (G : (⟨2, ![n, m]⟩ : Shape).Idx → EReal) (j : Fin m) (i : Nat) : EReal := if h : i < n then G (ix2 ⟨i, h⟩ j) else 0

theorem at_col {n m : Nat} (G : (⟨2, ![n, m]⟩ : Shape).Idx → EReal) (j : Fin m) (i : Nat) (h : i < n) (k : Nat) (e : i = k) :
    G (ix2 ⟨i, h⟩ j) = col G j k := by
  subst e
  unfold col
  rw [dif_pos h]

/-- The taps' numbers in the order in which they are added. -/
abbrev order : List Nat := [6, 14, 22, 30, 7, 15, 23, 0, 8, 16, 24, 1, 9, 17, 25, 2, 10, 18, 26, 3, 11, 19, 27, 4, 12, 20, 28, 5, 13, 21, 29]

/-- The bias and the taps, the window's rows from `s` on. -/
def taps (w x : Nat → EReal) (b : EReal) (s : Nat) : EReal := order.foldl (fun a k => a + w k * x (s + k)) b

theorem foldl_add (f : Nat → EReal) (L : List Nat) (b : EReal) : L.foldl (fun a k => a + f k) b = b + (L.map f).sum := by
  induction L generalizing b with
  | nil => exact (add_zero b).symm
  | cons k L ih => rw [List.foldl_cons, ih, List.map_cons, List.sum_cons, add_assoc]

/-- The order of the taps does not matter. -/
theorem sum_order (f : Nat → EReal) (L : List Nat) (h : L.Perm (List.range 31)) (b : EReal) :
    L.foldl (fun a k => a + f k) b = b + ∑ k : Fin 31, f k.val := by
  rw [foldl_add, (h.map f).sum_eq, Fin.sum_univ_eq_sum_range f 31, Finset.sum_range, ← List.sum_ofFn]
  rfl

theorem taps_eq (w x : Nat → EReal) (b : EReal) (s : Nat) : taps w x b s = b + ∑ k : Fin 31, w k.val * x (s + k.val) :=
  sum_order (fun k => w k * x (s + k)) order (by decide) b

end Cert.Conv31

end
-- ==== Proof.MixFBuf.lean ====
/- The Conformer module forward: what one point keeps in its scratches. -/
module

public import proofs.«01_k».proof.Proof.Conv31
public import proofs.«01_k».proof.Proof.GateFPay
public import proofs.«01_k».proof.Proof.LayerNorm
public import proofs.«01_k».proof.Proof.Gen.KernelMixFIdeal.Frame
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem

namespace Cert.MixF

open Cert.KernelMixFIdeal Cert.KernelMixFIdeal.Gen Conv31

variable (m : (ℓ : Loc nD τ sig) → Buf (Elt Ideal) ℓ) (c : Dev nD)

/-- The stores that fill a scratch: the rows before the block, then the block's rows in eight chunks. -/
abbrev stores (P : FVec Ideal S32x512 .f32) (Q : Fin 8 → FVec Ideal S64x512 .f32) : List (View.Piece (Elt Ideal) S544x512 .f32) :=
  [⟨Rect.unit ![480, 0] ![64, 512] inb_S544x512_S64x512_480_0, Q 7⟩, ⟨Rect.unit ![416, 0] ![64, 512] inb_S544x512_S64x512_416_0, Q 6⟩,
   ⟨Rect.unit ![352, 0] ![64, 512] inb_S544x512_S64x512_352_0, Q 5⟩, ⟨Rect.unit ![288, 0] ![64, 512] inb_S544x512_S64x512_288_0, Q 4⟩,
   ⟨Rect.unit ![224, 0] ![64, 512] inb_S544x512_S64x512_224_0, Q 3⟩, ⟨Rect.unit ![160, 0] ![64, 512] inb_S544x512_S64x512_160_0, Q 2⟩,
   ⟨Rect.unit ![96, 0] ![64, 512] inb_S544x512_S64x512_96_0, Q 1⟩, ⟨Rect.unit ![32, 0] ![64, 512] inb_S544x512_S64x512_32_0, Q 0⟩,
   ⟨Rect.unit ![0, 0] ![32, 512] inb_S544x512_S32x512_0_0, P⟩]

theorem covered (P : FVec Ideal S32x512 .f32) (Q : Fin 8 → FVec Ideal S64x512 .f32) (y : S544x512.Idx) :
    ∃ p ∈ stores P Q, y ∈ p.1.set :=
  View.cover_of_tiledBy (s := S544x512) (Val := Elt Ideal) (e := .f32) _ ![32, 512] (by sl_kernel_rfl) y

/-- What a filled scratch is read as. -/
theorem reads (P : FVec Ideal S32x512 .f32) (q0 q1 q2 q3 q4 q5 q6 q7 : FVec Ideal S64x512 .f32) {σ : RefSig} (sp : Space) (v : View σ .tc sp S544x512 .f32)
    (R : Rect S544x512) :
    v.readCov (Val := Elt Ideal)
      [⟨Rect.unit ![480, 0] ![64, 512] inb_S544x512_S64x512_480_0, q7⟩, ⟨Rect.unit ![416, 0] ![64, 512] inb_S544x512_S64x512_416_0, q6⟩,
       ⟨Rect.unit ![352, 0] ![64, 512] inb_S544x512_S64x512_352_0, q5⟩, ⟨Rect.unit ![288, 0] ![64, 512] inb_S544x512_S64x512_288_0, q4⟩,
       ⟨Rect.unit ![224, 0] ![64, 512] inb_S544x512_S64x512_224_0, q3⟩, ⟨Rect.unit ![160, 0] ![64, 512] inb_S544x512_S64x512_160_0, q2⟩,
       ⟨Rect.unit ![96, 0] ![64, 512] inb_S544x512_S64x512_96_0, q1⟩, ⟨Rect.unit ![32, 0] ![64, 512] inb_S544x512_S64x512_32_0, q0⟩,
       ⟨Rect.unit ![0, 0] ![32, 512] inb_S544x512_S32x512_0_0, P⟩] R.toLoadRect
      = View.ld (Val := Elt Ideal) (e' := .f32) (View.canon (Val := Elt Ideal) (stores P ![q0, q1, q2, q3, q4, q5, q6, q7])) R :=
  View.readCov_eq_canon_ld _ _ _ fun y => covered P ![q0, q1, q2, q3, q4, q5, q6, q7] y

/-- The gated linear unit of two columns. -/
def glu (v g : EReal) : EReal := v * LayerNorm.sig g

/-- Zero at a sequence's first block, one at the others. -/
def keep (i : grid0.Coords) : EReal := if (i 0).val % 4 = 0 then 0 else 1

/-- The columns of a block with the rows before it, the latter times `keep`. -/
def ext (i : grid0.Coords) (X : FVec Ideal S512x1536 .bf16) (Z : FVec Ideal S32x1536 .bf16) (j : Fin 1536) (n : Nat) : EReal :=
  if n < 32 then col Z j n * keep i else col X j (n - 32)

/-- The scratch of gated values, and the scratch of the values to be pooled. -/
def hg (i : grid0.Coords) (X : FVec Ideal S512x1536 .bf16) (Z : FVec Ideal S32x1536 .bf16) (y : S544x512.Idx) : EReal :=
  glu (ext i X Z ⟨(y 1).val, (y 1).isLt.trans (by decide)⟩ (y 0).val) (ext i X Z ⟨512 + (y 1).val, (Nat.add_lt_add_left (y 1).isLt 512).trans (by decide)⟩ (y 0).val)
def pb (i : grid0.Coords) (X : FVec Ideal S512x1536 .bf16) (Z : FVec Ideal S32x1536 .bf16) (y : S544x512.Idx) : EReal :=
  ext i X Z ⟨1024 + (y 1).val, Nat.add_lt_add_left (y 1).isLt 1024⟩ (y 0).val

/-- The factor of the rows before the block. -/
theorem keep_eq (i : grid0.Coords) (Z : FVec Ideal S32x1536 .bf16) (r : Fin 32) (j : Fin 1536) :
    k0_pay2 (F := Ideal) i Z (ix2 r j) = Z (ix2 r j) * keep i := by
  unfold k0_pay2 keep
  pointwise []
  generalize i 0 = a
  revert a
  intro (a : Fin 8)
  fin_cases a <;> first | exact (mul_zero _).symm | exact (mul_one _).symm

theorem before (i : grid0.Coords) (Z : FVec Ideal S32x1536 .bf16) (r : Fin 32) (j : Fin 512) :
    k0_pay3 (F := Ideal) i Z (ix2 r j)
      = glu (Z (ix2 r ⟨j.val, by omega⟩) * keep i) (Z (ix2 r ⟨512 + j.val, by omega⟩) * keep i) := by
  simp only [← keep_eq]
  unfold k0_pay3 glu LayerNorm.sig
  generalize k0_pay2 (F := Ideal) i Z = X
  pointwise []

theorem before_pool (i : grid0.Coords) (Z : FVec Ideal S32x1536 .bf16) (r : Fin 32) (j : Fin 512) :
    k0_pay4 (F := Ideal) i Z (ix2 r j) = Z (ix2 r ⟨1024 + j.val, by omega⟩) * keep i := by
  rw [← keep_eq]
  unfold k0_pay4
  generalize k0_pay2 (F := Ideal) i Z = X
  pointwise []

theorem glu_chunk (X : FVec Ideal S64x1536 .bf16) (r : Fin 64) (j : Fin 512) :
    k0_pay6 (F := Ideal) (k0_pay5 X) (ix2 r j) = glu (X (ix2 r ⟨j.val, by omega⟩)) (X (ix2 r ⟨512 + j.val, by omega⟩)) := by
  unfold k0_pay6 k0_pay5 glu LayerNorm.sig
  pointwise []

theorem pool_chunk (X : FVec Ideal S64x1536 .bf16) (r : Fin 64) (j : Fin 512) :
    k0_pay7 (F := Ideal) (k0_pay5 X) (ix2 r j) = X (ix2 r ⟨1024 + j.val, by omega⟩) := by
  unfold k0_pay7 k0_pay5
  pointwise []

variable (i : grid0.Coords) (X : FVec Ideal S512x1536 .bf16) (Z : FVec Ideal S32x1536 .bf16)

theorem emb_val {s : Shape} (off size : Fin s.rank → Nat) (inb : ∀ i, off i + size i ≤ s.size i) (x : (Rect.unit (s := s) off size inb).shape.Idx) (a : Fin s.rank) :
    ((Rect.unit (s := s) off size inb).emb x a).val = off a + (x a).val := by
  rw [Rect.emb_apply]
  exact congrArg (off a + ·) (Nat.one_mul _)

/-- Chunks that agree with `F` make a scratch that is `F`. -/
theorem filled (F : S544x512.Idx → EReal) (P : FVec Ideal S32x512 .f32) (Q : Fin 8 → FVec Ideal S64x512 .f32)
    (hP : ∀ (r : Fin 32) (j : Fin 512), P (ix2 r j) = F (ix2 ⟨r.val, r.isLt.trans (by decide)⟩ j))
    (hQ : ∀ (q : Fin 8) (r : Fin 64) (j : Fin 512) (s : Fin 544), s.val = 32 + 64 * q.val + r.val → Q q (ix2 r j) = F (ix2 s j)) :
    View.canon (Val := Elt Ideal) (e := .f32) (stores P Q) = F := by
  funext y
  refine GateF.canon_of_blocks (s := S544x512) (e := .f32) F _ y (covered P Q y) ?_
  have at0 (a n : Nat) (inb : ∀ i, (![a, 0] : Fin 2 → Nat) i + (![n, 512] : Fin 2 → Nat) i ≤ S544x512.size i) (x : (⟨2, ![n, 512]⟩ : Shape).Idx) (s : Fin 544)
      (hs : s.val = a + (x 0).val) : ix2 s (x 1) = (Rect.unit (s := S544x512) ![a, 0] ![n, 512] inb).emb x := by
    refine Eq.trans ?_ (eq_ix2 _).symm
    have h0 := emb_val (s := S544x512) ![a, 0] ![n, 512] inb x 0
    have h1 := emb_val (s := S544x512) ![a, 0] ![n, 512] inb x 1
    exact congrArg₂ ix2 (Fin.ext (hs.trans h0.symm)) (Fin.ext ((Nat.zero_add _).symm.trans h1.symm))
  have key (q : Fin 8) (a : Nat) (ha : a = 32 + 64 * q.val) (inb : ∀ i, (![a, 0] : Fin 2 → Nat) i + (![64, 512] : Fin 2 → Nat) i ≤ S544x512.size i)
      (x : S64x512.Idx) : Q q x = F ((Rect.unit (s := S544x512) ![a, 0] ![64, 512] inb).emb x) := by
    subst ha
    have hx : (x 0).val < 64 := (x 0).isLt
    have hq := q.isLt
    exact (congrArg (Q q) (eq_ix2 x)).trans ((hQ q (x 0) (x 1) ⟨32 + 64 * q.val + (x 0).val, by omega⟩ rfl).trans (congrArg F (at0 _ _ _ x _ rfl)))
  refine List.forall_mem_cons.mpr ⟨key 7 480 rfl inb_S544x512_S64x512_480_0, ?_⟩
  refine List.forall_mem_cons.mpr ⟨key 6 416 rfl inb_S544x512_S64x512_416_0, ?_⟩
  refine List.forall_mem_cons.mpr ⟨key 5 352 rfl inb_S544x512_S64x512_352_0, ?_⟩
  refine List.forall_mem_cons.mpr ⟨key 4 288 rfl inb_S544x512_S64x512_288_0, ?_⟩
  refine List.forall_mem_cons.mpr ⟨key 3 224 rfl inb_S544x512_S64x512_224_0, ?_⟩
  refine List.forall_mem_cons.mpr ⟨key 2 160 rfl inb_S544x512_S64x512_160_0, ?_⟩
  refine List.forall_mem_cons.mpr ⟨key 1 96 rfl inb_S544x512_S64x512_96_0, ?_⟩
  refine List.forall_mem_cons.mpr ⟨key 0 32 rfl inb_S544x512_S64x512_32_0, ?_⟩
  refine List.forall_mem_cons.mpr ⟨fun x => ?_, fun p hp => absurd hp List.not_mem_nil⟩
  exact (congrArg P (eq_ix2 x)).trans ((hP (x 0) (x 1)).trans (congrArg F (at0 0 32 inb_S544x512_S32x512_0_0 x _ (Nat.zero_add _).symm)))

/-- A chunk's row of a block, a row of the block with the rows before it. -/
theorem ext_chunk {a : Nat} (inb : ∀ i, (![a, 0] : Fin 2 → Nat) i + (![64, 1536] : Fin 2 → Nat) i ≤ S512x1536.size i) (r : Fin 64) (k : Fin 1536) (s : Nat)
    (hs : s = 32 + a + r.val) : View.ld (Val := Elt Ideal) (e' := .bf16) X (Rect.unit (s := S512x1536) ![a, 0] ![64, 1536] inb) (ix2 r k) = ext i X Z k s := by
  have hb : a + 64 ≤ 512 := inb 0
  unfold ext
  rw [if_neg (by omega), ← at_col X k (a + r.val) (by omega) (s - 32) (by omega)]
  exact View.ld_unit_apply_of _ _ _ _ _ _ fun q => by
    match q with
    | ⟨0, _⟩ => rfl
    | ⟨1, _⟩ => exact (Nat.zero_add _).symm

theorem ext_before (r : Fin 32) (k : Fin 1536) : Z (ix2 r k) * keep i = ext i X Z k r.val := by
  unfold ext
  rw [if_pos r.isLt, ← at_col Z k r.val r.isLt _ rfl]

theorem canon_hg : View.canon (Val := Elt Ideal) (e := .f32) (stores (k0_pay3 (F := Ideal) i Z)
      ![k0_pay6 (k0_pay5 (View.ld (Val := Elt Ideal) (e' := .bf16) X (Rect.unit ![0, 0] ![64, 1536] inb_S512x1536_S64x1536_0_0))),
        k0_pay9 (View.ld (Val := Elt Ideal) (e' := .bf16) X (Rect.unit ![64, 0] ![64, 1536] inb_S512x1536_S64x1536_64_0)),
        k0_pay12 (View.ld (Val := Elt Ideal) (e' := .bf16) X (Rect.unit ![128, 0] ![64, 1536] inb_S512x1536_S64x1536_128_0)),
        k0_pay15 (View.ld (Val := Elt Ideal) (e' := .bf16) X (Rect.unit ![192, 0] ![64, 1536] inb_S512x1536_S64x1536_192_0)),
        k0_pay18 (View.ld (Val := Elt Ideal) (e' := .bf16) X (Rect.unit ![256, 0] ![64, 1536] inb_S512x1536_S64x1536_256_0)),
        k0_pay21 (View.ld (Val := Elt Ideal) (e' := .bf16) X (Rect.unit ![320, 0] ![64, 1536] inb_S512x1536_S64x1536_320_0)),
        k0_pay24 (View.ld (Val := Elt Ideal) (e' := .bf16) X (Rect.unit ![384, 0] ![64, 1536] inb_S512x1536_S64x1536_384_0)),
        k0_pay27 (View.ld (Val := Elt Ideal) (e' := .bf16) X (Rect.unit ![448, 0] ![64, 1536] inb_S512x1536_S64x1536_448_0))]) = hg i X Z := by
  refine filled _ _ _ (fun r j => (before i Z r j).trans (congrArg₂ glu (ext_before i X Z r _) (ext_before i X Z r _))) fun q r j s hs => ?_
  fin_cases q <;> exact (glu_chunk _ r j).trans (congrArg₂ glu (ext_chunk i X Z _ r _ _ hs) (ext_chunk i X Z _ r _ _ hs))

set_option maxHeartbeats 1000000 in
theorem canon_pb : View.canon (Val := Elt Ideal) (e := .f32) (stores (k0_pay4 (F := Ideal) i Z)
      ![k0_pay7 (k0_pay5 (View.ld (Val := Elt Ideal) (e' := .bf16) X (Rect.unit ![0, 0] ![64, 1536] inb_S512x1536_S64x1536_0_0))),
        k0_pay10 (View.ld (Val := Elt Ideal) (e' := .bf16) X (Rect.unit ![64, 0] ![64, 1536] inb_S512x1536_S64x1536_64_0)),
        k0_pay13 (View.ld (Val := Elt Ideal) (e' := .bf16) X (Rect.unit ![128, 0] ![64, 1536] inb_S512x1536_S64x1536_128_0)),
        k0_pay16 (View.ld (Val := Elt Ideal) (e' := .bf16) X (Rect.unit ![192, 0] ![64, 1536] inb_S512x1536_S64x1536_192_0)),
        k0_pay19 (View.ld (Val := Elt Ideal) (e' := .bf16) X (Rect.unit ![256, 0] ![64, 1536] inb_S512x1536_S64x1536_256_0)),
        k0_pay22 (View.ld (Val := Elt Ideal) (e' := .bf16) X (Rect.unit ![320, 0] ![64, 1536] inb_S512x1536_S64x1536_320_0)),
        k0_pay25 (View.ld (Val := Elt Ideal) (e' := .bf16) X (Rect.unit ![384, 0] ![64, 1536] inb_S512x1536_S64x1536_384_0)),
        k0_pay29 (k0_pay28 (View.ld (Val := Elt Ideal) (e' := .bf16) X (Rect.unit ![448, 0] ![64, 1536] inb_S512x1536_S64x1536_448_0)))]) = pb i X Z := by
  refine filled _ _ _ (fun r j => (before_pool i Z r j).trans (ext_before i X Z r _)) fun q r j s hs => ?_
  have key (a : Nat) (inb : ∀ i, (![a, 0] : Fin 2 → Nat) i + (![64, 1536] : Fin 2 → Nat) i ≤ S512x1536.size i) (hs : s.val = 32 + a + r.val) :
      k0_pay7 (F := Ideal) (k0_pay5 (View.ld (Val := Elt Ideal) (e' := .bf16) X (Rect.unit (s := S512x1536) ![a, 0] ![64, 1536] inb))) (ix2 r j)
        = pb i X Z (ix2 s j) := (pool_chunk _ r j).trans (ext_chunk i X Z _ r _ _ hs)
  fin_cases q
  exacts [key 0 _ hs, key 64 _ hs, key 128 _ hs, key 192 _ hs, key 256 _ hs, key 320 _ hs, key 384 _ hs, key 448 _ hs]

end Cert.MixF

end
-- ==== Proof.MixFPay.lean ====
/- The Conformer module forward: what one point stores as convolved values, in terms of its blocks. -/
module

public import proofs.«01_k».proof.Proof.MixFBuf

@[expose] public section

set_option maxRecDepth 16384

noncomputable section

open Idealize.ShloMosaic Idealize.ShloMosaic.TcCoe Idealize.SL.Sem

namespace Cert.MixF

open Cert.KernelMixFIdeal Cert.KernelMixFIdeal.Gen Conv31

variable (m : (ℓ : Loc nD τ sig) → Buf (Elt Ideal) ℓ) (c : Dev nD)

/-- A chunk of sixty-four rows of a block. -/
theorem chunk {e : EltTy} {n : Nat} (F : Fin 512 → Nat → Elt Ideal e) (G : (⟨2, ![512, n]⟩ : Shape).Idx → Elt Ideal e)
    (hG : ∀ (y : (⟨2, ![512, n]⟩ : Shape).Idx) (j : Fin 512), (y 1).val = j.val → G y = F j (y 0).val) (a : Nat)
    (inb : ∀ i, (![a, 0] : Fin 2 → Nat) i + (![64, 512] : Fin 2 → Nat) i ≤ (⟨2, ![512, n]⟩ : Shape).size i)
    (p : S64x512.Idx → Elt Ideal e) (h : ∀ (r : Fin 64) (j : Fin 512), p (ix2 r j) = F j (a + r.val)) (x : S64x512.Idx) :
    p x = G ((Rect.unit (s := ⟨2, ![512, n]⟩) ![a, 0] ![64, 512] inb).emb x) := by
  rw [hG _ (x 1) ((emb_val _ _ _ _ _).trans (Nat.zero_add _)), emb_val]
  exact (congrArg p (eq_ix2 x)).trans (h _ _)

/-- The convolved values of a point: the scratch `G` with the weights' and the bias' blocks. -/
def conv (G : FVec Ideal S544x512 .f32) (W : FVec Ideal S32x512 .f32) (B : FVec Ideal S1x512 .f32) (j : Fin 512) (s : Nat) : EReal :=
  taps (col W j) (col G j) (B (ix2 0 j)) (s + 2)

variable (t : Fin cfg0.N)

set_option maxHeartbeats 2000000 in
/-- What a point leaves in its block of convolved values. -/
theorem left9 (y : S512x512.Idx) : (outsAt0 m c t).2 y
    = conv (hg (grid0.coords t) (iblk m c 0 t) (iblk m c 1 t)) (iblk m c 2 t) (iblk m c 3 t) (y 1) (y 0).val := by
  unfold outsAt0
  frame_out
  simp only [reads, canon_hg]
  generalize hg _ _ _ = G
  refine GateF.canon_of_blocks (s := S512x512) (e := .f32) (fun y => conv G (iblk m c 2 t) (iblk m c 3 t) (y 1) (y 0).val) _ y
    (View.cover_of_tiledL (s := S512x512) (Val := Elt Ideal) (e := .f32) _ ![64, 512] (by sl_kernel_rfl) y) ?_
  iterate 8
    refine List.forall_mem_cons.mpr ⟨fun x => ?_, ?_⟩
    · dsimp only
      refine chunk (e := .f32) (n := 512) (conv G (iblk m c 2 t) (iblk m c 3 t)) (fun y => conv G (iblk m c 2 t) (iblk m c 3 t) (y 1) (y 0).val)
        (fun y j h => congrArg (fun k => conv G (iblk m c 2 t) (iblk m c 3 t) k (y 0).val) (Fin.ext h)) _ _ _ (fun r j => ?_) x
      have hr := r.isLt
      pointwise [k0_pay30, k0_pay31, k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84, k0_pay85,
        k0_pay86, k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110, k0_pay111,
        k0_pay112, k0_pay113, k0_pay114, k0_pay115, k0_pay116, k0_pay117, k0_pay118, k0_pay119, k0_pay120, k0_pay121, k0_pay122, k0_pay123,
        k0_pay124, k0_pay125, k0_pay126, k0_pay127, k0_pay128, k0_pay129, k0_pay130, k0_pay131, k0_pay132, k0_pay133, k0_pay134, k0_pay135,
        k0_pay136, k0_pay137, k0_pay138, k0_pay139, k0_pay140, k0_pay141, k0_pay142, k0_pay143, k0_pay144, k0_pay145, k0_pay146, k0_pay147,
        k0_pay148, k0_pay149, k0_pay150, k0_pay151, k0_pay152, k0_pay153, k0_pay154, k0_pay155, k0_pay156, k0_pay157, k0_pay158]
      unfold conv taps
      iterate 31
        refine congrArg₂ HAdd.hAdd ?_ (congrArg₂ HMul.hMul (at_col _ _ _ _ _ rfl) (at_col _ _ _ _ _ (by omega)))
      rfl
  exact fun p hp => absurd hp List.not_mem_nil

end Cert.MixF

end
-- ==== Proof.Scan.lean ====
/- Running sums: what the host computes with a window of the whole length, and the difference of two of them. -/
module

public import Idealize.ShloMosaic.Lib.Pointwise
public import proofs.«01_k».proof.Proof.Real

@[expose] public section

set_option maxRecDepth 16384

noncomputable section

open Idealize.ShloMosaic Idealize.ShloMosaic.TcCoe Idealize.SL.Sem

namespace Cert.Scan

theorem foldl_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- A place as a float. -/
theorem place_eq (r : Nat) (h : r < 2048) : FloatOps.sitofp (F := Ideal) .f32 (BitVec.ofNat 32 r) = ((r : ℝ) : EReal) := by
  have : (BitVec.ofNat 32 r).toInt = r := by
    rw [BitVec.toInt_eq_toNat_cond, BitVec.toNat_ofNat, if_pos (by omega)]
    omega
  show (((BitVec.ofNat 32 r).toInt : ℝ) : EReal) = _
  rw [this]
  norm_cast

/-- The column of a three-dimensional array along its middle axis, zero past its end. -/
def col3 {a n m : Nat} (x : (⟨3, ![a, n, m]⟩ : Shape).Idx → EReal) (b : Fin a) (k : Fin m) (s : Nat) : EReal :=
  if h : s < n then x (ix3 b ⟨s, h⟩ k) else 0

/-- A sum over the places of a window one wide except along its middle axis. -/
theorem sum_window {n : Nat} (g : (⟨3, ![1, n, 1]⟩ : Shape).Idx → EReal) : ∑ y, g y = ∑ w : Fin n, g (ix3 0 w 0) := by
  refine (Fintype.sum_bijective (fun w : Fin n => (ix3 0 w 0 : (⟨3, ![1, n, 1]⟩ : Shape).Idx)) ⟨fun p q h => congrFun h 1, fun y => ⟨y 1, ?_⟩⟩ _ _ fun _ => rfl).symm
  funext q
  match q with
  | ⟨0, _⟩ => exact Subsingleton.elim (α := Fin 1) _ _
  | ⟨1, _⟩ => rfl
  | ⟨2, _⟩ => exact Subsingleton.elim (α := Fin 1) _ _

/-- The host's window sum of the whole height, padded low by one less, sums a column up to a place. -/
theorem prefix_apply {a m n : Nat} (x : (⟨3, ![a, n + 1, m]⟩ : Shape).Idx → EReal)
    (h : (⟨3, ![a, n + 1, m]⟩ : Shape).ReduceWindows (![1, n + 1, 1] : Fin 3 → Nat) ![1, 1, 1] ![0, n, 0] ![0, 0, 0] ⟨3, ![a, n + 1, m]⟩)
    (b : Fin a) (s : Fin (n + 1)) (k : Fin m) :
    Ideal.hostReduceWindowAdd (s := ⟨3, ![a, n + 1, m]⟩) ![1, n + 1, 1] ![1, 1, 1] ![0, n, 0] ![0, 0, 0] h x 0 (ix3 b s k) = ∑ d ∈ Finset.range (s.val + 1), col3 x b k d := by
  unfold Ideal.hostReduceWindowAdd Host.reduceWindow
  refine (foldl_sum _ _ _).trans ?_
  rw [← Fin.sum_univ_def, zero_add]
  refine (Equiv.sum_comp (Shape.rowMajor ⟨3, ![1, n + 1, 1]⟩) _).symm.trans ?_
  simp only [Equiv.symm_apply_apply]
  rw [sum_window]
  have hs := s.isLt
  trans ∑ w : Fin (n + 1), if n ≤ s.val + w.val then col3 x b k (s.val + w.val - n) else 0
  · refine Finset.sum_congr rfl fun w _ => ?_
    have hw := w.isLt
    by_cases hn : n ≤ s.val + w.val
    · rw [if_pos hn, dif_pos fun q => by
        match q with
        | ⟨0, _⟩ => exact ⟨Nat.zero_le _, by show b.val * 1 + 0 - 0 < a; have := b.isLt; omega⟩
        | ⟨1, _⟩ => exact ⟨by show n ≤ s.val * 1 + w.val; omega, by show s.val * 1 + w.val - n < n + 1; omega⟩
        | ⟨2, _⟩ => exact ⟨Nat.zero_le _, by show k.val * 1 + 0 - 0 < m; have := k.isLt; omega⟩]
      unfold col3
      rw [dif_pos (by omega)]
      refine congrArg x (funext fun q => Fin.ext ?_)
      match q with
      | ⟨0, _⟩ => show b.val * 1 + 0 - 0 = b.val; omega
      | ⟨1, _⟩ => show s.val * 1 + w.val - n = s.val + w.val - n; omega
      | ⟨2, _⟩ => show k.val * 1 + 0 - 0 = k.val; omega
    · rw [if_neg hn, dif_neg fun hin => hn (by have h1 := (hin 1).1; change n ≤ s.val * 1 + w.val at h1; omega)]
  · rw [← Finset.sum_range (fun w => if n ≤ s.val + w then col3 x b k (s.val + w - n) else 0)]
    generalize s.val = r at hs ⊢
    generalize col3 x b k = f
    obtain ⟨d, rfl⟩ : ∃ d, n = d + r := ⟨n - r, by omega⟩
    rw [Nat.add_assoc, Finset.sum_range_add, Finset.sum_eq_zero fun w hw => if_neg (by have := Finset.mem_range.1 hw; omega), zero_add]
    exact Finset.sum_congr rfl fun w _ => by rw [if_pos (by omega), show r + (d + w) - (d + r) = w by omega]

/-- The difference of two running sums of reals is the sum of the entries between them. -/
theorem diff_real (x : Nat → ℝ) (w s : Nat) :
    ∑ d ∈ Finset.range (s + 1), x d - (if s < w then 0 else ∑ d ∈ Finset.range (s - w + 1), x d)
      = ∑ d ∈ Finset.range w, if d ≤ s then x (s - d) else 0 := by
  by_cases h : s < w
  · rw [if_pos h, sub_zero, show w = (s + 1) + (w - (s + 1)) by omega, Finset.sum_range_add (fun d => if d ≤ s then x (s - d) else 0),
      Finset.sum_eq_zero (s := Finset.range (w - (s + 1))) fun d _ => if_neg (by omega), add_zero, ← Finset.sum_range_reflect x]
    exact Finset.sum_congr rfl fun d hd => by
      have := Finset.mem_range.1 hd
      rw [if_pos (by omega), show s + 1 - 1 - d = s - d by omega]
  · rw [if_neg h, sub_eq_iff_eq_add', show s + 1 = (s - w + 1) + w by omega, Finset.sum_range_add, ← Finset.sum_range_reflect (fun d => x (s - w + 1 + d))]
    refine congrArg (_ + ·) (Finset.sum_congr rfl fun d hd => ?_)
    have := Finset.mem_range.1 hd
    rw [if_pos (by omega), show s - w + 1 + (w - 1 - d) = s - d by omega]

/-- The same for a column whose entries are reals. -/
theorem diff_apply (x : Nat → EReal) (hx : ∀ d, ∃ r : ℝ, x d = r) (w s : Nat) :
    ∑ d ∈ Finset.range (s + 1), x d - (if s < w then 0 else ∑ d ∈ Finset.range (s - w + 1), x d)
      = ∑ d ∈ Finset.range w, if d ≤ s then x (s - d) else 0 := by
  choose r hr using hx
  obtain rfl : x = fun d => (r d : EReal) := funext hr
  have h := congrArg (fun v : ℝ => (v : EReal)) (diff_real r w s)
  have hc (n : Nat) : ((∑ d ∈ Finset.range n, r d : ℝ) : EReal) = ∑ d ∈ Finset.range n, (r d : EReal) := by
    induction n with
    | zero => simp
    | succ n ih => rw [Finset.sum_range_succ, Finset.sum_range_succ, EReal.coe_add, ih]
  have hi (n : Nat) : ((∑ d ∈ Finset.range n, if d ≤ s then r (s - d) else 0 : ℝ) : EReal) = ∑ d ∈ Finset.range n, if d ≤ s then (r (s - d) : EReal) else 0 := by
    induction n with
    | zero => simp
    | succ n ih => rw [Finset.sum_range_succ, Finset.sum_range_succ, EReal.coe_add, ih]; split <;> simp
  rw [← hi, ← h]
  dsimp only
  rw [EReal.coe_sub, hc]
  split <;> simp [hc]

end Cert.Scan

end
-- ==== Proof.MixFOut.lean ====
/- The Conformer module forward: what one point stores as its result, in terms of its blocks. -/
module

public import proofs.«01_k».proof.Proof.MixFPay
public import proofs.«01_k».proof.Proof.Conv3
public import proofs.«01_k».proof.Proof.Scan

@[expose] public section

set_option maxRecDepth 16384

noncomputable section

open Idealize.ShloMosaic Idealize.ShloMosaic.TcCoe Idealize.SL.Sem

namespace Cert.MixF

open Cert.KernelMixFIdeal Cert.KernelMixFIdeal.Gen Conv31

variable (m : (ℓ : Loc nD τ sig) → Buf (Elt Ideal) ℓ) (c : Dev nD)

/-- The convolved rows, normed and put through `y · sigmoid y`. -/
def gated (G : FVec Ideal S544x512 .f32) (W : FVec Ideal S32x512 .f32) (B lg lb : FVec Ideal S1x512 .f32) (j : Fin 512) (s : Nat) : EReal :=
  Conv3.silu (LayerNorm.pre (fun k => conv G W B k s) (fun k => lg (ix2 0 k)) (fun k => lb (ix2 0 k)) j)

/-- The sum of the last `w` entries up to the place `n`. -/
def win (x : Nat → EReal) (w n : Nat) : EReal := ∑ d ∈ Finset.range w, x (n - d)

/-- The number of rows a group pools, and the same as the programs hold it. -/
def wide : Fin 4 → Nat := ![2, 4, 8, 16]
def wideE : Fin 4 → EReal := ![Ideal.ofBits .f32 0x40000000#32, Ideal.ofBits .f32 0x40800000#32, Ideal.ofBits .f32 0x41000000#32, Ideal.ofBits .f32 0x41800000#32]

/-- A column of a group among all columns. -/
abbrev at4 (g : Fin 4) (k : Fin 128) : Fin 512 := ⟨128 * g.val + k.val, by omega⟩

/-- A row of pooled values, less the row itself. -/
def pooled (i : grid0.Coords) (H : FVec Ideal S544x512 .f32) (g : Fin 4) (k : Fin 128) (s : Nat) : EReal :=
  Ideal.div (win (col H (at4 g k)) (wide g) (32 + s)) (min (((512 * ((i 0).val % 4) : ℕ) : ℝ) + ((s : ℝ) : EReal) + 1) (wideE g))
    - col H (at4 g k) (32 + s)

/-- The same through the group's matrix, and scaled. -/
def mixed (i : grid0.Coords) (H : FVec Ideal S544x512 .f32) (PW : FVec Ideal S4x128x128 .f32) (PS : FVec Ideal S1x512 .f32) (g : Fin 4) (j : Fin 128) (s : Nat) : EReal :=
  (∑ k, pooled i H g k s * PW (ix3 g k j)) * PS (ix2 0 (at4 g j))

/-- The place of a block's first row in its sequence. -/
theorem base_eq (i : grid0.Coords) : k0_pay159 (F := Ideal) (BitVec.ofNat 32 (i 0).val) = (((512 * ((i 0).val % 4) : ℕ) : ℝ) : EReal) := by
  generalize i 0 = a
  revert a
  intro (a : Fin 8)
  unfold k0_pay159
  have (b : BitVec 32) (n : Nat) (h : b.toInt = n) : Scalar.sitofp (F := Ideal) .f32 b = ((n : ℝ) : EReal) := by
    show ((b.toInt : ℝ) : EReal) = _
    rw [h]
    norm_cast
  exact this _ _ (by revert a; decide)

theorem at_col_of {h n : Nat} (X : (⟨2, ![h, n]⟩ : Shape).Idx → EReal) (q q' : Fin n) (hq : q.val = q'.val) (a : Nat) (ha : a < h) (b : Nat) (hb : a = b) :
    X (ix2 ⟨a, ha⟩ q) = col X q' b := by
  obtain rfl := Fin.ext hq
  exact at_col X q a ha b (by omega)

/-- A group's piece of a block. -/
theorem piece (F : Fin 4 → Fin 128 → Nat → EReal) (G : S512x1024.Idx → EReal)
    (hG : ∀ (y : S512x1024.Idx) (g : Fin 4) (j : Fin 128), (y 1).val = 512 + 128 * g.val + j.val → G y = F g j (y 0).val) (g : Fin 4)
    (inb : ∀ i, (![0, 512 + 128 * g.val] : Fin 2 → Nat) i + (![512, 128] : Fin 2 → Nat) i ≤ S512x1024.size i)
    (p : S512x128.Idx → EReal) (h : ∀ (r : Fin 512) (j : Fin 128), p (ix2 r j) = F g j r.val) (x : S512x128.Idx) :
    p x = G ((Rect.unit (s := S512x1024) ![0, 512 + 128 * g.val] ![512, 128] inb).emb x) := by
  rw [hG _ g (x 1) (emb_val _ _ _ _ _), emb_val]
  exact ((congrArg p (eq_ix2 x)).trans (h _ _)).trans (congrArg (F g (x 1)) (Nat.zero_add _).symm)

/-- The block a point stores. -/
def whole (i : grid0.Coords) (G H : FVec Ideal S544x512 .f32) (W : FVec Ideal S32x512 .f32) (B lg lb : FVec Ideal S1x512 .f32) (PW : FVec Ideal S4x128x128 .f32)
    (PS : FVec Ideal S1x512 .f32) (y : S512x1024.Idx) : EReal :=
  if h : (y 1).val < 512 then gated G W B lg lb ⟨(y 1).val, h⟩ (y 0).val
  else mixed i H PW PS ⟨((y 1).val - 512) / 128, by have : (y 1).val < 1024 := (y 1).isLt; omega⟩ ⟨((y 1).val - 512) % 128, by omega⟩ (y 0).val

variable (t : Fin cfg0.N)

set_option maxHeartbeats 2000000 in
/-- What a point leaves in its block of the result. -/
theorem left8 (y : S512x1024.Idx) : (outsAt0 m c t).1 y
    = whole (grid0.coords t) (hg (grid0.coords t) (iblk m c 0 t) (iblk m c 1 t)) (pb (grid0.coords t) (iblk m c 0 t) (iblk m c 1 t))
      (iblk m c 2 t) (iblk m c 3 t) (iblk m c 4 t) (iblk m c 5 t) (iblk m c 6 t) (iblk m c 7 t) y := by
  unfold outsAt0
  frame_out
  simp only [reads, canon_hg, canon_pb]
  generalize hg _ _ _ = G
  generalize pb _ _ _ = H
  have hF1 (y : S512x1024.Idx) (j : Fin 512) (h : (y 1).val = j.val) : whole (grid0.coords t) G H (iblk m c 2 t) (iblk m c 3 t) (iblk m c 4 t) (iblk m c 5 t)
      (iblk m c 6 t) (iblk m c 7 t) y = gated G (iblk m c 2 t) (iblk m c 3 t) (iblk m c 4 t) (iblk m c 5 t) j (y 0).val := by
    unfold whole
    rw [dif_pos (by have := j.isLt; omega)]
    exact congrArg (fun k => gated G (iblk m c 2 t) (iblk m c 3 t) (iblk m c 4 t) (iblk m c 5 t) k (y 0).val) (Fin.ext h)
  have hF2 (y : S512x1024.Idx) (g : Fin 4) (j : Fin 128) (h : (y 1).val = 512 + 128 * g.val + j.val) : whole (grid0.coords t) G H (iblk m c 2 t) (iblk m c 3 t)
      (iblk m c 4 t) (iblk m c 5 t) (iblk m c 6 t) (iblk m c 7 t) y = mixed (grid0.coords t) H (iblk m c 6 t) (iblk m c 7 t) g j (y 0).val := by
    unfold whole
    rw [dif_neg (by omega)]
    exact congrArg₂ (fun g k => mixed (grid0.coords t) H (iblk m c 6 t) (iblk m c 7 t) g k (y 0).val) (Fin.ext (show _ / 128 = _ by omega)) (Fin.ext (show _ % 128 = _ by omega))
  generalize whole _ _ _ _ _ _ _ _ _ = F at hF1 hF2 ⊢
  refine GateF.canon_of_blocks (s := S512x1024) (e := .bf16) F _ y
    (View.cover_of_tiledBy (s := S512x1024) (Val := Elt Ideal) (e := .bf16) _ ![64, 128] (by sl_kernel_rfl) y) ?_
  refine List.forall_mem_cons.mpr ⟨fun x => ?_, ?_⟩
  · refine piece (mixed (grid0.coords t) H (iblk m c 6 t) (iblk m c 7 t)) F hF2 3 inb_S512x1024_S512x128_0_896 _ (fun r j => ?_) x
    rw [base_eq]
    pointwise [k0_pay1, k0_pay160, k0_pay161, k0_pay162, k0_pay163, k0_pay164, k0_pay165, k0_pay166, k0_pay167, k0_pay168]
    rw [Scan.place_eq _ (r.isLt.trans (by decide))]
    refine congrArg₂ HMul.hMul (Finset.sum_congr rfl fun k _ => congrArg₂ HMul.hMul (congrArg₂ HSub.hSub (congrArg₂ Ideal.div ?_ rfl) ?_) rfl) (congrArg _ (congrArg _ (Fin.ext (by first | rfl | exact (Nat.zero_add _).symm))))
    · unfold win
      simp only [show wide 3 = 16 from rfl, Finset.sum_range_succ, Finset.sum_range_zero, zero_add]
      iterate 15
        refine congrArg₂ HAdd.hAdd ?_ (at_col_of _ _ _ (by first | rfl | exact (Nat.zero_add _).symm) _ _ _ (by omega))
      exact at_col_of _ _ _ (by first | rfl | exact (Nat.zero_add _).symm) _ _ _ (by omega)
    · exact at_col_of _ _ _ (by first | rfl | exact (Nat.zero_add _).symm) _ _ _ rfl
  refine List.forall_mem_cons.mpr ⟨fun x => ?_, ?_⟩
  · refine piece (mixed (grid0.coords t) H (iblk m c 6 t) (iblk m c 7 t)) F hF2 2 inb_S512x1024_S512x128_0_768 _ (fun r j => ?_) x
    rw [base_eq]
    pointwise [k0_pay1, k0_pay160, k0_pay161, k0_pay162, k0_pay163, k0_pay164, k0_pay165, k0_pay166, k0_pay167, k0_pay168]
    rw [Scan.place_eq _ (r.isLt.trans (by decide))]
    refine congrArg₂ HMul.hMul (Finset.sum_congr rfl fun k _ => congrArg₂ HMul.hMul (congrArg₂ HSub.hSub (congrArg₂ Ideal.div ?_ rfl) ?_) rfl) (congrArg _ (congrArg _ (Fin.ext (by first | rfl | exact (Nat.zero_add _).symm))))
    · unfold win
      simp only [show wide 2 = 8 from rfl, Finset.sum_range_succ, Finset.sum_range_zero, zero_add]
      iterate 7
        refine congrArg₂ HAdd.hAdd ?_ (at_col_of _ _ _ (by first | rfl | exact (Nat.zero_add _).symm) _ _ _ (by omega))
      exact at_col_of _ _ _ (by first | rfl | exact (Nat.zero_add _).symm) _ _ _ (by omega)
    · exact at_col_of _ _ _ (by first | rfl | exact (Nat.zero_add _).symm) _ _ _ rfl
  refine List.forall_mem_cons.mpr ⟨fun x => ?_, ?_⟩
  · refine piece (mixed (grid0.coords t) H (iblk m c 6 t) (iblk m c 7 t)) F hF2 1 inb_S512x1024_S512x128_0_640 _ (fun r j => ?_) x
    rw [base_eq]
    pointwise [k0_pay1, k0_pay160, k0_pay161, k0_pay162, k0_pay163, k0_pay164, k0_pay165, k0_pay166, k0_pay167, k0_pay168]
    rw [Scan.place_eq _ (r.isLt.trans (by decide))]
    refine congrArg₂ HMul.hMul (Finset.sum_congr rfl fun k _ => congrArg₂ HMul.hMul (congrArg₂ HSub.hSub (congrArg₂ Ideal.div ?_ rfl) ?_) rfl) (congrArg _ (congrArg _ (Fin.ext (by first | rfl | exact (Nat.zero_add _).symm))))
    · unfold win
      simp only [show wide 1 = 4 from rfl, Finset.sum_range_succ, Finset.sum_range_zero, zero_add]
      iterate 3
        refine congrArg₂ HAdd.hAdd ?_ (at_col_of _ _ _ (by first | rfl | exact (Nat.zero_add _).symm) _ _ _ (by omega))
      exact at_col_of _ _ _ (by first | rfl | exact (Nat.zero_add _).symm) _ _ _ (by omega)
    · exact at_col_of _ _ _ (by first | rfl | exact (Nat.zero_add _).symm) _ _ _ rfl
  refine List.forall_mem_cons.mpr ⟨fun x => ?_, ?_⟩
  · refine piece (mixed (grid0.coords t) H (iblk m c 6 t) (iblk m c 7 t)) F hF2 0 inb_S512x1024_S512x128_0_512 _ (fun r j => ?_) x
    rw [base_eq]
    pointwise [k0_pay1, k0_pay160, k0_pay161, k0_pay162, k0_pay163, k0_pay164, k0_pay165, k0_pay166, k0_pay167, k0_pay168]
    rw [Scan.place_eq _ (r.isLt.trans (by decide))]
    refine congrArg₂ HMul.hMul (Finset.sum_congr rfl fun k _ => congrArg₂ HMul.hMul (congrArg₂ HSub.hSub (congrArg₂ Ideal.div ?_ rfl) ?_) rfl) (congrArg _ (congrArg _ (Fin.ext (by first | rfl | exact (Nat.zero_add _).symm))))
    · unfold win
      simp only [show wide 0 = 2 from rfl, Finset.sum_range_succ, Finset.sum_range_zero, zero_add]
      iterate 1
        refine congrArg₂ HAdd.hAdd ?_ (at_col_of _ _ _ (by first | rfl | exact (Nat.zero_add _).symm) _ _ _ (by omega))
      exact at_col_of _ _ _ (by first | rfl | exact (Nat.zero_add _).symm) _ _ _ (by omega)
    · exact at_col_of _ _ _ (by first | rfl | exact (Nat.zero_add _).symm) _ _ _ rfl
  refine List.forall_mem_cons.mpr ⟨fun x => ?_, ?_⟩
  · dsimp only
    refine chunk (e := .bf16) (n := 1024) (gated G (iblk m c 2 t) (iblk m c 3 t) (iblk m c 4 t) (iblk m c 5 t)) F hF1 _ _ _ (fun r j => ?_) x
    simp only [k0_pay158, k0_pay157]
    generalize hA : k0_pay156 (F := Ideal) _ _ _ _ _ _ _ _ _ _ = A
    have hA : (fun k => A (ix2 r k)) = fun k => conv G (iblk m c 2 t) (iblk m c 3 t) k (448 + r.val) := by
      funext k
      have hr := r.isLt
      rw [← hA]
      clear hA
      pointwise [k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay82, k0_pay83, k0_pay84, k0_pay85, k0_pay86, k0_pay87, k0_pay88, k0_pay89, k0_pay90, k0_pay91, k0_pay92, k0_pay93, k0_pay94, k0_pay96, k0_pay97, k0_pay98, k0_pay99, k0_pay100, k0_pay101, k0_pay102, k0_pay103, k0_pay104, k0_pay105, k0_pay106, k0_pay107, k0_pay108, k0_pay113, k0_pay114, k0_pay115, k0_pay116, k0_pay117, k0_pay118, k0_pay119, k0_pay120, k0_pay121, k0_pay122, k0_pay123, k0_pay124, k0_pay125, k0_pay126, k0_pay129, k0_pay130, k0_pay131, k0_pay132, k0_pay133, k0_pay134, k0_pay135, k0_pay136, k0_pay137, k0_pay138, k0_pay139, k0_pay140, k0_pay141, k0_pay142, k0_pay143, k0_pay145, k0_pay146, k0_pay147, k0_pay148, k0_pay149, k0_pay150, k0_pay151, k0_pay152, k0_pay153, k0_pay154, k0_pay155, k0_pay156]
      unfold conv taps
      iterate 31
        refine congrArg₂ HAdd.hAdd ?_ (congrArg₂ HMul.hMul (at_col _ _ _ _ _ rfl) (at_col _ _ _ _ _ (by omega)))
      rfl
    unfold gated
    rw [← hA]
    unfold Conv3.silu LayerNorm.sig LayerNorm.pre LayerNorm.hat LayerNorm.inv LayerNorm.var LayerNorm.dev
    pointwise []
  refine List.forall_mem_cons.mpr ⟨fun x => ?_, ?_⟩
  · dsimp only
    refine chunk (e := .bf16) (n := 1024) (gated G (iblk m c 2 t) (iblk m c 3 t) (iblk m c 4 t) (iblk m c 5 t)) F hF1 _ _ _ (fun r j => ?_) x
    simp only [k0_pay144]
    generalize hA : k0_pay143 (F := Ideal) _ _ _ = A
    have hA : (fun k => A (ix2 r k)) = fun k => conv G (iblk m c 2 t) (iblk m c 3 t) k (384 + r.val) := by
      funext k
      have hr := r.isLt
      rw [← hA]
      clear hA
      pointwise [k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay82, k0_pay83, k0_pay84, k0_pay85, k0_pay86, k0_pay87, k0_pay88, k0_pay89, k0_pay90, k0_pay91, k0_pay92, k0_pay93, k0_pay94, k0_pay96, k0_pay97, k0_pay98, k0_pay99, k0_pay100, k0_pay101, k0_pay102, k0_pay103, k0_pay104, k0_pay105, k0_pay106, k0_pay107, k0_pay108, k0_pay113, k0_pay114, k0_pay115, k0_pay116, k0_pay117, k0_pay118, k0_pay119, k0_pay120, k0_pay121, k0_pay122, k0_pay123, k0_pay124, k0_pay125, k0_pay126, k0_pay129, k0_pay130, k0_pay131, k0_pay132, k0_pay133, k0_pay134, k0_pay135, k0_pay136, k0_pay137, k0_pay138, k0_pay139, k0_pay140, k0_pay141, k0_pay142, k0_pay143, k0_pay145, k0_pay146, k0_pay147, k0_pay148, k0_pay149, k0_pay150, k0_pay151, k0_pay152, k0_pay153, k0_pay154, k0_pay155, k0_pay156]
      unfold conv taps
      iterate 31
        refine congrArg₂ HAdd.hAdd ?_ (congrArg₂ HMul.hMul (at_col _ _ _ _ _ rfl) (at_col _ _ _ _ _ (by omega)))
      rfl
    unfold gated
    rw [← hA]
    unfold Conv3.silu LayerNorm.sig LayerNorm.pre LayerNorm.hat LayerNorm.inv LayerNorm.var LayerNorm.dev
    pointwise []
  refine List.forall_mem_cons.mpr ⟨fun x => ?_, ?_⟩
  · dsimp only
    refine chunk (e := .bf16) (n := 1024) (gated G (iblk m c 2 t) (iblk m c 3 t) (iblk m c 4 t) (iblk m c 5 t)) F hF1 _ _ _ (fun r j => ?_) x
    simp only [k0_pay128, k0_pay127]
    generalize hA : k0_pay126 (F := Ideal) _ _ _ _ _ = A
    have hA : (fun k => A (ix2 r k)) = fun k => conv G (iblk m c 2 t) (iblk m c 3 t) k (320 + r.val) := by
      funext k
      have hr := r.isLt
      rw [← hA]
      clear hA
      pointwise [k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay82, k0_pay83, k0_pay84, k0_pay85, k0_pay86, k0_pay87, k0_pay88, k0_pay89, k0_pay90, k0_pay91, k0_pay92, k0_pay93, k0_pay94, k0_pay96, k0_pay97, k0_pay98, k0_pay99, k0_pay100, k0_pay101, k0_pay102, k0_pay103, k0_pay104, k0_pay105, k0_pay106, k0_pay107, k0_pay108, k0_pay113, k0_pay114, k0_pay115, k0_pay116, k0_pay117, k0_pay118, k0_pay119, k0_pay120, k0_pay121, k0_pay122, k0_pay123, k0_pay124, k0_pay125, k0_pay126, k0_pay129, k0_pay130, k0_pay131, k0_pay132, k0_pay133, k0_pay134, k0_pay135, k0_pay136, k0_pay137, k0_pay138, k0_pay139, k0_pay140, k0_pay141, k0_pay142, k0_pay143, k0_pay145, k0_pay146, k0_pay147, k0_pay148, k0_pay149, k0_pay150, k0_pay151, k0_pay152, k0_pay153, k0_pay154, k0_pay155, k0_pay156]
      unfold conv taps
      iterate 31
        refine congrArg₂ HAdd.hAdd ?_ (congrArg₂ HMul.hMul (at_col _ _ _ _ _ rfl) (at_col _ _ _ _ _ (by omega)))
      rfl
    unfold gated
    rw [← hA]
    unfold Conv3.silu LayerNorm.sig LayerNorm.pre LayerNorm.hat LayerNorm.inv LayerNorm.var LayerNorm.dev
    pointwise []
  refine List.forall_mem_cons.mpr ⟨fun x => ?_, ?_⟩
  · dsimp only
    refine chunk (e := .bf16) (n := 1024) (gated G (iblk m c 2 t) (iblk m c 3 t) (iblk m c 4 t) (iblk m c 5 t)) F hF1 _ _ _ (fun r j => ?_) x
    simp only [k0_pay112, k0_pay111, k0_pay110, k0_pay109]
    generalize hA : k0_pay108 (F := Ideal) _ _ _ _ _ _ _ _ = A
    have hA : (fun k => A (ix2 r k)) = fun k => conv G (iblk m c 2 t) (iblk m c 3 t) k (256 + r.val) := by
      funext k
      have hr := r.isLt
      rw [← hA]
      clear hA
      pointwise [k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay82, k0_pay83, k0_pay84, k0_pay85, k0_pay86, k0_pay87, k0_pay88, k0_pay89, k0_pay90, k0_pay91, k0_pay92, k0_pay93, k0_pay94, k0_pay96, k0_pay97, k0_pay98, k0_pay99, k0_pay100, k0_pay101, k0_pay102, k0_pay103, k0_pay104, k0_pay105, k0_pay106, k0_pay107, k0_pay108, k0_pay113, k0_pay114, k0_pay115, k0_pay116, k0_pay117, k0_pay118, k0_pay119, k0_pay120, k0_pay121, k0_pay122, k0_pay123, k0_pay124, k0_pay125, k0_pay126, k0_pay129, k0_pay130, k0_pay131, k0_pay132, k0_pay133, k0_pay134, k0_pay135, k0_pay136, k0_pay137, k0_pay138, k0_pay139, k0_pay140, k0_pay141, k0_pay142, k0_pay143, k0_pay145, k0_pay146, k0_pay147, k0_pay148, k0_pay149, k0_pay150, k0_pay151, k0_pay152, k0_pay153, k0_pay154, k0_pay155, k0_pay156]
      unfold conv taps
      iterate 31
        refine congrArg₂ HAdd.hAdd ?_ (congrArg₂ HMul.hMul (at_col _ _ _ _ _ rfl) (at_col _ _ _ _ _ (by omega)))
      rfl
    unfold gated
    rw [← hA]
    unfold Conv3.silu LayerNorm.sig LayerNorm.pre LayerNorm.hat LayerNorm.inv LayerNorm.var LayerNorm.dev
    pointwise []
  refine List.forall_mem_cons.mpr ⟨fun x => ?_, ?_⟩
  · dsimp only
    refine chunk (e := .bf16) (n := 1024) (gated G (iblk m c 2 t) (iblk m c 3 t) (iblk m c 4 t) (iblk m c 5 t)) F hF1 _ _ _ (fun r j => ?_) x
    simp only [k0_pay95]
    generalize hA : k0_pay94 (F := Ideal) _ _ _ _ _ _ _ _ _ _ _ = A
    have hA : (fun k => A (ix2 r k)) = fun k => conv G (iblk m c 2 t) (iblk m c 3 t) k (192 + r.val) := by
      funext k
      have hr := r.isLt
      rw [← hA]
      clear hA
      pointwise [k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay82, k0_pay83, k0_pay84, k0_pay85, k0_pay86, k0_pay87, k0_pay88, k0_pay89, k0_pay90, k0_pay91, k0_pay92, k0_pay93, k0_pay94, k0_pay96, k0_pay97, k0_pay98, k0_pay99, k0_pay100, k0_pay101, k0_pay102, k0_pay103, k0_pay104, k0_pay105, k0_pay106, k0_pay107, k0_pay108, k0_pay113, k0_pay114, k0_pay115, k0_pay116, k0_pay117, k0_pay118, k0_pay119, k0_pay120, k0_pay121, k0_pay122, k0_pay123, k0_pay124, k0_pay125, k0_pay126, k0_pay129, k0_pay130, k0_pay131, k0_pay132, k0_pay133, k0_pay134, k0_pay135, k0_pay136, k0_pay137, k0_pay138, k0_pay139, k0_pay140, k0_pay141, k0_pay142, k0_pay143, k0_pay145, k0_pay146, k0_pay147, k0_pay148, k0_pay149, k0_pay150, k0_pay151, k0_pay152, k0_pay153, k0_pay154, k0_pay155, k0_pay156]
      unfold conv taps
      iterate 31
        refine congrArg₂ HAdd.hAdd ?_ (congrArg₂ HMul.hMul (at_col _ _ _ _ _ rfl) (at_col _ _ _ _ _ (by omega)))
      rfl
    unfold gated
    rw [← hA]
    unfold Conv3.silu LayerNorm.sig LayerNorm.pre LayerNorm.hat LayerNorm.inv LayerNorm.var LayerNorm.dev
    pointwise []
  refine List.forall_mem_cons.mpr ⟨fun x => ?_, ?_⟩
  · dsimp only
    refine chunk (e := .bf16) (n := 1024) (gated G (iblk m c 2 t) (iblk m c 3 t) (iblk m c 4 t) (iblk m c 5 t)) F hF1 _ _ _ (fun r j => ?_) x
    simp only [k0_pay81, k0_pay80, k0_pay79]
    generalize hA : k0_pay78 (F := Ideal) _ _ _ _ _ _ = A
    have hA : (fun k => A (ix2 r k)) = fun k => conv G (iblk m c 2 t) (iblk m c 3 t) k (128 + r.val) := by
      funext k
      have hr := r.isLt
      rw [← hA]
      clear hA
      pointwise [k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay82, k0_pay83, k0_pay84, k0_pay85, k0_pay86, k0_pay87, k0_pay88, k0_pay89, k0_pay90, k0_pay91, k0_pay92, k0_pay93, k0_pay94, k0_pay96, k0_pay97, k0_pay98, k0_pay99, k0_pay100, k0_pay101, k0_pay102, k0_pay103, k0_pay104, k0_pay105, k0_pay106, k0_pay107, k0_pay108, k0_pay113, k0_pay114, k0_pay115, k0_pay116, k0_pay117, k0_pay118, k0_pay119, k0_pay120, k0_pay121, k0_pay122, k0_pay123, k0_pay124, k0_pay125, k0_pay126, k0_pay129, k0_pay130, k0_pay131, k0_pay132, k0_pay133, k0_pay134, k0_pay135, k0_pay136, k0_pay137, k0_pay138, k0_pay139, k0_pay140, k0_pay141, k0_pay142, k0_pay143, k0_pay145, k0_pay146, k0_pay147, k0_pay148, k0_pay149, k0_pay150, k0_pay151, k0_pay152, k0_pay153, k0_pay154, k0_pay155, k0_pay156]
      unfold conv taps
      iterate 31
        refine congrArg₂ HAdd.hAdd ?_ (congrArg₂ HMul.hMul (at_col _ _ _ _ _ rfl) (at_col _ _ _ _ _ (by omega)))
      rfl
    unfold gated
    rw [← hA]
    unfold Conv3.silu LayerNorm.sig LayerNorm.pre LayerNorm.hat LayerNorm.inv LayerNorm.var LayerNorm.dev
    pointwise []
  refine List.forall_mem_cons.mpr ⟨fun x => ?_, ?_⟩
  · dsimp only
    refine chunk (e := .bf16) (n := 1024) (gated G (iblk m c 2 t) (iblk m c 3 t) (iblk m c 4 t) (iblk m c 5 t)) F hF1 _ _ _ (fun r j => ?_) x
    simp only [k0_pay61, k0_pay60, k0_pay59]
    generalize hA : k0_pay58 (F := Ideal) _ _ _ _ _ _ = A
    have hA : (fun k => A (ix2 r k)) = fun k => conv G (iblk m c 2 t) (iblk m c 3 t) k (64 + r.val) := by
      funext k
      have hr := r.isLt
      rw [← hA]
      clear hA
      pointwise [k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay82, k0_pay83, k0_pay84, k0_pay85, k0_pay86, k0_pay87, k0_pay88, k0_pay89, k0_pay90, k0_pay91, k0_pay92, k0_pay93, k0_pay94, k0_pay96, k0_pay97, k0_pay98, k0_pay99, k0_pay100, k0_pay101, k0_pay102, k0_pay103, k0_pay104, k0_pay105, k0_pay106, k0_pay107, k0_pay108, k0_pay113, k0_pay114, k0_pay115, k0_pay116, k0_pay117, k0_pay118, k0_pay119, k0_pay120, k0_pay121, k0_pay122, k0_pay123, k0_pay124, k0_pay125, k0_pay126, k0_pay129, k0_pay130, k0_pay131, k0_pay132, k0_pay133, k0_pay134, k0_pay135, k0_pay136, k0_pay137, k0_pay138, k0_pay139, k0_pay140, k0_pay141, k0_pay142, k0_pay143, k0_pay145, k0_pay146, k0_pay147, k0_pay148, k0_pay149, k0_pay150, k0_pay151, k0_pay152, k0_pay153, k0_pay154, k0_pay155, k0_pay156]
      unfold conv taps
      iterate 31
        refine congrArg₂ HAdd.hAdd ?_ (congrArg₂ HMul.hMul (at_col _ _ _ _ _ rfl) (at_col _ _ _ _ _ (by omega)))
      rfl
    unfold gated
    rw [← hA]
    unfold Conv3.silu LayerNorm.sig LayerNorm.pre LayerNorm.hat LayerNorm.inv LayerNorm.var LayerNorm.dev
    pointwise []
  refine List.forall_mem_cons.mpr ⟨fun x => ?_, ?_⟩
  · dsimp only
    refine chunk (e := .bf16) (n := 1024) (gated G (iblk m c 2 t) (iblk m c 3 t) (iblk m c 4 t) (iblk m c 5 t)) F hF1 _ _ _ (fun r j => ?_) x
    simp only [k0_pay46, k0_pay45]
    generalize hA : k0_pay44 (F := Ideal) _ _ _ _ _ _ _ _ _ _ = A
    have hA : (fun k => A (ix2 r k)) = fun k => conv G (iblk m c 2 t) (iblk m c 3 t) k (0 + r.val) := by
      funext k
      have hr := r.isLt
      rw [← hA]
      clear hA
      pointwise [k0_pay30, k0_pay31, k0_pay32, k0_pay33, k0_pay34, k0_pay35, k0_pay36, k0_pay37, k0_pay38, k0_pay39, k0_pay40, k0_pay41, k0_pay42, k0_pay43, k0_pay44, k0_pay47, k0_pay48, k0_pay49, k0_pay50, k0_pay51, k0_pay52, k0_pay53, k0_pay54, k0_pay55, k0_pay56, k0_pay57, k0_pay58, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay82, k0_pay83, k0_pay84, k0_pay85, k0_pay86, k0_pay87, k0_pay88, k0_pay89, k0_pay90, k0_pay91, k0_pay92, k0_pay93, k0_pay94, k0_pay96, k0_pay97, k0_pay98, k0_pay99, k0_pay100, k0_pay101, k0_pay102, k0_pay103, k0_pay104, k0_pay105, k0_pay106, k0_pay107, k0_pay108, k0_pay113, k0_pay114, k0_pay115, k0_pay116, k0_pay117, k0_pay118, k0_pay119, k0_pay120, k0_pay121, k0_pay122, k0_pay123, k0_pay124, k0_pay125, k0_pay126, k0_pay129, k0_pay130, k0_pay131, k0_pay132, k0_pay133, k0_pay134, k0_pay135, k0_pay136, k0_pay137, k0_pay138, k0_pay139, k0_pay140, k0_pay141, k0_pay142, k0_pay143, k0_pay145, k0_pay146, k0_pay147, k0_pay148, k0_pay149, k0_pay150, k0_pay151, k0_pay152, k0_pay153, k0_pay154, k0_pay155, k0_pay156]
      unfold conv taps
      iterate 31
        refine congrArg₂ HAdd.hAdd ?_ (congrArg₂ HMul.hMul (at_col _ _ _ _ _ rfl) (at_col _ _ _ _ _ (by omega)))
      rfl
    unfold gated
    rw [← hA]
    unfold Conv3.silu LayerNorm.sig LayerNorm.pre LayerNorm.hat LayerNorm.inv LayerNorm.var LayerNorm.dev
    pointwise []
  exact fun p hp => absurd hp List.not_mem_nil

end Cert.MixF

end
-- ==== Proof.MixFRef.lean ====
/- The plain Conformer module's arrays, entry by entry. -/
module

public import proofs.«01_k».proof.Proof.Scan
public import proofs.«01_k».proof.Proof.Conv3
public import proofs.«01_k».proof.Proof.Conv31
public import proofs.«01_k».proof.Proof.Gen.ReferenceMixFIdeal.Read
public import Idealize.ShloMosaic.Lib.Pipeline.ValueKit

@[expose] public section

set_option maxRecDepth 16384

noncomputable section

open Idealize.ShloMosaic Idealize.ShloMosaic.TcCoe Idealize.SL.Sem

namespace Cert.MixFRef

open Cert.ReferenceMixFIdeal Cert.ReferenceMixFIdeal.Read Scan

variable (u : FVec Ideal ⟨3, ![2, 2048, 1536]⟩ .f32) (cw : FVec Ideal ⟨2, ![31, 512]⟩ .f32) (cb lg lb : FVec Ideal ⟨2, ![1, 512]⟩ .f32)
  (pw : FVec Ideal ⟨3, ![4, 128, 128]⟩ .f32) (ps : FVec Ideal ⟨2, ![1, 512]⟩ .f32)

/-- The gated linear unit of a sequence's column. -/
def unit (b : Fin 2) (j : Fin 512) (s : Nat) : EReal :=
  col3 u b ⟨j.val, by omega⟩ s * LayerNorm.sig (col3 u b ⟨512 + j.val, by omega⟩ s)

/-- The same with thirty zeros before it. -/
def pad (b : Fin 2) (j : Fin 512) (s : Nat) : EReal := if s < 30 then 0 else unit u b j (s - 30)

/-- The convolution of a column. -/
def hc (b : Fin 2) (j : Fin 512) (s : Nat) : EReal := (∑ q : Fin 31, cw (ix2 q j) * pad u b j (s + q.val)) + cb (ix2 0 j)

theorem unit_apply (b : Fin 2) (s : Fin 2048) (j : Fin 512) : val_main_v9 (F := Ideal) u (ix3 b s j) = unit u b j s.val := by
  unfold unit col3 LayerNorm.sig
  rw [dif_pos s.isLt, dif_pos s.isLt, zero_sub]
  unfold val_main_v9 val_main_v8 val_main_v7 val_main_v6 val_main_v5 val_main_v4 val_main_v3 val_main_v2 val_main_v1 val_main_v0
  pointwise [val_main_cst, val_main_cst_0]

theorem pad_apply (b : Fin 2) (s : Fin 2078) (j : Fin 512) (n : Nat) (hn : s.val = n) : val_main_v12 (F := Ideal) u (ix3 b s j) = pad u b j n := by
  subst hn
  unfold val_main_v12 val_main_v11 pad
  by_cases hs : s.val < 30
  · rw [if_pos hs]
    generalize val_main_v9 (F := Ideal) u = X
    pointwise [val_main_cst_1]
    rw [dif_pos hs]
  · rw [if_neg hs, ← unit_apply u b ⟨s.val - 30, by omega⟩ j]
    generalize val_main_v9 (F := Ideal) u = X
    pointwise [val_main_cst_1]
    rw [dif_neg hs]

set_option maxHeartbeats 2000000 in
theorem hc_apply (b : Fin 2) (s : Fin 2048) (j : Fin 512) : val_main_v231 (F := Ideal) u cw cb (ix3 b s j) = hc u cw cb b j s.val := by
  unfold val_main_v231 val_main_v230 val_main_v229 val_main_v228 val_main_v227 val_main_v226 val_main_v225 val_main_v224 val_main_v223 val_main_v222
    val_main_v221 val_main_v220 val_main_v219 val_main_v218 val_main_v217 val_main_v216 val_main_v215 val_main_v214 val_main_v213 val_main_v212
    val_main_v211 val_main_v210 val_main_v209 val_main_v208 val_main_v207 val_main_v206 val_main_v205 val_main_v204 val_main_v203 val_main_v202
    val_main_v201 val_main_v200 val_main_v199 val_main_v198 val_main_v197 val_main_v196 val_main_v195 val_main_v194 val_main_v193 val_main_v192
    val_main_v191 val_main_v190 val_main_v189 val_main_v188 val_main_v187 val_main_v186 val_main_v185 val_main_v184 val_main_v183 val_main_v182
    val_main_v181 val_main_v180 val_main_v179 val_main_v178 val_main_v177 val_main_v176 val_main_v175 val_main_v174 val_main_v173 val_main_v172
    val_main_v171 val_main_v170 val_main_v169 val_main_v168 val_main_v167 val_main_v166 val_main_v165 val_main_v164 val_main_v163 val_main_v162
    val_main_v161 val_main_v160 val_main_v159 val_main_v158 val_main_v157 val_main_v156 val_main_v155 val_main_v154 val_main_v153 val_main_v152
    val_main_v151 val_main_v150 val_main_v149 val_main_v148 val_main_v147 val_main_v146 val_main_v145 val_main_v144 val_main_v143 val_main_v142
    val_main_v141 val_main_v140 val_main_v139 val_main_v138 val_main_v137 val_main_v136 val_main_v135 val_main_v134 val_main_v133 val_main_v132
    val_main_v131 val_main_v130 val_main_v129 val_main_v128 val_main_v127 val_main_v126 val_main_v125 val_main_v124 val_main_v123 val_main_v122
    val_main_v121 val_main_v120 val_main_v119 val_main_v118 val_main_v117 val_main_v116 val_main_v115 val_main_v114 val_main_v113 val_main_v112
    val_main_v111 val_main_v110 val_main_v109 val_main_v108 val_main_v107 val_main_v106 val_main_v105 val_main_v104 val_main_v103 val_main_v102
    val_main_v101 val_main_v100 val_main_v99 val_main_v98 val_main_v97 val_main_v96 val_main_v95 val_main_v94 val_main_v93 val_main_v92 val_main_v91
    val_main_v90 val_main_v89 val_main_v88 val_main_v87 val_main_v86 val_main_v85 val_main_v84 val_main_v83 val_main_v82 val_main_v81 val_main_v80
    val_main_v79 val_main_v78 val_main_v77 val_main_v76 val_main_v75 val_main_v74 val_main_v73 val_main_v72 val_main_v71 val_main_v70 val_main_v69
    val_main_v68 val_main_v67 val_main_v66 val_main_v65 val_main_v64 val_main_v63 val_main_v62 val_main_v61 val_main_v60 val_main_v59 val_main_v58
    val_main_v57 val_main_v56 val_main_v55 val_main_v54 val_main_v53 val_main_v52 val_main_v51 val_main_v50 val_main_v49 val_main_v48 val_main_v47
    val_main_v46 val_main_v45 val_main_v44 val_main_v43 val_main_v42 val_main_v41 val_main_v40 val_main_v39 val_main_v38 val_main_v37 val_main_v36
    val_main_v35 val_main_v34 val_main_v33 val_main_v32 val_main_v31 val_main_v30 val_main_v29 val_main_v28 val_main_v27 val_main_v26 val_main_v25
    val_main_v24 val_main_v23 val_main_v22 val_main_v21 val_main_v20 val_main_v19 val_main_v18 val_main_v17 val_main_v16 val_main_v15 val_main_v14
    val_main_v13 val_main_v10
  have hX := pad_apply u b
  generalize val_main_v12 (F := Ideal) u = X at hX ⊢
  pointwise []
  unfold hc
  refine congrArg (· + cb (ix2 0 j)) ?_
  have e : ∑ q : Fin 31, cw (ix2 q j) * pad u b j (s.val + q.val) = ∑ q ∈ Finset.range 31, Conv31.col cw j q * pad u b j (s.val + q) := by
    rw [Finset.sum_range]
    exact Finset.sum_congr rfl fun q _ => congrArg (· * pad u b j (s.val + q.val)) (Conv31.at_col cw j q.val q.isLt _ rfl)
  refine Eq.trans ?_ e.symm
  simp only [Finset.sum_range_succ, Finset.sum_range_zero, zero_add]
  iterate 30
    refine congrArg₂ HAdd.hAdd ?_ (congrArg₂ HMul.hMul (Conv31.at_col _ _ _ _ _ rfl) (hX _ _ _ (Nat.add_comm _ _)))
  exact congrArg₂ HMul.hMul (Conv31.at_col _ _ _ _ _ rfl) (hX _ _ _ rfl)

/-- The convolved values at row `2048 b + s`. -/
theorem stored_hc (b : Fin 2) (s : Fin 2048) (j : Fin 512) (i : (⟨2, ![4096, 512]⟩ : Shape).Idx) (h0 : (i 0).val = b.val * 2048 + s.val) (h1 : (i 1).val = j.val) :
    val_main_v339 (F := Ideal) u cw cb i = hc u cw cb b j s.val := by
  rw [show i = ix2 ⟨b.val * 2048 + s.val, by omega⟩ j from (eq_ix2 i).trans (congrArg₂ ix2 (Fin.ext h0) (Fin.ext h1)), ← hc_apply]
  unfold val_main_v339
  generalize val_main_v231 (F := Ideal) u cw cb = X
  pointwise []

/-- The normed rows put through `y · sigmoid y`. -/
def gated (b : Fin 2) (j : Fin 512) (s : Nat) : EReal :=
  Conv3.silu (LayerNorm.pre (fun k => hc u cw cb b k s) (fun k => lg (ix2 0 k)) (fun k => lb (ix2 0 k)) j)

theorem gated_apply (b : Fin 2) (s : Fin 2048) (j : Fin 512) : val_main_v258 (F := Ideal) u cw cb lg lb (ix3 b s j) = gated u cw cb lg lb b j s.val := by
  unfold gated Conv3.silu LayerNorm.sig LayerNorm.pre LayerNorm.hat LayerNorm.inv LayerNorm.var LayerNorm.dev
  simp only [← hc_apply, zero_sub]
  unfold val_main_v258 val_main_call0_v5 val_main_call0_v4 val_main_call0_v3 val_main_call0_v2 val_main_call0_v1 val_main_call0_v0 val_main_v257 val_main_v256
    val_main_v255 val_main_v254 val_main_v253 val_main_v252 val_main_v251 val_main_v250 val_main_v249 val_main_v248 val_main_v247 val_main_v246
    val_main_v245 val_main_v244 val_main_v243 val_main_v242 val_main_v241 val_main_v240 val_main_v239 val_main_v238 val_main_v237 val_main_v236
    val_main_v235 val_main_v234 val_main_v233 val_main_v232
  generalize val_main_v231 (F := Ideal) u cw cb = X
  pointwise [val_main_call0_cst, val_main_call0_cst_0, val_main_cst_2, val_main_cst_3, val_main_cst_4, val_main_cst_5, val_main_cst_6]

/-- The columns to be pooled, by group, and the number of rows a group pools. -/
abbrev src (g : Fin 4) (k : Fin 128) : Fin 1536 := ⟨1024 + (128 * g.val + k.val), by omega⟩
def wide : Fin 4 → Nat := ![2, 4, 8, 16]
def wideE : Fin 4 → EReal := ![Ideal.ofBits .f32 0x40000000#32, Ideal.ofBits .f32 0x40800000#32, Ideal.ofBits .f32 0x41000000#32, Ideal.ofBits .f32 0x41800000#32]

/-- The pooled values: a difference of running sums over the number of rows, less the row itself. -/
def pooled (b : Fin 2) (g : Fin 4) (k : Fin 128) (s : Nat) : EReal :=
  Ideal.div (∑ d ∈ Finset.range (s + 1), col3 u b (src g k) d - (if s < wide g then 0 else ∑ d ∈ Finset.range (s - wide g + 1), col3 u b (src g k) d))
    (min (1 + ((s : ℝ) : EReal)) (wideE g)) - col3 u b (src g k) s

theorem scan_apply (x : FVec Ideal S2x2048x128 .f32) (z : FVec Ideal S_ .f32) (hz : ∀ i, z i = 0)
    (h : S2x2048x128.ReduceWindows (![1, 2048, 1] : Fin 3 → Nat) ![1, 1, 1] ![0, 2047, 0] ![0, 0, 0] S2x2048x128) (hu : 0 < S_.numel) (b : Fin 2) (s : Fin 2048)
    (k : Fin 128) : Host.reduceWindowAdd ![1, 2048, 1] ![1, 1, 1] ![0, 2047, 0] ![0, 0, 0] x z h hu (ix3 b s k) = ∑ d ∈ Finset.range (s.val + 1), col3 x b k d := by
  unfold Host.reduceWindowAdd
  rw [hz]
  exact prefix_apply (n := 2047) x h b s k

theorem group_apply (b : Fin 2) (k : Fin 128) (g : Fin 4) (s : Nat) :
    col3 (![val_main_v261 (F := Ideal) u, val_main_v262 (F := Ideal) u, val_main_v263 (F := Ideal) u, val_main_v264 (F := Ideal) u] g) b k s = col3 u b (src g k) s := by
  unfold col3
  by_cases h : s < 2048
  · rw [dif_pos h, dif_pos h]
    fin_cases g
    all_goals
      simp only [val_main_v261, val_main_v262, val_main_v263, val_main_v264, val_main_v259, Fin.zero_eta, Fin.mk_one, Fin.reduceFinMk, Matrix.cons_val]
      pointwise []
      try exact congrArg (fun q => u (ix3 b ⟨s, h⟩ q)) (Fin.ext (by simp))
  · rw [dif_neg h, dif_neg h]

theorem sums_apply (b : Fin 2) (s : Fin 2048) (k : Fin 128) (g : Fin 4) :
    (![val_main_v265 (F := Ideal) u, val_main_v280 (F := Ideal) u, val_main_v295 (F := Ideal) u, val_main_v310 (F := Ideal) u] g) (ix3 b s k)
      = ∑ d ∈ Finset.range (s.val + 1), col3 u b (src g k) d := by
  simp only [← group_apply]
  fin_cases g
  all_goals exact scan_apply _ _ (fun i => by
    simp only [val_main_call1_call0_v0, val_main_call2_call0_v0, val_main_call3_call0_v0, val_main_call4_call0_v0]
    pointwise [val_main_call1_call0_cst, val_main_call2_call0_cst, val_main_call3_call0_cst, val_main_call4_call0_cst]) _ _ b s k

theorem stack_apply (b : Fin 2) (s : Fin 2048) (g : Fin 4) (k : Fin 128) : val_main_v329 (F := Ideal) u (ix4 b s g k) = pooled u b g k s.val := by
  have key (g : Fin 4) (A V : S2x2048x128.Idx → EReal) (W : Nat) (hW : wide g = W) (hA : ∀ s : Fin 2048, A (ix3 b s k) = ∑ d ∈ Finset.range (s.val + 1), col3 u b (src g k) d)
      (hV : col3 V b k s.val = col3 u b (src g k) s.val) : Ideal.div (A (ix3 b s k) - if h : s.val < W then 0 else A (ix3 b ⟨s.val - W, by omega⟩ k))
        (min (1 + FloatOps.sitofp (F := Ideal) .f32 (BitVec.ofNat 32 s.val)) (wideE g)) - V (ix3 b s k) = pooled u b g k s.val := by
    subst hW
    unfold pooled
    rw [hA, Scan.place_eq _ s.isLt, ← hV, show col3 V b k s.val = V (ix3 b s k) from dif_pos s.isLt]
    refine congrArg (fun q => Ideal.div (_ - q) _ - _) ?_
    by_cases h : s.val < wide g
    · rw [dif_pos h, if_pos h]
    · rw [dif_neg h, if_neg h, hA]
  unfold val_main_v329
  fin_cases g
  all_goals
    simp only [val_main_v279, val_main_v278, val_main_v277, val_main_v276, val_main_v275, val_main_v274, val_main_v273, val_main_v272, val_main_v271, val_main_v270, val_main_v269, val_main_v268, val_main_v267, val_main_v266, val_main_v294, val_main_v293, val_main_v292, val_main_v291, val_main_v290, val_main_v289, val_main_v288, val_main_v287, val_main_v286, val_main_v285, val_main_v284, val_main_v283, val_main_v282, val_main_v281, val_main_v309, val_main_v308, val_main_v307, val_main_v306, val_main_v305, val_main_v304, val_main_v303, val_main_v302, val_main_v301, val_main_v300, val_main_v299, val_main_v298, val_main_v297, val_main_v296, val_main_v324, val_main_v323, val_main_v322, val_main_v321, val_main_v320, val_main_v319, val_main_v318, val_main_v317, val_main_v316, val_main_v315, val_main_v314, val_main_v313, val_main_v312, val_main_v311, val_main_v325, val_main_v326, val_main_v327, val_main_v328]
    pointwise [val_main_cst_7, val_main_cst_8, val_main_cst_9, val_main_cst_10, val_main_cst_11, val_main_cst_12, val_main_cst_13, val_main_cst_14, val_main_cst_15, val_main_cst_16, val_main_cst_17, val_main_cst_18]
  · exact key 0 _ _ 2 rfl (fun s => sums_apply u b s k 0) (group_apply u b k 0 s.val)
  · exact key 1 _ _ 4 rfl (fun s => sums_apply u b s k 1) (group_apply u b k 1 s.val)
  · exact key 2 _ _ 8 rfl (fun s => sums_apply u b s k 2) (group_apply u b k 2 s.val)
  · exact key 3 _ _ 16 rfl (fun s => sums_apply u b s k 3) (group_apply u b k 3 s.val)

/-- The pooled values through the groups' matrices, and scaled. -/
def mixed (b : Fin 2) (g : Fin 4) (j : Fin 128) (s : Nat) : EReal :=
  (∑ k, pw (ix3 g k j) * pooled u b g k s) * ps (ix2 0 ⟨128 * g.val + j.val, by omega⟩)

theorem mixed_apply (b : Fin 2) (s : Fin 2048) (g : Fin 4) (j : Fin 128) (q : Fin 512) (hq : q.val = 128 * g.val + j.val) :
    val_main_v335 (F := Ideal) u pw ps (ix3 b s q) = mixed u pw ps b g j s.val := by
  have hj : 128 * g.val + j.val < 512 := by omega
  rw [show q = ⟨128 * g.val + j.val, hj⟩ from Fin.ext hq]
  clear hq q
  unfold mixed val_main_v335 val_main_v334 val_main_v333 val_main_v332 val_main_v331 val_main_v260
  simp only [← stack_apply]
  have hd := val_main_v330_apply u pw
  generalize val_main_v330 (F := Ideal) u pw = Y at hd ⊢
  generalize val_main_v329 (F := Ideal) u = X at hd ⊢
  pointwise []
  rw [hd]
  refine congrArg (· * ps (ix2 0 ⟨128 * g.val + j.val, hj⟩)) (Finset.sum_congr rfl fun k _ => congrArg₂ HMul.hMul (congrArg pw (eq_ix3 _)) (congrArg X (funext fun a => ?_)))
  match a with
  | ⟨0, _⟩ | ⟨1, _⟩ | ⟨2, _⟩ | ⟨3, _⟩ => rfl

/-- The result at row `2048 b + s`, in the convolution's columns and in the pooled ones. -/
theorem stored_gated (b : Fin 2) (s : Fin 2048) (j : Fin 512) (i : (⟨2, ![4096, 1024]⟩ : Shape).Idx) (h0 : (i 0).val = b.val * 2048 + s.val) (h1 : (i 1).val = j.val) :
    val_main_v338 (F := Ideal) u cw cb lg lb pw ps i = gated u cw cb lg lb b j s.val := by
  rw [show i = ix2 ⟨b.val * 2048 + s.val, by omega⟩ ⟨j.val, j.isLt.trans (by decide)⟩ from (eq_ix2 i).trans (congrArg₂ ix2 (Fin.ext h0) (Fin.ext h1)), ← gated_apply]
  unfold val_main_v338 val_main_v337 val_main_v336
  generalize val_main_v258 (F := Ideal) u cw cb lg lb = X
  generalize val_main_v335 (F := Ideal) u pw ps = Y
  pointwise []

theorem stored_mixed (b : Fin 2) (s : Fin 2048) (g : Fin 4) (j : Fin 128) (i : (⟨2, ![4096, 1024]⟩ : Shape).Idx) (h0 : (i 0).val = b.val * 2048 + s.val)
    (h1 : (i 1).val = 512 + 128 * g.val + j.val) : val_main_v338 (F := Ideal) u cw cb lg lb pw ps i = mixed u pw ps b g j s.val := by
  rw [show i = ix2 ⟨b.val * 2048 + s.val, by omega⟩ ⟨512 + (128 * g.val + j.val), by omega⟩ from (eq_ix2 i).trans (congrArg₂ ix2 (Fin.ext h0) (Fin.ext (h1.trans (Nat.add_assoc _ _ _)))),
    ← mixed_apply u pw ps b s g j ⟨128 * g.val + j.val, by omega⟩ rfl]
  unfold val_main_v338 val_main_v337 val_main_v336
  generalize val_main_v258 (F := Ideal) u cw cb lg lb = X
  generalize val_main_v335 (F := Ideal) u pw ps = Y
  pointwise []

end Cert.MixFRef

end
-- ==== Proof.MixF.lean ====
/- The Conformer module forward: the kernel and the plain lines leave the same arrays. -/
module

public import proofs.«01_k».proof.Defs
public import proofs.«01_k».proof.Proof.MixFOut
public import proofs.«01_k».proof.Proof.MixFRef
public import proofs.«01_k».proof.Proof.Gen.KernelMixFIdeal.Value
public import proofs.«01_k».proof.Proof.Gen.ReferenceMixFIdeal.Run
public import proofs.«01_k».proof.Proof.Gen.Pre_finite_mixf

@[expose] public section

set_option maxRecDepth 16384

noncomputable section

open Idealize.ShloMosaic Idealize.ShloMosaic.TcCoe Idealize.SL.Sem

namespace Cert.MixF

open Cert.KernelMixFIdeal Cert.KernelMixFIdeal.Gen Conv31 Scan

theorem idx : ∀ t : Fin cfg0.N, win0_0.index t = ![t.val, 0] ∧ win0_1.index t = ![16 * t.val - 1, 0] ∧ win0_2.index t = ![0, 0] ∧ win0_3.index t = ![0, 0]
    ∧ win0_4.index t = ![0, 0] ∧ win0_5.index t = ![0, 0] ∧ win0_6.index t = ![0, 0, 0] ∧ win0_7.index t = ![0, 0] ∧ win0_8.index t = ![t.val, 0]
    ∧ win0_9.index t = ![t.val, 0] :=
  (by decide +kernel : ∀ t : Fin grid0.N, _)

theorem point_eq : ∀ t : Fin cfg0.N, (grid0.coords t 0).val = t.val :=
  (by decide +kernel : ∀ t : Fin grid0.N, _)

variable (m : (ℓ : Loc nD τ sig) → Buf (Elt Ideal) ℓ) (c : Dev nD) (t : Fin cfg0.N)

/-- The argument arrays. -/
abbrev au : FVec Ideal ⟨3, ![2, 2048, 1536]⟩ .f32 := m ((c : Thread nD τ).loc main_arg0)
abbrev acw : FVec Ideal ⟨2, ![31, 512]⟩ .f32 := m ((c : Thread nD τ).loc main_arg1)
abbrev acb : FVec Ideal ⟨2, ![1, 512]⟩ .f32 := m ((c : Thread nD τ).loc main_arg2)
abbrev alg : FVec Ideal ⟨2, ![1, 512]⟩ .f32 := m ((c : Thread nD τ).loc main_arg3)
abbrev alb : FVec Ideal ⟨2, ![1, 512]⟩ .f32 := m ((c : Thread nD τ).loc main_arg4)
abbrev apw : FVec Ideal ⟨3, ![4, 128, 128]⟩ .f32 := m ((c : Thread nD τ).loc main_arg5)
abbrev aps : FVec Ideal ⟨2, ![1, 512]⟩ .f32 := m ((c : Thread nD τ).loc main_arg6)

theorem at_u (r : Fin 512) (k : Fin 1536) (b : Fin 2) (s : Fin 2048) (h : t.val * 512 + r.val = b.val * 2048 + s.val) :
    iblk m c 0 t (ix2 r k) = au m c (ix3 b s k) := by
  blk_point [iblk, V, idx t]

theorem at_z (r : Fin 32) (k : Fin 1536) (b : Fin 2) (s : Fin 2048) (h : (16 * t.val - 1) * 32 + r.val = b.val * 2048 + s.val) :
    iblk m c 1 t (ix2 r k) = au m c (ix3 b s k) := by
  blk_point [iblk, V, idx t]

theorem at_w (q : Fin 31) (u : Fin 32) (hu : u.val = q.val) (j : Fin 512) : iblk m c 2 t (ix2 u j) = acw m c (ix2 q j) := by
  blk_simp [iblk, V]
  entry_read
  pointwise []
  rw [dif_pos (by blk_simp [idx t]; omega)]
  blk_point [idx t]

theorem at_b (j : Fin 512) : iblk m c 3 t (ix2 0 j) = acb m c (ix2 0 j) := by
  blk_point [iblk, V, idx t]

theorem at_lg (j : Fin 512) : iblk m c 4 t (ix2 0 j) = alg m c (ix2 0 j) := by
  blk_point [iblk, V, idx t]

theorem at_lb (j : Fin 512) : iblk m c 5 t (ix2 0 j) = alb m c (ix2 0 j) := by
  blk_point [iblk, V, idx t]

theorem at_pw (g : Fin 4) (k j : Fin 128) : iblk m c 6 t (ix3 g k j) = apw m c (ix3 g k j) := by
  blk_point [iblk, V, idx t]

theorem at_ps (j : Fin 512) : iblk m c 7 t (ix2 0 j) = aps m c (ix2 0 j) := by
  blk_point [iblk, V, idx t]

section
variable (b : Fin 2) (hb : t.val / 4 = b.val)
include hb

/-- A block's columns with the rows before it are the sequence's, zero before its start. -/
theorem ext_eq (k : Fin 1536) (n : Nat) (hn : n < 544) : ext (grid0.coords t) (iblk m c 0 t) (iblk m c 1 t) k n
    = if t.val % 4 * 512 + n < 32 then 0 else col3 (au m c) b k (t.val % 4 * 512 + n - 32) := by
  have ht : t.val < 8 := t.isLt
  unfold ext
  by_cases h : n < 32
  · rw [if_pos h]
    unfold keep
    rw [point_eq]
    by_cases h0 : t.val % 4 = 0
    · rw [if_pos h0, if_pos (by omega), mul_zero]
    · rw [if_neg h0, if_neg (by omega), mul_one, ← at_col _ k n h n rfl, col3, dif_pos (by omega)]
      exact at_z m c t _ k b _ (by show (16 * t.val - 1) * 32 + n = b.val * 2048 + (t.val % 4 * 512 + n - 32); omega)
  · rw [if_neg h, if_neg (by omega), ← at_col _ k (n - 32) (by omega) _ rfl, col3, dif_pos (by omega)]
    exact at_u m c t _ k b _ (by show t.val * 512 + (n - 32) = b.val * 2048 + (t.val % 4 * 512 + n - 32); omega)

/-- The scratch of gated values is the padded sequence. -/
theorem hg_eq (j : Fin 512) (n : Nat) (hn : n < 544) (p : Nat) (hp : t.val % 4 * 512 + n = p + 2) :
    col (hg (grid0.coords t) (iblk m c 0 t) (iblk m c 1 t)) j n = MixFRef.pad (au m c) b j p := by
  rw [← at_col _ j n hn n rfl]
  show glu (ext _ _ _ ⟨j.val, _⟩ n) (ext _ _ _ ⟨512 + j.val, _⟩ n) = _
  rw [ext_eq m c t b hb _ n hn, ext_eq m c t b hb _ n hn]
  unfold glu MixFRef.pad MixFRef.unit
  by_cases h : p < 30
  · rw [if_pos (by omega), if_pos (by omega), if_pos h, zero_mul]
  · rw [if_neg (by omega), if_neg (by omega), if_neg h, show t.val % 4 * 512 + n - 32 = p - 30 by omega]

theorem conv_eq (j : Fin 512) (s : Fin 512) : conv (hg (grid0.coords t) (iblk m c 0 t) (iblk m c 1 t)) (iblk m c 2 t) (iblk m c 3 t) j s.val
    = MixFRef.hc (au m c) (acw m c) (acb m c) b j (t.val % 4 * 512 + s.val) := by
  unfold conv MixFRef.hc
  rw [taps_eq, add_comm, at_b m c t j]
  refine congrArg (· + acb m c (ix2 0 j)) (Finset.sum_congr rfl fun q _ => congrArg₂ HMul.hMul ?_ (hg_eq m c t b hb j _ (by omega) _ (by omega)))
  rw [← at_col _ j q.val (by omega) q.val rfl]
  exact at_w m c t q _ rfl j

theorem gated_eq (j : Fin 512) (s : Fin 512) : gated (hg (grid0.coords t) (iblk m c 0 t) (iblk m c 1 t)) (iblk m c 2 t) (iblk m c 3 t) (iblk m c 4 t) (iblk m c 5 t) j s.val
    = MixFRef.gated (au m c) (acw m c) (acb m c) (alg m c) (alb m c) b j (t.val % 4 * 512 + s.val) := by
  unfold gated MixFRef.gated
  simp only [conv_eq m c t b hb _ s, at_lg m c t, at_lb m c t]

theorem pb_eq (g : Fin 4) (k : Fin 128) (n : Nat) (hn : n < 544) : col (pb (grid0.coords t) (iblk m c 0 t) (iblk m c 1 t)) (at4 g k) n
    = if t.val % 4 * 512 + n < 32 then 0 else col3 (au m c) b (MixFRef.src g k) (t.val % 4 * 512 + n - 32) := by
  rw [← at_col _ (at4 g k) n hn n rfl]
  exact ext_eq m c t b hb _ n hn

theorem pooled_eq (hu : ∀ i, ∃ r : ℝ, au m c i = r) (g : Fin 4) (k : Fin 128) (s : Fin 512) :
    pooled (grid0.coords t) (pb (grid0.coords t) (iblk m c 0 t) (iblk m c 1 t)) g k s.val = MixFRef.pooled (au m c) b g k (t.val % 4 * 512 + s.val) := by
  have hw : wide g ≤ 16 := by revert g; decide
  have hs := s.isLt
  unfold pooled MixFRef.pooled
  rw [show MixFRef.wide g = wide g from rfl, show MixFRef.wideE g = wideE g from rfl, diff_apply _ (fun d => by
    unfold col3
    split
    · exact hu _
    · exact ⟨0, rfl⟩), pb_eq m c t b hb g k _ (by omega), if_neg (by omega), show t.val % 4 * 512 + (32 + s.val) - 32 = t.val % 4 * 512 + s.val by omega, point_eq]
  refine congrArg (· - _) (congrArg₂ Ideal.div (Finset.sum_congr rfl fun d hd => ?_) (congrArg (min · _) ?_))
  · have := Finset.mem_range.1 hd
    rw [pb_eq m c t b hb g k _ (by omega)]
    by_cases h : d ≤ t.val % 4 * 512 + s.val
    · rw [if_pos h, if_neg (by omega), show t.val % 4 * 512 + (32 + s.val - d) - 32 = t.val % 4 * 512 + s.val - d by omega]
    · rw [if_neg h, if_pos (by omega)]
  · rw [add_comm, ← EReal.coe_add, ← Nat.cast_add, Nat.mul_comm]

theorem mixed_eq (hu : ∀ i, ∃ r : ℝ, au m c i = r) (g : Fin 4) (j : Fin 128) (s : Fin 512) :
    mixed (grid0.coords t) (pb (grid0.coords t) (iblk m c 0 t) (iblk m c 1 t)) (iblk m c 6 t) (iblk m c 7 t) g j s.val
      = MixFRef.mixed (au m c) (apw m c) (aps m c) b g j (t.val % 4 * 512 + s.val) := by
  unfold mixed MixFRef.mixed
  rw [at_ps m c t]
  exact congrArg (· * aps m c (ix2 0 (at4 g j))) (Finset.sum_congr rfl fun k _ => by rw [pooled_eq m c t b hb hu, at_pw m c t, mul_comm])
end

theorem point8 (hu : ∀ i, ∃ r : ℝ, au m c i = r) (y : S512x1024.Idx) (i : (⟨2, ![4096, 1024]⟩ : Shape).Idx) (h0 : (i 0).val = t.val * 512 + (y 0).val)
    (h1 : (i 1).val = (y 1).val) : (outsAt0 m c t).1 y
      = Cert.ReferenceMixFIdeal.Read.val_main_v338 (F := Ideal) (au m c) (acw m c) (acb m c) (alg m c) (alb m c) (apw m c) (aps m c) i := by
  have ht : t.val < 8 := t.isLt
  obtain ⟨s, j, rfl⟩ : ∃ (s : Fin 512) (j : Fin 1024), y = ix2 s j := ⟨_, _, eq_ix2 y⟩
  obtain ⟨b, hb⟩ : ∃ b : Fin 2, t.val / 4 = b.val := ⟨⟨t.val / 4, by omega⟩, rfl⟩
  change (i 0).val = t.val * 512 + s.val at h0
  change (i 1).val = j.val at h1
  rw [left8]
  unfold whole
  by_cases h : j.val < 512
  · rw [dif_pos (show (ix2 s j 1).val < 512 from h)]
    exact (gated_eq m c t b hb _ s).trans (MixFRef.stored_gated _ _ _ _ _ _ _ b ⟨t.val % 4 * 512 + s.val, by omega⟩ _ i (by show _ = b.val * 2048 + (t.val % 4 * 512 + s.val); omega) h1).symm
  · rw [dif_neg (show ¬(ix2 s j 1).val < 512 from h)]
    exact (mixed_eq m c t b hb hu _ _ s).trans (MixFRef.stored_mixed _ _ _ _ _ _ _ b ⟨t.val % 4 * 512 + s.val, by omega⟩ _ _ i (by show _ = b.val * 2048 + (t.val % 4 * 512 + s.val); omega)
      (by show _ = 512 + 128 * ((j.val - 512) / 128) + (j.val - 512) % 128; omega)).symm

theorem point9 (y : S512x512.Idx) (i : (⟨2, ![4096, 512]⟩ : Shape).Idx) (h0 : (i 0).val = t.val * 512 + (y 0).val) (h1 : (i 1).val = (y 1).val) :
    (outsAt0 m c t).2 y = Cert.ReferenceMixFIdeal.Read.val_main_v339 (F := Ideal) (au m c) (acw m c) (acb m c) i := by
  have ht : t.val < 8 := t.isLt
  obtain ⟨s, j, rfl⟩ : ∃ (s : Fin 512) (j : Fin 512), y = ix2 s j := ⟨_, _, eq_ix2 y⟩
  obtain ⟨b, hb⟩ : ∃ b : Fin 2, t.val / 4 = b.val := ⟨⟨t.val / 4, by omega⟩, rfl⟩
  change (i 0).val = t.val * 512 + s.val at h0
  rw [left9]
  exact (conv_eq m c t b hb j s).trans (MixFRef.stored_hc _ _ _ b ⟨t.val % 4 * 512 + s.val, by omega⟩ j i (by show _ = b.val * 2048 + (t.val % 4 * 512 + s.val); omega) h1).symm

theorem final8 (hu : ∀ i, ∃ r : ℝ, au m c i = r) : (dats m 0 c).arrAt 8 cfg0.N
    = Cert.ReferenceMixFIdeal.Read.val_main_v338 (F := Ideal) (au m c) (acw m c) (acb m c) (alg m c) (alb m c) (apw m c) (aps m c) := by
  refine (dats m 0 c).arrAt_eq_of_covers 8 _ (by decide +kernel) fun t hf y => ?_
  blk_simp
  rw [after0_8]
  refine point8 m c t hu y _ ?_ ?_
  · blk_simp [idx t]
  · blk_simp [idx t]

theorem final9 : (dats m 0 c).arrAt 9 cfg0.N = Cert.ReferenceMixFIdeal.Read.val_main_v339 (F := Ideal) (au m c) (acw m c) (acb m c) := by
  refine (dats m 0 c).arrAt_eq_of_covers 9 _ (by decide +kernel) fun t hf y => ?_
  blk_simp
  rw [after0_9]
  refine point9 m c t y _ ?_ ?_
  · blk_simp [idx t]
  · blk_simp [idx t]

/-- On a finite first argument the kernel and the plain module leave the same arrays. -/
theorem algebraic : Cert.algebraic_KernelMixFIdeal_ReferenceMixFIdeal_pre_finite_mixf := fun m g m' g' hpre hag =>
  ⟨fun c => Cert.ReferenceMixFIdeal.Read.val_main_v338 (F := Ideal) (au m c) (acw m c) (acb m c) (alg m c) (alb m c) (apw m c) (aps m c),
    fun c => Cert.ReferenceMixFIdeal.Read.val_main_v339 (F := Ideal) (au m c) (acw m c) (acb m c),
    (θ_run _ _ _).mono (fun _ h c => ⟨(h c).1.trans (final8 m c fun i => Real.exists_real (congrFun (hpre c) i)), (h c).2.1.trans (final9 m c), (h c).2.2⟩)
      (Cert.KernelMixFIdeal.Value.run_blocks m g),
    (θ_run _ _ _).mono (fun _ h c => by
      obtain ⟨h0, h1, h2, h3, h4, h5, h6⟩ := hag c
      refine ⟨(h c).1.trans ?_, (h c).2.1.trans ?_, (h c).2.2⟩
      · rw [Cert.ReferenceMixFIdeal.Read.val_main_v338_eq]
        exact congr (congr (congr (congr (congr (congr (congrArg _ h0) h1) h2) h3) h4) h5) h6
      · rw [Cert.ReferenceMixFIdeal.Read.val_main_v339_eq]
        exact congr (congr (congrArg _ h0) h1) h2)
      (Cert.ReferenceMixFIdeal.Value.run m' g')⟩

end Cert.MixF

end
-- ==== Proof.Up.lean ====
/- The up projection in two halves: the kernel and the plain product leave the same array. -/
module

public import Idealize.ShloMosaic.Lib.Pipeline.ValueKit
public import Idealize.ShloMosaic.Lib.Pipeline.ReadBack
public import proofs.«01_k».proof.Defs
public import proofs.«01_k».proof.Proof.Gen.KernelUpIdeal.Value
public import proofs.«01_k».proof.Proof.Gen.ReferenceUpIdeal.Run
public import proofs.«01_k».proof.Proof.Gen.ReferenceUpIdeal.Read

@[expose] public section

set_option maxRecDepth 16384

noncomputable section

open Idealize.ShloMosaic Idealize.ShloMosaic.TcCoe Idealize.SL.Sem

/- The plain lines. -/
namespace Cert.UpRef

open Cert.ReferenceUpIdeal Cert.ReferenceUpIdeal.Read

variable (x : FVec Ideal ⟨3, ![2, 2048, 1024]⟩ .f32) (w : FVec Ideal ⟨2, ![1024, 5632]⟩ .f32)

/-- Half `p` of the product, at row `2048 b + s`. -/
theorem out_apply (p b : Fin 2) (s : Fin 2048) (l : Fin 2816) (q : Fin 5632) (hq : q.val = p.val * 2816 + l.val) (i : (⟨3, ![2, 4096, 2816]⟩ : Shape).Idx)
    (h0 : (i 0).val = p.val) (h1 : (i 1).val = b.val * 2048 + s.val) (h2 : (i 2).val = l.val) :
    val_main_v3 (F := Ideal) x w i = ∑ k : Fin 1024, x (ix3 b s k) * w (ix2 k q) := by
  rw [show i = ix3 p ⟨b.val * 2048 + s.val, by omega⟩ l from (eq_ix3 i).trans (congr (congr (congrArg ix3 (Fin.ext h0)) (Fin.ext h1)) (Fin.ext h2))]
  have e : val_main_v0 (F := Ideal) x w (ix3 b s q) = ∑ k : Fin 1024, x (ix3 b s k) * w (ix2 k q) := by
    unfold val_main_v0
    pointwise []
  rw [← e]
  unfold val_main_v3 val_main_v2 val_main_v1
  generalize val_main_v0 (F := Ideal) x w = X
  pointwise []
  exact congrArg X (congrArg (ix3 b s) (Fin.ext hq.symm))

end Cert.UpRef

/- The kernel. -/
namespace Cert.Up

open Cert.KernelUpIdeal Cert.KernelUpIdeal.Gen

theorem pay (x : FVec Ideal S1024x1024 .bf16) (w : FVec Ideal S1024x2816 .bf16) (r : Fin 1024) (l : Fin 2816) :
    k0_pay1 (F := Ideal) x w (ix3 0 r l) = ∑ k : Fin 1024, x (ix2 r k) * w (ix2 k l) := by
  pointwise [k0_pay1]

theorem idx : ∀ t : Fin cfg0.N, win0_0.index t = ![t.val % 4, 0] ∧ win0_1.index t = ![0, t.val / 4] ∧ win0_2.index t = ![t.val / 4, t.val % 4, 0] :=
  (by decide +kernel : ∀ t : Fin grid0.N, _)

variable (m : (ℓ : Loc nD τ sig) → Buf (Elt Ideal) ℓ) (c : Dev nD) (t : Fin cfg0.N)

abbrev ax : FVec Ideal ⟨3, ![2, 2048, 1024]⟩ .f32 := m ((c : Thread nD τ).loc main_arg0)
abbrev aw : FVec Ideal ⟨2, ![1024, 5632]⟩ .f32 := m ((c : Thread nD τ).loc main_arg1)

theorem at_x (b : Fin 2) (s : Fin 2048) (r k : Fin 1024) (hr : t.val % 4 * 1024 + r.val = b.val * 2048 + s.val) :
    (show FVec Ideal S1024x1024 .bf16 from iblk m c 0 t) (ix2 r k) = ax m c (ix3 b s k) := by
  blk_point [iblk, V, idx t]

theorem at_w (k : Fin 1024) (l : Fin 2816) (q : Fin 5632) (hq : q.val = t.val / 4 * 2816 + l.val) :
    (show FVec Ideal S1024x2816 .bf16 from iblk m c 1 t) (ix2 k l) = aw m c (ix2 k q) := by
  blk_point [iblk, V, idx t]

/-- A point's block, at an index, is the plain array at the array's index. -/
theorem point (y : S1x1024x2816.Idx) (i : (⟨3, ![2, 4096, 2816]⟩ : Shape).Idx) (h0 : (i 0).val = t.val / 4 + (y 0).val)
    (h1 : (i 1).val = t.val % 4 * 1024 + (y 1).val) (h2 : (i 2).val = (y 2).val) :
    out0_2 (F := Ideal) (iblk m c 0 t) (iblk m c 1 t) y = Cert.ReferenceUpIdeal.Read.val_main_v3 (F := Ideal) (ax m c) (aw m c) i := by
  have ht : t.val < 8 := t.isLt
  obtain ⟨o, r, l, rfl⟩ : ∃ (o : Fin 1) (r : Fin 1024) (l : Fin 2816), y = ix3 o r l := ⟨_, _, _, eq_ix3 y⟩
  obtain rfl : o = 0 := Subsingleton.elim _ _
  change (i 0).val = t.val / 4 + 0 at h0
  change (i 1).val = t.val % 4 * 1024 + r.val at h1
  obtain ⟨b, s, hs⟩ : ∃ (b : Fin 2) (s : Fin 2048), t.val % 4 * 1024 + r.val = b.val * 2048 + s.val :=
    ⟨⟨t.val % 4 / 2, by omega⟩, ⟨t.val % 2 * 1024 + r.val, by omega⟩, by show _ = _ / 2 * 2048 + (_ + _); omega⟩
  rw [UpRef.out_apply _ _ ⟨t.val / 4, by omega⟩ b s l ⟨t.val / 4 * 2816 + l.val, by omega⟩ rfl i h0 (h1.trans hs) h2]
  frame_out
  refine (pay (show FVec Ideal S1024x1024 .bf16 from iblk m c 0 t) (show FVec Ideal S1024x2816 .bf16 from iblk m c 1 t) r l).trans ?_
  exact Finset.sum_congr rfl fun k _ => congrArg₂ (· * ·) (at_x m c t b s r k hs) (at_w m c t k l _ rfl)

theorem final : (dats m 0 c).arrAt 2 cfg0.N = Cert.ReferenceUpIdeal.Read.val_main_v3 (F := Ideal) (ax m c) (aw m c) := by
  refine (dats m 0 c).arrAt_eq_of_covers 2 _ (by decide +kernel) fun t hf y => ?_
  blk_simp
  rw [after0_2]
  refine point m c t y _ ?_ ?_ ?_
  · blk_simp [idx t]
  · blk_simp [idx t]
  · blk_simp [idx t]

/-- The kernel and the plain lines leave the same array. -/
theorem algebraic : Cert.algebraic_KernelUpIdeal_ReferenceUpIdeal := fun m g m' g' _ hag =>
  ⟨fun c => Cert.ReferenceUpIdeal.Read.val_main_v3 (F := Ideal) (ax m c) (aw m c),
    (θ_run _ _ _).mono (fun _ h c => ⟨(h c).1.trans (final m c), (h c).2⟩) (Cert.KernelUpIdeal.Value.run_blocks m g),
    (θ_run _ _ _).mono (fun _ h c => ⟨(h c).1.trans (by
      rw [Cert.ReferenceUpIdeal.Read.val_main_v3_eq]
      exact congr (congrArg _ (hag c).1) (hag c).2), (h c).2⟩) (Cert.ReferenceUpIdeal.Value.run m' g')⟩

end Cert.Up

end
-- ==== Proof.DAct.lean ====
/- The gradient of a product by its first factor: the kernel and the plain derivative leave the same array. -/
module

public import Idealize.ShloMosaic.Lib.Pipeline.ValueKit
public import Idealize.ShloMosaic.Lib.Pipeline.ReadBack
public import proofs.«01_k».proof.Defs
public import proofs.«01_k».proof.Proof.Gen.KernelDActIdeal.Value
public import proofs.«01_k».proof.Proof.Gen.ReferenceDActIdeal.Run
public import proofs.«01_k».proof.Proof.Gen.ReferenceDActIdeal.Read

@[expose] public section

set_option maxRecDepth 16384

noncomputable section

open Idealize.ShloMosaic Idealize.ShloMosaic.TcCoe Idealize.SL.Sem

/- The plain lines. -/
namespace Cert.DActRef

open Cert.ReferenceDActIdeal Cert.ReferenceDActIdeal.Read

variable (w : FVec Ideal ⟨2, ![2816, 1024]⟩ .f32) (x : FVec Ideal ⟨3, ![2, 2048, 1024]⟩ .f32)

/-- The gradient at row `2048 b + s`. -/
theorem out_apply (b : Fin 2) (s : Fin 2048) (l : Fin 2816) (i : (⟨2, ![4096, 2816]⟩ : Shape).Idx) (h0 : (i 0).val = b.val * 2048 + s.val) (h1 : (i 1).val = l.val) :
    val_main_v4 (F := Ideal) w x i = ∑ k : Fin 1024, x (ix3 b s k) * w (ix2 l k) := by
  rw [show i = ix2 ⟨b.val * 2048 + s.val, by omega⟩ l from (eq_ix2 i).trans (congrArg₂ ix2 (Fin.ext h0) (Fin.ext h1))]
  have e : val_main_v2 (F := Ideal) w x (ix3 b s l) = ∑ k : Fin 1024, x (ix3 b s k) * w (ix2 l k) := by
    unfold val_main_v2
    pointwise []
  rw [← e]
  unfold val_main_v4 val_main_v3
  generalize val_main_v2 (F := Ideal) w x = X
  pointwise []

end Cert.DActRef

/- The kernel. -/
namespace Cert.DAct

open Cert.KernelDActIdeal Cert.KernelDActIdeal.Gen

theorem pay (x : FVec Ideal S1024x1024 .bf16) (w : FVec Ideal S2816x1024 .bf16) (r : Fin 1024) (l : Fin 2816) :
    k0_pay1 (F := Ideal) x w (ix2 r l) = ∑ k : Fin 1024, x (ix2 r k) * w (ix2 l k) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) (t : Fin cfg0.N)

/-- The argument arrays: the weight, then the gradient that comes in. -/
abbrev ax : FVec Ideal ⟨2, ![2816, 1024]⟩ .f32 := m ((c : Thread nD τ).loc main_arg0)
abbrev aw : FVec Ideal ⟨3, ![2, 2048, 1024]⟩ .f32 := m ((c : Thread nD τ).loc main_arg1)

theorem at_rows (b : Fin 2) (s : Fin 2048) (r k : Fin 1024) (hr : t.val * 1024 + r.val = b.val * 2048 + s.val) :
    (show FVec Ideal S1024x1024 .bf16 from iblk m c 0 t) (ix2 r k) = aw m c (ix3 b s k) := by
  blk_point [iblk, V, idx t]

theorem at_weight (l : Fin 2816) (k : Fin 1024) : (show FVec Ideal S2816x1024 .bf16 from iblk m c 1 t) (ix2 l k) = ax m c (ix2 l k) := by
  blk_point [iblk, V, idx t]

/-- A point's block, at an index, is the plain array at the array's index. -/
theorem point (y : S1024x2816.Idx) (i : (⟨2, ![4096, 2816]⟩ : Shape).Idx) (h0 : (i 0).val = t.val * 1024 + (y 0).val) (h1 : (i 1).val = (y 1).val) :
    out0_2 (F := Ideal) (iblk m c 0 t) (iblk m c 1 t) y = Cert.ReferenceDActIdeal.Read.val_main_v4 (F := Ideal) (ax m c) (aw m c) i := by
  have ht : t.val < 4 := t.isLt
  obtain ⟨r, l, rfl⟩ : ∃ (r : Fin 1024) (l : Fin 2816), y = ix2 r l := ⟨_, _, eq_ix2 y⟩
  change (i 0).val = t.val * 1024 + r.val at h0
  have hs : t.val * 1024 + r.val = t.val / 2 * 2048 + (t.val % 2 * 1024 + r.val) := by omega
  rw [DActRef.out_apply _ _ ⟨t.val / 2, by omega⟩ ⟨t.val % 2 * 1024 + r.val, by omega⟩ l i (h0.trans hs) h1]
  frame_out
  refine (pay (show FVec Ideal S1024x1024 .bf16 from iblk m c 0 t) (show FVec Ideal S2816x1024 .bf16 from iblk m c 1 t) r l).trans ?_
  exact Finset.sum_congr rfl fun k _ => congrArg₂ (· * ·) (at_rows m c t _ _ r k hs) (at_weight m c t l k)

theorem final : (dats m 0 c).arrAt 2 cfg0.N = Cert.ReferenceDActIdeal.Read.val_main_v4 (F := Ideal) (ax m c) (aw m c) := by
  refine (dats m 0 c).arrAt_eq_of_covers 2 _ (by decide +kernel) fun t hf y => ?_
  blk_simp
  rw [after0_2]
  refine point m c t y _ ?_ ?_
  · blk_simp [idx t]
  · blk_simp [idx t]

/-- The kernel and the plain lines leave the same array. -/
theorem algebraic : Cert.algebraic_KernelDActIdeal_ReferenceDActIdeal := fun m g m' g' _ hag =>
  ⟨fun c => Cert.ReferenceDActIdeal.Read.val_main_v4 (F := Ideal) (ax m c) (aw m c),
    (θ_run _ _ _).mono (fun _ h c => ⟨(h c).1.trans (final m c), (h c).2⟩) (Cert.KernelDActIdeal.Value.run_blocks m g),
    (θ_run _ _ _).mono (fun _ h c => ⟨(h c).1.trans (by
      rw [Cert.ReferenceDActIdeal.Read.val_main_v4_eq]
      exact congr (congrArg _ (hag c).1) (hag c).2), (h c).2⟩) (Cert.ReferenceDActIdeal.Value.run m' g')⟩

end Cert.DAct

end
-- ==== Proof.RowSplit.lean ====
/- Sums over the rows of two sequences laid one after the other. -/
module

public import Mathlib.Data.EReal.Operations
public import Mathlib.Algebra.BigOperators.Fin
public import Idealize.ShloMosaic.PureOps.Ideal

@[expose] public section

set_option maxRecDepth 16384

noncomputable section

open Idealize.ShloMosaic Idealize.ShloMosaic.TcCoe Idealize.SL.Sem

namespace Cert.RowSplit

/-- A sum over the rows of both sequences is the sum over the sequences of the sums over their rows. -/
theorem rows_split (f : Fin 4096 → EReal) : ∑ r, f r = ∑ b : Fin 2, ∑ s : Fin 2048, f ⟨b.val * 2048 + s.val, by omega⟩ := by
  rw [← Fintype.sum_prod_type', ← Equiv.sum_comp (finProdFinEquiv (m := 2) (n := 2048)) f]
  exact Finset.sum_congr rfl fun p _ => congrArg f (Fin.ext (show p.2.val + 2048 * p.1.val = p.1.val * 2048 + p.2.val by omega))

end Cert.RowSplit

end
-- ==== Proof.DwDown.lean ====
/- The gradient of a product by its weight: the kernel and the plain derivative leave the same array. -/
module

public import Idealize.ShloMosaic.Lib.Pipeline.ValueKit
public import Idealize.ShloMosaic.Lib.Pipeline.ReadBack
public import proofs.«01_k».proof.Defs
public import proofs.«01_k».proof.Proof.Gen.KernelDwDownIdeal.Value
public import proofs.«01_k».proof.Proof.Gen.ReferenceDwDownIdeal.Run
public import proofs.«01_k».proof.Proof.Gen.ReferenceDwDownIdeal.Read
public import proofs.«01_k».proof.Proof.RowSplit

@[expose] public section

set_option maxRecDepth 16384

noncomputable section

open Idealize.ShloMosaic Idealize.ShloMosaic.TcCoe Idealize.SL.Sem

/- The plain lines. -/
namespace Cert.DwDownRef

open Cert.ReferenceDwDownIdeal Cert.ReferenceDwDownIdeal.Read

variable (a : FVec Ideal ⟨3, ![2, 2048, 2816]⟩ .f32) (x : FVec Ideal ⟨3, ![2, 2048, 1024]⟩ .f32)

theorem out_apply (k : Fin 2816) (l : Fin 1024) :
    val_main_v4 (F := Ideal) a x (ix2 k l) = ∑ b : Fin 2, ∑ s : Fin 2048, x (ix3 b s l) * a (ix3 b s k) := by
  have e : val_main_v2 (F := Ideal) a x (ix2 l k) = ∑ b : Fin 2, ∑ s : Fin 2048, x (ix3 b s l) * a (ix3 b s k) := by
    unfold val_main_v2
    pointwise []
  rw [← e]
  unfold val_main_v4 val_main_v3
  generalize val_main_v2 (F := Ideal) a x = X
  pointwise []

end Cert.DwDownRef

/- The kernel. -/
namespace Cert.DwDown

open Cert.KernelDwDownIdeal Cert.KernelDwDownIdeal.Gen

theorem pay (a : FVec Ideal S4096x1408 .bf16) (x : FVec Ideal S4096x512 .bf16) (k : Fin 1408) (l : Fin 512) :
    k0_pay1 (F := Ideal) a x (ix2 k l) = ∑ r : Fin 4096, a (ix2 r k) * x (ix2 r l) := by
  pointwise [k0_pay1]

theorem idx : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD) (t : Fin cfg0.N)

/-- The argument arrays: the product's first factor, then the gradient that comes in. -/
abbrev ax : FVec Ideal ⟨3, ![2, 2048, 2816]⟩ .f32 := m ((c : Thread nD τ).loc main_arg0)
abbrev aw : FVec Ideal ⟨3, ![2, 2048, 1024]⟩ .f32 := m ((c : Thread nD τ).loc main_arg1)

theorem at_factor (b : Fin 2) (s : Fin 2048) (r : Fin 4096) (hr : r.val = b.val * 2048 + s.val) (k : Fin 1408) (q : Fin 2816) (hq : q.val = t.val / 2 * 1408 + k.val) :
    (show FVec Ideal S4096x1408 .bf16 from iblk m c 0 t) (ix2 r k) = ax m c (ix3 b s q) := by
  blk_point [iblk, V, idx t]

theorem at_ct (b : Fin 2) (s : Fin 2048) (r : Fin 4096) (hr : r.val = b.val * 2048 + s.val) (l : Fin 512) (q : Fin 1024) (hq : q.val = t.val % 2 * 512 + l.val) :
    (show FVec Ideal S4096x512 .bf16 from iblk m c 1 t) (ix2 r l) = aw m c (ix3 b s q) := by
  blk_point [iblk, V, idx t]

/-- A point's block, at an index, is the plain array at the array's index. -/
theorem point (y : S1408x512.Idx) (i : (⟨2, ![2816, 1024]⟩ : Shape).Idx) (h0 : (i 0).val = t.val / 2 * 1408 + (y 0).val)
    (h1 : (i 1).val = t.val % 2 * 512 + (y 1).val) :
    out0_2 (F := Ideal) (iblk m c 0 t) (iblk m c 1 t) y = Cert.ReferenceDwDownIdeal.Read.val_main_v4 (F := Ideal) (ax m c) (aw m c) i := by
  obtain ⟨k, l, rfl⟩ : ∃ (k : Fin 1408) (l : Fin 512), y = ix2 k l := ⟨_, _, eq_ix2 y⟩
  obtain ⟨p, q, rfl⟩ : ∃ (p : Fin 2816) (q : Fin 1024), i = ix2 p q := ⟨_, _, eq_ix2 i⟩
  rw [DwDownRef.out_apply]
  frame_out
  refine (pay (show FVec Ideal S4096x1408 .bf16 from iblk m c 0 t) (show FVec Ideal S4096x512 .bf16 from iblk m c 1 t) k l).trans ((RowSplit.rows_split _).trans ?_)
  exact Finset.sum_congr rfl fun b _ => Finset.sum_congr rfl fun s _ =>
    (congrArg₂ (· * ·) (at_factor m c t b s _ rfl k p h0) (at_ct m c t b s _ rfl l q h1)).trans (mul_comm _ _)

theorem final : (dats m 0 c).arrAt 2 cfg0.N = Cert.ReferenceDwDownIdeal.Read.val_main_v4 (F := Ideal) (ax m c) (aw m c) := by
  refine (dats m 0 c).arrAt_eq_of_covers 2 _ (by decide +kernel) fun t hf y => ?_
  blk_simp
  rw [after0_2]
  refine point m c t y _ ?_ ?_
  · blk_simp [idx t]
  · blk_simp [idx t]

/-- The kernel and the plain lines leave the same array. -/
theorem algebraic : Cert.algebraic_KernelDwDownIdeal_ReferenceDwDownIdeal := fun m g m' g' _ hag =>
  ⟨fun c => Cert.ReferenceDwDownIdeal.Read.val_main_v4 (F := Ideal) (ax m c) (aw m c),
    (θ_run _ _ _).mono (fun _ h c => ⟨(h c).1.trans (final m c), (h c).2⟩) (Cert.KernelDwDownIdeal.Value.run_blocks m g),
    (θ_run _ _ _).mono (fun _ h c => ⟨(h c).1.trans (by
      rw [Cert.ReferenceDwDownIdeal.Read.val_main_v4_eq]
      exact congr (congrArg _ (hag c).1) (hag c).2), (h c).2⟩) (Cert.ReferenceDwDownIdeal.Value.run m' g')⟩

end Cert.DwDown

end
-- ==== Proof.DwUp.lean ====
/- The gradient of a product by its weight, in eight pieces: the kernel and the plain derivative leave the same array. -/
module

public import Idealize.ShloMosaic.Lib.Pipeline.ValueKit
public import Idealize.ShloMosaic.Lib.Pipeline.ReadBack
public import proofs.«01_k».proof.Defs
public import proofs.«01_k».proof.Proof.Gen.KernelDwUpIdeal.Value
public import proofs.«01_k».proof.Proof.Gen.ReferenceDwUpIdeal.Run
public import proofs.«01_k».proof.Proof.Gen.ReferenceDwUpIdeal.Read
public import proofs.«01_k».proof.Proof.RowSplit

@[expose] public section

set_option maxRecDepth 16384

noncomputable section

open Idealize.ShloMosaic Idealize.ShloMosaic.TcCoe Idealize.SL.Sem

/- The plain lines. -/
namespace Cert.DwUpRef

open Cert.ReferenceDwUpIdeal Cert.ReferenceDwUpIdeal.Read

variable (h : FVec Ideal ⟨3, ![2, 2048, 1024]⟩ .f32) (x : FVec Ideal ⟨3, ![2, 2048, 5632]⟩ .f32)

theorem grad_apply (k : Fin 1024) (l : Fin 5632) : val_main_v3 (F := Ideal) h x (ix2 k l) = ∑ b : Fin 2, ∑ s : Fin 2048, x (ix3 b s l) * h (ix3 b s k) := by
  unfold val_main_v3 val_main_v2
  pointwise []

/-- Piece `2 g + e`: column quarter `g`, row half `e`. -/
theorem piece_apply (g : Fin 4) (e : Fin 2) (r : Fin 512) (l : Fin 1408) (p : Fin 8) (hp : p.val = 2 * g.val + e.val) :
    val_main_v7 (F := Ideal) h x (ix3 p r l) = val_main_v3 (F := Ideal) h x (ix2 ⟨e.val * 512 + r.val, by omega⟩ ⟨g.val * 1408 + l.val, by omega⟩) := by
  rw [show p = ⟨2 * g.val + e.val, by clear hp; omega⟩ from Fin.ext hp]
  clear hp p
  unfold val_main_v7 val_main_v6 val_main_v5 val_main_v4
  generalize val_main_v3 (F := Ideal) h x = X
  pointwise []

end Cert.DwUpRef

/- The kernel. -/
namespace Cert.DwUp

open Cert.KernelDwUpIdeal Cert.KernelDwUpIdeal.Gen

theorem pay (h : FVec Ideal S4096x512 .bf16) (x : FVec Ideal S1x4096x1408 .bf16) (k : Fin 512) (l : Fin 1408) :
    k0_pay1 (F := Ideal) h x (ix3 0 k l) = ∑ r : Fin 4096, h (ix2 r k) * x (ix3 0 r l) := by
  pointwise [k0_pay1]

theorem idx : ∀ t : Fin cfg0.N, win0_0.index t = ![0, t.val / 4] ∧ win0_1.index t = ![t.val % 4 / 2, 0, t.val % 2]
    ∧ win0_2.index t = ![2 * (t.val % 4) + t.val / 4, 0, 0] :=
  (by decide +kernel : ∀ t : Fin grid0.N, _)

variable (m : (ℓ : Loc nD τ sig) → Buf (Elt Ideal) ℓ) (c : Dev nD) (t : Fin cfg0.N)

/-- The argument arrays: the product's first factor, then the gradient that comes in. -/
abbrev ax : FVec Ideal ⟨3, ![2, 2048, 1024]⟩ .f32 := m ((c : Thread nD τ).loc main_arg0)
abbrev aw : FVec Ideal ⟨3, ![2, 2048, 5632]⟩ .f32 := m ((c : Thread nD τ).loc main_arg1)

theorem at_factor (b : Fin 2) (s : Fin 2048) (r : Fin 4096) (hr : r.val = b.val * 2048 + s.val) (k : Fin 512) (q : Fin 1024) (hq : q.val = t.val / 4 * 512 + k.val) :
    (show FVec Ideal S4096x512 .bf16 from iblk m c 0 t) (ix2 r k) = ax m c (ix3 b s q) := by
  blk_point [iblk, V, idx t]

theorem at_ct (b : Fin 2) (s : Fin 2048) (r : Fin 4096) (hr : r.val = b.val * 2048 + s.val) (l : Fin 1408) (q : Fin 5632) (hq : q.val = t.val % 4 * 1408 + l.val) :
    (show FVec Ideal S1x4096x1408 .bf16 from iblk m c 1 t) (ix3 0 r l) = aw m c (ix3 b s q) := by
  have ht : t.val < 8 := t.isLt
  blk_simp [iblk, V]
  entry_read
  pointwise []
  by_cases h : t.val % 4 < 2
  · rw [dif_pos (by blk_simp [idx t]; omega)]
    blk_point [idx t]
  · rw [dif_neg (by blk_simp [idx t]; omega)]
    blk_point [idx t]

/-- A point's block, at an index, is the plain array at the array's index. -/
theorem point (y : S1x512x1408.Idx) (i : (⟨3, ![8, 512, 1408]⟩ : Shape).Idx) (h0 : (i 0).val = 2 * (t.val % 4) + t.val / 4 + (y 0).val)
    (h1 : (i 1).val = (y 1).val) (h2 : (i 2).val = (y 2).val) :
    out0_2 (F := Ideal) (iblk m c 0 t) (iblk m c 1 t) y = Cert.ReferenceDwUpIdeal.Read.val_main_v7 (F := Ideal) (ax m c) (aw m c) i := by
  have ht : t.val < 8 := t.isLt
  obtain ⟨o, k, l, rfl⟩ : ∃ (o : Fin 1) (k : Fin 512) (l : Fin 1408), y = ix3 o k l := ⟨_, _, _, eq_ix3 y⟩
  obtain rfl : o = 0 := Subsingleton.elim _ _
  obtain ⟨p, ks, ls, rfl⟩ : ∃ (p : Fin 8) (ks : Fin 512) (ls : Fin 1408), i = ix3 p ks ls := ⟨_, _, _, eq_ix3 i⟩
  obtain rfl : ks = k := Fin.ext h1
  obtain rfl : ls = l := Fin.ext h2
  rw [DwUpRef.piece_apply _ _ ⟨t.val % 4, by omega⟩ ⟨t.val / 4, by omega⟩ _ _ p h0, DwUpRef.grad_apply]
  frame_out
  refine (pay (show FVec Ideal S4096x512 .bf16 from iblk m c 0 t) (show FVec Ideal S1x4096x1408 .bf16 from iblk m c 1 t) _ _).trans ((RowSplit.rows_split _).trans ?_)
  exact Finset.sum_congr rfl fun b _ => Finset.sum_congr rfl fun s _ =>
    (congrArg₂ (· * ·) (at_factor m c t b s _ rfl _ _ rfl) (at_ct m c t b s _ rfl _ _ rfl)).trans (mul_comm _ _)

theorem final : (dats m 0 c).arrAt 2 cfg0.N = Cert.ReferenceDwUpIdeal.Read.val_main_v7 (F := Ideal) (ax m c) (aw m c) := by
  refine (dats m 0 c).arrAt_eq_of_covers 2 _ (by decide +kernel) fun t hf y => ?_
  blk_simp
  rw [after0_2]
  refine point m c t y _ ?_ ?_ ?_
  · blk_simp [idx t]
  · blk_simp [idx t]
  · blk_simp [idx t]

/-- The kernel and the plain lines leave the same array. -/
theorem algebraic : Cert.algebraic_KernelDwUpIdeal_ReferenceDwUpIdeal := fun m g m' g' _ hag =>
  ⟨fun c => Cert.ReferenceDwUpIdeal.Read.val_main_v7 (F := Ideal) (ax m c) (aw m c),
    (θ_run _ _ _).mono (fun _ h c => ⟨(h c).1.trans (final m c), (h c).2⟩) (Cert.KernelDwUpIdeal.Value.run_blocks m g),
    (θ_run _ _ _).mono (fun _ h c => ⟨(h c).1.trans (by
      rw [Cert.ReferenceDwUpIdeal.Read.val_main_v7_eq]
      exact congr (congrArg _ (hag c).1) (hag c).2), (h c).2⟩) (Cert.ReferenceDwUpIdeal.Value.run m' g')⟩

end Cert.DwUp

end
-- ==== Proof.AdamW.lean ====
/- The optimiser's step on one weight's shard: the kernel and the plain lines leave the same four arrays. -/
module

public import Idealize.ShloMosaic.Lib.Pipeline.ValueKit
public import Idealize.ShloMosaic.Lib.Pipeline.ReadBack
public import proofs.«01_k».proof.Defs
public import proofs.«01_k».proof.Proof.Gen.KernelAdamWIdeal.Value
public import proofs.«01_k».proof.Proof.Gen.ReferenceAdamWIdeal.Run
public import proofs.«01_k».proof.Proof.Gen.ReferenceAdamWIdeal.Read

@[expose] public section

set_option maxRecDepth 16384

noncomputable section

open Idealize.ShloMosaic Idealize.ShloMosaic.TcCoe Idealize.SL.Sem

/- The plain lines. -/
namespace Cert.AdamWRef

open Cert.ReferenceAdamWIdeal Cert.ReferenceAdamWIdeal.Read

variable (w : FVec Ideal ⟨3, ![1, 1024, 1408]⟩ .f32) (g : FVec Ideal ⟨2, ![1024, 1408]⟩ .f32) (m v : FVec Ideal ⟨3, ![1, 1024, 1408]⟩ .f32) (q : Fin 1024) (l : Fin 1408)

/-- The new first moment from an entry's gradient and moment. -/
def mom1 (g m : Ideal .f32) : Ideal .f32 :=
  (FloatOps.ofBits .f32 0x3F666666#32 : Ideal .f32) * m + (FloatOps.ofBits .f32 0x3DCCCCCD#32 : Ideal .f32) * g

/-- The new second moment from an entry's gradient and moment. -/
def mom2 (g v : Ideal .f32) : Ideal .f32 :=
  (FloatOps.ofBits .f32 0x3F7FBE77#32 : Ideal .f32) * v + (FloatOps.ofBits .f32 0x3A83126F#32 : Ideal .f32) * (g * g)

theorem g_apply : val_main_v0 (F := Ideal) g (ix3 0 q l) = g (ix2 q l) := by
  unfold val_main_v0
  pointwise []

theorem mom1_apply : val_main_v5 (F := Ideal) g m (ix3 0 q l) = mom1 (g (ix2 q l)) (m (ix3 0 q l)) := by
  rw [← g_apply g q l]
  unfold val_main_v5 val_main_v4 val_main_v3 val_main_v2 val_main_v1 val_main_cst val_main_cst_0
  generalize val_main_v0 (F := Ideal) g = G
  pointwise [mom1]

theorem mom2_apply : val_main_v11 (F := Ideal) g v (ix3 0 q l) = mom2 (g (ix2 q l)) (v (ix3 0 q l)) := by
  rw [← g_apply g q l]
  unfold val_main_v11 val_main_v10 val_main_v9 val_main_v8 val_main_v7 val_main_v6 val_main_cst_1 val_main_cst_2
  generalize val_main_v0 (F := Ideal) g = G
  pointwise [mom2]

/-- The change of a weight from its value and its two new moments. -/
def delta (w a b : Ideal .f32) : Ideal .f32 :=
  Ideal.ofBits .f32 0xBA83126F#32 * (Ideal.div (Ideal.div a (Ideal.ofBits .f32 0x3F26BD02#32))
    (Ideal.sqrt (Ideal.div b (Ideal.ofBits .f32 0x3C231ACC#32)) + Ideal.ofBits .f32 0x322BCC77#32) + Ideal.ofBits .f32 0x3C23D70A#32 * w)

theorem delta_apply : val_main_v24 (F := Ideal) w g m v (ix3 0 q l) =
    delta (w (ix3 0 q l)) (mom1 (g (ix2 q l)) (m (ix3 0 q l))) (mom2 (g (ix2 q l)) (v (ix3 0 q l))) := by
  rw [← mom1_apply g m q l, ← mom2_apply g v q l]
  unfold val_main_v24 val_main_v23 val_main_v22 val_main_v21 val_main_v20 val_main_v19 val_main_v18 val_main_v17 val_main_v16 val_main_v15 val_main_v14
    val_main_v13 val_main_v12 val_main_cst_3 val_main_cst_4 val_main_cst_5 val_main_cst_6 val_main_cst_7
  generalize val_main_v5 (F := Ideal) g m = M
  generalize val_main_v11 (F := Ideal) g v = V
  pointwise [delta]

end Cert.AdamWRef

/- The kernel. -/
namespace Cert.AdamW

open Cert.KernelAdamWIdeal Cert.KernelAdamWIdeal.Gen

section payloads

variable (w : FVec Ideal S1x128x1408 .f32) (g : FVec Ideal S128x1408 .f32) (m v : FVec Ideal S1x128x1408 .f32) (r : Fin 128) (l : Fin 1408)

theorem pay_mom1 : k0_pay4 (F := Ideal) g m (ix2 r l) = AdamWRef.mom1 (g (ix2 r l)) (m (ix3 0 r l)) := by
  pointwise [k0_pay4, AdamWRef.mom1]

theorem pay_mom2 : k0_pay5 (F := Ideal) g v (ix2 r l) = AdamWRef.mom2 (g (ix2 r l)) (v (ix3 0 r l)) := by
  pointwise [k0_pay5, AdamWRef.mom2]

theorem pay_delta : k0_pay6 (F := Ideal) g w m v (ix2 r l) =
    AdamWRef.delta (w (ix3 0 r l)) (AdamWRef.mom1 (g (ix2 r l)) (m (ix3 0 r l))) (AdamWRef.mom2 (g (ix2 r l)) (v (ix3 0 r l))) := by
  rw [← pay_mom1 g m r l, ← pay_mom2 g v r l]
  unfold k0_pay6
  generalize k0_pay4 (F := Ideal) g m = M
  generalize k0_pay5 (F := Ideal) g v = V
  pointwise [AdamWRef.delta]

/-- The four stored blocks add a leading axis of one to these. -/
theorem lead : k0_pay1 (F := Ideal) g (ix3 0 r l) = g (ix2 r l) ∧ k0_pay2 (F := Ideal) g (ix3 0 r l) = g (ix2 r l)
    ∧ k0_pay3 (F := Ideal) g (ix3 0 r l) = g (ix2 r l) ∧ k0_pay7 (F := Ideal) g (ix3 0 r l) = g (ix2 r l) := by
  refine ⟨?_, ?_, ?_, ?_⟩
  · pointwise [k0_pay1]
  · pointwise [k0_pay2]
  · pointwise [k0_pay3]
  · pointwise [k0_pay7]

end payloads

theorem idx : ∀ t : Fin cfg0.N, win0_0.index t = ![0, t.val, 0] ∧ win0_1.index t = ![t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

variable (m : (ℓ : Loc nD τ sig) → Buf (Elt Ideal) ℓ) (c : Dev nD) (t : Fin cfg0.N)

abbrev aw : FVec Ideal ⟨3, ![1, 1024, 1408]⟩ .f32 := m ((c : Thread nD τ).loc main_arg0)
abbrev ag : FVec Ideal ⟨2, ![1024, 1408]⟩ .f32 := m ((c : Thread nD τ).loc main_arg1)
abbrev am : FVec Ideal ⟨3, ![1, 1024, 1408]⟩ .f32 := m ((c : Thread nD τ).loc main_arg2)
abbrev av : FVec Ideal ⟨3, ![1, 1024, 1408]⟩ .f32 := m ((c : Thread nD τ).loc main_arg3)

section blocks

variable (r : Fin 128) (l : Fin 1408) (q : Fin 1024) (hq : q.val = t.val * 128 + r.val)
include hq

/-- Row `r` of point `t`'s blocks is row `128 t + r` of the arguments. -/
theorem at_w : (show FVec Ideal S1x128x1408 .f32 from iblk m c 0 t) (ix3 0 r l) = aw m c (ix3 0 q l) := by
  blk_point [iblk, V, idx t]

theorem at_g : (show FVec Ideal S128x1408 .f32 from iblk m c 1 t) (ix2 r l) = ag m c (ix2 q l) := by
  blk_point [iblk, V, idx t]

theorem at_m : (show FVec Ideal S1x128x1408 .f32 from iblk m c 2 t) (ix3 0 r l) = am m c (ix3 0 q l) := by
  blk_point [iblk, V, idx t]

theorem at_v : (show FVec Ideal S1x128x1408 .f32 from iblk m c 3 t) (ix3 0 r l) = av m c (ix3 0 q l) := by
  blk_point [iblk, V, idx t]

end blocks

/-- A point's four blocks, at an index, are the plain arrays at the array's index. -/
theorem point (y : S1x128x1408.Idx) (i : (⟨3, ![1, 1024, 1408]⟩ : Shape).Idx) (h1 : (i 1).val = t.val * 128 + (y 1).val) (h2 : (i 2).val = (y 2).val) :
    out0_4 (F := Ideal) (iblk m c 0 t) (iblk m c 1 t) (iblk m c 2 t) (iblk m c 3 t) y = Cert.ReferenceAdamWIdeal.Read.val_main_v0 (F := Ideal) (ag m c) i
    ∧ out0_5 (F := Ideal) (iblk m c 0 t) (iblk m c 1 t) (iblk m c 2 t) (iblk m c 3 t) y = Cert.ReferenceAdamWIdeal.Read.val_main_v24 (F := Ideal) (aw m c) (ag m c) (am m c) (av m c) i
    ∧ out0_6 (F := Ideal) (iblk m c 0 t) (iblk m c 1 t) (iblk m c 2 t) (iblk m c 3 t) y = Cert.ReferenceAdamWIdeal.Read.val_main_v5 (F := Ideal) (ag m c) (am m c) i
    ∧ out0_7 (F := Ideal) (iblk m c 0 t) (iblk m c 1 t) (iblk m c 2 t) (iblk m c 3 t) y = Cert.ReferenceAdamWIdeal.Read.val_main_v11 (F := Ideal) (ag m c) (av m c) i := by
  obtain ⟨o, r, l, rfl⟩ : ∃ (o : Fin 1) (r : Fin 128) (l : Fin 1408), y = ix3 o r l := ⟨_, _, _, eq_ix3 y⟩
  obtain rfl : o = 0 := Subsingleton.elim _ _
  obtain ⟨p, q, k, rfl⟩ : ∃ (p : Fin 1) (q : Fin 1024) (k : Fin 1408), i = ix3 p q k := ⟨_, _, _, eq_ix3 i⟩
  obtain rfl : p = 0 := Subsingleton.elim _ _
  obtain rfl : k = l := Fin.ext h2
  change q.val = t.val * 128 + r.val at h1
  rw [AdamWRef.g_apply, AdamWRef.delta_apply, AdamWRef.mom1_apply, AdamWRef.mom2_apply, ← at_w m c t r k q h1, ← at_g m c t r k q h1, ← at_m m c t r k q h1,
    ← at_v m c t r k q h1]
  refine ⟨?_, ?_, ?_, ?_⟩
  · frame_out
    exact (lead _ r k).2.2.2
  · frame_out
    exact (lead _ r k).1.trans (pay_delta _ _ _ _ r k)
  · frame_out
    exact (lead _ r k).2.1.trans (pay_mom1 _ _ r k)
  · frame_out
    exact (lead _ r k).2.2.1.trans (pay_mom2 _ _ r k)

/-- What the kernel leaves: the gradient, the change, and the two new moments. -/
theorem final : (dats m 0 c).arrAt 4 cfg0.N = Cert.ReferenceAdamWIdeal.Read.val_main_v0 (F := Ideal) (ag m c)
    ∧ (dats m 0 c).arrAt 5 cfg0.N = Cert.ReferenceAdamWIdeal.Read.val_main_v24 (F := Ideal) (aw m c) (ag m c) (am m c) (av m c)
    ∧ (dats m 0 c).arrAt 6 cfg0.N = Cert.ReferenceAdamWIdeal.Read.val_main_v5 (F := Ideal) (ag m c) (am m c)
    ∧ (dats m 0 c).arrAt 7 cfg0.N = Cert.ReferenceAdamWIdeal.Read.val_main_v11 (F := Ideal) (ag m c) (av m c) := by
  refine ⟨?_, ?_, ?_, ?_⟩
  · refine (dats m 0 c).arrAt_eq_of_covers 4 _ (by decide +kernel) fun t hf y => ?_
    blk_simp
    rw [after0_4]
    refine (point m c t y _ ?_ ?_).1 <;> blk_simp [idx t]
  · refine (dats m 0 c).arrAt_eq_of_covers 5 _ (by decide +kernel) fun t hf y => ?_
    blk_simp
    rw [after0_5]
    refine (point m c t y _ ?_ ?_).2.1 <;> blk_simp [idx t]
  · refine (dats m 0 c).arrAt_eq_of_covers 6 _ (by decide +kernel) fun t hf y => ?_
    blk_simp
    rw [after0_6]
    refine (point m c t y _ ?_ ?_).2.2.1 <;> blk_simp [idx t]
  · refine (dats m 0 c).arrAt_eq_of_covers 7 _ (by decide +kernel) fun t hf y => ?_
    blk_simp
    rw [after0_7]
    refine (point m c t y _ ?_ ?_).2.2.2 <;> blk_simp [idx t]

/-- The kernel and the plain lines leave the same arrays. -/
theorem algebraic : Cert.algebraic_KernelAdamWIdeal_ReferenceAdamWIdeal := fun m g m' g' _ hag =>
  ⟨fun c => _, fun c => _, fun c => _, fun c => _,
    (θ_run _ _ _).mono (fun _ h c => ⟨(h c).1.trans (final m c).1, (h c).2.1.trans (final m c).2.1, (h c).2.2.1.trans (final m c).2.2.1,
      (h c).2.2.2.1.trans (final m c).2.2.2, (h c).2.2.2.2⟩) (Cert.KernelAdamWIdeal.Value.run_blocks m g),
    (θ_run _ _ _).mono (fun _ h c => by
      obtain ⟨e0, e1, e2, e3⟩ := hag c
      refine ⟨(h c).1.trans ?_, (h c).2.1.trans ?_, (h c).2.2.1.trans ?_, (h c).2.2.2.1.trans ?_, (h c).2.2.2.2⟩
      · rw [Cert.ReferenceAdamWIdeal.Read.val_main_v0_eq]
        exact congrArg _ e1
      · rw [Cert.ReferenceAdamWIdeal.Read.val_main_v24_eq]
        exact congr (congr (congr (congrArg _ e0) e1) e2) e3
      · rw [Cert.ReferenceAdamWIdeal.Read.val_main_v5_eq]
        exact congr (congrArg _ e1) e2
      · rw [Cert.ReferenceAdamWIdeal.Read.val_main_v11_eq]
        exact congr (congrArg _ e1) e3) (Cert.ReferenceAdamWIdeal.Value.run m' g')⟩

end Cert.AdamW

end
-- ==== Proof.MixWBuf.lean ====
/- The pooling mixer's own weights: the scratch of the values to be pooled. -/
module

public import proofs.«01_k».proof.Defs
public import proofs.«01_k».proof.Proof.MixFOut
public import proofs.«01_k».proof.Proof.Gen.KernelMixWIdeal.Frame

@[expose] public section

set_option maxRecDepth 16384

noncomputable section

open Idealize.ShloMosaic Idealize.ShloMosaic.TcCoe Idealize.SL.Sem

namespace Cert.MixW

open Cert.KernelMixWIdeal Cert.KernelMixWIdeal.Gen Conv31

variable (m : (ℓ : Loc nD τ sig) → Buf (Elt Ideal) ℓ) (c : Dev nD) (t : Fin cfg0.N)

/-- The scratch of the values to be pooled, filled. -/
abbrev pb (i : grid0.Coords) (X : FVec Ideal S512x1536 .bf16) (Z : FVec Ideal S32x1536 .bf16) : FVec Ideal S544x512 .f32 := MixF.pb i X Z

theorem before (i : grid0.Coords) (Z : FVec Ideal S32x1536 .bf16) (r : Fin 32) (j : Fin 512) :
    k0_pay11 (F := Ideal) (k0_pay6 i Z) (ix2 r j) = Z (ix2 r ⟨1024 + j.val, by omega⟩) * MixF.keep i := by
  unfold k0_pay11 k0_pay6 MixF.keep
  pointwise []
  generalize i 0 = a
  revert a
  intro (a : Fin 8)
  fin_cases a <;> first | exact (mul_zero _).symm | exact (mul_one _).symm

theorem chunk (X : FVec Ideal S64x1536 .bf16) (r : Fin 64) (j : Fin 512) :
    k0_pay14 (F := Ideal) X (ix2 r j) = X (ix2 r ⟨1024 + j.val, by omega⟩) := by
  unfold k0_pay14 k0_pay12
  pointwise []

set_option maxHeartbeats 1000000 in
theorem canon_pb (i : grid0.Coords) (X : FVec Ideal S512x1536 .bf16) (Z : FVec Ideal S32x1536 .bf16) :
    View.canon (Val := Elt Ideal) (e := .f32) (MixF.stores (k0_pay11 (F := Ideal) (k0_pay6 i Z))
      ![k0_pay14 (View.ld (Val := Elt Ideal) (e' := .bf16) X (Rect.unit ![0, 0] ![64, 1536] inb_S512x1536_S64x1536_0_0)),
        k0_pay19 (k0_pay15 (View.ld (Val := Elt Ideal) (e' := .bf16) X (Rect.unit ![64, 0] ![64, 1536] inb_S512x1536_S64x1536_64_0))),
        k0_pay22 (View.ld (Val := Elt Ideal) (e' := .bf16) X (Rect.unit ![128, 0] ![64, 1536] inb_S512x1536_S64x1536_128_0)),
        k0_pay25 (k0_pay23 (View.ld (Val := Elt Ideal) (e' := .bf16) X (Rect.unit ![192, 0] ![64, 1536] inb_S512x1536_S64x1536_192_0))),
        k0_pay28 (View.ld (Val := Elt Ideal) (e' := .bf16) X (Rect.unit ![256, 0] ![64, 1536] inb_S512x1536_S64x1536_256_0)),
        k0_pay31 (View.ld (Val := Elt Ideal) (e' := .bf16) X (Rect.unit ![320, 0] ![64, 1536] inb_S512x1536_S64x1536_320_0)),
        k0_pay34 (View.ld (Val := Elt Ideal) (e' := .bf16) X (Rect.unit ![384, 0] ![64, 1536] inb_S512x1536_S64x1536_384_0)),
        k0_pay37 (View.ld (Val := Elt Ideal) (e' := .bf16) X (Rect.unit ![448, 0] ![64, 1536] inb_S512x1536_S64x1536_448_0))]) = pb i X Z := by
  refine MixF.filled _ _ _ (fun r j => (before i Z r j).trans (MixF.ext_before i X Z r _)) fun q r j s hs => ?_
  have key (a : Nat) (inb : ∀ i, (![a, 0] : Fin 2 → Nat) i + (![64, 1536] : Fin 2 → Nat) i ≤ S512x1536.size i) (hs : s.val = 32 + a + r.val) :
      k0_pay14 (F := Ideal) (View.ld (Val := Elt Ideal) (e' := .bf16) X (Rect.unit (s := S512x1536) ![a, 0] ![64, 1536] inb)) (ix2 r j)
        = pb i X Z (ix2 s j) := (chunk _ r j).trans (MixF.ext_chunk i X Z _ r _ _ hs)
  fin_cases q
  exacts [key 0 _ hs, key 64 _ hs, key 128 _ hs, key 192 _ hs, key 256 _ hs, key 320 _ hs, key 384 _ hs, key 448 _ hs]

end Cert.MixW

end
-- ==== Proof.MixWPay.lean ====
/- The pooling mixer's own weights: the values one point pools, and what it adds to the two sums. -/
module

public import proofs.«01_k».proof.Defs
public import proofs.«01_k».proof.Proof.MixWBuf
public import proofs.«01_k».proof.Proof.Gen.KernelMixWIdeal.Frame

@[expose] public section

set_option maxRecDepth 16384

noncomputable section

open Idealize.ShloMosaic Idealize.ShloMosaic.TcCoe Idealize.SL.Sem

namespace Cert.MixW

open Cert.KernelMixWIdeal Cert.KernelMixWIdeal.Gen Conv31

/-- A block's rows starting at row `a` of the scratch, in the columns starting at `b`. -/
abbrev slab (H : FVec Ideal S544x512 .f32) (a b : Nat) (inb : ∀ i, (![a, b] : Fin 2 → Nat) i + (![512, 128] : Fin 2 → Nat) i ≤ S544x512.size i := by first | decide | (intro i; fin_cases i <;> decide)) :
    FVec Ideal S512x128 .f32 := View.ld (Val := Elt Ideal) (e' := .f32) H (Rect.unit (s := S544x512) ![a, b] ![512, 128] inb)

theorem slab_apply (H : FVec Ideal S544x512 .f32) (a b : Nat) (inb : ∀ i, (![a, b] : Fin 2 → Nat) i + (![512, 128] : Fin 2 → Nat) i ≤ S544x512.size i)
    (r : Fin 512) (k : Fin 128) (q : Fin 512) (hq : q.val = b + k.val) (n : Nat) (hn : n = a + r.val) : slab H a b inb (ix2 r k) = col H q n := by
  have h0 : a + 512 ≤ 544 := inb 0
  have hr := r.isLt
  rw [← at_col H q n (by omega) n rfl]
  exact View.ld_unit_apply_of _ _ _ _ _ _ fun i => by
    match i with
    | ⟨0, _⟩ => exact hn
    | ⟨1, _⟩ => exact hq

theorem base_eq (i : grid0.Coords) : k0_pay541 (F := Ideal) (BitVec.ofNat 32 (i 0).val) = (((512 * ((i 0).val % 4) : ℕ) : ℝ) : EReal) := MixF.base_eq i

/-- A point's rows pooled: the last rows' sum over their number, less the row. -/
def pool : (g : Fin 4) → (i : grid0.Coords) → (H : FVec Ideal S544x512 .f32) → FVec Ideal S512x128 .bf16
  | 0, i, H => k0_pay545 (F := Ideal) (BitVec.ofNat 32 (i 0).val) (slab H 32 0) (slab H 31 0)
  | 1, i, H => k0_pay560 (F := Ideal) (slab H 32 128) (k0_pay559 (k0_pay542 (BitVec.ofNat 32 (i 0).val)) (slab H 32 128) (slab H 31 128) (slab H 30 128) (slab H 29 128))
  | 2, i, H => k0_pay574 (F := Ideal) (k0_pay542 (BitVec.ofNat 32 (i 0).val)) (slab H 32 256) (k0_pay572 (slab H 32 256) (slab H 31 256)) (slab H 30 256) (slab H 29 256) (slab H 28 256) (slab H 27 256) (slab H 26 256) (slab H 25 256)
  | 3, i, H => k0_pay586 (F := Ideal) (k0_pay542 (BitVec.ofNat 32 (i 0).val)) (slab H 32 384) (k0_pay584 (slab H 32 384) (slab H 31 384) (slab H 30 384) (slab H 29 384) (slab H 28 384)) (slab H 27 384) (slab H 26 384) (slab H 25 384) (slab H 24 384) (slab H 23 384) (slab H 22 384) (slab H 21 384) (slab H 20 384) (slab H 19 384) (slab H 18 384) (slab H 17 384)

theorem pool_apply (i : grid0.Coords) (H : FVec Ideal S544x512 .f32) (g : Fin 4) (r : Fin 512) (k : Fin 128) : pool g i H (ix2 r k) = MixF.pooled i H g k r.val := by
  have hr := r.isLt
  unfold MixF.pooled MixF.win
  fin_cases g
  · show (k0_pay545 (F := Ideal) (BitVec.ofNat 32 (i 0).val) (slab H 32 0) (slab H 31 0)) (ix2 r k) = _
    pointwise [k0_pay542, k0_pay544, k0_pay545, base_eq]
    rw [Scan.place_eq _ (r.isLt.trans (by decide))]
    refine congrArg₂ HSub.hSub (congrArg₂ Ideal.div ?_ rfl) (slab_apply H _ 0 _ r k (MixF.at4 0 k) rfl _ rfl)
    show _ = ∑ d ∈ Finset.range 2, col H (MixF.at4 0 k) (32 + r.val - d)
    simp only [Finset.sum_range_succ, Finset.sum_range_zero, zero_add]
    iterate 1
      refine congrArg₂ HAdd.hAdd ?_ (slab_apply H _ 0 _ r k (MixF.at4 0 k) rfl _ (by omega))
    exact slab_apply H _ 0 _ r k (MixF.at4 0 k) rfl _ (by omega)
  · show (k0_pay560 (F := Ideal) (slab H 32 128) (k0_pay559 (k0_pay542 (BitVec.ofNat 32 (i 0).val)) (slab H 32 128) (slab H 31 128) (slab H 30 128) (slab H 29 128))) (ix2 r k) = _
    pointwise [k0_pay542, k0_pay558, k0_pay559, k0_pay560, base_eq]
    rw [Scan.place_eq _ (r.isLt.trans (by decide))]
    refine congrArg₂ HSub.hSub (congrArg₂ Ideal.div ?_ rfl) (slab_apply H _ 128 _ r k (MixF.at4 1 k) rfl _ rfl)
    show _ = ∑ d ∈ Finset.range 4, col H (MixF.at4 1 k) (32 + r.val - d)
    simp only [Finset.sum_range_succ, Finset.sum_range_zero, zero_add]
    iterate 3
      refine congrArg₂ HAdd.hAdd ?_ (slab_apply H _ 128 _ r k (MixF.at4 1 k) rfl _ (by omega))
    exact slab_apply H _ 128 _ r k (MixF.at4 1 k) rfl _ (by omega)
  · show (k0_pay574 (F := Ideal) (k0_pay542 (BitVec.ofNat 32 (i 0).val)) (slab H 32 256) (k0_pay572 (slab H 32 256) (slab H 31 256)) (slab H 30 256) (slab H 29 256) (slab H 28 256) (slab H 27 256) (slab H 26 256) (slab H 25 256)) (ix2 r k) = _
    pointwise [k0_pay542, k0_pay572, k0_pay573, k0_pay574, base_eq]
    rw [Scan.place_eq _ (r.isLt.trans (by decide))]
    refine congrArg₂ HSub.hSub (congrArg₂ Ideal.div ?_ rfl) (slab_apply H _ 256 _ r k (MixF.at4 2 k) rfl _ rfl)
    show _ = ∑ d ∈ Finset.range 8, col H (MixF.at4 2 k) (32 + r.val - d)
    simp only [Finset.sum_range_succ, Finset.sum_range_zero, zero_add]
    iterate 7
      refine congrArg₂ HAdd.hAdd ?_ (slab_apply H _ 256 _ r k (MixF.at4 2 k) rfl _ (by omega))
    exact slab_apply H _ 256 _ r k (MixF.at4 2 k) rfl _ (by omega)
  · show (k0_pay586 (F := Ideal) (k0_pay542 (BitVec.ofNat 32 (i 0).val)) (slab H 32 384) (k0_pay584 (slab H 32 384) (slab H 31 384) (slab H 30 384) (slab H 29 384) (slab H 28 384)) (slab H 27 384) (slab H 26 384) (slab H 25 384) (slab H 24 384) (slab H 23 384) (slab H 22 384) (slab H 21 384) (slab H 20 384) (slab H 19 384) (slab H 18 384) (slab H 17 384)) (ix2 r k) = _
    pointwise [k0_pay542, k0_pay584, k0_pay585, k0_pay586, base_eq]
    rw [Scan.place_eq _ (r.isLt.trans (by decide))]
    refine congrArg₂ HSub.hSub (congrArg₂ Ideal.div ?_ rfl) (slab_apply H _ 384 _ r k (MixF.at4 3 k) rfl _ rfl)
    show _ = ∑ d ∈ Finset.range 16, col H (MixF.at4 3 k) (32 + r.val - d)
    simp only [Finset.sum_range_succ, Finset.sum_range_zero, zero_add]
    iterate 15
      refine congrArg₂ HAdd.hAdd ?_ (slab_apply H _ 384 _ r k (MixF.at4 3 k) rfl _ (by omega))
    exact slab_apply H _ 384 _ r k (MixF.at4 3 k) rfl _ (by omega)

/-- A point adds to a group's matrix the products of its pooled rows with the scaled gradient's rows. -/
theorem mat_apply (Q : FVec Ideal S512x128 .bf16) (d : Vec Ideal S512x128 .bf16) (ps : Vec Ideal S1x128 .f32) (p : Vec Ideal S1x128x128 .f32) (k j : Fin 128) :
    k0_pay551 (F := Ideal) Q d ps p (ix3 0 k j) = p (ix3 0 k j) + ∑ r : Fin 512, Q (ix2 r k) * (d (ix2 r j) * ps (ix2 0 j)) := by
  pointwise [k0_pay551, k0_pay550, k0_pay548]

/-- A point adds to a group's scales the gradient's rows times the pooled rows put through the group's matrix. -/
theorem scale_apply (Q : FVec Ideal S512x128 .bf16) (pw : Vec Ideal S1x128x128 .f32) (d : Vec Ideal S512x128 .bf16) (p : Vec Ideal S1x128 .f32) (j : Fin 128) :
    k0_pay549 (F := Ideal) Q (k0_pay546 pw) d p (ix2 0 j) = p (ix2 0 j) + ∑ r : Fin 512, d (ix2 r j) * ∑ k : Fin 128, Q (ix2 r k) * pw (ix3 0 k j) := by
  pointwise [k0_pay549, k0_pay546, k0_pay547, k0_pay548]

section
variable {h n : Nat} {e : EltTy}

/-- A load of a group's columns. -/
theorem ld_cols {a : Nat} (X : (⟨2, ![h, 512]⟩ : Shape).Idx → Elt Ideal e) (g : Fin 4) (b : Nat) (hb : b = 128 * g.val)
    (inb : ∀ i, (![0, b] : Fin 2 → Nat) i + (![a, 128] : Fin 2 → Nat) i ≤ (⟨2, ![h, 512]⟩ : Shape).size i) (r : Fin a) (u : Fin h) (hu : u.val = r.val) (j : Fin 128) :
    View.ld (Val := Elt Ideal) (e' := e) X (Rect.unit (s := ⟨2, ![h, 512]⟩) ![0, b] ![a, 128] inb) (ix2 r j) = X (ix2 u (MixF.at4 g j)) :=
  View.ld_unit_apply_of _ _ _ _ _ _ fun i => by
    match i with
    | ⟨0, _⟩ => show u.val = 0 + r.val; omega
    | ⟨1, _⟩ => show 128 * g.val + j.val = b + j.val; omega

/-- A load of a group's matrix. -/
theorem ld_mat (X : (⟨3, ![4, 128, 128]⟩ : Shape).Idx → Elt Ideal e) (g : Fin 4)
    (inb : ∀ i, (![g.val, 0, 0] : Fin 3 → Nat) i + (![1, 128, 128] : Fin 3 → Nat) i ≤ (⟨3, ![4, 128, 128]⟩ : Shape).size i) (k j : Fin 128) :
    View.ld (Val := Elt Ideal) (e' := e) X (Rect.unit (s := ⟨3, ![4, 128, 128]⟩) ![g.val, 0, 0] ![1, 128, 128] inb) (ix3 0 k j) = X (ix3 g k j) :=
  View.ld_unit_apply_of _ _ _ _ _ _ fun i => by
    match i with
    | ⟨0, _⟩ => rfl
    | ⟨1, _⟩ => exact (Nat.zero_add _).symm
    | ⟨2, _⟩ => exact (Nat.zero_add _).symm
end

/-- The place of a group's scales in the row of scales. -/
theorem emb_cols (g : Fin 4) (inb : ∀ i, (![0, 128 * g.val] : Fin 2 → Nat) i + (![1, 128] : Fin 2 → Nat) i ≤ S8x512.size i) (j : Fin 128) :
    (Rect.unit (s := S8x512) ![0, 128 * g.val] ![1, 128] inb).emb (ix2 0 j) = ix2 0 (MixF.at4 g j) := by
  refine funext fun i => Fin.ext ?_
  rw [Rect.emb_apply]
  match i with
  | ⟨0, _⟩ => rfl
  | ⟨1, _⟩ => show 128 * g.val + 1 * j.val = 128 * g.val + j.val; omega

theorem not_cols (b : Nat) (inb : ∀ i, (![0, b] : Fin 2 → Nat) i + (![1, 128] : Fin 2 → Nat) i ≤ S8x512.size i) (u : Fin 8) (x : Fin 512)
    (h : u.val ≠ 0 ∨ x.val < b ∨ b + 128 ≤ x.val) : ix2 u x ∉ (Rect.unit (s := S8x512) ![0, b] ![1, 128] inb).set := by
  rw [Rect.mem_set_unit]
  intro hm
  have h0 : 0 ≤ u.val ∧ u.val < 0 + 1 := hm 0
  have h1 : b ≤ x.val ∧ x.val < b + 128 := hm 1
  omega

/-- The four stores of a row of scales. -/
abbrev cols (w : Fin 4 → FVec Ideal S1x128 .f32) : List (View.Piece (Elt Ideal) S8x512 .f32) :=
  [⟨Rect.unit (s := S8x512) ![0, 384] ![1, 128] inb_S8x512_S1x128_0_384, w 3⟩, ⟨Rect.unit (s := S8x512) ![0, 256] ![1, 128] inb_S8x512_S1x128_0_256, w 2⟩,
    ⟨Rect.unit (s := S8x512) ![0, 128] ![1, 128] inb_S8x512_S1x128_0_128, w 1⟩, ⟨Rect.unit (s := S8x512) ![0, 0] ![1, 128] inb_S8x512_S1x128_0_0, w 0⟩]

section
variable (w : FVec Ideal S1x128 .f32) (L : List (View.Piece (Elt Ideal) S8x512 .f32)) (b : Nat)
    (inb : ∀ i, (![0, b] : Fin 2 → Nat) i + (![1, 128] : Fin 2 → Nat) i ≤ S8x512.size i)

theorem canon_hit (g : Fin 4) (hb : b = 128 * g.val) (j : Fin 128) :
    View.canon (Val := Elt Ideal) (e := .f32) (⟨Rect.unit (s := S8x512) ![0, b] ![1, 128] inb, w⟩ :: L) (ix2 0 (MixF.at4 g j)) = w (ix2 0 j) := by
  subst hb
  rw [← emb_cols g inb j]
  exact View.canon_cons_emb (Val := Elt Ideal) (Rect.unit (s := S8x512) ![0, 128 * g.val] ![1, 128] inb) w L (ix2 0 j)

theorem canon_miss (u : Fin 8) (x : Fin 512) (h : u.val ≠ 0 ∨ x.val < b ∨ b + 128 ≤ x.val) :
    View.canon (Val := Elt Ideal) (e := .f32) (⟨Rect.unit (s := S8x512) ![0, b] ![1, 128] inb, w⟩ :: L) (ix2 u x) = View.canon (Val := Elt Ideal) L (ix2 u x) :=
  View.canon_cons_of_not_mem (Val := Elt Ideal) _ L (not_cols b inb u x h)
end

/-- What the four stores leave in the first row. -/
theorem canon_cols (w : Fin 4 → FVec Ideal S1x128 .f32) (L : List (View.Piece (Elt Ideal) S8x512 .f32)) (g : Fin 4) (j : Fin 128) :
    View.canon (Val := Elt Ideal) (e := .f32) (cols w ++ L) (ix2 0 (MixF.at4 g j)) = w g (ix2 0 j) := by
  have hj := j.isLt
  have lt (a b : Nat) (ha : a < b) (x : Fin 512) (hx : x.val = 128 * a + j.val) : x.val < 128 * b := by omega
  match g with
  | 0 => exact (canon_miss _ _ _ _ _ _ (.inr (.inl (lt 0 3 (by decide) _ rfl)))).trans ((canon_miss _ _ _ _ _ _ (.inr (.inl (lt 0 2 (by decide) _ rfl)))).trans
      ((canon_miss _ _ _ _ _ _ (.inr (.inl (lt 0 1 (by decide) _ rfl)))).trans (canon_hit _ _ _ _ 0 rfl j)))
  | 1 => exact (canon_miss _ _ _ _ _ _ (.inr (.inl (lt 1 3 (by decide) _ rfl)))).trans ((canon_miss _ _ _ _ _ _ (.inr (.inl (lt 1 2 (by decide) _ rfl)))).trans
      (canon_hit _ _ _ _ 1 rfl j))
  | 2 => exact (canon_miss _ _ _ _ _ _ (.inr (.inl (lt 2 3 (by decide) _ rfl)))).trans (canon_hit _ _ _ _ 2 rfl j)
  | 3 => exact canon_hit _ _ _ _ 3 rfl j

/-- What they leave in the other rows. -/
theorem canon_cols_rest (w : Fin 4 → FVec Ideal S1x128 .f32) (L : List (View.Piece (Elt Ideal) S8x512 .f32)) (u : Fin 8) (hu : u.val ≠ 0) (x : Fin 512) :
    View.canon (Val := Elt Ideal) (e := .f32) (cols w ++ L) (ix2 u x) = View.canon (Val := Elt Ideal) L (ix2 u x) :=
  (canon_miss _ _ _ _ _ _ (.inl hu)).trans ((canon_miss _ _ _ _ _ _ (.inl hu)).trans ((canon_miss _ _ _ _ _ _ (.inl hu)).trans (canon_miss _ _ _ _ _ _ (.inl hu))))

/-- The four stores of the groups' matrices. -/
abbrev mats (w : Fin 4 → FVec Ideal S1x128x128 .f32) : List (View.Piece (Elt Ideal) S4x128x128 .f32) :=
  [⟨Rect.unit (s := S4x128x128) ![3, 0, 0] ![1, 128, 128] inb_S4x128x128_S1x128x128_3_0_0, w 3⟩, ⟨Rect.unit (s := S4x128x128) ![2, 0, 0] ![1, 128, 128] inb_S4x128x128_S1x128x128_2_0_0, w 2⟩,
    ⟨Rect.unit (s := S4x128x128) ![1, 0, 0] ![1, 128, 128] inb_S4x128x128_S1x128x128_1_0_0, w 1⟩, ⟨Rect.unit (s := S4x128x128) ![0, 0, 0] ![1, 128, 128] inb_S4x128x128_S1x128x128_0_0_0, w 0⟩]

theorem emb_mat (g : Fin 4) (inb : ∀ i, (![g.val, 0, 0] : Fin 3 → Nat) i + (![1, 128, 128] : Fin 3 → Nat) i ≤ S4x128x128.size i) (k j : Fin 128) :
    (Rect.unit (s := S4x128x128) ![g.val, 0, 0] ![1, 128, 128] inb).emb (ix3 0 k j) = ix3 g k j := by
  refine funext fun i => Fin.ext ?_
  rw [Rect.emb_apply]
  match i with
  | ⟨0, _⟩ => rfl
  | ⟨1, _⟩ => show 0 + 1 * k.val = k.val; omega
  | ⟨2, _⟩ => show 0 + 1 * j.val = j.val; omega

theorem not_mat (b : Nat) (inb : ∀ i, (![b, 0, 0] : Fin 3 → Nat) i + (![1, 128, 128] : Fin 3 → Nat) i ≤ S4x128x128.size i) (g : Fin 4) (k j : Fin 128)
    (h : g.val ≠ b) : ix3 g k j ∉ (Rect.unit (s := S4x128x128) ![b, 0, 0] ![1, 128, 128] inb).set := by
  rw [Rect.mem_set_unit]
  intro hm
  have h0 : b ≤ g.val ∧ g.val < b + 1 := hm 0
  omega

section
variable (w : FVec Ideal S1x128x128 .f32) (L : List (View.Piece (Elt Ideal) S4x128x128 .f32)) (b : Nat)
    (inb : ∀ i, (![b, 0, 0] : Fin 3 → Nat) i + (![1, 128, 128] : Fin 3 → Nat) i ≤ S4x128x128.size i)

theorem mat_hit (g : Fin 4) (hb : b = g.val) (k j : Fin 128) :
    View.canon (Val := Elt Ideal) (e := .f32) (⟨Rect.unit (s := S4x128x128) ![b, 0, 0] ![1, 128, 128] inb, w⟩ :: L) (ix3 g k j) = w (ix3 0 k j) := by
  subst hb
  rw [← emb_mat g inb k j]
  exact View.canon_cons_emb (Val := Elt Ideal) (Rect.unit (s := S4x128x128) ![g.val, 0, 0] ![1, 128, 128] inb) w L (ix3 0 k j)

theorem mat_miss (g : Fin 4) (h : g.val ≠ b) (k j : Fin 128) :
    View.canon (Val := Elt Ideal) (e := .f32) (⟨Rect.unit (s := S4x128x128) ![b, 0, 0] ![1, 128, 128] inb, w⟩ :: L) (ix3 g k j) = View.canon (Val := Elt Ideal) L (ix3 g k j) :=
  View.canon_cons_of_not_mem (Val := Elt Ideal) _ L (not_mat b inb g k j h)
end

/-- What the four stores leave. -/
theorem canon_mats (w : Fin 4 → FVec Ideal S1x128x128 .f32) (L : List (View.Piece (Elt Ideal) S4x128x128 .f32)) (g : Fin 4) (k j : Fin 128) :
    View.canon (Val := Elt Ideal) (e := .f32) (mats w ++ L) (ix3 g k j) = w g (ix3 0 k j) := by
  match g with
  | 0 => exact (mat_miss _ _ _ _ 0 (by decide) _ _).trans ((mat_miss _ _ _ _ 0 (by decide) _ _).trans ((mat_miss _ _ _ _ 0 (by decide) _ _).trans (mat_hit _ _ _ _ 0 rfl k j)))
  | 1 => exact (mat_miss _ _ _ _ 1 (by decide) _ _).trans ((mat_miss _ _ _ _ 1 (by decide) _ _).trans (mat_hit _ _ _ _ 1 rfl k j))
  | 2 => exact (mat_miss _ _ _ _ 2 (by decide) _ _).trans (mat_hit _ _ _ _ 2 rfl k j)
  | 3 => exact mat_hit _ _ _ _ 3 rfl k j

end Cert.MixW

end
-- ==== Proof.MixWOut.lean ====
/- The pooling mixer's own weights: what one point leaves in the two sums. -/
module

public import proofs.«01_k».proof.Defs
public import proofs.«01_k».proof.Proof.MixWPay
public import proofs.«01_k».proof.Proof.Gen.KernelMixWIdeal.Frame

@[expose] public section

set_option maxRecDepth 16384

noncomputable section

open Idealize.ShloMosaic Idealize.ShloMosaic.TcCoe Idealize.SL.Sem

namespace Cert.MixW

open Cert.KernelMixWIdeal Cert.KernelMixWIdeal.Gen Conv31

variable (m : (ℓ : Loc nD τ sig) → Buf (Elt Ideal) ℓ) (c : Dev nD) (t : Fin cfg0.N)

section
variable (i : grid0.Coords) (H : FVec Ideal S544x512 .f32) (D : FVec Ideal S512x512 .bf16)

theorem inb_cols {h a : Nat} (ha : a ≤ h) (g : Fin 4) : ∀ i, (![0, 128 * g.val] : Fin 2 → Nat) i + (![a, 128] : Fin 2 → Nat) i ≤ (⟨2, ![h, 512]⟩ : Shape).size i := fun i => by
  have := g.isLt
  match i with
  | ⟨0, _⟩ => show 0 + a ≤ h; omega
  | ⟨1, _⟩ => show 128 * g.val + 128 ≤ 512; omega

theorem inb_mat (g : Fin 4) : ∀ i, (![g.val, 0, 0] : Fin 3 → Nat) i + (![1, 128, 128] : Fin 3 → Nat) i ≤ S4x128x128.size i := by
  revert g; decide

/-- What a point stores as a group's scales, over what is there. -/
def scales (PW : FVec Ideal S4x128x128 .f32) (P : FVec Ideal S8x512 .f32) (g : Fin 4) : FVec Ideal S1x128 .f32 :=
  k0_pay549 (F := Ideal) (pool g i H) (k0_pay546 (View.ld (Val := Elt Ideal) (e' := .f32) PW (Rect.unit (s := S4x128x128) ![g.val, 0, 0] ![1, 128, 128] (inb_mat g))))
    (View.ld (Val := Elt Ideal) (e' := .bf16) D (Rect.unit (s := S512x512) ![0, 128 * g.val] ![512, 128] (inb_cols le_rfl g)))
    (View.ld (Val := Elt Ideal) (e' := .f32) P (Rect.unit (s := S8x512) ![0, 128 * g.val] ![1, 128] (inb_cols (by decide) g)))

/-- What a point stores as a group's matrix, over what is there. -/
def matrix (PS : FVec Ideal S1x512 .f32) (P : FVec Ideal S4x128x128 .f32) (g : Fin 4) : FVec Ideal S1x128x128 .f32 :=
  k0_pay551 (F := Ideal) (pool g i H) (View.ld (Val := Elt Ideal) (e' := .bf16) D (Rect.unit (s := S512x512) ![0, 128 * g.val] ![512, 128] (inb_cols le_rfl g)))
    (View.ld (Val := Elt Ideal) (e' := .f32) PS (Rect.unit (s := S1x512) ![0, 128 * g.val] ![1, 128] (inb_cols le_rfl g)))
    (View.ld (Val := Elt Ideal) (e' := .f32) P (Rect.unit (s := S4x128x128) ![g.val, 0, 0] ![1, 128, 128] (inb_mat g)))

/-- The two amounts a point adds. -/
def addS (PW : FVec Ideal S4x128x128 .f32) (g : Fin 4) (j : Fin 128) : EReal :=
  ∑ r : Fin 512, D (ix2 r (MixF.at4 g j)) * ∑ k : Fin 128, MixF.pooled i H g k r.val * PW (ix3 g k j)
def addM (PS : FVec Ideal S1x512 .f32) (g : Fin 4) (k j : Fin 128) : EReal :=
  ∑ r : Fin 512, MixF.pooled i H g k r.val * (D (ix2 r (MixF.at4 g j)) * PS (ix2 0 (MixF.at4 g j)))

theorem scales_eq (PW : FVec Ideal S4x128x128 .f32) (P : FVec Ideal S8x512 .f32) (g : Fin 4) (j : Fin 128) :
    scales i H D PW P g (ix2 0 j) = P (ix2 0 (MixF.at4 g j)) + addS i H D PW g j := by
  refine (scale_apply _ _ _ _ j).trans (congrArg₂ HAdd.hAdd (ld_cols (e := .f32) (a := 1) P g _ rfl (inb_cols (h := 8) (by decide) g) 0 0 rfl j) (Finset.sum_congr rfl fun r _ => congrArg₂ HMul.hMul
    (ld_cols (e := .bf16) D g _ rfl (inb_cols le_rfl g) r r rfl j) (Finset.sum_congr rfl fun k _ => congrArg₂ HMul.hMul (pool_apply i H g r k) (ld_mat (e := .f32) PW g (inb_mat g) k j))))

theorem matrix_eq (PS : FVec Ideal S1x512 .f32) (P : FVec Ideal S4x128x128 .f32) (g : Fin 4) (k j : Fin 128) :
    matrix i H D PS P g (ix3 0 k j) = P (ix3 g k j) + addM i H D PS g k j := by
  refine (mat_apply _ _ _ _ k j).trans (congrArg₂ HAdd.hAdd (ld_mat (e := .f32) P g (inb_mat g) k j) (Finset.sum_congr rfl fun r _ => congrArg₂ HMul.hMul
    (pool_apply i H g r k) (congrArg₂ HMul.hMul (ld_cols (e := .bf16) D g _ rfl (inb_cols le_rfl g) r r rfl j) (ld_cols (e := .f32) PS g _ rfl (inb_cols le_rfl g) 0 0 rfl j))))
end

theorem zero4 (y : S8x512.Idx) : k0_pay4 (F := Ideal) y = (0 : EReal) := by
  pointwise [k0_pay4]

theorem zero5 (y : S4x128x128.Idx) : k0_pay5 (F := Ideal) y = (0 : EReal) := by
  pointwise [k0_pay5]

/-- The first row of scales is covered. -/
theorem cover_cols (w : Fin 4 → FVec Ideal S1x128 .f32) (L : List (View.Piece (Elt Ideal) S8x512 .f32)) (g : Fin 4) (j : Fin 128) :
    ∃ p ∈ cols w ++ L, (ix2 0 (MixF.at4 g j) : S8x512.Idx) ∈ p.1.set := by
  have key (b : Nat) (inb : ∀ i, (![0, b] : Fin 2 → Nat) i + (![1, 128] : Fin 2 → Nat) i ≤ S8x512.size i) (hb : b = 128 * g.val) :
      (ix2 0 (MixF.at4 g j) : S8x512.Idx) ∈ (Rect.unit (s := S8x512) ![0, b] ![1, 128] inb).set := by
    rw [Rect.mem_set_unit]
    intro i
    match i with
    | ⟨0, _⟩ => exact ⟨le_rfl, Nat.zero_lt_one⟩
    | ⟨1, _⟩ => show b ≤ 128 * g.val + j.val ∧ 128 * g.val + j.val < b + 128; omega
  match g, key with
  | 0, key => exact ⟨_, List.mem_append_left _ (.tail _ (.tail _ (.tail _ (.head _)))), key _ inb_S8x512_S1x128_0_0 rfl⟩
  | 1, key => exact ⟨_, List.mem_append_left _ (.tail _ (.tail _ (.head _))), key _ inb_S8x512_S1x128_0_128 rfl⟩
  | 2, key => exact ⟨_, List.mem_append_left _ (.tail _ (.head _)), key _ inb_S8x512_S1x128_0_256 rfl⟩
  | 3, key => exact ⟨_, List.mem_append_left _ (.head _), key _ inb_S8x512_S1x128_0_384 rfl⟩

theorem cover_mats (w : Fin 4 → FVec Ideal S1x128x128 .f32) (L : List (View.Piece (Elt Ideal) S4x128x128 .f32)) (g : Fin 4) (k j : Fin 128) :
    ∃ p ∈ mats w ++ L, (ix3 g k j : S4x128x128.Idx) ∈ p.1.set := by
  have key (b : Nat) (inb : ∀ i, (![b, 0, 0] : Fin 3 → Nat) i + (![1, 128, 128] : Fin 3 → Nat) i ≤ S4x128x128.size i) (hb : b = g.val) :
      (ix3 g k j : S4x128x128.Idx) ∈ (Rect.unit (s := S4x128x128) ![b, 0, 0] ![1, 128, 128] inb).set := by
    rw [Rect.mem_set_unit]
    intro i
    match i with
    | ⟨0, _⟩ => show b ≤ g.val ∧ g.val < b + 1; omega
    | ⟨1, _⟩ => exact ⟨Nat.zero_le _, by show k.val < 0 + 128; omega⟩
    | ⟨2, _⟩ => exact ⟨Nat.zero_le _, by show j.val < 0 + 128; omega⟩
  match g, key with
  | 0, key => exact ⟨_, List.mem_append_left _ (.tail _ (.tail _ (.tail _ (.head _)))), key _ inb_S4x128x128_S1x128x128_0_0_0 rfl⟩
  | 1, key => exact ⟨_, List.mem_append_left _ (.tail _ (.tail _ (.head _))), key _ inb_S4x128x128_S1x128x128_1_0_0 rfl⟩
  | 2, key => exact ⟨_, List.mem_append_left _ (.tail _ (.head _)), key _ inb_S4x128x128_S1x128x128_2_0_0 rfl⟩
  | 3, key => exact ⟨_, List.mem_append_left _ (.head _), key _ inb_S4x128x128_S1x128x128_3_0_0 rfl⟩

/-- The scratch of a point. -/
abbrev pbt : FVec Ideal S544x512 .f32 := pb (grid0.coords t) (iblk m c 0 t) (iblk m c 1 t)

set_option maxHeartbeats 2000000 in
/-- The first point starts the scales' sum. -/
theorem first11 (h0 : t.val % 8 = 0) (g : Fin 4) (j : Fin 128) : (outsAt0 m c t.val t.isLt).2.2.1 (ix2 0 (MixF.at4 g j))
    = addS (grid0.coords t) (pbt m c t) (iblk m c 4 t) (iblk m c 7 t) g j := by
  rw [outsAt0_A m c t h0]
  frame_open
  simp (disch := decide) only [↓View.readCov_skip, ↓View.readCov_cons_toLoadRect, ↓View.readCov_fill]
  frame_out
  simp only [MixF.reads, canon_pb]
  refine (canon_cols (scales (grid0.coords t) (pbt m c t) (iblk m c 4 t) (iblk m c 7 t) k0_pay4) [_] g j).trans ?_
  rw [scales_eq, zero4, zero_add]

set_option maxHeartbeats 2000000 in
/-- Each later point adds to it. -/
theorem next11 (h0 : ¬t.val % 8 = 0) (g : Fin 4) (j : Fin 128) : (outsAt0 m c t.val t.isLt).2.2.1 (ix2 0 (MixF.at4 g j))
    = (outsAt0 m c (t.val - 1) (Nat.lt_of_le_of_lt (Nat.sub_le _ _) t.isLt)).2.2.1 (ix2 0 (MixF.at4 g j)) + addS (grid0.coords t) (pbt m c t) (iblk m c 4 t) (iblk m c 7 t) g j := by
  rw [outsAt0_B m c t h0]
  frame_out
  simp only [MixF.reads, canon_pb]
  generalize outsAt0 m c _ _ = P
  have hS := scales_eq (grid0.coords t) (pbt m c t) (iblk m c 4 t) (iblk m c 7 t) P.2.2.1 g j
  refine (View.read_writes_apply_eq_canon (Val := Elt Ideal) _ _ _ (cols (scales (grid0.coords t) (pbt m c t) (iblk m c 4 t) (iblk m c 7 t) P.2.2.1) ++ []) (cover_cols _ [] g j)).trans ?_
  exact (canon_cols _ [] g j).trans hS

set_option maxHeartbeats 2000000 in
theorem first12 (h0 : t.val % 8 = 0) (g : Fin 4) (k j : Fin 128) : (outsAt0 m c t.val t.isLt).2.2.2 (ix3 g k j)
    = addM (grid0.coords t) (pbt m c t) (iblk m c 4 t) (iblk m c 8 t) g k j := by
  rw [outsAt0_A m c t h0]
  frame_open
  simp (disch := decide) only [↓View.readCov_skip, ↓View.readCov_cons_toLoadRect, ↓View.readCov_fill]
  frame_out
  simp only [MixF.reads, canon_pb]
  refine (canon_mats (matrix (grid0.coords t) (pbt m c t) (iblk m c 4 t) (iblk m c 8 t) k0_pay5) [_] g k j).trans ?_
  rw [matrix_eq, zero5, zero_add]

set_option maxHeartbeats 2000000 in
theorem next12 (h0 : ¬t.val % 8 = 0) (g : Fin 4) (k j : Fin 128) : (outsAt0 m c t.val t.isLt).2.2.2 (ix3 g k j)
    = (outsAt0 m c (t.val - 1) (Nat.lt_of_le_of_lt (Nat.sub_le _ _) t.isLt)).2.2.2 (ix3 g k j) + addM (grid0.coords t) (pbt m c t) (iblk m c 4 t) (iblk m c 8 t) g k j := by
  rw [outsAt0_B m c t h0]
  frame_out
  simp only [MixF.reads, canon_pb]
  generalize outsAt0 m c _ _ = P
  exact (canon_mats (matrix (grid0.coords t) (pbt m c t) (iblk m c 4 t) (iblk m c 8 t) P.2.2.2) [] g k j).trans (matrix_eq _ _ _ _ _ g k j)

set_option maxHeartbeats 2000000 in
/-- The rows of the scales' array past the first stay zero. -/
theorem first11_rest (h0 : t.val % 8 = 0) (u : Fin 8) (hu : u.val ≠ 0) (x : Fin 512) : (outsAt0 m c t.val t.isLt).2.2.1 (ix2 u x) = 0 := by
  rw [outsAt0_A m c t h0]
  frame_open
  simp (disch := decide) only [↓View.readCov_skip, ↓View.readCov_cons_toLoadRect, ↓View.readCov_fill]
  frame_out
  simp only [MixF.reads, canon_pb]
  refine (canon_cols_rest (scales (grid0.coords t) (pbt m c t) (iblk m c 4 t) (iblk m c 7 t) k0_pay4) [_] u hu x).trans ?_
  rw [View.canon_cons_unit_lit _ _ _ (by decide)]
  exact zero4 _

set_option maxHeartbeats 2000000 in
theorem next11_rest (h0 : ¬t.val % 8 = 0) (u : Fin 8) (hu : u.val ≠ 0) (x : Fin 512) : (outsAt0 m c t.val t.isLt).2.2.1 (ix2 u x)
    = (outsAt0 m c (t.val - 1) (Nat.lt_of_le_of_lt (Nat.sub_le _ _) t.isLt)).2.2.1 (ix2 u x) := by
  rw [outsAt0_B m c t h0]
  frame_out
  generalize outsAt0 m c _ _ = P
  iterate 4
    refine (View.read_writes_cons_unit_of_not_mem (Val := Elt Ideal) _ _ _ _ _ (ix2 u x) rfl (0 : Fin 2) (by show u.val < 0 ∨ 0 + 1 ≤ u.val; omega)).trans ?_
  exact congrFun (Memref.IsWhole.read_unread _ _) _

end Cert.MixW

end
-- ==== Proof.MixWRef.lean ====
/- The gradients of the pooling mixer's weights, the plain side, entry by entry. -/
module

public import proofs.«01_k».proof.Proof.MixFRef
public import proofs.«01_k».proof.Proof.Sums
public import proofs.«01_k».proof.Proof.Gen.ReferenceMixWIdeal.Read
public import Idealize.ShloMosaic.Lib.Pipeline.ValueKit

@[expose] public section

set_option maxRecDepth 16384

noncomputable section

open Idealize.ShloMosaic Idealize.ShloMosaic.TcCoe Idealize.SL.Sem

namespace Cert.MixWRef

open Cert.ReferenceMixWIdeal Cert.ReferenceMixWIdeal.Read Scan

variable (u : FVec Ideal ⟨3, ![2, 2048, 1536]⟩ .f32) (pw : FVec Ideal ⟨3, ![4, 128, 128]⟩ .f32) (ps : FVec Ideal ⟨2, ![1, 512]⟩ .f32)
  (dy : FVec Ideal ⟨3, ![2, 2048, 1024]⟩ .f32)

/-- The pooled values are those of the forward module. -/
theorem stack_eq : val_main_v70 (F := Ideal) u = Cert.ReferenceMixFIdeal.Read.val_main_v329 (F := Ideal) u := rfl

/-- The gradient that comes in, by group. -/
abbrev ct (b : Fin 2) (g : Fin 4) (j : Fin 128) (s : Fin 2048) : EReal := dy (ix3 b s ⟨512 + (128 * g.val + j.val), by omega⟩)

theorem scaled_apply (b : Fin 2) (s : Fin 2048) (g : Fin 4) (j : Fin 128) :
    val_main_v84 (F := Ideal) ps dy (ix4 b s g j) = ct dy b g j s * ps (ix2 0 ⟨128 * g.val + j.val, by omega⟩) := by
  unfold val_main_v84 val_main_v82 val_main_v81 val_main_v77 val_main_v74 val_main_v1
  pointwise []
  exact congrArg₂ HMul.hMul (congrArg (fun q => dy (ix3 b s q)) (Fin.ext (by simp only; omega))) (congrArg (fun q => ps (ix2 0 q)) (Fin.ext (by simp only; omega)))

/-- The gradient of the groups' matrices. -/
theorem mats_apply (g : Fin 4) (k j : Fin 128) : val_main_v87 (F := Ideal) u ps dy (ix3 g k j)
    = ∑ b : Fin 2, ∑ s : Fin 2048, ct dy b g j s * ps (ix2 0 ⟨128 * g.val + j.val, by omega⟩) * MixFRef.pooled u b g k s.val := by
  simp only [← scaled_apply, ← MixFRef.stack_apply, ← stack_eq]
  unfold val_main_v87 val_main_v86 val_main_v85
  generalize val_main_v84 (F := Ideal) ps dy = X
  generalize val_main_v70 (F := Ideal) u = Y
  pointwise []

/-- The pooled values through the groups' matrices. -/
theorem through_apply (b : Fin 2) (s : Fin 2048) (g : Fin 4) (j : Fin 128) :
    val_main_v73 (F := Ideal) u pw (ix3 b s ⟨128 * g.val + j.val, by omega⟩) = ∑ k, pw (ix3 g k j) * MixFRef.pooled u b g k s.val := by
  simp only [← MixFRef.stack_apply, ← stack_eq]
  unfold val_main_v73 val_main_v72
  have hd := val_main_v71_apply u pw
  generalize val_main_v71 (F := Ideal) u pw = Y at hd ⊢
  generalize val_main_v70 (F := Ideal) u = X at hd ⊢
  pointwise []
  rw [hd]
  refine Finset.sum_congr rfl fun k _ => congrArg₂ HMul.hMul (congrArg pw (eq_ix3 _)) (congrArg X (funext fun a => ?_))
  match a with
  | ⟨0, _⟩ | ⟨1, _⟩ | ⟨2, _⟩ | ⟨3, _⟩ => rfl

/-- The gradient of the scales: the first row of eight, -/
theorem scales_apply (g : Fin 4) (j : Fin 128) : val_main_v90 (F := Ideal) u pw dy (ix2 0 ⟨128 * g.val + j.val, by omega⟩)
    = ∑ b : Fin 2, ∑ s : Fin 2048, (∑ k, pw (ix3 g k j) * MixFRef.pooled u b g k s.val) * ct dy b g j s := by
  simp only [← through_apply]
  unfold val_main_v90 val_main_v88 val_main_v83 val_main_v80 val_main_v79 val_main_v78 val_main_v77
  generalize val_main_v73 (F := Ideal) u pw = X
  pointwise [Ideal.hostReduceAdd_lead2, val_main_cst_11, val_main_cst_12]
  simp only [Fin.sum_univ_one]

/-- and zeros in the others. -/
theorem rest_apply (r : Fin 8) (hr : r.val ≠ 0) (j : Fin 512) : val_main_v90 (F := Ideal) u pw dy (ix2 r j) = 0 := by
  unfold val_main_v90
  generalize val_main_v88 (F := Ideal) u pw dy = X
  pointwise [val_main_v89, val_main_cst_13]
  rw [dif_neg (by omega)]

end Cert.MixWRef

end
-- ==== Proof.MixW.lean ====
/- The pooling mixer's own weights: the kernel and the derivative of the plain lines leave the same arrays. -/
module

public import proofs.«01_k».proof.Defs
public import proofs.«01_k».proof.Proof.MixWOut
public import proofs.«01_k».proof.Proof.MixWRef
public import proofs.«01_k».proof.Proof.Gen.KernelMixWIdeal.Value
public import proofs.«01_k».proof.Proof.Gen.ReferenceMixWIdeal.Run
public import proofs.«01_k».proof.Proof.Gen.Pre_finite_mixw

@[expose] public section

set_option maxRecDepth 16384

noncomputable section

open Idealize.ShloMosaic Idealize.ShloMosaic.TcCoe Idealize.SL.Sem

namespace Cert.MixW

open Cert.KernelMixWIdeal Cert.KernelMixWIdeal.Gen Conv31 Scan

theorem idx : ∀ t : Fin cfg0.N, win0_0.index t = ![t.val, 0] ∧ win0_1.index t = ![16 * t.val - 1, 0] ∧ win0_4.index t = ![t.val, 1] ∧ win0_7.index t = ![0, 0, 0]
    ∧ win0_8.index t = ![0, 0] ∧ win0_11.index t = ![0, 0] ∧ win0_12.index t = ![0, 0, 0] :=
  (by decide +kernel : ∀ t : Fin grid0.N, _)

theorem point_eq : ∀ t : Fin cfg0.N, (grid0.coords t 0).val = t.val :=
  (by decide +kernel : ∀ t : Fin grid0.N, _)

variable (m : (ℓ : Loc nD τ sig) → Buf (Elt Ideal) ℓ) (c : Dev nD) (t : Fin cfg0.N)

/-- The argument arrays the two results read. -/
abbrev au : FVec Ideal ⟨3, ![2, 2048, 1536]⟩ .f32 := m ((c : Thread nD τ).loc main_arg0)
abbrev apw : FVec Ideal ⟨3, ![4, 128, 128]⟩ .f32 := m ((c : Thread nD τ).loc main_arg2)
abbrev aps : FVec Ideal ⟨2, ![1, 512]⟩ .f32 := m ((c : Thread nD τ).loc main_arg3)
abbrev ady : FVec Ideal ⟨3, ![2, 2048, 1024]⟩ .f32 := m ((c : Thread nD τ).loc main_arg5)

theorem at_u (r : Fin 512) (k : Fin 1536) (b : Fin 2) (s : Fin 2048) (h : t.val * 512 + r.val = b.val * 2048 + s.val) :
    iblk m c 0 t (ix2 r k) = au m c (ix3 b s k) := by
  blk_point [iblk, V, idx t]

theorem at_z (r : Fin 32) (k : Fin 1536) (b : Fin 2) (s : Fin 2048) (h : (16 * t.val - 1) * 32 + r.val = b.val * 2048 + s.val) :
    iblk m c 1 t (ix2 r k) = au m c (ix3 b s k) := by
  blk_point [iblk, V, idx t]

theorem at_d (r : Fin 512) (k : Fin 512) (b : Fin 2) (s : Fin 2048) (h : t.val * 512 + r.val = b.val * 2048 + s.val) :
    iblk m c 4 t (ix2 r k) = ady m c (ix3 b s ⟨512 + k.val, by omega⟩) := by
  blk_point [iblk, V, idx t]

theorem at_pw (g : Fin 4) (k j : Fin 128) : iblk m c 7 t (ix3 g k j) = apw m c (ix3 g k j) := by
  blk_point [iblk, V, idx t]

theorem at_ps (j : Fin 512) : iblk m c 8 t (ix2 0 j) = aps m c (ix2 0 j) := by
  blk_point [iblk, V, idx t]

section
variable (b : Fin 2) (hb : t.val / 4 = b.val)
include hb

/-- The scratch holds the sequence's columns, zero before its start. -/
theorem pb_eq (g : Fin 4) (k : Fin 128) (n : Nat) (hn : n < 544) : col (pbt m c t) (MixF.at4 g k) n
    = if t.val % 4 * 512 + n < 32 then 0 else col3 (au m c) b (MixFRef.src g k) (t.val % 4 * 512 + n - 32) := by
  have ht : t.val < 8 := t.isLt
  rw [← at_col _ (MixF.at4 g k) n hn n rfl]
  show MixF.ext _ _ _ (MixFRef.src g k) n = _
  unfold MixF.ext
  by_cases h : n < 32
  · rw [if_pos h]
    unfold MixF.keep
    rw [point_eq]
    by_cases h0 : t.val % 4 = 0
    · rw [if_pos h0, if_pos (by omega), mul_zero]
    · rw [if_neg h0, if_neg (by omega), mul_one, ← at_col _ _ n h n rfl, col3, dif_pos (by omega)]
      exact at_z m c t _ _ b _ (by show (16 * t.val - 1) * 32 + n = b.val * 2048 + (t.val % 4 * 512 + n - 32); omega)
  · rw [if_neg h, if_neg (by omega), ← at_col _ _ (n - 32) (by omega) _ rfl, col3, dif_pos (by omega)]
    exact at_u m c t _ _ b _ (by show t.val * 512 + (n - 32) = b.val * 2048 + (t.val % 4 * 512 + n - 32); omega)

variable (hu : ∀ i, ∃ r : ℝ, au m c i = r)
include hu

theorem pooled_eq (g : Fin 4) (k : Fin 128) (s : Fin 512) :
    MixF.pooled (grid0.coords t) (pbt m c t) g k s.val = MixFRef.pooled (au m c) b g k (t.val % 4 * 512 + s.val) := by
  have hw : MixF.wide g ≤ 16 := by revert g; decide
  have hs := s.isLt
  unfold MixF.pooled MixFRef.pooled
  rw [show MixFRef.wide g = MixF.wide g from rfl, show MixFRef.wideE g = MixF.wideE g from rfl, diff_apply _ (fun d => by
    unfold col3
    split
    · exact hu _
    · exact ⟨0, rfl⟩), pb_eq m c t b hb g k _ (by omega), if_neg (by omega), show t.val % 4 * 512 + (32 + s.val) - 32 = t.val % 4 * 512 + s.val by omega, point_eq]
  refine congrArg (· - _) (congrArg₂ Ideal.div (Finset.sum_congr rfl fun d hd => ?_) (congrArg (min · _) ?_))
  · have := Finset.mem_range.1 hd
    rw [pb_eq m c t b hb g k _ (by omega)]
    by_cases h : d ≤ t.val % 4 * 512 + s.val
    · rw [if_pos h, if_neg (by omega), show t.val % 4 * 512 + (32 + s.val - d) - 32 = t.val % 4 * 512 + s.val - d by omega]
    · rw [if_neg h, if_pos (by omega)]
  · rw [add_comm, ← EReal.coe_add, ← Nat.cast_add, Nat.mul_comm]
end

section
variable (hu : ∀ i, ∃ r : ℝ, au m c i = r)
include hu

/-- The last point's scales are the plain ones. -/
theorem point11 (y : S8x512.Idx) :
    (outsAt0 m c 7 (by decide)).2.2.1 y = Cert.ReferenceMixWIdeal.Read.val_main_v90 (F := Ideal) (au m c) (apw m c) (ady m c) y := by
  obtain ⟨v, x, rfl⟩ : ∃ (v : Fin 8) (x : Fin 512), y = ix2 v x := ⟨_, _, eq_ix2 y⟩
  by_cases hv : v.val = 0
  · obtain ⟨g, j, rfl⟩ : ∃ (g : Fin 4) (j : Fin 128), x = MixF.at4 g j := ⟨⟨x.val / 128, by omega⟩, ⟨x.val % 128, by omega⟩, Fin.ext (by show _ = 128 * (x.val / 128) + x.val % 128; omega)⟩
    obtain rfl : v = 0 := Fin.ext hv
    rw [MixWRef.scales_apply]
    refine (Pipeline.eq_sum_fin_of_reset_step_apply_last (fun n h (y : (⟨2, ![4, 128]⟩ : Shape).Idx) => (outsAt0 m c n h).2.2.1 (ix2 0 (MixF.at4 (y 0) (y 1)))) 8 (fun _ => 0)
      (fun t y => addS (grid0.coords t) (pbt m c t) (iblk m c 4 t) (iblk m c 7 t) (y 0) (y 1))
      (fun t h y => (first11 m c t h _ _).trans (zero_add _).symm) (fun t h y => next11 m c t h _ _) (le_of_eq N_0) ⟨7, by decide⟩ rfl (ix2 g j)).trans ((zero_add _).trans ?_)
    refine Fin.sum_points_lanes_congr 4 (fun t r ha hl => ?_) (by exact N_0)
    have hr : t.val * 512 + r.val = t.val / 4 * 2048 + (t.val % 4 * 512 + r.val) := by omega
    rw [mul_comm]
    refine congrArg₂ HMul.hMul (Finset.sum_congr rfl fun k _ => ?_) (at_d m c t r _ ⟨t.val / 4, ha⟩ ⟨t.val % 4 * 512 + r.val, hl⟩ hr)
    rw [mul_comm]
    exact congrArg₂ HMul.hMul (at_pw m c t g k j) (pooled_eq m c t ⟨t.val / 4, ha⟩ rfl hu g k r)
  · rw [MixWRef.rest_apply _ _ _ _ hv]
    refine (Pipeline.eq_sum_fin_of_reset_step_apply_last (fun n h (y : (⟨1, ![512]⟩ : Shape).Idx) => (outsAt0 m c n h).2.2.1 (ix2 v (y 0))) 8 (fun _ => 0) (fun _ _ => 0)
      (fun t h y => (first11_rest m c t h v hv _).trans (zero_add _).symm) (fun t h y => (next11_rest m c t h v hv _).trans (add_zero _).symm) (le_of_eq N_0) ⟨7, by decide⟩ rfl (ix1 x)).trans ((zero_add _).trans ?_)
    exact Finset.sum_const_zero

/-- The last point's matrices are the plain ones. -/
theorem point12 (y : S4x128x128.Idx) :
    (outsAt0 m c 7 (by decide)).2.2.2 y = Cert.ReferenceMixWIdeal.Read.val_main_v87 (F := Ideal) (au m c) (aps m c) (ady m c) y := by
  obtain ⟨g, k, j, rfl⟩ : ∃ (g : Fin 4) (k j : Fin 128), y = ix3 g k j := ⟨_, _, _, eq_ix3 y⟩
  rw [MixWRef.mats_apply]
  refine (Pipeline.eq_sum_fin_of_reset_step_apply_last (fun n h (y : S4x128x128.Idx) => (outsAt0 m c n h).2.2.2 (ix3 (y 0) (y 1) (y 2))) 8 (fun _ => 0)
    (fun t y => addM (grid0.coords t) (pbt m c t) (iblk m c 4 t) (iblk m c 8 t) (y 0) (y 1) (y 2))
    (fun t h y => (first12 m c t h _ _ _).trans (zero_add _).symm) (fun t h y => next12 m c t h _ _ _) (le_of_eq N_0) ⟨7, by decide⟩ rfl (ix3 g k j)).trans ((zero_add _).trans ?_)
  refine Fin.sum_points_lanes_congr 4 (fun t r ha hl => ?_) (by exact N_0)
  have hr : t.val * 512 + r.val = t.val / 4 * 2048 + (t.val % 4 * 512 + r.val) := by omega
  rw [mul_comm]
  exact congrArg₂ HMul.hMul (congrArg₂ HMul.hMul (at_d m c t r _ ⟨t.val / 4, ha⟩ ⟨t.val % 4 * 512 + r.val, hl⟩ hr) (at_ps m c t _)) (pooled_eq m c t ⟨t.val / 4, ha⟩ rfl hu g k r)

theorem final11 : (dats m 0 c).arrAt 11 cfg0.N = Cert.ReferenceMixWIdeal.Read.val_main_v90 (F := Ideal) (au m c) (apw m c) (ady m c) := by
  refine (dats m 0 c).arrAt_eq_of_after_last 11 t0_7 (by decide +kernel) _ fun j => ?_
  blk_simp
  rw [after0_11]
  exact point11 m c hu j

theorem final12 : (dats m 0 c).arrAt 12 cfg0.N = Cert.ReferenceMixWIdeal.Read.val_main_v87 (F := Ideal) (au m c) (aps m c) (ady m c) := by
  refine (dats m 0 c).arrAt_eq_of_after_last 12 t0_7 (by decide +kernel) _ fun j => ?_
  blk_simp
  rw [after0_12]
  exact point12 m c hu j
end

/-- On a finite first argument the kernel and the derivative of the plain lines leave the same two arrays. -/
theorem algebraic : Cert.algebraic_KernelMixWIdeal_ReferenceMixWIdeal_pre_finite_mixw := fun m g m' g' hpre hag =>
  ⟨fun c => Cert.ReferenceMixWIdeal.Read.val_main_v90 (F := Ideal) (au m c) (apw m c) (ady m c),
    fun c => Cert.ReferenceMixWIdeal.Read.val_main_v87 (F := Ideal) (au m c) (aps m c) (ady m c),
    (θ_run _ _ _).mono (fun _ h c => by
      obtain ⟨_, _, h2, h3, hr⟩ := h c
      exact ⟨h2.trans (final11 m c fun i => Real.exists_real (congrFun (hpre c) i)), h3.trans (final12 m c fun i => Real.exists_real (congrFun (hpre c) i)), hr⟩)
      (Cert.KernelMixWIdeal.Value.run_blocks m g),
    (θ_run _ _ _).mono (fun _ h c => by
      obtain ⟨h0, h1, h2, h3, h4, h5⟩ := hag c
      refine ⟨(h c).1.trans ?_, (h c).2.1.trans ?_, (h c).2.2⟩
      · rw [Cert.ReferenceMixWIdeal.Read.val_main_v90_eq]
        exact congr (congr (congrArg _ h0) h2) h5
      · rw [Cert.ReferenceMixWIdeal.Read.val_main_v87_eq]
        exact congr (congr (congrArg _ h0) h3) h5)
      (Cert.ReferenceMixWIdeal.Value.run m' g')⟩

end Cert.MixW

end
-- ==== Proof.lean ====
module

public import proofs.«01_k».proof.Defs
public import proofs.«01_k».proof.Proof.Gen.KernelMemNorm.Frame
public import proofs.«01_k».proof.Proof.Gen.KernelMemNormIdeal.Frame
public import proofs.«01_k».proof.Proof.Gen.ReferenceMemNormIdeal.Run
public import proofs.«01_k».proof.Proof.Gen.KernelMixNorm.Frame
public import proofs.«01_k».proof.Proof.Gen.KernelMixNormIdeal.Frame
public import proofs.«01_k».proof.Proof.Gen.ReferenceMixNormIdeal.Run
public import proofs.«01_k».proof.Proof.Gen.KernelDH3.Frame
public import proofs.«01_k».proof.Proof.Gen.KernelDH3Ideal.Frame
public import proofs.«01_k».proof.Proof.Gen.ReferenceDH3Ideal.Run
public import proofs.«01_k».proof.Proof.Gen.KernelDH2.Frame
public import proofs.«01_k».proof.Proof.Gen.KernelDH2Ideal.Frame
public import proofs.«01_k».proof.Proof.Gen.ReferenceDH2Ideal.Run
public import proofs.«01_k».proof.Proof.Gen.KernelDH1.Frame
public import proofs.«01_k».proof.Proof.Gen.KernelDH1Ideal.Frame
public import proofs.«01_k».proof.Proof.Gen.ReferenceDH1Ideal.Run
public import proofs.«01_k».proof.Proof.Gen.KernelLoss.Frame
public import proofs.«01_k».proof.Proof.Gen.KernelLossIdeal.Frame
public import proofs.«01_k».proof.Proof.Gen.ReferenceLossIdeal.Run
public import proofs.«01_k».proof.Proof.Gen.KernelAttn.Frame
public import proofs.«01_k».proof.Proof.Gen.KernelAttnIdeal.Frame
public import proofs.«01_k».proof.Proof.Gen.ReferenceAttnIdeal.Run
public import proofs.«01_k».proof.Proof.Gen.KernelAttnF.Frame
public import proofs.«01_k».proof.Proof.Gen.KernelAttnFIdeal.Frame
public import proofs.«01_k».proof.Proof.Gen.ReferenceAttnFIdeal.Run
public import proofs.«01_k».proof.Proof.Gen.KernelRmsF.Frame
public import proofs.«01_k».proof.Proof.Gen.KernelRmsFIdeal.Frame
public import proofs.«01_k».proof.Proof.Gen.ReferenceRmsFIdeal.Run
public import proofs.«01_k».proof.Proof.Gen.KernelProjNorm.Frame
public import proofs.«01_k».proof.Proof.Gen.KernelProjNormIdeal.Frame
public import proofs.«01_k».proof.Proof.Gen.ReferenceProjNormIdeal.Run
public import proofs.«01_k».proof.Proof.Gen.KernelGateF.Frame
public import proofs.«01_k».proof.Proof.Gen.KernelGateFIdeal.Frame
public import proofs.«01_k».proof.Proof.Gen.ReferenceGateFIdeal.Run
public import proofs.«01_k».proof.Proof.Gen.KernelMixF.Frame
public import proofs.«01_k».proof.Proof.Gen.KernelMixFIdeal.Frame
public import proofs.«01_k».proof.Proof.Gen.ReferenceMixFIdeal.Run
public import proofs.«01_k».proof.Proof.Gen.KernelUp.Frame
public import proofs.«01_k».proof.Proof.Gen.KernelUpIdeal.Frame
public import proofs.«01_k».proof.Proof.Gen.ReferenceUpIdeal.Run
public import proofs.«01_k».proof.Proof.Gen.KernelDAct.Frame
public import proofs.«01_k».proof.Proof.Gen.KernelDActIdeal.Frame
public import proofs.«01_k».proof.Proof.Gen.ReferenceDActIdeal.Run
public import proofs.«01_k».proof.Proof.Gen.KernelDwDown.Frame
public import proofs.«01_k».proof.Proof.Gen.KernelDwDownIdeal.Frame
public import proofs.«01_k».proof.Proof.Gen.ReferenceDwDownIdeal.Run
public import proofs.«01_k».proof.Proof.Gen.KernelDwUp.Frame
public import proofs.«01_k».proof.Proof.Gen.KernelDwUpIdeal.Frame
public import proofs.«01_k».proof.Proof.Gen.ReferenceDwUpIdeal.Run
public import proofs.«01_k».proof.Proof.Gen.KernelAdamW.Frame
public import proofs.«01_k».proof.Proof.Gen.KernelAdamWIdeal.Frame
public import proofs.«01_k».proof.Proof.Gen.ReferenceAdamWIdeal.Run
public import proofs.«01_k».proof.Proof.Gen.KernelMixW.Frame
public import proofs.«01_k».proof.Proof.Gen.KernelMixWIdeal.Frame
public import proofs.«01_k».proof.Proof.Gen.ReferenceMixWIdeal.Run
public import proofs.«01_k».proof.Proof.Gen.KernelTaps.Frame
public import proofs.«01_k».proof.Proof.Gen.KernelTapsIdeal.Frame
public import proofs.«01_k».proof.Proof.Gen.ReferenceTapsIdeal.Run
public import proofs.«01_k».proof.Proof.MemNorm
public import proofs.«01_k».proof.Proof.MixNorm
public import proofs.«01_k».proof.Proof.DH3
public import proofs.«01_k».proof.Proof.DH2
public import proofs.«01_k».proof.Proof.DH1
public import proofs.«01_k».proof.Proof.Loss
public import proofs.«01_k».proof.Proof.Attn
public import proofs.«01_k».proof.Proof.AttnF
public import proofs.«01_k».proof.Proof.RmsF
public import proofs.«01_k».proof.Proof.ProjNorm
public import proofs.«01_k».proof.Proof.GateF
public import proofs.«01_k».proof.Proof.MixF
public import proofs.«01_k».proof.Proof.Up
public import proofs.«01_k».proof.Proof.DAct
public import proofs.«01_k».proof.Proof.DwDown
public import proofs.«01_k».proof.Proof.DwUp
public import proofs.«01_k».proof.Proof.AdamW
public import proofs.«01_k».proof.Proof.MixW
public import proofs.«01_k».proof.Proof.Gen.Pre_finite_mixnorm
public import proofs.«01_k».proof.Proof.Gen.Pre_finite_dh3
public import proofs.«01_k».proof.Proof.Gen.Pre_finite_dh2
public import proofs.«01_k».proof.Proof.Gen.Pre_finite_dh1
public import proofs.«01_k».proof.Proof.Gen.Pre_finite_loss
public import proofs.«01_k».proof.Proof.Gen.Pre_finite_attn
public import proofs.«01_k».proof.Proof.Gen.Pre_finite_mixf
public import proofs.«01_k».proof.Proof.Gen.Pre_finite_mixw
public import Idealize.ShloMosaic.Adequacy
public import Idealize.ShloMosaic.Init

@[expose] public section

noncomputable section

namespace Cert.Proof

open Idealize.ShloMosaic Idealize.SL.Sem

/-- The frame of `ReferenceMemNormIdeal`: its run leaves the arguments as they were, and it has no semaphores. -/
theorem quiescent_ReferenceMemNormIdeal : Cert.quiescent_ReferenceMemNormIdeal := fun m ρ _ =>
  (θ_run _ _ _).mono (fun r h => ⟨fun c => (h c).2, sem_eq_zero_of_no_sems (by decide) r.2⟩)
    (Cert.ReferenceMemNormIdeal.Value.run m ρ)

/-- The frame of `ReferenceMixNormIdeal`: its run leaves the arguments as they were, and it has no semaphores. -/
theorem quiescent_ReferenceMixNormIdeal : Cert.quiescent_ReferenceMixNormIdeal := fun m ρ _ =>
  (θ_run _ _ _).mono (fun r h => ⟨fun c => (h c).2.2, sem_eq_zero_of_no_sems (by decide) r.2⟩)
    (Cert.ReferenceMixNormIdeal.Value.run m ρ)

/-- The frame of `ReferenceMixNormIdeal`: its run leaves the arguments as they were, and it has no semaphores. -/
theorem quiescent_ReferenceMixNormIdeal_pre_finite_mixnorm : Cert.quiescent_ReferenceMixNormIdeal_pre_finite_mixnorm := fun m ρ _ =>
  (θ_run _ _ _).mono (fun r h => ⟨fun c => (h c).2.2, sem_eq_zero_of_no_sems (by decide) r.2⟩)
    (Cert.ReferenceMixNormIdeal.Value.run m ρ)

/-- The frame of `ReferenceDH3Ideal`: its run leaves the arguments as they were, and it has no semaphores. -/
theorem quiescent_ReferenceDH3Ideal : Cert.quiescent_ReferenceDH3Ideal := fun m ρ _ =>
  (θ_run _ _ _).mono (fun r h => ⟨fun c => (h c).2.2.2, sem_eq_zero_of_no_sems (by decide) r.2⟩)
    (Cert.ReferenceDH3Ideal.Value.run m ρ)

/-- The frame of `ReferenceDH3Ideal`: its run leaves the arguments as they were, and it has no semaphores. -/
theorem quiescent_ReferenceDH3Ideal_pre_finite_dh3 : Cert.quiescent_ReferenceDH3Ideal_pre_finite_dh3 := fun m ρ _ =>
  (θ_run _ _ _).mono (fun r h => ⟨fun c => (h c).2.2.2, sem_eq_zero_of_no_sems (by decide) r.2⟩)
    (Cert.ReferenceDH3Ideal.Value.run m ρ)

/-- The frame of `ReferenceDH2Ideal`: its run leaves the arguments as they were, and it has no semaphores. -/
theorem quiescent_ReferenceDH2Ideal : Cert.quiescent_ReferenceDH2Ideal := fun m ρ _ =>
  (θ_run _ _ _).mono (fun r h => ⟨fun c => (h c).2.2.2, sem_eq_zero_of_no_sems (by decide) r.2⟩)
    (Cert.ReferenceDH2Ideal.Value.run m ρ)

/-- The frame of `ReferenceDH2Ideal`: its run leaves the arguments as they were, and it has no semaphores. -/
theorem quiescent_ReferenceDH2Ideal_pre_finite_dh2 : Cert.quiescent_ReferenceDH2Ideal_pre_finite_dh2 := fun m ρ _ =>
  (θ_run _ _ _).mono (fun r h => ⟨fun c => (h c).2.2.2, sem_eq_zero_of_no_sems (by decide) r.2⟩)
    (Cert.ReferenceDH2Ideal.Value.run m ρ)

/-- The frame of `ReferenceDH1Ideal`: its run leaves the arguments as they were, and it has no semaphores. -/
theorem quiescent_ReferenceDH1Ideal : Cert.quiescent_ReferenceDH1Ideal := fun m ρ _ =>
  (θ_run _ _ _).mono (fun r h => ⟨fun c => (h c).2.2, sem_eq_zero_of_no_sems (by decide) r.2⟩)
    (Cert.ReferenceDH1Ideal.Value.run m ρ)

/-- The frame of `ReferenceDH1Ideal`: its run leaves the arguments as they were, and it has no semaphores. -/
theorem quiescent_ReferenceDH1Ideal_pre_finite_dh1 : Cert.quiescent_ReferenceDH1Ideal_pre_finite_dh1 := fun m ρ _ =>
  (θ_run _ _ _).mono (fun r h => ⟨fun c => (h c).2.2, sem_eq_zero_of_no_sems (by decide) r.2⟩)
    (Cert.ReferenceDH1Ideal.Value.run m ρ)

/-- The frame of `ReferenceLossIdeal`: its run leaves the arguments as they were, and it has no semaphores. -/
theorem quiescent_ReferenceLossIdeal : Cert.quiescent_ReferenceLossIdeal := fun m ρ _ =>
  (θ_run _ _ _).mono (fun r h => ⟨fun c => (h c).2.2.2.2, sem_eq_zero_of_no_sems (by decide) r.2⟩)
    (Cert.ReferenceLossIdeal.Value.run m ρ)

/-- The frame of `ReferenceLossIdeal`: its run leaves the arguments as they were, and it has no semaphores. -/
theorem quiescent_ReferenceLossIdeal_pre_finite_loss : Cert.quiescent_ReferenceLossIdeal_pre_finite_loss := fun m ρ _ =>
  (θ_run _ _ _).mono (fun r h => ⟨fun c => (h c).2.2.2.2, sem_eq_zero_of_no_sems (by decide) r.2⟩)
    (Cert.ReferenceLossIdeal.Value.run m ρ)

/-- The frame of `ReferenceAttnIdeal`: its run leaves the arguments as they were, and it has no semaphores. -/
theorem quiescent_ReferenceAttnIdeal : Cert.quiescent_ReferenceAttnIdeal := fun m ρ _ =>
  (θ_run _ _ _).mono (fun r h => ⟨fun c => (h c).2.2, sem_eq_zero_of_no_sems (by decide) r.2⟩)
    (Cert.ReferenceAttnIdeal.Value.run m ρ)

/-- The frame of `ReferenceAttnIdeal`: its run leaves the arguments as they were, and it has no semaphores. -/
theorem quiescent_ReferenceAttnIdeal_pre_finite_attn : Cert.quiescent_ReferenceAttnIdeal_pre_finite_attn := fun m ρ _ =>
  (θ_run _ _ _).mono (fun r h => ⟨fun c => (h c).2.2, sem_eq_zero_of_no_sems (by decide) r.2⟩)
    (Cert.ReferenceAttnIdeal.Value.run m ρ)

/-- The frame of `ReferenceAttnFIdeal`: its run leaves the arguments as they were, and it has no semaphores. -/
theorem quiescent_ReferenceAttnFIdeal : Cert.quiescent_ReferenceAttnFIdeal := fun m ρ _ =>
  (θ_run _ _ _).mono (fun r h => ⟨fun c => (h c).2, sem_eq_zero_of_no_sems (by decide) r.2⟩)
    (Cert.ReferenceAttnFIdeal.Value.run m ρ)

/-- The frame of `ReferenceRmsFIdeal`: its run leaves the arguments as they were, and it has no semaphores. -/
theorem quiescent_ReferenceRmsFIdeal : Cert.quiescent_ReferenceRmsFIdeal := fun m ρ _ =>
  (θ_run _ _ _).mono (fun r h => ⟨fun c => (h c).2, sem_eq_zero_of_no_sems (by decide) r.2⟩)
    (Cert.ReferenceRmsFIdeal.Value.run m ρ)

/-- The frame of `ReferenceProjNormIdeal`: its run leaves the arguments as they were, and it has no semaphores. -/
theorem quiescent_ReferenceProjNormIdeal : Cert.quiescent_ReferenceProjNormIdeal := fun m ρ _ =>
  (θ_run _ _ _).mono (fun r h => ⟨fun c => (h c).2.2, sem_eq_zero_of_no_sems (by decide) r.2⟩)
    (Cert.ReferenceProjNormIdeal.Value.run m ρ)

/-- The frame of `ReferenceGateFIdeal`: its run leaves the arguments as they were, and it has no semaphores. -/
theorem quiescent_ReferenceGateFIdeal : Cert.quiescent_ReferenceGateFIdeal := fun m ρ _ =>
  (θ_run _ _ _).mono (fun r h => ⟨fun c => (h c).2.2, sem_eq_zero_of_no_sems (by decide) r.2⟩)
    (Cert.ReferenceGateFIdeal.Value.run m ρ)

/-- The frame of `ReferenceMixFIdeal`: its run leaves the arguments as they were, and it has no semaphores. -/
theorem quiescent_ReferenceMixFIdeal : Cert.quiescent_ReferenceMixFIdeal := fun m ρ _ =>
  (θ_run _ _ _).mono (fun r h => ⟨fun c => (h c).2.2, sem_eq_zero_of_no_sems (by decide) r.2⟩)
    (Cert.ReferenceMixFIdeal.Value.run m ρ)

/-- The frame of `ReferenceMixFIdeal`: its run leaves the arguments as they were, and it has no semaphores. -/
theorem quiescent_ReferenceMixFIdeal_pre_finite_mixf : Cert.quiescent_ReferenceMixFIdeal_pre_finite_mixf := fun m ρ _ =>
  (θ_run _ _ _).mono (fun r h => ⟨fun c => (h c).2.2, sem_eq_zero_of_no_sems (by decide) r.2⟩)
    (Cert.ReferenceMixFIdeal.Value.run m ρ)

/-- The frame of `ReferenceUpIdeal`: its run leaves the arguments as they were, and it has no semaphores. -/
theorem quiescent_ReferenceUpIdeal : Cert.quiescent_ReferenceUpIdeal := fun m ρ _ =>
  (θ_run _ _ _).mono (fun r h => ⟨fun c => (h c).2, sem_eq_zero_of_no_sems (by decide) r.2⟩)
    (Cert.ReferenceUpIdeal.Value.run m ρ)

/-- The frame of `ReferenceDActIdeal`: its run leaves the arguments as they were, and it has no semaphores. -/
theorem quiescent_ReferenceDActIdeal : Cert.quiescent_ReferenceDActIdeal := fun m ρ _ =>
  (θ_run _ _ _).mono (fun r h => ⟨fun c => (h c).2, sem_eq_zero_of_no_sems (by decide) r.2⟩)
    (Cert.ReferenceDActIdeal.Value.run m ρ)

/-- The frame of `ReferenceDwDownIdeal`: its run leaves the arguments as they were, and it has no semaphores. -/
theorem quiescent_ReferenceDwDownIdeal : Cert.quiescent_ReferenceDwDownIdeal := fun m ρ _ =>
  (θ_run _ _ _).mono (fun r h => ⟨fun c => (h c).2, sem_eq_zero_of_no_sems (by decide) r.2⟩)
    (Cert.ReferenceDwDownIdeal.Value.run m ρ)

/-- The frame of `ReferenceDwUpIdeal`: its run leaves the arguments as they were, and it has no semaphores. -/
theorem quiescent_ReferenceDwUpIdeal : Cert.quiescent_ReferenceDwUpIdeal := fun m ρ _ =>
  (θ_run _ _ _).mono (fun r h => ⟨fun c => (h c).2, sem_eq_zero_of_no_sems (by decide) r.2⟩)
    (Cert.ReferenceDwUpIdeal.Value.run m ρ)

/-- The frame of `ReferenceAdamWIdeal`: its run leaves the arguments as they were, and it has no semaphores. -/
theorem quiescent_ReferenceAdamWIdeal : Cert.quiescent_ReferenceAdamWIdeal := fun m ρ _ =>
  (θ_run _ _ _).mono (fun r h => ⟨fun c => (h c).2.2.2.2, sem_eq_zero_of_no_sems (by decide) r.2⟩)
    (Cert.ReferenceAdamWIdeal.Value.run m ρ)

/-- The frame of `ReferenceMixWIdeal`: its run leaves the arguments as they were, and it has no semaphores. -/
theorem quiescent_ReferenceMixWIdeal : Cert.quiescent_ReferenceMixWIdeal := fun m ρ _ =>
  (θ_run _ _ _).mono (fun r h => ⟨fun c => (h c).2.2, sem_eq_zero_of_no_sems (by decide) r.2⟩)
    (Cert.ReferenceMixWIdeal.Value.run m ρ)

/-- The frame of `ReferenceMixWIdeal`: its run leaves the arguments as they were, and it has no semaphores. -/
theorem quiescent_ReferenceMixWIdeal_pre_finite_mixw : Cert.quiescent_ReferenceMixWIdeal_pre_finite_mixw := fun m ρ _ =>
  (θ_run _ _ _).mono (fun r h => ⟨fun c => (h c).2.2, sem_eq_zero_of_no_sems (by decide) r.2⟩)
    (Cert.ReferenceMixWIdeal.Value.run m ρ)

/-- The frame of `ReferenceTapsIdeal`: its run leaves the arguments as they were, and it has no semaphores. -/
theorem quiescent_ReferenceTapsIdeal : Cert.quiescent_ReferenceTapsIdeal := fun m ρ _ =>
  (θ_run _ _ _).mono (fun r h => ⟨fun c => (h c).2.2.2.2, sem_eq_zero_of_no_sems (by decide) r.2⟩)
    (Cert.ReferenceTapsIdeal.Value.run m ρ)

theorem claim : Cert.Claim :=
  ⟨Cert.KernelMemNorm.Gen.facts,
   Cert.KernelMemNormIdeal.Gen.facts,
   Cert.ReferenceMemNormIdeal.Gen.facts,
   Cert.KernelMixNorm.Gen.facts,
   Cert.KernelMixNormIdeal.Gen.facts,
   Cert.ReferenceMixNormIdeal.Gen.facts,
   Cert.KernelDH3.Gen.facts,
   Cert.KernelDH3Ideal.Gen.facts,
   Cert.ReferenceDH3Ideal.Gen.facts,
   Cert.KernelDH2.Gen.facts,
   Cert.KernelDH2Ideal.Gen.facts,
   Cert.ReferenceDH2Ideal.Gen.facts,
   Cert.KernelDH1.Gen.facts,
   Cert.KernelDH1Ideal.Gen.facts,
   Cert.ReferenceDH1Ideal.Gen.facts,
   Cert.KernelLoss.Gen.facts,
   Cert.KernelLossIdeal.Gen.facts,
   Cert.ReferenceLossIdeal.Gen.facts,
   Cert.KernelAttn.Gen.facts,
   Cert.KernelAttnIdeal.Gen.facts,
   Cert.ReferenceAttnIdeal.Gen.facts,
   Cert.KernelAttnF.Gen.facts,
   Cert.KernelAttnFIdeal.Gen.facts,
   Cert.ReferenceAttnFIdeal.Gen.facts,
   Cert.KernelRmsF.Gen.facts,
   Cert.KernelRmsFIdeal.Gen.facts,
   Cert.ReferenceRmsFIdeal.Gen.facts,
   Cert.KernelProjNorm.Gen.facts,
   Cert.KernelProjNormIdeal.Gen.facts,
   Cert.ReferenceProjNormIdeal.Gen.facts,
   Cert.KernelGateF.Gen.facts,
   Cert.KernelGateFIdeal.Gen.facts,
   Cert.ReferenceGateFIdeal.Gen.facts,
   Cert.KernelMixF.Gen.facts,
   Cert.KernelMixFIdeal.Gen.facts,
   Cert.ReferenceMixFIdeal.Gen.facts,
   Cert.KernelUp.Gen.facts,
   Cert.KernelUpIdeal.Gen.facts,
   Cert.ReferenceUpIdeal.Gen.facts,
   Cert.KernelDAct.Gen.facts,
   Cert.KernelDActIdeal.Gen.facts,
   Cert.ReferenceDActIdeal.Gen.facts,
   Cert.KernelDwDown.Gen.facts,
   Cert.KernelDwDownIdeal.Gen.facts,
   Cert.ReferenceDwDownIdeal.Gen.facts,
   Cert.KernelDwUp.Gen.facts,
   Cert.KernelDwUpIdeal.Gen.facts,
   Cert.ReferenceDwUpIdeal.Gen.facts,
   Cert.KernelAdamW.Gen.facts,
   Cert.KernelAdamWIdeal.Gen.facts,
   Cert.ReferenceAdamWIdeal.Gen.facts,
   Cert.KernelMixW.Gen.facts,
   Cert.KernelMixWIdeal.Gen.facts,
   Cert.ReferenceMixWIdeal.Gen.facts,
   Cert.KernelTaps.Gen.facts,
   Cert.KernelTapsIdeal.Gen.facts,
   Cert.ReferenceTapsIdeal.Gen.facts,
   Cert.Pre_finite_mixnorm.Gen.facts,
   Cert.Pre_finite_dh3.Gen.facts,
   Cert.Pre_finite_dh2.Gen.facts,
   Cert.Pre_finite_dh1.Gen.facts,
   Cert.Pre_finite_loss.Gen.facts,
   Cert.Pre_finite_attn.Gen.facts,
   Cert.Pre_finite_mixf.Gen.facts,
   Cert.Pre_finite_mixw.Gen.facts,
   fun m ρ _ => Cert.KernelMemNorm.Gen.frame m ρ,
   fun m ρ _ => Cert.KernelMemNormIdeal.Gen.frame m ρ,
   quiescent_ReferenceMemNormIdeal,
   fun m ρ _ => Cert.KernelMixNorm.Gen.frame m ρ,
   fun m ρ _ => Cert.KernelMixNormIdeal.Gen.frame m ρ,
   fun m ρ _ => Cert.KernelMixNormIdeal.Gen.frame m ρ,
   quiescent_ReferenceMixNormIdeal,
   quiescent_ReferenceMixNormIdeal_pre_finite_mixnorm,
   fun m ρ _ => Cert.KernelDH3.Gen.frame m ρ,
   fun m ρ _ => Cert.KernelDH3Ideal.Gen.frame m ρ,
   fun m ρ _ => Cert.KernelDH3Ideal.Gen.frame m ρ,
   quiescent_ReferenceDH3Ideal,
   quiescent_ReferenceDH3Ideal_pre_finite_dh3,
   fun m ρ _ => Cert.KernelDH2.Gen.frame m ρ,
   fun m ρ _ => Cert.KernelDH2Ideal.Gen.frame m ρ,
   fun m ρ _ => Cert.KernelDH2Ideal.Gen.frame m ρ,
   quiescent_ReferenceDH2Ideal,
   quiescent_ReferenceDH2Ideal_pre_finite_dh2,
   fun m ρ _ => Cert.KernelDH1.Gen.frame m ρ,
   fun m ρ _ => Cert.KernelDH1Ideal.Gen.frame m ρ,
   fun m ρ _ => Cert.KernelDH1Ideal.Gen.frame m ρ,
   quiescent_ReferenceDH1Ideal,
   quiescent_ReferenceDH1Ideal_pre_finite_dh1,
   fun m ρ _ => Cert.KernelLoss.Gen.frame m ρ,
   fun m ρ _ => Cert.KernelLossIdeal.Gen.frame m ρ,
   fun m ρ _ => Cert.KernelLossIdeal.Gen.frame m ρ,
   quiescent_ReferenceLossIdeal,
   quiescent_ReferenceLossIdeal_pre_finite_loss,
   fun m ρ _ => Cert.KernelAttn.Gen.frame m ρ,
   fun m ρ _ => Cert.KernelAttnIdeal.Gen.frame m ρ,
   fun m ρ _ => Cert.KernelAttnIdeal.Gen.frame m ρ,
   quiescent_ReferenceAttnIdeal,
   quiescent_ReferenceAttnIdeal_pre_finite_attn,
   fun m ρ _ => Cert.KernelAttnF.Gen.frame m ρ,
   fun m ρ _ => Cert.KernelAttnFIdeal.Gen.frame m ρ,
   quiescent_ReferenceAttnFIdeal,
   fun m ρ _ => Cert.KernelRmsF.Gen.frame m ρ,
   fun m ρ _ => Cert.KernelRmsFIdeal.Gen.frame m ρ,
   quiescent_ReferenceRmsFIdeal,
   fun m ρ _ => Cert.KernelProjNorm.Gen.frame m ρ,
   fun m ρ _ => Cert.KernelProjNormIdeal.Gen.frame m ρ,
   quiescent_ReferenceProjNormIdeal,
   fun m ρ _ => Cert.KernelGateF.Gen.frame m ρ,
   fun m ρ _ => Cert.KernelGateFIdeal.Gen.frame m ρ,
   quiescent_ReferenceGateFIdeal,
   fun m ρ _ => Cert.KernelMixF.Gen.frame m ρ,
   fun m ρ _ => Cert.KernelMixFIdeal.Gen.frame m ρ,
   fun m ρ _ => Cert.KernelMixFIdeal.Gen.frame m ρ,
   quiescent_ReferenceMixFIdeal,
   quiescent_ReferenceMixFIdeal_pre_finite_mixf,
   fun m ρ _ => Cert.KernelUp.Gen.frame m ρ,
   fun m ρ _ => Cert.KernelUpIdeal.Gen.frame m ρ,
   quiescent_ReferenceUpIdeal,
   fun m ρ _ => Cert.KernelDAct.Gen.frame m ρ,
   fun m ρ _ => Cert.KernelDActIdeal.Gen.frame m ρ,
   quiescent_ReferenceDActIdeal,
   fun m ρ _ => Cert.KernelDwDown.Gen.frame m ρ,
   fun m ρ _ => Cert.KernelDwDownIdeal.Gen.frame m ρ,
   quiescent_ReferenceDwDownIdeal,
   fun m ρ _ => Cert.KernelDwUp.Gen.frame m ρ,
   fun m ρ _ => Cert.KernelDwUpIdeal.Gen.frame m ρ,
   quiescent_ReferenceDwUpIdeal,
   fun m ρ _ => Cert.KernelAdamW.Gen.frame m ρ,
   fun m ρ _ => Cert.KernelAdamWIdeal.Gen.frame m ρ,
   quiescent_ReferenceAdamWIdeal,
   fun m ρ _ => Cert.KernelMixW.Gen.frame m ρ,
   fun m ρ _ => Cert.KernelMixWIdeal.Gen.frame m ρ,
   fun m ρ _ => Cert.KernelMixWIdeal.Gen.frame m ρ,
   quiescent_ReferenceMixWIdeal,
   quiescent_ReferenceMixWIdeal_pre_finite_mixw,
   fun m ρ _ => Cert.KernelTaps.Gen.frame m ρ,
   fun m ρ _ => Cert.KernelTapsIdeal.Gen.frame m ρ,
   quiescent_ReferenceTapsIdeal,
   trivial,
   Cert.MemNorm.algebraic,
   trivial,
   Cert.MixNorm.algebraic,
   trivial,
   Cert.DH3.algebraic,
   trivial,
   Cert.DH2.algebraic,
   trivial,
   Cert.DH1.algebraic,
   trivial,
   Cert.Loss.algebraic,
   trivial,
   Cert.Attn.algebraic,
   trivial,
   Cert.AttnF.algebraic,
   trivial,
   Cert.RmsF.algebraic,
   trivial,
   Cert.ProjNorm.algebraic,
   trivial,
   Cert.GateF.algebraic,
   trivial,
   Cert.MixF.algebraic,
   trivial,
   Cert.Up.algebraic,
   trivial,
   Cert.DAct.algebraic,
   trivial,
   Cert.DwDown.algebraic,
   trivial,
   Cert.DwUp.algebraic,
   trivial,
   Cert.AdamW.algebraic,
   trivial,
   Cert.MixW.algebraic,
   trivial⟩

end Cert.Proof

end
